-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 [hPre_tiles_in_range : Cert.Pre_tiles_in_range.Facts] (m : (ℓ : Loc Cert.Kernel2.nD Cert.Kernel2.τ Cert.Kernel2.sig) → Buf (Elt Bits) ℓ) : Prop :=
  ∀ c : Dev Cert.Kernel2.nD,
    (Cert.Pre_tiles_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_tiles_in_range : Cert.Pre_tiles_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tiles_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Kernel2Ideal_inputs_in_range [hPre_inputs_in_range : Cert.Pre_inputs_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_inputs_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_inputs_in_range [hPre_inputs_in_range : Cert.Pre_inputs_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_inputs_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3Ideal [hPre_tiles_in_range : Cert.Pre_tiles_in_range.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_tiles_in_range.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Kernel3Ideal_inputs_in_range [hPre_inputs_in_range : Cert.Pre_inputs_in_range.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_inputs_in_range.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_inputs_in_range [hPre_inputs_in_range : Cert.Pre_inputs_in_range.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_inputs_in_range.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_merge_finite [hPre_merge_finite : Cert.Pre_merge_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_merge_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)) (m ((c.tc : Thread Cert.Kernel5Ideal.nD Cert.Kernel5Ideal.τ).loc Cert.Kernel5Ideal.main_arg14)) (m ((c.tc : Thread Cert.Kernel5Ideal.nD Cert.Kernel5Ideal.τ).loc Cert.Kernel5Ideal.main_arg15))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_merge_finite [hPre_merge_finite : Cert.Pre_merge_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_merge_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14)) (m ((c.tc : Thread Cert.Reference5Ideal.nD Cert.Reference5Ideal.τ).loc Cert.Reference5Ideal.main_arg15))) = (fun _ => 1#1)

def Pre_Kernel5 (m : (ℓ : Loc Cert.Kernel5.nD Cert.Kernel5.τ Cert.Kernel5.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] [hPre_tiles_in_range : Cert.Pre_tiles_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_tiles_in_range : Cert.Pre_tiles_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_inputs_in_range [hKernel2Ideal : Cert.Kernel2Ideal.Facts] [hPre_inputs_in_range : Cert.Pre_inputs_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_inputs_in_range m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_inputs_in_range [hReference2Ideal : Cert.Reference2Ideal.Facts] [hPre_inputs_in_range : Cert.Pre_inputs_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_inputs_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3Ideal [hKernel3Ideal : Cert.Kernel3Ideal.Facts] [hPre_tiles_in_range : Cert.Pre_tiles_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_inputs_in_range [hKernel3Ideal : Cert.Kernel3Ideal.Facts] [hPre_inputs_in_range : Cert.Pre_inputs_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_inputs_in_range m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_inputs_in_range [hReference3Ideal : Cert.Reference3Ideal.Facts] [hPre_inputs_in_range : Cert.Pre_inputs_in_range.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_inputs_in_range m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
      ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15))
      ∧ r.2.sem = fun _ => 0)

def quiescent_Kernel5Ideal_pre_merge_finite [hKernel5Ideal : Cert.Kernel5Ideal.Facts] [hPre_merge_finite : Cert.Pre_merge_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_merge_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
      ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14)
      ∧ r.2.mem ((c.tc : Thread Cert.Reference5Ideal.nD Cert.Reference5Ideal.τ).loc Cert.Reference5Ideal.main_arg15) = m ((c.tc : Thread Cert.Reference5Ideal.nD Cert.Reference5Ideal.τ).loc Cert.Reference5Ideal.main_arg15))
      ∧ r.2.sem = fun _ => 0)

def quiescent_Reference5Ideal_pre_merge_finite [hReference5Ideal : Cert.Reference5Ideal.Facts] [hPre_merge_finite : Cert.Pre_merge_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_merge_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14)
      ∧ r.2.mem ((c.tc : Thread Cert.Reference5Ideal.nD Cert.Reference5Ideal.τ).loc Cert.Reference5Ideal.main_arg15) = m ((c.tc : Thread Cert.Reference5Ideal.nD Cert.Reference5Ideal.τ).loc Cert.Reference5Ideal.main_arg15))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13)
      ∧ r.2.mem ((c.tc : Thread Cert.Kernel5.nD Cert.Kernel5.τ).loc Cert.Kernel5.main_arg14) = m ((c.tc : Thread Cert.Kernel5.nD Cert.Kernel5.τ).loc Cert.Kernel5.main_arg14)
      ∧ r.2.mem ((c.tc : Thread Cert.Kernel5.nD Cert.Kernel5.τ).loc Cert.Kernel5.main_arg15) = m ((c.tc : Thread Cert.Kernel5.nD Cert.Kernel5.τ).loc Cert.Kernel5.main_arg15))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_v2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_v41) = v2 c
          ∧ r.2.mem ((c.tc : Thread Cert.ReferenceIdeal.nD Cert.ReferenceIdeal.τ).loc Cert.ReferenceIdeal.main_v42) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_inputs_in_range [hKernel2Ideal : Cert.Kernel2Ideal.Facts] [hReference2Ideal : Cert.Reference2Ideal.Facts] [hPre_inputs_in_range : Cert.Pre_inputs_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_inputs_in_range m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v15)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v274) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def algebraic_Kernel3Ideal_Reference3Ideal_pre_inputs_in_range [hKernel3Ideal : Cert.Kernel3Ideal.Facts] [hReference3Ideal : Cert.Reference3Ideal.Facts] [hPre_inputs_in_range : Cert.Pre_inputs_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_inputs_in_range m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v15)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v15) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v274) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v7_0)) (v1 : (c : Dev Cert.Kernel4Ideal.nD) → Buf (Elt Ideal) ((c.tc : Thread Cert.Kernel4Ideal.nD Cert.Kernel4Ideal.τ).loc Cert.Kernel4Ideal.main_v7_1)) (v2 : (c : Dev Cert.Kernel4Ideal.nD) → Buf (Elt Ideal) ((c.tc : Thread Cert.Kernel4Ideal.nD Cert.Kernel4Ideal.τ).loc Cert.Kernel4Ideal.main_v7_2)) (v3 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7_0) = v0 c
          ∧ r.2.mem ((c.tc : Thread Cert.Kernel4Ideal.nD Cert.Kernel4Ideal.τ).loc Cert.Kernel4Ideal.main_v7_1) = v1 c
          ∧ r.2.mem ((c.tc : Thread Cert.Kernel4Ideal.nD Cert.Kernel4Ideal.τ).loc Cert.Kernel4Ideal.main_v7_2) = v2 c
          ∧ r.2.mem ((c.tc : Thread Cert.Kernel4Ideal.nD Cert.Kernel4Ideal.τ).loc Cert.Kernel4Ideal.main_v2) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v37) = v0 c
          ∧ r.2.mem ((c.tc : Thread Cert.Reference4Ideal.nD Cert.Reference4Ideal.τ).loc Cert.Reference4Ideal.main_v39) = v1 c
          ∧ r.2.mem ((c.tc : Thread Cert.Reference4Ideal.nD Cert.Reference4Ideal.τ).loc Cert.Reference4Ideal.main_v41) = v2 c
          ∧ r.2.mem ((c.tc : Thread Cert.Reference4Ideal.nD Cert.Reference4Ideal.τ).loc Cert.Reference4Ideal.main_v42) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  IdealRules.named_const.Statement Cert.Kernel5Ideal.κ "gelu_cubic" .f32 0x3D122279#32 ((80338380498831 / 2251799813685248 : ℝ) : EReal)

def algebraic_Kernel5Ideal_Reference5Ideal_pre_merge_finite [hKernel5Ideal : Cert.Kernel5Ideal.Facts] [hReference5Ideal : Cert.Reference5Ideal.Facts] [hPre_merge_finite : Cert.Pre_merge_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_merge_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)
      ∧ m' ((c.tc : Thread Cert.Reference5Ideal.nD Cert.Reference5Ideal.τ).loc Cert.Reference5Ideal.main_arg14) = m ((c.tc : Thread Cert.Kernel5Ideal.nD Cert.Kernel5Ideal.τ).loc Cert.Kernel5Ideal.main_arg14)
      ∧ m' ((c.tc : Thread Cert.Reference5Ideal.nD Cert.Reference5Ideal.τ).loc Cert.Reference5Ideal.main_arg15) = m ((c.tc : Thread Cert.Kernel5Ideal.nD Cert.Kernel5Ideal.τ).loc Cert.Kernel5Ideal.main_arg15)) →
    ∃ (v0 : (c : Dev Cert.Kernel5Ideal.nD) → Buf (Elt Ideal) ((c.tc : Thread Cert.Kernel5Ideal.nD Cert.Kernel5Ideal.τ).loc Cert.Kernel5Ideal.main_v28)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v28) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
          ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
          ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v102) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13)
          ∧ r.2.mem ((c.tc : Thread Cert.Reference5Ideal.nD Cert.Reference5Ideal.τ).loc Cert.Reference5Ideal.main_arg14) = m' ((c.tc : Thread Cert.Reference5Ideal.nD Cert.Reference5Ideal.τ).loc Cert.Reference5Ideal.main_arg14)
          ∧ r.2.mem ((c.tc : Thread Cert.Reference5Ideal.nD Cert.Reference5Ideal.τ).loc Cert.Reference5Ideal.main_arg15) = m' ((c.tc : Thread Cert.Reference5Ideal.nD Cert.Reference5Ideal.τ).loc Cert.Reference5Ideal.main_arg15))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3Ideal : Cert.Kernel3Ideal.Facts) (hReference3Ideal : Cert.Reference3Ideal.Facts) (hKernel4Ideal : Cert.Kernel4Ideal.Facts) (hReference4Ideal : Cert.Reference4Ideal.Facts) (hKernel5Ideal : Cert.Kernel5Ideal.Facts) (hReference5Ideal : Cert.Reference5Ideal.Facts) (hKernel5 : Cert.Kernel5.Facts) (hPre_tiles_in_range : Cert.Pre_tiles_in_range.Facts) (hPre_inputs_in_range : Cert.Pre_inputs_in_range.Facts) (hPre_merge_finite : Cert.Pre_merge_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2) (hPre_tiles_in_range := hPre_tiles_in_range)
    ∧ quiescent_Kernel2Ideal (hKernel2Ideal := hKernel2Ideal) (hPre_tiles_in_range := hPre_tiles_in_range)
    ∧ quiescent_Kernel2Ideal_pre_inputs_in_range (hKernel2Ideal := hKernel2Ideal) (hPre_inputs_in_range := hPre_inputs_in_range)
    ∧ quiescent_Reference2Ideal (hReference2Ideal := hReference2Ideal)
    ∧ quiescent_Reference2Ideal_pre_inputs_in_range (hReference2Ideal := hReference2Ideal) (hPre_inputs_in_range := hPre_inputs_in_range)
    ∧ quiescent_Kernel3Ideal (hKernel3Ideal := hKernel3Ideal) (hPre_tiles_in_range := hPre_tiles_in_range)
    ∧ quiescent_Kernel3Ideal_pre_inputs_in_range (hKernel3Ideal := hKernel3Ideal) (hPre_inputs_in_range := hPre_inputs_in_range)
    ∧ quiescent_Reference3Ideal (hReference3Ideal := hReference3Ideal)
    ∧ quiescent_Reference3Ideal_pre_inputs_in_range (hReference3Ideal := hReference3Ideal) (hPre_inputs_in_range := hPre_inputs_in_range)
    ∧ quiescent_Kernel4Ideal (hKernel4Ideal := hKernel4Ideal)
    ∧ quiescent_Reference4Ideal (hReference4Ideal := hReference4Ideal)
    ∧ quiescent_Kernel5Ideal (hKernel5Ideal := hKernel5Ideal)
    ∧ quiescent_Kernel5Ideal_pre_merge_finite (hKernel5Ideal := hKernel5Ideal) (hPre_merge_finite := hPre_merge_finite)
    ∧ quiescent_Reference5Ideal (hReference5Ideal := hReference5Ideal)
    ∧ quiescent_Reference5Ideal_pre_merge_finite (hReference5Ideal := hReference5Ideal) (hPre_merge_finite := hPre_merge_finite)
    ∧ quiescent_Kernel5 (hKernel5 := hKernel5)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_inputs_in_range (hKernel2Ideal := hKernel2Ideal) (hReference2Ideal := hReference2Ideal) (hPre_inputs_in_range := hPre_inputs_in_range)
    ∧ algebraic_Kernel3Ideal_Reference3Ideal_pre_inputs_in_range (hKernel3Ideal := hKernel3Ideal) (hReference3Ideal := hReference3Ideal) (hPre_inputs_in_range := hPre_inputs_in_range)
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_merge_finite (hKernel5Ideal := hKernel5Ideal) (hReference5Ideal := hReference5Ideal) (hPre_merge_finite := hPre_merge_finite)
-- ==== Pre_inputs_in_range.lean ====
abbrev S49152x1024 : Shape := ⟨2, ![49152, 1024]⟩
abbrev S48 : Shape := ⟨1, ![48]⟩
abbrev S1 : Shape := ⟨1, ![1]⟩
abbrev S2x16x1024x512 : Shape := ⟨4, ![2, 16, 1024, 512]⟩
abbrev S2x16x512x1024 : Shape := ⟨4, ![2, 16, 512, 1024]⟩
abbrev S_ : Shape := ⟨0, ![]⟩

class Facts : Prop where
  bcast_S_S49152x1024 : S_.BroadcastsInDim S49152x1024 (![] : Fin 0 → Fin S49152x1024.rank)
  reducesTo_S49152x1024_S_d0_1 : S49152x1024.ReducesTo [0, 1] S_
  h_S_ : 0 < S_.numel
  bcast_S_S2x16x1024x512 : S_.BroadcastsInDim S2x16x1024x512 (![] : Fin 0 → Fin S2x16x1024x512.rank)
  reducesTo_S2x16x1024x512_S_d0_1_2_3 : S2x16x1024x512.ReducesTo [0, 1, 2, 3] S_
  bcast_S_S48 : S_.BroadcastsInDim S48 (![] : Fin 0 → Fin S48.rank)
  reducesTo_S48_S_d0 : S48.ReducesTo [0] S_
  shapeCasts_S1_S_ : S1.ShapeCasts S_

variable [Facts]

def fn_part1 {F : FTy → Type} [FloatOps F] (main_arg2 : IVec S1 32) (main_v15 : IVec S_ 1) (main_v16 : IVec S_ 32) : IVec S_ 1 :=
  let main_c_5 : IVec S_ 32 := constantI S_ 32 1#32
  let main_v17 : IVec S_ 1 := cmpi .sge main_v16 main_c_5
  let main_v18 : IVec S_ 1 := andi main_v15 main_v17
  let main_v19 : IVec S_ 32 := shapeCast S_ main_arg2 shapeCasts_S1_S_
  let main_c_6 : IVec S_ 32 := constantI S_ 32 48#32
  let main_v20 : IVec S_ 1 := cmpi .sle main_v19 main_c_6
  let main_v21 : IVec S_ 1 := andi main_v18 main_v20
  main_v21

def fn {F : FTy → Type} [FloatOps F] (main_arg0 : FVec F S49152x1024 .f32) (main_arg1 : IVec S48 32) (main_arg2 : IVec S1 32) (main_arg3 : FVec F S2x16x1024x512 .f32) (main_arg4 : FVec F S2x16x1024x512 .f32) (main_arg5 : FVec F S2x16x512x1024 .f32) : IVec S_ 1 :=
  let main_v0 : FVec F S49152x1024 .f32 := Host.absf main_arg0
  let main_cst : FVec F S_ .f32 := constant S_ .f32 0x7F800000#32
  let main_v1 : FVec F S49152x1024 .f32 := broadcastInDim S49152x1024 ![] bcast_S_S49152x1024 main_cst
  let main_v2 : IVec S49152x1024 1 := cmpf .olt main_v0 main_v1
  let main_c : IVec S_ 1 := constantI S_ 1 1#1
  let main_v3 : IVec S_ 1 := (fun x v => Host.reduce IntOp.andi x v reducesTo_S49152x1024_S_d0_1 h_S_) main_v2 main_c
  let main_v4 : FVec F S2x16x1024x512 .f32 := Host.absf main_arg3
  let main_cst_0 : FVec F S_ .f32 := constant S_ .f32 0x7F800000#32
  let main_v5 : FVec F S2x16x1024x512 .f32 := broadcastInDim S2x16x1024x512 ![] bcast_S_S2x16x1024x512 main_cst_0
  let main_v6 : IVec S2x16x1024x512 1 := cmpf .olt main_v4 main_v5
  let main_c_1 : IVec S_ 1 := constantI S_ 1 1#1
  let main_v7 : IVec S_ 1 := (fun x v => Host.reduce IntOp.andi x v reducesTo_S2x16x1024x512_S_d0_1_2_3 h_S_) main_v6 main_c_1
  let main_v8 : IVec S_ 1 := andi main_v3 main_v7
  let main_c_2 : IVec S_ 32 := constantI S_ 32 0#32
  let main_v9 : IVec S48 32 := broadcastInDim S48 ![] bcast_S_S48 main_c_2
  let main_v10 : IVec S48 1 := cmpi .sge main_arg1 main_v9
  let main_c_3 : IVec S_ 32 := constantI S_ 32 16#32
  let main_v11 : IVec S48 32 := broadcastInDim S48 ![] bcast_S_S48 main_c_3
  let main_v12 : IVec S48 1 := cmpi .slt main_arg1 main_v11
  let main_v13 : IVec S48 1 := andi main_v10 main_v12
  let main_c_4 : IVec S_ 1 := constantI S_ 1 1#1
  let main_v14 : IVec S_ 1 := (fun x v => Host.reduce IntOp.andi x v reducesTo_S48_S_d0 h_S_) main_v13 main_c_4
  let main_v15 : IVec S_ 1 := andi main_v8 main_v14
  let main_v16 : IVec S_ 32 := shapeCast S_ main_arg2 shapeCasts_S1_S_
  fn_part1 (F := F) main_arg2 main_v15 main_v16
-- ==== Pre_merge_finite.lean ====
abbrev S16384x1024 : Shape := ⟨2, ![16384, 1024]⟩
abbrev S16384x512 : Shape := ⟨2, ![16384, 512]⟩
abbrev S16384x4x64 : Shape := ⟨3, ![16384, 4, 64]⟩
abbrev S16384x4 : Shape := ⟨2, ![16384, 4]⟩
abbrev S16384x6144 : Shape := ⟨2, ![16384, 6144]⟩
abbrev S512 : Shape := ⟨1, ![512]⟩
abbrev S4x128x128 : Shape := ⟨3, ![4, 128, 128]⟩
abbrev S4x128 : Shape := ⟨2, ![4, 128]⟩
abbrev S512x1024 : Shape := ⟨2, ![512, 1024]⟩
abbrev S768x1024 : Shape := ⟨2, ![768, 1024]⟩
abbrev S1024x1024 : Shape := ⟨2, ![1024, 1024]⟩
abbrev S_ : Shape := ⟨0, ![]⟩

class Facts : Prop where
  bcast_S_S16384x4 : S_.BroadcastsInDim S16384x4 (![] : Fin 0 → Fin S16384x4.rank)
  reducesTo_S16384x4_S_d0_1 : S16384x4.ReducesTo [0, 1] S_
  h_S_ : 0 < S_.numel
  bcast_S_S16384x6144 : S_.BroadcastsInDim S16384x6144 (![] : Fin 0 → Fin S16384x6144.rank)
  reducesTo_S16384x6144_S_d0_1 : S16384x6144.ReducesTo [0, 1] S_

variable [Facts]

def fn_part1 {F : FTy → Type} [FloatOps F] (main_v13 : IVec S_ 1) (main_v16 : IVec S16384x6144 1) : IVec S_ 1 :=
  let main_c_5 : IVec S_ 1 := constantI S_ 1 1#1
  let main_v17 : IVec S_ 1 := (fun x v => Host.reduce IntOp.andi x v reducesTo_S16384x6144_S_d0_1 h_S_) main_v16 main_c_5
  let main_v18 : IVec S_ 1 := andi main_v13 main_v17
  main_v18

def fn {F : FTy → Type} [FloatOps F] (main_arg0 : FVec F S16384x1024 .f32) (main_arg1 : FVec F S16384x512 .f32) (main_arg2 : FVec F S16384x4x64 .f32) (main_arg3 : FVec F S16384x4x64 .f32) (main_arg4 : FVec F S16384x4x64 .f32) (main_arg5 : FVec F S16384x4 .f32) (main_arg6 : FVec F S16384x4 .f32) (main_arg7 : FVec F S16384x4 .f32) (main_arg8 : FVec F S16384x6144 .f32) (main_arg9 : FVec F S512 .f32) (main_arg10 : FVec F S4x128x128 .f32) (main_arg11 : FVec F S4x128 .f32) (main_arg12 : FVec F S512x1024 .f32) (main_arg13 : FVec F S768x1024 .f32) (main_arg14 : FVec F S512x1024 .f32) (main_arg15 : FVec F S1024x1024 .f32) : IVec S_ 1 :=
  let main_v0 : FVec F S16384x4 .f32 := Host.absf main_arg5
  let main_cst : FVec F S_ .f32 := constant S_ .f32 0x7F800000#32
  let main_v1 : FVec F S16384x4 .f32 := broadcastInDim S16384x4 ![] bcast_S_S16384x4 main_cst
  let main_v2 : IVec S16384x4 1 := cmpf .olt main_v0 main_v1
  let main_c : IVec S_ 1 := constantI S_ 1 1#1
  let main_v3 : IVec S_ 1 := (fun x v => Host.reduce IntOp.andi x v reducesTo_S16384x4_S_d0_1 h_S_) main_v2 main_c
  let main_v4 : FVec F S16384x4 .f32 := Host.absf main_arg6
  let main_cst_0 : FVec F S_ .f32 := constant S_ .f32 0x7F800000#32
  let main_v5 : FVec F S16384x4 .f32 := broadcastInDim S16384x4 ![] bcast_S_S16384x4 main_cst_0
  let main_v6 : IVec S16384x4 1 := cmpf .olt main_v4 main_v5
  let main_c_1 : IVec S_ 1 := constantI S_ 1 1#1
  let main_v7 : IVec S_ 1 := (fun x v => Host.reduce IntOp.andi x v reducesTo_S16384x4_S_d0_1 h_S_) main_v6 main_c_1
  let main_v8 : IVec S_ 1 := andi main_v3 main_v7
  let main_v9 : FVec F S16384x4 .f32 := Host.absf main_arg7
  let main_cst_2 : FVec F S_ .f32 := constant S_ .f32 0x7F800000#32
  let main_v10 : FVec F S16384x4 .f32 := broadcastInDim S16384x4 ![] bcast_S_S16384x4 main_cst_2
  let main_v11 : IVec S16384x4 1 := cmpf .olt main_v9 main_v10
  let main_c_3 : IVec S_ 1 := constantI S_ 1 1#1
  let main_v12 : IVec S_ 1 := (fun x v => Host.reduce IntOp.andi x v reducesTo_S16384x4_S_d0_1 h_S_) main_v11 main_c_3
  let main_v13 : IVec S_ 1 := andi main_v8 main_v12
  let main_v14 : FVec F S16384x6144 .f32 := Host.absf main_arg8
  let main_cst_4 : FVec F S_ .f32 := constant S_ .f32 0x7F800000#32
  let main_v15 : FVec F S16384x6144 .f32 := broadcastInDim S16384x6144 ![] bcast_S_S16384x6144 main_cst_4
  let main_v16 : IVec S16384x6144 1 := cmpf .olt main_v14 main_v15
  fn_part1 (F := F) main_v13 main_v16
-- ==== Pre_tiles_in_range.lean ====
abbrev S49152x1024 : Shape := ⟨2, ![49152, 1024]⟩
abbrev S48 : Shape := ⟨1, ![48]⟩
abbrev S1 : Shape := ⟨1, ![1]⟩
abbrev S2x16x1024x512 : Shape := ⟨4, ![2, 16, 1024, 512]⟩
abbrev S2x16x512x1024 : Shape := ⟨4, ![2, 16, 512, 1024]⟩
abbrev S_ : Shape := ⟨0, ![]⟩

class Facts : Prop where
  bcast_S_S48 : S_.BroadcastsInDim S48 (![] : Fin 0 → Fin S48.rank)
  reducesTo_S48_S_d0 : S48.ReducesTo [0] S_
  h_S_ : 0 < S_.numel
  shapeCasts_S1_S_ : S1.ShapeCasts S_

variable [Facts]

def fn {F : FTy → Type} [FloatOps F] (main_arg0 : FVec F S49152x1024 .f32) (main_arg1 : IVec S48 32) (main_arg2 : IVec S1 32) (main_arg3 : FVec F S2x16x1024x512 .f32) (main_arg4 : FVec F S2x16x1024x512 .f32) (main_arg5 : FVec F S2x16x512x1024 .f32) : IVec S_ 1 :=
  let main_c : IVec S_ 32 := constantI S_ 32 0#32
  let main_v0 : IVec S48 32 := broadcastInDim S48 ![] bcast_S_S48 main_c
  let main_v1 : IVec S48 1 := cmpi .sge main_arg1 main_v0
  let main_c_0 : IVec S_ 32 := constantI S_ 32 16#32
  let main_v2 : IVec S48 32 := broadcastInDim S48 ![] bcast_S_S48 main_c_0
  let main_v3 : IVec S48 1 := cmpi .slt main_arg1 main_v2
  let main_v4 : IVec S48 1 := andi main_v1 main_v3
  let main_c_1 : IVec S_ 1 := constantI S_ 1 1#1
  let main_v5 : IVec S_ 1 := (fun x v => Host.reduce IntOp.andi x v reducesTo_S48_S_d0 h_S_) main_v4 main_c_1
  let main_v6 : IVec S_ 32 := shapeCast S_ main_arg2 shapeCasts_S1_S_
  let main_c_2 : IVec S_ 32 := constantI S_ 32 1#32
  let main_v7 : IVec S_ 1 := cmpi .sge main_v6 main_c_2
  let main_v8 : IVec S_ 1 := andi main_v5 main_v7
  let main_v9 : IVec S_ 32 := shapeCast S_ main_arg2 shapeCasts_S1_S_
  let main_c_3 : IVec S_ 32 := constantI S_ 32 48#32
  let main_v10 : IVec S_ 1 := cmpi .sle main_v9 main_c_3
  let main_v11 : IVec S_ 1 := andi main_v8 main_v10
  main_v11
-- ==== Kernel.lean ====
abbrev S4x4096x1024 : Shape := ⟨3, ![4, 4096, 1024]⟩
abbrev S2x1024 : Shape := ⟨2, ![2, 1024]⟩
abbrev S2x1024x8456 : Shape := ⟨3, ![2, 1024, 8456]⟩
abbrev S25 : Shape := ⟨1, ![25]⟩
abbrev S9 : Shape := ⟨1, ![9]⟩
abbrev S2x8456x1024 : Shape := ⟨3, ![2, 8456, 1024]⟩
abbrev S2x6400x1024 : Shape := ⟨3, ![2, 6400, 1024]⟩
abbrev S2x256x1024 : Shape := ⟨3, ![2, 256, 1024]⟩
abbrev S1 : Shape := ⟨1, ![1]⟩
abbrev S2x2304x1024 : Shape := ⟨3, ![2, 2304, 1024]⟩
abbrev S16384x1024 : Shape := ⟨2, ![16384, 1024]⟩
abbrev S1x1024 : Shape := ⟨2, ![1, 1024]⟩
abbrev S1024 : Shape := ⟨1, ![1024]⟩
abbrev S16384x6144 : Shape := ⟨2, ![16384, 6144]⟩
abbrev S8x16384 : Shape := ⟨2, ![8, 16384]⟩
abbrev S1024x1024 : Shape := ⟨2, ![1024, 1024]⟩
abbrev S1x3072x1024 : Shape := ⟨3, ![1, 3072, 1024]⟩
abbrev S1x256x1024 : Shape := ⟨3, ![1, 256, 1024]⟩
abbrev S1024x3072 : Shape := ⟨2, ![1024, 3072]⟩
abbrev S8x1024 : Shape := ⟨2, ![8, 1024]⟩
abbrev S1024x1 : Shape := ⟨2, ![1024, 1]⟩
abbrev S1x128x1024 : Shape := ⟨3, ![1, 128, 1024]⟩
abbrev S128x1024 : Shape := ⟨2, ![128, 1024]⟩
abbrev S3072x1024 : Shape := ⟨2, ![3072, 1024]⟩

abbrev nBuf : Space → Nat
  | .hbm => 13
  | .vmem => 20
  | .smem => 4
  | _ => 0

abbrev bufTy : (tb : Table) → Fin (tcTables nBuf tb) → BufTy
  | .hbm, ⟨0, _⟩ => ⟨S4x4096x1024, .f32⟩
  | .hbm, ⟨1, _⟩ => ⟨S2x1024, .f32⟩
  | .hbm, ⟨2, _⟩ => ⟨S2x1024x8456, .f32⟩
  | .hbm, ⟨3, _⟩ => ⟨S2x8456x1024, .f32⟩
  | .hbm, ⟨4, _⟩ => ⟨S2x6400x1024, .bf16⟩
  | .hbm, ⟨5, _⟩ => ⟨S2x2304x1024, .bf16⟩
  | .hbm, ⟨6, _⟩ => ⟨S16384x1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S16384x6144, .bf16⟩
  | .hbm, ⟨11, _⟩ => ⟨S16384x1024, .bf16⟩
  | .hbm, ⟨12, _⟩ => ⟨S8x16384, .f32⟩
  | .local _ .vmem, ⟨0, _⟩ => ⟨S2x256x1024, .f32⟩
  | .local _ .vmem, ⟨1, _⟩ => ⟨S2x256x1024, .f32⟩
  | .local _ .vmem, ⟨2, _⟩ => ⟨S2x256x1024, .bf16⟩
  | .local _ .vmem, ⟨3, _⟩ => ⟨S2x256x1024, .bf16⟩
  | .local _ .vmem, ⟨4, _⟩ => ⟨S2x256x1024, .f32⟩
  | .local _ .vmem, ⟨5, _⟩ => ⟨S2x256x1024, .f32⟩
  | .local _ .vmem, ⟨6, _⟩ => ⟨S2x256x1024, .bf16⟩
  | .local _ .vmem, ⟨7, _⟩ => ⟨S2x256x1024, .bf16⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | .local _ .vmem, ⟨11, _⟩ => ⟨S1x3072x1024, .bf16⟩
  | .local _ .vmem, ⟨12, _⟩ => ⟨S1x3072x1024, .bf16⟩
  | .local _ .vmem, ⟨13, _⟩ => ⟨S1x256x1024, .bf16⟩
  | .local _ .vmem, ⟨14, _⟩ => ⟨S1024x3072, .bf16⟩
  | .local _ .vmem, ⟨15, _⟩ => ⟨S1024x3072, .bf16⟩
  | .local _ .vmem, ⟨16, _⟩ => ⟨S1024x1024, .bf16⟩
  | .local _ .vmem, ⟨17, _⟩ => ⟨S1024x1024, .bf16⟩
  | .local _ .vmem, ⟨18, _⟩ => ⟨S8x1024, .f32⟩
  | .local _ .vmem, ⟨19, _⟩ => ⟨S8x1024, .f32⟩
  | .local _ .smem, ⟨0, _⟩ => ⟨S25, .i32⟩
  | .local _ .smem, ⟨1, _⟩ => ⟨S25, .i32⟩
  | .local _ .smem, ⟨2, _⟩ => ⟨S9, .i32⟩
  | .local _ .smem, ⟨3, _⟩ => ⟨S9, .i32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_v7_2 : Ref sig .tc := ⟨.hbm, 12, rfl⟩
abbrev main_c : Ref sig .tc := ⟨.smem, 0, rfl⟩
abbrev main_c_0 : Ref sig .tc := ⟨.smem, 1, rfl⟩
abbrev main_c_1 : Ref sig .tc := ⟨.smem, 2, rfl⟩
abbrev main_c_2 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg2_0 : Ref sig .tc := ⟨.vmem, 11, rfl⟩
abbrev cc2_stg2_1 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg4_1 : Ref sig .tc := ⟨.vmem, 15, rfl⟩
abbrev cc2_stg5_0 : Ref sig .tc := ⟨.vmem, 16, rfl⟩
abbrev cc2_stg5_1 : Ref sig .tc := ⟨.vmem, 17, rfl⟩
abbrev cc2_stg6_0 : Ref sig .tc := ⟨.vmem, 18, rfl⟩
abbrev cc2_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem2_0 : DmaSem sig := 11
abbrev cc2_sem2_1 : DmaSem sig := 12
abbrev cc2_sem3_0 : DmaSem sig := 13
abbrev cc2_sem4_0 : DmaSem sig := 14
abbrev cc2_sem4_1 : DmaSem sig := 15
abbrev cc2_sem5_0 : DmaSem sig := 16
abbrev cc2_sem5_1 : DmaSem sig := 17
abbrev cc2_sem6_0 : DmaSem sig := 18
abbrev cc2_sem6_1 : DmaSem sig := 19

abbrev nD : Nat := 1
abbrev τ : Topo := Topo.v7x

variable {F : FTy → Type} [FloatOps F]

abbrev grid0 : Pipeline.Grid := ⟨1, ![25], ![false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_mult1 (pf : pre0.Contents (Elt F)) (i : grid0.Coords) : BitVec 32 :=
  let arg0 : BitVec 32 := BitVec.ofNat 32 (i 0).val
  let v0 : Index := Scalar.indexCast arg0
  let v1 : BitVec 32 := pf.atD 0 ![v0.toNat]
  v1

def cc0_transform_0 (k0_off1_inb : ∀ i : grid0.Coords, ∀ a, (k0_off1 i) a + S1.size a ≤ S25.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S25) ![v0.toNat] S1.size (k0_off1_inb i)) numel1_S1
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![9], ![false]⟩

abbrev pre1 : Pipeline.Prefetch sig := ⟨2, ![main_c_1.idx, main_c_2.idx], fun | 0 => main_c_1.names | 1 => main_c_2.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def k1_mult1 (pf : pre1.Contents (Elt F)) (i : grid1.Coords) : BitVec 32 :=
  let arg0 : BitVec 32 := BitVec.ofNat 32 (i 0).val
  let v0 : Index := Scalar.indexCast arg0
  let v1 : BitVec 32 := pf.atD 0 ![v0.toNat]
  v1

def cc1_transform_0 (k1_off1_inb : ∀ i : grid1.Coords, ∀ a, (k1_off1 i) a + S1.size a ≤ S9.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S9) ![v0.toNat] S1.size (k1_off1_inb i)) numel1_S1
  let v2 : BitVec 32 := v1
  let c0_i32 : BitVec 32 := 0#32
  let c0_i32_0 : BitVec 32 := 0#32
  let c0_i32_1 : BitVec 32 := 0#32
  ![c0_i32.toNat, v2.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S2x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2x256x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨2, ![16, 2], ![false, false]⟩

def k2_cond1 (i : grid2.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c24_i32 : BitVec 32 := 24#32
  let c0_i32_0 : BitVec 32 := 0#32
  let c0_i32_1 : BitVec 32 := 0#32
  ![c0_i32.toNat, c24_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S1x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S1x3072x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 1 → Memref sig .tc .vmem S1x256x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1024x3072 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1024x1024 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 2 → Memref sig .tc .vmem S8x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]
-- ==== ReferenceIdeal.lean ====
abbrev S4x4096x1024 : Shape := ⟨3, ![4, 4096, 1024]⟩
abbrev S2x1024 : Shape := ⟨2, ![2, 1024]⟩
abbrev S2x1024x8456 : Shape := ⟨3, ![2, 1024, 8456]⟩
abbrev S_ : Shape := ⟨0, ![]⟩
abbrev S4x4096 : Shape := ⟨2, ![4, 4096]⟩
abbrev S4x4096x1 : Shape := ⟨3, ![4, 4096, 1]⟩
abbrev S1x1024 : Shape := ⟨2, ![1, 1024]⟩
abbrev S1024 : Shape := ⟨1, ![1024]⟩
abbrev S1x1x1024 : Shape := ⟨3, ![1, 1, 1024]⟩
abbrev S1x1024x8456 : Shape := ⟨3, ![1, 1024, 8456]⟩
abbrev S1024x8456 : Shape := ⟨2, ![1024, 8456]⟩
abbrev S4x4096x8456 : Shape := ⟨3, ![4, 4096, 8456]⟩
abbrev S4x4096x512 : Shape := ⟨3, ![4, 4096, 512]⟩
abbrev S4x4096x4 : Shape := ⟨3, ![4, 4096, 4]⟩
abbrev S4x4096x768 : Shape := ⟨3, ![4, 4096, 768]⟩
abbrev S4x4096x3072 : Shape := ⟨3, ![4, 4096, 3072]⟩
abbrev S4x4096x6144 : Shape := ⟨3, ![4, 4096, 6144]⟩
abbrev S4x4096x8 : Shape := ⟨3, ![4, 4096, 8]⟩
abbrev S2x1024x2304 : Shape := ⟨3, ![2, 1024, 2304]⟩
abbrev S2x1024x3x3x256 : Shape := ⟨5, ![2, 1024, 3, 3, 256]⟩
abbrev S2x3x3x256x1024 : Shape := ⟨5, ![2, 3, 3, 256, 1024]⟩
abbrev S2x2304x1024 : Shape := ⟨3, ![2, 2304, 1024]⟩
abbrev S16384x6144 : Shape := ⟨2, ![16384, 6144]⟩
abbrev S16384x1024 : Shape := ⟨2, ![16384, 1024]⟩
abbrev S16384x8 : Shape := ⟨2, ![16384, 8]⟩
abbrev S8x16384 : Shape := ⟨2, ![8, 16384]⟩

abbrev nBuf : Space → Nat
  | .hbm => 49
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S2x1024, .f32⟩
  | .hbm, ⟨2, _⟩ => ⟨S2x1024x8456, .f32⟩
  | .hbm, ⟨3, _⟩ => ⟨S4x4096x1024, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x1, .f32⟩
  | .hbm, ⟨14, _⟩ => ⟨S4x4096x1024, .f32⟩
  | .hbm, ⟨15, _⟩ => ⟨S4x4096x1024, .f32⟩
  | .hbm, ⟨16, _⟩ => ⟨S1x1024, .f32⟩
  | .hbm, ⟨17, _⟩ => ⟨S1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S1x1024x8456, .f32⟩
  | .hbm, ⟨22, _⟩ => ⟨S1024x8456, .f32⟩
  | .hbm, ⟨23, _⟩ => ⟨S4x4096x8456, .f32⟩
  | .hbm, ⟨24, _⟩ => ⟨S4x4096x512, .f32⟩
  | .hbm, ⟨25, _⟩ => ⟨S4x4096x512, .f32⟩
  | .hbm, ⟨26, _⟩ => ⟨S4x4096x512, .f32⟩
  | .hbm, ⟨27, _⟩ => ⟨S4x4096x512, .f32⟩
  | .hbm, ⟨28, _⟩ => ⟨S4x4096x4, .f32⟩
  | .hbm, ⟨29, _⟩ => ⟨S4x4096x4, .f32⟩
  | .hbm, ⟨30, _⟩ => ⟨S4x4096x768, .f32⟩
  | .hbm, ⟨31, _⟩ => ⟨S4x4096x768, .f32⟩
  | .hbm, ⟨32, _⟩ => ⟨S4x4096x768, .f32⟩
  | .hbm, ⟨33, _⟩ => ⟨S4x4096x512, .f32⟩
  | .hbm, ⟨34, _⟩ => ⟨S4x4096x512, .f32⟩
  | .hbm, ⟨35, _⟩ => ⟨S4x4096x3072, .f32⟩
  | .hbm, ⟨36, _⟩ => ⟨S4x4096x6144, .f32⟩
  | .hbm, ⟨37, _⟩ => ⟨S4x4096x6144, .bf16⟩
  | .hbm, ⟨38, _⟩ => ⟨S4x4096x8, .f32⟩
  | .hbm, ⟨39, _⟩ => ⟨S2x1024x2304, .f32⟩
  | .hbm, ⟨40, _⟩ => ⟨S2x1024x3x3x256, .f32⟩
  | .hbm, ⟨41, _⟩ => ⟨S2x3x3x256x1024, .f32⟩
  | .hbm, ⟨42, _⟩ => ⟨S2x2304x1024, .f32⟩
  | .hbm, ⟨43, _⟩ => ⟨S16384x6144, .bf16⟩
  | .hbm, ⟨44, _⟩ => ⟨S16384x1024, .f32⟩
  | .hbm, ⟨45, _⟩ => ⟨S16384x1024, .bf16⟩
  | .hbm, ⟨46, _⟩ => ⟨S16384x8, .f32⟩
  | .hbm, ⟨47, _⟩ => ⟨S8x16384, .f32⟩
  | .hbm, ⟨48, _⟩ => ⟨S2x2304x1024, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩

abbrev nD : Nat := 1
abbrev τ : Topo := Topo.v7x

variable {F : FTy → Type} [FloatOps F]
-- ==== Kernel2.lean ====
abbrev S49152x1024 : Shape := ⟨2, ![49152, 1024]⟩
abbrev S48 : Shape := ⟨1, ![48]⟩
abbrev S1 : Shape := ⟨1, ![1]⟩
abbrev S2x16x1024x512 : Shape := ⟨4, ![2, 16, 1024, 512]⟩
abbrev S2x16x512x1024 : Shape := ⟨4, ![2, 16, 512, 1024]⟩
abbrev S49152x2x4x128 : Shape := ⟨4, ![49152, 2, 4, 128]⟩
abbrev S4x2x49152x128 : Shape := ⟨4, ![4, 2, 49152, 128]⟩
abbrev S49152 : Shape := ⟨1, ![49152]⟩
abbrev S49152x1 : Shape := ⟨2, ![49152, 1]⟩
abbrev S_ : Shape := ⟨0, ![]⟩
abbrev S4x2x1024x128 : Shape := ⟨4, ![4, 2, 1024, 128]⟩
abbrev S1x1x1024x512 : Shape := ⟨4, ![1, 1, 1024, 512]⟩
abbrev S1x1x512x1024 : Shape := ⟨4, ![1, 1, 512, 1024]⟩
abbrev S1024x512 : Shape := ⟨2, ![1024, 512]⟩
abbrev S512x1024 : Shape := ⟨2, ![512, 1024]⟩
abbrev S1x1x1024x128 : Shape := ⟨4, ![1, 1, 1024, 128]⟩
abbrev S1024x128 : Shape := ⟨2, ![1024, 128]⟩
abbrev S1024x1024 : Shape := ⟨2, ![1024, 1024]⟩

abbrev nBuf : Space → Nat
  | .hbm => 22
  | .vmem => 13
  | .smem => 2
  | _ => 0

abbrev bufTy : (tb : Table) → Fin (tcTables nBuf tb) → BufTy
  | .hbm, ⟨0, _⟩ => ⟨S49152x1024, .f32⟩
  | .hbm, ⟨1, _⟩ => ⟨S2x16x1024x512, .f32⟩
  | .hbm, ⟨2, _⟩ => ⟨S2x16x1024x512, .f32⟩
  | .hbm, ⟨3, _⟩ => ⟨S2x16x512x1024, .f32⟩
  | .hbm, ⟨4, _⟩ => ⟨S49152x2x4x128, .f32⟩
  | .hbm, ⟨5, _⟩ => ⟨S4x2x49152x128, .f32⟩
  | .hbm, ⟨6, _⟩ => ⟨S4x2x49152x128, .bf16⟩
  | .hbm, ⟨7, _⟩ => ⟨S49152, .i32⟩
  | .hbm, ⟨8, _⟩ => ⟨S49152x1, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S49152x1, .i32⟩
  | .hbm, ⟨13, _⟩ => ⟨S49152x1, .i1⟩
  | .hbm, ⟨14, _⟩ => ⟨S49152x1024, .i1⟩
  | .hbm, ⟨15, _⟩ => ⟨S4x2x49152x128, .bf16⟩
  | .hbm, ⟨16, _⟩ => ⟨S4x2x49152x128, .f32⟩
  | .hbm, ⟨17, _⟩ => ⟨S49152x2x4x128, .f32⟩
  | .hbm, ⟨18, _⟩ => ⟨S49152x1024, .f32⟩
  | .hbm, ⟨19, _⟩ => ⟨S_, .f32⟩
  | .hbm, ⟨20, _⟩ => ⟨S49152x1024, .f32⟩
  | .hbm, ⟨21, _⟩ => ⟨S49152x1024, .f32⟩
  | .local _ .vmem, ⟨0, _⟩ => ⟨S4x2x1024x128, .bf16⟩
  | .local _ .vmem, ⟨1, _⟩ => ⟨S4x2x1024x128, .bf16⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S4x2x1024x128, .bf16⟩
  | .local _ .vmem, ⟨9, _⟩ => ⟨S4x2x1024x128, .bf16⟩
  | .local _ .vmem, ⟨10, _⟩ => ⟨S1024x512, .bf16⟩
  | .local _ .vmem, ⟨11, _⟩ => ⟨S1024x512, .bf16⟩
  | .local _ .vmem, ⟨12, _⟩ => ⟨S512x1024, .bf16⟩
  | .local _ .smem, ⟨0, _⟩ => ⟨S48, .i32⟩
  | .local _ .smem, ⟨1, _⟩ => ⟨S1, .i32⟩
  | _, _ => ⟨S49152x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![48], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  let c0_i32_1 : BitVec 32 := 0#32
  let c0_i32_2 : BitVec 32 := 0#32
  ![c0_i32.toNat, c0_i32_0.toNat, v2.toNat, c0_i32_1.toNat]

def cc0_transform_1 (k0_off1_inb : ∀ i : grid0.Coords, ∀ a, (k0_off1 i) a + S1.size a ≤ S48.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S48) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S48.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S48) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S48.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S48) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  let c0_i32_1 : BitVec 32 := 0#32
  let c0_i32_2 : BitVec 32 := 0#32
  ![c0_i32.toNat, c0_i32_0.toNat, v2.toNat, c0_i32_1.toNat]

abbrev stage0_0 : Fin 2 → Memref sig .tc .vmem S4x2x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x2x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S49152x1024 : Shape := ⟨2, ![49152, 1024]⟩
abbrev S48 : Shape := ⟨1, ![48]⟩
abbrev S1 : Shape := ⟨1, ![1]⟩
abbrev S2x16x1024x512 : Shape := ⟨4, ![2, 16, 1024, 512]⟩
abbrev S2x16x512x1024 : Shape := ⟨4, ![2, 16, 512, 1024]⟩
abbrev S49152 : Shape := ⟨1, ![49152]⟩
abbrev S_ : Shape := ⟨0, ![]⟩
abbrev S48x1 : Shape := ⟨2, ![48, 1]⟩
abbrev S48x1024 : Shape := ⟨2, ![48, 1024]⟩
abbrev S49152x1 : Shape := ⟨2, ![49152, 1]⟩
abbrev S16 : Shape := ⟨1, ![16]⟩
abbrev S1x16 : Shape := ⟨2, ![1, 16]⟩
abbrev S49152x16 : Shape := ⟨2, ![49152, 16]⟩
abbrev S1x1x1024x512 : Shape := ⟨4, ![1, 1, 1024, 512]⟩
abbrev S1024x512 : Shape := ⟨2, ![1024, 512]⟩
abbrev S49152x512 : Shape := ⟨2, ![49152, 512]⟩
abbrev S1x1x512x1024 : Shape := ⟨4, ![1, 1, 512, 1024]⟩
abbrev S512x1024 : Shape := ⟨2, ![512, 1024]⟩

abbrev nBuf : Space → Nat
  | .hbm => 415
  | .vmem => 0
  | .smem => 0
  | _ => 0

abbrev hbmTy0_0 (i : Nat) : BufTy := match i % 128 with
  | 0 => ⟨S49152x1024, .f32⟩
  | 1 => ⟨S48, .i32⟩
  | 2 => ⟨S1, .i32⟩
  | 3 => ⟨S2x16x1024x512, .f32⟩
  | 4 => ⟨S2x16x1024x512, .f32⟩
  | 5 => ⟨S2x16x512x1024, .f32⟩
  | 6 => ⟨S49152, .i32⟩
  | 7 => ⟨S_, .i32⟩
  | 8 => ⟨S_, .i32⟩
  | 9 => ⟨S_, .i32⟩
  | 10 => ⟨S49152, .i32⟩
  | 11 => ⟨S49152, .i1⟩
  | 12 => ⟨S48x1, .i32⟩
  | 13 => ⟨S48x1024, .i32⟩
  | 14 => ⟨S49152, .i32⟩
  | 15 => ⟨S49152x1, .i1⟩
  | 16 => ⟨S49152x1, .i32⟩
  | 17 => ⟨S16, .i32⟩
  | 18 => ⟨S1x16, .i32⟩
  | 19 => ⟨S49152x16, .i32⟩
  | 20 => ⟨S49152x16, .i32⟩
  | 21 => ⟨S49152x16, .i1⟩
  | 22 => ⟨S49152x16, .i1⟩
  | 23 => ⟨S49152x16, .i1⟩
  | 24 => ⟨S_, .f32⟩
  | 25 => ⟨S_, .f32⟩
  | 26 => ⟨S49152x16, .f32⟩
  | 27 => ⟨S49152x16, .f32⟩
  | 28 => ⟨S49152x16, .f32⟩
  | 29 => ⟨S_, .f32⟩
  | 30 => ⟨S49152x1024, .f32⟩
  | 31 => ⟨S1x1x1024x512, .f32⟩
  | 32 => ⟨S1024x512, .f32⟩
  | 33 => ⟨S49152x512, .f32⟩
  | 34 => ⟨S49152x512, .f32⟩
  | 35 => ⟨S49152x512, .f32⟩
  | 36 => ⟨S_, .f32⟩
  | 37 => ⟨S49152x512, .f32⟩
  | 38 => ⟨S49152x512, .f32⟩
  | 39 => ⟨S_, .f32⟩
  | 40 => ⟨S49152x512, .f32⟩
  | 41 => ⟨S49152x512, .f32⟩
  | 42 => ⟨S49152x512, .f32⟩
  | 43 => ⟨S1x1x1024x512, .f32⟩
  | 44 => ⟨S1024x512, .f32⟩
  | 45 => ⟨S49152x512, .f32⟩
  | 46 => ⟨S49152x512, .f32⟩
  | 47 => ⟨S49152x1, .f32⟩
  | 48 => ⟨S1x1x512x1024, .f32⟩
  | 49 => ⟨S512x1024, .f32⟩
  | 50 => ⟨S49152x1024, .f32⟩
  | 51 => ⟨S49152x1, .f32⟩
  | 52 => ⟨S49152x1024, .f32⟩
  | 53 => ⟨S49152x1024, .f32⟩
  | 54 => ⟨S49152x1024, .f32⟩
  | 55 => ⟨S1x1x1024x512, .f32⟩
  | 56 => ⟨S1024x512, .f32⟩
  | 57 => ⟨S49152x512, .f32⟩
  | 58 => ⟨S49152x512, .f32⟩
  | 59 => ⟨S49152x512, .f32⟩
  | 60 => ⟨S_, .f32⟩
  | 61 => ⟨S49152x512, .f32⟩
  | 62 => ⟨S49152x512, .f32⟩
  | 63 => ⟨S_, .f32⟩
  | 64 => ⟨S49152x512, .f32⟩
  | 65 => ⟨S49152x512, .f32⟩
  | 66 => ⟨S49152x512, .f32⟩
  | 67 => ⟨S1x1x1024x512, .f32⟩
  | 68 => ⟨S1024x512, .f32⟩
  | 69 => ⟨S49152x512, .f32⟩
  | 70 => ⟨S49152x512, .f32⟩
  | 71 => ⟨S49152x1, .f32⟩
  | 72 => ⟨S1x1x512x1024, .f32⟩
  | 73 => ⟨S512x1024, .f32⟩
  | 74 => ⟨S49152x1024, .f32⟩
  | 75 => ⟨S49152x1, .f32⟩
  | 76 => ⟨S49152x1024, .f32⟩
  | 77 => ⟨S49152x1024, .f32⟩
  | 78 => ⟨S49152x1024, .f32⟩
  | 79 => ⟨S1x1x1024x512, .f32⟩
  | 80 => ⟨S1024x512, .f32⟩
  | 81 => ⟨S49152x512, .f32⟩
  | 82 => ⟨S49152x512, .f32⟩
  | 83 => ⟨S49152x512, .f32⟩
  | 84 => ⟨S_, .f32⟩
  | 85 => ⟨S49152x512, .f32⟩
  | 86 => ⟨S49152x512, .f32⟩
  | 87 => ⟨S_, .f32⟩
  | 88 => ⟨S49152x512, .f32⟩
  | 89 => ⟨S49152x512, .f32⟩
  | 90 => ⟨S49152x512, .f32⟩
  | 91 => ⟨S1x1x1024x512, .f32⟩
  | 92 => ⟨S1024x512, .f32⟩
  | 93 => ⟨S49152x512, .f32⟩
  | 94 => ⟨S49152x512, .f32⟩
  | 95 => ⟨S49152x1, .f32⟩
  | 96 => ⟨S1x1x512x1024, .f32⟩
  | 97 => ⟨S512x1024, .f32⟩
  | 98 => ⟨S49152x1024, .f32⟩
  | 99 => ⟨S49152x1, .f32⟩
  | 100 => ⟨S49152x1024, .f32⟩
  | 101 => ⟨S49152x1024, .f32⟩
  | 102 => ⟨S49152x1024, .f32⟩
  | 103 => ⟨S1x1x1024x512, .f32⟩
  | 104 => ⟨S1024x512, .f32⟩
  | 105 => ⟨S49152x512, .f32⟩
  | 106 => ⟨S49152x512, .f32⟩
  | 107 => ⟨S49152x512, .f32⟩
  | 108 => ⟨S_, .f32⟩
  | 109 => ⟨S49152x512, .f32⟩
  | 110 => ⟨S49152x512, .f32⟩
  | 111 => ⟨S_, .f32⟩
  | 112 => ⟨S49152x512, .f32⟩
  | 113 => ⟨S49152x512, .f32⟩
  | 114 => ⟨S49152x512, .f32⟩
  | 115 => ⟨S1x1x1024x512, .f32⟩
  | 116 => ⟨S1024x512, .f32⟩
  | 117 => ⟨S49152x512, .f32⟩
  | 118 => ⟨S49152x512, .f32⟩
  | 119 => ⟨S49152x1, .f32⟩
  | 120 => ⟨S1x1x512x1024, .f32⟩
  | 121 => ⟨S512x1024, .f32⟩
  | 122 => ⟨S49152x1024, .f32⟩
  | 123 => ⟨S49152x1, .f32⟩
  | 124 => ⟨S49152x1024, .f32⟩
  | 125 => ⟨S49152x1024, .f32⟩
  | 126 => ⟨S49152x1024, .f32⟩
  | 127 => ⟨S1x1x1024x512, .f32⟩
  | _ => ⟨S49152x1024, .f32⟩

abbrev hbmTy0_1 (i : Nat) : BufTy := match i % 128 with
  | 0 => ⟨S1024x512, .f32⟩
  | 1 => ⟨S49152x512, .f32⟩
  | 2 => ⟨S49152x512, .f32⟩
  | 3 => ⟨S49152x512, .f32⟩
  | 4 => ⟨S_, .f32⟩
  | 5 => ⟨S49152x512, .f32⟩
  | 6 => ⟨S49152x512, .f32⟩
  | 7 => ⟨S_, .f32⟩
  | 8 => ⟨S49152x512, .f32⟩
  | 9 => ⟨S49152x512, .f32⟩
  | 10 => ⟨S49152x512, .f32⟩
  | 11 => ⟨S1x1x1024x512, .f32⟩
  | 12 => ⟨S1024x512, .f32⟩
  | 13 => ⟨S49152x512, .f32⟩
  | 14 => ⟨S49152x512, .f32⟩
  | 15 => ⟨S49152x1, .f32⟩
  | 16 => ⟨S1x1x512x1024, .f32⟩
  | 17 => ⟨S512x1024, .f32⟩
  | 18 => ⟨S49152x1024, .f32⟩
  | 19 => ⟨S49152x1, .f32⟩
  | 20 => ⟨S49152x1024, .f32⟩
  | 21 => ⟨S49152x1024, .f32⟩
  | 22 => ⟨S49152x1024, .f32⟩
  | 23 => ⟨S1x1x1024x512, .f32⟩
  | 24 => ⟨S1024x512, .f32⟩
  | 25 => ⟨S49152x512, .f32⟩
  | 26 => ⟨S49152x512, .f32⟩
  | 27 => ⟨S49152x512, .f32⟩
  | 28 => ⟨S_, .f32⟩
  | 29 => ⟨S49152x512, .f32⟩
  | 30 => ⟨S49152x512, .f32⟩
  | 31 => ⟨S_, .f32⟩
  | 32 => ⟨S49152x512, .f32⟩
  | 33 => ⟨S49152x512, .f32⟩
  | 34 => ⟨S49152x512, .f32⟩
  | 35 => ⟨S1x1x1024x512, .f32⟩
  | 36 => ⟨S1024x512, .f32⟩
  | 37 => ⟨S49152x512, .f32⟩
  | 38 => ⟨S49152x512, .f32⟩
  | 39 => ⟨S49152x1, .f32⟩
  | 40 => ⟨S1x1x512x1024, .f32⟩
  | 41 => ⟨S512x1024, .f32⟩
  | 42 => ⟨S49152x1024, .f32⟩
  | 43 => ⟨S49152x1, .f32⟩
  | 44 => ⟨S49152x1024, .f32⟩
  | 45 => ⟨S49152x1024, .f32⟩
  | 46 => ⟨S49152x1024, .f32⟩
  | 47 => ⟨S1x1x1024x512, .f32⟩
  | 48 => ⟨S1024x512, .f32⟩
  | 49 => ⟨S49152x512, .f32⟩
  | 50 => ⟨S49152x512, .f32⟩
  | 51 => ⟨S49152x512, .f32⟩
  | 52 => ⟨S_, .f32⟩
  | 53 => ⟨S49152x512, .f32⟩
  | 54 => ⟨S49152x512, .f32⟩
  | 55 => ⟨S_, .f32⟩
  | 56 => ⟨S49152x512, .f32⟩
  | 57 => ⟨S49152x512, .f32⟩
  | 58 => ⟨S49152x512, .f32⟩
  | 59 => ⟨S1x1x1024x512, .f32⟩
  | 60 => ⟨S1024x512, .f32⟩
  | 61 => ⟨S49152x512, .f32⟩
  | 62 => ⟨S49152x512, .f32⟩
  | 63 => ⟨S49152x1, .f32⟩
  | 64 => ⟨S1x1x512x1024, .f32⟩
  | 65 => ⟨S512x1024, .f32⟩
  | 66 => ⟨S49152x1024, .f32⟩
  | 67 => ⟨S49152x1, .f32⟩
  | 68 => ⟨S49152x1024, .f32⟩
  | 69 => ⟨S49152x1024, .f32⟩
  | 70 => ⟨S49152x1024, .f32⟩
  | 71 => ⟨S1x1x1024x512, .f32⟩
  | 72 => ⟨S1024x512, .f32⟩
  | 73 => ⟨S49152x512, .f32⟩
  | 74 => ⟨S49152x512, .f32⟩
  | 75 => ⟨S49152x512, .f32⟩
  | 76 => ⟨S_, .f32⟩
  | 77 => ⟨S49152x512, .f32⟩
  | 78 => ⟨S49152x512, .f32⟩
  | 79 => ⟨S_, .f32⟩
  | 80 => ⟨S49152x512, .f32⟩
  | 81 => ⟨S49152x512, .f32⟩
  | 82 => ⟨S49152x512, .f32⟩
  | 83 => ⟨S1x1x1024x512, .f32⟩
  | 84 => ⟨S1024x512, .f32⟩
  | 85 => ⟨S49152x512, .f32⟩
  | 86 => ⟨S49152x512, .f32⟩
  | 87 => ⟨S49152x1, .f32⟩
  | 88 => ⟨S1x1x512x1024, .f32⟩
  | 89 => ⟨S512x1024, .f32⟩
  | 90 => ⟨S49152x1024, .f32⟩
  | 91 => ⟨S49152x1, .f32⟩
  | 92 => ⟨S49152x1024, .f32⟩
  | 93 => ⟨S49152x1024, .f32⟩
  | 94 => ⟨S49152x1024, .f32⟩
  | 95 => ⟨S1x1x1024x512, .f32⟩
  | 96 => ⟨S1024x512, .f32⟩
  | 97 => ⟨S49152x512, .f32⟩
  | 98 => ⟨S49152x512, .f32⟩
  | 99 => ⟨S49152x512, .f32⟩
  | 100 => ⟨S_, .f32⟩
  | 101 => ⟨S49152x512, .f32⟩
  | 102 => ⟨S49152x512, .f32⟩
  | 103 => ⟨S_, .f32⟩
  | 104 => ⟨S49152x512, .f32⟩
  | 105 => ⟨S49152x512, .f32⟩
  | 106 => ⟨S49152x512, .f32⟩
  | 107 => ⟨S1x1x1024x512, .f32⟩
  | 108 => ⟨S1024x512, .f32⟩
  | 109 => ⟨S49152x512, .f32⟩
  | 110 => ⟨S49152x512, .f32⟩
  | 111 => ⟨S49152x1, .f32⟩
  | 112 => ⟨S1x1x512x1024, .f32⟩
  | 113 => ⟨S512x1024, .f32⟩
  | 114 => ⟨S49152x1024, .f32⟩
  | 115 => ⟨S49152x1, .f32⟩
  | 116 => ⟨S49152x1024, .f32⟩
  | 117 => ⟨S49152x1024, .f32⟩
  | 118 => ⟨S49152x1024, .f32⟩
  | 119 => ⟨S1x1x1024x512, .f32⟩
  | 120 => ⟨S1024x512, .f32⟩
  | 121 => ⟨S49152x512, .f32⟩
  | 122 => ⟨S49152x512, .f32⟩
  | 123 => ⟨S49152x512, .f32⟩
  | 124 => ⟨S_, .f32⟩
  | 125 => ⟨S49152x512, .f32⟩
  | 126 => ⟨S49152x512, .f32⟩
  | 127 => ⟨S_, .f32⟩
  | _ => ⟨S49152x1024, .f32⟩

abbrev hbmTy0_2 (i : Nat) : BufTy := match i % 128 with
  | 0 => ⟨S49152x512, .f32⟩
  | 1 => ⟨S49152x512, .f32⟩
  | 2 => ⟨S49152x512, .f32⟩
  | 3 => ⟨S1x1x1024x512, .f32⟩
  | 4 => ⟨S1024x512, .f32⟩
  | 5 => ⟨S49152x512, .f32⟩
  | 6 => ⟨S49152x512, .f32⟩
  | 7 => ⟨S49152x1, .f32⟩
  | 8 => ⟨S1x1x512x1024, .f32⟩
  | 9 => ⟨S512x1024, .f32⟩
  | 10 => ⟨S49152x1024, .f32⟩
  | 11 => ⟨S49152x1, .f32⟩
  | 12 => ⟨S49152x1024, .f32⟩
  | 13 => ⟨S49152x1024, .f32⟩
  | 14 => ⟨S49152x1024, .f32⟩
  | 15 => ⟨S1x1x1024x512, .f32⟩
  | 16 => ⟨S1024x512, .f32⟩
  | 17 => ⟨S49152x512, .f32⟩
  | 18 => ⟨S49152x512, .f32⟩
  | 19 => ⟨S49152x512, .f32⟩
  | 20 => ⟨S_, .f32⟩
  | 21 => ⟨S49152x512, .f32⟩
  | 22 => ⟨S49152x512, .f32⟩
  | 23 => ⟨S_, .f32⟩
  | 24 => ⟨S49152x512, .f32⟩
  | 25 => ⟨S49152x512, .f32⟩
  | 26 => ⟨S49152x512, .f32⟩
  | 27 => ⟨S1x1x1024x512, .f32⟩
  | 28 => ⟨S1024x512, .f32⟩
  | 29 => ⟨S49152x512, .f32⟩
  | 30 => ⟨S49152x512, .f32⟩
  | 31 => ⟨S49152x1, .f32⟩
  | 32 => ⟨S1x1x512x1024, .f32⟩
  | 33 => ⟨S512x1024, .f32⟩
  | 34 => ⟨S49152x1024, .f32⟩
  | 35 => ⟨S49152x1, .f32⟩
  | 36 => ⟨S49152x1024, .f32⟩
  | 37 => ⟨S49152x1024, .f32⟩
  | 38 => ⟨S49152x1024, .f32⟩
  | 39 => ⟨S1x1x1024x512, .f32⟩
  | 40 => ⟨S1024x512, .f32⟩
  | 41 => ⟨S49152x512, .f32⟩
  | 42 => ⟨S49152x512, .f32⟩
  | 43 => ⟨S49152x512, .f32⟩
  | 44 => ⟨S_, .f32⟩
  | 45 => ⟨S49152x512, .f32⟩
  | 46 => ⟨S49152x512, .f32⟩
  | 47 => ⟨S_, .f32⟩
  | 48 => ⟨S49152x512, .f32⟩
  | 49 => ⟨S49152x512, .f32⟩
  | 50 => ⟨S49152x512, .f32⟩
  | 51 => ⟨S1x1x1024x512, .f32⟩
  | 52 => ⟨S1024x512, .f32⟩
  | 53 => ⟨S49152x512, .f32⟩
  | 54 => ⟨S49152x512, .f32⟩
  | 55 => ⟨S49152x1, .f32⟩
  | 56 => ⟨S1x1x512x1024, .f32⟩
  | 57 => ⟨S512x1024, .f32⟩
  | 58 => ⟨S49152x1024, .f32⟩
  | 59 => ⟨S49152x1, .f32⟩
  | 60 => ⟨S49152x1024, .f32⟩
  | 61 => ⟨S49152x1024, .f32⟩
  | 62 => ⟨S49152x1024, .f32⟩
  | 63 => ⟨S1x1x1024x512, .f32⟩
  | 64 => ⟨S1024x512, .f32⟩
  | 65 => ⟨S49152x512, .f32⟩
  | 66 => ⟨S49152x512, .f32⟩
  | 67 => ⟨S49152x512, .f32⟩
  | 68 => ⟨S_, .f32⟩
  | 69 => ⟨S49152x512, .f32⟩
  | 70 => ⟨S49152x512, .f32⟩
  | 71 => ⟨S_, .f32⟩
  | 72 => ⟨S49152x512, .f32⟩
  | 73 => ⟨S49152x512, .f32⟩
  | 74 => ⟨S49152x512, .f32⟩
  | 75 => ⟨S1x1x1024x512, .f32⟩
  | 76 => ⟨S1024x512, .f32⟩
  | 77 => ⟨S49152x512, .f32⟩
  | 78 => ⟨S49152x512, .f32⟩
  | 79 => ⟨S49152x1, .f32⟩
  | 80 => ⟨S1x1x512x1024, .f32⟩
  | 81 => ⟨S512x1024, .f32⟩
  | 82 => ⟨S49152x1024, .f32⟩
  | 83 => ⟨S49152x1, .f32⟩
  | 84 => ⟨S49152x1024, .f32⟩
  | 85 => ⟨S49152x1024, .f32⟩
  | 86 => ⟨S49152x1024, .f32⟩
  | 87 => ⟨S1x1x1024x512, .f32⟩
  | 88 => ⟨S1024x512, .f32⟩
  | 89 => ⟨S49152x512, .f32⟩
  | 90 => ⟨S49152x512, .f32⟩
  | 91 => ⟨S49152x512, .f32⟩
  | 92 => ⟨S_, .f32⟩
  | 93 => ⟨S49152x512, .f32⟩
  | 94 => ⟨S49152x512, .f32⟩
  | 95 => ⟨S_, .f32⟩
  | 96 => ⟨S49152x512, .f32⟩
  | 97 => ⟨S49152x512, .f32⟩
  | 98 => ⟨S49152x512, .f32⟩
  | 99 => ⟨S1x1x1024x512, .f32⟩
  | 100 => ⟨S1024x512, .f32⟩
  | 101 => ⟨S49152x512, .f32⟩
  | 102 => ⟨S49152x512, .f32⟩
  | 103 => ⟨S49152x1, .f32⟩
  | 104 => ⟨S1x1x512x1024, .f32⟩
  | 105 => ⟨S512x1024, .f32⟩
  | 106 => ⟨S49152x1024, .f32⟩
  | 107 => ⟨S49152x1, .f32⟩
  | 108 => ⟨S49152x1024, .f32⟩
  | 109 => ⟨S49152x1024, .f32⟩
  | 110 => ⟨S49152x1024, .f32⟩
  | 111 => ⟨S1x1x1024x512, .f32⟩
  | 112 => ⟨S1024x512, .f32⟩
  | 113 => ⟨S49152x512, .f32⟩
  | 114 => ⟨S49152x512, .f32⟩
  | 115 => ⟨S49152x512, .f32⟩
  | 116 => ⟨S_, .f32⟩
  | 117 => ⟨S49152x512, .f32⟩
  | 118 => ⟨S49152x512, .f32⟩
  | 119 => ⟨S_, .f32⟩
  | 120 => ⟨S49152x512, .f32⟩
  | 121 => ⟨S49152x512, .f32⟩
  | 122 => ⟨S49152x512, .f32⟩
  | 123 => ⟨S1x1x1024x512, .f32⟩
  | 124 => ⟨S1024x512, .f32⟩
  | 125 => ⟨S49152x512, .f32⟩
  | 126 => ⟨S49152x512, .f32⟩
  | 127 => ⟨S49152x1, .f32⟩
  | _ => ⟨S49152x1024, .f32⟩

abbrev hbmTy0_3 (i : Nat) : BufTy := match i % 128 with
  | 0 => ⟨S1x1x512x1024, .f32⟩
  | 1 => ⟨S512x1024, .f32⟩
  | 2 => ⟨S49152x1024, .f32⟩
  | 3 => ⟨S49152x1, .f32⟩
  | 4 => ⟨S49152x1024, .f32⟩
  | 5 => ⟨S49152x1024, .f32⟩
  | 6 => ⟨S49152x1024, .f32⟩
  | 7 => ⟨S1x1x1024x512, .f32⟩
  | 8 => ⟨S1024x512, .f32⟩
  | 9 => ⟨S49152x512, .f32⟩
  | 10 => ⟨S49152x512, .f32⟩
  | 11 => ⟨S49152x512, .f32⟩
  | 12 => ⟨S_, .f32⟩
  | 13 => ⟨S49152x512, .f32⟩
  | 14 => ⟨S49152x512, .f32⟩
  | 15 => ⟨S_, .f32⟩
  | 16 => ⟨S49152x512, .f32⟩
  | 17 => ⟨S49152x512, .f32⟩
  | 18 => ⟨S49152x512, .f32⟩
  | 19 => ⟨S1x1x1024x512, .f32⟩
  | 20 => ⟨S1024x512, .f32⟩
  | 21 => ⟨S49152x512, .f32⟩
  | 22 => ⟨S49152x512, .f32⟩
  | 23 => ⟨S49152x1, .f32⟩
  | 24 => ⟨S1x1x512x1024, .f32⟩
  | 25 => ⟨S512x1024, .f32⟩
  | 26 => ⟨S49152x1024, .f32⟩
  | 27 => ⟨S49152x1, .f32⟩
  | 28 => ⟨S49152x1024, .f32⟩
  | 29 => ⟨S49152x1024, .f32⟩
  | 30 => ⟨S49152x1024, .f32⟩
  | _ => ⟨S49152x1024, .f32⟩

abbrev hbmTy (i : Nat) : BufTy := match i / 128 with
  | 0 => hbmTy0_0 i
  | 1 => hbmTy0_1 i
  | 2 => hbmTy0_2 i
  | 3 => hbmTy0_3 i
  | _ => ⟨S49152x1024, .f32⟩

abbrev bufTy : (tb : Table) → Fin (tcTables nBuf tb) → BufTy
  | .hbm, ⟨i, _⟩ => hbmTy i
  | _, _ => ⟨S49152x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call1_v0 : Ref sig .tc := ⟨.hbm, 34, rfl⟩
abbrev main_call1_v1 : Ref sig .tc := ⟨.hbm, 35, rfl⟩
abbrev main_call1_cst : Ref sig .tc := ⟨.hbm, 36, rfl⟩
abbrev main_call1_v2 : Ref sig .tc := ⟨.hbm, 37, rfl⟩
abbrev main_call1_v3 : Ref sig .tc := ⟨.hbm, 38, rfl⟩
abbrev main_call1_cst_0 : Ref sig .tc := ⟨.hbm, 39, rfl⟩
abbrev main_call1_v4 : Ref sig .tc := ⟨.hbm, 40, rfl⟩
abbrev main_call1_v5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_call2_v0 : Ref sig .tc := ⟨.hbm, 58, rfl⟩
abbrev main_call2_v1 : Ref sig .tc := ⟨.hbm, 59, rfl⟩
abbrev main_call2_cst : Ref sig .tc := ⟨.hbm, 60, rfl⟩
abbrev main_call2_v2 : Ref sig .tc := ⟨.hbm, 61, rfl⟩
abbrev main_call2_v3 : Ref sig .tc := ⟨.hbm, 62, rfl⟩
abbrev main_call2_cst_0 : Ref sig .tc := ⟨.hbm, 63, rfl⟩
abbrev main_call2_v4 : Ref sig .tc := ⟨.hbm, 64, rfl⟩
abbrev main_call2_v5 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_call3_v0 : Ref sig .tc := ⟨.hbm, 82, rfl⟩
abbrev main_call3_v1 : Ref sig .tc := ⟨.hbm, 83, rfl⟩
abbrev main_call3_cst : Ref sig .tc := ⟨.hbm, 84, rfl⟩
abbrev main_call3_v2 : Ref sig .tc := ⟨.hbm, 85, rfl⟩
abbrev main_call3_v3 : Ref sig .tc := ⟨.hbm, 86, rfl⟩
abbrev main_call3_cst_0 : Ref sig .tc := ⟨.hbm, 87, rfl⟩
abbrev main_call3_v4 : Ref sig .tc := ⟨.hbm, 88, rfl⟩
abbrev main_call3_v5 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_call4_v0 : Ref sig .tc := ⟨.hbm, 106, rfl⟩
abbrev main_call4_v1 : Ref sig .tc := ⟨.hbm, 107, rfl⟩
abbrev main_call4_cst : Ref sig .tc := ⟨.hbm, 108, rfl⟩
abbrev main_call4_v2 : Ref sig .tc := ⟨.hbm, 109, rfl⟩
abbrev main_call4_v3 : Ref sig .tc := ⟨.hbm, 110, rfl⟩
abbrev main_call4_cst_0 : Ref sig .tc := ⟨.hbm, 111, rfl⟩
abbrev main_call4_v4 : Ref sig .tc := ⟨.hbm, 112, rfl⟩
abbrev main_call4_v5 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_call5_v0 : Ref sig .tc := ⟨.hbm, 130, rfl⟩
abbrev main_call5_v1 : Ref sig .tc := ⟨.hbm, 131, rfl⟩
abbrev main_call5_cst : Ref sig .tc := ⟨.hbm, 132, rfl⟩
abbrev main_call5_v2 : Ref sig .tc := ⟨.hbm, 133, rfl⟩
abbrev main_call5_v3 : Ref sig .tc := ⟨.hbm, 134, rfl⟩
abbrev main_call5_cst_0 : Ref sig .tc := ⟨.hbm, 135, rfl⟩
abbrev main_call5_v4 : Ref sig .tc := ⟨.hbm, 136, rfl⟩
abbrev main_call5_v5 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_call6_v0 : Ref sig .tc := ⟨.hbm, 154, rfl⟩
abbrev main_call6_v1 : Ref sig .tc := ⟨.hbm, 155, rfl⟩
abbrev main_call6_cst : Ref sig .tc := ⟨.hbm, 156, rfl⟩
abbrev main_call6_v2 : Ref sig .tc := ⟨.hbm, 157, rfl⟩
abbrev main_call6_v3 : Ref sig .tc := ⟨.hbm, 158, rfl⟩
abbrev main_call6_cst_0 : Ref sig .tc := ⟨.hbm, 159, rfl⟩
abbrev main_call6_v4 : Ref sig .tc := ⟨.hbm, 160, rfl⟩
abbrev main_call6_v5 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_call7_v0 : Ref sig .tc := ⟨.hbm, 178, rfl⟩
abbrev main_call7_v1 : Ref sig .tc := ⟨.hbm, 179, rfl⟩
abbrev main_call7_cst : Ref sig .tc := ⟨.hbm, 180, rfl⟩
abbrev main_call7_v2 : Ref sig .tc := ⟨.hbm, 181, rfl⟩
abbrev main_call7_v3 : Ref sig .tc := ⟨.hbm, 182, rfl⟩
abbrev main_call7_cst_0 : Ref sig .tc := ⟨.hbm, 183, rfl⟩
abbrev main_call7_v4 : Ref sig .tc := ⟨.hbm, 184, rfl⟩
abbrev main_call7_v5 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_v126 : Ref sig .tc := ⟨.hbm, 194, rfl⟩
abbrev main_v127 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_v133 : Ref sig .tc := ⟨.hbm, 201, rfl⟩
abbrev main_call8_v0 : Ref sig .tc := ⟨.hbm, 202, rfl⟩
abbrev main_call8_v1 : Ref sig .tc := ⟨.hbm, 203, rfl⟩
abbrev main_call8_cst : Ref sig .tc := ⟨.hbm, 204, rfl⟩
abbrev main_call8_v2 : Ref sig .tc := ⟨.hbm, 205, rfl⟩
abbrev main_call8_v3 : Ref sig .tc := ⟨.hbm, 206, rfl⟩
abbrev main_call8_cst_0 : Ref sig .tc := ⟨.hbm, 207, rfl⟩
abbrev main_call8_v4 : Ref sig .tc := ⟨.hbm, 208, rfl⟩
abbrev main_call8_v5 : Ref sig .tc := ⟨.hbm, 209, rfl⟩
abbrev main_v134 : Ref sig .tc := ⟨.hbm, 210, rfl⟩
abbrev main_v135 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_v139 : Ref sig .tc := ⟨.hbm, 215, rfl⟩
abbrev main_v140 : Ref sig .tc := ⟨.hbm, 216, rfl⟩
abbrev main_v141 : Ref sig .tc := ⟨.hbm, 217, rfl⟩
abbrev main_v142 : Ref sig .tc := ⟨.hbm, 218, rfl⟩
abbrev main_v143 : Ref sig .tc := ⟨.hbm, 219, rfl⟩
abbrev main_v144 : Ref sig .tc := ⟨.hbm, 220, rfl⟩
abbrev main_v145 : Ref sig .tc := ⟨.hbm, 221, rfl⟩
abbrev main_v146 : Ref sig .tc := ⟨.hbm, 222, rfl⟩
abbrev main_v147 : Ref sig .tc := ⟨.hbm, 223, rfl⟩
abbrev main_v148 : Ref sig .tc := ⟨.hbm, 224, rfl⟩
abbrev main_v149 : Ref sig .tc := ⟨.hbm, 225, rfl⟩
abbrev main_call9_v0 : Ref sig .tc := ⟨.hbm, 226, rfl⟩
abbrev main_call9_v1 : Ref sig .tc := ⟨.hbm, 227, rfl⟩
abbrev main_call9_cst : Ref sig .tc := ⟨.hbm, 228, rfl⟩
abbrev main_call9_v2 : Ref sig .tc := ⟨.hbm, 229, rfl⟩
abbrev main_call9_v3 : Ref sig .tc := ⟨.hbm, 230, rfl⟩
abbrev main_call9_cst_0 : Ref sig .tc := ⟨.hbm, 231, rfl⟩
abbrev main_call9_v4 : Ref sig .tc := ⟨.hbm, 232, rfl⟩
abbrev main_call9_v5 : Ref sig .tc := ⟨.hbm, 233, rfl⟩
abbrev main_v150 : Ref sig .tc := ⟨.hbm, 234, rfl⟩
abbrev main_v151 : Ref sig .tc := ⟨.hbm, 235, rfl⟩
abbrev main_v152 : Ref sig .tc := ⟨.hbm, 236, rfl⟩
abbrev main_v153 : Ref sig .tc := ⟨.hbm, 237, rfl⟩
abbrev main_v154 : Ref sig .tc := ⟨.hbm, 238, rfl⟩
abbrev main_v155 : Ref sig .tc := ⟨.hbm, 239, rfl⟩
abbrev main_v156 : Ref sig .tc := ⟨.hbm, 240, rfl⟩
abbrev main_v157 : Ref sig .tc := ⟨.hbm, 241, rfl⟩
abbrev main_v158 : Ref sig .tc := ⟨.hbm, 242, rfl⟩
abbrev main_v159 : Ref sig .tc := ⟨.hbm, 243, rfl⟩
abbrev main_v160 : Ref sig .tc := ⟨.hbm, 244, rfl⟩
abbrev main_v161 : Ref sig .tc := ⟨.hbm, 245, rfl⟩
abbrev main_v162 : Ref sig .tc := ⟨.hbm, 246, rfl⟩
abbrev main_v163 : Ref sig .tc := ⟨.hbm, 247, rfl⟩
abbrev main_v164 : Ref sig .tc := ⟨.hbm, 248, rfl⟩
abbrev main_v165 : Ref sig .tc := ⟨.hbm, 249, rfl⟩
abbrev main_call10_v0 : Ref sig .tc := ⟨.hbm, 250, rfl⟩
abbrev main_call10_v1 : Ref sig .tc := ⟨.hbm, 251, rfl⟩
abbrev main_call10_cst : Ref sig .tc := ⟨.hbm, 252, rfl⟩
abbrev main_call10_v2 : Ref sig .tc := ⟨.hbm, 253, rfl⟩
abbrev main_call10_v3 : Ref sig .tc := ⟨.hbm, 254, rfl⟩
abbrev main_call10_cst_0 : Ref sig .tc := ⟨.hbm, 255, rfl⟩
abbrev main_call10_v4 : Ref sig .tc := ⟨.hbm, 256, rfl⟩
abbrev main_call10_v5 : Ref sig .tc := ⟨.hbm, 257, rfl⟩
abbrev main_v166 : Ref sig .tc := ⟨.hbm, 258, rfl⟩
abbrev main_v167 : Ref sig .tc := ⟨.hbm, 259, rfl⟩
abbrev main_v168 : Ref sig .tc := ⟨.hbm, 260, rfl⟩
abbrev main_v169 : Ref sig .tc := ⟨.hbm, 261, rfl⟩
abbrev main_v170 : Ref sig .tc := ⟨.hbm, 262, rfl⟩
abbrev main_v171 : Ref sig .tc := ⟨.hbm, 263, rfl⟩
abbrev main_v172 : Ref sig .tc := ⟨.hbm, 264, rfl⟩
abbrev main_v173 : Ref sig .tc := ⟨.hbm, 265, rfl⟩
abbrev main_v174 : Ref sig .tc := ⟨.hbm, 266, rfl⟩
abbrev main_v175 : Ref sig .tc := ⟨.hbm, 267, rfl⟩
abbrev main_v176 : Ref sig .tc := ⟨.hbm, 268, rfl⟩
abbrev main_v177 : Ref sig .tc := ⟨.hbm, 269, rfl⟩
abbrev main_v178 : Ref sig .tc := ⟨.hbm, 270, rfl⟩
abbrev main_v179 : Ref sig .tc := ⟨.hbm, 271, rfl⟩
abbrev main_v180 : Ref sig .tc := ⟨.hbm, 272, rfl⟩
abbrev main_v181 : Ref sig .tc := ⟨.hbm, 273, rfl⟩
abbrev main_call11_v0 : Ref sig .tc := ⟨.hbm, 274, rfl⟩
abbrev main_call11_v1 : Ref sig .tc := ⟨.hbm, 275, rfl⟩
abbrev main_call11_cst : Ref sig .tc := ⟨.hbm, 276, rfl⟩
abbrev main_call11_v2 : Ref sig .tc := ⟨.hbm, 277, rfl⟩
abbrev main_call11_v3 : Ref sig .tc := ⟨.hbm, 278, rfl⟩
abbrev main_call11_cst_0 : Ref sig .tc := ⟨.hbm, 279, rfl⟩
abbrev main_call11_v4 : Ref sig .tc := ⟨.hbm, 280, rfl⟩
abbrev main_call11_v5 : Ref sig .tc := ⟨.hbm, 281, rfl⟩
abbrev main_v182 : Ref sig .tc := ⟨.hbm, 282, rfl⟩
abbrev main_v183 : Ref sig .tc := ⟨.hbm, 283, rfl⟩
abbrev main_v184 : Ref sig .tc := ⟨.hbm, 284, rfl⟩
abbrev main_v185 : Ref sig .tc := ⟨.hbm, 285, rfl⟩
abbrev main_v186 : Ref sig .tc := ⟨.hbm, 286, rfl⟩
abbrev main_v187 : Ref sig .tc := ⟨.hbm, 287, rfl⟩
abbrev main_v188 : Ref sig .tc := ⟨.hbm, 288, rfl⟩
abbrev main_v189 : Ref sig .tc := ⟨.hbm, 289, rfl⟩
abbrev main_v190 : Ref sig .tc := ⟨.hbm, 290, rfl⟩
abbrev main_v191 : Ref sig .tc := ⟨.hbm, 291, rfl⟩
abbrev main_v192 : Ref sig .tc := ⟨.hbm, 292, rfl⟩
abbrev main_v193 : Ref sig .tc := ⟨.hbm, 293, rfl⟩
abbrev main_v194 : Ref sig .tc := ⟨.hbm, 294, rfl⟩
abbrev main_v195 : Ref sig .tc := ⟨.hbm, 295, rfl⟩
abbrev main_v196 : Ref sig .tc := ⟨.hbm, 296, rfl⟩
abbrev main_v197 : Ref sig .tc := ⟨.hbm, 297, rfl⟩
abbrev main_call12_v0 : Ref sig .tc := ⟨.hbm, 298, rfl⟩
abbrev main_call12_v1 : Ref sig .tc := ⟨.hbm, 299, rfl⟩
abbrev main_call12_cst : Ref sig .tc := ⟨.hbm, 300, rfl⟩
abbrev main_call12_v2 : Ref sig .tc := ⟨.hbm, 301, rfl⟩
abbrev main_call12_v3 : Ref sig .tc := ⟨.hbm, 302, rfl⟩
abbrev main_call12_cst_0 : Ref sig .tc := ⟨.hbm, 303, rfl⟩
abbrev main_call12_v4 : Ref sig .tc := ⟨.hbm, 304, rfl⟩
abbrev main_call12_v5 : Ref sig .tc := ⟨.hbm, 305, rfl⟩
abbrev main_v198 : Ref sig .tc := ⟨.hbm, 306, rfl⟩
abbrev main_v199 : Ref sig .tc := ⟨.hbm, 307, rfl⟩
abbrev main_v200 : Ref sig .tc := ⟨.hbm, 308, rfl⟩
abbrev main_v201 : Ref sig .tc := ⟨.hbm, 309, rfl⟩
abbrev main_v202 : Ref sig .tc := ⟨.hbm, 310, rfl⟩
abbrev main_v203 : Ref sig .tc := ⟨.hbm, 311, rfl⟩
abbrev main_v204 : Ref sig .tc := ⟨.hbm, 312, rfl⟩
abbrev main_v205 : Ref sig .tc := ⟨.hbm, 313, rfl⟩
abbrev main_v206 : Ref sig .tc := ⟨.hbm, 314, rfl⟩
abbrev main_v207 : Ref sig .tc := ⟨.hbm, 315, rfl⟩
abbrev main_v208 : Ref sig .tc := ⟨.hbm, 316, rfl⟩
abbrev main_v209 : Ref sig .tc := ⟨.hbm, 317, rfl⟩
abbrev main_v210 : Ref sig .tc := ⟨.hbm, 318, rfl⟩
abbrev main_v211 : Ref sig .tc := ⟨.hbm, 319, rfl⟩
abbrev main_v212 : Ref sig .tc := ⟨.hbm, 320, rfl⟩
abbrev main_v213 : Ref sig .tc := ⟨.hbm, 321, rfl⟩
abbrev main_call13_v0 : Ref sig .tc := ⟨.hbm, 322, rfl⟩
abbrev main_call13_v1 : Ref sig .tc := ⟨.hbm, 323, rfl⟩
abbrev main_call13_cst : Ref sig .tc := ⟨.hbm, 324, rfl⟩
abbrev main_call13_v2 : Ref sig .tc := ⟨.hbm, 325, rfl⟩
abbrev main_call13_v3 : Ref sig .tc := ⟨.hbm, 326, rfl⟩
abbrev main_call13_cst_0 : Ref sig .tc := ⟨.hbm, 327, rfl⟩
abbrev main_call13_v4 : Ref sig .tc := ⟨.hbm, 328, rfl⟩
abbrev main_call13_v5 : Ref sig .tc := ⟨.hbm, 329, rfl⟩
abbrev main_v214 : Ref sig .tc := ⟨.hbm, 330, rfl⟩
abbrev main_v215 : Ref sig .tc := ⟨.hbm, 331, rfl⟩
abbrev main_v216 : Ref sig .tc := ⟨.hbm, 332, rfl⟩
abbrev main_v217 : Ref sig .tc := ⟨.hbm, 333, rfl⟩
abbrev main_v218 : Ref sig .tc := ⟨.hbm, 334, rfl⟩
abbrev main_v219 : Ref sig .tc := ⟨.hbm, 335, rfl⟩
abbrev main_v220 : Ref sig .tc := ⟨.hbm, 336, rfl⟩
abbrev main_v221 : Ref sig .tc := ⟨.hbm, 337, rfl⟩
abbrev main_v222 : Ref sig .tc := ⟨.hbm, 338, rfl⟩
abbrev main_v223 : Ref sig .tc := ⟨.hbm, 339, rfl⟩
abbrev main_v224 : Ref sig .tc := ⟨.hbm, 340, rfl⟩
abbrev main_v225 : Ref sig .tc := ⟨.hbm, 341, rfl⟩
abbrev main_v226 : Ref sig .tc := ⟨.hbm, 342, rfl⟩
abbrev main_v227 : Ref sig .tc := ⟨.hbm, 343, rfl⟩
abbrev main_v228 : Ref sig .tc := ⟨.hbm, 344, rfl⟩
abbrev main_v229 : Ref sig .tc := ⟨.hbm, 345, rfl⟩
abbrev main_call14_v0 : Ref sig .tc := ⟨.hbm, 346, rfl⟩
abbrev main_call14_v1 : Ref sig .tc := ⟨.hbm, 347, rfl⟩
abbrev main_call14_cst : Ref sig .tc := ⟨.hbm, 348, rfl⟩
abbrev main_call14_v2 : Ref sig .tc := ⟨.hbm, 349, rfl⟩
abbrev main_call14_v3 : Ref sig .tc := ⟨.hbm, 350, rfl⟩
abbrev main_call14_cst_0 : Ref sig .tc := ⟨.hbm, 351, rfl⟩
abbrev main_call14_v4 : Ref sig .tc := ⟨.hbm, 352, rfl⟩
abbrev main_call14_v5 : Ref sig .tc := ⟨.hbm, 353, rfl⟩
abbrev main_v230 : Ref sig .tc := ⟨.hbm, 354, rfl⟩
abbrev main_v231 : Ref sig .tc := ⟨.hbm, 355, rfl⟩
abbrev main_v232 : Ref sig .tc := ⟨.hbm, 356, rfl⟩
abbrev main_v233 : Ref sig .tc := ⟨.hbm, 357, rfl⟩
abbrev main_v234 : Ref sig .tc := ⟨.hbm, 358, rfl⟩
abbrev main_v235 : Ref sig .tc := ⟨.hbm, 359, rfl⟩
abbrev main_v236 : Ref sig .tc := ⟨.hbm, 360, rfl⟩
abbrev main_v237 : Ref sig .tc := ⟨.hbm, 361, rfl⟩
abbrev main_v238 : Ref sig .tc := ⟨.hbm, 362, rfl⟩
abbrev main_v239 : Ref sig .tc := ⟨.hbm, 363, rfl⟩
abbrev main_v240 : Ref sig .tc := ⟨.hbm, 364, rfl⟩
abbrev main_v241 : Ref sig .tc := ⟨.hbm, 365, rfl⟩
abbrev main_v242 : Ref sig .tc := ⟨.hbm, 366, rfl⟩
abbrev main_v243 : Ref sig .tc := ⟨.hbm, 367, rfl⟩
abbrev main_v244 : Ref sig .tc := ⟨.hbm, 368, rfl⟩
abbrev main_v245 : Ref sig .tc := ⟨.hbm, 369, rfl⟩
abbrev main_call15_v0 : Ref sig .tc := ⟨.hbm, 370, rfl⟩
abbrev main_call15_v1 : Ref sig .tc := ⟨.hbm, 371, rfl⟩
abbrev main_call15_cst : Ref sig .tc := ⟨.hbm, 372, rfl⟩
abbrev main_call15_v2 : Ref sig .tc := ⟨.hbm, 373, rfl⟩
abbrev main_call15_v3 : Ref sig .tc := ⟨.hbm, 374, rfl⟩
abbrev main_call15_cst_0 : Ref sig .tc := ⟨.hbm, 375, rfl⟩
abbrev main_call15_v4 : Ref sig .tc := ⟨.hbm, 376, rfl⟩
abbrev main_call15_v5 : Ref sig .tc := ⟨.hbm, 377, rfl⟩
abbrev main_v246 : Ref sig .tc := ⟨.hbm, 378, rfl⟩
abbrev main_v247 : Ref sig .tc := ⟨.hbm, 379, rfl⟩
abbrev main_v248 : Ref sig .tc := ⟨.hbm, 380, rfl⟩
abbrev main_v249 : Ref sig .tc := ⟨.hbm, 381, rfl⟩
abbrev main_v250 : Ref sig .tc := ⟨.hbm, 382, rfl⟩
abbrev main_v251 : Ref sig .tc := ⟨.hbm, 383, rfl⟩
abbrev main_v252 : Ref sig .tc := ⟨.hbm, 384, rfl⟩
abbrev main_v253 : Ref sig .tc := ⟨.hbm, 385, rfl⟩
abbrev main_v254 : Ref sig .tc := ⟨.hbm, 386, rfl⟩
abbrev main_v255 : Ref sig .tc := ⟨.hbm, 387, rfl⟩
abbrev main_v256 : Ref sig .tc := ⟨.hbm, 388, rfl⟩
abbrev main_v257 : Ref sig .tc := ⟨.hbm, 389, rfl⟩
abbrev main_v258 : Ref sig .tc := ⟨.hbm, 390, rfl⟩
abbrev main_v259 : Ref sig .tc := ⟨.hbm, 391, rfl⟩
abbrev main_v260 : Ref sig .tc := ⟨.hbm, 392, rfl⟩
abbrev main_v261 : Ref sig .tc := ⟨.hbm, 393, rfl⟩
abbrev main_call16_v0 : Ref sig .tc := ⟨.hbm, 394, rfl⟩
abbrev main_call16_v1 : Ref sig .tc := ⟨.hbm, 395, rfl⟩
abbrev main_call16_cst : Ref sig .tc := ⟨.hbm, 396, rfl⟩
abbrev main_call16_v2 : Ref sig .tc := ⟨.hbm, 397, rfl⟩
abbrev main_call16_v3 : Ref sig .tc := ⟨.hbm, 398, rfl⟩
abbrev main_call16_cst_0 : Ref sig .tc := ⟨.hbm, 399, rfl⟩
abbrev main_call16_v4 : Ref sig .tc := ⟨.hbm, 400, rfl⟩
abbrev main_call16_v5 : Ref sig .tc := ⟨.hbm, 401, rfl⟩
abbrev main_v262 : Ref sig .tc := ⟨.hbm, 402, rfl⟩
abbrev main_v263 : Ref sig .tc := ⟨.hbm, 403, rfl⟩
abbrev main_v264 : Ref sig .tc := ⟨.hbm, 404, rfl⟩
abbrev main_v265 : Ref sig .tc := ⟨.hbm, 405, rfl⟩
abbrev main_v266 : Ref sig .tc := ⟨.hbm, 406, rfl⟩
abbrev main_v267 : Ref sig .tc := ⟨.hbm, 407, rfl⟩
abbrev main_v268 : Ref sig .tc := ⟨.hbm, 408, rfl⟩
abbrev main_v269 : Ref sig .tc := ⟨.hbm, 409, rfl⟩
abbrev main_v270 : Ref sig .tc := ⟨.hbm, 410, rfl⟩
abbrev main_v271 : Ref sig .tc := ⟨.hbm, 411, rfl⟩
abbrev main_v272 : Ref sig .tc := ⟨.hbm, 412, rfl⟩
abbrev main_v273 : Ref sig .tc := ⟨.hbm, 413, rfl⟩
abbrev main_v274 : Ref sig .tc := ⟨.hbm, 414, rfl⟩

abbrev nD : Nat := 1
abbrev τ : Topo := Topo.v7x

variable {F : FTy → Type} [FloatOps F]
-- ==== Kernel3Ideal.lean ====
abbrev S49152x1024 : Shape := ⟨2, ![49152, 1024]⟩
abbrev S48 : Shape := ⟨1, ![48]⟩
abbrev S1 : Shape := ⟨1, ![1]⟩
abbrev S2x16x1024x512 : Shape := ⟨4, ![2, 16, 1024, 512]⟩
abbrev S2x16x512x1024 : Shape := ⟨4, ![2, 16, 512, 1024]⟩
abbrev S49152x2x4x128 : Shape := ⟨4, ![49152, 2, 4, 128]⟩
abbrev S4x2x49152x128 : Shape := ⟨4, ![4, 2, 49152, 128]⟩
abbrev S49152 : Shape := ⟨1, ![49152]⟩
abbrev S49152x1 : Shape := ⟨2, ![49152, 1]⟩
abbrev S_ : Shape := ⟨0, ![]⟩
abbrev S4x2x1024x128 : Shape := ⟨4, ![4, 2, 1024, 128]⟩
abbrev S1x1x1024x512 : Shape := ⟨4, ![1, 1, 1024, 512]⟩
abbrev S1x1x512x1024 : Shape := ⟨4, ![1, 1, 512, 1024]⟩
abbrev S1024x512 : Shape := ⟨2, ![1024, 512]⟩
abbrev S512x1024 : Shape := ⟨2, ![512, 1024]⟩
abbrev S1x1x1024x128 : Shape := ⟨4, ![1, 1, 1024, 128]⟩
abbrev S1024x128 : Shape := ⟨2, ![1024, 128]⟩
abbrev S1024x1024 : Shape := ⟨2, ![1024, 1024]⟩

abbrev nBuf : Space → Nat
  | .hbm => 22
  | .vmem => 13
  | .smem => 2
  | _ => 0

abbrev bufTy : (tb : Table) → Fin (tcTables nBuf tb) → BufTy
  | .hbm, ⟨0, _⟩ => ⟨S49152x1024, .f32⟩
  | .hbm, ⟨1, _⟩ => ⟨S2x16x1024x512, .f32⟩
  | .hbm, ⟨2, _⟩ => ⟨S2x16x1024x512, .f32⟩
  | .hbm, ⟨3, _⟩ => ⟨S2x16x512x1024, .f32⟩
  | .hbm, ⟨4, _⟩ => ⟨S49152x2x4x128, .f32⟩
  | .hbm, ⟨5, _⟩ => ⟨S4x2x49152x128, .f32⟩
  | .hbm, ⟨6, _⟩ => ⟨S4x2x49152x128, .bf16⟩
  | .hbm, ⟨7, _⟩ => ⟨S49152, .i32⟩
  | .hbm, ⟨8, _⟩ => ⟨S49152x1, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S49152x1, .i32⟩
  | .hbm, ⟨13, _⟩ => ⟨S49152x1, .i1⟩
  | .hbm, ⟨14, _⟩ => ⟨S49152x1024, .i1⟩
  | .hbm, ⟨15, _⟩ => ⟨S4x2x49152x128, .bf16⟩
  | .hbm, ⟨16, _⟩ => ⟨S4x2x49152x128, .f32⟩
  | .hbm, ⟨17, _⟩ => ⟨S49152x2x4x128, .f32⟩
  | .hbm, ⟨18, _⟩ => ⟨S49152x1024, .f32⟩
  | .hbm, ⟨19, _⟩ => ⟨S_, .f32⟩
  | .hbm, ⟨20, _⟩ => ⟨S49152x1024, .f32⟩
  | .hbm, ⟨21, _⟩ => ⟨S49152x1024, .f32⟩
  | .local _ .vmem, ⟨0, _⟩ => ⟨S4x2x1024x128, .bf16⟩
  | .local _ .vmem, ⟨1, _⟩ => ⟨S4x2x1024x128, .bf16⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S4x2x1024x128, .bf16⟩
  | .local _ .vmem, ⟨9, _⟩ => ⟨S4x2x1024x128, .bf16⟩
  | .local _ .vmem, ⟨10, _⟩ => ⟨S1024x512, .bf16⟩
  | .local _ .vmem, ⟨11, _⟩ => ⟨S1024x512, .bf16⟩
  | .local _ .vmem, ⟨12, _⟩ => ⟨S512x1024, .bf16⟩
  | .local _ .smem, ⟨0, _⟩ => ⟨S48, .i32⟩
  | .local _ .smem, ⟨1, _⟩ => ⟨S1, .i32⟩
  | _, _ => ⟨S49152x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![48], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  let c0_i32_1 : BitVec 32 := 0#32
  let c0_i32_2 : BitVec 32 := 0#32
  ![c0_i32.toNat, c0_i32_0.toNat, v2.toNat, c0_i32_1.toNat]

def cc0_transform_1 (k0_off1_inb : ∀ i : grid0.Coords, ∀ a, (k0_off1 i) a + S1.size a ≤ S48.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S48) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_2 (k0_off1_inb : ∀ i : grid0.Coords, ∀ a, (k0_off1 i) a + S1.size a ≤ S48.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S48) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_3 (k0_off1_inb : ∀ i : grid0.Coords, ∀ a, (k0_off1 i) a + S1.size a ≤ S48.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S48) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  let c0_i32_1 : BitVec 32 := 0#32
  let c0_i32_2 : BitVec 32 := 0#32
  ![c0_i32.toNat, c0_i32_0.toNat, v2.toNat, c0_i32_1.toNat]

abbrev stage0_0 : Fin 2 → Memref sig .tc .vmem S4x2x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x2x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S49152x1024 : Shape := ⟨2, ![49152, 1024]⟩
abbrev S48 : Shape := ⟨1, ![48]⟩
abbrev S1 : Shape := ⟨1, ![1]⟩
abbrev S2x16x1024x512 : Shape := ⟨4, ![2, 16, 1024, 512]⟩
abbrev S2x16x512x1024 : Shape := ⟨4, ![2, 16, 512, 1024]⟩
abbrev S49152 : Shape := ⟨1, ![49152]⟩
abbrev S_ : Shape := ⟨0, ![]⟩
abbrev S48x1 : Shape := ⟨2, ![48, 1]⟩
abbrev S48x1024 : Shape := ⟨2, ![48, 1024]⟩
abbrev S49152x1 : Shape := ⟨2, ![49152, 1]⟩
abbrev S16 : Shape := ⟨1, ![16]⟩
abbrev S1x16 : Shape := ⟨2, ![1, 16]⟩
abbrev S49152x16 : Shape := ⟨2, ![49152, 16]⟩
abbrev S1x1x1024x512 : Shape := ⟨4, ![1, 1, 1024, 512]⟩
abbrev S1024x512 : Shape := ⟨2, ![1024, 512]⟩
abbrev S49152x512 : Shape := ⟨2, ![49152, 512]⟩
abbrev S1x1x512x1024 : Shape := ⟨4, ![1, 1, 512, 1024]⟩
abbrev S512x1024 : Shape := ⟨2, ![512, 1024]⟩

abbrev nBuf : Space → Nat
  | .hbm => 415
  | .vmem => 0
  | .smem => 0
  | _ => 0

abbrev hbmTy0_0 (i : Nat) : BufTy := match i % 128 with
  | 0 => ⟨S49152x1024, .f32⟩
  | 1 => ⟨S48, .i32⟩
  | 2 => ⟨S1, .i32⟩
  | 3 => ⟨S2x16x1024x512, .f32⟩
  | 4 => ⟨S2x16x1024x512, .f32⟩
  | 5 => ⟨S2x16x512x1024, .f32⟩
  | 6 => ⟨S49152, .i32⟩
  | 7 => ⟨S_, .i32⟩
  | 8 => ⟨S_, .i32⟩
  | 9 => ⟨S_, .i32⟩
  | 10 => ⟨S49152, .i32⟩
  | 11 => ⟨S49152, .i1⟩
  | 12 => ⟨S48x1, .i32⟩
  | 13 => ⟨S48x1024, .i32⟩
  | 14 => ⟨S49152, .i32⟩
  | 15 => ⟨S49152x1, .i1⟩
  | 16 => ⟨S49152x1, .i32⟩
  | 17 => ⟨S16, .i32⟩
  | 18 => ⟨S1x16, .i32⟩
  | 19 => ⟨S49152x16, .i32⟩
  | 20 => ⟨S49152x16, .i32⟩
  | 21 => ⟨S49152x16, .i1⟩
  | 22 => ⟨S49152x16, .i1⟩
  | 23 => ⟨S49152x16, .i1⟩
  | 24 => ⟨S_, .f32⟩
  | 25 => ⟨S_, .f32⟩
  | 26 => ⟨S49152x16, .f32⟩
  | 27 => ⟨S49152x16, .f32⟩
  | 28 => ⟨S49152x16, .f32⟩
  | 29 => ⟨S_, .f32⟩
  | 30 => ⟨S49152x1024, .f32⟩
  | 31 => ⟨S1x1x1024x512, .f32⟩
  | 32 => ⟨S1024x512, .f32⟩
  | 33 => ⟨S49152x512, .f32⟩
  | 34 => ⟨S49152x512, .f32⟩
  | 35 => ⟨S49152x512, .f32⟩
  | 36 => ⟨S_, .f32⟩
  | 37 => ⟨S49152x512, .f32⟩
  | 38 => ⟨S49152x512, .f32⟩
  | 39 => ⟨S_, .f32⟩
  | 40 => ⟨S49152x512, .f32⟩
  | 41 => ⟨S49152x512, .f32⟩
  | 42 => ⟨S49152x512, .f32⟩
  | 43 => ⟨S1x1x1024x512, .f32⟩
  | 44 => ⟨S1024x512, .f32⟩
  | 45 => ⟨S49152x512, .f32⟩
  | 46 => ⟨S49152x512, .f32⟩
  | 47 => ⟨S49152x1, .f32⟩
  | 48 => ⟨S1x1x512x1024, .f32⟩
  | 49 => ⟨S512x1024, .f32⟩
  | 50 => ⟨S49152x1024, .f32⟩
  | 51 => ⟨S49152x1, .f32⟩
  | 52 => ⟨S49152x1024, .f32⟩
  | 53 => ⟨S49152x1024, .f32⟩
  | 54 => ⟨S49152x1024, .f32⟩
  | 55 => ⟨S1x1x1024x512, .f32⟩
  | 56 => ⟨S1024x512, .f32⟩
  | 57 => ⟨S49152x512, .f32⟩
  | 58 => ⟨S49152x512, .f32⟩
  | 59 => ⟨S49152x512, .f32⟩
  | 60 => ⟨S_, .f32⟩
  | 61 => ⟨S49152x512, .f32⟩
  | 62 => ⟨S49152x512, .f32⟩
  | 63 => ⟨S_, .f32⟩
  | 64 => ⟨S49152x512, .f32⟩
  | 65 => ⟨S49152x512, .f32⟩
  | 66 => ⟨S49152x512, .f32⟩
  | 67 => ⟨S1x1x1024x512, .f32⟩
  | 68 => ⟨S1024x512, .f32⟩
  | 69 => ⟨S49152x512, .f32⟩
  | 70 => ⟨S49152x512, .f32⟩
  | 71 => ⟨S49152x1, .f32⟩
  | 72 => ⟨S1x1x512x1024, .f32⟩
  | 73 => ⟨S512x1024, .f32⟩
  | 74 => ⟨S49152x1024, .f32⟩
  | 75 => ⟨S49152x1, .f32⟩
  | 76 => ⟨S49152x1024, .f32⟩
  | 77 => ⟨S49152x1024, .f32⟩
  | 78 => ⟨S49152x1024, .f32⟩
  | 79 => ⟨S1x1x1024x512, .f32⟩
  | 80 => ⟨S1024x512, .f32⟩
  | 81 => ⟨S49152x512, .f32⟩
  | 82 => ⟨S49152x512, .f32⟩
  | 83 => ⟨S49152x512, .f32⟩
  | 84 => ⟨S_, .f32⟩
  | 85 => ⟨S49152x512, .f32⟩
  | 86 => ⟨S49152x512, .f32⟩
  | 87 => ⟨S_, .f32⟩
  | 88 => ⟨S49152x512, .f32⟩
  | 89 => ⟨S49152x512, .f32⟩
  | 90 => ⟨S49152x512, .f32⟩
  | 91 => ⟨S1x1x1024x512, .f32⟩
  | 92 => ⟨S1024x512, .f32⟩
  | 93 => ⟨S49152x512, .f32⟩
  | 94 => ⟨S49152x512, .f32⟩
  | 95 => ⟨S49152x1, .f32⟩
  | 96 => ⟨S1x1x512x1024, .f32⟩
  | 97 => ⟨S512x1024, .f32⟩
  | 98 => ⟨S49152x1024, .f32⟩
  | 99 => ⟨S49152x1, .f32⟩
  | 100 => ⟨S49152x1024, .f32⟩
  | 101 => ⟨S49152x1024, .f32⟩
  | 102 => ⟨S49152x1024, .f32⟩
  | 103 => ⟨S1x1x1024x512, .f32⟩
  | 104 => ⟨S1024x512, .f32⟩
  | 105 => ⟨S49152x512, .f32⟩
  | 106 => ⟨S49152x512, .f32⟩
  | 107 => ⟨S49152x512, .f32⟩
  | 108 => ⟨S_, .f32⟩
  | 109 => ⟨S49152x512, .f32⟩
  | 110 => ⟨S49152x512, .f32⟩
  | 111 => ⟨S_, .f32⟩
  | 112 => ⟨S49152x512, .f32⟩
  | 113 => ⟨S49152x512, .f32⟩
  | 114 => ⟨S49152x512, .f32⟩
  | 115 => ⟨S1x1x1024x512, .f32⟩
  | 116 => ⟨S1024x512, .f32⟩
  | 117 => ⟨S49152x512, .f32⟩
  | 118 => ⟨S49152x512, .f32⟩
  | 119 => ⟨S49152x1, .f32⟩
  | 120 => ⟨S1x1x512x1024, .f32⟩
  | 121 => ⟨S512x1024, .f32⟩
  | 122 => ⟨S49152x1024, .f32⟩
  | 123 => ⟨S49152x1, .f32⟩
  | 124 => ⟨S49152x1024, .f32⟩
  | 125 => ⟨S49152x1024, .f32⟩
  | 126 => ⟨S49152x1024, .f32⟩
  | 127 => ⟨S1x1x1024x512, .f32⟩
  | _ => ⟨S49152x1024, .f32⟩

abbrev hbmTy0_1 (i : Nat) : BufTy := match i % 128 with
  | 0 => ⟨S1024x512, .f32⟩
  | 1 => ⟨S49152x512, .f32⟩
  | 2 => ⟨S49152x512, .f32⟩
  | 3 => ⟨S49152x512, .f32⟩
  | 4 => ⟨S_, .f32⟩
  | 5 => ⟨S49152x512, .f32⟩
  | 6 => ⟨S49152x512, .f32⟩
  | 7 => ⟨S_, .f32⟩
  | 8 => ⟨S49152x512, .f32⟩
  | 9 => ⟨S49152x512, .f32⟩
  | 10 => ⟨S49152x512, .f32⟩
  | 11 => ⟨S1x1x1024x512, .f32⟩
  | 12 => ⟨S1024x512, .f32⟩
  | 13 => ⟨S49152x512, .f32⟩
  | 14 => ⟨S49152x512, .f32⟩
  | 15 => ⟨S49152x1, .f32⟩
  | 16 => ⟨S1x1x512x1024, .f32⟩
  | 17 => ⟨S512x1024, .f32⟩
  | 18 => ⟨S49152x1024, .f32⟩
  | 19 => ⟨S49152x1, .f32⟩
  | 20 => ⟨S49152x1024, .f32⟩
  | 21 => ⟨S49152x1024, .f32⟩
  | 22 => ⟨S49152x1024, .f32⟩
  | 23 => ⟨S1x1x1024x512, .f32⟩
  | 24 => ⟨S1024x512, .f32⟩
  | 25 => ⟨S49152x512, .f32⟩
  | 26 => ⟨S49152x512, .f32⟩
  | 27 => ⟨S49152x512, .f32⟩
  | 28 => ⟨S_, .f32⟩
  | 29 => ⟨S49152x512, .f32⟩
  | 30 => ⟨S49152x512, .f32⟩
  | 31 => ⟨S_, .f32⟩
  | 32 => ⟨S49152x512, .f32⟩
  | 33 => ⟨S49152x512, .f32⟩
  | 34 => ⟨S49152x512, .f32⟩
  | 35 => ⟨S1x1x1024x512, .f32⟩
  | 36 => ⟨S1024x512, .f32⟩
  | 37 => ⟨S49152x512, .f32⟩
  | 38 => ⟨S49152x512, .f32⟩
  | 39 => ⟨S49152x1, .f32⟩
  | 40 => ⟨S1x1x512x1024, .f32⟩
  | 41 => ⟨S512x1024, .f32⟩
  | 42 => ⟨S49152x1024, .f32⟩
  | 43 => ⟨S49152x1, .f32⟩
  | 44 => ⟨S49152x1024, .f32⟩
  | 45 => ⟨S49152x1024, .f32⟩
  | 46 => ⟨S49152x1024, .f32⟩
  | 47 => ⟨S1x1x1024x512, .f32⟩
  | 48 => ⟨S1024x512, .f32⟩
  | 49 => ⟨S49152x512, .f32⟩
  | 50 => ⟨S49152x512, .f32⟩
  | 51 => ⟨S49152x512, .f32⟩
  | 52 => ⟨S_, .f32⟩
  | 53 => ⟨S49152x512, .f32⟩
  | 54 => ⟨S49152x512, .f32⟩
  | 55 => ⟨S_, .f32⟩
  | 56 => ⟨S49152x512, .f32⟩
  | 57 => ⟨S49152x512, .f32⟩
  | 58 => ⟨S49152x512, .f32⟩
  | 59 => ⟨S1x1x1024x512, .f32⟩
  | 60 => ⟨S1024x512, .f32⟩
  | 61 => ⟨S49152x512, .f32⟩
  | 62 => ⟨S49152x512, .f32⟩
  | 63 => ⟨S49152x1, .f32⟩
  | 64 => ⟨S1x1x512x1024, .f32⟩
  | 65 => ⟨S512x1024, .f32⟩
  | 66 => ⟨S49152x1024, .f32⟩
  | 67 => ⟨S49152x1, .f32⟩
  | 68 => ⟨S49152x1024, .f32⟩
  | 69 => ⟨S49152x1024, .f32⟩
  | 70 => ⟨S49152x1024, .f32⟩
  | 71 => ⟨S1x1x1024x512, .f32⟩
  | 72 => ⟨S1024x512, .f32⟩
  | 73 => ⟨S49152x512, .f32⟩
  | 74 => ⟨S49152x512, .f32⟩
  | 75 => ⟨S49152x512, .f32⟩
  | 76 => ⟨S_, .f32⟩
  | 77 => ⟨S49152x512, .f32⟩
  | 78 => ⟨S49152x512, .f32⟩
  | 79 => ⟨S_, .f32⟩
  | 80 => ⟨S49152x512, .f32⟩
  | 81 => ⟨S49152x512, .f32⟩
  | 82 => ⟨S49152x512, .f32⟩
  | 83 => ⟨S1x1x1024x512, .f32⟩
  | 84 => ⟨S1024x512, .f32⟩
  | 85 => ⟨S49152x512, .f32⟩
  | 86 => ⟨S49152x512, .f32⟩
  | 87 => ⟨S49152x1, .f32⟩
  | 88 => ⟨S1x1x512x1024, .f32⟩
  | 89 => ⟨S512x1024, .f32⟩
  | 90 => ⟨S49152x1024, .f32⟩
  | 91 => ⟨S49152x1, .f32⟩
  | 92 => ⟨S49152x1024, .f32⟩
  | 93 => ⟨S49152x1024, .f32⟩
  | 94 => ⟨S49152x1024, .f32⟩
  | 95 => ⟨S1x1x1024x512, .f32⟩
  | 96 => ⟨S1024x512, .f32⟩
  | 97 => ⟨S49152x512, .f32⟩
  | 98 => ⟨S49152x512, .f32⟩
  | 99 => ⟨S49152x512, .f32⟩
  | 100 => ⟨S_, .f32⟩
  | 101 => ⟨S49152x512, .f32⟩
  | 102 => ⟨S49152x512, .f32⟩
  | 103 => ⟨S_, .f32⟩
  | 104 => ⟨S49152x512, .f32⟩
  | 105 => ⟨S49152x512, .f32⟩
  | 106 => ⟨S49152x512, .f32⟩
  | 107 => ⟨S1x1x1024x512, .f32⟩
  | 108 => ⟨S1024x512, .f32⟩
  | 109 => ⟨S49152x512, .f32⟩
  | 110 => ⟨S49152x512, .f32⟩
  | 111 => ⟨S49152x1, .f32⟩
  | 112 => ⟨S1x1x512x1024, .f32⟩
  | 113 => ⟨S512x1024, .f32⟩
  | 114 => ⟨S49152x1024, .f32⟩
  | 115 => ⟨S49152x1, .f32⟩
  | 116 => ⟨S49152x1024, .f32⟩
  | 117 => ⟨S49152x1024, .f32⟩
  | 118 => ⟨S49152x1024, .f32⟩
  | 119 => ⟨S1x1x1024x512, .f32⟩
  | 120 => ⟨S1024x512, .f32⟩
  | 121 => ⟨S49152x512, .f32⟩
  | 122 => ⟨S49152x512, .f32⟩
  | 123 => ⟨S49152x512, .f32⟩
  | 124 => ⟨S_, .f32⟩
  | 125 => ⟨S49152x512, .f32⟩
  | 126 => ⟨S49152x512, .f32⟩
  | 127 => ⟨S_, .f32⟩
  | _ => ⟨S49152x1024, .f32⟩

abbrev hbmTy0_2 (i : Nat) : BufTy := match i % 128 with
  | 0 => ⟨S49152x512, .f32⟩
  | 1 => ⟨S49152x512, .f32⟩
  | 2 => ⟨S49152x512, .f32⟩
  | 3 => ⟨S1x1x1024x512, .f32⟩
  | 4 => ⟨S1024x512, .f32⟩
  | 5 => ⟨S49152x512, .f32⟩
  | 6 => ⟨S49152x512, .f32⟩
  | 7 => ⟨S49152x1, .f32⟩
  | 8 => ⟨S1x1x512x1024, .f32⟩
  | 9 => ⟨S512x1024, .f32⟩
  | 10 => ⟨S49152x1024, .f32⟩
  | 11 => ⟨S49152x1, .f32⟩
  | 12 => ⟨S49152x1024, .f32⟩
  | 13 => ⟨S49152x1024, .f32⟩
  | 14 => ⟨S49152x1024, .f32⟩
  | 15 => ⟨S1x1x1024x512, .f32⟩
  | 16 => ⟨S1024x512, .f32⟩
  | 17 => ⟨S49152x512, .f32⟩
  | 18 => ⟨S49152x512, .f32⟩
  | 19 => ⟨S49152x512, .f32⟩
  | 20 => ⟨S_, .f32⟩
  | 21 => ⟨S49152x512, .f32⟩
  | 22 => ⟨S49152x512, .f32⟩
  | 23 => ⟨S_, .f32⟩
  | 24 => ⟨S49152x512, .f32⟩
  | 25 => ⟨S49152x512, .f32⟩
  | 26 => ⟨S49152x512, .f32⟩
  | 27 => ⟨S1x1x1024x512, .f32⟩
  | 28 => ⟨S1024x512, .f32⟩
  | 29 => ⟨S49152x512, .f32⟩
  | 30 => ⟨S49152x512, .f32⟩
  | 31 => ⟨S49152x1, .f32⟩
  | 32 => ⟨S1x1x512x1024, .f32⟩
  | 33 => ⟨S512x1024, .f32⟩
  | 34 => ⟨S49152x1024, .f32⟩
  | 35 => ⟨S49152x1, .f32⟩
  | 36 => ⟨S49152x1024, .f32⟩
  | 37 => ⟨S49152x1024, .f32⟩
  | 38 => ⟨S49152x1024, .f32⟩
  | 39 => ⟨S1x1x1024x512, .f32⟩
  | 40 => ⟨S1024x512, .f32⟩
  | 41 => ⟨S49152x512, .f32⟩
  | 42 => ⟨S49152x512, .f32⟩
  | 43 => ⟨S49152x512, .f32⟩
  | 44 => ⟨S_, .f32⟩
  | 45 => ⟨S49152x512, .f32⟩
  | 46 => ⟨S49152x512, .f32⟩
  | 47 => ⟨S_, .f32⟩
  | 48 => ⟨S49152x512, .f32⟩
  | 49 => ⟨S49152x512, .f32⟩
  | 50 => ⟨S49152x512, .f32⟩
  | 51 => ⟨S1x1x1024x512, .f32⟩
  | 52 => ⟨S1024x512, .f32⟩
  | 53 => ⟨S49152x512, .f32⟩
  | 54 => ⟨S49152x512, .f32⟩
  | 55 => ⟨S49152x1, .f32⟩
  | 56 => ⟨S1x1x512x1024, .f32⟩
  | 57 => ⟨S512x1024, .f32⟩
  | 58 => ⟨S49152x1024, .f32⟩
  | 59 => ⟨S49152x1, .f32⟩
  | 60 => ⟨S49152x1024, .f32⟩
  | 61 => ⟨S49152x1024, .f32⟩
  | 62 => ⟨S49152x1024, .f32⟩
  | 63 => ⟨S1x1x1024x512, .f32⟩
  | 64 => ⟨S1024x512, .f32⟩
  | 65 => ⟨S49152x512, .f32⟩
  | 66 => ⟨S49152x512, .f32⟩
  | 67 => ⟨S49152x512, .f32⟩
  | 68 => ⟨S_, .f32⟩
  | 69 => ⟨S49152x512, .f32⟩
  | 70 => ⟨S49152x512, .f32⟩
  | 71 => ⟨S_, .f32⟩
  | 72 => ⟨S49152x512, .f32⟩
  | 73 => ⟨S49152x512, .f32⟩
  | 74 => ⟨S49152x512, .f32⟩
  | 75 => ⟨S1x1x1024x512, .f32⟩
  | 76 => ⟨S1024x512, .f32⟩
  | 77 => ⟨S49152x512, .f32⟩
  | 78 => ⟨S49152x512, .f32⟩
  | 79 => ⟨S49152x1, .f32⟩
  | 80 => ⟨S1x1x512x1024, .f32⟩
  | 81 => ⟨S512x1024, .f32⟩
  | 82 => ⟨S49152x1024, .f32⟩
  | 83 => ⟨S49152x1, .f32⟩
  | 84 => ⟨S49152x1024, .f32⟩
  | 85 => ⟨S49152x1024, .f32⟩
  | 86 => ⟨S49152x1024, .f32⟩
  | 87 => ⟨S1x1x1024x512, .f32⟩
  | 88 => ⟨S1024x512, .f32⟩
  | 89 => ⟨S49152x512, .f32⟩
  | 90 => ⟨S49152x512, .f32⟩
  | 91 => ⟨S49152x512, .f32⟩
  | 92 => ⟨S_, .f32⟩
  | 93 => ⟨S49152x512, .f32⟩
  | 94 => ⟨S49152x512, .f32⟩
  | 95 => ⟨S_, .f32⟩
  | 96 => ⟨S49152x512, .f32⟩
  | 97 => ⟨S49152x512, .f32⟩
  | 98 => ⟨S49152x512, .f32⟩
  | 99 => ⟨S1x1x1024x512, .f32⟩
  | 100 => ⟨S1024x512, .f32⟩
  | 101 => ⟨S49152x512, .f32⟩
  | 102 => ⟨S49152x512, .f32⟩
  | 103 => ⟨S49152x1, .f32⟩
  | 104 => ⟨S1x1x512x1024, .f32⟩
  | 105 => ⟨S512x1024, .f32⟩
  | 106 => ⟨S49152x1024, .f32⟩
  | 107 => ⟨S49152x1, .f32⟩
  | 108 => ⟨S49152x1024, .f32⟩
  | 109 => ⟨S49152x1024, .f32⟩
  | 110 => ⟨S49152x1024, .f32⟩
  | 111 => ⟨S1x1x1024x512, .f32⟩
  | 112 => ⟨S1024x512, .f32⟩
  | 113 => ⟨S49152x512, .f32⟩
  | 114 => ⟨S49152x512, .f32⟩
  | 115 => ⟨S49152x512, .f32⟩
  | 116 => ⟨S_, .f32⟩
  | 117 => ⟨S49152x512, .f32⟩
  | 118 => ⟨S49152x512, .f32⟩
  | 119 => ⟨S_, .f32⟩
  | 120 => ⟨S49152x512, .f32⟩
  | 121 => ⟨S49152x512, .f32⟩
  | 122 => ⟨S49152x512, .f32⟩
  | 123 => ⟨S1x1x1024x512, .f32⟩
  | 124 => ⟨S1024x512, .f32⟩
  | 125 => ⟨S49152x512, .f32⟩
  | 126 => ⟨S49152x512, .f32⟩
  | 127 => ⟨S49152x1, .f32⟩
  | _ => ⟨S49152x1024, .f32⟩

abbrev hbmTy0_3 (i : Nat) : BufTy := match i % 128 with
  | 0 => ⟨S1x1x512x1024, .f32⟩
  | 1 => ⟨S512x1024, .f32⟩
  | 2 => ⟨S49152x1024, .f32⟩
  | 3 => ⟨S49152x1, .f32⟩
  | 4 => ⟨S49152x1024, .f32⟩
  | 5 => ⟨S49152x1024, .f32⟩
  | 6 => ⟨S49152x1024, .f32⟩
  | 7 => ⟨S1x1x1024x512, .f32⟩
  | 8 => ⟨S1024x512, .f32⟩
  | 9 => ⟨S49152x512, .f32⟩
  | 10 => ⟨S49152x512, .f32⟩
  | 11 => ⟨S49152x512, .f32⟩
  | 12 => ⟨S_, .f32⟩
  | 13 => ⟨S49152x512, .f32⟩
  | 14 => ⟨S49152x512, .f32⟩
  | 15 => ⟨S_, .f32⟩
  | 16 => ⟨S49152x512, .f32⟩
  | 17 => ⟨S49152x512, .f32⟩
  | 18 => ⟨S49152x512, .f32⟩
  | 19 => ⟨S1x1x1024x512, .f32⟩
  | 20 => ⟨S1024x512, .f32⟩
  | 21 => ⟨S49152x512, .f32⟩
  | 22 => ⟨S49152x512, .f32⟩
  | 23 => ⟨S49152x1, .f32⟩
  | 24 => ⟨S1x1x512x1024, .f32⟩
  | 25 => ⟨S512x1024, .f32⟩
  | 26 => ⟨S49152x1024, .f32⟩
  | 27 => ⟨S49152x1, .f32⟩
  | 28 => ⟨S49152x1024, .f32⟩
  | 29 => ⟨S49152x1024, .f32⟩
  | 30 => ⟨S49152x1024, .f32⟩
  | _ => ⟨S49152x1024, .f32⟩

abbrev hbmTy (i : Nat) : BufTy := match i / 128 with
  | 0 => hbmTy0_0 i
  | 1 => hbmTy0_1 i
  | 2 => hbmTy0_2 i
  | 3 => hbmTy0_3 i
  | _ => ⟨S49152x1024, .f32⟩

abbrev bufTy : (tb : Table) → Fin (tcTables nBuf tb) → BufTy
  | .hbm, ⟨i, _⟩ => hbmTy i
  | _, _ => ⟨S49152x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call1_v0 : Ref sig .tc := ⟨.hbm, 34, rfl⟩
abbrev main_call1_v1 : Ref sig .tc := ⟨.hbm, 35, rfl⟩
abbrev main_call1_cst : Ref sig .tc := ⟨.hbm, 36, rfl⟩
abbrev main_call1_v2 : Ref sig .tc := ⟨.hbm, 37, rfl⟩
abbrev main_call1_v3 : Ref sig .tc := ⟨.hbm, 38, rfl⟩
abbrev main_call1_cst_0 : Ref sig .tc := ⟨.hbm, 39, rfl⟩
abbrev main_call1_v4 : Ref sig .tc := ⟨.hbm, 40, rfl⟩
abbrev main_call1_v5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_call2_v0 : Ref sig .tc := ⟨.hbm, 58, rfl⟩
abbrev main_call2_v1 : Ref sig .tc := ⟨.hbm, 59, rfl⟩
abbrev main_call2_cst : Ref sig .tc := ⟨.hbm, 60, rfl⟩
abbrev main_call2_v2 : Ref sig .tc := ⟨.hbm, 61, rfl⟩
abbrev main_call2_v3 : Ref sig .tc := ⟨.hbm, 62, rfl⟩
abbrev main_call2_cst_0 : Ref sig .tc := ⟨.hbm, 63, rfl⟩
abbrev main_call2_v4 : Ref sig .tc := ⟨.hbm, 64, rfl⟩
abbrev main_call2_v5 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_call3_v0 : Ref sig .tc := ⟨.hbm, 82, rfl⟩
abbrev main_call3_v1 : Ref sig .tc := ⟨.hbm, 83, rfl⟩
abbrev main_call3_cst : Ref sig .tc := ⟨.hbm, 84, rfl⟩
abbrev main_call3_v2 : Ref sig .tc := ⟨.hbm, 85, rfl⟩
abbrev main_call3_v3 : Ref sig .tc := ⟨.hbm, 86, rfl⟩
abbrev main_call3_cst_0 : Ref sig .tc := ⟨.hbm, 87, rfl⟩
abbrev main_call3_v4 : Ref sig .tc := ⟨.hbm, 88, rfl⟩
abbrev main_call3_v5 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_call4_v0 : Ref sig .tc := ⟨.hbm, 106, rfl⟩
abbrev main_call4_v1 : Ref sig .tc := ⟨.hbm, 107, rfl⟩
abbrev main_call4_cst : Ref sig .tc := ⟨.hbm, 108, rfl⟩
abbrev main_call4_v2 : Ref sig .tc := ⟨.hbm, 109, rfl⟩
abbrev main_call4_v3 : Ref sig .tc := ⟨.hbm, 110, rfl⟩
abbrev main_call4_cst_0 : Ref sig .tc := ⟨.hbm, 111, rfl⟩
abbrev main_call4_v4 : Ref sig .tc := ⟨.hbm, 112, rfl⟩
abbrev main_call4_v5 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_call5_v0 : Ref sig .tc := ⟨.hbm, 130, rfl⟩
abbrev main_call5_v1 : Ref sig .tc := ⟨.hbm, 131, rfl⟩
abbrev main_call5_cst : Ref sig .tc := ⟨.hbm, 132, rfl⟩
abbrev main_call5_v2 : Ref sig .tc := ⟨.hbm, 133, rfl⟩
abbrev main_call5_v3 : Ref sig .tc := ⟨.hbm, 134, rfl⟩
abbrev main_call5_cst_0 : Ref sig .tc := ⟨.hbm, 135, rfl⟩
abbrev main_call5_v4 : Ref sig .tc := ⟨.hbm, 136, rfl⟩
abbrev main_call5_v5 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_call6_v0 : Ref sig .tc := ⟨.hbm, 154, rfl⟩
abbrev main_call6_v1 : Ref sig .tc := ⟨.hbm, 155, rfl⟩
abbrev main_call6_cst : Ref sig .tc := ⟨.hbm, 156, rfl⟩
abbrev main_call6_v2 : Ref sig .tc := ⟨.hbm, 157, rfl⟩
abbrev main_call6_v3 : Ref sig .tc := ⟨.hbm, 158, rfl⟩
abbrev main_call6_cst_0 : Ref sig .tc := ⟨.hbm, 159, rfl⟩
abbrev main_call6_v4 : Ref sig .tc := ⟨.hbm, 160, rfl⟩
abbrev main_call6_v5 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_call7_v0 : Ref sig .tc := ⟨.hbm, 178, rfl⟩
abbrev main_call7_v1 : Ref sig .tc := ⟨.hbm, 179, rfl⟩
abbrev main_call7_cst : Ref sig .tc := ⟨.hbm, 180, rfl⟩
abbrev main_call7_v2 : Ref sig .tc := ⟨.hbm, 181, rfl⟩
abbrev main_call7_v3 : Ref sig .tc := ⟨.hbm, 182, rfl⟩
abbrev main_call7_cst_0 : Ref sig .tc := ⟨.hbm, 183, rfl⟩
abbrev main_call7_v4 : Ref sig .tc := ⟨.hbm, 184, rfl⟩
abbrev main_call7_v5 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_v126 : Ref sig .tc := ⟨.hbm, 194, rfl⟩
abbrev main_v127 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_v133 : Ref sig .tc := ⟨.hbm, 201, rfl⟩
abbrev main_call8_v0 : Ref sig .tc := ⟨.hbm, 202, rfl⟩
abbrev main_call8_v1 : Ref sig .tc := ⟨.hbm, 203, rfl⟩
abbrev main_call8_cst : Ref sig .tc := ⟨.hbm, 204, rfl⟩
abbrev main_call8_v2 : Ref sig .tc := ⟨.hbm, 205, rfl⟩
abbrev main_call8_v3 : Ref sig .tc := ⟨.hbm, 206, rfl⟩
abbrev main_call8_cst_0 : Ref sig .tc := ⟨.hbm, 207, rfl⟩
abbrev main_call8_v4 : Ref sig .tc := ⟨.hbm, 208, rfl⟩
abbrev main_call8_v5 : Ref sig .tc := ⟨.hbm, 209, rfl⟩
abbrev main_v134 : Ref sig .tc := ⟨.hbm, 210, rfl⟩
abbrev main_v135 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_v139 : Ref sig .tc := ⟨.hbm, 215, rfl⟩
abbrev main_v140 : Ref sig .tc := ⟨.hbm, 216, rfl⟩
abbrev main_v141 : Ref sig .tc := ⟨.hbm, 217, rfl⟩
abbrev main_v142 : Ref sig .tc := ⟨.hbm, 218, rfl⟩
abbrev main_v143 : Ref sig .tc := ⟨.hbm, 219, rfl⟩
abbrev main_v144 : Ref sig .tc := ⟨.hbm, 220, rfl⟩
abbrev main_v145 : Ref sig .tc := ⟨.hbm, 221, rfl⟩
abbrev main_v146 : Ref sig .tc := ⟨.hbm, 222, rfl⟩
abbrev main_v147 : Ref sig .tc := ⟨.hbm, 223, rfl⟩
abbrev main_v148 : Ref sig .tc := ⟨.hbm, 224, rfl⟩
abbrev main_v149 : Ref sig .tc := ⟨.hbm, 225, rfl⟩
abbrev main_call9_v0 : Ref sig .tc := ⟨.hbm, 226, rfl⟩
abbrev main_call9_v1 : Ref sig .tc := ⟨.hbm, 227, rfl⟩
abbrev main_call9_cst : Ref sig .tc := ⟨.hbm, 228, rfl⟩
abbrev main_call9_v2 : Ref sig .tc := ⟨.hbm, 229, rfl⟩
abbrev main_call9_v3 : Ref sig .tc := ⟨.hbm, 230, rfl⟩
abbrev main_call9_cst_0 : Ref sig .tc := ⟨.hbm, 231, rfl⟩
abbrev main_call9_v4 : Ref sig .tc := ⟨.hbm, 232, rfl⟩
abbrev main_call9_v5 : Ref sig .tc := ⟨.hbm, 233, rfl⟩
abbrev main_v150 : Ref sig .tc := ⟨.hbm, 234, rfl⟩
abbrev main_v151 : Ref sig .tc := ⟨.hbm, 235, rfl⟩
abbrev main_v152 : Ref sig .tc := ⟨.hbm, 236, rfl⟩
abbrev main_v153 : Ref sig .tc := ⟨.hbm, 237, rfl⟩
abbrev main_v154 : Ref sig .tc := ⟨.hbm, 238, rfl⟩
abbrev main_v155 : Ref sig .tc := ⟨.hbm, 239, rfl⟩
abbrev main_v156 : Ref sig .tc := ⟨.hbm, 240, rfl⟩
abbrev main_v157 : Ref sig .tc := ⟨.hbm, 241, rfl⟩
abbrev main_v158 : Ref sig .tc := ⟨.hbm, 242, rfl⟩
abbrev main_v159 : Ref sig .tc := ⟨.hbm, 243, rfl⟩
abbrev main_v160 : Ref sig .tc := ⟨.hbm, 244, rfl⟩
abbrev main_v161 : Ref sig .tc := ⟨.hbm, 245, rfl⟩
abbrev main_v162 : Ref sig .tc := ⟨.hbm, 246, rfl⟩
abbrev main_v163 : Ref sig .tc := ⟨.hbm, 247, rfl⟩
abbrev main_v164 : Ref sig .tc := ⟨.hbm, 248, rfl⟩
abbrev main_v165 : Ref sig .tc := ⟨.hbm, 249, rfl⟩
abbrev main_call10_v0 : Ref sig .tc := ⟨.hbm, 250, rfl⟩
abbrev main_call10_v1 : Ref sig .tc := ⟨.hbm, 251, rfl⟩
abbrev main_call10_cst : Ref sig .tc := ⟨.hbm, 252, rfl⟩
abbrev main_call10_v2 : Ref sig .tc := ⟨.hbm, 253, rfl⟩
abbrev main_call10_v3 : Ref sig .tc := ⟨.hbm, 254, rfl⟩
abbrev main_call10_cst_0 : Ref sig .tc := ⟨.hbm, 255, rfl⟩
abbrev main_call10_v4 : Ref sig .tc := ⟨.hbm, 256, rfl⟩
abbrev main_call10_v5 : Ref sig .tc := ⟨.hbm, 257, rfl⟩
abbrev main_v166 : Ref sig .tc := ⟨.hbm, 258, rfl⟩
abbrev main_v167 : Ref sig .tc := ⟨.hbm, 259, rfl⟩
abbrev main_v168 : Ref sig .tc := ⟨.hbm, 260, rfl⟩
abbrev main_v169 : Ref sig .tc := ⟨.hbm, 261, rfl⟩
abbrev main_v170 : Ref sig .tc := ⟨.hbm, 262, rfl⟩
abbrev main_v171 : Ref sig .tc := ⟨.hbm, 263, rfl⟩
abbrev main_v172 : Ref sig .tc := ⟨.hbm, 264, rfl⟩
abbrev main_v173 : Ref sig .tc := ⟨.hbm, 265, rfl⟩
abbrev main_v174 : Ref sig .tc := ⟨.hbm, 266, rfl⟩
abbrev main_v175 : Ref sig .tc := ⟨.hbm, 267, rfl⟩
abbrev main_v176 : Ref sig .tc := ⟨.hbm, 268, rfl⟩
abbrev main_v177 : Ref sig .tc := ⟨.hbm, 269, rfl⟩
abbrev main_v178 : Ref sig .tc := ⟨.hbm, 270, rfl⟩
abbrev main_v179 : Ref sig .tc := ⟨.hbm, 271, rfl⟩
abbrev main_v180 : Ref sig .tc := ⟨.hbm, 272, rfl⟩
abbrev main_v181 : Ref sig .tc := ⟨.hbm, 273, rfl⟩
abbrev main_call11_v0 : Ref sig .tc := ⟨.hbm, 274, rfl⟩
abbrev main_call11_v1 : Ref sig .tc := ⟨.hbm, 275, rfl⟩
abbrev main_call11_cst : Ref sig .tc := ⟨.hbm, 276, rfl⟩
abbrev main_call11_v2 : Ref sig .tc := ⟨.hbm, 277, rfl⟩
abbrev main_call11_v3 : Ref sig .tc := ⟨.hbm, 278, rfl⟩
abbrev main_call11_cst_0 : Ref sig .tc := ⟨.hbm, 279, rfl⟩
abbrev main_call11_v4 : Ref sig .tc := ⟨.hbm, 280, rfl⟩
abbrev main_call11_v5 : Ref sig .tc := ⟨.hbm, 281, rfl⟩
abbrev main_v182 : Ref sig .tc := ⟨.hbm, 282, rfl⟩
abbrev main_v183 : Ref sig .tc := ⟨.hbm, 283, rfl⟩
abbrev main_v184 : Ref sig .tc := ⟨.hbm, 284, rfl⟩
abbrev main_v185 : Ref sig .tc := ⟨.hbm, 285, rfl⟩
abbrev main_v186 : Ref sig .tc := ⟨.hbm, 286, rfl⟩
abbrev main_v187 : Ref sig .tc := ⟨.hbm, 287, rfl⟩
abbrev main_v188 : Ref sig .tc := ⟨.hbm, 288, rfl⟩
abbrev main_v189 : Ref sig .tc := ⟨.hbm, 289, rfl⟩
abbrev main_v190 : Ref sig .tc := ⟨.hbm, 290, rfl⟩
abbrev main_v191 : Ref sig .tc := ⟨.hbm, 291, rfl⟩
abbrev main_v192 : Ref sig .tc := ⟨.hbm, 292, rfl⟩
abbrev main_v193 : Ref sig .tc := ⟨.hbm, 293, rfl⟩
abbrev main_v194 : Ref sig .tc := ⟨.hbm, 294, rfl⟩
abbrev main_v195 : Ref sig .tc := ⟨.hbm, 295, rfl⟩
abbrev main_v196 : Ref sig .tc := ⟨.hbm, 296, rfl⟩
abbrev main_v197 : Ref sig .tc := ⟨.hbm, 297, rfl⟩
abbrev main_call12_v0 : Ref sig .tc := ⟨.hbm, 298, rfl⟩
abbrev main_call12_v1 : Ref sig .tc := ⟨.hbm, 299, rfl⟩
abbrev main_call12_cst : Ref sig .tc := ⟨.hbm, 300, rfl⟩
abbrev main_call12_v2 : Ref sig .tc := ⟨.hbm, 301, rfl⟩
abbrev main_call12_v3 : Ref sig .tc := ⟨.hbm, 302, rfl⟩
abbrev main_call12_cst_0 : Ref sig .tc := ⟨.hbm, 303, rfl⟩
abbrev main_call12_v4 : Ref sig .tc := ⟨.hbm, 304, rfl⟩
abbrev main_call12_v5 : Ref sig .tc := ⟨.hbm, 305, rfl⟩
abbrev main_v198 : Ref sig .tc := ⟨.hbm, 306, rfl⟩
abbrev main_v199 : Ref sig .tc := ⟨.hbm, 307, rfl⟩
abbrev main_v200 : Ref sig .tc := ⟨.hbm, 308, rfl⟩
abbrev main_v201 : Ref sig .tc := ⟨.hbm, 309, rfl⟩
abbrev main_v202 : Ref sig .tc := ⟨.hbm, 310, rfl⟩
abbrev main_v203 : Ref sig .tc := ⟨.hbm, 311, rfl⟩
abbrev main_v204 : Ref sig .tc := ⟨.hbm, 312, rfl⟩
abbrev main_v205 : Ref sig .tc := ⟨.hbm, 313, rfl⟩
abbrev main_v206 : Ref sig .tc := ⟨.hbm, 314, rfl⟩
abbrev main_v207 : Ref sig .tc := ⟨.hbm, 315, rfl⟩
abbrev main_v208 : Ref sig .tc := ⟨.hbm, 316, rfl⟩
abbrev main_v209 : Ref sig .tc := ⟨.hbm, 317, rfl⟩
abbrev main_v210 : Ref sig .tc := ⟨.hbm, 318, rfl⟩
abbrev main_v211 : Ref sig .tc := ⟨.hbm, 319, rfl⟩
abbrev main_v212 : Ref sig .tc := ⟨.hbm, 320, rfl⟩
abbrev main_v213 : Ref sig .tc := ⟨.hbm, 321, rfl⟩
abbrev main_call13_v0 : Ref sig .tc := ⟨.hbm, 322, rfl⟩
abbrev main_call13_v1 : Ref sig .tc := ⟨.hbm, 323, rfl⟩
abbrev main_call13_cst : Ref sig .tc := ⟨.hbm, 324, rfl⟩
abbrev main_call13_v2 : Ref sig .tc := ⟨.hbm, 325, rfl⟩
abbrev main_call13_v3 : Ref sig .tc := ⟨.hbm, 326, rfl⟩
abbrev main_call13_cst_0 : Ref sig .tc := ⟨.hbm, 327, rfl⟩
abbrev main_call13_v4 : Ref sig .tc := ⟨.hbm, 328, rfl⟩
abbrev main_call13_v5 : Ref sig .tc := ⟨.hbm, 329, rfl⟩
abbrev main_v214 : Ref sig .tc := ⟨.hbm, 330, rfl⟩
abbrev main_v215 : Ref sig .tc := ⟨.hbm, 331, rfl⟩
abbrev main_v216 : Ref sig .tc := ⟨.hbm, 332, rfl⟩
abbrev main_v217 : Ref sig .tc := ⟨.hbm, 333, rfl⟩
abbrev main_v218 : Ref sig .tc := ⟨.hbm, 334, rfl⟩
abbrev main_v219 : Ref sig .tc := ⟨.hbm, 335, rfl⟩
abbrev main_v220 : Ref sig .tc := ⟨.hbm, 336, rfl⟩
abbrev main_v221 : Ref sig .tc := ⟨.hbm, 337, rfl⟩
abbrev main_v222 : Ref sig .tc := ⟨.hbm, 338, rfl⟩
abbrev main_v223 : Ref sig .tc := ⟨.hbm, 339, rfl⟩
abbrev main_v224 : Ref sig .tc := ⟨.hbm, 340, rfl⟩
abbrev main_v225 : Ref sig .tc := ⟨.hbm, 341, rfl⟩
abbrev main_v226 : Ref sig .tc := ⟨.hbm, 342, rfl⟩
abbrev main_v227 : Ref sig .tc := ⟨.hbm, 343, rfl⟩
abbrev main_v228 : Ref sig .tc := ⟨.hbm, 344, rfl⟩
abbrev main_v229 : Ref sig .tc := ⟨.hbm, 345, rfl⟩
abbrev main_call14_v0 : Ref sig .tc := ⟨.hbm, 346, rfl⟩
abbrev main_call14_v1 : Ref sig .tc := ⟨.hbm, 347, rfl⟩
abbrev main_call14_cst : Ref sig .tc := ⟨.hbm, 348, rfl⟩
abbrev main_call14_v2 : Ref sig .tc := ⟨.hbm, 349, rfl⟩
abbrev main_call14_v3 : Ref sig .tc := ⟨.hbm, 350, rfl⟩
abbrev main_call14_cst_0 : Ref sig .tc := ⟨.hbm, 351, rfl⟩
abbrev main_call14_v4 : Ref sig .tc := ⟨.hbm, 352, rfl⟩
abbrev main_call14_v5 : Ref sig .tc := ⟨.hbm, 353, rfl⟩
abbrev main_v230 : Ref sig .tc := ⟨.hbm, 354, rfl⟩
abbrev main_v231 : Ref sig .tc := ⟨.hbm, 355, rfl⟩
abbrev main_v232 : Ref sig .tc := ⟨.hbm, 356, rfl⟩
abbrev main_v233 : Ref sig .tc := ⟨.hbm, 357, rfl⟩
abbrev main_v234 : Ref sig .tc := ⟨.hbm, 358, rfl⟩
abbrev main_v235 : Ref sig .tc := ⟨.hbm, 359, rfl⟩
abbrev main_v236 : Ref sig .tc := ⟨.hbm, 360, rfl⟩
abbrev main_v237 : Ref sig .tc := ⟨.hbm, 361, rfl⟩
abbrev main_v238 : Ref sig .tc := ⟨.hbm, 362, rfl⟩
abbrev main_v239 : Ref sig .tc := ⟨.hbm, 363, rfl⟩
abbrev main_v240 : Ref sig .tc := ⟨.hbm, 364, rfl⟩
abbrev main_v241 : Ref sig .tc := ⟨.hbm, 365, rfl⟩
abbrev main_v242 : Ref sig .tc := ⟨.hbm, 366, rfl⟩
abbrev main_v243 : Ref sig .tc := ⟨.hbm, 367, rfl⟩
abbrev main_v244 : Ref sig .tc := ⟨.hbm, 368, rfl⟩
abbrev main_v245 : Ref sig .tc := ⟨.hbm, 369, rfl⟩
abbrev main_call15_v0 : Ref sig .tc := ⟨.hbm, 370, rfl⟩
abbrev main_call15_v1 : Ref sig .tc := ⟨.hbm, 371, rfl⟩
abbrev main_call15_cst : Ref sig .tc := ⟨.hbm, 372, rfl⟩
abbrev main_call15_v2 : Ref sig .tc := ⟨.hbm, 373, rfl⟩
abbrev main_call15_v3 : Ref sig .tc := ⟨.hbm, 374, rfl⟩
abbrev main_call15_cst_0 : Ref sig .tc := ⟨.hbm, 375, rfl⟩
abbrev main_call15_v4 : Ref sig .tc := ⟨.hbm, 376, rfl⟩
abbrev main_call15_v5 : Ref sig .tc := ⟨.hbm, 377, rfl⟩
abbrev main_v246 : Ref sig .tc := ⟨.hbm, 378, rfl⟩
abbrev main_v247 : Ref sig .tc := ⟨.hbm, 379, rfl⟩
abbrev main_v248 : Ref sig .tc := ⟨.hbm, 380, rfl⟩
abbrev main_v249 : Ref sig .tc := ⟨.hbm, 381, rfl⟩
abbrev main_v250 : Ref sig .tc := ⟨.hbm, 382, rfl⟩
abbrev main_v251 : Ref sig .tc := ⟨.hbm, 383, rfl⟩
abbrev main_v252 : Ref sig .tc := ⟨.hbm, 384, rfl⟩
abbrev main_v253 : Ref sig .tc := ⟨.hbm, 385, rfl⟩
abbrev main_v254 : Ref sig .tc := ⟨.hbm, 386, rfl⟩
abbrev main_v255 : Ref sig .tc := ⟨.hbm, 387, rfl⟩
abbrev main_v256 : Ref sig .tc := ⟨.hbm, 388, rfl⟩
abbrev main_v257 : Ref sig .tc := ⟨.hbm, 389, rfl⟩
abbrev main_v258 : Ref sig .tc := ⟨.hbm, 390, rfl⟩
abbrev main_v259 : Ref sig .tc := ⟨.hbm, 391, rfl⟩
abbrev main_v260 : Ref sig .tc := ⟨.hbm, 392, rfl⟩
abbrev main_v261 : Ref sig .tc := ⟨.hbm, 393, rfl⟩
abbrev main_call16_v0 : Ref sig .tc := ⟨.hbm, 394, rfl⟩
abbrev main_call16_v1 : Ref sig .tc := ⟨.hbm, 395, rfl⟩
abbrev main_call16_cst : Ref sig .tc := ⟨.hbm, 396, rfl⟩
abbrev main_call16_v2 : Ref sig .tc := ⟨.hbm, 397, rfl⟩
abbrev main_call16_v3 : Ref sig .tc := ⟨.hbm, 398, rfl⟩
abbrev main_call16_cst_0 : Ref sig .tc := ⟨.hbm, 399, rfl⟩
abbrev main_call16_v4 : Ref sig .tc := ⟨.hbm, 400, rfl⟩
abbrev main_call16_v5 : Ref sig .tc := ⟨.hbm, 401, rfl⟩
abbrev main_v262 : Ref sig .tc := ⟨.hbm, 402, rfl⟩
abbrev main_v263 : Ref sig .tc := ⟨.hbm, 403, rfl⟩
abbrev main_v264 : Ref sig .tc := ⟨.hbm, 404, rfl⟩
abbrev main_v265 : Ref sig .tc := ⟨.hbm, 405, rfl⟩
abbrev main_v266 : Ref sig .tc := ⟨.hbm, 406, rfl⟩
abbrev main_v267 : Ref sig .tc := ⟨.hbm, 407, rfl⟩
abbrev main_v268 : Ref sig .tc := ⟨.hbm, 408, rfl⟩
abbrev main_v269 : Ref sig .tc := ⟨.hbm, 409, rfl⟩
abbrev main_v270 : Ref sig .tc := ⟨.hbm, 410, rfl⟩
abbrev main_v271 : Ref sig .tc := ⟨.hbm, 411, rfl⟩
abbrev main_v272 : Ref sig .tc := ⟨.hbm, 412, rfl⟩
abbrev main_v273 : Ref sig .tc := ⟨.hbm, 413, rfl⟩
abbrev main_v274 : Ref sig .tc := ⟨.hbm, 414, rfl⟩

abbrev nD : Nat := 1
abbrev τ : Topo := Topo.v7x

variable {F : FTy → Type} [FloatOps F]
-- ==== Kernel4Ideal.lean ====
abbrev S4x4096x1024 : Shape := ⟨3, ![4, 4096, 1024]⟩
abbrev S2x1024 : Shape := ⟨2, ![2, 1024]⟩
abbrev S2x1024x8456 : Shape := ⟨3, ![2, 1024, 8456]⟩
abbrev S25 : Shape := ⟨1, ![25]⟩
abbrev S9 : Shape := ⟨1, ![9]⟩
abbrev S2x8456x1024 : Shape := ⟨3, ![2, 8456, 1024]⟩
abbrev S2x6400x1024 : Shape := ⟨3, ![2, 6400, 1024]⟩
abbrev S2x256x1024 : Shape := ⟨3, ![2, 256, 1024]⟩
abbrev S1 : Shape := ⟨1, ![1]⟩
abbrev S2x2304x1024 : Shape := ⟨3, ![2, 2304, 1024]⟩
abbrev S16384x1024 : Shape := ⟨2, ![16384, 1024]⟩
abbrev S1x1024 : Shape := ⟨2, ![1, 1024]⟩
abbrev S1024 : Shape := ⟨1, ![1024]⟩
abbrev S16384x6144 : Shape := ⟨2, ![16384, 6144]⟩
abbrev S8x16384 : Shape := ⟨2, ![8, 16384]⟩
abbrev S1024x1024 : Shape := ⟨2, ![1024, 1024]⟩
abbrev S1x3072x1024 : Shape := ⟨3, ![1, 3072, 1024]⟩
abbrev S1x256x1024 : Shape := ⟨3, ![1, 256, 1024]⟩
abbrev S1024x3072 : Shape := ⟨2, ![1024, 3072]⟩
abbrev S8x1024 : Shape := ⟨2, ![8, 1024]⟩
abbrev S1024x1 : Shape := ⟨2, ![1024, 1]⟩
abbrev S1x128x1024 : Shape := ⟨3, ![1, 128, 1024]⟩
abbrev S128x1024 : Shape := ⟨2, ![128, 1024]⟩
abbrev S3072x1024 : Shape := ⟨2, ![3072, 1024]⟩

abbrev nBuf : Space → Nat
  | .hbm => 13
  | .vmem => 20
  | .smem => 4
  | _ => 0

abbrev bufTy : (tb : Table) → Fin (tcTables nBuf tb) → BufTy
  | .hbm, ⟨0, _⟩ => ⟨S4x4096x1024, .f32⟩
  | .hbm, ⟨1, _⟩ => ⟨S2x1024, .f32⟩
  | .hbm, ⟨2, _⟩ => ⟨S2x1024x8456, .f32⟩
  | .hbm, ⟨3, _⟩ => ⟨S2x8456x1024, .f32⟩
  | .hbm, ⟨4, _⟩ => ⟨S2x6400x1024, .bf16⟩
  | .hbm, ⟨5, _⟩ => ⟨S2x2304x1024, .bf16⟩
  | .hbm, ⟨6, _⟩ => ⟨S16384x1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S16384x6144, .bf16⟩
  | .hbm, ⟨11, _⟩ => ⟨S16384x1024, .bf16⟩
  | .hbm, ⟨12, _⟩ => ⟨S8x16384, .f32⟩
  | .local _ .vmem, ⟨0, _⟩ => ⟨S2x256x1024, .f32⟩
  | .local _ .vmem, ⟨1, _⟩ => ⟨S2x256x1024, .f32⟩
  | .local _ .vmem, ⟨2, _⟩ => ⟨S2x256x1024, .bf16⟩
  | .local _ .vmem, ⟨3, _⟩ => ⟨S2x256x1024, .bf16⟩
  | .local _ .vmem, ⟨4, _⟩ => ⟨S2x256x1024, .f32⟩
  | .local _ .vmem, ⟨5, _⟩ => ⟨S2x256x1024, .f32⟩
  | .local _ .vmem, ⟨6, _⟩ => ⟨S2x256x1024, .bf16⟩
  | .local _ .vmem, ⟨7, _⟩ => ⟨S2x256x1024, .bf16⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | .local _ .vmem, ⟨11, _⟩ => ⟨S1x3072x1024, .bf16⟩
  | .local _ .vmem, ⟨12, _⟩ => ⟨S1x3072x1024, .bf16⟩
  | .local _ .vmem, ⟨13, _⟩ => ⟨S1x256x1024, .bf16⟩
  | .local _ .vmem, ⟨14, _⟩ => ⟨S1024x3072, .bf16⟩
  | .local _ .vmem, ⟨15, _⟩ => ⟨S1024x3072, .bf16⟩
  | .local _ .vmem, ⟨16, _⟩ => ⟨S1024x1024, .bf16⟩
  | .local _ .vmem, ⟨17, _⟩ => ⟨S1024x1024, .bf16⟩
  | .local _ .vmem, ⟨18, _⟩ => ⟨S8x1024, .f32⟩
  | .local _ .vmem, ⟨19, _⟩ => ⟨S8x1024, .f32⟩
  | .local _ .smem, ⟨0, _⟩ => ⟨S25, .i32⟩
  | .local _ .smem, ⟨1, _⟩ => ⟨S25, .i32⟩
  | .local _ .smem, ⟨2, _⟩ => ⟨S9, .i32⟩
  | .local _ .smem, ⟨3, _⟩ => ⟨S9, .i32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_v7_2 : Ref sig .tc := ⟨.hbm, 12, rfl⟩
abbrev main_c : Ref sig .tc := ⟨.smem, 0, rfl⟩
abbrev main_c_0 : Ref sig .tc := ⟨.smem, 1, rfl⟩
abbrev main_c_1 : Ref sig .tc := ⟨.smem, 2, rfl⟩
abbrev main_c_2 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg2_0 : Ref sig .tc := ⟨.vmem, 11, rfl⟩
abbrev cc2_stg2_1 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg4_1 : Ref sig .tc := ⟨.vmem, 15, rfl⟩
abbrev cc2_stg5_0 : Ref sig .tc := ⟨.vmem, 16, rfl⟩
abbrev cc2_stg5_1 : Ref sig .tc := ⟨.vmem, 17, rfl⟩
abbrev cc2_stg6_0 : Ref sig .tc := ⟨.vmem, 18, rfl⟩
abbrev cc2_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem2_0 : DmaSem sig := 11
abbrev cc2_sem2_1 : DmaSem sig := 12
abbrev cc2_sem3_0 : DmaSem sig := 13
abbrev cc2_sem4_0 : DmaSem sig := 14
abbrev cc2_sem4_1 : DmaSem sig := 15
abbrev cc2_sem5_0 : DmaSem sig := 16
abbrev cc2_sem5_1 : DmaSem sig := 17
abbrev cc2_sem6_0 : DmaSem sig := 18
abbrev cc2_sem6_1 : DmaSem sig := 19

abbrev nD : Nat := 1
abbrev τ : Topo := Topo.v7x

variable {F : FTy → Type} [FloatOps F]

abbrev grid0 : Pipeline.Grid := ⟨1, ![25], ![false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_mult1 (pf : pre0.Contents (Elt F)) (i : grid0.Coords) : BitVec 32 :=
  let arg0 : BitVec 32 := BitVec.ofNat 32 (i 0).val
  let v0 : Index := Scalar.indexCast arg0
  let v1 : BitVec 32 := pf.atD 0 ![v0.toNat]
  v1

def cc0_transform_0 (k0_off1_inb : ∀ i : grid0.Coords, ∀ a, (k0_off1 i) a + S1.size a ≤ S25.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S25) ![v0.toNat] S1.size (k0_off1_inb i)) numel1_S1
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![9], ![false]⟩

abbrev pre1 : Pipeline.Prefetch sig := ⟨2, ![main_c_1.idx, main_c_2.idx], fun | 0 => main_c_1.names | 1 => main_c_2.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def k1_mult1 (pf : pre1.Contents (Elt F)) (i : grid1.Coords) : BitVec 32 :=
  let arg0 : BitVec 32 := BitVec.ofNat 32 (i 0).val
  let v0 : Index := Scalar.indexCast arg0
  let v1 : BitVec 32 := pf.atD 0 ![v0.toNat]
  v1

def cc1_transform_0 (k1_off1_inb : ∀ i : grid1.Coords, ∀ a, (k1_off1 i) a + S1.size a ≤ S9.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S9) ![v0.toNat] S1.size (k1_off1_inb i)) numel1_S1
  let v2 : BitVec 32 := v1
  let c0_i32 : BitVec 32 := 0#32
  let c0_i32_0 : BitVec 32 := 0#32
  let c0_i32_1 : BitVec 32 := 0#32
  ![c0_i32.toNat, v2.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S2x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2x256x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨2, ![16, 2], ![false, false]⟩

def k2_cond1 (i : grid2.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc2_transform_3 (i : grid2.Coords) : Fin 3 → Nat :=
  let arg0 : BitVec 32 := BitVec.ofNat 32 (i 0).val
  let arg1 : BitVec 32 := BitVec.ofNat 32 (i 1).val
  let c1_i32 : BitVec 32 := 1#32
  let c24_i32 : BitVec 32 := 24#32
  let c0_i32 : BitVec 32 := 0#32
  let c0_i32_0 : BitVec 32 := 0#32
  ![c1_i32.toNat, c24_i32.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S1x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S1x3072x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 1 → Memref sig .tc .vmem S1x256x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1024x3072 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1024x1024 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 2 → Memref sig .tc .vmem S8x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]
-- ==== Reference4Ideal.lean ====
abbrev S4x4096x1024 : Shape := ⟨3, ![4, 4096, 1024]⟩
abbrev S2x1024 : Shape := ⟨2, ![2, 1024]⟩
abbrev S2x1024x8456 : Shape := ⟨3, ![2, 1024, 8456]⟩
abbrev S_ : Shape := ⟨0, ![]⟩
abbrev S4x4096 : Shape := ⟨2, ![4, 4096]⟩
abbrev S4x4096x1 : Shape := ⟨3, ![4, 4096, 1]⟩
abbrev S1x1024 : Shape := ⟨2, ![1, 1024]⟩
abbrev S1024 : Shape := ⟨1, ![1024]⟩
abbrev S1x1x1024 : Shape := ⟨3, ![1, 1, 1024]⟩
abbrev S1x1024x8456 : Shape := ⟨3, ![1, 1024, 8456]⟩
abbrev S1024x8456 : Shape := ⟨2, ![1024, 8456]⟩
abbrev S4x4096x8456 : Shape := ⟨3, ![4, 4096, 8456]⟩
abbrev S4x4096x512 : Shape := ⟨3, ![4, 4096, 512]⟩
abbrev S4x4096x4 : Shape := ⟨3, ![4, 4096, 4]⟩
abbrev S4x4096x768 : Shape := ⟨3, ![4, 4096, 768]⟩
abbrev S4x4096x3072 : Shape := ⟨3, ![4, 4096, 3072]⟩
abbrev S4x4096x6144 : Shape := ⟨3, ![4, 4096, 6144]⟩
abbrev S4x4096x8 : Shape := ⟨3, ![4, 4096, 8]⟩
abbrev S2x1024x2304 : Shape := ⟨3, ![2, 1024, 2304]⟩
abbrev S2x1024x3x3x256 : Shape := ⟨5, ![2, 1024, 3, 3, 256]⟩
abbrev S2x3x3x256x1024 : Shape := ⟨5, ![2, 3, 3, 256, 1024]⟩
abbrev S2x2304x1024 : Shape := ⟨3, ![2, 2304, 1024]⟩
abbrev S16384x6144 : Shape := ⟨2, ![16384, 6144]⟩
abbrev S16384x1024 : Shape := ⟨2, ![16384, 1024]⟩
abbrev S16384x8 : Shape := ⟨2, ![16384, 8]⟩
abbrev S8x16384 : Shape := ⟨2, ![8, 16384]⟩

abbrev nBuf : Space → Nat
  | .hbm => 49
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S2x1024, .f32⟩
  | .hbm, ⟨2, _⟩ => ⟨S2x1024x8456, .f32⟩
  | .hbm, ⟨3, _⟩ => ⟨S4x4096x1024, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x1, .f32⟩
  | .hbm, ⟨14, _⟩ => ⟨S4x4096x1024, .f32⟩
  | .hbm, ⟨15, _⟩ => ⟨S4x4096x1024, .f32⟩
  | .hbm, ⟨16, _⟩ => ⟨S1x1024, .f32⟩
  | .hbm, ⟨17, _⟩ => ⟨S1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S1x1024x8456, .f32⟩
  | .hbm, ⟨22, _⟩ => ⟨S1024x8456, .f32⟩
  | .hbm, ⟨23, _⟩ => ⟨S4x4096x8456, .f32⟩
  | .hbm, ⟨24, _⟩ => ⟨S4x4096x512, .f32⟩
  | .hbm, ⟨25, _⟩ => ⟨S4x4096x512, .f32⟩
  | .hbm, ⟨26, _⟩ => ⟨S4x4096x512, .f32⟩
  | .hbm, ⟨27, _⟩ => ⟨S4x4096x512, .f32⟩
  | .hbm, ⟨28, _⟩ => ⟨S4x4096x4, .f32⟩
  | .hbm, ⟨29, _⟩ => ⟨S4x4096x4, .f32⟩
  | .hbm, ⟨30, _⟩ => ⟨S4x4096x768, .f32⟩
  | .hbm, ⟨31, _⟩ => ⟨S4x4096x768, .f32⟩
  | .hbm, ⟨32, _⟩ => ⟨S4x4096x768, .f32⟩
  | .hbm, ⟨33, _⟩ => ⟨S4x4096x512, .f32⟩
  | .hbm, ⟨34, _⟩ => ⟨S4x4096x512, .f32⟩
  | .hbm, ⟨35, _⟩ => ⟨S4x4096x3072, .f32⟩
  | .hbm, ⟨36, _⟩ => ⟨S4x4096x6144, .f32⟩
  | .hbm, ⟨37, _⟩ => ⟨S4x4096x6144, .bf16⟩
  | .hbm, ⟨38, _⟩ => ⟨S4x4096x8, .f32⟩
  | .hbm, ⟨39, _⟩ => ⟨S2x1024x2304, .f32⟩
  | .hbm, ⟨40, _⟩ => ⟨S2x1024x3x3x256, .f32⟩
  | .hbm, ⟨41, _⟩ => ⟨S2x3x3x256x1024, .f32⟩
  | .hbm, ⟨42, _⟩ => ⟨S2x2304x1024, .f32⟩
  | .hbm, ⟨43, _⟩ => ⟨S16384x6144, .bf16⟩
  | .hbm, ⟨44, _⟩ => ⟨S16384x1024, .f32⟩
  | .hbm, ⟨45, _⟩ => ⟨S16384x1024, .bf16⟩
  | .hbm, ⟨46, _⟩ => ⟨S16384x8, .f32⟩
  | .hbm, ⟨47, _⟩ => ⟨S8x16384, .f32⟩
  | .hbm, ⟨48, _⟩ => ⟨S2x2304x1024, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩

abbrev nD : Nat := 1
abbrev τ : Topo := Topo.v7x

variable {F : FTy → Type} [FloatOps F]
-- ==== Kernel5Ideal.lean ====
variable {F : FTy → Type} [FloatOps F] [Named F]
def κ : String → Option EReal := fun
  | "gelu_cubic" => some ((80338380498831 / 2251799813685248 : ℝ) : EReal)
  | _ => none
-- ==== Reference5Ideal.lean ====
abbrev S16384x1024 : Shape := ⟨2, ![16384, 1024]⟩
abbrev S16384x512 : Shape := ⟨2, ![16384, 512]⟩
abbrev S16384x4x64 : Shape := ⟨3, ![16384, 4, 64]⟩
abbrev S16384x4 : Shape := ⟨2, ![16384, 4]⟩
abbrev S16384x6144 : Shape := ⟨2, ![16384, 6144]⟩
abbrev S512 : Shape := ⟨1, ![512]⟩
abbrev S4x128x128 : Shape := ⟨3, ![4, 128, 128]⟩
abbrev S4x128 : Shape := ⟨2, ![4, 128]⟩
abbrev S512x1024 : Shape := ⟨2, ![512, 1024]⟩
abbrev S768x1024 : Shape := ⟨2, ![768, 1024]⟩
abbrev S1024x1024 : Shape := ⟨2, ![1024, 1024]⟩
abbrev S16384x3072 : Shape := ⟨2, ![16384, 3072]⟩
abbrev S1x16384x4 : Shape := ⟨3, ![1, 16384, 4]⟩
abbrev S3x16384x4 : Shape := ⟨3, ![3, 16384, 4]⟩
abbrev S_ : Shape := ⟨0, ![]⟩
abbrev S1x16384x4x64 : Shape := ⟨4, ![1, 16384, 4, 64]⟩
abbrev S3x16384x4x64 : Shape := ⟨4, ![3, 16384, 4, 64]⟩
abbrev S3x16384x4x1 : Shape := ⟨4, ![3, 16384, 4, 1]⟩
abbrev S16384x3x4x64 : Shape := ⟨4, ![16384, 3, 4, 64]⟩
abbrev S16384x768 : Shape := ⟨2, ![16384, 768]⟩
abbrev S128x128x4x128 : Shape := ⟨4, ![128, 128, 4, 128]⟩
abbrev S128x128x4 : Shape := ⟨3, ![128, 128, 4]⟩
abbrev S128x128x4x1 : Shape := ⟨4, ![128, 128, 4, 1]⟩
abbrev S1x1x4x128 : Shape := ⟨4, ![1, 1, 4, 128]⟩
abbrev S128x128 : Shape := ⟨2, ![128, 128]⟩
abbrev S4x128x128x128 : Shape := ⟨4, ![4, 128, 128, 128]⟩
abbrev S128x4 : Shape := ⟨2, ![128, 4]⟩
abbrev S1x128x4x1 : Shape := ⟨4, ![1, 128, 4, 1]⟩
abbrev S16384x3x1024 : Shape := ⟨3, ![16384, 3, 1024]⟩
abbrev S16384x1x1024 : Shape := ⟨3, ![16384, 1, 1024]⟩

abbrev nBuf : Space → Nat
  | .hbm => 148
  | .vmem => 0
  | .smem => 0
  | _ => 0

abbrev hbmTy0_0 (i : Nat) : BufTy := match i % 128 with
  | 0 => ⟨S16384x1024, .f32⟩
  | 1 => ⟨S16384x512, .f32⟩
  | 2 => ⟨S16384x4x64, .f32⟩
  | 3 => ⟨S16384x4x64, .f32⟩
  | 4 => ⟨S16384x4x64, .f32⟩
  | 5 => ⟨S16384x4, .f32⟩
  | 6 => ⟨S16384x4, .f32⟩
  | 7 => ⟨S16384x4, .f32⟩
  | 8 => ⟨S16384x6144, .f32⟩
  | 9 => ⟨S512, .f32⟩
  | 10 => ⟨S4x128x128, .f32⟩
  | 11 => ⟨S4x128, .f32⟩
  | 12 => ⟨S512x1024, .f32⟩
  | 13 => ⟨S768x1024, .f32⟩
  | 14 => ⟨S512x1024, .f32⟩
  | 15 => ⟨S1024x1024, .f32⟩
  | 16 => ⟨S16384x512, .f32⟩
  | 17 => ⟨S16384x512, .f32⟩
  | 18 => ⟨S16384x3072, .f32⟩
  | 19 => ⟨S1x16384x4, .f32⟩
  | 20 => ⟨S1x16384x4, .f32⟩
  | 21 => ⟨S1x16384x4, .f32⟩
  | 22 => ⟨S3x16384x4, .f32⟩
  | 23 => ⟨S_, .f32⟩
  | 24 => ⟨S16384x4, .f32⟩
  | 25 => ⟨S_, .f32⟩
  | 26 => ⟨S16384x4, .f32⟩
  | 27 => ⟨S16384x4, .f32⟩
  | 28 => ⟨S1x16384x4, .f32⟩
  | 29 => ⟨S3x16384x4, .f32⟩
  | 30 => ⟨S3x16384x4, .f32⟩
  | 31 => ⟨S3x16384x4, .f32⟩
  | 32 => ⟨S_, .f32⟩
  | 33 => ⟨S16384x4, .f32⟩
  | 34 => ⟨S1x16384x4, .f32⟩
  | 35 => ⟨S3x16384x4, .f32⟩
  | 36 => ⟨S3x16384x4, .f32⟩
  | 37 => ⟨S1x16384x4x64, .f32⟩
  | 38 => ⟨S1x16384x4x64, .f32⟩
  | 39 => ⟨S1x16384x4x64, .f32⟩
  | 40 => ⟨S3x16384x4x64, .f32⟩
  | 41 => ⟨S3x16384x4x1, .f32⟩
  | 42 => ⟨S3x16384x4x64, .f32⟩
  | 43 => ⟨S3x16384x4x64, .f32⟩
  | 44 => ⟨S16384x3x4x64, .f32⟩
  | 45 => ⟨S16384x768, .f32⟩
  | 46 => ⟨S16384x512, .f32⟩
  | 47 => ⟨S16384x512, .f32⟩
  | 48 => ⟨S_, .f32⟩
  | 49 => ⟨S16384x512, .f32⟩
  | 50 => ⟨S16384x512, .f32⟩
  | 51 => ⟨S16384x512, .f32⟩
  | 52 => ⟨S_, .f32⟩
  | 53 => ⟨S16384x512, .f32⟩
  | 54 => ⟨S16384x512, .f32⟩
  | 55 => ⟨S16384x512, .f32⟩
  | 56 => ⟨S_, .f32⟩
  | 57 => ⟨S16384x512, .f32⟩
  | 58 => ⟨S16384x512, .f32⟩
  | 59 => ⟨S_, .f32⟩
  | 60 => ⟨S16384x512, .f32⟩
  | 61 => ⟨S16384x512, .f32⟩
  | 62 => ⟨S16384x512, .f32⟩
  | 63 => ⟨S128x128x4x128, .f32⟩
  | 64 => ⟨S16384x512, .f32⟩
  | 65 => ⟨S16384x512, .f32⟩
  | 66 => ⟨S_, .f32⟩
  | 67 => ⟨S16384x512, .f32⟩
  | 68 => ⟨S16384x512, .f32⟩
  | 69 => ⟨S16384x512, .f32⟩
  | 70 => ⟨S_, .f32⟩
  | 71 => ⟨S16384x512, .f32⟩
  | 72 => ⟨S16384x512, .f32⟩
  | 73 => ⟨S16384x512, .f32⟩
  | 74 => ⟨S_, .f32⟩
  | 75 => ⟨S16384x512, .f32⟩
  | 76 => ⟨S16384x512, .f32⟩
  | 77 => ⟨S_, .f32⟩
  | 78 => ⟨S16384x512, .f32⟩
  | 79 => ⟨S16384x512, .f32⟩
  | 80 => ⟨S16384x512, .f32⟩
  | 81 => ⟨S128x128x4x128, .f32⟩
  | 82 => ⟨S128x128x4x128, .f32⟩
  | 83 => ⟨S_, .f32⟩
  | 84 => ⟨S128x128x4, .f32⟩
  | 85 => ⟨S128x128x4x1, .f32⟩
  | 86 => ⟨S_, .f32⟩
  | 87 => ⟨S128x128x4x1, .f32⟩
  | 88 => ⟨S128x128x4x1, .f32⟩
  | 89 => ⟨S_, .f32⟩
  | 90 => ⟨S128x128x4x1, .f32⟩
  | 91 => ⟨S128x128x4x1, .f32⟩
  | 92 => ⟨S128x128x4x1, .f32⟩
  | 93 => ⟨S128x128x4x128, .f32⟩
  | 94 => ⟨S128x128x4x128, .f32⟩
  | 95 => ⟨S4x128, .f32⟩
  | 96 => ⟨S1x1x4x128, .f32⟩
  | 97 => ⟨S128x128x4x128, .f32⟩
  | 98 => ⟨S128x128x4x128, .f32⟩
  | 99 => ⟨S_, .i1⟩
  | 100 => ⟨S128x128, .i1⟩
  | 101 => ⟨S128x128, .i32⟩
  | 102 => ⟨S_, .i32⟩
  | 103 => ⟨S128x128, .i32⟩
  | 104 => ⟨S128x128, .i32⟩
  | 105 => ⟨S128x128, .i32⟩
  | 106 => ⟨S128x128, .i1⟩
  | 107 => ⟨S_, .i1⟩
  | 108 => ⟨S128x128, .i1⟩
  | 109 => ⟨S128x128, .i1⟩
  | 110 => ⟨S_, .f32⟩
  | 111 => ⟨S_, .f32⟩
  | 112 => ⟨S4x128x128, .i1⟩
  | 113 => ⟨S4x128x128, .f32⟩
  | 114 => ⟨S4x128x128, .f32⟩
  | 115 => ⟨S4x128x128x128, .f32⟩
  | 116 => ⟨S128x128x4x128, .f32⟩
  | 117 => ⟨S128x4, .f32⟩
  | 118 => ⟨S1x128x4x1, .f32⟩
  | 119 => ⟨S128x128x4x128, .f32⟩
  | 120 => ⟨S128x128x4x128, .f32⟩
  | 121 => ⟨S128x128x4x128, .f32⟩
  | 122 => ⟨S16384x512, .f32⟩
  | 123 => ⟨S16384x3x1024, .f32⟩
  | 124 => ⟨S16384x3x1024, .f32⟩
  | 125 => ⟨S16384x3x1024, .f32⟩
  | 126 => ⟨S_, .f32⟩
  | 127 => ⟨S16384x3x1024, .f32⟩
  | _ => ⟨S16384x1024, .f32⟩

abbrev hbmTy0_1 (i : Nat) : BufTy := match i % 128 with
  | 0 => ⟨S16384x3x1024, .f32⟩
  | 1 => ⟨S_, .f32⟩
  | 2 => ⟨S16384x3x1024, .f32⟩
  | 3 => ⟨S16384x3x1024, .f32⟩
  | 4 => ⟨S16384x1x1024, .f32⟩
  | 5 => ⟨S16384x1024, .f32⟩
  | 6 => ⟨S16384x1024, .f32⟩
  | 7 => ⟨S16384x1024, .f32⟩
  | 8 => ⟨S16384x1x1024, .f32⟩
  | 9 => ⟨S16384x1024, .f32⟩
  | 10 => ⟨S16384x1024, .f32⟩
  | 11 => ⟨S16384x1024, .f32⟩
  | 12 => ⟨S16384x1024, .f32⟩
  | 13 => ⟨S16384x1x1024, .f32⟩
  | 14 => ⟨S16384x1024, .f32⟩
  | 15 => ⟨S16384x1024, .f32⟩
  | 16 => ⟨S16384x1024, .f32⟩
  | 17 => ⟨S16384x1024, .f32⟩
  | 18 => ⟨S16384x1024, .f32⟩
  | 19 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_2 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_3 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_4 : Ref sig .tc := ⟨.hbm, 56, rfl⟩
abbrev main_v35 : Ref sig .tc := ⟨.hbm, 57, rfl⟩
abbrev main_v36 : Ref sig .tc := ⟨.hbm, 58, rfl⟩
abbrev main_cst_5 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_6 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_7 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_8 : Ref sig .tc := ⟨.hbm, 74, rfl⟩
abbrev main_v49 : Ref sig .tc := ⟨.hbm, 75, rfl⟩
abbrev main_v50 : Ref sig .tc := ⟨.hbm, 76, rfl⟩
abbrev main_cst_9 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_10 : Ref sig .tc := ⟨.hbm, 83, rfl⟩
abbrev main_v56 : Ref sig .tc := ⟨.hbm, 84, rfl⟩
abbrev main_v57 : Ref sig .tc := ⟨.hbm, 85, rfl⟩
abbrev main_cst_11 : Ref sig .tc := ⟨.hbm, 86, rfl⟩
abbrev main_v58 : Ref sig .tc := ⟨.hbm, 87, rfl⟩
abbrev main_v59 : Ref sig .tc := ⟨.hbm, 88, rfl⟩
abbrev main_cst_12 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_c : Ref sig .tc := ⟨.hbm, 99, rfl⟩
abbrev main_v69 : Ref sig .tc := ⟨.hbm, 100, rfl⟩
abbrev main_call0_v0 : Ref sig .tc := ⟨.hbm, 101, rfl⟩
abbrev main_call0_c : Ref sig .tc := ⟨.hbm, 102, rfl⟩
abbrev main_call0_v1 : Ref sig .tc := ⟨.hbm, 103, rfl⟩
abbrev main_call0_v2 : Ref sig .tc := ⟨.hbm, 104, rfl⟩
abbrev main_call0_v3 : Ref sig .tc := ⟨.hbm, 105, rfl⟩
abbrev main_call0_v4 : Ref sig .tc := ⟨.hbm, 106, rfl⟩
abbrev main_call0_c_0 : Ref sig .tc := ⟨.hbm, 107, rfl⟩
abbrev main_call0_v5 : Ref sig .tc := ⟨.hbm, 108, rfl⟩
abbrev main_v70 : Ref sig .tc := ⟨.hbm, 109, rfl⟩
abbrev main_cst_13 : Ref sig .tc := ⟨.hbm, 110, rfl⟩
abbrev main_call1_v0 : Ref sig .tc := ⟨.hbm, 111, rfl⟩
abbrev main_call1_v1 : Ref sig .tc := ⟨.hbm, 112, rfl⟩
abbrev main_call1_v2 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_cst_14 : Ref sig .tc := ⟨.hbm, 126, rfl⟩
abbrev main_v83 : Ref sig .tc := ⟨.hbm, 127, rfl⟩
abbrev main_v84 : Ref sig .tc := ⟨.hbm, 128, rfl⟩
abbrev main_cst_15 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩

abbrev nD : Nat := 1
abbrev τ : Topo := Topo.v7x

variable {F : FTy → Type} [FloatOps F]
-- ==== Kernel5.lean ====
abbrev S16384x1024 : Shape := ⟨2, ![16384, 1024]⟩
abbrev S16384x512 : Shape := ⟨2, ![16384, 512]⟩
abbrev S16384x4x64 : Shape := ⟨3, ![16384, 4, 64]⟩
abbrev S16384x4 : Shape := ⟨2, ![16384, 4]⟩
abbrev S16384x6144 : Shape := ⟨2, ![16384, 6144]⟩
abbrev S512 : Shape := ⟨1, ![512]⟩
abbrev S4x128x128 : Shape := ⟨3, ![4, 128, 128]⟩
abbrev S4x128 : Shape := ⟨2, ![4, 128]⟩
abbrev S512x1024 : Shape := ⟨2, ![512, 1024]⟩
abbrev S768x1024 : Shape := ⟨2, ![768, 1024]⟩
abbrev S1024x1024 : Shape := ⟨2, ![1024, 1024]⟩
abbrev S16384x256 : Shape := ⟨2, ![16384, 256]⟩
abbrev S16384x4x1 : Shape := ⟨3, ![16384, 4, 1]⟩
abbrev S_ : Shape := ⟨0, ![]⟩
abbrev S128x128 : Shape := ⟨2, ![128, 128]⟩
abbrev S4x128x1 : Shape := ⟨3, ![4, 128, 1]⟩
abbrev S1x512 : Shape := ⟨2, ![1, 512]⟩
abbrev S512x512 : Shape := ⟨2, ![512, 512]⟩
abbrev S512x256 : Shape := ⟨2, ![512, 256]⟩
abbrev S512x3072 : Shape := ⟨2, ![512, 3072]⟩
abbrev S512x768 : Shape := ⟨2, ![512, 768]⟩
abbrev S1x128 : Shape := ⟨2, ![1, 128]⟩
abbrev S128 : Shape := ⟨1, ![128]⟩
abbrev S128x1 : Shape := ⟨2, ![128, 1]⟩
abbrev S1x128x128 : Shape := ⟨3, ![1, 128, 128]⟩

abbrev nBuf : Space → Nat
  | .hbm => 58
  | .vmem => 32
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x4x64, .f32⟩
  | .hbm, ⟨3, _⟩ => ⟨S16384x4x64, .f32⟩
  | .hbm, ⟨4, _⟩ => ⟨S16384x4x64, .f32⟩
  | .hbm, ⟨5, _⟩ => ⟨S16384x4, .f32⟩
  | .hbm, ⟨6, _⟩ => ⟨S16384x4, .f32⟩
  | .hbm, ⟨7, _⟩ => ⟨S16384x4, .f32⟩
  | .hbm, ⟨8, _⟩ => ⟨S16384x6144, .f32⟩
  | .hbm, ⟨9, _⟩ => ⟨S512, .f32⟩
  | .hbm, ⟨10, _⟩ => ⟨S4x128x128, .f32⟩
  | .hbm, ⟨11, _⟩ => ⟨S4x128, .f32⟩
  | .hbm, ⟨12, _⟩ => ⟨S512x1024, .f32⟩
  | .hbm, ⟨13, _⟩ => ⟨S768x1024, .f32⟩
  | .hbm, ⟨14, _⟩ => ⟨S512x1024, .f32⟩
  | .hbm, ⟨15, _⟩ => ⟨S1024x1024, .f32⟩
  | .hbm, ⟨16, _⟩ => ⟨S16384x256, .f32⟩
  | .hbm, ⟨17, _⟩ => ⟨S16384x256, .bf16⟩
  | .hbm, ⟨18, _⟩ => ⟨S16384x256, .f32⟩
  | .hbm, ⟨19, _⟩ => ⟨S16384x256, .bf16⟩
  | .hbm, ⟨20, _⟩ => ⟨S16384x256, .f32⟩
  | .hbm, ⟨21, _⟩ => ⟨S16384x256, .bf16⟩
  | .hbm, ⟨22, _⟩ => ⟨S16384x4x1, .f32⟩
  | .hbm, ⟨23, _⟩ => ⟨S16384x4x64, .f32⟩
  | .hbm, ⟨24, _⟩ => ⟨S16384x256, .f32⟩
  | .hbm, ⟨25, _⟩ => ⟨S16384x4x1, .f32⟩
  | .hbm, ⟨26, _⟩ => ⟨S16384x4x64, .f32⟩
  | .hbm, ⟨27, _⟩ => ⟨S16384x256, .f32⟩
  | .hbm, ⟨28, _⟩ => ⟨S16384x4x1, .f32⟩
  | .hbm, ⟨29, _⟩ => ⟨S16384x4x64, .f32⟩
  | .hbm, ⟨30, _⟩ => ⟨S16384x256, .f32⟩
  | .hbm, ⟨31, _⟩ => ⟨S_, .i1⟩
  | .hbm, ⟨32, _⟩ => ⟨S128x128, .i1⟩
  | .hbm, ⟨33, _⟩ => ⟨S128x128, .i32⟩
  | .hbm, ⟨34, _⟩ => ⟨S_, .i32⟩
  | .hbm, ⟨35, _⟩ => ⟨S128x128, .i32⟩
  | .hbm, ⟨36, _⟩ => ⟨S128x128, .i32⟩
  | .hbm, ⟨37, _⟩ => ⟨S128x128, .i32⟩
  | .hbm, ⟨38, _⟩ => ⟨S128x128, .i1⟩
  | .hbm, ⟨39, _⟩ => ⟨S_, .i1⟩
  | .hbm, ⟨40, _⟩ => ⟨S128x128, .i1⟩
  | .hbm, ⟨41, _⟩ => ⟨S128x128, .i1⟩
  | .hbm, ⟨42, _⟩ => ⟨S_, .f32⟩
  | .hbm, ⟨43, _⟩ => ⟨S_, .f32⟩
  | .hbm, ⟨44, _⟩ => ⟨S4x128x128, .i1⟩
  | .hbm, ⟨45, _⟩ => ⟨S4x128x128, .f32⟩
  | .hbm, ⟨46, _⟩ => ⟨S4x128x128, .f32⟩
  | .hbm, ⟨47, _⟩ => ⟨S4x128x128, .bf16⟩
  | .hbm, ⟨48, _⟩ => ⟨S4x128x1, .f32⟩
  | .hbm, ⟨49, _⟩ => ⟨S4x128x128, .f32⟩
  | .hbm, ⟨50, _⟩ => ⟨S16384x512, .bf16⟩
  | .hbm, ⟨51, _⟩ => ⟨S16384x6144, .bf16⟩
  | .hbm, ⟨52, _⟩ => ⟨S512x1024, .bf16⟩
  | .hbm, ⟨53, _⟩ => ⟨S768x1024, .bf16⟩
  | .hbm, ⟨54, _⟩ => ⟨S512x1024, .bf16⟩
  | .hbm, ⟨55, _⟩ => ⟨S1024x1024, .bf16⟩
  | .hbm, ⟨56, _⟩ => ⟨S1x512, .f32⟩
  | .hbm, ⟨57, _⟩ => ⟨S16384x1024, .f32⟩
  | .local _ .vmem, ⟨0, _⟩ => ⟨S512x512, .bf16⟩
  | .local _ .vmem, ⟨1, _⟩ => ⟨S512x512, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x3072, .bf16⟩
  | .local _ .vmem, ⟨19, _⟩ => ⟨S512x3072, .bf16⟩
  | .local _ .vmem, ⟨20, _⟩ => ⟨S512x1024, .f32⟩
  | .local _ .vmem, ⟨21, _⟩ => ⟨S512x1024, .f32⟩
  | .local _ .vmem, ⟨22, _⟩ => ⟨S512x1024, .bf16⟩
  | .local _ .vmem, ⟨23, _⟩ => ⟨S768x1024, .bf16⟩
  | .local _ .vmem, ⟨24, _⟩ => ⟨S512x1024, .bf16⟩
  | .local _ .vmem, ⟨25, _⟩ => ⟨S1024x1024, .bf16⟩
  | .local _ .vmem, ⟨26, _⟩ => ⟨S4x128x128, .bf16⟩
  | .local _ .vmem, ⟨27, _⟩ => ⟨S4x128x128, .f32⟩
  | .local _ .vmem, ⟨28, _⟩ => ⟨S1x512, .f32⟩
  | .local _ .vmem, ⟨29, _⟩ => ⟨S512x1024, .f32⟩
  | .local _ .vmem, ⟨30, _⟩ => ⟨S512x1024, .f32⟩
  | .local _ .vmem, ⟨31, _⟩ => ⟨S512x512, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_call0_v0 : Ref sig .tc := ⟨.hbm, 33, rfl⟩
abbrev main_call0_c : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_c_0 : Ref sig .tc := ⟨.hbm, 39, rfl⟩
abbrev main_call0_v5 : Ref sig .tc := ⟨.hbm, 40, rfl⟩
abbrev main_v16 : Ref sig .tc := ⟨.hbm, 41, rfl⟩
abbrev main_cst : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg18_1 : Ref sig .tc := ⟨.vmem, 30, rfl⟩
abbrev cc0_scratch0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem17_0 : DmaSem sig := 28
abbrev cc0_sem18_0 : DmaSem sig := 29
abbrev cc0_sem18_1 : DmaSem sig := 30

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_8 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_9 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x3072 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S768x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S4x128x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S4x128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Proof.RowsRun.lean ====
module

public import proofs.«01_k».proof.Proof.Gen.KernelIdeal.Regions
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.VecWindow
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The two tables of each gathering call: where each block of rows starts, and how many of its rows are kept. -/
abbrev tab0a : Memref sig .tc .smem S25 .i32 := Memref.whole main_c
abbrev tab0b : Memref sig .tc .smem S25 .i32 := Memref.whole main_c_0
abbrev htab0a : tab0a.IsWhole := Memref.isWhole_whole _
abbrev htab0b : tab0b.IsWhole := Memref.isWhole_whole _
abbrev tab1a : Memref sig .tc .smem S9 .i32 := Memref.whole main_c_1
abbrev tab1b : Memref sig .tc .smem S9 .i32 := Memref.whole main_c_2
abbrev htab1a : tab1a.IsWhole := Memref.isWhole_whole _
abbrev htab1b : tab1b.IsWhole := Memref.isWhole_whole _

abbrev TabBuf (c : Dev nD) {S : Shape} {e : EltTy} (M : Memref sig .tc .smem S e) : Type := Buf (Elt F) (M.view.loc (c : Thread nD τ))
abbrev tabPt (c : Dev nD) {S : Shape} {e : EltTy} (M : Memref sig .tc .smem S e) (f : TabBuf (F := F) c M) : sProp 𝕄 :=
  M.view.loc (c : Thread nD τ) ↦{fullShare} f

/-- The word of the second table at point `i`: how many of the point's 256 rows are kept. -/
def word0 (c : Dev nD) (i : grid0.Coords) (xb : TabBuf (F := F) c tab0b) : Elt F .i32 :=
  xb ((Rect.unit (s := S25) (k0_off1 i) S1.size (k0_off1_inb i)).point numel1_S1)

set_option maxHeartbeats 1000000 in
/-- The body of the call that gathers the main columns: with both tables held, one block of rows is read and the kept rows are
    written, zeros elsewhere. -/
theorem rowsRun0 (c : Dev nD) (i : grid0.Coords) (arg3 : Memref sig .tc .vmem S2x256x1024 .f32) (harg3 : arg3.IsWhole) (arg4 : Memref sig .tc .vmem S2x256x1024 .bf16) (harg4 : arg4.IsWhole)
    (x0 : Vec F S2x256x1024 .f32) (xa : TabBuf (F := F) c tab0a) (xb : TabBuf (F := F) c tab0b) (E : Set ℕ) (K : PUnit → sProp 𝕄) :
        iprop(owns (c : Thread nD τ) arg3 fullShare x0 ∗ (∃ d, owns (c : Thread nD τ) arg4 fullShare d) ∗ tabPt c tab0a xa ∗ tabPt c tab0b xb
            ∗ (iprop(owns (c : Thread nD τ) arg3 fullShare x0 ∗ (owns (c : Thread nD τ) arg4 fullShare (k0_pay1 (word0 c i xb) x0)) ∗ tabPt c tab0a xa ∗ tabPt c tab0b xb) -∗ K ⟨⟩))
          ⊢ wp frame (wpE (defs₀ (F := F)) Variants.none c none) E (cc0_w_in_rows i tab0a htab0a tab0b htab0b arg3 harg3 arg4 harg4) K := by
    simp only [cc0_w_in_rows_eq_skeleton]; unfold cc0_w_in_rows_skel
    unfold owns
    iintro ⟨⟨%f0, %hf0, H0⟩, ⟨%d1, %f1, -, H1⟩, HT0, HT1, Hk⟩
    obtain rfl := harg3.eq_unread hf0
    sl_exec
    sl_step
    iapply Hk
    isplitl [H0]
    · iexists _; isplitr; · ipureintro; exact harg3.read_unread _
      iexact H0
    isplitl [H1]
    · iexists _; isplitr; swap; · iexact H1
      ipureintro
      rw [View.read_writes_full]
      unfold rowsRun0.sl.r
      rw [View.readAt_full, harg3.read_unread]
      rfl
    isplitl [HT0]; · iexact HT0
    iexact HT1

/-- The word of the second table at point `i`: how many of the point's 256 rows are kept. -/
def word1 (c : Dev nD) (i : grid1.Coords) (xb : TabBuf (F := F) c tab1b) : Elt F .i32 :=
  xb ((Rect.unit (s := S9) (k1_off1 i) S1.size (k1_off1_inb i)).point numel1_S1)

set_option maxHeartbeats 1000000 in
/-- The body of the call that gathers the attention columns: with both tables held, one block of rows is read and the kept rows are
    written, zeros elsewhere. -/
theorem rowsRun1 (c : Dev nD) (i : grid1.Coords) (arg3 : Memref sig .tc .vmem S2x256x1024 .f32) (harg3 : arg3.IsWhole) (arg4 : Memref sig .tc .vmem S2x256x1024 .bf16) (harg4 : arg4.IsWhole)
    (x0 : Vec F S2x256x1024 .f32) (xa : TabBuf (F := F) c tab1a) (xb : TabBuf (F := F) c tab1b) (E : Set ℕ) (K : PUnit → sProp 𝕄) :
        iprop(owns (c : Thread nD τ) arg3 fullShare x0 ∗ (∃ d, owns (c : Thread nD τ) arg4 fullShare d) ∗ tabPt c tab1a xa ∗ tabPt c tab1b xb
            ∗ (iprop(owns (c : Thread nD τ) arg3 fullShare x0 ∗ (owns (c : Thread nD τ) arg4 fullShare (k1_pay1 (word1 c i xb) x0)) ∗ tabPt c tab1a xa ∗ tabPt c tab1b xb) -∗ K ⟨⟩))
          ⊢ wp frame (wpE (defs₀ (F := F)) Variants.none c none) E (cc1_w_in_rows i tab1a htab1a tab1b htab1b arg3 harg3 arg4 harg4) K := by
    simp only [cc1_w_in_rows_eq_skeleton]; unfold cc1_w_in_rows_skel
    unfold owns
    iintro ⟨⟨%f0, %hf0, H0⟩, ⟨%d1, %f1, -, H1⟩, HT0, HT1, Hk⟩
    obtain rfl := harg3.eq_unread hf0
    sl_exec
    sl_step
    iapply Hk
    isplitl [H0]
    · iexists _; isplitr; · ipureintro; exact harg3.read_unread _
      iexact H0
    isplitl [H1]
    · iexists _; isplitr; swap; · iexact H1
      ipureintro
      rw [View.read_writes_full]
      unfold rowsRun1.sl.r
      rw [View.readAt_full, harg3.read_unread]
      rfl
    isplitl [HT0]; · iexact HT0
    iexact HT1

end Cert.KernelIdeal.Run

end
-- ==== Proof.Rows.lean ====
module

public import proofs.«01_k».proof.Proof.RowsRun
public import Idealize.ShloMosaic.Lib.Pipeline.RegionArraysTS

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

section Main

variable (a : (pcfg0 (F := F)).Adm) (W : Dev nD → Valuation τ sig (Elt F))

/-- What each window's block at point `t` holds of its array, the buffers being at `W` when the call starts. -/
def blk0 (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (W c (Proc.devRef .tc (Pipeline.arrRef spec0 w)))

/-- The block written at point `t`. -/
def out0 (c : Dev nD) (t : Fin (cfg0 a).N) : Vec F S2x256x1024 .bf16 := k0_pay1 (word0 c (grid0.coords t) (a.1 1)) (blk0 a W c 0 t)

/-- The call's proof data: the arrays at `W`; after the body the input's block in place and the output's at `out0`; the tables held whole. -/
def dat0 (c : Dev nD) : Dat τ (Elt F) Unit ℕ (UR sig nD τ) ℕ (cfg0 a) c where
  A w := W c (Proc.devRef .tc (Pipeline.arrRef spec0 w))
  after w t := match w with
    | ⟨0, _⟩ => blk0 a W c 0 t
    | ⟨1, _⟩ => out0 a W c t
  Φ _ := iprop(iprop(Pipeline.scopedRest spec0 c ∗ BI.emp) ∗ Pipeline.prefHeld pre0 c (fun _ => fullShare) a.1)
  q _ := fullShare
  owed _ := 0

theorem dat0_A (c : Dev nD) (w : Fin (cfg0 a).W) : (dat0 a W c).A w = W c (Proc.devRef .tc (Pipeline.arrRef spec0 w)) := by dsimp only [dat0]
theorem after0_0 (c : Dev nD) (t : Fin (cfg0 a).N) : (dat0 a W c).after 0 t = blk0 a W c 0 t := by dsimp only [dat0]; try rfl
theorem after0_1 (c : Dev nD) (t : Fin (cfg0 a).N) : (dat0 a W c).after 1 t = out0 a W c t := by dsimp only [dat0]; try rfl

theorem before0_0 (c : Dev nD) (t : Fin (cfg0 a).N) (d) : (dat0 a W c).before 0 t d = blk0 a W c 0 t :=
  ((dat0 a W c).before_in_eq_fetched 0 rfl (fun _ => rfl) (fun _ _ _ => rfl)
    (fun t => by rw [after0_0]; unfold Dat.blockOf blk0; rw [dat0_A]; try rfl) t d).trans
    (by unfold Dat.fetched Dat.blockOf blk0; rw [dat0_A]; try rfl)

theorem tables0_eq (c : Dev nD) (v : pre0.Contents (Elt F)) :
    (Pipeline.prefHeld pre0 c (fun _ => fullShare) v : sProp 𝕄) = iprop(tabPt c tab0a (v 0) ∗ tabPt c tab0b (v 1)) := by
  unfold Pipeline.prefHeld
  rw [show (Finset.univ : Finset (Fin 2)) = insert (0 : Fin 2) {(1 : Fin 2)} from by decide, bigSep_insert (by decide), bigSep_singleton]
  rfl

abbrev stg0_0 (t : Fin (cfg0 a).N) : Memref sig .tc .vmem S2x256x1024 .f32 := spec0_0.stage ((cfg0 a).slots t 0)
abbrev stg0_1 (t : Fin (cfg0 a).N) : Memref sig .tc .vmem S2x256x1024 .bf16 := spec0_1.stage ((cfg0 a).slots t 1)

/-- The body at point `t`, on the staging buffers it is handed. -/
abbrev body0At (t : Fin (cfg0 a).N) : Prog (TpuEff nD τ sig (Elt F) Λ₀ .tc) PUnit :=
  cc0_w_in_rows (grid0.coords t) (Memref.whole main_c) (Memref.isWhole_whole _) (Memref.whole main_c_0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1))

def body0Pre (c : Dev nD) (t : Fin (cfg0 a).N) : sProp 𝕄 :=
  iprop((dat0 a W c).Φ t.castSucc ∗ (dat0 a W c).owesAt () t.castSucc
    ∗ (∃ d, owns (c : Thread nD τ) (stg0_0 a t) fullShare ((dat0 a W c).before 0 t d))
    ∗ (∃ d, owns (c : Thread nD τ) (stg0_1 a t) fullShare ((dat0 a W c).before 1 t d)))

def body0Post (c : Dev nD) (t : Fin (cfg0 a).N) : sProp 𝕄 :=
  iprop((dat0 a W c).Φ t.succ ∗ (dat0 a W c).owesAt () t.succ
    ∗ owns (c : Thread nD τ) (stg0_0 a t) fullShare ((dat0 a W c).after 0 t)
    ∗ owns (c : Thread nD τ) (stg0_1 a t) fullShare ((dat0 a W c).after 1 t))

theorem body0_sound (c : Dev nD) (t : Fin (cfg0 a).N) :
    body0Pre a W c t ⊢ wp frame (wpE (defs₀ (F := F)) Variants.none c none) Set.univ (body0At a t) (fun _ => body0Post a W c t) := by
  unfold body0Pre body0Post body0At
  simp only [before0_0]
  rw [show (dat0 a W c).Φ t.succ = (dat0 a W c).Φ t.castSucc from rfl,
    show (dat0 a W c).owesAt () t.succ = (dat0 a W c).owesAt () t.castSucc from rfl, after0_0, after0_1]
  rw [show (dat0 a W c).Φ t.castSucc = iprop(iprop(Pipeline.scopedRest spec0 c ∗ BI.emp) ∗ Pipeline.prefHeld pre0 c (fun _ => fullShare) a.1) from rfl, tables0_eq]
  iintro ⟨⟨HΦ, ⟨HT0, HT1⟩⟩, Ho, ⟨%d0, H0⟩, ⟨%d1, H1⟩⟩
  iapply ((rowsRun0 c (grid0.coords t) _ _ _ _ (blk0 a W c 0 t) (a.1 0) (a.1 1)) Set.univ _)
  isplitl [H0]; · iexact H0
  isplitl [H1]; · iexists _; iexact H1
  isplitl [HT0]; · iexact HT0
  isplitl [HT1]; · iexact HT1
  iintro ⟨H0, H1, HT0, HT1⟩
  isplitl [HΦ HT0 HT1]
  · isplitl [HΦ]
    · iexact HΦ
    isplitl [HT0]; · iexact HT0
    iexact HT1
  isplitl [Ho]; · iexact Ho
  isplitl [H0]; · iexact H0
  iexact H1

theorem body0_row (t : Fin (cfg0 a).N) :
    defs₀ (F := F) .tc (cfg0 a).body ((cfg0 a).bodyArgs t ((cfg0 a).slots t)) = body0At a t := by
  unfold defs₀; rw [Defs.onTc_tc]

theorem body0_obligation (c : Dev nD) : BodyObligation (dat0 a W c) (defs₀ (F := F)) Variants.none () Set.univ := fun t => by
  rw [bigSep_W0, bigSep_W0, body0_row a]
  exact triple_restated (body0_sound a W c t) rfl .rfl fun _ => .rfl

end Main

section Attention

variable (a : (pcfg1 (F := F)).Adm) (W : Dev nD → Valuation τ sig (Elt F))

/-- What each window's block at point `t` holds of its array, the buffers being at `W` when the call starts. -/
def blk1 (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (W c (Proc.devRef .tc (Pipeline.arrRef spec1 w)))

/-- The block written at point `t`. -/
def out1 (c : Dev nD) (t : Fin (cfg1 a).N) : Vec F S2x256x1024 .bf16 := k1_pay1 (word1 c (grid1.coords t) (a.1 1)) (blk1 a W c 0 t)

/-- The call's proof data: the arrays at `W`; after the body the input's block in place and the output's at `out1`; the tables held whole. -/
def dat1 (c : Dev nD) : Dat τ (Elt F) Unit ℕ (UR sig nD τ) ℕ (cfg1 a) c where
  A w := W c (Proc.devRef .tc (Pipeline.arrRef spec1 w))
  after w t := match w with
    | ⟨0, _⟩ => blk1 a W c 0 t
    | ⟨1, _⟩ => out1 a W c t
  Φ _ := iprop(iprop(Pipeline.scopedRest spec1 c ∗ BI.emp) ∗ Pipeline.prefHeld pre1 c (fun _ => fullShare) a.1)
  q _ := fullShare
  owed _ := 0

theorem dat1_A (c : Dev nD) (w : Fin (cfg1 a).W) : (dat1 a W c).A w = W c (Proc.devRef .tc (Pipeline.arrRef spec1 w)) := by dsimp only [dat1]
theorem after1_0 (c : Dev nD) (t : Fin (cfg1 a).N) : (dat1 a W c).after 0 t = blk1 a W c 0 t := by dsimp only [dat1]; try rfl
theorem after1_1 (c : Dev nD) (t : Fin (cfg1 a).N) : (dat1 a W c).after 1 t = out1 a W c t := by dsimp only [dat1]; try rfl

theorem before1_0 (c : Dev nD) (t : Fin (cfg1 a).N) (d) : (dat1 a W c).before 0 t d = blk1 a W c 0 t :=
  ((dat1 a W c).before_in_eq_fetched 0 rfl (fun _ => rfl) (fun _ _ _ => rfl)
    (fun t => by rw [after1_0]; unfold Dat.blockOf blk1; rw [dat1_A]; try rfl) t d).trans
    (by unfold Dat.fetched Dat.blockOf blk1; rw [dat1_A]; try rfl)

theorem tables1_eq (c : Dev nD) (v : pre1.Contents (Elt F)) :
    (Pipeline.prefHeld pre1 c (fun _ => fullShare) v : sProp 𝕄) = iprop(tabPt c tab1a (v 0) ∗ tabPt c tab1b (v 1)) := by
  unfold Pipeline.prefHeld
  rw [show (Finset.univ : Finset (Fin 2)) = insert (0 : Fin 2) {(1 : Fin 2)} from by decide, bigSep_insert (by decide), bigSep_singleton]
  rfl

abbrev stg1_0 (t : Fin (cfg1 a).N) : Memref sig .tc .vmem S2x256x1024 .f32 := spec1_0.stage ((cfg1 a).slots t 0)
abbrev stg1_1 (t : Fin (cfg1 a).N) : Memref sig .tc .vmem S2x256x1024 .bf16 := spec1_1.stage ((cfg1 a).slots t 1)

/-- The body at point `t`, on the staging buffers it is handed. -/
abbrev body1At (t : Fin (cfg1 a).N) : Prog (TpuEff nD τ sig (Elt F) Λ₀ .tc) PUnit :=
  cc1_w_in_rows (grid1.coords t) (Memref.whole main_c_1) (Memref.isWhole_whole _) (Memref.whole main_c_2) (Memref.isWhole_whole _) (spec1_0.stage ((cfg1 a).slots t 0)) (hstage1_0 (((cfg1 a).slots t 0).cast nbuf1_0)) (spec1_1.stage ((cfg1 a).slots t 1)) (hstage1_1 (((cfg1 a).slots t 1).cast nbuf1_1))

def body1Pre (c : Dev nD) (t : Fin (cfg1 a).N) : sProp 𝕄 :=
  iprop((dat1 a W c).Φ t.castSucc ∗ (dat1 a W c).owesAt () t.castSucc
    ∗ (∃ d, owns (c : Thread nD τ) (stg1_0 a t) fullShare ((dat1 a W c).before 0 t d))
    ∗ (∃ d, owns (c : Thread nD τ) (stg1_1 a t) fullShare ((dat1 a W c).before 1 t d)))

def body1Post (c : Dev nD) (t : Fin (cfg1 a).N) : sProp 𝕄 :=
  iprop((dat1 a W c).Φ t.succ ∗ (dat1 a W c).owesAt () t.succ
    ∗ owns (c : Thread nD τ) (stg1_0 a t) fullShare ((dat1 a W c).after 0 t)
    ∗ owns (c : Thread nD τ) (stg1_1 a t) fullShare ((dat1 a W c).after 1 t))

theorem body1_sound (c : Dev nD) (t : Fin (cfg1 a).N) :
    body1Pre a W c t ⊢ wp frame (wpE (defs₀ (F := F)) Variants.none c none) Set.univ (body1At a t) (fun _ => body1Post a W c t) := by
  unfold body1Pre body1Post body1At
  simp only [before1_0]
  rw [show (dat1 a W c).Φ t.succ = (dat1 a W c).Φ t.castSucc from rfl,
    show (dat1 a W c).owesAt () t.succ = (dat1 a W c).owesAt () t.castSucc from rfl, after1_0, after1_1]
  rw [show (dat1 a W c).Φ t.castSucc = iprop(iprop(Pipeline.scopedRest spec1 c ∗ BI.emp) ∗ Pipeline.prefHeld pre1 c (fun _ => fullShare) a.1) from rfl, tables1_eq]
  iintro ⟨⟨HΦ, ⟨HT0, HT1⟩⟩, Ho, ⟨%d0, H0⟩, ⟨%d1, H1⟩⟩
  iapply ((rowsRun1 c (grid1.coords t) _ _ _ _ (blk1 a W c 0 t) (a.1 0) (a.1 1)) Set.univ _)
  isplitl [H0]; · iexact H0
  isplitl [H1]; · iexists _; iexact H1
  isplitl [HT0]; · iexact HT0
  isplitl [HT1]; · iexact HT1
  iintro ⟨H0, H1, HT0, HT1⟩
  isplitl [HΦ HT0 HT1]
  · isplitl [HΦ]
    · iexact HΦ
    isplitl [HT0]; · iexact HT0
    iexact HT1
  isplitl [Ho]; · iexact Ho
  isplitl [H0]; · iexact H0
  iexact H1

theorem body1_row (t : Fin (cfg1 a).N) :
    defs₀ (F := F) .tc (cfg1 a).body ((cfg1 a).bodyArgs t ((cfg1 a).slots t)) = body1At a t := by
  unfold defs₀; rw [Defs.onTc_tc]

theorem body1_obligation (c : Dev nD) : BodyObligation (dat1 a W c) (defs₀ (F := F)) Variants.none () Set.univ := fun t => by
  rw [bigSep_W1, bigSep_W1, body1_row a]
  exact triple_restated (body1_sound a W c t) rfl .rfl fun _ => .rfl

end Attention

end Cert.KernelIdeal.Run

end
-- ==== Proof.Tables.lean ====
module

public import proofs.«01_k».proof.Proof.Rows

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The tables' contents: they are constants of the program. -/
def table0 : pre0.Contents (Elt F) := fun | 0 => fun i => lit0 (S25.rowMajor i) | 1 => fun i => lit1 (S25.rowMajor i)
def table1 : pre1.Contents (Elt F) := fun | 0 => fun i => lit2 (S9.rowMajor i) | 1 => constantI S9 32 256#32

/-- The element of the tables that point `i` reads is number `i`. -/
theorem point0 : ∀ i : grid0.Coords, S25.rowMajor ((Rect.unit (s := S25) (k0_off1 i) S1.size (k0_off1_inb i)).point numel1_S1) = (⟨(i 0).val, (i 0).isLt⟩ : Fin 25) := by
  have h : ∀ i : grid0.Coords, (S25.rowMajor ((Rect.unit (s := S25) (k0_off1 i) S1.size (k0_off1_inb i)).point numel1_S1)).val = (i 0).val := by decide +kernel
  exact fun i => Fin.ext (h i)
theorem start0 (i : grid0.Coords) : cc0_transform_0 k0_off1_inb numel1_S1 (table0 (F := F)) i = ![0, (lit0 ⟨(i 0).val, (i 0).isLt⟩).toNat, 0] := by
  rw [← point0 i]; rfl
theorem mult0 (i : grid0.Coords) : k0_mult1 (table0 (F := F)) i = lit0 ⟨(i 0).val, (i 0).isLt⟩ := by
  rw [← point0 i]
  show (table0 (F := F)).atD 0 (k0_off1 i) = _
  unfold Pipeline.Prefetch.Contents.atD
  have h : ∀ a : Fin (pre0.ref 0).ty.shape.rank, k0_off1 i a + 1 ≤ (pre0.ref 0).ty.shape.size a := fun (a : Fin 1) => match a with
    | ⟨0, _⟩ => k0_off1_inb i 0
  rw [dif_pos h]
  exact congrArg (fun j => lit0 (S25.rowMajor j)) (funext fun a => Fin.ext (by show _ = _ + 1 * 0; rfl))
theorem keep0 (c : Dev nD) (i : grid0.Coords) : word0 c i (table0 (F := F) 1) = lit1 ⟨(i 0).val, (i 0).isLt⟩ := by
  rw [← point0 i]; rfl
theorem starts0_in : ∀ k : Fin 25, 8 ∣ (lit0 k).toInt ∧ (lit0 k).toNat + 256 ≤ 8456 := by decide +kernel

/-- Every block the tables name lies inside the weight array. -/
theorem table0_ok : ok0 (F := F) table0 := by
  constructor
  · intro i; rw [mult0]; exact (starts0_in _).1
  · intro i
    refine ⟨fun a => ?_, Or.inl rfl⟩
    rw [start0]
    fin_cases a
    · exact Nat.le_refl 2
    · exact (starts0_in _).2
    · exact Nat.le_refl 1024

/-- The element of the tables that point `i` reads is number `i`. -/
theorem point1 : ∀ i : grid1.Coords, S9.rowMajor ((Rect.unit (s := S9) (k1_off1 i) S1.size (k1_off1_inb i)).point numel1_S1) = (⟨(i 0).val, (i 0).isLt⟩ : Fin 9) := by
  have h : ∀ i : grid1.Coords, (S9.rowMajor ((Rect.unit (s := S9) (k1_off1 i) S1.size (k1_off1_inb i)).point numel1_S1)).val = (i 0).val := by decide +kernel
  exact fun i => Fin.ext (h i)
theorem start1 (i : grid1.Coords) : cc1_transform_0 k1_off1_inb numel1_S1 (table1 (F := F)) i = ![0, (lit2 ⟨(i 0).val, (i 0).isLt⟩).toNat, 0] := by
  rw [← point1 i]; rfl
theorem mult1 (i : grid1.Coords) : k1_mult1 (table1 (F := F)) i = lit2 ⟨(i 0).val, (i 0).isLt⟩ := by
  rw [← point1 i]
  show (table1 (F := F)).atD 0 (k1_off1 i) = _
  unfold Pipeline.Prefetch.Contents.atD
  have h : ∀ a : Fin (pre1.ref 0).ty.shape.rank, k1_off1 i a + 1 ≤ (pre1.ref 0).ty.shape.size a := fun (a : Fin 1) => match a with
    | ⟨0, _⟩ => k1_off1_inb i 0
  rw [dif_pos h]
  exact congrArg (fun j => lit2 (S9.rowMajor j)) (funext fun a => Fin.ext (by show _ = _ + 1 * 0; rfl))
theorem keep1 (c : Dev nD) (i : grid1.Coords) : word1 c i (table1 (F := F) 1) = 256#32 := rfl
theorem starts1_in : ∀ k : Fin 9, 8 ∣ (lit2 k).toInt ∧ (lit2 k).toNat + 256 ≤ 8456 := by decide +kernel

/-- Every block the tables name lies inside the weight array. -/
theorem table1_ok : ok1 (F := F) table1 := by
  constructor
  · intro i; rw [mult1]; exact (starts1_in _).1
  · intro i
    refine ⟨fun a => ?_, Or.inl rfl⟩
    rw [start1]
    fin_cases a
    · exact Nat.le_refl 2
    · exact (starts1_in _).2
    · exact Nat.le_refl 1024

def adm0 : (pcfg0 (F := F)).Adm := ⟨table0, table0_ok⟩
def adm1 : (pcfg1 (F := F)).Adm := ⟨table1, table1_ok⟩

end Cert.KernelIdeal.Run

end
-- ==== Proof.InprojRun.lean ====
module

public import proofs.«01_k».proof.Proof.RowsRun
public import Idealize.ShloMosaic.Lib.WholeRead

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The gate rows the body reads: the first 128 of the window's 256. -/
def gateRows (x3 : Vec F S1x256x1024 .bf16) : Vec F S1x128x1024 .bf16 :=
  extractStridedSlice S1x128x1024 ![0, 0, 0] x3 ⟨rfl, inb_S1x256x1024_S1x128x1024_0_0_0⟩

set_option maxHeartbeats 1600000 in
/-- The projection's body where a new block of rows begins: the normalised rows are written, the gates from
    them, and the projection block from the same rows. -/
theorem inprojRunA (c : Dev nD) (i : grid2.Coords) (arg2 : Memref sig .tc .vmem S1024x1024 .f32) (harg2 : arg2.IsWhole) (arg3 : Memref sig .tc .vmem S1x1024 .f32) (harg3 : arg3.IsWhole) (arg4 : Memref sig .tc .vmem S1x3072x1024 .bf16) (harg4 : arg4.IsWhole) (arg5 : Memref sig .tc .vmem S1x256x1024 .bf16) (harg5 : arg5.IsWhole) (arg6 : Memref sig .tc .vmem S1024x3072 .bf16) (harg6 : arg6.IsWhole) (arg7 : Memref sig .tc .vmem S1024x1024 .bf16) (harg7 : arg7.IsWhole) (arg8 : Memref sig .tc .vmem S8x1024 .f32) (harg8 : arg8.IsWhole) (hc0 : k2_cond1 i = 1#1)
    (x0 : Vec F S1024x1024 .f32) (x1 : Vec F S1x1024 .f32) (x2 : Vec F S1x3072x1024 .bf16) (x3 : Vec F S1x256x1024 .bf16) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k2_pay3 (k2_pay1 x0 x1) x2) ∗ owns (c : Thread nD τ) arg7 fullShare (k2_pay1 x0 x1) ∗ owns (c : Thread nD τ) arg8 fullShare (k2_pay2 x0 x1 (gateRows x3))) -∗ K ⟨⟩))
          ⊢ wp frame (wpE (defs₀ (F := F)) Variants.none c none) E (cc2_inproj i arg2 harg2 arg3 harg3 arg4 harg4 arg5 harg5 arg6 harg6 arg7 harg7 arg8 harg8) K := by
    simp only [cc2_inproj_eq_skeleton]; unfold cc2_inproj_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      rw [View.read_writes_full]
      unfold inprojRunA.sl.v3 inprojRunA.sl.H5_1
      rw [View.readCov_full, View.readAt_full, View.readAt_full, View.readAt_full, harg2.read_unread, harg3.read_unread, harg4.read_unread]
    isplitl [H5]
    · iexists _; isplitr; swap; · iexact H5
      ipureintro
      unfold inprojRunA.sl.H5_1
      rw [View.read_writes_full, View.readAt_full, View.readAt_full, harg2.read_unread, harg3.read_unread]
    iexists _; isplitr; swap; · iexact H6
    ipureintro
    rw [View.read_writes_full, View.readAt_full, View.readAt_full, harg2.read_unread, harg3.read_unread]
    exact congrArg (k2_pay2 x0 x1) (funext fun y => (harg5.readAt_unread _ _ y).trans (congrArg x3 (funext fun a => Fin.ext (congrArg (_ + ·) (Nat.one_mul (y a).val)))))

set_option maxHeartbeats 1600000 in
/-- The projection's body at the other points: only the projection block is written, from the rows already
    normalised. -/
theorem inprojRunB (c : Dev nD) (i : grid2.Coords) (arg2 : Memref sig .tc .vmem S1024x1024 .f32) (harg2 : arg2.IsWhole) (arg3 : Memref sig .tc .vmem S1x1024 .f32) (harg3 : arg3.IsWhole) (arg4 : Memref sig .tc .vmem S1x3072x1024 .bf16) (harg4 : arg4.IsWhole) (arg5 : Memref sig .tc .vmem S1x256x1024 .bf16) (harg5 : arg5.IsWhole) (arg6 : Memref sig .tc .vmem S1024x3072 .bf16) (harg6 : arg6.IsWhole) (arg7 : Memref sig .tc .vmem S1024x1024 .bf16) (harg7 : arg7.IsWhole) (arg8 : Memref sig .tc .vmem S8x1024 .f32) (harg8 : arg8.IsWhole) (hc0 : ¬k2_cond1 i = 1#1)
    (x0 : Vec F S1024x1024 .f32) (x1 : Vec F S1x1024 .f32) (x2 : Vec F S1x3072x1024 .bf16) (x3 : Vec F S1x256x1024 .bf16) (x5 : Vec F S1024x1024 .bf16) (x6 : Vec F S8x1024 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare x5 ∗ owns (c : Thread nD τ) arg8 fullShare x6
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k2_pay3 x5 x2) ∗ owns (c : Thread nD τ) arg7 fullShare x5 ∗ owns (c : Thread nD τ) arg8 fullShare x6) -∗ K ⟨⟩))
          ⊢ wp frame (wpE (defs₀ (F := F)) Variants.none c none) E (cc2_inproj i arg2 harg2 arg3 harg3 arg4 harg4 arg5 harg5 arg6 harg6 arg7 harg7 arg8 harg8) K := by
    simp only [cc2_inproj_eq_skeleton]; unfold cc2_inproj_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hf6
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      rw [View.read_writes_full, View.readAt_full, View.readAt_full, harg7.read_unread, harg4.read_unread]
    isplitl [H5]
    · iexists _; isplitr; swap; · iexact H5
      ipureintro
      exact harg7.read_unread _
    iexists _; isplitr; swap; · iexact H6
    ipureintro
    exact harg8.read_unread _

end Cert.KernelIdeal.Run

end
-- ==== Proof.Inproj.lean ====
module

public import proofs.«01_k».proof.Proof.InprojRun

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (W : Dev nD → Valuation τ sig (Elt F))

/-- What each window's block at point `t` holds of its array, the buffers being at `W` when the call starts. -/
def blk2 (c : Dev nD) (w : Fin cfg2.W) (t : Fin cfg2.N) : ((cfg2.win w).xblock (cfg2.grid.coords t)).Idx → Elt F (cfg2.win w).elt :=
  ((cfg2.win w).blk t).view.read (Elt F) (W c (Proc.devRef .tc (Pipeline.arrRef spec2 w)))

/-- The weights' window does not tile its array, but no block it reaches is cut: a filler for the part nothing leaves unfilled. -/
def fill2_2 : (cfg2.win 2).block.Idx → Elt F (cfg2.win 2).elt := fun _ => Classical.choice inferInstance
def wblk2 (c : Dev nD) (t : Fin cfg2.N) : (cfg2.win 2).block.Idx → Elt F (cfg2.win 2).elt :=
  (cfg2.win 2).fill (cfg2.grid.coords t) fill2_2 (blk2 W c 2 t)
theorem uncut2_2 : ∀ t : Fin cfg2.N, ∀ a, (cfg2.win 2).xsize (cfg2.grid.coords t) a = (cfg2.win 2).size a := by decide +kernel
theorem moved2_2 (t : Fin cfg2.N) (j : (cfg2.win 2).block.Idx) : (cfg2.win 2).moved (cfg2.grid.coords t) j = true :=
  ((cfg2.win 2).moved_iff _ j).mpr fun a => by rw [uncut2_2 t a]; exact (j a).isLt
theorem fill2_2_eq (t : Fin cfg2.N) (d d' : (cfg2.win 2).block.Idx → Elt F (cfg2.win 2).elt) (g) :
    (cfg2.win 2).fill (cfg2.grid.coords t) d g = (cfg2.win 2).fill (cfg2.grid.coords t) d' g := by
  funext j; unfold Pipeline.Window.fill; rw [dif_pos (moved2_2 t j), dif_pos (moved2_2 t j)]

/-- The first of the two points that share a block of rows. -/
def rowPt (t : Fin cfg2.N) : Fin cfg2.N := ⟨t.val / 2 * 2, lt_of_le_of_lt (Nat.div_mul_le_self _ _) t.isLt⟩
theorem rowPt_even (t : Fin cfg2.N) (h : t.val % 2 = 0) : rowPt t = t := Fin.ext (by show t.val / 2 * 2 = t.val; omega)
theorem rowPt_odd (t : Fin cfg2.N) (h : ¬ t.val % 2 = 0) : rowPt ⟨t.val - 1, lt_of_le_of_lt (Nat.sub_le _ _) t.isLt⟩ = rowPt t :=
  Fin.ext (by show (t.val - 1) / 2 * 2 = t.val / 2 * 2; omega)

/-- The normalised rows, the projection block and the gates the call writes at point `t`. -/
def hOut (c : Dev nD) (t : Fin cfg2.N) : Vec F S1024x1024 .bf16 := k2_pay1 (blk2 W c 0 (rowPt t)) (blk2 W c 1 (rowPt t))
def projOut (c : Dev nD) (t : Fin cfg2.N) : Vec F S1024x3072 .bf16 := k2_pay3 (hOut W c t) (wblk2 W c t)
def gateOut (c : Dev nD) (t : Fin cfg2.N) : Vec F S8x1024 .f32 :=
  k2_pay2 (blk2 W c 0 (rowPt t)) (blk2 W c 1 (rowPt t)) (gateRows (blk2 W c 3 (rowPt t)))

def dat2 (c : Dev nD) : Dat τ (Elt F) Unit ℕ (UR sig nD τ) ℕ cfg2 c where
  A w := W c (Proc.devRef .tc (Pipeline.arrRef spec2 w))
  after w t := match w with
    | ⟨0, _⟩ => blk2 W c 0 t
    | ⟨1, _⟩ => blk2 W c 1 t
    | ⟨2, _⟩ => wblk2 W c t
    | ⟨3, _⟩ => blk2 W c 3 t
    | ⟨4, _⟩ => projOut W c t
    | ⟨5, _⟩ => hOut W c t
    | ⟨6, _⟩ => gateOut W c t
  Φ _ := Pipeline.scopedRest spec2 c
  q w := Pipeline.shareOf spec2 w
  owed _ := 0

theorem dat2_A (c : Dev nD) (w : Fin cfg2.W) : (dat2 W c).A w = W c (Proc.devRef .tc (Pipeline.arrRef spec2 w)) := by dsimp only [dat2]
theorem after2_0 (c : Dev nD) (t : Fin cfg2.N) : (dat2 W c).after 0 t = blk2 W c 0 t := by dsimp only [dat2]
theorem after2_1 (c : Dev nD) (t : Fin cfg2.N) : (dat2 W c).after 1 t = blk2 W c 1 t := by dsimp only [dat2]
theorem after2_2 (c : Dev nD) (t : Fin cfg2.N) : (dat2 W c).after 2 t = wblk2 W c t := by dsimp only [dat2]
theorem after2_3 (c : Dev nD) (t : Fin cfg2.N) : (dat2 W c).after 3 t = blk2 W c 3 t := by dsimp only [dat2]
theorem after2_4 (c : Dev nD) (t : Fin cfg2.N) : (dat2 W c).after 4 t = projOut W c t := by dsimp only [dat2]
theorem after2_5 (c : Dev nD) (t : Fin cfg2.N) : (dat2 W c).after 5 t = hOut W c t := by dsimp only [dat2]
theorem after2_6 (c : Dev nD) (t : Fin cfg2.N) : (dat2 W c).after 6 t = gateOut W c t := by dsimp only [dat2]

theorem before2_0 (c : Dev nD) (t : Fin cfg2.N) (d) : (dat2 W c).before 0 t d = blk2 W c 0 t :=
  ((dat2 W c).before_in_eq_fetched 0 rfl (fun _ => rfl) (fun _ _ _ => rfl)
    (fun t => by rw [after2_0]; unfold Dat.blockOf blk2; rw [dat2_A]; try rfl) t d).trans
    (by unfold Dat.fetched Dat.blockOf blk2; rw [dat2_A]; try rfl)
theorem before2_1 (c : Dev nD) (t : Fin cfg2.N) (d) : (dat2 W c).before 1 t d = blk2 W c 1 t :=
  ((dat2 W c).before_in_eq_fetched 1 rfl (fun _ => rfl) (fun _ _ _ => rfl)
    (fun t => by rw [after2_1]; unfold Dat.blockOf blk2; rw [dat2_A]; try rfl) t d).trans
    (by unfold Dat.fetched Dat.blockOf blk2; rw [dat2_A]; try rfl)
theorem before2_3 (c : Dev nD) (t : Fin cfg2.N) (d) : (dat2 W c).before 3 t d = blk2 W c 3 t :=
  ((dat2 W c).before_in_eq_fetched 3 rfl (fun _ => rfl) (fun _ _ _ => rfl)
    (fun t => by rw [after2_3]; unfold Dat.blockOf blk2; rw [dat2_A]; try rfl) t d).trans
    (by unfold Dat.fetched Dat.blockOf blk2; rw [dat2_A]; try rfl)
theorem before2_2 (c : Dev nD) (t : Fin cfg2.N) (d) : (dat2 W c).before 2 t d = wblk2 W c t :=
  ((dat2 W c).before_in_eq_fetched 2 rfl (fun _ => rfl)
      (fun t t' h => funext fun a => congrArg (fun n => Pipeline.Clip.of n ((cfg2.win 2).size a) (S2x6400x1024.size a)) (congrFun h a))
      (fun t => by rw [after2_2]; unfold wblk2; rw [Pipeline.Window.cut_fill]; unfold Dat.blockOf blk2; rw [dat2_A]; try rfl) t d).trans
    (by unfold Dat.fetched wblk2; rw [fill2_2_eq t d fill2_2]; unfold Dat.blockOf blk2; rw [dat2_A]; try rfl)

/-- The body's condition holds at the first point of each pair. -/
theorem cond2 (t : Fin cfg2.N) : k2_cond1 (grid2.coords t) = 1#1 ↔ t.val % 2 = 0 := by
  have ht : t.val < 32 := lt_of_lt_of_eq t.isLt N_2
  have e0 : (grid2.coords t 0).val = t.val / 2 % 16 := Pipeline.Grid.coords_val t 0 (by decide) rfl
  have e1 : (grid2.coords t 1).val = t.val / 1 % 2 := Pipeline.Grid.coords_val t 1 (by decide) rfl
  simp only [k2_cond1, e0, e1]
  word_cmp

abbrev stg2_0 (t : Fin cfg2.N) : Memref sig .tc .vmem S1024x1024 .f32 := win2_0.stage (cfg2.slots t 0)
abbrev stg2_1 (t : Fin cfg2.N) : Memref sig .tc .vmem S1x1024 .f32 := win2_1.stage (cfg2.slots t 1)
abbrev stg2_2 (t : Fin cfg2.N) : Memref sig .tc .vmem S1x3072x1024 .bf16 := win2_2.stage (cfg2.slots t 2)
abbrev stg2_3 (t : Fin cfg2.N) : Memref sig .tc .vmem S1x256x1024 .bf16 := win2_3.stage (cfg2.slots t 3)
abbrev stg2_4 (t : Fin cfg2.N) : Memref sig .tc .vmem S1024x3072 .bf16 := win2_4.stage (cfg2.slots t 4)
abbrev stg2_5 (t : Fin cfg2.N) : Memref sig .tc .vmem S1024x1024 .bf16 := win2_5.stage (cfg2.slots t 5)
abbrev stg2_6 (t : Fin cfg2.N) : Memref sig .tc .vmem S8x1024 .f32 := win2_6.stage (cfg2.slots t 6)

/-- The windows of the rows and the gates are stored only at the first point of a pair. -/
theorem idle2_first (t : Fin cfg2.N) (h : t.val % 2 = 0) : cfg2.idle 5 (grid2.coords t) = false ∧ cfg2.idle 6 (grid2.coords t) = false := by
  have e := (cond2 t).mpr h
  constructor <;> (show (!(k2_cond1 (grid2.coords t) == 1#1)) = false) <;> rw [e] <;> rfl
/-- At the second point of a pair the buffer still holds what the first left. -/
theorem before2_5 (c : Dev nD) (t : Fin cfg2.N) (h : ¬ t.val % 2 = 0) (d) : (dat2 W c).before 5 t d = hOut W c t := by
  have hN : t.val < 32 := lt_of_lt_of_eq t.isLt N_2
  have hi := (idle2_first ⟨t.val - 1, lt_of_le_of_lt (Nat.sub_le _ _) t.isLt⟩ (by show (t.val - 1) % 2 = 0; omega)).1
  have hfl : (cfg2.win 5).flush ⟨t.val - 1, lt_of_le_of_lt (Nat.sub_le _ _) t.isLt⟩ = false := Bool.eq_false_iff.mpr fun e => by
    have e := (flush2_5 _).mp e; simp only at e; omega
  rw [(dat2 W c).before_of_pos 5 t (by omega) ((cfg2.win 5).fetch_out rfl t), hfl, if_neg Bool.false_ne_true]
  unfold Dat.left
  rw [hi]
  show (dat2 W c).after 5 _ = _
  rw [after2_5]
  unfold hOut; rw [rowPt_odd t h]
theorem leaves2_5 (c : Dev nD) (t : Fin cfg2.N) : (dat2 W c).leavesExact 5 t = owns (c : Thread nD τ) (stg2_5 t) fullShare (hOut W c t) := by
  by_cases h : t.val % 2 = 0
  · unfold Dat.leavesExact; rw [(idle2_first t h).1, after2_5]
  · unfold Dat.leavesExact
    rw [(flush2_5 t).mpr (by omega)]
    cases cfg2.idle 5 (cfg2.grid.coords t) <;> simp only [after2_5]
/-- At the second point of a pair the buffer still holds what the first left. -/
theorem before2_6 (c : Dev nD) (t : Fin cfg2.N) (h : ¬ t.val % 2 = 0) (d) : (dat2 W c).before 6 t d = gateOut W c t := by
  have hN : t.val < 32 := lt_of_lt_of_eq t.isLt N_2
  have hi := (idle2_first ⟨t.val - 1, lt_of_le_of_lt (Nat.sub_le _ _) t.isLt⟩ (by show (t.val - 1) % 2 = 0; omega)).2
  have hfl : (cfg2.win 6).flush ⟨t.val - 1, lt_of_le_of_lt (Nat.sub_le _ _) t.isLt⟩ = false := Bool.eq_false_iff.mpr fun e => by
    have e := (flush2_6 _).mp e; simp only at e; omega
  rw [(dat2 W c).before_of_pos 6 t (by omega) ((cfg2.win 6).fetch_out rfl t), hfl, if_neg Bool.false_ne_true]
  unfold Dat.left
  rw [hi]
  show (dat2 W c).after 6 _ = _
  rw [after2_6]
  unfold gateOut; rw [rowPt_odd t h]
theorem leaves2_6 (c : Dev nD) (t : Fin cfg2.N) : (dat2 W c).leavesExact 6 t = owns (c : Thread nD τ) (stg2_6 t) fullShare (gateOut W c t) := by
  by_cases h : t.val % 2 = 0
  · unfold Dat.leavesExact; rw [(idle2_first t h).2, after2_6]
  · unfold Dat.leavesExact
    rw [(flush2_6 t).mpr (by omega)]
    cases cfg2.idle 6 (cfg2.grid.coords t) <;> simp only [after2_6]

theorem live2_0 (t : Fin cfg2.N) : cfg2.idle 0 (grid2.coords t) = false := rfl
theorem leaves2_0 (c : Dev nD) (t : Fin cfg2.N) : (dat2 W c).leavesExact 0 t = owns (c : Thread nD τ) (stg2_0 t) fullShare (blk2 W c 0 t) := by
  unfold Dat.leavesExact; rw [live2_0 t, after2_0]
theorem live2_1 (t : Fin cfg2.N) : cfg2.idle 1 (grid2.coords t) = false := rfl
theorem leaves2_1 (c : Dev nD) (t : Fin cfg2.N) : (dat2 W c).leavesExact 1 t = owns (c : Thread nD τ) (stg2_1 t) fullShare (blk2 W c 1 t) := by
  unfold Dat.leavesExact; rw [live2_1 t, after2_1]
theorem live2_2 (t : Fin cfg2.N) : cfg2.idle 2 (grid2.coords t) = false := rfl
theorem leaves2_2 (c : Dev nD) (t : Fin cfg2.N) : (dat2 W c).leavesExact 2 t = owns (c : Thread nD τ) (stg2_2 t) fullShare (wblk2 W c t) := by
  unfold Dat.leavesExact; rw [live2_2 t, after2_2]
theorem live2_3 (t : Fin cfg2.N) : cfg2.idle 3 (grid2.coords t) = false := rfl
theorem leaves2_3 (c : Dev nD) (t : Fin cfg2.N) : (dat2 W c).leavesExact 3 t = owns (c : Thread nD τ) (stg2_3 t) fullShare (blk2 W c 3 t) := by
  unfold Dat.leavesExact; rw [live2_3 t, after2_3]
theorem live2_4 (t : Fin cfg2.N) : cfg2.idle 4 (grid2.coords t) = false := rfl
theorem leaves2_4 (c : Dev nD) (t : Fin cfg2.N) : (dat2 W c).leavesExact 4 t = owns (c : Thread nD τ) (stg2_4 t) fullShare (projOut W c t) := by
  unfold Dat.leavesExact; rw [live2_4 t, after2_4]

def body2Pre (c : Dev nD) (t : Fin cfg2.N) : sProp 𝕄 :=
  iprop((dat2 W c).Φ t.castSucc ∗ (dat2 W c).owesAt () t.castSucc
    ∗ (∃ d, owns (c : Thread nD τ) (stg2_0 t) fullShare ((dat2 W c).before 0 t d))
    ∗ (∃ d, owns (c : Thread nD τ) (stg2_1 t) fullShare ((dat2 W c).before 1 t d))
    ∗ (∃ d, owns (c : Thread nD τ) (stg2_2 t) fullShare ((dat2 W c).before 2 t d))
    ∗ (∃ d, owns (c : Thread nD τ) (stg2_3 t) fullShare ((dat2 W c).before 3 t d))
    ∗ (∃ d, owns (c : Thread nD τ) (stg2_4 t) fullShare ((dat2 W c).before 4 t d))
    ∗ (∃ d, owns (c : Thread nD τ) (stg2_5 t) fullShare ((dat2 W c).before 5 t d))
    ∗ (∃ d, owns (c : Thread nD τ) (stg2_6 t) fullShare ((dat2 W c).before 6 t d)))

def body2Post (c : Dev nD) (t : Fin cfg2.N) : sProp 𝕄 :=
  iprop((dat2 W c).Φ t.succ ∗ (dat2 W c).owesAt () t.succ
    ∗ (dat2 W c).leavesExact 0 t
    ∗ (dat2 W c).leavesExact 1 t
    ∗ (dat2 W c).leavesExact 2 t
    ∗ (dat2 W c).leavesExact 3 t
    ∗ (dat2 W c).leavesExact 4 t
    ∗ (dat2 W c).leavesExact 5 t
    ∗ (dat2 W c).leavesExact 6 t)

set_option maxHeartbeats 1600000 in
theorem body2_sound (c : Dev nD) (t : Fin cfg2.N) :
    body2Pre W c t ⊢ wp frame (wpE (defs₀ (F := F)) Variants.none c none) Set.univ (bodyAt2 t) (fun _ => body2Post W c t) := by
  unfold body2Pre body2Post bodyAt2
  simp only [before2_0, before2_1, before2_2, before2_3]
  rw [show (dat2 W c).Φ t.succ = (dat2 W c).Φ t.castSucc from rfl,
    show (dat2 W c).owesAt () t.succ = (dat2 W c).owesAt () t.castSucc from rfl,
    leaves2_0, leaves2_1, leaves2_2, leaves2_3, leaves2_4, leaves2_5, leaves2_6]
  by_cases h0 : t.val % 2 = 0
  · have hh : hOut W c t = k2_pay1 (blk2 W c 0 t) (blk2 W c 1 t) := by unfold hOut; rw [rowPt_even t h0]
    have hp : projOut W c t = k2_pay3 (k2_pay1 (blk2 W c 0 t) (blk2 W c 1 t)) (wblk2 W c t) := by unfold projOut; rw [hh]
    have hg : gateOut W c t = k2_pay2 (blk2 W c 0 t) (blk2 W c 1 t) (gateRows (blk2 W c 3 t)) := by unfold gateOut; rw [rowPt_even t h0]
    rw [hh, hp, hg]
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((inprojRunA c (grid2.coords t) _ _ _ _ _ _ _ _ _ _ _ _ _ _ ((cond2 t).mpr h0) (blk2 W c 0 t) (blk2 W c 1 t) (wblk2 W c t) (blk2 W c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · simp only [before2_5 W c t h0, before2_6 W c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((inprojRunB c (grid2.coords t) _ _ _ _ _ _ _ _ _ _ _ _ _ _ (fun h => h0 ((cond2 t).mp h)) (blk2 W c 0 t) (blk2 W c 1 t) (wblk2 W c t) (blk2 W c 3 t) (hOut W c t) (gateOut W c t)) Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem body2_row (t : Fin cfg2.N) :
    defs₀ (F := F) .tc cfg2.body (cfg2.bodyArgs t (cfg2.slots t)) = bodyAt2 t := by
  unfold defs₀; rw [Defs.onTc_tc]

theorem body2_obligation (c : Dev nD) : BodyObligation (dat2 W c) (defs₀ (F := F)) Variants.none () Set.univ := fun t => by
  rw [bigSep_W2, bigSep_W2, body2_row]
  exact triple_restated (body2_sound W c t) rfl .rfl fun _ => .rfl

end Cert.KernelIdeal.Run

end
-- ==== Proof.Run.lean ====
module

public import proofs.«01_k».proof.Proof.Tables
public import proofs.«01_k».proof.Proof.Inproj
public import proofs.«01_k».proof.Proof.Gen.KernelIdeal.Regions
public import Idealize.ShloMosaic.Lib.Pipeline.FrameSuffix
public import Idealize.ShloMosaic.Lib.StableHlo.RunRead

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The tables each call runs at. -/
def adm : (p : Fin 3) → (pcfgs (F := F) p).Adm
  | 0 => adm0
  | 1 => adm1
  | 2 => cfg2.toPCfg_adm

/-- The buffers after the host's first operations, after each of the two re-tiling calls, after the host's second
    operations and at the end. -/
abbrev W1 (c : Dev nD) : Valuation τ sig (Elt F) := StableHlo.after hostOps0 (fun b => m (c, b))
def W2 (c : Dev nD) : Valuation τ sig (Elt F) := Pipeline.afterRegion (dat0 adm0 (W1 m) c) (W1 m c)
def W3 (c : Dev nD) : Valuation τ sig (Elt F) := Pipeline.afterRegion (dat1 adm1 (W2 m) c) (W2 m c)
abbrev W4 (c : Dev nD) : Valuation τ sig (Elt F) := StableHlo.after hostOps2 (W3 m c)
def W5 (c : Dev nD) : Valuation τ sig (Elt F) :=
  Pipeline.withArrays spec2 c (W4 m c) fun w => (dat2 (W4 m) c).arrAt w cfg2.N

def pdats : (p : Fin 3) → (c : Dev nD) → Dat τ (Elt F) Unit ℕ (UR sig nD τ) ℕ (Pipeline.pin (pcfgs (F := F)) adm p) c
  | 0 => fun c => dat0 adm0 (W1 m) c
  | 1 => fun c => dat1 adm1 (W2 m) c
  | 2 => fun c => dat2 (W4 m) c

/-- Every semaphore of a TensorCore may be waited on; nothing is owed. -/
def lvls : GSem nD τ sig → Finset Unit := fun g => if g.1.2 = .tc then Finset.univ else ∅
def lv0 : GSem nD τ sig → Unit → ℕ := fun _ _ => 0
def dues : Dev nD → CellTallies nD τ sig Unit := fun _ => 0

theorem cut (p : Fin 3) : Pipeline.LevelCut (pcfgs (F := F)) adm () lvls lv0 p dues (fun _ => 0) where
  hι _ _ _ := by unfold lvls; rw [if_pos rfl]; exact Finset.mem_univ _
  hιb _ _ _ := Nat.le_refl 0
  hD _ _ _ h := absurd h (Nat.lt_irrefl 0)

theorem W1_table (c : Dev nD) : ∀ k, (adm (F := F) 0).1 k = W1 m c (Proc.devRef .tc ((pcfgs (F := F) 0).pre.ref k))
  | 0 => by show table0 0 = W1 m c (Proc.devRef .tc main_c); after_reads_simp; rfl
  | 1 => by show table0 1 = W1 m c (Proc.devRef .tc main_c_0); after_reads_simp; rfl
theorem W2_of (c : Dev nD) (r : Ref sig .tc) (h : ∀ w, r ≠ Pipeline.arrRef spec0 w) : W2 m c r = W1 m c r := by
  unfold W2; exact Pipeline.afterRegion_of_not_arr _ _ h
theorem W3_of (c : Dev nD) (r : Ref sig .tc) (h : ∀ w, r ≠ Pipeline.arrRef spec1 w) : W3 m c r = W2 m c r := by
  unfold W3; exact Pipeline.afterRegion_of_not_arr _ _ h
theorem W5_of (c : Dev nD) (r : Ref sig .tc) (h : ∀ w, Pipeline.arrRef spec2 w ≠ r) : W5 m c r = W4 m c r := by
  unfold W5; exact Pipeline.withArrays_of_ne _ _ _ _ _ h
theorem W2_table (c : Dev nD) : ∀ k, (adm (F := F) 1).1 k = W2 m c (Proc.devRef .tc ((pcfgs (F := F) 1).pre.ref k))
  | 0 => by
    show table1 0 = W2 m c (Proc.devRef .tc main_c_1)
    rw [W2_of m c main_c_1 (by decide)]; after_reads_simp; rfl
  | 1 => by
    show table1 1 = W2 m c (Proc.devRef .tc main_c_2)
    rw [W2_of m c main_c_2 (by decide)]; after_reads_simp; rfl

theorem arrs_in (p : Fin 3) : Pipeline.arrRefs (τ := τ) (pcfgs (F := F) p).spec ⊆ Pipeline.ucRefs τ sig :=
  Pipeline.arrRefs_sub_ucRefs _ (match p with | 0 => winFacts0.arr_unscoped | 1 => winFacts1.arr_unscoped | 2 => winFacts₀2.arr_unscoped)
theorem tbls_in (p : Fin 3) : Pipeline.tblRefs (τ := τ) (pcfgs (F := F) p).pre ⊆ Pipeline.ucRefs τ sig :=
  Pipeline.tblRefs_sub_ucRefs _ (match p with | 0 => preFacts0.unscoped | 1 => preFacts1.unscoped | 2 => fun k => k.elim0)

/-- The two re-tiling calls: from the buffers at one stage to the next, the call's tables read and left as they are. -/
def reg0 : RegionSeg (pcfgs (F := F)) adm (pdats m) () defs₀ Variants.none lvls lv0 0 :=
  RegionSeg.ofHeldInT (pcfgs (F := F)) adm (pdats m) () defs₀ Variants.none lvls lv0 0 dues (Pipeline.ucRefs τ sig)
    (fun _ => BI.emp) (fun _ => BI.emp) launch0 (fun c => (body0_obligation adm0 (W1 m) c).loose) (fun _ _ => rfl) (fun _ => rfl)
    (fun c => (dat0 adm0 (W1 m) c).share_full fun _ => rfl) (fun _ => .rfl) (fun _ => .rfl) (fun _ => 0) (cut 0) (fun _ => BI.emp)
    (W1 m) (fun _ _ => rfl) (W1_table m)
def reg1 : RegionSeg (pcfgs (F := F)) adm (pdats m) () defs₀ Variants.none lvls lv0 1 :=
  RegionSeg.ofHeldInT (pcfgs (F := F)) adm (pdats m) () defs₀ Variants.none lvls lv0 1 dues (Pipeline.ucRefs τ sig)
    (fun _ => BI.emp) (fun _ => BI.emp) launch1 (fun c => (body1_obligation adm1 (W2 m) c).loose) (fun _ _ => rfl) (fun _ => rfl)
    (fun c => (dat1 adm1 (W2 m) c).share_full fun _ => rfl) (fun _ => .rfl) (fun _ => .rfl) (fun _ => 0) (cut 1) (fun _ => BI.emp)
    (W2 m) (fun _ _ => rfl) (W2_table m)
theorem in2 (c : Dev nD) : iprop(Pipeline.scopedRest spec2 c ∗ BI.emp) ⊢ ((pdats m 2 c).Φ 0 : sProp 𝕄) := by
  show _ ⊢ (Pipeline.scopedRest spec2 c : sProp 𝕄)
  iintro ⟨H, -⟩; iexact H
theorem out2 (c : Dev nD) : ((pdats m 2 c).Φ (Fin.last cfg2.N) : sProp 𝕄) ⊢ iprop(Pipeline.scopedRest spec2 c ∗ BI.emp) := by
  show (Pipeline.scopedRest spec2 c : sProp 𝕄) ⊢ _
  iintro H; isplitl [H]; · iexact H
  iempintro
/-- The projection call: its arrays alone, the other buffers carried past it. -/
def reg2 : RegionSeg (pcfgs (F := F)) adm (pdats m) () defs₀ Variants.none lvls lv0 2 :=
  RegionSeg.ofArrays (pcfgs (F := F)) adm (pdats m) () defs₀ Variants.none lvls lv0 2 dues
    (fun _ => BI.emp) (fun _ => BI.emp) launch₀2 rfl (fun c => (body2_obligation (W4 m) c).loose) (fun _ _ => rfl) (fun _ => rfl)
    (in2 m) (out2 m) (fun _ => 0) (cut 2)
    (fun c => Pipeline.unscopedRest spec2 c fun b => W4 m c b)

/-- What rides beside the buffers between two stages. -/
def rest (c : Dev nD) : sProp 𝕄 := iprop(∃ Wd, owes (c : Thread nD τ) (0 : CellTallies nD τ sig Unit) Wd)

theorem rest_in (c : Dev nD) (V : Valuation τ sig (Elt F)) : (iprop(StableHlo.held (c : Thread nD τ) (Pipeline.ucRefs τ sig) V ∗ rest (F := F) c) : sProp 𝕄)
    ⊢ iprop(StableHlo.held (c : Thread nD τ) (Pipeline.ucRefs τ sig) V ∗ ((∃ Wd, owes (c : Thread nD τ) (dues c) Wd) ∗ BI.emp ∗ BI.emp)) := by
  unfold rest; iintro ⟨H, Hw⟩
  isplitl [H]; · iexact H
  isplitl [Hw]; · iexact Hw
  isplitl []; · iempintro
  iempintro
theorem rest_out (c : Dev nD) (V : Valuation τ sig (Elt F)) :
    (iprop(StableHlo.held (c : Thread nD τ) (Pipeline.ucRefs τ sig) V ∗ ((∃ Wd, owes (c : Thread nD τ) (dues c) Wd) ∗ BI.emp ∗ BI.emp)) : sProp 𝕄)
    ⊢ iprop(StableHlo.held (c : Thread nD τ) (Pipeline.ucRefs τ sig) V ∗ rest (F := F) c) := by
  unfold rest; iintro ⟨H, Hw, -, -⟩
  isplitl [H]; · iexact H
  iexact Hw
theorem pre0 (c : Dev nD) : iprop(StableHlo.held (c : Thread nD τ) (Pipeline.ucRefs τ sig) (W1 m c) ∗ rest (F := F) c) ⊢ (reg0 m).pre c :=
  by
  refine (rest_in c _).trans ?_
  unfold reg0
  exact Pipeline.RegionSeg.ofHeldInT_pre (pcs := pcfgs (F := F)) (a := adm) (pdats := pdats m) (ι := ()) (defs₀ := defs₀)
    (𝒱₀ := Variants.none) (L := lvls) (lv := lv0) (p := 0) (D := dues) (S := Pipeline.ucRefs τ sig) (arrs_in (F := F) 0) (tbls_in (F := F) 0)
    (X := fun _ => BI.emp) (Y := fun _ => BI.emp) (R := fun _ => BI.emp) (W := W1 m) c
theorem post0 (c : Dev nD) : (reg0 m).post c ⊢ iprop(StableHlo.held (c : Thread nD τ) (Pipeline.ucRefs τ sig) (W2 m c) ∗ rest (F := F) c) :=
  (Pipeline.RegionSeg.ofHeldInT_post (arrs_in 0) (tbls_in 0) c).trans (rest_out c _)
theorem pre1 (c : Dev nD) : iprop(StableHlo.held (c : Thread nD τ) (Pipeline.ucRefs τ sig) (W2 m c) ∗ rest (F := F) c) ⊢ (reg1 m).pre c :=
  by
  refine (rest_in c _).trans ?_
  unfold reg1
  exact Pipeline.RegionSeg.ofHeldInT_pre (pcs := pcfgs (F := F)) (a := adm) (pdats := pdats m) (ι := ()) (defs₀ := defs₀)
    (𝒱₀ := Variants.none) (L := lvls) (lv := lv0) (p := 1) (D := dues) (S := Pipeline.ucRefs τ sig) (arrs_in (F := F) 1) (tbls_in (F := F) 1)
    (X := fun _ => BI.emp) (Y := fun _ => BI.emp) (R := fun _ => BI.emp) (W := W2 m) c
theorem post1 (c : Dev nD) : (reg1 m).post c ⊢ iprop(StableHlo.held (c : Thread nD τ) (Pipeline.ucRefs τ sig) (W3 m c) ∗ rest (F := F) c) :=
  (Pipeline.RegionSeg.ofHeldInT_post (arrs_in 1) (tbls_in 1) c).trans (rest_out c _)

/-- The unscoped buffers are the projection call's arrays and the rest. -/
theorem split2 (c : Dev nD) (V : Valuation τ sig (Elt F)) (G : (w : Fin cfg2.W) → Buf (Elt F) ((cfg2.spec w).arr.view.loc (c.tc : Thread nD τ)))
    (hG : ∀ w, G w = V (Proc.devRef .tc (Pipeline.arrRef spec2 w))) :
    (StableHlo.held (c : Thread nD τ) (Pipeline.ucRefs τ sig) V : sProp 𝕄)
      = iprop((dat2 (W4 m) c).arrays G ∗ Pipeline.unscopedRest spec2 c fun b => V b) := by
  rw [← Pipeline.unscopedBufs_held (Ix := Unit) (Name := ℕ) (U := UR sig nD τ) (Lvl := ℕ) c V]
  rw [Pipeline.unscopedBufs_split₀ (Pipeline.pin (pcfgs (F := F)) adm) 2 winFacts₀2.arr_unscoped c (fun b => V b)]
  exact congrArg (fun X => iprop(X ∗ Pipeline.unscopedRest spec2 c fun b => V b))
    ((dat2 (W4 m) c).arrBufs_eq_arrays sharedIn2 arr_whole2 (fun _ _ => rfl) (fun b => V b) G hG)
theorem pre2 (c : Dev nD) : iprop(StableHlo.held (c : Thread nD τ) (Pipeline.ucRefs τ sig) (W4 m c) ∗ rest (F := F) c) ⊢ (reg2 m).pre c := by
  show _ ⊢ iprop((dat2 (W4 m) c).arrays ((dat2 (W4 m) c).arrAt · 0) ∗ BI.emp ∗ (Pipeline.unscopedRest spec2 c fun b => W4 m c b)
    ∗ ∃ Wd, owes (c : Thread nD τ) (dues c) Wd)
  rw [split2 m c (W4 m c) ((dat2 (W4 m) c).arrAt · 0) (fun w => rfl)]
  unfold rest
  iintro ⟨⟨Ha, Hu⟩, Hw⟩
  isplitl [Ha]; · iexact Ha
  isplitl []; · iempintro
  isplitl [Hu]; · iexact Hu
  iexact Hw
theorem rest2 (c : Dev nD) : (Pipeline.unscopedRest (Ix := Unit) (Name := ℕ) (U := UR sig nD τ) (Lvl := ℕ) spec2 c (fun b => W5 m c b) : sProp 𝕄)
    = Pipeline.unscopedRest spec2 c fun b => W4 m c b := by
  unfold Pipeline.unscopedRest
  exact bigSep_congr fun b hb => by
    dsimp only
    rw [W5_of m c b fun w e => (Finset.mem_sdiff.mp hb).2 (Finset.mem_image.mpr ⟨w, Finset.mem_univ _, e⟩)]
theorem W5_arr (c : Dev nD) (w : Fin cfg2.W) : W5 m c (Proc.devRef .tc (Pipeline.arrRef spec2 w)) = (dat2 (W4 m) c).arrAt w cfg2.N := by
  unfold W5; exact (dat2 (W4 m) c).withArrays_arrAt sharedIn2 (W4 m c) (fun _ => rfl) w
theorem post2 (c : Dev nD) : (reg2 m).post c ⊢ iprop(StableHlo.held (c : Thread nD τ) (Pipeline.ucRefs τ sig) (W5 m c) ∗ rest (F := F) c) := by
  show iprop((dat2 (W4 m) c).arrays ((dat2 (W4 m) c).arrAt · cfg2.N) ∗ BI.emp ∗ (Pipeline.unscopedRest spec2 c fun b => W4 m c b)
    ∗ ∃ Wd, owes (c : Thread nD τ) (dues c) Wd) ⊢ _
  rw [split2 m c (W5 m c) ((dat2 (W4 m) c).arrAt · cfg2.N) (fun w => (W5_arr m c w).symm), rest2]
  unfold rest
  iintro ⟨Ha, -, Hu, Hw⟩
  isplitl [Ha Hu]
  · isplitl [Ha]; · iexact Ha
    iexact Hu
  iexact Hw

def host0 : HostSeg (Ix := Unit) (Name := ℕ) (U := UR sig nD τ) (Lvl := ℕ) (pcfgs (F := F)) defs₀ Variants.none lvls lv0 :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (fun c b => m (c, b)) rest
def host2 : HostSeg (Ix := Unit) (Name := ℕ) (U := UR sig nD τ) (Lvl := ℕ) (pcfgs (F := F)) defs₀ Variants.none lvls lv0 :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W3 m) rest

abbrev parts (_ : Dev nD) : List (Seg (pcfgs (F := F)) adm (pdats m) () defs₀ Variants.none lvls lv0) :=
  [.host (host0 m), .region (reg0 m), .region (reg1 m), .host (host2 m), .region (reg2 m)]

def tok0 : UR sig nD τ := initOf (Pipeline.cells (Pipeline.pin (pcfgs (F := F)) adm) (cellOf_inj adm))
  (Pipeline.launchToks (Pipeline.pin (pcfgs (F := F)) adm) (cellOf_inj adm))

set_option backward.isDefEq.respectTransparency.types false in
/-- The whole program runs to the end with every buffer at `W5` and every counter at zero. -/
theorem run : θ_run defs (onTc (τ := τ) (main (F := F))) ⟨m, fun _ => 0, ρ⟩ (fun r =>
    (∀ c : Dev nD, ∀ b ∈ Pipeline.ucRefs τ sig, r.2.mem ((c : Thread nD τ).1, b) = W5 m c b) ∧ r.2.sem = fun _ => 0) := by
  refine Pipeline.θ_run_regions_kit_dev_sems (pcfgs (F := F)) adm (pdats m) () (cellOf_inj adm) emb₁ defs₀ Variants.none lvls lv0 m ρ main
    (parts m)
    (fun c Q => by
      rewrite [main_chain c, Seg.run_eq_chain,
        show (parts m c).map Seg.prog = [
          StableHlo.seq hostOps0,
          Prog.lift (.customCall (Pipeline.entry 0) ()),
          Prog.lift (.customCall (Pipeline.entry 1) ()),
          StableHlo.seq hostOps2,
          Prog.lift (.customCall (Pipeline.entry 2) ()) ] from rfl]
      dsimp (config := { failIfUnchanged := false }) only
      exact .rfl)
    (fun c => by simp only [parts, Seg.pipes_host, Seg.pipes_region, Seg.pipes_nil]; decide) dues
    (fun g h => by unfold lvls; rw [if_neg h]) (fun _ => BI.emp) (tok0 (F := F)) ?_
    (T₀ := fun c => iprop(StableHlo.held (c : Thread nD τ) (Pipeline.ucRefs τ sig) (fun b => m (c, b)) ∗ rest (F := F) c))
    (Tₙ := fun c => StableHlo.held (c : Thread nD τ) (Pipeline.ucRefs τ sig) (W5 m c))
    (hch := fun c => ⟨.rfl, pre0 m c, (post0 m c).trans (pre1 m c), post1 m c, pre2 m c, post2 m c⟩)
    (hinit := ?_) (QY := fun c s => ∀ b ∈ Pipeline.ucRefs τ sig, s.mem ((c : Thread nD τ).1, b) = W5 m c b)
    (hfin := fun c s' => ?_) (hQ := fun _ h hz => ⟨h, funext fun g => hz g (.inr (regions_no_unscoped g.2))⟩)
  · iintro Hu; imodintro
    isplitl [Hu]
    · iapply (show (ownU _ : sProp 𝕄) ⊢ BI.own (emb₁ (tok0 (F := F))) from .rfl); iexact Hu
    · iapply (show (BI.emp : sProp 𝕄) ⊢ bigSep Finset.univ (fun _ : Dev nD => (BI.emp : sProp 𝕄)) from by rw [BI.bigSep_emp_const]); iempintro
  · have h : (bigSep Finset.univ fun c : Dev nD => iprop(unscopedBufs c (fun b => m ((c.tc : Thread nD τ).loc b)) ∗ unscopedSems0 c
          ∗ owes (c.tc : Thread nD τ) (dues c) ∅ ∗ Pipeline.launchCred dues c ∗ prngReg c (ρ c) ∗ BI.emp))
        ⊢ (bigSep Finset.univ fun c : Dev nD => iprop(StableHlo.held (c : Thread nD τ) (Pipeline.ucRefs τ sig) (fun b => m (c, b)) ∗ rest (F := F) c) : sProp 𝕄) := by
      refine bigSep_mono fun c _ => ?_
      show (_ : sProp 𝕄) ⊢ _
      rw [← Pipeline.unscopedBufs_held (Ix := Unit) (Name := ℕ) (U := UR sig nD τ) (Lvl := ℕ) c (fun b => m (c, b))]
      unfold rest
      iintro ⟨H, -, Hw, -, -, -⟩
      isplitl [H]; · iexact H
      iexists ∅; iexact Hw
    iintro ⟨H, -⟩
    imodintro
    iapply h; iexact H
  · unfold StableHlo.held
    iintro ⟨Hh, HSI⟩
    ihave Hr := (pointsTo_read_all (Pipeline.ucRefs τ sig) (fun b => ((c : Thread nD τ).1, b)) (W5 m c) s') $$ [Hh HSI]
    · isplitl [Hh] <;> iassumption
    icases Hr with ⟨%h, HSI⟩
    imodintro; isplitr
    · ipureintro; exact h
    · iexact HSI

end Cert.KernelIdeal.Run

end
-- ==== Proof.Kept.lean ====
/-
  The run, read at the three arguments: nothing writes them.
-/
module

public import proofs.«01_k».proof.Proof.Run

@[expose] public section

set_option maxRecDepth 16384

noncomputable section

namespace Cert.KernelIdeal.Run

open Idealize.ShloMosaic Idealize.ShloMosaic.TcCoe Idealize.SL.Sem
open Cert.KernelIdeal.Gen

variable {F : FTy → Type} [FloatOps F]
variable (m : (ℓ : Loc nD τ sig) → Buf (Elt F) ℓ) (ρ : Dev nD → PrngReg)

/-- A buffer no host operation writes and no call writes back ends as it started. -/
theorem W5_kept (c : Dev nD) (r : Ref sig .tc) (h2 : ∀ w, Pipeline.arrRef spec2 w ≠ r) (hh2 : r ∉ hostOps2_W)
    (h1 : ∀ w, r ≠ Pipeline.arrRef spec1 w) (h0 : ∀ w, r ≠ Pipeline.arrRef spec0 w) (hh0 : r ∉ hostOps0_W) :
    W5 m c (Proc.devRef .tc r) = m (c, Proc.devRef .tc r) :=
  (W5_of m c r h2).trans ((StableHlo.after_of_writes_sub hostOps2 _ hostOps2_writes hh2).trans
    ((W3_of m c r h1).trans ((W2_of m c r h0).trans (StableHlo.after_of_writes_sub hostOps0 _ hostOps0_writes hh0))))

/-- The run, read at the three arguments. -/
theorem run_args : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(h.1 c _ (Finset.mem_filter.mpr ⟨StableHlo.devRef_mem_tcRefs main_arg0, by decide⟩)).trans
        (W5_kept m c main_arg0 (by decide) (by decide) (by decide) (by decide) (by decide)),
      (h.1 c _ (Finset.mem_filter.mpr ⟨StableHlo.devRef_mem_tcRefs main_arg1, by decide⟩)).trans
        (W5_kept m c main_arg1 (by decide) (by decide) (by decide) (by decide) (by decide)),
      (h.1 c _ (Finset.mem_filter.mpr ⟨StableHlo.devRef_mem_tcRefs main_arg2, by decide⟩)).trans
        (W5_kept m c main_arg2 (by decide) (by decide) (by decide) (by decide) (by decide))⟩, h.2⟩) (run m ρ)

end Cert.KernelIdeal.Run

end
-- ==== Proof.Frames.lean ====
/-
  The three frames: each program ends, faults nowhere, leaves its arguments as they were and every counter at zero.
-/
module

public import proofs.«01_k».proof.Defs
public import proofs.«01_k».proof.Proof.Kept
public import proofs.«01_k».proof.Proof.Bits.Kept
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.SL.Sem

theorem frame_kernel : Cert.quiescent_Kernel := fun m ρ _ => Cert.Kernel.Run.run_args (F := Bits) m ρ

theorem frame_ideal : Cert.quiescent_KernelIdeal := fun m ρ _ => Cert.KernelIdeal.Run.run_args (F := Ideal) m ρ

theorem frame_reference : Cert.quiescent_ReferenceIdeal := fun m ρ _ =>
  (θ_run Cert.ReferenceIdeal.defs _ _).mono (fun r h => ⟨fun c => (h c).2.2.2.2,
    Idealize.ShloMosaic.sem_eq_zero_of_no_sems (by decide) r.2⟩) (Cert.ReferenceIdeal.Value.run (F := Ideal) m ρ)

end Cert.Proof

end
-- ==== Proof.RowsValue.lean ====
/-
  What the two re-tiling calls leave in their arrays, element by element, over the reals: row `256 c + r` is row
  `starts[c] + r` of the transposed weight, or zero from row `valid[c]` of the block on.
-/
module

public import proofs.«01_k».proof.Proof.Run
public import Idealize.ShloMosaic.Lib.Pointwise
public import Idealize.ShloMosaic.Lib.Pipeline.ValueKit

@[expose] public section

set_option maxRecDepth 16384

noncomputable section

namespace Cert.KernelIdeal.Run

open Idealize.ShloMosaic Idealize.ShloMosaic.TcCoe
open Idealize.ShloMosaic.Pipeline (Dat Cfg Window)
open Cert.KernelIdeal.Gen

/-- The block's row test is a comparison of numbers. -/
theorem row_lt0 : ∀ k : Fin 25, ∀ r : Fin 256, IntOp.cmpi .slt (BitVec.ofNat 32 r.val) (lit1 k) = 1#1 ↔ r.val < (lit1 k).toNat := by
  decide +kernel

theorem pay0_apply (k : Fin 25) (v : Vec Ideal S2x256x1024 .f32) (j : S2x256x1024.Idx) :
    k0_pay1 (F := Ideal) (lit1 k) v j = if (j 1).val < (lit1 k).toNat then v j else 0 := by
  have h := row_lt0 k (j 1)
  pointwise [k0_pay1]
  by_cases hr : (j 1).val < (lit1 k).toNat
  · rw [if_pos hr, h.mpr hr]; rfl
  · rw [if_neg hr]
    have : IntOp.cmpi .slt (BitVec.ofNat 32 (j 1).val) (lit1 k) ≠ 1#1 := fun e => hr (h.mp e)
    exact if_neg this

/-- The weight rows the projection reads: block `c` holds the columns of the weight from `starts[c]` on. -/
def rows0 (A : Vec Ideal S2x8456x1024 .f32) : Vec Ideal S2x6400x1024 .bf16 := fun i =>
  if (i 1).val % 256 < (lit1 ⟨(i 1).val / 256, Nat.div_lt_of_lt_mul (i 1).isLt⟩).toNat then
    A (ix3 (i 0) ⟨(lit0 ⟨(i 1).val / 256, Nat.div_lt_of_lt_mul (i 1).isLt⟩).toNat + (i 1).val % 256, by
      have h1 := (starts0_in ⟨(i 1).val / 256, Nat.div_lt_of_lt_mul (i 1).isLt⟩).2
      have h2 := Nat.mod_lt (i 1).val (show 0 < 256 by decide)
      omega⟩ (i 2))
  else 0

theorem rows0_at (A : Vec Ideal S2x8456x1024 .f32) (i : S2x6400x1024.Idx) (k : Fin 25) (r : Fin 256)
    (h : (i 1).val = k.val * 256 + r.val) :
    rows0 A i = if r.val < (lit1 k).toNat then
      A (ix3 (i 0) ⟨(lit0 k).toNat + r.val, by have h1 := (starts0_in k).2; omega⟩ (i 2)) else 0 := by
  have hk : (⟨(i 1).val / 256, Nat.div_lt_of_lt_mul (i 1).isLt⟩ : Fin 25) = k := Fin.ext (by show (i 1).val / 256 = _; omega)
  have hr : (i 1).val % 256 = r.val := by omega
  unfold rows0
  simp only [hk, hr]

theorem rows0_arr (c : Dev nD) (W : Dev nD → Valuation τ sig (Elt Ideal)) :
    (dat0 adm0 W c).arrAt 1 (cfg0 (F := Ideal) adm0).N = rows0 (W c (Proc.devRef .tc main_v0)) := by
  refine (dat0 adm0 W c).arrAt_eq_of_covers 1 _ (by decide +kernel) fun t hf y => ?_
  blk_simp
  rw [after0_1]
  have e : ∀ t : Fin grid0.N, cc0_transform_1 (grid0.coords t) = ![0, (grid0.coords t 0).val, 0] := by decide +kernel
  have e1 : ((cfg0 (F := Ideal) adm0).win 1).index t = ![0, (grid0.coords t 0).val, 0] := e t
  have e0 : ((cfg0 (F := Ideal) adm0).win 0).index t = ![0, (lit0 ⟨(grid0.coords t 0).val, (grid0.coords t 0).isLt⟩).toNat, 0] :=
    start0 (grid0.coords t)
  have hy : ((((cfg0 (F := Ideal) adm0).win 1).blk t).view.emb y 1).val = (grid0.coords t 0).val * 256 + (y 1).val := by
    blk_simp [e1]
  have hy0 : (((cfg0 (F := Ideal) adm0).win 1).blk t).view.emb y 0 = y 0 := by
    apply Fin.ext; blk_simp [e1]
  have hy2 : (((cfg0 (F := Ideal) adm0).win 1).blk t).view.emb y 2 = y 2 := by
    apply Fin.ext; blk_simp [e1]
  have hx : ∀ j : S2x256x1024.Idx, ∀ a, ((((cfg0 (F := Ideal) adm0).win 0).blk t).view.emb j a).val
      = ((cfg0 (F := Ideal) adm0).win 0).index t a + (j a).val := fun j a =>
    ((cfg0 (F := Ideal) adm0).win 0).rect_emb_val_off t j a
  show k0_pay1 (word0 c (grid0.coords t) (table0 1)) (blk0 adm0 W c 0 t) y = _
  rw [keep0, pay0_apply]
  refine Eq.trans ?_ (rows0_at _ _ ⟨(grid0.coords t 0).val, (grid0.coords t 0).isLt⟩ (y 1) hy).symm
  refine if_congr Iff.rfl ?_ rfl
  refine congrArg (W c (Proc.devRef .tc main_v0)) (funext fun (a : Fin 3) => Fin.ext ?_)
  refine (hx y a).trans ?_
  rw [e0]
  match a with
  | ⟨0, _⟩ => show 0 + (y 0).val = _; rw [Nat.zero_add]; exact congrArg Fin.val hy0.symm
  | ⟨1, _⟩ => rfl
  | ⟨2, _⟩ => show 0 + (y 2).val = _; rw [Nat.zero_add]; exact congrArg Fin.val hy2.symm

/-! ## The attention's rows -/

theorem row_lt1 : ∀ r : Fin 256, IntOp.cmpi .slt (BitVec.ofNat 32 r.val) 256#32 = 1#1 := by decide +kernel

theorem pay1_apply (v : Vec Ideal S2x256x1024 .f32) (j : S2x256x1024.Idx) : k1_pay1 (F := Ideal) 256#32 v j = v j := by
  have h := row_lt1 (j 1)
  pointwise [k1_pay1]
  rw [h]; rfl

/-- The weight rows the attention reads: block `c` holds the columns of the weight from `starts[c]` on. -/
def rows1 (A : Vec Ideal S2x8456x1024 .f32) : Vec Ideal S2x2304x1024 .bf16 := fun i =>
  A (ix3 (i 0) ⟨(lit2 ⟨(i 1).val / 256, Nat.div_lt_of_lt_mul (i 1).isLt⟩).toNat + (i 1).val % 256, by
      have h1 := (starts1_in ⟨(i 1).val / 256, Nat.div_lt_of_lt_mul (i 1).isLt⟩).2
      have h2 := Nat.mod_lt (i 1).val (show 0 < 256 by decide)
      omega⟩ (i 2))

theorem rows1_at (A : Vec Ideal S2x8456x1024 .f32) (i : S2x2304x1024.Idx) (k : Fin 9) (r : Fin 256)
    (h : (i 1).val = k.val * 256 + r.val) :
    rows1 A i = A (ix3 (i 0) ⟨(lit2 k).toNat + r.val, by have h1 := (starts1_in k).2; omega⟩ (i 2)) := by
  have hk : (⟨(i 1).val / 256, Nat.div_lt_of_lt_mul (i 1).isLt⟩ : Fin 9) = k := Fin.ext (by show (i 1).val / 256 = _; omega)
  have hr : (i 1).val % 256 = r.val := by omega
  unfold rows1
  simp only [hk, hr]

theorem rows1_arr (c : Dev nD) (W : Dev nD → Valuation τ sig (Elt Ideal)) :
    (dat1 adm1 W c).arrAt 1 (cfg1 (F := Ideal) adm1).N = rows1 (W c (Proc.devRef .tc main_v0)) := by
  refine (dat1 adm1 W c).arrAt_eq_of_covers 1 _ (by decide +kernel) fun t hf y => ?_
  blk_simp
  rw [after1_1]
  have e : ∀ t : Fin grid1.N, cc1_transform_1 (grid1.coords t) = ![0, (grid1.coords t 0).val, 0] := by decide +kernel
  have e1 : ((cfg1 (F := Ideal) adm1).win 1).index t = ![0, (grid1.coords t 0).val, 0] := e t
  have e0 : ((cfg1 (F := Ideal) adm1).win 0).index t = ![0, (lit2 ⟨(grid1.coords t 0).val, (grid1.coords t 0).isLt⟩).toNat, 0] :=
    start1 (grid1.coords t)
  have hy : ((((cfg1 (F := Ideal) adm1).win 1).blk t).view.emb y 1).val = (grid1.coords t 0).val * 256 + (y 1).val := by
    blk_simp [e1]
  have hy0 : (((cfg1 (F := Ideal) adm1).win 1).blk t).view.emb y 0 = y 0 := by
    apply Fin.ext; blk_simp [e1]
  have hy2 : (((cfg1 (F := Ideal) adm1).win 1).blk t).view.emb y 2 = y 2 := by
    apply Fin.ext; blk_simp [e1]
  have hx : ∀ j : S2x256x1024.Idx, ∀ a, ((((cfg1 (F := Ideal) adm1).win 0).blk t).view.emb j a).val
      = ((cfg1 (F := Ideal) adm1).win 0).index t a + (j a).val := fun j a =>
    ((cfg1 (F := Ideal) adm1).win 0).rect_emb_val_off t j a
  show k1_pay1 (word1 c (grid1.coords t) (table1 1)) (blk1 adm1 W c 0 t) y = _
  rw [keep1, pay1_apply]
  refine Eq.trans ?_ (rows1_at _ _ ⟨(grid1.coords t 0).val, (grid1.coords t 0).isLt⟩ (y 1) hy).symm
  refine congrArg (W c (Proc.devRef .tc main_v0)) (funext fun (a : Fin 3) => Fin.ext ?_)
  refine (hx y a).trans ?_
  rw [e0]
  match a with
  | ⟨0, _⟩ => show 0 + (y 0).val = _; rw [Nat.zero_add]; exact congrArg Fin.val hy0.symm
  | ⟨1, _⟩ => rfl
  | ⟨2, _⟩ => show 0 + (y 2).val = _; rw [Nat.zero_add]; exact congrArg Fin.val hy2.symm

end Cert.KernelIdeal.Run

end
-- ==== Proof.InprojPay.lean ====
/-
  What the projection's body computes from its blocks, element by element, over the reals.
-/
module

public import proofs.«01_k».proof.Proof.Inproj
public import Idealize.ShloMosaic.Lib.Pointwise

@[expose] public section

set_option maxRecDepth 16384

noncomputable section

namespace Cert.KernelIdeal.Run

open Idealize.ShloMosaic Idealize.ShloMosaic.TcCoe
open Cert.KernelIdeal.Gen

/-- Element `d` of a row divided by its root mean square and scaled by the gain. -/
def normRow (x g : Fin 1024 → EReal) (d : Fin 1024) : EReal :=
  x d * Ideal.rsqrt (Ideal.div (∑ k : Fin 1024, x k * x k) (Ideal.ofBits .f32 0x44800000#32) + Ideal.ofBits .f32 0x358637BD#32) * g d

theorem pay2_1_apply (x : Vec Ideal S1024x1024 .f32) (g : Vec Ideal S1x1024 .f32) (j : S1024x1024.Idx) :
    k2_pay1 (F := Ideal) x g j = normRow (fun k => x (ix2 (j 0) k)) (fun k => g (ix2 0 k)) (j 1) := by
  pointwise [k2_pay1, normRow]

theorem pay2_2_apply (x : Vec Ideal S1024x1024 .f32) (g : Vec Ideal S1x1024 .f32) (w : Vec Ideal S1x256x1024 .bf16) (j : S8x1024.Idx) :
    k2_pay2 (F := Ideal) x g (gateRows w) j
      = ∑ k : Fin 1024, w (ix3 0 ⟨(j 0).val, lt_of_lt_of_le (j 0).isLt (by decide)⟩ k)
          * normRow (fun k => x (ix2 (j 1) k)) (fun k => g (ix2 0 k)) k := by
  pointwise [k2_pay2, gateRows]
  simp only [pay2_1_apply]
  rfl

theorem pay2_3_apply (x : Vec Ideal S1024x1024 .bf16) (w : Vec Ideal S1x3072x1024 .bf16) (j : S1024x3072.Idx) :
    k2_pay3 (F := Ideal) x w j = ∑ k : Fin 1024, x (ix2 (j 0) k) * w (ix3 0 (j 1) k) := by
  pointwise [k2_pay3]

end Cert.KernelIdeal.Run

end
-- ==== Proof.InprojValue.lean ====
/-
  What the projection leaves in its three arrays, element by element, over the reals.
-/
module

public import proofs.«01_k».proof.Proof.InprojPay
public import Idealize.ShloMosaic.Lib.Pipeline.ValueKit

@[expose] public section

set_option maxRecDepth 16384

noncomputable section

namespace Cert.KernelIdeal.Run

open Idealize.ShloMosaic Idealize.ShloMosaic.TcCoe
open Idealize.ShloMosaic.Pipeline (Dat Cfg Window)
open Cert.KernelIdeal.Gen

/-- The normalised activations, the projection and the gates, of the tokens `X`, the gain `g` and the re-tiled weight `V`. -/
def normArr (X : Vec Ideal S16384x1024 .f32) (g : Vec Ideal S1x1024 .f32) : Vec Ideal S16384x1024 .bf16 := fun i =>
  normRow (fun k => X (ix2 (i 0) k)) (fun k => g (ix2 0 k)) (i 1)
def projArr (X : Vec Ideal S16384x1024 .f32) (g : Vec Ideal S1x1024 .f32) (V : Vec Ideal S2x6400x1024 .bf16) : Vec Ideal S16384x6144 .bf16 :=
  fun i => ∑ k : Fin 1024, normRow (fun k => X (ix2 (i 0) k)) (fun k => g (ix2 0 k)) k
    * V (ix3 0 ⟨(i 1).val, lt_of_lt_of_le (i 1).isLt (by decide)⟩ k)
def gateArr (X : Vec Ideal S16384x1024 .f32) (g : Vec Ideal S1x1024 .f32) (V : Vec Ideal S2x6400x1024 .bf16) : Vec Ideal S8x16384 .f32 :=
  fun i => ∑ k : Fin 1024, V (ix3 0 ⟨6144 + (i 0).val, by have h : (i 0).val < 8 := (i 0).isLt; omega⟩ k)
    * normRow (fun k => X (ix2 (i 1) k)) (fun k => g (ix2 0 k)) k

theorem normArr_at (X : Vec Ideal S16384x1024 .f32) (g : Vec Ideal S1x1024 .f32) (i : S16384x1024.Idx) (r : Fin 16384) (d : Fin 1024)
    (h0 : (i 0).val = r.val) (h1 : (i 1).val = d.val) :
    normArr X g i = normRow (fun k => X (ix2 r k)) (fun k => g (ix2 0 k)) d := by
  have e0 : i 0 = r := Fin.ext h0
  have e1 : i 1 = d := Fin.ext h1
  unfold normArr; rw [e0, e1]
theorem projArr_at (X : Vec Ideal S16384x1024 .f32) (g : Vec Ideal S1x1024 .f32) (V : Vec Ideal S2x6400x1024 .bf16) (i : S16384x6144.Idx)
    (r : Fin 16384) (n : Fin 6400) (h0 : (i 0).val = r.val) (h1 : (i 1).val = n.val) :
    projArr X g V i = ∑ k : Fin 1024, normRow (fun k => X (ix2 r k)) (fun k => g (ix2 0 k)) k * V (ix3 0 n k) := by
  have e0 : i 0 = r := Fin.ext h0
  have e1 : (⟨(i 1).val, lt_of_lt_of_le (i 1).isLt (by decide)⟩ : Fin 6400) = n := Fin.ext h1
  unfold projArr; rw [e0, e1]
theorem gateArr_at (X : Vec Ideal S16384x1024 .f32) (g : Vec Ideal S1x1024 .f32) (V : Vec Ideal S2x6400x1024 .bf16) (i : S8x16384.Idx)
    (r : Fin 16384) (n : Fin 6400) (h0 : 6144 + (i 0).val = n.val) (h1 : (i 1).val = r.val) :
    gateArr X g V i = ∑ k : Fin 1024, V (ix3 0 n k) * normRow (fun k => X (ix2 r k)) (fun k => g (ix2 0 k)) k := by
  have e0 : i 1 = r := Fin.ext h1
  have e1 : (⟨6144 + (i 0).val, by have h : (i 0).val < 8 := (i 0).isLt; omega⟩ : Fin 6400) = n := Fin.ext h0
  unfold gateArr; rw [e0, e1]

theorem ix2_0 : ∀ t : Fin grid2.N, win2_0.index t = ![(grid2.coords t 0).val, 0] := by decide +kernel
theorem ix2_1 : ∀ t : Fin grid2.N, win2_1.index t = ![0, 0] := by decide +kernel
theorem ix2_2 : ∀ t : Fin grid2.N, win2_2.index t = ![0, (grid2.coords t 1).val, 0] := by decide +kernel
theorem ix2_3 : ∀ t : Fin grid2.N, win2_3.index t = ![0, 24, 0] := by decide +kernel
theorem ix2_4 : ∀ t : Fin grid2.N, win2_4.index t = ![(grid2.coords t 0).val, (grid2.coords t 1).val] := by decide +kernel
theorem ix2_5 : ∀ t : Fin grid2.N, win2_5.index t = ![(grid2.coords t 0).val, 0] := by decide +kernel
theorem ix2_6 : ∀ t : Fin grid2.N, win2_6.index t = ![0, (grid2.coords t 0).val] := by decide +kernel
theorem rowPt_coords : ∀ t : Fin cfg2.N, (grid2.coords (rowPt t) 0).val = (grid2.coords t 0).val := by decide +kernel

variable (c : Dev nD) (W : Dev nD → Valuation τ sig (Elt Ideal))

theorem blk2_0_apply (t : Fin cfg2.N) (j : S1024x1024.Idx) :
    blk2 W c 0 (rowPt t) j = (W c (Proc.devRef .tc main_v3) : Vec Ideal S16384x1024 .f32)
      (ix2 ⟨(grid2.coords t 0).val * 1024 + (j 0).val, by
        have h0 : (grid2.coords t 0).val < 16 := (grid2.coords t 0).isLt
        have h1 : (j 0).val < 1024 := (j 0).isLt
        omega⟩ (j 1)) := by
  unfold blk2
  have e := rowPt_coords t
  blk_simp
  blk_ext [ix2_0]
theorem blk2_1_apply (t : Fin cfg2.N) (j : S1x1024.Idx) :
    blk2 W c 1 (rowPt t) j = (W c (Proc.devRef .tc main_v6) : Vec Ideal S1x1024 .f32) j := by
  unfold blk2
  blk_simp
  blk_ext [ix2_1]
theorem blk2_3_apply (t : Fin cfg2.N) (j : S1x256x1024.Idx) :
    blk2 W c 3 (rowPt t) j = (W c (Proc.devRef .tc main_v1) : Vec Ideal S2x6400x1024 .bf16)
      (ix3 0 ⟨6144 + (j 1).val, by have h : (j 1).val < 256 := (j 1).isLt; omega⟩ (j 2)) := by
  unfold blk2
  blk_simp
  blk_ext [ix2_3]
theorem wblk2_apply (t : Fin cfg2.N) (j : S1x3072x1024.Idx) :
    wblk2 W c t j = (W c (Proc.devRef .tc main_v1) : Vec Ideal S2x6400x1024 .bf16)
      (ix3 0 ⟨(grid2.coords t 1).val * 3072 + (j 1).val, by
        have h0 : (grid2.coords t 1).val < 2 := (grid2.coords t 1).isLt
        have h : (j 1).val < 3072 := (j 1).isLt; omega⟩ (j 2)) := by
  unfold wblk2
  unfold Pipeline.Window.fill; rw [dif_pos (moved2_2 t j)]
  unfold blk2
  blk_simp
  blk_ext [ix2_2]

/-- The row of the tokens that row `r` of point `t`'s block is, and the row of the weight that row `n` of its block is. -/
def tok (t : Fin cfg2.N) (r : Fin 1024) : Fin 16384 :=
  ⟨(grid2.coords t 0).val * 1024 + r.val, by have h0 : (grid2.coords t 0).val < 16 := (grid2.coords t 0).isLt; omega⟩
def wrow (t : Fin cfg2.N) (n : Fin 3072) : Fin 6400 :=
  ⟨(grid2.coords t 1).val * 3072 + n.val, by have h0 : (grid2.coords t 1).val < 2 := (grid2.coords t 1).isLt; omega⟩

def grow (n : Fin 8) : Fin 6400 := ⟨6144 + n.val, by omega⟩

theorem hOut_apply (t : Fin cfg2.N) (j : S1024x1024.Idx) : hOut W c t j
    = normRow (fun k => (W c (Proc.devRef .tc main_v3) : Vec Ideal S16384x1024 .f32) (ix2 (tok t (j 0)) k))
        (fun k => (W c (Proc.devRef .tc main_v6) : Vec Ideal S1x1024 .f32) (ix2 0 k)) (j 1) := by
  unfold hOut
  rw [pay2_1_apply]
  congr 1
  · funext k; exact blk2_0_apply c W t (ix2 (j 0) k)
  · funext k; exact blk2_1_apply c W t (ix2 0 k)

theorem projOut_apply (t : Fin cfg2.N) (j : S1024x3072.Idx) : projOut W c t j
    = ∑ k : Fin 1024, normRow (fun k => (W c (Proc.devRef .tc main_v3) : Vec Ideal S16384x1024 .f32) (ix2 (tok t (j 0)) k))
        (fun k => (W c (Proc.devRef .tc main_v6) : Vec Ideal S1x1024 .f32) (ix2 0 k)) k
      * (W c (Proc.devRef .tc main_v1) : Vec Ideal S2x6400x1024 .bf16) (ix3 0 (wrow t (j 1)) k) := by
  unfold projOut
  rw [pay2_3_apply]
  refine Finset.sum_congr rfl fun k _ => ?_
  rw [hOut_apply, wblk2_apply]
  rfl

theorem gateOut_apply (t : Fin cfg2.N) (j : S8x1024.Idx) : gateOut W c t j
    = ∑ k : Fin 1024, (show EReal from (W c (Proc.devRef .tc main_v1) : Vec Ideal S2x6400x1024 .bf16) (ix3 0 (grow (j 0)) k))
      * normRow (fun k => (W c (Proc.devRef .tc main_v3) : Vec Ideal S16384x1024 .f32) (ix2 (tok t (j 1)) k))
        (fun k => (W c (Proc.devRef .tc main_v6) : Vec Ideal S1x1024 .f32) (ix2 0 k)) k := by
  unfold gateOut
  rw [pay2_2_apply]
  refine Finset.sum_congr rfl fun k _ => ?_
  rw [blk2_3_apply]
  congr 1
  congr 1
  · funext k'; exact blk2_0_apply c W t (ix2 (j 1) k')
  · funext k'; exact blk2_1_apply c W t (ix2 0 k')

theorem norm_arr : (dat2 W c).arrAt 5 cfg2.N
    = normArr (W c (Proc.devRef .tc main_v3)) (W c (Proc.devRef .tc main_v6)) := by
  refine (dat2 W c).arrAt_eq_of_covers 5 _ (by decide +kernel) fun t hf y => ?_
  blk_simp
  rw [after2_5]
  exact (hOut_apply c W t y).trans (normArr_at _ _ _ (tok t (y 0)) (y 1) (by blk_simp [ix2_5]; rfl) (by blk_simp [ix2_5])).symm

theorem proj_arr : (dat2 W c).arrAt 4 cfg2.N
    = projArr (W c (Proc.devRef .tc main_v3)) (W c (Proc.devRef .tc main_v6)) (W c (Proc.devRef .tc main_v1)) := by
  refine (dat2 W c).arrAt_eq_of_covers 4 _ (by decide +kernel) fun t hf y => ?_
  blk_simp
  rw [after2_4]
  exact (projOut_apply c W t y).trans (projArr_at _ _ _ _ (tok t (y 0)) (wrow t (y 1)) (by blk_simp [ix2_4]; rfl) (by blk_simp [ix2_4]; rfl)).symm

theorem gate_arr : (dat2 W c).arrAt 6 cfg2.N
    = gateArr (W c (Proc.devRef .tc main_v3)) (W c (Proc.devRef .tc main_v6)) (W c (Proc.devRef .tc main_v1)) := by
  refine (dat2 W c).arrAt_eq_of_covers 6 _ (by decide +kernel) fun t hf y => ?_
  blk_simp
  rw [after2_6]
  exact (gateOut_apply c W t y).trans (gateArr_at _ _ _ _ (tok t (y 1)) (grow (y 0)) (by blk_simp [ix2_6]; rfl) (by blk_simp [ix2_6]; rfl)).symm

end Cert.KernelIdeal.Run

end
-- ==== Proof.KernelValue.lean ====
/-
  The program's four results, element by element, as functions of its arguments over the reals.
-/
module

public import proofs.«01_k».proof.Proof.RowsValue
public import proofs.«01_k».proof.Proof.InprojValue

@[expose] public section

set_option maxRecDepth 16384

noncomputable section

namespace Cert.KernelIdeal.Run

open Idealize.ShloMosaic Idealize.ShloMosaic.TcCoe Idealize.ShloMosaic.Tactic
open Idealize.ShloMosaic.Pipeline (Dat Cfg Window)
open Cert.KernelIdeal.Gen

variable (m : (ℓ : Loc nD τ sig) → Buf (Elt Ideal) ℓ) (c : Dev nD)

/-- The arguments. -/
abbrev argX : Vec Ideal S4x4096x1024 .f32 := m (c, Proc.devRef .tc main_arg0)
abbrev argG : Vec Ideal S2x1024 .f32 := m (c, Proc.devRef .tc main_arg1)
abbrev argW : Vec Ideal S2x1024x8456 .f32 := m (c, Proc.devRef .tc main_arg2)

theorem W1_v0 : W1 m c (Proc.devRef .tc main_v0) = transpose S2x8456x1024 [0, 2, 1] (argW m c) transposes_S2x1024x8456_S2x8456x1024_0_2_1 := by
  after_reads_simp
  try rfl

theorem W3_v1 : W3 m c (Proc.devRef .tc main_v1) = rows0 (W1 m c (Proc.devRef .tc main_v0)) := by
  rw [W3_of m c main_v1 (by decide)]
  unfold W2
  exact (Pipeline.afterRegion_arr (dat0 adm0 (W1 m) c) (W1 m c) winFacts0.arr_inj 1).trans (rows0_arr c (W1 m))

theorem W3_v2 : W3 m c (Proc.devRef .tc main_v2) = rows1 (W1 m c (Proc.devRef .tc main_v0)) := by
  unfold W3
  refine (Pipeline.afterRegion_arr (dat1 adm1 (W2 m) c) (W2 m c) winFacts1.arr_inj 1).trans ((rows1_arr c (W2 m)).trans ?_)
  have h : W2 m c (Proc.devRef .tc main_v0) = W1 m c (Proc.devRef .tc main_v0) := by
    unfold W2
    refine (Pipeline.afterRegion_arr (dat0 adm0 (W1 m) c) (W1 m c) winFacts0.arr_inj 0).trans ?_
    exact (dat0 adm0 (W1 m) c).arrAt_in 0 rfl _
  rw [h]

theorem W4_v3 : W4 m c (Proc.devRef .tc main_v3) = shapeCast S16384x1024 (argX m c) shapeCasts_S4x4096x1024_S16384x1024 := by
  after_reads_simp
  have h : W3 m c (Proc.devRef .tc main_arg0) = argX m c :=
    (W3_of m c main_arg0 (by decide)).trans ((W2_of m c main_arg0 (by decide)).trans (StableHlo.after_of_writes_sub hostOps0 _ hostOps0_writes (by decide)))
  rw [h]
  rfl

/-- The first layer's gain. -/
def gainRow (G : Vec Ideal S2x1024 .f32) : Vec Ideal S1x1024 .f32 := fun i => G (ix2 0 (i 1))

theorem W4_v6 : W4 m c (Proc.devRef .tc main_v6) = gainRow (argG m c) := by
  after_reads_simp
  have h : W3 m c (Proc.devRef .tc main_arg1) = argG m c :=
    (W3_of m c main_arg1 (by decide)).trans ((W2_of m c main_arg1 (by decide)).trans (StableHlo.after_of_writes_sub hostOps0 _ hostOps0_writes (by decide)))
  rw [h]
  funext i
  pointwise [gainRow]

theorem W4_v1 : W4 m c (Proc.devRef .tc main_v1) = rows0 (W1 m c (Proc.devRef .tc main_v0)) :=
  (StableHlo.after_of_writes_sub hostOps2 _ hostOps2_writes (by decide)).trans (W3_v1 m c)

theorem W4_v2 : W4 m c (Proc.devRef .tc main_v2) = rows1 (W1 m c (Proc.devRef .tc main_v0)) :=
  (StableHlo.after_of_writes_sub hostOps2 _ hostOps2_writes (by decide)).trans (W3_v2 m c)

/-! ## The results of the arguments -/

/-- Token `t`'s activations: the batch and the position of the token are its number's quotient and remainder. -/
def tokRow (X : Vec Ideal S4x4096x1024 .f32) (t : Fin 16384) (k : Fin 1024) : EReal :=
  X (ix3 ⟨t.val / 4096, by omega⟩ ⟨t.val % 4096, by omega⟩ k)
def gain (G : Vec Ideal S2x1024 .f32) (k : Fin 1024) : EReal := G (ix2 0 k)
/-- The weight's column the projection's column `n` is: the attention's and the gates' columns are left out. -/
def col (n : Fin 6144) : Fin 8456 := ⟨if n.val < 2048 then n.val else n.val + 2312, by split <;> omega⟩
/-- The weight's column the attention's row `n` is. -/
def acol (n : Fin 2304) : Fin 8456 := ⟨2056 + n.val / 256 % 3 * 768 + n.val / 768 * 256 + n.val % 256, by omega⟩

def resH (X : Vec Ideal S4x4096x1024 .f32) (G : Vec Ideal S2x1024 .f32) : Vec Ideal S16384x1024 .bf16 := fun i =>
  normRow (tokRow X (i 0)) (gain G) (i 1)
def resP (X : Vec Ideal S4x4096x1024 .f32) (G : Vec Ideal S2x1024 .f32) (V : Vec Ideal S2x1024x8456 .f32) : Vec Ideal S16384x6144 .bf16 :=
  fun i => ∑ k : Fin 1024, normRow (tokRow X (i 0)) (gain G) k * (show EReal from V (ix3 0 k (col (i 1))))
def resG (X : Vec Ideal S4x4096x1024 .f32) (G : Vec Ideal S2x1024 .f32) (V : Vec Ideal S2x1024x8456 .f32) : Vec Ideal S8x16384 .f32 :=
  fun i => ∑ k : Fin 1024, normRow (tokRow X (i 1)) (gain G) k
    * (show EReal from V (ix3 0 k ⟨2048 + (i 0).val, by have h : (i 0).val < 8 := (i 0).isLt; omega⟩))
def resA (V : Vec Ideal S2x1024x8456 .f32) : Vec Ideal S2x2304x1024 .bf16 := fun i => V (ix3 (i 0) (i 2) (acol (i 1)))

theorem rows_apply (X : Vec Ideal S4x4096x1024 .f32) (t : Fin 16384) (k : Fin 1024) :
    shapeCast S16384x1024 X shapeCasts_S4x4096x1024_S16384x1024 (ix2 t k) = tokRow X t k := by
  pointwise [tokRow]

theorem lit_main : ∀ k : Fin 24, (lit1 ⟨k.val, by omega⟩).toNat = 256
    ∧ (lit0 ⟨k.val, by omega⟩).toNat = if k.val < 8 then k.val * 256 else k.val * 256 + 2312 := by decide +kernel
theorem lit_gate : (lit1 24).toNat = 8 ∧ (lit0 24).toNat = 2048 := by decide +kernel
theorem lit_attn : ∀ k : Fin 9, (lit2 k).toNat = 2056 + k.val % 3 * 768 + k.val / 3 * 256 := by decide +kernel

theorem rows0_main (V : Vec Ideal S2x1024x8456 .f32) (n : Fin 6144) (k : Fin 1024) :
    rows0 (transpose S2x8456x1024 [0, 2, 1] V transposes_S2x1024x8456_S2x8456x1024_0_2_1) (ix3 0 ⟨n.val, by omega⟩ k) = V (ix3 0 k (col n)) := by
  have hb : n.val / 256 < 24 := by omega
  have hl := lit_main ⟨n.val / 256, hb⟩
  rw [rows0_at _ _ ⟨n.val / 256, by omega⟩ ⟨n.val % 256, by omega⟩ (by show n.val = n.val / 256 * 256 + n.val % 256; omega),
    if_pos (by have := hl.1; simp only at this ⊢; omega)]
  pointwise
  refine congrArg (fun r => V (ix3 0 k r)) (Fin.ext ?_)
  have h2 := hl.2
  simp only [col] at h2 ⊢
  rw [h2]
  split_ifs <;> omega

theorem rows0_gate (V : Vec Ideal S2x1024x8456 .f32) (n : Fin 8) (k : Fin 1024) :
    rows0 (transpose S2x8456x1024 [0, 2, 1] V transposes_S2x1024x8456_S2x8456x1024_0_2_1) (ix3 0 ⟨6144 + n.val, by omega⟩ k)
      = V (ix3 0 k ⟨2048 + n.val, by omega⟩) := by
  rw [rows0_at _ _ 24 ⟨n.val, by omega⟩ rfl, if_pos (by have := lit_gate.1; simp only at this ⊢; omega)]
  pointwise
  refine congrArg (fun r => V (ix3 0 k r)) (Fin.ext ?_)
  have h2 := lit_gate.2
  simp only at h2 ⊢
  rw [h2]

theorem rows1_apply (V : Vec Ideal S2x1024x8456 .f32) :
    rows1 (transpose S2x8456x1024 [0, 2, 1] V transposes_S2x1024x8456_S2x8456x1024_0_2_1) = resA V := by
  funext i
  have hi : (i 1).val < 2304 := (i 1).isLt
  have hl := lit_attn ⟨(i 1).val / 256, by omega⟩
  rw [rows1_at _ _ ⟨(i 1).val / 256, by omega⟩ ⟨(i 1).val % 256, by omega⟩ (by show (i 1).val = (i 1).val / 256 * 256 + (i 1).val % 256; omega)]
  pointwise [resA]
  refine congrArg (fun r => V (ix3 (i 0) (i 2) r)) (Fin.ext ?_)
  simp only [acol] at hl ⊢
  rw [hl]
  omega

/-- The four results. -/
theorem final_p : W5 m c (Proc.devRef .tc main_v7_0) = resP (argX m c) (argG m c) (argW m c) := by
  refine (W5_arr m c 4).trans ((proj_arr c (W4 m)).trans ?_)
  rw [W4_v3, W4_v6, W4_v1, W1_v0]
  funext i
  unfold projArr resP
  refine Finset.sum_congr rfl fun k _ => ?_
  exact congrArg₂ (· * ·) (congrArg₂ (fun a g => normRow a g k) (funext fun _ => rows_apply _ (i 0) _) rfl) (rows0_main _ (i 1) k)

theorem final_h : W5 m c (Proc.devRef .tc main_v7_1) = resH (argX m c) (argG m c) := by
  refine (W5_arr m c 5).trans ((norm_arr c (W4 m)).trans ?_)
  rw [W4_v3, W4_v6]
  funext i
  unfold normArr resH
  exact congrArg₂ (fun a g => normRow a g (i 1)) (funext fun _ => rows_apply _ (i 0) _) rfl

theorem final_g : W5 m c (Proc.devRef .tc main_v7_2) = resG (argX m c) (argG m c) (argW m c) := by
  refine (W5_arr m c 6).trans ((gate_arr c (W4 m)).trans ?_)
  rw [W4_v3, W4_v6, W4_v1, W1_v0]
  funext i
  unfold gateArr resG
  refine Finset.sum_congr rfl fun k _ => ?_
  exact (mul_comm _ _).trans (congrArg₂ (· * ·)
    (congrArg₂ (fun a g => normRow a g k) (funext fun _ => rows_apply _ (i 1) _) rfl) (rows0_gate _ (i 0) k))

theorem final_a : W5 m c (Proc.devRef .tc main_v2) = resA (argW m c) := by
  refine (W5_of m c main_v2 (by decide)).trans ((W4_v2 m c).trans ?_)
  rw [W1_v0]
  exact rows1_apply _

end Cert.KernelIdeal.Run

end
-- ==== Proof.RefValue.lean ====
/-
  The reference's four results are the same functions of its arguments.
-/
module

public import proofs.«01_k».proof.Proof.KernelValue
public import proofs.«01_k».proof.Proof.Gen.ReferenceIdeal.Run

@[expose] public section

set_option maxRecDepth 16384

noncomputable section

namespace Cert.Proof

open Idealize.ShloMosaic Idealize.ShloMosaic.TcCoe Idealize.SL.Sem
open Cert.ReferenceIdeal Cert.ReferenceIdeal.Gen Cert.ReferenceIdeal.Value
open Cert.KernelIdeal.Run (resH resP resG resA normRow tokRow gain col acol)

variable (X : Vec Ideal S4x4096x1024 .f32) (G : Vec Ideal S2x1024 .f32) (V : Vec Ideal S2x1024x8456 .f32)

/-- The reference's normalised activations, as the program composes them. -/
def hostNorm : FVec Ideal S4x4096x1024 .f32 :=
  mulf (mulf X (broadcastInDim S4x4096x1024 ![0, 1, 2] bcast_S4x4096x1_S4x4096x1024_0_1_2
      (Host.rsqrt (addf (Host.divf (broadcastInDim S4x4096x1 ![0, 1] bcast_S4x4096_S4x4096x1_0_1
          (Host.reduceAdd (mulf X X) (constant S_ .f32 0x00000000#32) reducesTo_S4x4096x1024_S4x4096_d2 h_S_))
        (broadcastInDim S4x4096x1 ![] bcast_S_S4x4096x1 (constant S_ .f32 0x44800000#32)))
        (broadcastInDim S4x4096x1 ![] bcast_S_S4x4096x1 (constant S_ .f32 0x358637BD#32))))))
    (broadcastInDim S4x4096x1024 ![0, 1, 2] bcast_S1x1x1024_S4x4096x1024_0_1_2
      (broadcastInDim S1x1x1024 ![2] bcast_S1024_S1x1x1024_2
        (shapeCast S1024 (extractStridedSlice S1x1024 ![0, 0] G slices_S2x1024_S1x1024_0_0) shapeCasts_S1x1024_S1024)))

theorem hostNorm_apply (b : Fin 4) (s : Fin 4096) (d : Fin 1024) :
    hostNorm X G (ix3 b s d) = normRow (fun k => X (ix3 b s k)) (gain G) d := by
  pointwise [hostNorm, normRow, gain]

/-- The reference's product, all columns. -/
def hostProj : FVec Ideal S4x4096x8456 .f32 :=
  Host.dotGeneral (φ₂ := .f32) dot_S4x4096x1024_S1024x8456_S4x4096x8456_2_0_01_1_n_n none (hostNorm X G)
    (shapeCast (α := EReal) S1024x8456 (extractStridedSlice S1x1024x8456 ![0, 0, 0] V slices_S2x1024x8456_S1x1024x8456_0_0_0) shapeCasts_S1x1024x8456_S1024x8456)

/-- Column `n` of token `t`'s product. -/
def colSum (t : Fin 16384) (n : Fin 8456) : EReal :=
  ∑ k : Fin 1024, normRow (tokRow X t) (gain G) k * (show EReal from V (ix3 0 k n))

theorem hostProj_apply (t : Fin 16384) (n : Fin 8456) :
    hostProj X G V (ix3 ⟨t.val / 4096, by omega⟩ ⟨t.val % 4096, by omega⟩ n) = colSum X G V t n := by
  pointwise [hostProj]
  simp only [hostNorm_apply]
  rfl

/-- The first result of the product `P`: the columns kept, side by side. -/
def hostMain (P : FVec Ideal S4x4096x8456 .f32) : FVec Ideal S16384x6144 .bf16 :=
  shapeCast S16384x6144 (truncf .bf16 (concatenate S4x4096x6144 2 [⟨S4x4096x512, extractStridedSlice S4x4096x512 ![0, 0, 0] P slices_S4x4096x8456_S4x4096x512_0_0_0⟩,
      ⟨S4x4096x512, extractStridedSlice S4x4096x512 ![0, 0, 512] P slices_S4x4096x8456_S4x4096x512_0_0_512⟩,
      ⟨S4x4096x512, extractStridedSlice S4x4096x512 ![0, 0, 1024] P slices_S4x4096x8456_S4x4096x512_0_0_1024⟩,
      ⟨S4x4096x512, extractStridedSlice S4x4096x512 ![0, 0, 1536] P slices_S4x4096x8456_S4x4096x512_0_0_1536⟩,
      ⟨S4x4096x512, extractStridedSlice S4x4096x512 ![0, 0, 4360] P slices_S4x4096x8456_S4x4096x512_0_0_4360⟩,
      ⟨S4x4096x512, extractStridedSlice S4x4096x512 ![0, 0, 4872] P slices_S4x4096x8456_S4x4096x512_0_0_4872⟩,
      ⟨S4x4096x3072, extractStridedSlice S4x4096x3072 ![0, 0, 5384] P slices_S4x4096x8456_S4x4096x3072_0_0_5384⟩]
    concatenates_S4x4096x512_S4x4096x512_S4x4096x512_S4x4096x512_S4x4096x512_S4x4096x512_S4x4096x3072_S4x4096x6144_d2
      : FVec Ideal S4x4096x6144 .f32) bitsLt_bf16_f32) shapeCasts_S4x4096x6144_S16384x6144

theorem hostMain_apply (P : FVec Ideal S4x4096x8456 .f32) (t : Fin 16384) (n : Fin 6144) :
    hostMain P (ix2 t n) = P (ix3 ⟨t.val / 4096, by omega⟩ ⟨t.val % 4096, by omega⟩ (col n)) := by
  have hP : ∀ (a a' : Fin 4) (b b' : Fin 4096) (d d' : Fin 8456), a.val = a'.val → b.val = b'.val → d.val = d'.val →
      P (ix3 a b d) = P (ix3 a' b' d') := fun a a' b b' d d' ha hb hd => by rw [Fin.ext ha, Fin.ext hb, Fin.ext hd]
  pointwise [hostMain]
  split_ifs <;> (apply hP <;> (try simp only [col]) <;> (try split_ifs) <;> (try omega))

/-- The gates of the product `P`, one row per head. -/
def hostGate (P : FVec Ideal S4x4096x8456 .f32) : FVec Ideal S8x16384 .f32 :=
  transpose S8x16384 [1, 0] (shapeCast S16384x8 (concatenate S4x4096x8 2 [⟨S4x4096x4, extractStridedSlice S4x4096x4 ![0, 0, 2048] P slices_S4x4096x8456_S4x4096x4_0_0_2048⟩,
      ⟨S4x4096x4, extractStridedSlice S4x4096x4 ![0, 0, 2052] P slices_S4x4096x8456_S4x4096x4_0_0_2052⟩] concatenates_S4x4096x4_S4x4096x4_S4x4096x8_d2
        : FVec Ideal S4x4096x8 .f32) shapeCasts_S4x4096x8_S16384x8) transposes_S16384x8_S8x16384_1_0

theorem hostGate_apply (P : FVec Ideal S4x4096x8456 .f32) (n : Fin 8) (t : Fin 16384) :
    hostGate P (ix2 n t) = P (ix3 ⟨t.val / 4096, by omega⟩ ⟨t.val % 4096, by omega⟩ ⟨2048 + n.val, by omega⟩) := by
  have hP : ∀ (a a' : Fin 4) (b b' : Fin 4096) (d d' : Fin 8456), a.val = a'.val → b.val = b'.val → d.val = d'.val →
      P (ix3 a b d) = P (ix3 a' b' d') := fun a a' b b' d d' ha hb hd => by rw [Fin.ext ha, Fin.ext hb, Fin.ext hd]
  pointwise [hostGate]
  split_ifs <;> (apply hP <;> (try dsimp only) <;> (try omega))

/-- The attention's weight rows, transposed. -/
def hostAttn : FVec Ideal S2x2304x1024 .bf16 :=
  truncf .bf16 (shapeCast S2x2304x1024 (transpose S2x3x3x256x1024 [0, 3, 2, 4, 1]
    (shapeCast S2x1024x3x3x256 (extractStridedSlice S2x1024x2304 ![0, 0, 2056] V slices_S2x1024x8456_S2x1024x2304_0_0_2056)
      shapeCasts_S2x1024x2304_S2x1024x3x3x256) transposes_S2x1024x3x3x256_S2x3x3x256x1024_0_3_2_4_1)
    shapeCasts_S2x3x3x256x1024_S2x2304x1024 : FVec Ideal S2x2304x1024 .f32) bitsLt_bf16_f32

theorem hostAttn_eq : hostAttn V = resA V := by
  funext i
  have hi : (i 1).val < 2304 := (i 1).isLt
  pointwise [hostAttn, resA, acol]
  exact congrArg (fun r => V (ix3 (i 0) (i 2) r)) (Fin.ext (by dsimp only; omega))

theorem hostMain_eq : hostMain (hostProj X G V) = resP X G V := by
  funext i
  have hi : i = ix2 (i 0) (i 1) := by funext d; fin_cases d <;> rfl
  rw [hi]
  exact (hostMain_apply _ _ _).trans (hostProj_apply X G V _ _)

theorem hostGate_eq : hostGate (hostProj X G V) = resG X G V := by
  funext i
  have hi : i = ix2 (i 0) (i 1) := by funext d; fin_cases d <;> rfl
  rw [hi]
  exact (hostGate_apply _ _ _).trans (hostProj_apply X G V _ _)

/-- The normalised activations, one row per token. -/
def hostRows : FVec Ideal S16384x1024 .bf16 :=
  truncf .bf16 (shapeCast S16384x1024 (hostNorm X G) shapeCasts_S4x4096x1024_S16384x1024 : FVec Ideal S16384x1024 .f32) bitsLt_bf16_f32

theorem hostRows_apply (t : Fin 16384) (k : Fin 1024) :
    hostRows X G (ix2 t k) = hostNorm X G (ix3 ⟨t.val / 4096, by omega⟩ ⟨t.val % 4096, by omega⟩ k) := by
  pointwise [hostRows]

theorem hostRows_eq : hostRows X G = resH X G := by
  funext i
  have hi : i = ix2 (i 0) (i 1) := by funext d; fin_cases d <;> rfl
  rw [hi]
  exact (hostRows_apply _ _ _ _).trans (hostNorm_apply X G _ _ _)

end Cert.Proof

end
-- ==== Proof.Algebraic.lean ====
/-
  Both programs' runs, read as the same functions of the arguments.
-/
module

public import proofs.«01_k».proof.Defs
public import proofs.«01_k».proof.Proof.Kept
public import proofs.«01_k».proof.Proof.RefValue

@[expose] public section

set_option maxRecDepth 16384

noncomputable section

namespace Cert.Proof

open Idealize.ShloMosaic Idealize.ShloMosaic.TcCoe Idealize.SL.Sem
open Cert.KernelIdeal.Run (resH resP resG resA argX argG argW W5_kept final_p final_h final_g final_a)

/-- The reference's run, over arguments `X`, `G`, `V`. -/
theorem reference_run (m : (ℓ : Loc Cert.ReferenceIdeal.nD Cert.ReferenceIdeal.τ Cert.ReferenceIdeal.sig) → Buf (Elt Ideal) ℓ)
    (ρ : Dev Cert.ReferenceIdeal.nD → PrngReg)
    (X : Dev Cert.ReferenceIdeal.nD → Vec Ideal Cert.KernelIdeal.S4x4096x1024 .f32) (G : Dev Cert.ReferenceIdeal.nD → Vec Ideal Cert.KernelIdeal.S2x1024 .f32)
    (V : Dev Cert.ReferenceIdeal.nD → Vec Ideal Cert.KernelIdeal.S2x1024x8456 .f32)
    (hX : ∀ c : Dev Cert.ReferenceIdeal.nD, m ((c.tc : Thread Cert.ReferenceIdeal.nD Cert.ReferenceIdeal.τ).loc Cert.ReferenceIdeal.main_arg0) = X c)
    (hG : ∀ c : Dev Cert.ReferenceIdeal.nD, m ((c.tc : Thread Cert.ReferenceIdeal.nD Cert.ReferenceIdeal.τ).loc Cert.ReferenceIdeal.main_arg1) = G c)
    (hV : ∀ c : Dev Cert.ReferenceIdeal.nD, m ((c.tc : Thread Cert.ReferenceIdeal.nD Cert.ReferenceIdeal.τ).loc Cert.ReferenceIdeal.main_arg2) = V c) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v37) = resP (X c) (G c) (V c)
        ∧ r.2.mem ((c.tc : Thread Cert.ReferenceIdeal.nD Cert.ReferenceIdeal.τ).loc Cert.ReferenceIdeal.main_v39) = resH (X c) (G c)
        ∧ r.2.mem ((c.tc : Thread Cert.ReferenceIdeal.nD Cert.ReferenceIdeal.τ).loc Cert.ReferenceIdeal.main_v41) = resG (X c) (G c) (V c)
        ∧ r.2.mem ((c.tc : Thread Cert.ReferenceIdeal.nD Cert.ReferenceIdeal.τ).loc Cert.ReferenceIdeal.main_v42) = resA (V c)
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) := by
  refine (θ_run Cert.ReferenceIdeal.defs _ _).mono (fun r h c => ?_) (Cert.ReferenceIdeal.Value.run m ρ)
  obtain ⟨h0, h1, h2, h3, h4⟩ := h c
  refine ⟨h0.trans ?_, h1.trans ?_, h2.trans ?_, h3.trans ?_, h4⟩
  · refine Eq.trans ?_ (hostMain_eq (X c) (G c) (V c))
    rw [← hX, ← hG, ← hV]
    rfl
  · refine Eq.trans ?_ (hostRows_eq (X c) (G c))
    rw [← hX, ← hG]
    rfl
  · refine Eq.trans ?_ (hostGate_eq (X c) (G c) (V c))
    rw [← hX, ← hG, ← hV]
    rfl
  · refine Eq.trans ?_ (hostAttn_eq (V c))
    rw [← hV]
    rfl

open Cert.KernelIdeal in
/-- The kernel's run. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v7_0) = resP (argX m c) (argG m c) (argW m c)
      ∧ r.2.mem ((c.tc : Thread nD τ).loc main_v7_1) = resH (argX m c) (argG m c)
      ∧ r.2.mem ((c.tc : Thread nD τ).loc main_v7_2) = resG (argX m c) (argG m c) (argW m c)
      ∧ r.2.mem ((c.tc : Thread nD τ).loc main_v2) = resA (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h.1 c _ (Finset.mem_filter.mpr ⟨StableHlo.devRef_mem_tcRefs main_v7_0, by decide⟩)).trans (final_p m c),
      (h.1 c _ (Finset.mem_filter.mpr ⟨StableHlo.devRef_mem_tcRefs main_v7_1, by decide⟩)).trans (final_h m c),
      (h.1 c _ (Finset.mem_filter.mpr ⟨StableHlo.devRef_mem_tcRefs main_v7_2, by decide⟩)).trans (final_g m c),
      (h.1 c _ (Finset.mem_filter.mpr ⟨StableHlo.devRef_mem_tcRefs main_v2, by decide⟩)).trans (final_a m c),
      (h.1 c _ (Finset.mem_filter.mpr ⟨StableHlo.devRef_mem_tcRefs main_arg0, by decide⟩)).trans
        (W5_kept m c main_arg0 (by decide) (by decide) (by decide) (by decide) (by decide)),
      (h.1 c _ (Finset.mem_filter.mpr ⟨StableHlo.devRef_mem_tcRefs main_arg1, by decide⟩)).trans
        (W5_kept m c main_arg1 (by decide) (by decide) (by decide) (by decide) (by decide)),
      (h.1 c _ (Finset.mem_filter.mpr ⟨StableHlo.devRef_mem_tcRefs main_arg2, by decide⟩)).trans
        (W5_kept m c main_arg2 (by decide) (by decide) (by decide) (by decide) (by decide))⟩) (Cert.KernelIdeal.Run.run m ρ)

theorem algebraic : Cert.algebraic_KernelIdeal_ReferenceIdeal (hKernelIdeal := Cert.KernelIdeal.Gen.facts)
    (hReferenceIdeal := Cert.ReferenceIdeal.Gen.facts) := by
  intro m g m' g' _ hagree
  exact ⟨fun c => resP (argX m c) (argG m c) (argW m c), fun c => resH (argX m c) (argG m c),
    fun c => resG (argX m c) (argG m c) (argW m c), fun c => resA (argW m c), kernel_run m g,
    reference_run m' g' (fun c => argX m c) (fun c => argG m c) (fun c => argW m c)
      (fun c => (hagree c).1) (fun c => (hagree c).2.1) (fun c => (hagree c).2.2)⟩

end Cert.Proof

end
-- ==== Proof.Experts.ExpertsRun.lean ====
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Pipeline.Value
public import Idealize.ShloMosaic.Lib.VecWindow
public import Idealize.ShloMosaic.Lib.Ring
public import Idealize.ShloMosaic.Lib.Tactic
public import Idealize.ShloMosaic.Lib.WordCmp
public import Idealize.ShloMosaic.Lib.Claim
public import Idealize.ShloMosaic.Lib.WholeRead

@[expose] public section

set_option maxRecDepth 16384

noncomputable section

namespace Cert.Kernel2Ideal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

/-- The two tables of the call: the expert of each tile, and the number of tiles in use. -/
abbrev tabE : Memref sig .tc .smem S48 .i32 := Memref.whole main_arg1
abbrev tabN : Memref sig .tc .smem S1 .i32 := Memref.whole main_arg2
abbrev htabE : tabE.IsWhole := Memref.isWhole_whole _
abbrev htabN : tabN.IsWhole := Memref.isWhole_whole _

abbrev TabBuf (c : Dev nD) {S : Shape} {e : EltTy} (M : Memref sig .tc .smem S e) : Type := Buf (Elt F) (M.view.loc (c : Thread nD τ))
abbrev tabPt (c : Dev nD) {S : Shape} {e : EltTy} (M : Memref sig .tc .smem S e) (f : TabBuf (F := F) c M) : sProp 𝕄 :=
  M.view.loc (c : Thread nD τ) ↦{fullShare} f

/-- The number of tiles in use; the expert of tile `i`; the expert of the tile before it. -/
def wordN (c : Dev nD) (xn : TabBuf (F := F) c tabN) : Elt F .i32 :=
  xn ((Rect.unit (s := S1) ![0] S1.size inb_S1_S1_0).point numel1_S1)
def wordE (c : Dev nD) (i : grid0.Coords) (xe : TabBuf (F := F) c tabE) : Elt F .i32 :=
  xe ((Rect.unit (s := S48) (k0_off1 i) S1.size (k0_off1_inb i)).point numel1_S1)
def wordP (c : Dev nD) (i : grid0.Coords) (xe : TabBuf (F := F) c tabE) : Elt F .i32 :=
  xe ((Rect.unit (s := S48) (k0_off2 i) S1.size (k0_off2_inb i)).point numel1_S1)

/-- Whether the body takes new weights at point `i`: the tile is in use and is the first, or its expert is not that of
    the tile before it. -/
def newExpert (i : grid0.Coords) (n e p : BitVec 32) : BitVec 1 :=
  Scalar.cmpi .ne (Scalar.extui (Scalar.andi (Scalar.cmpi .slt (BitVec.ofNat 32 (i 0).val) n)
    (Scalar.ori (Scalar.cmpi .eq (BitVec.ofNat 32 (i 0).val) 0#32) (Scalar.cmpi .ne e p))) : BitVec 32) 0#32

/-- The rows of a tile, from the eight pieces of 128 columns its block holds. -/
def rowsIn (x : Vec F S4x2x1024x128 .bf16) : FVec F S1024x1024 .bf16 :=
  k0_pay9 (View.ld (Val := Elt F) (e' := .bf16) x (Rect.unit (s := S4x2x1024x128) ![0, 0, 0, 0] S1x1x1024x128.size inb_S4x2x1024x128_S1x1x1024x128_0_0_0_0))
    (View.ld (Val := Elt F) (e' := .bf16) x (Rect.unit (s := S4x2x1024x128) ![1, 0, 0, 0] S1x1x1024x128.size inb_S4x2x1024x128_S1x1x1024x128_1_0_0_0))
    (View.ld (Val := Elt F) (e' := .bf16) x (Rect.unit (s := S4x2x1024x128) ![2, 0, 0, 0] S1x1x1024x128.size inb_S4x2x1024x128_S1x1x1024x128_2_0_0_0))
    (View.ld (Val := Elt F) (e' := .bf16) x (Rect.unit (s := S4x2x1024x128) ![3, 0, 0, 0] S1x1x1024x128.size inb_S4x2x1024x128_S1x1x1024x128_3_0_0_0))
    (View.ld (Val := Elt F) (e' := .bf16) x (Rect.unit (s := S4x2x1024x128) ![0, 1, 0, 0] S1x1x1024x128.size inb_S4x2x1024x128_S1x1x1024x128_0_1_0_0))
    (View.ld (Val := Elt F) (e' := .bf16) x (Rect.unit (s := S4x2x1024x128) ![1, 1, 0, 0] S1x1x1024x128.size inb_S4x2x1024x128_S1x1x1024x128_1_1_0_0))
    (View.ld (Val := Elt F) (e' := .bf16) x (Rect.unit (s := S4x2x1024x128) ![2, 1, 0, 0] S1x1x1024x128.size inb_S4x2x1024x128_S1x1x1024x128_2_1_0_0))
    (View.ld (Val := Elt F) (e' := .bf16) x (Rect.unit (s := S4x2x1024x128) ![3, 1, 0, 0] S1x1x1024x128.size inb_S4x2x1024x128_S1x1x1024x128_3_1_0_0))

/-- The eight pieces the body writes of a tile, last first: each is 128 columns of the product. -/
def outPieces (h : FVec F S1024x1024 .bf16) (w0 w1 : Vec F S1024x512 .bf16) (w2 : Vec F S512x1024 .bf16) : List (View.Piece (Elt F) S4x2x1024x128 .bf16) :=
  [⟨Rect.unit (s := S4x2x1024x128) ![3, 1, 0, 0] S1x1x1024x128.size inb_S4x2x1024x128_S1x1x1024x128_3_1_0_0, k0_pay8 (k0_pay10 h w0 w1 w2)⟩,
   ⟨Rect.unit (s := S4x2x1024x128) ![3, 0, 0, 0] S1x1x1024x128.size inb_S4x2x1024x128_S1x1x1024x128_3_0_0_0, k0_pay7 (k0_pay10 h w0 w1 w2)⟩,
   ⟨Rect.unit (s := S4x2x1024x128) ![2, 1, 0, 0] S1x1x1024x128.size inb_S4x2x1024x128_S1x1x1024x128_2_1_0_0, k0_pay6 (k0_pay10 h w0 w1 w2)⟩,
   ⟨Rect.unit (s := S4x2x1024x128) ![2, 0, 0, 0] S1x1x1024x128.size inb_S4x2x1024x128_S1x1x1024x128_2_0_0_0, k0_pay5 (k0_pay10 h w0 w1 w2)⟩,
   ⟨Rect.unit (s := S4x2x1024x128) ![1, 1, 0, 0] S1x1x1024x128.size inb_S4x2x1024x128_S1x1x1024x128_1_1_0_0, k0_pay4 (k0_pay14 h w0 w1 w2)⟩,
   ⟨Rect.unit (s := S4x2x1024x128) ![1, 0, 0, 0] S1x1x1024x128.size inb_S4x2x1024x128_S1x1x1024x128_1_0_0_0, k0_pay13 h w0 w1 w2⟩,
   ⟨Rect.unit (s := S4x2x1024x128) ![0, 1, 0, 0] S1x1x1024x128.size inb_S4x2x1024x128_S1x1x1024x128_0_1_0_0, k0_pay12 h w0 w1 w2⟩,
   ⟨Rect.unit (s := S4x2x1024x128) ![0, 0, 0, 0] S1x1x1024x128.size inb_S4x2x1024x128_S1x1x1024x128_0_0_0_0, k0_pay11 h w0 w1 w2⟩]

/-- They cover the block. -/
theorem outPieces_cover (h : FVec F S1024x1024 .bf16) (w0 w1 : Vec F S1024x512 .bf16) (w2 : Vec F S512x1024 .bf16) :
    ∀ y, ∃ p ∈ outPieces h w0 w1 w2, y ∈ p.1.set :=
  View.cover_of_tiledL _ S1x1x1024x128.size (by unfold outPieces; sl_kernel_rfl)

/-- The block the body writes of a tile. -/
def outBlk (h : FVec F S1024x1024 .bf16) (w0 w1 : Vec F S1024x512 .bf16) (w2 : Vec F S512x1024 .bf16) : Vec F S4x2x1024x128 .bf16 :=
  View.canon (outPieces h w0 w1 w2)

set_option maxHeartbeats 1000000 in
/-- The body at a tile in use with a new expert: the weights are taken, then the tile is computed from them. -/
theorem expertsRunA (c : Dev nD) (i : grid0.Coords) (arg3 : Memref sig .tc .vmem S4x2x1024x128 .bf16) (harg3 : arg3.IsWhole) (arg4 : Memref sig .tc .vmem S1x1x1024x512 .f32) (harg4 : arg4.IsWhole) (arg5 : Memref sig .tc .vmem S1x1x1024x512 .f32) (harg5 : arg5.IsWhole) (arg6 : Memref sig .tc .vmem S1x1x512x1024 .f32) (harg6 : arg6.IsWhole) (arg7 : Memref sig .tc .vmem S4x2x1024x128 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S512x1024 .bf16) (harg10 : arg10.IsWhole)
    (xe : TabBuf (F := F) c tabE) (xn : TabBuf (F := F) c tabN) (hc0 : newExpert i (wordN c xn) (wordE c i xe) (wordP c i xe) = 1#1) (hc1 : k0_cond2 i (wordN c xn) = 1#1)
    (x0 : Vec F S4x2x1024x128 .bf16) (x1 x2 : Vec F S1x1x1024x512 .f32) (x3 : Vec F S1x1x512x1024 .f32) (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ tabPt c tabE xe ∗ tabPt c tabN xn
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (outBlk (rowsIn x0) (k0_pay1 x1) (k0_pay2 x2) (k0_pay3 x3)) ∗ owns (c : Thread nD τ) arg8 fullShare (k0_pay1 x1) ∗ owns (c : Thread nD τ) arg9 fullShare (k0_pay2 x2) ∗ owns (c : Thread nD τ) arg10 fullShare (k0_pay3 x3) ∗ tabPt c tabE xe ∗ tabPt c tabN xn) -∗ K ⟨⟩))
          ⊢ wp frame (wpE (defs₀ (F := F)) Variants.none c none) E (cc0_moe_experts i tabE htabE tabN htabN arg3 harg3 arg4 harg4 arg5 harg5 arg6 harg6 arg7 harg7 arg8 harg8 arg9 harg9 arg10 harg10) K := by
    simp only [cc0_moe_experts_eq_skeleton]; unfold cc0_moe_experts_skel
    simp only [k0_part1_eq_skeleton, k0_part2_eq_skeleton]; unfold k0_part1_skel k0_part2_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, HT0, HT1, Hk⟩
    obtain rfl := harg3.eq_unread hf0; obtain rfl := harg4.eq_unread hf1; obtain rfl := harg5.eq_unread hf2; obtain rfl := harg6.eq_unread hf3
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; swap; · iexact H4
      ipureintro
      unfold expertsRunA.sl.v44 expertsRunA.sl.v51 expertsRunA.sl.v55 expertsRunA.sl.H5_1 expertsRunA.sl.H6_1 expertsRunA.sl.H7_1 expertsRunA.sl.v16 expertsRunA.sl.v22 expertsRunA.sl.v28
      rw [View.readCov_full, View.readCov_full, View.readCov_full, View.readAt_full, View.readAt_full, View.readAt_full, harg4.read_unread, harg5.read_unread, harg6.read_unread]
      simp only [View.readAt_eq_ld, harg3.read_unread]
      exact View.read_writes_eq_canon _ _ (outPieces (rowsIn x0) (k0_pay1 x1) (k0_pay2 x2) (k0_pay3 x3)) (outPieces_cover _ _ _ _)
    isplitl [H5]
    · iexists _; isplitr; swap; · iexact H5
      ipureintro
      unfold expertsRunA.sl.H5_1 expertsRunA.sl.v16
      rw [View.read_writes_full, View.readAt_full, harg4.read_unread]
    isplitl [H6]
    · iexists _; isplitr; swap; · iexact H6
      ipureintro
      unfold expertsRunA.sl.H6_1 expertsRunA.sl.v22
      rw [View.read_writes_full, View.readAt_full, harg5.read_unread]
    isplitl [H7]
    · iexists _; isplitr; swap; · iexact H7
      ipureintro
      unfold expertsRunA.sl.H7_1 expertsRunA.sl.v28
      rw [View.read_writes_full, View.readAt_full, harg6.read_unread]
    isplitl [HT0]; · iexact HT0
    iexact HT1

set_option maxHeartbeats 1000000 in
/-- The body at a tile in use with the expert of the tile before: it is computed from the weights already taken. -/
theorem expertsRunB (c : Dev nD) (i : grid0.Coords) (arg3 : Memref sig .tc .vmem S4x2x1024x128 .bf16) (harg3 : arg3.IsWhole) (arg4 : Memref sig .tc .vmem S1x1x1024x512 .f32) (harg4 : arg4.IsWhole) (arg5 : Memref sig .tc .vmem S1x1x1024x512 .f32) (harg5 : arg5.IsWhole) (arg6 : Memref sig .tc .vmem S1x1x512x1024 .f32) (harg6 : arg6.IsWhole) (arg7 : Memref sig .tc .vmem S4x2x1024x128 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S512x1024 .bf16) (harg10 : arg10.IsWhole)
    (xe : TabBuf (F := F) c tabE) (xn : TabBuf (F := F) c tabN) (hc0 : ¬newExpert i (wordN c xn) (wordE c i xe) (wordP c i xe) = 1#1) (hc1 : k0_cond2 i (wordN c xn) = 1#1)
    (x0 : Vec F S4x2x1024x128 .bf16) (x1 x2 : Vec F S1x1x1024x512 .f32) (x3 : Vec F S1x1x512x1024 .f32) (s0 s1 : Vec F S1024x512 .bf16) (s2 : Vec F S512x1024 .bf16) (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare s0 ∗ owns (c : Thread nD τ) arg9 fullShare s1 ∗ owns (c : Thread nD τ) arg10 fullShare s2 ∗ tabPt c tabE xe ∗ tabPt c tabN xn
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (outBlk (rowsIn x0) s0 s1 s2) ∗ owns (c : Thread nD τ) arg8 fullShare s0 ∗ owns (c : Thread nD τ) arg9 fullShare s1 ∗ owns (c : Thread nD τ) arg10 fullShare s2 ∗ tabPt c tabE xe ∗ tabPt c tabN xn) -∗ K ⟨⟩))
          ⊢ wp frame (wpE (defs₀ (F := F)) Variants.none c none) E (cc0_moe_experts i tabE htabE tabN htabN arg3 harg3 arg4 harg4 arg5 harg5 arg6 harg6 arg7 harg7 arg8 harg8 arg9 harg9 arg10 harg10) K := by
    simp only [cc0_moe_experts_eq_skeleton]; unfold cc0_moe_experts_skel
    simp only [k0_part1_eq_skeleton, k0_part2_eq_skeleton]; unfold k0_part1_skel k0_part2_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, HT0, HT1, Hk⟩
    obtain rfl := harg3.eq_unread hf0; obtain rfl := harg4.eq_unread hf1; obtain rfl := harg5.eq_unread hf2; obtain rfl := harg6.eq_unread hf3; obtain rfl := harg8.eq_unread hf5; obtain rfl := harg9.eq_unread hf6; obtain rfl := harg10.eq_unread hf7
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; swap; · iexact H4
      ipureintro
      rw [View.readAt_full, View.readAt_full, View.readAt_full, harg8.read_unread, harg9.read_unread, harg10.read_unread]
      simp only [View.readAt_eq_ld, harg3.read_unread]
      exact View.read_writes_eq_canon _ _ (outPieces (rowsIn x0) s0 s1 s2) (outPieces_cover _ _ _ _)
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [HT0]; · iexact HT0
    iexact HT1

set_option maxHeartbeats 1000000 in
/-- The body at a tile not in use: nothing is written. -/
theorem expertsRunC (c : Dev nD) (i : grid0.Coords) (arg3 : Memref sig .tc .vmem S4x2x1024x128 .bf16) (harg3 : arg3.IsWhole) (arg4 : Memref sig .tc .vmem S1x1x1024x512 .f32) (harg4 : arg4.IsWhole) (arg5 : Memref sig .tc .vmem S1x1x1024x512 .f32) (harg5 : arg5.IsWhole) (arg6 : Memref sig .tc .vmem S1x1x512x1024 .f32) (harg6 : arg6.IsWhole) (arg7 : Memref sig .tc .vmem S4x2x1024x128 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S512x1024 .bf16) (harg10 : arg10.IsWhole)
    (xe : TabBuf (F := F) c tabE) (xn : TabBuf (F := F) c tabN) (hc0 : ¬newExpert i (wordN c xn) (wordE c i xe) (wordP c i xe) = 1#1) (hc1 : ¬k0_cond2 i (wordN c xn) = 1#1)
    (x0 : Vec F S4x2x1024x128 .bf16) (x1 x2 : Vec F S1x1x1024x512 .f32) (x3 : Vec F S1x1x512x1024 .f32) (x4 : Vec F S4x2x1024x128 .bf16) (s0 s1 : Vec F S1024x512 .bf16) (s2 : Vec F S512x1024 .bf16) (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare s0 ∗ owns (c : Thread nD τ) arg9 fullShare s1 ∗ owns (c : Thread nD τ) arg10 fullShare s2 ∗ tabPt c tabE xe ∗ tabPt c tabN xn
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare s0 ∗ owns (c : Thread nD τ) arg9 fullShare s1 ∗ owns (c : Thread nD τ) arg10 fullShare s2 ∗ tabPt c tabE xe ∗ tabPt c tabN xn) -∗ K ⟨⟩))
          ⊢ wp frame (wpE (defs₀ (F := F)) Variants.none c none) E (cc0_moe_experts i tabE htabE tabN htabN arg3 harg3 arg4 harg4 arg5 harg5 arg6 harg6 arg7 harg7 arg8 harg8 arg9 harg9 arg10 harg10) K := by
    simp only [cc0_moe_experts_eq_skeleton]; unfold cc0_moe_experts_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, HT0, HT1, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [HT0]; · iexact HT0
    iexact HT1

end Cert.Kernel2Ideal.Run

end
-- ==== Proof.Experts.ExpertsTables.lean ====
module

public import proofs.«01_k».proof.Proof.Experts.ExpertsRun
public import Idealize.ShloMosaic.Lib.PairWhole

@[expose] public section

set_option maxRecDepth 16384

noncomputable section

namespace Cert.Kernel2Ideal.Run

open Idealize.ShloMosaic Idealize.ShloMosaic.TcCoe Idealize.ShloMosaic.Tactic
open Idealize.ShloMosaic.Pipeline (Dat Cfg Window BodyObligation cellOf)
open Cert.Kernel2Ideal.Gen

variable {F : FTy → Type} [FloatOps F]

/-- The words the tables hold: the number of tiles in use, and the expert of tile `i`. -/
def num (v : pre0.Contents (Elt F)) : BitVec 32 := v.at 1 (Rect.unit (s := S1) ![0] S1.size inb_S1_S1_0) numel1_S1
def expert (v : pre0.Contents (Elt F)) (i : grid0.Coords) : BitVec 32 :=
  v.at 0 (Rect.unit (s := S48) (k0_off1 i) S1.size (k0_off1_inb i)) numel1_S1

/-- The tables are in range: at least one tile is in use and at most all, and every expert is one of the sixteen. -/
structure InRange (v : pre0.Contents (Elt F)) : Prop where
  pos : 1 ≤ (num v).toNat
  le : (num v).toNat ≤ 48
  tile : ∀ i, (expert v i).toNat < 16

theorem min_word : ∀ i n : Fin 48, (Scalar.minsi (BitVec.ofNat 32 i.val) (Scalar.subi (BitVec.ofNat 32 (n.val + 1)) 1#32)).toNat = min i.val n.val := by
  decide +kernel
theorem lt_word : ∀ (i : Fin 48) (n : Fin 49), (Scalar.cmpi .ne (Scalar.extui (Scalar.cmpi .slt (BitVec.ofNat 32 i.val) (BitVec.ofNat 32 n.val)) : BitVec 32) 0#32) = 1#1 ↔ i.val < n.val := by
  decide +kernel
theorem new_word : ∀ (i : Fin 48) (n : Fin 49) (b : Bool), (Scalar.cmpi .ne (Scalar.extui (Scalar.andi (Scalar.cmpi .slt (BitVec.ofNat 32 i.val) (BitVec.ofNat 32 n.val))
    (Scalar.ori (Scalar.cmpi .eq (BitVec.ofNat 32 i.val) 0#32) (BitVec.ofBool b))) : BitVec 32) 0#32) = 1#1 ↔ i.val < n.val ∧ (i.val = 0 ∨ b = true) := by
  decide +kernel

theorem coord_lt (i : grid0.Coords) : (i 0).val < 48 := (i 0).isLt

/-- The row block of tile `i`: its own while in use, the last one in use after that. -/
theorem map0 (v : pre0.Contents (Elt F)) (h : InRange v) (i : grid0.Coords) :
    cc0_transform_0 inb_S1_S1_0 numel1_S1 v i = ![0, 0, min (i 0).val ((num v).toNat - 1), 0] := by
  have hp := h.pos; have hl := h.le
  have e := min_word ⟨(i 0).val, coord_lt i⟩ ⟨(num v).toNat - 1, by omega⟩
  simp only at e
  rw [Nat.sub_add_cancel hp, BitVec.ofNat_toNat, BitVec.setWidth_eq] at e
  rw [← e]; rfl
theorem map4 (v : pre0.Contents (Elt F)) (h : InRange v) (i : grid0.Coords) :
    cc0_transform_4 inb_S1_S1_0 numel1_S1 v i = ![0, 0, min (i 0).val ((num v).toNat - 1), 0] :=
  (show cc0_transform_4 inb_S1_S1_0 numel1_S1 v i = cc0_transform_0 inb_S1_S1_0 numel1_S1 v i from rfl).trans (map0 v h i)
theorem map1 (v : pre0.Contents (Elt F)) (i : grid0.Coords) :
    cc0_transform_1 k0_off1_inb numel1_S1 v i = ![0, (expert v i).toNat, 0, 0] := rfl
theorem map2 (v : pre0.Contents (Elt F)) (i : grid0.Coords) :
    cc0_transform_2 k0_off1_inb numel1_S1 v i = ![0, (expert v i).toNat, 0, 0] := rfl
theorem map3 (v : pre0.Contents (Elt F)) (i : grid0.Coords) :
    cc0_transform_3 k0_off1_inb numel1_S1 v i = ![0, (expert v i).toNat, 0, 0] := rfl

/-- Whether tile `i` is in use. -/
theorem used_iff (v : pre0.Contents (Elt F)) (h : InRange v) (i : grid0.Coords) : k0_cond2 i (num v) = 1#1 ↔ (i 0).val < (num v).toNat := by
  have hl := h.le
  have e := lt_word ⟨(i 0).val, coord_lt i⟩ ⟨(num v).toNat, by omega⟩
  simp only at e
  rw [BitVec.ofNat_toNat, BitVec.setWidth_eq] at e
  exact e
/-- Whether new weights are taken at tile `i`. -/
theorem new_iff (v : pre0.Contents (Elt F)) (h : InRange v) (i : grid0.Coords) (e p : BitVec 32) :
    newExpert i (num v) e p = 1#1 ↔ (i 0).val < (num v).toNat ∧ ((i 0).val = 0 ∨ e ≠ p) := by
  have hl := h.le
  have q := new_word ⟨(i 0).val, coord_lt i⟩ ⟨(num v).toNat, by omega⟩ (e != p)
  simp only at q
  rw [BitVec.ofNat_toNat, BitVec.setWidth_eq, bne_iff_ne] at q
  exact q

/-- Every block the tables name lies inside its array. -/
theorem ok_of_inRange (v : pre0.Contents (Elt F)) (h : InRange v) : ok0 v := by
  have hp := h.pos; have hl := h.le
  have hb : ∀ (i : grid0.Coords) (off : Fin 4 → ℕ) (_ : off = ![0, 0, min (i 0).val ((num v).toNat - 1), 0]),
      ∃ hh : (∀ a, (off a + 1) * S4x2x1024x128.size a ≤ S4x2x49152x128.size a),
        EltTy.bits .bf16 = 32 ∨ (Rect.block (s := S4x2x49152x128) S4x2x1024x128.size off hh).WholeWords (EltTy.packing .bf16) := by
    rintro i off rfl
    refine ⟨fun a => ?_, Or.inr (.inl (Rect.packedRows_of_rowAxis _ _ (by decide) ?_ ?_ rfl))⟩
    · have := coord_lt i
      fin_cases a
      · exact Nat.le_refl 4
      · exact Nat.le_refl 2
      · show (min (i 0).val ((num v).toNat - 1) + 1) * 1024 ≤ 49152
        omega
      · exact Nat.le_refl 128
    · exact ⟨min (i 0).val ((num v).toNat - 1) * 512, by show min (i 0).val ((num v).toNat - 1) * 1024 = 2 * _; omega⟩
    · exact ⟨512, rfl⟩
  refine ⟨fun i => hb i _ (map0 v h i), fun i => ?_, fun i => ?_, fun i => ?_, fun i => hb i _ (map4 v h i)⟩
  · refine ⟨fun a => ?_, Or.inl rfl⟩
    rw [map1]; have := h.tile i
    fin_cases a
    · exact (by decide : (0 + 1) * 1 ≤ 2)
    · show ((expert v i).toNat + 1) * 1 ≤ 16; omega
    · exact Nat.le_refl 1024
    · exact Nat.le_refl 512
  · refine ⟨fun a => ?_, Or.inl rfl⟩
    rw [map2]; have := h.tile i
    fin_cases a
    · exact (by decide : (0 + 1) * 1 ≤ 2)
    · show ((expert v i).toNat + 1) * 1 ≤ 16; omega
    · exact Nat.le_refl 1024
    · exact Nat.le_refl 512
  · refine ⟨fun a => ?_, Or.inl rfl⟩
    rw [map3]; have := h.tile i
    fin_cases a
    · exact (by decide : (0 + 1) * 1 ≤ 2)
    · show ((expert v i).toNat + 1) * 1 ≤ 16; omega
    · exact Nat.le_refl 512
    · exact Nat.le_refl 1024

/-- The words as the body reads them. -/
theorem wordN_eq (c : Dev nD) (v : pre0.Contents (Elt F)) : wordN c (v 1) = num v := rfl
theorem wordE_eq (c : Dev nD) (v : pre0.Contents (Elt F)) (i : grid0.Coords) : wordE c i (v 0) = expert v i := rfl
theorem atD_num (v : pre0.Contents (Elt F)) : v.atD 1 ![0] = num v := by
  unfold Pipeline.Prefetch.Contents.atD
  have h : ∀ a : Fin (pre0.ref 1).ty.shape.rank, (![0] : Fin 1 → ℕ) a + 1 ≤ (pre0.ref 1).ty.shape.size a := fun (a : Fin 1) => match a with
    | ⟨0, _⟩ => Nat.le_refl 1
  rw [dif_pos h]; rfl

theorem coords_val (t : Fin grid0.N) : (grid0.coords t 0).val = t.val := by
  have ht : t.val < 48 := lt_of_lt_of_eq t.isLt N_0
  have e : (grid0.coords t 0).val = t.val / 1 % 48 := Pipeline.Grid.coords_val t 0 (by decide) rfl
  omega

/-- The tile before. -/
def prev (t : Fin grid0.N) : Fin grid0.N := ⟨t.val - 1, lt_of_le_of_lt (Nat.sub_le _ _) t.isLt⟩
theorem wordP_eq (c : Dev nD) (v : pre0.Contents (Elt F)) (t : Fin grid0.N) (ht : t.val ≠ 0) :
    wordP c (grid0.coords t) (v 0) = expert v (grid0.coords (prev t)) := by
  have hx : ∀ i : Fin 48, i.val ≠ 0 → (Scalar.maxsi (Scalar.subi (BitVec.ofNat 32 i.val) 1#32) 0#32).toNat = (BitVec.ofNat 32 (i.val - 1)).toNat := by decide +kernel
  have e : k0_off2 (grid0.coords t) = k0_off1 (grid0.coords (prev t)) := by
    have := hx ⟨t.val, lt_of_lt_of_eq t.isLt N_0⟩ ht
    unfold k0_off2 k0_off1
    simp only [coords_val, prev, Scalar.indexCast]
    exact congrArg (fun n => ![n]) this
  unfold wordP expert Pipeline.Prefetch.Contents.at
  exact congrArg (v 0) (funext fun a => Fin.ext (congrFun (congrArg (fun (o : Fin 1 → ℕ) => fun a : Fin 1 => o a + 1 * 0) e) a))

end Cert.Kernel2Ideal.Run

end
-- ==== Proof.Experts.ExpertsDat.lean ====
module

public import proofs.«01_k».proof.Proof.Experts.ExpertsTables
public import Idealize.ShloMosaic.Lib.Pipeline.RegionArraysTS
public import Idealize.ShloMosaic.Lib.Pipeline.TableIdle

@[expose] public section

set_option maxRecDepth 16384

noncomputable section

namespace Cert.Kernel2Ideal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

variable (a : (pcfg0 (F := F)).Adm) (W : Dev nD → Valuation τ sig (Elt F))

/-- What each window's block at point `t` holds of its array, the buffers being at `W` when the call starts. -/
def blk0 (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (W c (Proc.devRef .tc (Pipeline.arrRef spec0 w)))

/-- The weights of the expert of tile `t`, as the scratch buffers hold them. -/
def gate0 (c : Dev nD) (t : Fin (cfg0 a).N) : Vec F S1024x512 .bf16 := k0_pay1 (blk0 a W c 1 t)
def up0 (c : Dev nD) (t : Fin (cfg0 a).N) : Vec F S1024x512 .bf16 := k0_pay2 (blk0 a W c 2 t)
def down0 (c : Dev nD) (t : Fin (cfg0 a).N) : Vec F S512x1024 .bf16 := k0_pay3 (blk0 a W c 3 t)

/-- The block computed at tile `t`. -/
def tileOut (c : Dev nD) (t : Fin (cfg0 a).N) : Vec F S4x2x1024x128 .bf16 :=
  outBlk (rowsIn (blk0 a W c 0 t)) (gate0 a W c t) (up0 a W c t) (down0 a W c t)

/-- The tile the output's buffer holds after point `t`: its own, or the last one in use. -/
def lastUsed (t : Fin (cfg0 a).N) : Fin (cfg0 a).N := ⟨min t.val ((num a.1).toNat - 1), lt_of_le_of_lt (Nat.min_le_left _ _) t.isLt⟩

/-- The point before position `s`. -/
def before (s : Fin ((cfg0 a).N + 1)) : Fin (cfg0 a).N := ⟨s.val - 1, by
  have hN : (cfg0 a).N = 48 := N_0
  have := s.isLt; omega⟩

abbrev scrA : Memref sig .tc .vmem S1024x512 .bf16 := Memref.whole cc0_scratch0
abbrev scrB : Memref sig .tc .vmem S1024x512 .bf16 := Memref.whole cc0_scratch1
abbrev scrC : Memref sig .tc .vmem S512x1024 .bf16 := Memref.whole cc0_scratch2

/-- The scratch buffers at position `s`: after a tile in use they hold the weights of its expert. -/
def scratch (c : Dev nD) (s : Fin ((cfg0 a).N + 1)) : sProp 𝕄 :=
  iprop(∃ d0, ∃ d1, ∃ d2, ⌜0 < s.val ∧ s.val ≤ (num a.1).toNat → d0 = gate0 a W c (before a s) ∧ d1 = up0 a W c (before a s) ∧ d2 = down0 a W c (before a s)⌝
    ∗ owns (c : Thread nD τ) scrA fullShare d0 ∗ owns (c : Thread nD τ) scrB fullShare d1 ∗ owns (c : Thread nD τ) scrC fullShare d2)

/-- The call's proof data: the arrays at `W`; after the body each input's block in place and the output's at the last tile
    computed; the scratch buffers between points; the tables held whole. -/
def dat0 (c : Dev nD) : Dat τ (Elt F) Unit ℕ (UR sig nD τ) ℕ (cfg0 a) c where
  A w := W c (Proc.devRef .tc (Pipeline.arrRef spec0 w))
  after w t := match w with
    | ⟨0, _⟩ => blk0 a W c 0 t
    | ⟨1, _⟩ => blk0 a W c 1 t
    | ⟨2, _⟩ => blk0 a W c 2 t
    | ⟨3, _⟩ => blk0 a W c 3 t
    | ⟨4, _⟩ => tileOut a W c (lastUsed a t)
  Φ s := iprop(scratch a W c s ∗ Pipeline.prefHeld pre0 c (fun _ => fullShare) a.1)
  q _ := fullShare
  owed _ := 0

theorem dat0_A (c : Dev nD) (w : Fin (cfg0 a).W) : (dat0 a W c).A w = W c (Proc.devRef .tc (Pipeline.arrRef spec0 w)) := by dsimp only [dat0]
theorem after0_0 (c : Dev nD) (t : Fin (cfg0 a).N) : (dat0 a W c).after 0 t = blk0 a W c 0 t := by dsimp only [dat0]; try rfl
theorem after0_1 (c : Dev nD) (t : Fin (cfg0 a).N) : (dat0 a W c).after 1 t = blk0 a W c 1 t := by dsimp only [dat0]; try rfl
theorem after0_2 (c : Dev nD) (t : Fin (cfg0 a).N) : (dat0 a W c).after 2 t = blk0 a W c 2 t := by dsimp only [dat0]; try rfl
theorem after0_3 (c : Dev nD) (t : Fin (cfg0 a).N) : (dat0 a W c).after 3 t = blk0 a W c 3 t := by dsimp only [dat0]; try rfl
theorem after0_4 (c : Dev nD) (t : Fin (cfg0 a).N) : (dat0 a W c).after 4 t = tileOut a W c (lastUsed a t) := by dsimp only [dat0]; try rfl

theorem before0_0 (c : Dev nD) (t : Fin (cfg0 a).N) (d) : (dat0 a W c).before 0 t d = blk0 a W c 0 t :=
  ((dat0 a W c).before_in_eq_fetched 0 rfl (fun _ => rfl) (fun _ _ _ => rfl)
    (fun t => by rw [after0_0]; unfold Dat.blockOf blk0; rw [dat0_A]; try rfl) t d).trans
    (by unfold Dat.fetched Dat.blockOf blk0; rw [dat0_A]; try rfl)
theorem before0_1 (c : Dev nD) (t : Fin (cfg0 a).N) (d) : (dat0 a W c).before 1 t d = blk0 a W c 1 t :=
  ((dat0 a W c).before_in_eq_fetched 1 rfl (fun _ => rfl) (fun _ _ _ => rfl)
    (fun t => by rw [after0_1]; unfold Dat.blockOf blk0; rw [dat0_A]; try rfl) t d).trans
    (by unfold Dat.fetched Dat.blockOf blk0; rw [dat0_A]; try rfl)
theorem before0_2 (c : Dev nD) (t : Fin (cfg0 a).N) (d) : (dat0 a W c).before 2 t d = blk0 a W c 2 t :=
  ((dat0 a W c).before_in_eq_fetched 2 rfl (fun _ => rfl) (fun _ _ _ => rfl)
    (fun t => by rw [after0_2]; unfold Dat.blockOf blk0; rw [dat0_A]; try rfl) t d).trans
    (by unfold Dat.fetched Dat.blockOf blk0; rw [dat0_A]; try rfl)
theorem before0_3 (c : Dev nD) (t : Fin (cfg0 a).N) (d) : (dat0 a W c).before 3 t d = blk0 a W c 3 t :=
  ((dat0 a W c).before_in_eq_fetched 3 rfl (fun _ => rfl) (fun _ _ _ => rfl)
    (fun t => by rw [after0_3]; unfold Dat.blockOf blk0; rw [dat0_A]; try rfl) t d).trans
    (by unfold Dat.fetched Dat.blockOf blk0; rw [dat0_A]; try rfl)

/-- Two points whose tiles have one expert read the same weights. -/
theorem fetched_eq (c : Dev nD) (w : Fin (cfg0 a).W) (t t' : Fin (cfg0 a).N) (h : ((cfg0 a).win w).index t = ((cfg0 a).win w).index t') (d) :
    (dat0 a W c).fetched w t d = (dat0 a W c).fetched w t' d := (dat0 a W c).fetched_congr w h rfl d
theorem blk1_eq (c : Dev nD) (t t' : Fin (cfg0 a).N) (h : expert a.1 (grid0.coords t) = expert a.1 (grid0.coords t')) : blk0 a W c 1 t = blk0 a W c 1 t' := by
  have e := fetched_eq a W c 1 t t' (by show cc0_transform_1 k0_off1_inb numel1_S1 a.1 _ = cc0_transform_1 k0_off1_inb numel1_S1 a.1 _; rw [map1, map1, h]) (blk0 a W c 1 t)
  unfold Dat.fetched Dat.blockOf at e; rw [dat0_A] at e; exact e
theorem blk2_eq (c : Dev nD) (t t' : Fin (cfg0 a).N) (h : expert a.1 (grid0.coords t) = expert a.1 (grid0.coords t')) : blk0 a W c 2 t = blk0 a W c 2 t' := by
  have e := fetched_eq a W c 2 t t' (by show cc0_transform_2 k0_off1_inb numel1_S1 a.1 _ = cc0_transform_2 k0_off1_inb numel1_S1 a.1 _; rw [map2, map2, h]) (blk0 a W c 2 t)
  unfold Dat.fetched Dat.blockOf at e; rw [dat0_A] at e; exact e
theorem blk3_eq (c : Dev nD) (t t' : Fin (cfg0 a).N) (h : expert a.1 (grid0.coords t) = expert a.1 (grid0.coords t')) : blk0 a W c 3 t = blk0 a W c 3 t' := by
  have e := fetched_eq a W c 3 t t' (by show cc0_transform_3 k0_off1_inb numel1_S1 a.1 _ = cc0_transform_3 k0_off1_inb numel1_S1 a.1 _; rw [map3, map3, h]) (blk0 a W c 3 t)
  unfold Dat.fetched Dat.blockOf at e; rw [dat0_A] at e; exact e

variable (hr : InRange a.1)
include hr

theorem idle4 (t : Fin (cfg0 a).N) : (cfg0 a).idle 4 (grid0.coords t) = false ↔ t.val < (num a.1).toNat := by
  have e : (cfg0 a).idle 4 (grid0.coords t) = !(k0_cond2 (grid0.coords t) (a.1.atD 1 ![0]) == 1#1) := rfl
  rw [e, atD_num, Bool.not_eq_false', beq_iff_eq, used_iff a.1 hr, coords_val]
theorem flush4 (t : Fin (cfg0 a).N) (h : (num a.1).toNat ≤ t.val + 1) (h1 : t.val + 1 < 48) : ((cfg0 a).win 4).flush t = false := by
  have hN : (cfg0 a).N = 48 := N_0
  have hp := hr.pos
  have hi : ∀ t : Fin (cfg0 a).N, ((cfg0 a).win 4).index t = ![0, 0, min t.val ((num a.1).toNat - 1), 0] := fun t => by
    show cc0_transform_4 inb_S1_S1_0 numel1_S1 a.1 (grid0.coords t) = _
    rw [map4 a.1 hr, coords_val]
  unfold Pipeline.Window.flush
  rw [Bool.and_eq_false_iff]; right
  rw [Bool.or_eq_false_iff]; constructor
  · exact decide_eq_false (by show ¬ t.val + 1 = grid0.N; rw [N_0]; omega)
  · refine decide_eq_false ?_
    rintro ⟨h2, h3⟩
    refine h3 ?_
    rw [hi, hi]
    have : min (t.val + 1) ((num a.1).toNat - 1) = min t.val ((num a.1).toNat - 1) := by omega
    show (![0, 0, min (t.val + 1) _, 0] : Fin 4 → ℕ) = _
    rw [this]
/-- A buffer past the tiles in use holds the last of them. -/
theorem fresh4 : ∀ n : ℕ, (num a.1).toNat ≤ n → n < 48 → (cfg0 a).fresh 4 n = false
  | 0, h, _ => absurd hr.pos (by omega)
  | n + 1, h, h1 => by
    have hN : n < (cfg0 a).N := by
      have hN : (cfg0 a).N = 48 := N_0
      omega
    rw [(cfg0 a).fresh_succ 4 n hN, flush4 a hr ⟨n, hN⟩ h h1, Bool.false_or]
    by_cases hn : (num a.1).toNat ≤ n
    · rw [fresh4 n hn (by omega), Bool.and_false]
    · rw [show (cfg0 a).idle 4 ((cfg0 a).grid.coords ⟨n, hN⟩) = false from (idle4 a hr ⟨n, hN⟩).mpr (by show n < _; omega), Bool.false_and]
theorem before0_4 (c : Dev nD) (t : Fin (cfg0 a).N) (h : (num a.1).toNat ≤ t.val) (d) :
    (dat0 a W c).before 4 t d = tileOut a W c (lastUsed a t) := by
  have hN : (cfg0 a).N = 48 := N_0
  have hp := hr.pos
  have hlast : ∀ t : Fin (cfg0 a).N, (num a.1).toNat ≤ t.val → lastUsed a t = lastUsed a ⟨t.val - 1, by omega⟩ := fun t h =>
    Fin.ext (by show min t.val _ = min (t.val - 1) _; omega)
  rw [(dat0 a W c).before_out_traj 4 rfl (fun _ _ => rfl) (fun t h0 hi _ => by
    have : ¬ t.val < (num a.1).toNat := fun h => by rw [(idle4 a hr t).mpr h] at hi; exact Bool.false_ne_true hi
    rw [after0_4, after0_4, hlast t (by omega)]) t.val t rfl d, fresh4 a hr t.val h (by omega), if_neg Bool.false_ne_true, after0_4, hlast t h]

abbrev stg0_0 (t : Fin (cfg0 a).N) : Memref sig .tc .vmem S4x2x1024x128 .bf16 := spec0_0.stage ((cfg0 a).slots t 0)
abbrev stg0_1 (t : Fin (cfg0 a).N) : Memref sig .tc .vmem S1x1x1024x512 .f32 := spec0_1.stage ((cfg0 a).slots t 1)
abbrev stg0_2 (t : Fin (cfg0 a).N) : Memref sig .tc .vmem S1x1x1024x512 .f32 := spec0_2.stage ((cfg0 a).slots t 2)
abbrev stg0_3 (t : Fin (cfg0 a).N) : Memref sig .tc .vmem S1x1x512x1024 .f32 := spec0_3.stage ((cfg0 a).slots t 3)
abbrev stg0_4 (t : Fin (cfg0 a).N) : Memref sig .tc .vmem S4x2x1024x128 .bf16 := spec0_4.stage ((cfg0 a).slots t 4)

theorem leaves0_4 (c : Dev nD) (t : Fin (cfg0 a).N) :
    owns (c : Thread nD τ) (stg0_4 a t) fullShare (tileOut a W c (lastUsed a t)) ⊢ ((dat0 a W c).leavesExact 4 t : sProp 𝕄) := by
  by_cases h : t.val < (num a.1).toNat
  · unfold Dat.leavesExact; rw [(idle4 a hr t).mpr h, after0_4]; exact .rfl
  · unfold Dat.leavesExact
    cases (cfg0 a).idle 4 ((cfg0 a).grid.coords t)
    · simp only [after0_4]; exact .rfl
    · cases ((cfg0 a).win 4).flush t
      · simp only [before0_4 a W hr c t (by omega)]
        iintro H; iexists tileOut a W c (lastUsed a t); iexact H
      · simp only [after0_4]; exact .rfl
omit hr

/-- The body at point `t`, on the staging buffers it is handed. -/
abbrev body0At (t : Fin (cfg0 a).N) : Prog (TpuEff nD τ sig (Elt F) Λ₀ .tc) PUnit :=
  cc0_moe_experts (grid0.coords t) tabE htabE tabN htabN (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) scrA (Memref.isWhole_whole _) scrB (Memref.isWhole_whole _) scrC (Memref.isWhole_whole _)

def body0Pre (c : Dev nD) (t : Fin (cfg0 a).N) : sProp 𝕄 :=
  iprop((dat0 a W c).Φ t.castSucc ∗ (dat0 a W c).owesAt () t.castSucc
    ∗ (∃ d, owns (c : Thread nD τ) (stg0_0 a t) fullShare ((dat0 a W c).before 0 t d))
    ∗ (∃ d, owns (c : Thread nD τ) (stg0_1 a t) fullShare ((dat0 a W c).before 1 t d))
    ∗ (∃ d, owns (c : Thread nD τ) (stg0_2 a t) fullShare ((dat0 a W c).before 2 t d))
    ∗ (∃ d, owns (c : Thread nD τ) (stg0_3 a t) fullShare ((dat0 a W c).before 3 t d))
    ∗ (∃ d, owns (c : Thread nD τ) (stg0_4 a t) fullShare ((dat0 a W c).before 4 t d)))

def body0Post (c : Dev nD) (t : Fin (cfg0 a).N) : sProp 𝕄 :=
  iprop((dat0 a W c).Φ t.succ ∗ (dat0 a W c).owesAt () t.succ
    ∗ owns (c : Thread nD τ) (stg0_0 a t) fullShare ((dat0 a W c).after 0 t)
    ∗ owns (c : Thread nD τ) (stg0_1 a t) fullShare ((dat0 a W c).after 1 t)
    ∗ owns (c : Thread nD τ) (stg0_2 a t) fullShare ((dat0 a W c).after 2 t)
    ∗ owns (c : Thread nD τ) (stg0_3 a t) fullShare ((dat0 a W c).after 3 t)
    ∗ (dat0 a W c).leavesExact 4 t)

theorem tables0_eq (c : Dev nD) (v : pre0.Contents (Elt F)) :
    (Pipeline.prefHeld pre0 c (fun _ => fullShare) v : sProp 𝕄) = iprop(tabPt c tabE (v 0) ∗ tabPt c tabN (v 1)) := by
  unfold Pipeline.prefHeld
  rw [show (Finset.univ : Finset (Fin 2)) = insert (0 : Fin 2) {(1 : Fin 2)} from by decide, bigSep_insert (by decide), bigSep_singleton]
  rfl
theorem Φ_eq (c : Dev nD) (s : Fin ((cfg0 a).N + 1)) : (dat0 a W c).Φ s = iprop(scratch a W c s ∗ tabPt c tabE (a.1 0) ∗ tabPt c tabN (a.1 1)) := by
  rw [← tables0_eq]; rfl
theorem before_succ (t : Fin (cfg0 a).N) : before a t.succ = t := Fin.ext (by show t.val + 1 - 1 = t.val; omega)
theorem before_castSucc (t : Fin (cfg0 a).N) : before a t.castSucc = prev t := rfl
theorem lastUsed_eq (t : Fin (cfg0 a).N) (h : t.val < (num a.1).toNat) : lastUsed a t = t := Fin.ext (by show min t.val _ = t.val; omega)

set_option maxHeartbeats 1600000 in
theorem body0_sound (c : Dev nD) (hr : InRange a.1) (t : Fin (cfg0 a).N) :
    body0Pre a W c t ⊢ wp frame (wpE (defs₀ (F := F)) Variants.none c none) Set.univ (body0At a t) (fun _ => body0Post a W c t) := by
  unfold body0Pre body0Post body0At
  simp only [before0_0, before0_1, before0_2, before0_3]
  rw [show (dat0 a W c).owesAt () t.succ = (dat0 a W c).owesAt () t.castSucc from rfl, after0_0, after0_1, after0_2, after0_3, Φ_eq, Φ_eq]
  unfold scratch
  rw [before_succ, before_castSucc]
  by_cases hu : t.val < (num a.1).toNat
  · have hc1 : k0_cond2 (grid0.coords t) (wordN c (a.1 1)) = 1#1 := (used_iff a.1 hr _).mpr (by rw [coords_val]; exact hu)
    by_cases hn : newExpert (grid0.coords t) (wordN c (a.1 1)) (wordE c (grid0.coords t) (a.1 0)) (wordP c (grid0.coords t) (a.1 0)) = 1#1
    · iintro ⟨⟨⟨%s0, %s1, %s2, %hs, HA, HB, HC⟩, ⟨HT0, HT1⟩⟩, Ho, ⟨%d0, H0⟩, ⟨%d1, H1⟩, ⟨%d2, H2⟩, ⟨%d3, H3⟩, ⟨%d4, H4⟩⟩
      iapply ((expertsRunA c (grid0.coords t) _ _ _ _ _ _ _ _ _ _ _ _ _ _ _ _ (a.1 0) (a.1 1) hn hc1 (blk0 a W c 0 t) (blk0 a W c 1 t) (blk0 a W c 2 t) (blk0 a W c 3 t)) Set.univ _)
      isplitl [H0]; · iexact H0
      isplitl [H1]; · iexact H1
      isplitl [H2]; · iexact H2
      isplitl [H3]; · iexact H3
      isplitl [H4]; · iexists _; iexact H4
      isplitl [HA]; · iexists _; iexact HA
      isplitl [HB]; · iexists _; iexact HB
      isplitl [HC]; · iexists _; iexact HC
      isplitl [HT0]; · iexact HT0
      isplitl [HT1]; · iexact HT1
      iintro ⟨H0, H1, H2, H3, H4, HA, HB, HC, HT0, HT1⟩
      isplitl [HA HB HC HT0 HT1]
      · isplitl [HA HB HC]
        · iexists _; iexists _; iexists _
          isplitr; · ipureintro; exact fun _ => ⟨rfl, rfl, rfl⟩
          isplitl [HA]; · iexact HA
          isplitl [HB]; · iexact HB
          iexact HC
        isplitl [HT0]; · iexact HT0
        iexact HT1
      isplitl [Ho]; · iexact Ho
      isplitl [H0]; · iexact H0
      isplitl [H1]; · iexact H1
      isplitl [H2]; · iexact H2
      isplitl [H3]; · iexact H3
      iapply (leaves0_4 a W hr c t)
      rw [lastUsed_eq a t hu]
      iexact H4
    · have h2 := fun h => hn ((new_iff a.1 hr (grid0.coords t) (wordE c (grid0.coords t) (a.1 0)) (wordP c (grid0.coords t) (a.1 0))).mpr h)
      rw [coords_val] at h2
      have ht : t.val ≠ 0 := fun h => h2 ⟨hu, .inl h⟩
      have he : expert a.1 (grid0.coords (prev t)) = expert a.1 (grid0.coords t) := by
        rw [← wordP_eq c a.1 t ht, ← wordE_eq c a.1 (grid0.coords t)]
        by_contra hne; exact h2 ⟨hu, .inr fun e => hne e.symm⟩
      have hg : gate0 a W c (prev t) = gate0 a W c t := by unfold gate0; rw [blk1_eq a W c _ _ he]
      have hup : up0 a W c (prev t) = up0 a W c t := by unfold up0; rw [blk2_eq a W c _ _ he]
      have hd : down0 a W c (prev t) = down0 a W c t := by unfold down0; rw [blk3_eq a W c _ _ he]
      rw [hg, hup, hd]
      iintro ⟨⟨⟨%s0, %s1, %s2, %hs, HA, HB, HC⟩, ⟨HT0, HT1⟩⟩, Ho, ⟨%d0, H0⟩, ⟨%d1, H1⟩, ⟨%d2, H2⟩, ⟨%d3, H3⟩, ⟨%d4, H4⟩⟩
      have hs' := hs ⟨Nat.pos_of_ne_zero ht, Nat.le_of_lt hu⟩
      obtain ⟨rfl, rfl, rfl⟩ := hs'
      iapply ((expertsRunB c (grid0.coords t) _ _ _ _ _ _ _ _ _ _ _ _ _ _ _ _ (a.1 0) (a.1 1) hn hc1 (blk0 a W c 0 t) (blk0 a W c 1 t) (blk0 a W c 2 t) (blk0 a W c 3 t) (gate0 a W c t) (up0 a W c t) (down0 a W c t)) Set.univ _)
      isplitl [H0]; · iexact H0
      isplitl [H1]; · iexact H1
      isplitl [H2]; · iexact H2
      isplitl [H3]; · iexact H3
      isplitl [H4]; · iexists _; iexact H4
      isplitl [HA]; · iexact HA
      isplitl [HB]; · iexact HB
      isplitl [HC]; · iexact HC
      isplitl [HT0]; · iexact HT0
      isplitl [HT1]; · iexact HT1
      iintro ⟨H0, H1, H2, H3, H4, HA, HB, HC, HT0, HT1⟩
      isplitl [HA HB HC HT0 HT1]
      · isplitl [HA HB HC]
        · iexists _; iexists _; iexists _
          isplitr; · ipureintro; exact fun _ => ⟨rfl, rfl, rfl⟩
          isplitl [HA]; · iexact HA
          isplitl [HB]; · iexact HB
          iexact HC
        isplitl [HT0]; · iexact HT0
        iexact HT1
      isplitl [Ho]; · iexact Ho
      isplitl [H0]; · iexact H0
      isplitl [H1]; · iexact H1
      isplitl [H2]; · iexact H2
      isplitl [H3]; · iexact H3
      iapply (leaves0_4 a W hr c t)
      rw [lastUsed_eq a t hu]
      iexact H4
  · have hc1 : ¬ k0_cond2 (grid0.coords t) (wordN c (a.1 1)) = 1#1 := fun h => hu (by have := (used_iff a.1 hr _).mp h; rwa [coords_val] at this)
    have hn : ¬ newExpert (grid0.coords t) (wordN c (a.1 1)) (wordE c (grid0.coords t) (a.1 0)) (wordP c (grid0.coords t) (a.1 0)) = 1#1 := fun h =>
      hu (by have := ((new_iff a.1 hr (grid0.coords t) _ _).mp h).1; rwa [coords_val] at this)
    simp only [before0_4 a W hr c t (Nat.le_of_not_lt hu)]
    iintro ⟨⟨⟨%s0, %s1, %s2, %hs, HA, HB, HC⟩, ⟨HT0, HT1⟩⟩, Ho, ⟨%d0, H0⟩, ⟨%d1, H1⟩, ⟨%d2, H2⟩, ⟨%d3, H3⟩, ⟨%d4, H4⟩⟩
    iapply ((expertsRunC c (grid0.coords t) _ _ _ _ _ _ _ _ _ _ _ _ _ _ _ _ (a.1 0) (a.1 1) hn hc1 (blk0 a W c 0 t) (blk0 a W c 1 t) (blk0 a W c 2 t) (blk0 a W c 3 t) (tileOut a W c (lastUsed a t)) s0 s1 s2) Set.univ _)
    isplitl [H0]; · iexact H0
    isplitl [H1]; · iexact H1
    isplitl [H2]; · iexact H2
    isplitl [H3]; · iexact H3
    isplitl [H4]; · iexact H4
    isplitl [HA]; · iexact HA
    isplitl [HB]; · iexact HB
    isplitl [HC]; · iexact HC
    isplitl [HT0]; · iexact HT0
    isplitl [HT1]; · iexact HT1
    iintro ⟨H0, H1, H2, H3, H4, HA, HB, HC, HT0, HT1⟩
    isplitl [HA HB HC HT0 HT1]
    · isplitl [HA HB HC]
      · iexists s0; iexists s1; iexists s2
        isplitr; · ipureintro; exact fun h => absurd h.2 (by show ¬ t.val + 1 ≤ _; omega)
        isplitl [HA]; · iexact HA
        isplitl [HB]; · iexact HB
        iexact HC
      isplitl [HT0]; · iexact HT0
      iexact HT1
    isplitl [Ho]; · iexact Ho
    isplitl [H0]; · iexact H0
    isplitl [H1]; · iexact H1
    isplitl [H2]; · iexact H2
    isplitl [H3]; · iexact H3
    iapply (leaves0_4 a W hr c t)
    iexact H4

theorem body0_row (t : Fin (cfg0 a).N) :
    defs₀ (F := F) .tc (cfg0 a).body ((cfg0 a).bodyArgs t ((cfg0 a).slots t)) = body0At a t := by
  unfold defs₀; rw [Defs.onTc_tc]

theorem body0_obligation (hr : InRange a.1) (c : Dev nD) : BodyObligation (dat0 a W c) (defs₀ (F := F)) Variants.none () Set.univ := fun t => by
  rw [bigSep_W0, bigSep_W0, body0_row a]
  exact triple_restated (body0_sound a W c hr t) rfl .rfl fun _ => .rfl

/-- What the call begins and ends with beside its arrays. -/
theorem phi_in (c : Dev nD) : iprop(iprop(Pipeline.scopedRest spec0 c ∗ BI.emp) ∗ Pipeline.prefHeld pre0 c (fun _ => fullShare) a.1) ⊢ ((dat0 a W c).Φ 0 : sProp 𝕄) := by
  rw [Φ_eq, tables0_eq, scopedRest0_eq]
  unfold scratch
  simp only [owns_whole]
  iintro ⟨⟨⟨⟨%f0, HA⟩, ⟨%f1, HB⟩, ⟨%f2, HC⟩⟩, -⟩, ⟨HT0, HT1⟩⟩
  isplitl [HA HB HC]
  · iexists f0; iexists f1; iexists f2
    isplitr; · ipureintro; exact fun h => absurd h.1 (Nat.lt_irrefl 0)
    isplitl [HA]; · iexact HA
    isplitl [HB]; · iexact HB
    iexact HC
  isplitl [HT0]; · iexact HT0
  iexact HT1
theorem phi_out (c : Dev nD) : ((dat0 a W c).Φ (Fin.last (cfg0 a).N) : sProp 𝕄) ⊢ iprop(iprop(Pipeline.scopedRest spec0 c ∗ BI.emp) ∗ Pipeline.prefHeld pre0 c (fun _ => fullShare) a.1) := by
  rw [Φ_eq, tables0_eq, scopedRest0_eq]
  unfold scratch
  simp only [owns_whole]
  iintro ⟨⟨%s0, %s1, %s2, -, HA, HB, HC⟩, ⟨HT0, HT1⟩⟩
  isplitl [HA HB HC]
  · isplitl [HA HB HC]
    · isplitl [HA]; · iexists s0; iexact HA
      isplitl [HB]; · iexists s1; iexact HB
      iexists s2; iexact HC
    iempintro
  isplitl [HT0]; · iexact HT0
  iexact HT1

end Cert.Kernel2Ideal.Run

end
-- ==== Proof.Experts.ExpertsPre.lean ====
/-
  The two preconditions, read off the arrays: the tables are in range, and the activations and the gate weights are
  finite.
-/
module

public import proofs.«01_k».proof.Proof.Gen.Pre_tiles_in_range
public import proofs.«01_k».proof.Proof.Gen.Pre_inputs_in_range
public import Idealize.ShloMosaic.Lib.ReduceAll
public import Idealize.ShloMosaic.Lib.StableHlo.Predicate
public import Idealize.ShloMosaic.Lib.Affine
public import Idealize.ShloMosaic.PureOps.Ideal

@[expose] public section

noncomputable section

namespace Cert.Proof

open Idealize.ShloMosaic

abbrev Tiles : Shape := ⟨1, ![48]⟩
abbrev One : Shape := ⟨1, ![1]⟩

/-- Every tile's expert is one of the sixteen, and between one and all of the 48 tiles are in use. -/
structure Words (x1 : IVec Tiles 32) (x2 : IVec One 32) : Prop where
  tile : ∀ j, (x1 j).toNat < 16
  pos : ∀ j, 1 ≤ (x2 j).toNat
  le : ∀ j, (x2 j).toNat ≤ 48

theorem expert_word (w : BitVec 32) (h0 : IntOp.cmpi .sge w 0#32 = 1#1) (h1 : IntOp.cmpi .slt w 16#32 = 1#1) : w.toNat < 16 := by
  simp only [IntOp.cmpi, StableHlo.Predicate.ofBool_eq_one_iff, BitVec.sle, BitVec.slt, decide_eq_true_eq] at h0 h1
  have h2 := BitVec.toInt_eq_toNat_cond w
  have e0 : (0#32 : BitVec 32).toInt = 0 := by decide
  have e1 : (16#32 : BitVec 32).toInt = 16 := by decide
  rw [e0] at h0; rw [e1] at h1
  split_ifs at h2 <;> omega
theorem count_word (w : BitVec 32) (h0 : IntOp.cmpi .sge w 1#32 = 1#1) (h1 : IntOp.cmpi .sle w 48#32 = 1#1) : 1 ≤ w.toNat ∧ w.toNat ≤ 48 := by
  simp only [IntOp.cmpi, StableHlo.Predicate.ofBool_eq_one_iff, BitVec.sle, BitVec.slt, decide_eq_true_eq] at h0 h1
  have h2 := BitVec.toInt_eq_toNat_cond w
  have e0 : (1#32 : BitVec 32).toInt = 1 := by decide
  have e1 : (48#32 : BitVec 32).toInt = 48 := by decide
  rw [e0] at h0; rw [e1] at h1
  split_ifs at h2 <;> omega

theorem one_idx (a b : One.Idx) : a = b := funext fun k => by
  match k with
  | ⟨0, _⟩ => exact Subsingleton.elim (α := Fin 1) _ _

instance : Subsingleton (Shape.Idx (⟨0, ![]⟩ : Shape)) := ⟨fun _ _ => funext fun k => k.elim0⟩

variable {F : FTy → Type} [FloatOps F]

theorem words_of_tiles (x0) (x1 : IVec Tiles 32) (x2 : IVec One 32) (x3 x4 x5)
    (h : Cert.Pre_tiles_in_range.fn (F := F) x0 x1 x2 x3 x4 x5 = fun _ => 1#1) : Words x1 x2 := by
  have h := congrFun h (fun k => k.elim0)
  obtain ⟨h, hle⟩ := IntOp.andi_eq_one.mp h
  obtain ⟨h, hpos⟩ := IntOp.andi_eq_one.mp h
  have hx : ∀ j, IntOp.andi (IntOp.cmpi .sge (x1 j) 0#32) (IntOp.cmpi .slt (x1 j) 16#32) = 1#1 := fun j =>
    Host.reduce_andi_all _ _ _ _ _ h j
  refine ⟨fun j => ?_, fun j => ?_, fun j => ?_⟩
  · obtain ⟨a, b⟩ := IntOp.andi_eq_one.mp (hx j)
    exact expert_word _ a b
  · exact one_idx _ j ▸ (count_word _ hpos hle).1
  · exact one_idx _ j ▸ (count_word _ hpos hle).2

theorem words_of_inputs (x0) (x1 : IVec Tiles 32) (x2 : IVec One 32) (x3 x4 x5)
    (h : Cert.Pre_inputs_in_range.fn (F := F) x0 x1 x2 x3 x4 x5 = fun _ => 1#1) : Words x1 x2 := by
  have h := congrFun h (fun k => k.elim0)
  obtain ⟨h, hle⟩ := IntOp.andi_eq_one.mp h
  obtain ⟨h, hpos⟩ := IntOp.andi_eq_one.mp h
  obtain ⟨-, h⟩ := IntOp.andi_eq_one.mp h
  have hx : ∀ j, IntOp.andi (IntOp.cmpi .sge (x1 j) 0#32) (IntOp.cmpi .slt (x1 j) 16#32) = 1#1 := fun j =>
    Host.reduce_andi_all _ _ _ _ _ h j
  refine ⟨fun j => ?_, fun j => ?_, fun j => ?_⟩
  · obtain ⟨a, b⟩ := IntOp.andi_eq_one.mp (hx j)
    exact expert_word _ a b
  · exact one_idx _ j ▸ (count_word _ hpos hle).1
  · exact one_idx _ j ▸ (count_word _ hpos hle).2

theorem inf_eq : Ideal.ofBits .f32 0x7F800000#32 = ⊤ := by simp [Ideal.ofBits, Ideal.ieee]

theorem finite_of_abs (x : EReal) (h : Ideal.cmp .olt (max x (-x)) (Ideal.ofBits .f32 0x7F800000#32) = 1#1) : x ≠ ⊤ ∧ x ≠ ⊥ := by
  rw [inf_eq] at h
  simp only [Ideal.cmp, StableHlo.Predicate.ofBool_eq_one_iff, decide_eq_true_eq, max_lt_iff] at h
  refine ⟨ne_of_lt h.1, fun hb => ?_⟩
  rw [hb] at h; exact absurd h.2 (by simp)

/-- The activations and the gate weights are finite. -/
theorem finite_of_inputs (x0 : FVec Ideal ⟨2, ![49152, 1024]⟩ .f32) (x1 x2) (x3 : FVec Ideal ⟨4, ![2, 16, 1024, 512]⟩ .f32) (x4 x5)
    (h : Cert.Pre_inputs_in_range.fn (F := Ideal) x0 x1 x2 x3 x4 x5 = fun _ => 1#1) :
    (∀ j, (x0 j : EReal) ≠ ⊤ ∧ (x0 j : EReal) ≠ ⊥) ∧ ∀ j, (x3 j : EReal) ≠ ⊤ ∧ (x3 j : EReal) ≠ ⊥ := by
  have h := congrFun h (fun k => k.elim0)
  obtain ⟨h, -⟩ := IntOp.andi_eq_one.mp h
  obtain ⟨h, -⟩ := IntOp.andi_eq_one.mp h
  obtain ⟨h, -⟩ := IntOp.andi_eq_one.mp h
  obtain ⟨h0, h3⟩ := IntOp.andi_eq_one.mp h
  exact ⟨fun j => finite_of_abs _ (Host.reduce_andi_all _ _ _ _ _ h0 j), fun j => finite_of_abs _ (Host.reduce_andi_all _ _ _ _ _ h3 j)⟩

end Cert.Proof

end
-- ==== Proof.Experts.ExpertsWhole.lean ====
module

public import proofs.«01_k».proof.Proof.Experts.ExpertsDat
public import proofs.«01_k».proof.Proof.Experts.ExpertsPre
public import proofs.«01_k».proof.Proof.Gen.Kernel2Ideal.Launch
public import Idealize.ShloMosaic.Lib.Pipeline.Regions
public import Idealize.ShloMosaic.Lib.Pipeline.FrameSuffix
public import Idealize.ShloMosaic.Lib.StableHlo.RunRead

@[expose] public section

set_option maxRecDepth 16384

noncomputable section

namespace Cert.Kernel2Ideal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hostOps0_fresh : (hostOps0 : List (HloOp τ sig (Elt F))).Forall fun op => op.fresh = ∅ := by
  simp only [List.Forall]; repeat' constructor
/-- The buffer each host operation before the call writes, in order. -/
abbrev hostOps0_W : List (Ref sig .tc) := [main_v0, main_v1, main_v2, main_v3, main_v4, main_v5, main_c, main_v6, main_v7, main_v8, main_v9]
theorem hostOps0_writes : (hostOps0 : List (HloOp τ sig (Elt F))).Forall fun op => op.writes ⊆ (hostOps0_W.map (Proc.devRef (τ := τ) .tc)).toFinset :=
  StableHlo.forall_writes_sub_of_map rfl
theorem hostOps1_fresh : (hostOps1 : List (HloOp τ sig (Elt F))).Forall fun op => op.fresh = ∅ := by
  simp only [List.Forall]; repeat' constructor
/-- The buffer each host operation after the call writes, in order. -/
abbrev hostOps1_W : List (Ref sig .tc) := [main_v11, main_v12, main_v13, main_cst, main_v14, main_v15]
theorem hostOps1_writes : (hostOps1 : List (HloOp τ sig (Elt F))).Forall fun op => op.writes ⊆ (hostOps1_W.map (Proc.devRef (τ := τ) .tc)).toFinset :=
  StableHlo.forall_writes_sub_of_map rfl
theorem regions_no_unscoped : ∀ sm : SemLoc sig, sm.isScoped .tc = true := by decide

/-- The tables the call runs at: the second and third arguments. -/
def tables : pre0.Contents (Elt F) := fun
  | 0 => m ((0 : Dev nD), Proc.devRef .tc main_arg1)
  | 1 => m ((0 : Dev nD), Proc.devRef .tc main_arg2)

theorem inRange_of_words (h : Cert.Proof.Words (tables m 0) (tables m 1)) : InRange (tables m) :=
  ⟨h.pos _, h.le _, fun _ => h.tile _⟩

variable (hr : InRange (tables m))

def adm : (p : Fin 1) → (pcfgs (F := F) p).Adm
  | 0 => ⟨tables m, ok_of_inRange _ hr⟩

/-- The buffers after the host's first operations, after the call and at the end. -/
abbrev W1 (c : Dev nD) : Valuation τ sig (Elt F) := StableHlo.after hostOps0 (fun b => m (c, b))
def W2 (c : Dev nD) : Valuation τ sig (Elt F) := Pipeline.afterRegion (dat0 (adm m hr 0) (W1 m) c) (W1 m c)
abbrev W3 (c : Dev nD) : Valuation τ sig (Elt F) := StableHlo.after hostOps1 (W2 m hr c)

def pdats : (p : Fin 1) → (c : Dev nD) → Dat τ (Elt F) Unit ℕ (UR sig nD τ) ℕ (Pipeline.pin (pcfgs (F := F)) (adm m hr) p) c
  | 0 => fun c => dat0 (adm m hr 0) (W1 m) c

/-- Every semaphore of a TensorCore may be waited on; nothing is owed. -/
def lvls : GSem nD τ sig → Finset Unit := fun g => if g.1.2 = .tc then Finset.univ else ∅
def lv0 : GSem nD τ sig → Unit → ℕ := fun _ _ => 0
def dues : Dev nD → CellTallies nD τ sig Unit := fun _ => 0

theorem cut (p : Fin 1) : Pipeline.LevelCut (pcfgs (F := F)) (adm m hr) () lvls lv0 p dues (fun _ => 0) where
  hι _ _ _ := by unfold lvls; rw [if_pos rfl]; exact Finset.mem_univ _
  hιb _ _ _ := Nat.le_refl 0
  hD _ _ _ h := absurd h (Nat.lt_irrefl 0)

theorem W1_of (c : Dev nD) (r : Ref sig .tc) (h : r ∉ hostOps0_W) : W1 m c (Proc.devRef .tc r) = m (c, Proc.devRef .tc r) :=
  StableHlo.after_of_writes_sub (hostOps0 (F := F)) _ hostOps0_writes h
theorem W1_table (c : Dev nD) : ∀ k, (adm m hr 0).1 k = W1 m c (Proc.devRef .tc ((pcfgs (F := F) 0).pre.ref k))
  | 0 => by
    obtain rfl : c = 0 := Subsingleton.elim _ _
    exact (W1_of m 0 main_arg1 (by decide)).symm
  | 1 => by
    obtain rfl : c = 0 := Subsingleton.elim _ _
    exact (W1_of m 0 main_arg2 (by decide)).symm
theorem W2_of (c : Dev nD) (r : Ref sig .tc) (h : ∀ w, r ≠ Pipeline.arrRef spec0 w) : W2 m hr c r = W1 m c r := by
  unfold W2; exact Pipeline.afterRegion_of_not_arr _ _ h

theorem arrs_in (p : Fin 1) : Pipeline.arrRefs (τ := τ) (pcfgs (F := F) p).spec ⊆ Pipeline.ucRefs τ sig :=
  Pipeline.arrRefs_sub_ucRefs _ (match p with | 0 => winFacts0.arr_unscoped)
theorem tbls_in (p : Fin 1) : Pipeline.tblRefs (τ := τ) (pcfgs (F := F) p).pre ⊆ Pipeline.ucRefs τ sig :=
  Pipeline.tblRefs_sub_ucRefs _ (match p with | 0 => preFacts0.unscoped)

/-- The call: its tables read and left as they are, its scratch buffers carried from point to point. -/
def reg0 : RegionSeg (pcfgs (F := F)) (adm m hr) (pdats m hr) () defs₀ Variants.none lvls lv0 0 :=
  RegionSeg.ofHeldInT (pcfgs (F := F)) (adm m hr) (pdats m hr) () defs₀ Variants.none lvls lv0 0 dues (Pipeline.ucRefs τ sig)
    (fun _ => BI.emp) (fun _ => BI.emp) launch0 (fun c => (body0_obligation (adm m hr 0) (W1 m) hr c).loose) (fun _ _ => rfl) (fun _ => rfl)
    (fun c => (dat0 (adm m hr 0) (W1 m) c).share_full fun _ => rfl) (fun c => phi_in (adm m hr 0) (W1 m) c) (fun c => phi_out (adm m hr 0) (W1 m) c)
    (fun _ => 0) (cut m hr 0) (fun _ => BI.emp)
    (W1 m) (fun _ _ => rfl) (W1_table m hr)

/-- What rides beside the buffers between two stages. -/
def rest (c : Dev nD) : sProp 𝕄 := iprop(∃ Wd, owes (c : Thread nD τ) (0 : CellTallies nD τ sig Unit) Wd)

theorem rest_in (c : Dev nD) (V : Valuation τ sig (Elt F)) : (iprop(StableHlo.held (c : Thread nD τ) (Pipeline.ucRefs τ sig) V ∗ rest (F := F) c) : sProp 𝕄)
    ⊢ iprop(StableHlo.held (c : Thread nD τ) (Pipeline.ucRefs τ sig) V ∗ ((∃ Wd, owes (c : Thread nD τ) (dues c) Wd) ∗ BI.emp ∗ BI.emp)) := by
  unfold rest; iintro ⟨H, Hw⟩
  isplitl [H]; · iexact H
  isplitl [Hw]; · iexact Hw
  isplitl []; · iempintro
  iempintro
theorem rest_out (c : Dev nD) (V : Valuation τ sig (Elt F)) :
    (iprop(StableHlo.held (c : Thread nD τ) (Pipeline.ucRefs τ sig) V ∗ ((∃ Wd, owes (c : Thread nD τ) (dues c) Wd) ∗ BI.emp ∗ BI.emp)) : sProp 𝕄)
    ⊢ iprop(StableHlo.held (c : Thread nD τ) (Pipeline.ucRefs τ sig) V ∗ rest (F := F) c) := by
  unfold rest; iintro ⟨H, Hw, -, -⟩
  isplitl [H]; · iexact H
  iexact Hw
theorem pre0 (c : Dev nD) : iprop(StableHlo.held (c : Thread nD τ) (Pipeline.ucRefs τ sig) (W1 m c) ∗ rest (F := F) c) ⊢ (reg0 m hr).pre c :=
  by
  refine (rest_in c _).trans ?_
  unfold reg0
  exact Pipeline.RegionSeg.ofHeldInT_pre (pcs := pcfgs (F := F)) (a := adm m hr) (pdats := pdats m hr) (ι := ()) (defs₀ := defs₀)
    (𝒱₀ := Variants.none) (L := lvls) (lv := lv0) (p := 0) (D := dues) (S := Pipeline.ucRefs τ sig) (arrs_in (F := F) 0) (tbls_in (F := F) 0)
    (X := fun _ => BI.emp) (Y := fun _ => BI.emp) (R := fun _ => BI.emp) (W := W1 m) c
theorem post0 (c : Dev nD) : (reg0 m hr).post c ⊢ iprop(StableHlo.held (c : Thread nD τ) (Pipeline.ucRefs τ sig) (W2 m hr c) ∗ rest (F := F) c) :=
  (Pipeline.RegionSeg.ofHeldInT_post (arrs_in 0) (tbls_in 0) c).trans (rest_out c _)

def host0 : HostSeg (Ix := Unit) (Name := ℕ) (U := UR sig nD τ) (Lvl := ℕ) (pcfgs (F := F)) defs₀ Variants.none lvls lv0 :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (fun c b => m (c, b)) rest
def host1 : HostSeg (Ix := Unit) (Name := ℕ) (U := UR sig nD τ) (Lvl := ℕ) (pcfgs (F := F)) defs₀ Variants.none lvls lv0 :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W2 m hr) rest

abbrev parts (_ : Dev nD) : List (Seg (pcfgs (F := F)) (adm m hr) (pdats m hr) () defs₀ Variants.none lvls lv0) :=
  [.host (host0 m), .region (reg0 m hr), .host (host1 m hr)]

def tok0 : UR sig nD τ := initOf (Pipeline.cells (Pipeline.pin (pcfgs (F := F)) (adm m hr)) (cellOf_inj (adm m hr)))
  (Pipeline.launchToks (Pipeline.pin (pcfgs (F := F)) (adm m hr)) (cellOf_inj (adm m hr)))

theorem sep_elim_W3 (c : Dev nD) : (iprop(StableHlo.held (c : Thread nD τ) (Pipeline.ucRefs τ sig) (W3 m hr c) ∗ rest (F := F) c) : sProp 𝕄)
    ⊢ iprop(StableHlo.held (c : Thread nD τ) (Pipeline.ucRefs τ sig) (W3 m hr c) ∗ rest (F := F) c) := .rfl

include hr in
set_option backward.isDefEq.respectTransparency.types false in
/-- The whole program runs to the end with every buffer at `W3` and every counter at zero. -/
theorem run : θ_run defs (onTc (τ := τ) (main (F := F))) ⟨m, fun _ => 0, ρ⟩ (fun r =>
    (∀ c : Dev nD, ∀ b ∈ Pipeline.ucRefs τ sig, r.2.mem ((c : Thread nD τ).1, b) = W3 m hr c b) ∧ r.2.sem = fun _ => 0) := by
  refine Pipeline.θ_run_regions_kit_dev_sems (pcfgs (F := F)) (adm m hr) (pdats m hr) () (cellOf_inj (adm m hr)) emb₁ defs₀ Variants.none lvls lv0 m ρ main
    (parts m hr)
    (fun c Q => by
      rewrite [main_chain c, Seg.run_eq_chain,
        show (parts m hr c).map Seg.prog = [
          StableHlo.seq hostOps0,
          Prog.lift (.customCall (Pipeline.entry 0) ()),
          StableHlo.seq hostOps1 ] from rfl]
      dsimp (config := { failIfUnchanged := false }) only
      exact .rfl)
    (fun c => by simp only [parts, Seg.pipes_host, Seg.pipes_region, Seg.pipes_nil]; decide) dues
    (fun g h => by unfold lvls; rw [if_neg h]) (fun _ => BI.emp) (tok0 m hr) ?_
    (T₀ := fun c => iprop(StableHlo.held (c : Thread nD τ) (Pipeline.ucRefs τ sig) (fun b => m (c, b)) ∗ rest (F := F) c))
    (Tₙ := fun c => StableHlo.held (c : Thread nD τ) (Pipeline.ucRefs τ sig) (W3 m hr c))
    (hch := fun c => ⟨.rfl, pre0 m hr c, post0 m hr c, sep_elim_W3 m hr c⟩)
    (hinit := ?_) (QY := fun c s => ∀ b ∈ Pipeline.ucRefs τ sig, s.mem ((c : Thread nD τ).1, b) = W3 m hr c b)
    (hfin := fun c s' => ?_) (hQ := fun _ h hz => ⟨h, funext fun g => hz g (.inr (regions_no_unscoped g.2))⟩)
  · iintro Hu; imodintro
    isplitl [Hu]
    · iapply (show (ownU _ : sProp 𝕄) ⊢ BI.own (emb₁ (tok0 m hr)) from .rfl); iexact Hu
    · iapply (show (BI.emp : sProp 𝕄) ⊢ bigSep Finset.univ (fun _ : Dev nD => (BI.emp : sProp 𝕄)) from by rw [BI.bigSep_emp_const]); iempintro
  · have h : (bigSep Finset.univ fun c : Dev nD => iprop(unscopedBufs c (fun b => m ((c.tc : Thread nD τ).loc b)) ∗ unscopedSems0 c
          ∗ owes (c.tc : Thread nD τ) (dues c) ∅ ∗ Pipeline.launchCred dues c ∗ prngReg c (ρ c) ∗ BI.emp))
        ⊢ (bigSep Finset.univ fun c : Dev nD => iprop(StableHlo.held (c : Thread nD τ) (Pipeline.ucRefs τ sig) (fun b => m (c, b)) ∗ rest (F := F) c) : sProp 𝕄) := by
      refine bigSep_mono fun c _ => ?_
      show (_ : sProp 𝕄) ⊢ _
      rw [← Pipeline.unscopedBufs_held (Ix := Unit) (Name := ℕ) (U := UR sig nD τ) (Lvl := ℕ) c (fun b => m (c, b))]
      unfold rest
      iintro ⟨H, -, Hw, -, -, -⟩
      isplitl [H]; · iexact H
      iexists ∅; iexact Hw
    iintro ⟨H, -⟩
    imodintro
    iapply h; iexact H
  · unfold StableHlo.held
    iintro ⟨Hh, HSI⟩
    ihave Hr := (pointsTo_read_all (Pipeline.ucRefs τ sig) (fun b => ((c : Thread nD τ).1, b)) (W3 m hr c) s') $$ [Hh HSI]
    · isplitl [Hh] <;> iassumption
    icases Hr with ⟨%h, HSI⟩
    imodintro; isplitr
    · ipureintro; exact h
    · iexact HSI

/-- A buffer no host operation writes and the call does not write back ends as it started. -/
theorem W3_kept (c : Dev nD) (r : Ref sig .tc) (h2 : r ∉ hostOps1_W) (h1 : ∀ w, r ≠ Pipeline.arrRef spec0 w) (h0 : r ∉ hostOps0_W) :
    W3 m hr c (Proc.devRef .tc r) = m (c, Proc.devRef .tc r) :=
  (StableHlo.after_of_writes_sub hostOps1 _ hostOps1_writes h2).trans
    ((W2_of m hr c r h1).trans (W1_of m c r h0))

/-- The same for an array the call only reads. -/
theorem W3_read (c : Dev nD) (w : Fin 5) (hw : (pcfg0.win (adm m hr 0) w).isOut = false) (h2 : Pipeline.arrRef spec0 w ∉ hostOps1_W) (h0 : Pipeline.arrRef spec0 w ∉ hostOps0_W) :
    W3 m hr c (Proc.devRef .tc (Pipeline.arrRef spec0 w)) = m (c, Proc.devRef .tc (Pipeline.arrRef spec0 w)) := by
  refine (StableHlo.after_of_writes_sub hostOps1 _ hostOps1_writes h2).trans (Eq.trans ?_ (W1_of m c _ h0))
  unfold W2
  exact (Pipeline.afterRegion_arr (dat0 (adm m hr 0) (W1 m) c) (W1 m c) winFacts0.arr_inj w).trans ((dat0 (adm m hr 0) (W1 m) c).arrAt_in w hw _)

include hr in
/-- The run, read at the arguments. -/
theorem run_args : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
    ⟨(h.1 c _ (Finset.mem_filter.mpr ⟨StableHlo.devRef_mem_tcRefs main_arg0, by decide⟩)).trans
        (W3_kept m hr c main_arg0 (by decide) (by decide) (by decide)),
      (h.1 c _ (Finset.mem_filter.mpr ⟨StableHlo.devRef_mem_tcRefs main_arg1, by decide⟩)).trans
        (W3_kept m hr c main_arg1 (by decide) (by decide) (by decide)),
      (h.1 c _ (Finset.mem_filter.mpr ⟨StableHlo.devRef_mem_tcRefs main_arg2, by decide⟩)).trans
        (W3_kept m hr c main_arg2 (by decide) (by decide) (by decide)),
      (h.1 c _ (Finset.mem_filter.mpr ⟨StableHlo.devRef_mem_tcRefs main_arg3, by decide⟩)).trans
        (W3_read m hr c 1 rfl (by decide) (by decide)),
      (h.1 c _ (Finset.mem_filter.mpr ⟨StableHlo.devRef_mem_tcRefs main_arg4, by decide⟩)).trans
        (W3_read m hr c 2 rfl (by decide) (by decide)),
      (h.1 c _ (Finset.mem_filter.mpr ⟨StableHlo.devRef_mem_tcRefs main_arg5, by decide⟩)).trans
        (W3_read m hr c 3 rfl (by decide) (by decide))⟩, h.2⟩) (run m ρ hr)

end Cert.Kernel2Ideal.Run

end
-- ==== Proof.Experts.ExpertsSame.lean ====
/-
  The second program over the machine's floats and over the reals have the same text, so the run proved over any float
  values gives the frame of both.
-/
module

public import proofs.«01_k».proof.Defs
public import proofs.«01_k».proof.Proof.Experts.ExpertsWhole
public import proofs.«01_k».proof.Proof.Gen.Kernel2

@[expose] public section

noncomputable section

namespace Cert.Proof

open Idealize.ShloMosaic Idealize.SL.Sem

section
variable {F : FTy → Type} [FloatOps F]

set_option maxHeartbeats 2000000 in
/-- The bodies of the calls are the same text. -/
theorem body2_same : @Cert.Kernel2.defs₀ F _ _ = @Cert.Kernel2Ideal.defs₀ F _ _ := by
  unfold Cert.Kernel2.defs₀ Cert.Kernel2Ideal.defs₀
  congr 1
  funext l a
  match l, a with
  | 0, a =>
    obtain ⟨t, s⟩ := a
    rfl

/-- So are the definitions the runs are read against. -/
theorem defs2_same : @Cert.Kernel2.defs F _ _ = @Cert.Kernel2Ideal.defs F _ _ :=
  congrArg (Pipeline.defs (Cert.Kernel2Ideal.pcfgs (F := F))) body2_same

set_option maxHeartbeats 2000000 in
/-- And the host code. -/
theorem main2_same : @Cert.Kernel2.main F _ _ = @Cert.Kernel2Ideal.main F _ _ := rfl

end

/-- The bit program is the program over the reals at the machine's floats: what is proved of the one holds of the other. -/
theorem run2_same (s) (Q) (h : θ_run (Cert.Kernel2Ideal.defs (F := Bits)) (onTc (τ := Cert.Kernel2Ideal.τ) (Cert.Kernel2Ideal.main (F := Bits))) s Q) :
    θ_run (Cert.Kernel2.defs (F := Bits)) (onTc (τ := Cert.Kernel2.τ) (Cert.Kernel2.main (F := Bits))) s Q :=
  (congrArg₂ (fun d p => θ_run d (onTc (τ := Cert.Kernel2Ideal.τ) p) s Q) (defs2_same (F := Bits)) (main2_same (F := Bits))).mpr h

/-- With the tiles' words in range, the second program ends, faults nowhere and leaves its arguments as they were. -/
theorem frame_kernel2 : Cert.quiescent_Kernel2 := fun m ρ h => run2_same _ _
  (Cert.Kernel2Ideal.Run.run_args (F := Bits) m ρ (Cert.Kernel2Ideal.Run.inRange_of_words m (words_of_tiles (F := Bits) _ _ _ _ _ _ (h 0))))

end Cert.Proof

end
-- ==== Proof.Experts.ExpertsFrames.lean ====
/-
  The frames of the second program: under the preconditions each program ends, faults nowhere, leaves its arguments
  as they were and every counter at zero.
-/
module

public import proofs.«01_k».proof.Defs
public import proofs.«01_k».proof.Proof.Experts.ExpertsWhole
public import proofs.«01_k».proof.Proof.Experts.ExpertsSame
public import proofs.«01_k».proof.Proof.Gen.Reference2Ideal
public import proofs.«01_k».proof.Proof.Gen.Reference2Ideal.Run
public import Idealize.ShloMosaic.Lib.Quiescent

@[expose] public section

noncomputable section

namespace Cert.Proof

open Idealize.ShloMosaic Idealize.SL.Sem

theorem frame_ideal2 : Cert.quiescent_Kernel2Ideal := fun m ρ h =>
  Cert.Kernel2Ideal.Run.run_args (F := Ideal) m ρ (Cert.Kernel2Ideal.Run.inRange_of_words m (words_of_tiles (F := Ideal) _ _ _ _ _ _ (h 0)))

theorem frame_ideal2_inputs : Cert.quiescent_Kernel2Ideal_pre_inputs_in_range := fun m ρ h =>
  Cert.Kernel2Ideal.Run.run_args (F := Ideal) m ρ (Cert.Kernel2Ideal.Run.inRange_of_words m (words_of_inputs (F := Ideal) _ _ _ _ _ _ (h 0)))

theorem frame_reference2 : Cert.quiescent_Reference2Ideal := fun m ρ _ =>
  (θ_run Cert.Reference2Ideal.defs _ _).mono (fun r h => ⟨fun c => (h c).2,
    Idealize.ShloMosaic.sem_eq_zero_of_no_sems (by decide) r.2⟩) (Cert.Reference2Ideal.Value.run (F := Ideal) m ρ)

theorem frame_reference2_inputs : Cert.quiescent_Reference2Ideal_pre_inputs_in_range := fun m ρ _ => frame_reference2 m ρ trivial

end Cert.Proof

end
-- ==== Proof.Experts.ExpertsPay.lean ====
/-
  What the experts' body computes from its blocks, element by element, over the reals.
-/
module

public import proofs.«01_k».proof.Proof.Experts.ExpertsRun
public import Idealize.ShloMosaic.Lib.Pointwise
public import Idealize.ShloMosaic.Lib.Pipeline.Value

@[expose] public section

set_option maxRecDepth 16384

noncomputable section

namespace Cert.Kernel2Ideal.Run

open Idealize.ShloMosaic Idealize.ShloMosaic.TcCoe
open Cert.Kernel2Ideal.Gen

/-- The gate's activation as the kernel computes it: half of `x` plus half of `x` times its hyperbolic tangent. -/
def act (x : EReal) : EReal :=
  Ideal.ofBits .f32 0x3F000000#32 * x + Ideal.ofBits .f32 0x3F000000#32 * x * Ideal.tanh (Ideal.ofBits .f32 0x3F000000#32 * x)

/-- One element of an expert's output: of the row `h`, the gate's and the input's weights, and one column of the output's. -/
def ffnWith (s : EReal → EReal) (h : Fin 1024 → EReal) (wg wu : Fin 1024 → Fin 512 → EReal) (wd : Fin 512 → EReal) : EReal :=
  ∑ f : Fin 512, s (∑ k : Fin 1024, h k * wg k f) * (∑ k : Fin 1024, h k * wu k f) * wd f

theorem pay1_apply (x : Vec Ideal S1x1x1024x512 .f32) (k : Fin 1024) (f : Fin 512) : k0_pay1 (F := Ideal) x (ix2 k f) = x (ix4 0 0 k f) := by
  pointwise [k0_pay1]
theorem pay2_apply (x : Vec Ideal S1x1x1024x512 .f32) (k : Fin 1024) (f : Fin 512) : k0_pay2 (F := Ideal) x (ix2 k f) = x (ix4 0 0 k f) := by
  pointwise [k0_pay2]
theorem pay3_apply (x : Vec Ideal S1x1x512x1024 .f32) (f : Fin 512) (d : Fin 1024) : k0_pay3 (F := Ideal) x (ix2 f d) = x (ix4 0 0 f d) := by
  pointwise [k0_pay3]

theorem pay10_apply (h : FVec Ideal S1024x1024 .bf16) (w0 w1 : FVec Ideal S1024x512 .bf16) (w2 : FVec Ideal S512x1024 .bf16) (x d : Fin 1024) :
    k0_pay10 (F := Ideal) h w0 w1 w2 (ix2 x d)
      = ffnWith act (fun k => h (ix2 x k)) (fun k f => w0 (ix2 k f)) (fun k f => w1 (ix2 k f)) (fun f => w2 (ix2 f d)) := by
  pointwise [k0_pay10, ffnWith, act]

/-- The block's elements: piece `(j, p)` is the columns of the product from `512 p + 128 j` on. -/
def blkOf (Y : FVec Ideal S1024x1024 .f32) : Vec Ideal S4x2x1024x128 .bf16 := fun i =>
  Y (ix2 (i 2) ⟨512 * (i 1).val + 128 * (i 0).val + (i 3).val, by
    have h0 : (i 0).val < 4 := (i 0).isLt
    have h1 : (i 1).val < 2 := (i 1).isLt
    have h3 : (i 3).val < 128 := (i 3).isLt
    omega⟩)

theorem eq_piece (x : S1x1x1024x128.Idx) : x = ix4 0 0 (x 2) (x 3) := funext fun k => match k with
  | ⟨0, _⟩ => Subsingleton.elim (α := Fin 1) _ _
  | ⟨1, _⟩ => Subsingleton.elim (α := Fin 1) _ _
  | ⟨2, _⟩ => rfl
  | ⟨3, _⟩ => rfl
theorem pay4_apply (Y : FVec Ideal S1024x128 .bf16) (x : S1x1x1024x128.Idx) : k0_pay4 (F := Ideal) Y x = Y (ix2 (x 2) (x 3)) := by
  have hx : x = ix4 0 0 (x 2) (x 3) := eq_piece x
  rw [hx]; pointwise [k0_pay4]
theorem pay5_apply (Y : FVec Ideal S1024x1024 .f32) (x : S1x1x1024x128.Idx) :
    k0_pay5 (F := Ideal) Y x = Y (ix2 (x 2) ⟨256 + (x 3).val, by have h : (x 3).val < 128 := (x 3).isLt; omega⟩) := by
  have hx : x = ix4 0 0 (x 2) (x 3) := eq_piece x
  rw [hx]; pointwise [k0_pay5]
theorem pay6_apply (Y : FVec Ideal S1024x1024 .f32) (x : S1x1x1024x128.Idx) :
    k0_pay6 (F := Ideal) Y x = Y (ix2 (x 2) ⟨768 + (x 3).val, by have h : (x 3).val < 128 := (x 3).isLt; omega⟩) := by
  have hx : x = ix4 0 0 (x 2) (x 3) := eq_piece x
  rw [hx]; pointwise [k0_pay6]
theorem pay7_apply (Y : FVec Ideal S1024x1024 .f32) (x : S1x1x1024x128.Idx) :
    k0_pay7 (F := Ideal) Y x = Y (ix2 (x 2) ⟨384 + (x 3).val, by have h : (x 3).val < 128 := (x 3).isLt; omega⟩) := by
  have hx : x = ix4 0 0 (x 2) (x 3) := eq_piece x
  rw [hx]; pointwise [k0_pay7]
theorem pay8_apply (Y : FVec Ideal S1024x1024 .f32) (x : S1x1x1024x128.Idx) :
    k0_pay8 (F := Ideal) Y x = Y (ix2 (x 2) ⟨896 + (x 3).val, by have h : (x 3).val < 128 := (x 3).isLt; omega⟩) := by
  have hx : x = ix4 0 0 (x 2) (x 3) := eq_piece x
  rw [hx]; pointwise [k0_pay8]
theorem pay11_apply (h : FVec Ideal S1024x1024 .bf16) (w0 w1 : FVec Ideal S1024x512 .bf16) (w2 : FVec Ideal S512x1024 .bf16) (x : S1x1x1024x128.Idx) :
    k0_pay11 (F := Ideal) h w0 w1 w2 x = k0_pay10 (F := Ideal) h w0 w1 w2 (ix2 (x 2) ⟨0 + (x 3).val, by have h : (x 3).val < 128 := (x 3).isLt; omega⟩) := by
  have hx : x = ix4 0 0 (x 2) (x 3) := eq_piece x
  unfold k0_pay11
  generalize k0_pay10 (F := Ideal) h w0 w1 w2 = Y
  rw [hx]; pointwise
theorem pay12_apply (h : FVec Ideal S1024x1024 .bf16) (w0 w1 : FVec Ideal S1024x512 .bf16) (w2 : FVec Ideal S512x1024 .bf16) (x : S1x1x1024x128.Idx) :
    k0_pay12 (F := Ideal) h w0 w1 w2 x = k0_pay10 (F := Ideal) h w0 w1 w2 (ix2 (x 2) ⟨512 + (x 3).val, by have h : (x 3).val < 128 := (x 3).isLt; omega⟩) := by
  have hx : x = ix4 0 0 (x 2) (x 3) := eq_piece x
  unfold k0_pay12
  generalize k0_pay10 (F := Ideal) h w0 w1 w2 = Y
  rw [hx]; pointwise
theorem pay13_apply (h : FVec Ideal S1024x1024 .bf16) (w0 w1 : FVec Ideal S1024x512 .bf16) (w2 : FVec Ideal S512x1024 .bf16) (x : S1x1x1024x128.Idx) :
    k0_pay13 (F := Ideal) h w0 w1 w2 x = k0_pay10 (F := Ideal) h w0 w1 w2 (ix2 (x 2) ⟨128 + (x 3).val, by have h : (x 3).val < 128 := (x 3).isLt; omega⟩) := by
  have hx : x = ix4 0 0 (x 2) (x 3) := eq_piece x
  unfold k0_pay13
  generalize k0_pay10 (F := Ideal) h w0 w1 w2 = Y
  rw [hx]; pointwise
theorem pay14_apply (h : FVec Ideal S1024x1024 .bf16) (w0 w1 : FVec Ideal S1024x512 .bf16) (w2 : FVec Ideal S512x1024 .bf16) (r : Fin 1024) (q : Fin 128) :
    k0_pay14 (F := Ideal) h w0 w1 w2 (ix2 r q) = k0_pay10 (F := Ideal) h w0 w1 w2 (ix2 r ⟨640 + q.val, by omega⟩) := by
  unfold k0_pay14
  generalize k0_pay10 (F := Ideal) h w0 w1 w2 = Y
  pointwise

theorem outBlk_eq (h : FVec Ideal S1024x1024 .bf16) (w0 w1 : Vec Ideal S1024x512 .bf16) (w2 : Vec Ideal S512x1024 .bf16) :
    outBlk (F := Ideal) h w0 w1 w2 = blkOf (k0_pay10 (F := Ideal) h w0 w1 w2) := by
  funext y
  unfold outBlk
  refine View.canon_apply_of_pieces _ _ (fun p hp x => ?_) y (outPieces_cover h w0 w1 w2 y)
  have key : ∀ (Y : FVec Ideal S1024x1024 .f32) (a b : S1024x1024.Idx), (a 0).val = (b 0).val → (a 1).val = (b 1).val → Y a = Y b := fun Y a b h0 h1 =>
    congrArg Y (funext fun k => match k with | ⟨0, _⟩ => Fin.ext h0 | ⟨1, _⟩ => Fin.ext h1)
  unfold outPieces at hp
  simp only [List.mem_cons, List.not_mem_nil, or_false] at hp
  unfold blkOf
  rcases hp with rfl | rfl | rfl | rfl | rfl | rfl | rfl | rfl
  all_goals
    have x0 : (x 0).val = 0 := by have h : (x 0).val < 1 := (x 0).isLt; omega
    have x1 : (x 1).val = 0 := by have h : (x 1).val < 1 := (x 1).isLt; omega
  · refine (pay8_apply _ _).trans (key _ _ _ ?_ ?_)
    · show (x 2).val = 0 + 1 * (x 2).val; omega
    · show 896 + (x 3).val = 512 * (1 + 1 * (x 1).val) + 128 * (3 + 1 * (x 0).val) + (0 + 1 * (x 3).val); omega
  · refine (pay7_apply _ _).trans (key _ _ _ ?_ ?_)
    · show (x 2).val = 0 + 1 * (x 2).val; omega
    · show 384 + (x 3).val = 512 * (0 + 1 * (x 1).val) + 128 * (3 + 1 * (x 0).val) + (0 + 1 * (x 3).val); omega
  · refine (pay6_apply _ _).trans (key _ _ _ ?_ ?_)
    · show (x 2).val = 0 + 1 * (x 2).val; omega
    · show 768 + (x 3).val = 512 * (1 + 1 * (x 1).val) + 128 * (2 + 1 * (x 0).val) + (0 + 1 * (x 3).val); omega
  · refine (pay5_apply _ _).trans (key _ _ _ ?_ ?_)
    · show (x 2).val = 0 + 1 * (x 2).val; omega
    · show 256 + (x 3).val = 512 * (0 + 1 * (x 1).val) + 128 * (2 + 1 * (x 0).val) + (0 + 1 * (x 3).val); omega
  · refine (pay4_apply _ _).trans ((pay14_apply _ _ _ _ _ _).trans (key _ _ _ ?_ ?_))
    · show (x 2).val = 0 + 1 * (x 2).val; omega
    · show 640 + (x 3).val = 512 * (1 + 1 * (x 1).val) + 128 * (1 + 1 * (x 0).val) + (0 + 1 * (x 3).val); omega
  · refine (pay13_apply _ _ _ _ _).trans (key _ _ _ ?_ ?_)
    · show (x 2).val = 0 + 1 * (x 2).val; omega
    · show 128 + (x 3).val = 512 * (0 + 1 * (x 1).val) + 128 * (1 + 1 * (x 0).val) + (0 + 1 * (x 3).val); omega
  · refine (pay12_apply _ _ _ _ _).trans (key _ _ _ ?_ ?_)
    · show (x 2).val = 0 + 1 * (x 2).val; omega
    · show 512 + (x 3).val = 512 * (1 + 1 * (x 1).val) + 128 * (0 + 1 * (x 0).val) + (0 + 1 * (x 3).val); omega
  · refine (pay11_apply _ _ _ _ _).trans (key _ _ _ ?_ ?_)
    · show (x 2).val = 0 + 1 * (x 2).val; omega
    · show 0 + (x 3).val = 512 * (0 + 1 * (x 1).val) + 128 * (0 + 1 * (x 0).val) + (0 + 1 * (x 3).val); omega

/-- The rows of a tile: column `512 p + 128 j + q` is element `q` of piece `(j, p)`. -/
theorem rowsIn_apply (x : Vec Ideal S4x2x1024x128 .bf16) (r k : Fin 1024) :
    rowsIn (F := Ideal) x (ix2 r k) = x (ix4 ⟨k.val % 512 / 128, by omega⟩ ⟨k.val / 512, by omega⟩ r ⟨k.val % 128, by omega⟩) := by
  have key : ∀ (a a' : Fin 4) (b b' : Fin 2) (r r' : Fin 1024) (d d' : Fin 128), a.val = a'.val → b.val = b'.val → r.val = r'.val → d.val = d'.val →
      x (ix4 a b r d) = x (ix4 a' b' r' d') := by
    intro a a' b b' r r' d d' h₁ h₂ h₃ h₄
    rw [Fin.ext h₁, Fin.ext h₂, Fin.ext h₃, Fin.ext h₄]
  have hk := k.isLt
  unfold rowsIn
  pointwise [k0_pay9]
  split_ifs <;> apply key <;> first | rfl | skip
  all_goals simp only [Fin.val_zero, Fin.val_one, Fin.val_two, show ((3 : Fin 4).val) = 3 from rfl]
  all_goals omega

end Cert.Kernel2Ideal.Run

end
-- ==== Proof.Experts.ExpertsValue.lean ====
/-
  What the experts' call leaves in its array, row by row of the tiles in use, over the reals.
-/
module

public import proofs.«01_k».proof.Proof.Experts.ExpertsPay
public import proofs.«01_k».proof.Proof.Experts.ExpertsDat
public import Idealize.ShloMosaic.Lib.Pipeline.ValueKit

@[expose] public section

set_option maxRecDepth 16384

noncomputable section

namespace Cert.Kernel2Ideal.Run

open Idealize.ShloMosaic Idealize.ShloMosaic.TcCoe
open Idealize.ShloMosaic.Pipeline (Dat Cfg Window)
open Cert.Kernel2Ideal.Gen

/-- Row `r` of the activations, as the array of pieces holds it: column `512 p + 128 j + q` is element `q` of piece `(j, p)`. -/
def pieceRow (Z : Vec Ideal S4x2x49152x128 .bf16) (r : Fin 49152) (k : Fin 1024) : EReal :=
  Z (ix4 ⟨k.val % 512 / 128, by omega⟩ ⟨k.val / 512, by omega⟩ r ⟨k.val % 128, by omega⟩)

/-- The column of a row that element `q` of piece `(j, p)` is. -/
def pieceCol (j : Fin 4) (p : Fin 2) (q : Fin 128) : Fin 1024 := ⟨512 * p.val + 128 * j.val + q.val, by omega⟩

/-- The output of the experts `e`, one per tile, as an array of pieces. -/
def expertArr (s : EReal → EReal) (e : Fin 48 → Fin 16) (Z : Vec Ideal S4x2x49152x128 .bf16) (A B : Vec Ideal S2x16x1024x512 .f32) (C : Vec Ideal S2x16x512x1024 .f32) :
    Vec Ideal S4x2x49152x128 .bf16 := fun i =>
  have hi : (i 2).val < 49152 := (i 2).isLt
  ffnWith s (pieceRow Z (i 2)) (fun k f => A (ix4 0 (e ⟨(i 2).val / 1024, by omega⟩) k f)) (fun k f => B (ix4 0 (e ⟨(i 2).val / 1024, by omega⟩) k f))
    (fun f => C (ix4 0 (e ⟨(i 2).val / 1024, by omega⟩) f (pieceCol (i 0) (i 1) (i 3))))

theorem ffnWith_congr (s : EReal → EReal) {h h' : Fin 1024 → EReal} {x x' y y' : Fin 1024 → Fin 512 → EReal} {z z' : Fin 512 → EReal}
    (h1 : h = h') (h2 : x = x') (h3 : y = y') (h4 : z = z') : ffnWith s h x y z = ffnWith s h' x' y' z' := by
  rw [h1, h2, h3, h4]

theorem expertArr_at (s : EReal → EReal) (e : Fin 48 → Fin 16) (Z : Vec Ideal S4x2x49152x128 .bf16) (A B : Vec Ideal S2x16x1024x512 .f32) (C : Vec Ideal S2x16x512x1024 .f32)
    (i : S4x2x49152x128.Idx) (j : Fin 4) (p : Fin 2) (t : Fin 48) (r : Fin 1024) (q : Fin 128) (h0 : (i 0).val = j.val) (h1 : (i 1).val = p.val)
    (h2 : (i 2).val = t.val * 1024 + r.val) (h3 : (i 3).val = q.val) :
    expertArr s e Z A B C i = ffnWith s (pieceRow Z ⟨t.val * 1024 + r.val, by omega⟩) (fun k f => A (ix4 0 (e t) k f)) (fun k f => B (ix4 0 (e t) k f))
      (fun f => C (ix4 0 (e t) f (pieceCol j p q))) := by
  have e0 : i 0 = j := Fin.ext h0
  have e1 : i 1 = p := Fin.ext h1
  have e2 : i 2 = (⟨t.val * 1024 + r.val, by omega⟩ : Fin 49152) := Fin.ext h2
  have e3 : i 3 = q := Fin.ext h3
  have et : ∀ h, (⟨(i 2).val / 1024, h⟩ : Fin 48) = t := fun h => Fin.ext (by show (i 2).val / 1024 = t.val; omega)
  unfold expertArr
  simp only [et]
  rw [e0, e1, e2, e3]

variable (a : (pcfg0 (F := Ideal)).Adm) (W : Dev nD → Valuation τ sig (Elt Ideal)) (hr : InRange a.1) (c : Dev nD)

/-- The expert of tile `t`. -/
def tileExpert (t : Fin (cfg0 a).N) : Fin 16 := ⟨(expert a.1 (grid0.coords t)).toNat, hr.tile _⟩

abbrev inA : Vec Ideal S4x2x49152x128 .bf16 := W c (Proc.devRef .tc main_v2)
abbrev wA : Vec Ideal S2x16x1024x512 .f32 := W c (Proc.devRef .tc main_arg3)
abbrev wB : Vec Ideal S2x16x1024x512 .f32 := W c (Proc.devRef .tc main_arg4)
abbrev wC : Vec Ideal S2x16x512x1024 .f32 := W c (Proc.devRef .tc main_arg5)

include hr in
theorem index0 (t : Fin (cfg0 a).N) : ((cfg0 a).win 0).index t = ![0, 0, min t.val ((num a.1).toNat - 1), 0] := by
  show cc0_transform_0 inb_S1_S1_0 numel1_S1 a.1 (grid0.coords t) = _
  rw [map0 a.1 hr, coords_val]
include hr in
theorem index4 (t : Fin (cfg0 a).N) : ((cfg0 a).win 4).index t = ![0, 0, min t.val ((num a.1).toNat - 1), 0] := by
  show cc0_transform_4 inb_S1_S1_0 numel1_S1 a.1 (grid0.coords t) = _
  rw [map4 a.1 hr, coords_val]
theorem index1 (t : Fin (cfg0 a).N) : ((cfg0 a).win 1).index t = ![0, (tileExpert a hr t).val, 0, 0] := rfl
theorem index2 (t : Fin (cfg0 a).N) : ((cfg0 a).win 2).index t = ![0, (tileExpert a hr t).val, 0, 0] := rfl
theorem index3 (t : Fin (cfg0 a).N) : ((cfg0 a).win 3).index t = ![0, (tileExpert a hr t).val, 0, 0] := rfl

theorem pt_lt (t : Fin (cfg0 a).N) : t.val < 48 := lt_of_lt_of_eq t.isLt N_0

include hr in
theorem blk0_0_apply (t : Fin (cfg0 a).N) (j : Fin 4) (p : Fin 2) (r : Fin 1024) (q : Fin 128) :
    blk0 a W c 0 t (ix4 j p r q) = inA W c (ix4 j p ⟨min t.val ((num a.1).toNat - 1) * 1024 + r.val, by have := pt_lt a t; omega⟩ q) := by
  unfold blk0
  have e := index0 a hr t
  blk_simp
  blk_ext [e]
theorem blk0_1_apply (t : Fin (cfg0 a).N) (k : Fin 1024) (f : Fin 512) :
    blk0 a W c 1 t (ix4 0 0 k f) = wA W c (ix4 0 (tileExpert a hr t) k f) := by
  unfold blk0
  have e := index1 a hr t
  blk_simp
  blk_ext [e]
theorem blk0_2_apply (t : Fin (cfg0 a).N) (k : Fin 1024) (f : Fin 512) :
    blk0 a W c 2 t (ix4 0 0 k f) = wB W c (ix4 0 (tileExpert a hr t) k f) := by
  unfold blk0
  have e := index2 a hr t
  blk_simp
  blk_ext [e]
theorem blk0_3_apply (t : Fin (cfg0 a).N) (f : Fin 512) (d : Fin 1024) :
    blk0 a W c 3 t (ix4 0 0 f d) = wC W c (ix4 0 (tileExpert a hr t) f d) := by
  unfold blk0
  have e := index3 a hr t
  blk_simp
  blk_ext [e]

/-- A tile's output at an element, of the arrays. -/
theorem tileOut_apply (t : Fin (cfg0 a).N) (i : S4x2x1024x128.Idx) : tileOut a W c t i
    = ffnWith act (pieceRow (inA W c) ⟨min t.val ((num a.1).toNat - 1) * 1024 + (i 2).val, by
        have := pt_lt a t; have h : (i 2).val < 1024 := (i 2).isLt; omega⟩)
      (fun k f => wA W c (ix4 0 (tileExpert a hr t) k f)) (fun k f => wB W c (ix4 0 (tileExpert a hr t) k f))
      (fun f => wC W c (ix4 0 (tileExpert a hr t) f (pieceCol (i 0) (i 1) (i 3)))) := by
  unfold tileOut
  rw [outBlk_eq]
  unfold blkOf
  refine (pay10_apply _ _ _ _ _ _).trans ?_
  have h1 : (fun k => rowsIn (F := Ideal) (blk0 a W c 0 t) (ix2 (i 2) k))
      = pieceRow (inA W c) ⟨min t.val ((num a.1).toNat - 1) * 1024 + (i 2).val, by
        have := pt_lt a t; have h : (i 2).val < 1024 := (i 2).isLt; omega⟩ := by
    funext k
    exact (rowsIn_apply _ _ _).trans (blk0_0_apply a W hr c t _ _ _ _)
  have h2 : (fun k f => gate0 a W c t (ix2 k f)) = fun k f => wA W c (ix4 0 (tileExpert a hr t) k f) := by
    funext k f
    exact (pay1_apply _ _ _).trans (blk0_1_apply a W hr c t k f)
  have h3 : (fun k f => up0 a W c t (ix2 k f)) = fun k f => wB W c (ix4 0 (tileExpert a hr t) k f) := by
    funext k f
    exact (pay2_apply _ _ _).trans (blk0_2_apply a W hr c t k f)
  have h4 : ∀ d : Fin 1024, (fun f => down0 a W c t (ix2 f d)) = fun f => wC W c (ix4 0 (tileExpert a hr t) f d) := by
    intro d; funext f
    exact (pay3_apply _ _ _).trans (blk0_3_apply a W hr c t f d)
  exact ffnWith_congr act h1 h2 h3 (h4 _)

include hr in
/-- The points at which the output's block is written back: those of the tiles in use but the last, and the last point. -/
theorem flush4_of (t : Fin (cfg0 a).N) (h : t.val + 1 < (num a.1).toNat ∨ t.val = 47) : ((cfg0 a).win 4).flush t = true := by
  have hN : (cfg0 a).N = 48 := N_0
  have hl := hr.le
  have e := index4 a hr
  unfold Pipeline.Window.flush
  rw [Bool.and_eq_true_iff]
  refine ⟨rfl, ?_⟩
  rw [Bool.or_eq_true_iff, decide_eq_true_iff, decide_eq_true_iff]
  rcases h with h | h
  · right
    have h1 : t.val + 1 < (cfg0 a).N := by omega
    refine ⟨h1, fun h3 => ?_⟩
    have h4 := congrFun ((e ⟨t.val + 1, h1⟩).symm.trans (h3.trans (e t))) 2
    have h5 : min (t.val + 1) ((num a.1).toNat - 1) = min t.val ((num a.1).toNat - 1) := h4
    omega
  · left
    show t.val + 1 = (cfg0 a).N
    omega

/-- Row `r` of tile `t`, in use, of the array the call writes. -/
theorem expert_arr (i : S4x2x49152x128.Idx) (hi : (i 2).val < (num a.1).toNat * 1024) :
    ((dat0 a W c).arrAt 4 (cfg0 a).N : Vec Ideal S4x2x49152x128 .bf16) i
      = expertArr act (fun t => tileExpert a hr ⟨t.val, lt_of_lt_of_eq t.isLt N_0.symm⟩) (inA W c) (wA W c) (wB W c) (wC W c) i := by
  have hN : (cfg0 a).N = 48 := N_0
  have hl := hr.le
  have hp := hr.pos
  have e := index4 a hr
  have hmem : ∃ t : Fin (cfg0 a).N, ((cfg0 a).win 4).flush t = true ∧ i ∈ (((cfg0 a).win 4).blk t).view.set := by
    have hin : ∀ t : Fin (cfg0 a).N, min t.val ((num a.1).toNat - 1) = (i 2).val / 1024 → i ∈ (((cfg0 a).win 4).blk t).view.set := by
      intro t ht
      have e' := e t
      have hi0 : (i 0).val < 4 := (i 0).isLt
      have hi1 : (i 1).val < 2 := (i 1).isLt
      have hi3 : (i 3).val < 128 := (i 3).isLt
      refine (((cfg0 a).win 4).emb_mem_blk_iff t i).mpr fun k => ?_
      rw [e']
      match k with
      | ⟨0, _⟩ => show 0 * 4 ≤ (i 0).val ∧ (i 0).val < 0 * 4 + 4; omega
      | ⟨1, _⟩ => show 0 * 2 ≤ (i 1).val ∧ (i 1).val < 0 * 2 + 2; omega
      | ⟨2, _⟩ => show min t.val ((num a.1).toNat - 1) * 1024 ≤ (i 2).val ∧ (i 2).val < min t.val ((num a.1).toNat - 1) * 1024 + 1024; omega
      | ⟨3, _⟩ => show 0 * 128 ≤ (i 3).val ∧ (i 3).val < 0 * 128 + 128; omega
    by_cases h : (i 2).val / 1024 + 1 < (num a.1).toNat
    · exact ⟨⟨(i 2).val / 1024, by omega⟩, flush4_of a hr _ (.inl h), hin _ (by show min ((i 2).val / 1024) _ = _; omega)⟩
    · exact ⟨⟨47, by omega⟩, flush4_of a hr _ (.inr rfl), hin _ (by show min 47 _ = _; omega)⟩
  obtain ⟨t, hf, ht⟩ := hmem
  refine (dat0 a W c).arrAt_apply_of_mem 4 (expertArr act (fun t => tileExpert a hr ⟨t.val, lt_of_lt_of_eq t.isLt N_0.symm⟩) (inA W c) (wA W c) (wB W c) (wC W c))
    (fun t hf => ?_) (cfg0 a).N t i t.isLt hf ht
  funext y
  have e' := e t
  blk_simp
  rw [after0_4]
  refine (tileOut_apply a W hr c (lastUsed a t) y).trans (Eq.symm ?_)
  have hlt := (lastUsed a t).isLt
  refine (expertArr_at _ _ _ _ _ _ _ ((fun z : S4x2x1024x128.Idx => z 0) y) ((fun z : S4x2x1024x128.Idx => z 1) y) ⟨(lastUsed a t).val, by omega⟩ ((fun z : S4x2x1024x128.Idx => z 2) y) ((fun z : S4x2x1024x128.Idx => z 3) y) (by blk_simp [e']) (by blk_simp [e']) (by blk_simp [e']; rfl) (by blk_simp [e'])).trans ?_
  have hm : min (lastUsed a t).val ((num a.1).toNat - 1) = (lastUsed a t).val := by
    show min (min t.val ((num a.1).toNat - 1)) ((num a.1).toNat - 1) = min t.val ((num a.1).toNat - 1)
    omega
  refine ffnWith_congr act ?_ rfl rfl rfl
  refine congrArg (pieceRow (inA W c)) (Fin.ext ?_)
  show (lastUsed a t).val * 1024 + _ = min (lastUsed a t).val ((num a.1).toNat - 1) * 1024 + _
  rw [hm]

end Cert.Kernel2Ideal.Run

end
-- ==== Proof.Experts.ExpertsHost.lean ====
/-
  The host's steps around the experts' call, element by element over the reals: the rows cut into pieces, the rows in use
  marked, the pieces put back together.
-/
module

public import proofs.«01_k».proof.Proof.Experts.ExpertsValue

@[expose] public section

set_option maxRecDepth 16384

noncomputable section

namespace Cert.Kernel2Ideal.Run

open Idealize.ShloMosaic Idealize.ShloMosaic.TcCoe
open Cert.Kernel2Ideal.Gen

/-- The rows cut into pieces. -/
def hostIn (H : FVec Ideal S49152x1024 .f32) : FVec Ideal S4x2x49152x128 .bf16 :=
  truncf .bf16 (transpose S4x2x49152x128 [2, 1, 0, 3] (shapeCast S49152x2x4x128 H shapeCasts_S49152x1024_S49152x2x4x128 : FVec Ideal S49152x2x4x128 .f32)
    transposes_S49152x2x4x128_S4x2x49152x128_2_1_0_3 : FVec Ideal S4x2x49152x128 .f32) bitsLt_bf16_f32

theorem hostIn_row (H : FVec Ideal S49152x1024 .f32) (r : Fin 49152) : pieceRow (hostIn H) r = fun k => H (ix2 r k) := by
  have key : ∀ (b b' : Fin 49152) (d d' : Fin 1024), b.val = b'.val → d.val = d'.val → H (ix2 b d) = H (ix2 b' d') := fun b b' d d' hb hd => by
    rw [Fin.ext hb, Fin.ext hd]
  funext k
  pointwise [pieceRow, hostIn]

/-- Which rows are in use, of the number of tiles. -/
def hostMask (N : Vec Ideal S1 .i32) : Vec Ideal S49152x1024 .i1 :=
  broadcastInDim S49152x1024 ![0, 1] bcast_S49152x1_S49152x1024_0_1 (cmpi .slt (broadcastInDim S49152x1 ![0] bcast_S49152_S49152x1_0 (iotaInDim S49152 32 0))
    (broadcastInDim S49152x1 ![] bcast_S_S49152x1 (muli (shapeCast S_ N shapeCasts_S1_S_) (constantI S_ 32 1024#32))))

theorem hostMask_apply (N : Vec Ideal S1 .i32) (r : Fin 49152) (d : Fin 1024) :
    hostMask N (ix2 r d) = IntOp.cmpi .slt (BitVec.ofNat 32 r.val) (IntOp.muli (N (ix1 0)) 1024#32) := by
  pointwise [hostMask]

/-- The comparison of words is one of numbers. -/
theorem used_word (r : Fin 49152) (n : BitVec 32) (hn : n.toNat ≤ 48) :
    IntOp.cmpi .slt (BitVec.ofNat 32 r.val) (IntOp.muli n 1024#32) = 1#1 ↔ r.val < n.toNat * 1024 := by
  have hr := r.isLt
  have h1 : (BitVec.ofNat 32 r.val).toNat = r.val := by rw [BitVec.toNat_ofNat]; omega
  have h2 : (n * 1024#32).toNat = n.toNat * 1024 := by
    rw [BitVec.toNat_mul]
    show n.toNat * 1024 % 4294967296 = n.toNat * 1024
    omega
  have e1 : (BitVec.ofNat 32 r.val).toInt = r.val := by rw [BitVec.toInt_eq_toNat_of_lt (by rw [h1]; omega), h1]
  have e2 : (n * 1024#32).toInt = (n.toNat * 1024 : ℕ) := by rw [BitVec.toInt_eq_toNat_of_lt (by rw [h2]; omega), h2]
  have e : ((BitVec.ofNat 32 r.val).slt (n * 1024#32)) = decide (r.val < n.toNat * 1024) := by
    rw [BitVec.slt, e1, e2]
    exact decide_eq_decide.mpr Int.ofNat_lt
  show BitVec.ofBool ((BitVec.ofNat 32 r.val).slt (n * 1024#32)) = 1#1 ↔ _
  rw [e]
  by_cases h : r.val < n.toNat * 1024
  · simp [h]
  · simp [h]

/-- The pieces put back together, the rows not in use zero. -/
def hostOut (M : Vec Ideal S49152x1024 .i1) (Z : FVec Ideal S4x2x49152x128 .bf16) : FVec Ideal S49152x1024 .f32 :=
  select M (shapeCast (α := EReal) S49152x1024 (transpose S49152x2x4x128 [2, 1, 0, 3] (extf .f32 Z bitsLt_bf16_f32 : FVec Ideal S4x2x49152x128 .f32) transposes_S4x2x49152x128_S49152x2x4x128_2_1_0_3)
    shapeCasts_S49152x2x4x128_S49152x1024) (broadcastInDim S49152x1024 ![] bcast_S_S49152x1024 (constant S_ .f32 0x00000000#32 : FVec Ideal S_ .f32))

theorem hostOut_apply (M : Vec Ideal S49152x1024 .i1) (Z : FVec Ideal S4x2x49152x128 .bf16) (r : Fin 49152) (d : Fin 1024) :
    hostOut M Z (ix2 r d) = if M (ix2 r d) = 1#1 then Z (ix4 ⟨d.val % 512 / 128, by omega⟩ ⟨d.val / 512, by omega⟩ r ⟨d.val % 128, by omega⟩) else 0 := by
  have key : ∀ (a a' : Fin 4) (b b' : Fin 2) (r r' : Fin 49152) (d d' : Fin 128), a.val = a'.val → b.val = b'.val → r.val = r'.val → d.val = d'.val →
      Z (ix4 a b r d) = Z (ix4 a' b' r' d') := by
    intro a a' b b' r r' d d' h₁ h₂ h₃ h₄
    rw [Fin.ext h₁, Fin.ext h₂, Fin.ext h₃, Fin.ext h₄]
  pointwise [hostOut]
  by_cases hm : M (ix2 r d) = 1#1
  · rw [if_pos hm, hm]
    exact key _ _ _ _ _ _ _ _ (by show d.val / 128 % 4 = d.val % 512 / 128; omega) rfl rfl rfl
  · rw [if_neg hm]
    exact if_neg hm

end Cert.Kernel2Ideal.Run

end
-- ==== Proof.Experts.ExpertsKernel.lean ====
/-
  The experts program's result, element by element, as a function of its arguments over the reals.
-/
module

public import proofs.«01_k».proof.Proof.Experts.ExpertsHost
public import proofs.«01_k».proof.Proof.Experts.ExpertsWhole

@[expose] public section

set_option maxRecDepth 16384

noncomputable section

namespace Cert.Kernel2Ideal.Run

open Idealize.ShloMosaic Idealize.ShloMosaic.TcCoe Idealize.ShloMosaic.Tactic
open Idealize.ShloMosaic.Pipeline (Dat Cfg Window)
open Cert.Kernel2Ideal.Gen

/-- The expert of row `r`: that of its tile. -/
def rowExpert (T : Vec Ideal S48 .i32) (r : Fin 49152) : Fin 16 := ⟨(T (ix1 ⟨r.val / 1024, by omega⟩) : BitVec 32).toNat % 16, by omega⟩

/-- Row `r` of the result: the expert of its tile applied to the row, and zero past the tiles in use. -/
def moe (s : EReal → EReal) (H : Vec Ideal S49152x1024 .f32) (T : Vec Ideal S48 .i32) (N : Vec Ideal S1 .i32) (A B : Vec Ideal S2x16x1024x512 .f32)
    (C : Vec Ideal S2x16x512x1024 .f32) : Vec Ideal S49152x1024 .f32 := fun i =>
  if (i 0).val < (N (ix1 0) : BitVec 32).toNat * 1024 then
    ffnWith s (fun k => H (ix2 (i 0) k)) (fun k f => A (ix4 0 (rowExpert T (i 0)) k f)) (fun k f => B (ix4 0 (rowExpert T (i 0)) k f))
      (fun f => C (ix4 0 (rowExpert T (i 0)) f (i 1)))
  else 0

variable (m : (ℓ : Loc nD τ sig) → Buf (Elt Ideal) ℓ) (hr : InRange (tables m)) (c : Dev nD)

/-- The arguments. -/
abbrev argH : Vec Ideal S49152x1024 .f32 := m (c, Proc.devRef .tc main_arg0)
abbrev argT : Vec Ideal S48 .i32 := m (c, Proc.devRef .tc main_arg1)
abbrev argN : Vec Ideal S1 .i32 := m (c, Proc.devRef .tc main_arg2)
abbrev argA : Vec Ideal S2x16x1024x512 .f32 := m (c, Proc.devRef .tc main_arg3)
abbrev argB : Vec Ideal S2x16x1024x512 .f32 := m (c, Proc.devRef .tc main_arg4)
abbrev argC : Vec Ideal S2x16x512x1024 .f32 := m (c, Proc.devRef .tc main_arg5)

theorem W1_v2 : W1 m c (Proc.devRef .tc main_v2) = hostIn (argH m c) := by
  after_reads_simp
  try rfl

theorem W1_v9 : W1 m c (Proc.devRef .tc main_v9) = hostMask (argN m c) := by
  after_reads_simp
  try rfl

/-- The pieces the call leaves. -/
def outRows : FVec Ideal S4x2x49152x128 .bf16 := (dat0 (adm m hr 0) (W1 m) c).arrAt 4 (cfg0 (adm m hr 0)).N

theorem W3_v15 : W3 m hr c (Proc.devRef .tc main_v15) = hostOut (hostMask (argN m c)) (outRows m hr c) := by
  have h9 : W2 m hr c (Proc.devRef .tc main_v9) = hostMask (argN m c) := (W2_of m hr c main_v9 (by decide)).trans (W1_v9 m c)
  have h10 : W2 m hr c (Proc.devRef .tc main_v10) = outRows m hr c := by
    unfold W2 outRows
    exact Pipeline.afterRegion_arr (dat0 (adm m hr 0) (W1 m) c) (W1 m c) winFacts0.arr_inj 4
  rw [← h9, ← h10]
  after_reads_simp
  try rfl

theorem num_eq : num (adm m hr 0).1 = (argN m c (ix1 0) : BitVec 32) := by
  obtain rfl : c = 0 := Subsingleton.elim _ _
  refine congrArg (argN m 0) (funext fun k => Fin.ext ?_)
  match k with
  | ⟨0, _⟩ => rfl

theorem tileExpert_eq (r : Fin 49152) (h) : tileExpert (adm m hr 0) hr ⟨r.val / 1024, h⟩ = rowExpert (argT m c) r := by
  obtain rfl : c = 0 := Subsingleton.elim _ _
  have hx : expert (adm m hr 0).1 (grid0.coords ⟨r.val / 1024, h⟩) = (argT m 0 (ix1 ⟨r.val / 1024, by omega⟩) : BitVec 32) := by
    refine congrArg (argT m 0) (funext fun k => Fin.ext ?_)
    match k with
    | ⟨0, _⟩ =>
      show (BitVec.ofNat 32 (grid0.coords ⟨r.val / 1024, h⟩ 0).val).toNat + 1 * 0 = r.val / 1024
      rw [coords_val, BitVec.toNat_ofNat]
      show r.val / 1024 % 4294967296 + 1 * 0 = r.val / 1024
      omega
  have hlt := hr.tile (grid0.coords ⟨r.val / 1024, h⟩)
  refine Fin.ext ?_
  show (expert (adm m hr 0).1 (grid0.coords ⟨r.val / 1024, h⟩)).toNat = (argT m 0 (ix1 ⟨r.val / 1024, by omega⟩) : BitVec 32).toNat % 16
  rw [← hx]
  exact (Nat.mod_eq_of_lt hlt).symm

theorem final_at (r : Fin 49152) (d : Fin 1024) : hostOut (hostMask (argN m c)) (outRows m hr c) (ix2 r d)
    = moe act (argH m c) (argT m c) (argN m c) (argA m c) (argB m c) (argC m c) (ix2 r d) := by
  have hn := num_eq m hr c
  have hl : (argN m c (ix1 0) : BitVec 32).toNat ≤ 48 := hn ▸ hr.le
  rw [hostOut_apply, hostMask_apply]
  unfold moe
  have hu := used_word r (argN m c (ix1 0)) hl
  by_cases h : r.val < (argN m c (ix1 0) : BitVec 32).toNat * 1024
  · rw [if_pos (hu.mpr h)]
    refine Eq.trans ?_ (if_pos h).symm
    have ht : r.val / 1024 < 48 := by omega
    have hcol : pieceCol ⟨d.val % 512 / 128, by omega⟩ ⟨d.val / 512, by omega⟩ ⟨d.val % 128, by omega⟩ = d := Fin.ext (by
      show 512 * (d.val / 512) + 128 * (d.val % 512 / 128) + d.val % 128 = d.val
      omega)
    have he := tileExpert_eq m hr c r (lt_of_lt_of_eq ht N_0.symm)
    have hA : wA (W1 m) c = argA m c := W1_of m c main_arg3 (by decide)
    have hB : wB (W1 m) c = argB m c := W1_of m c main_arg4 (by decide)
    have hC : wC (W1 m) c = argC m c := W1_of m c main_arg5 (by decide)
    have hI : inA (W1 m) c = hostIn (argH m c) := W1_v2 m c
    refine (expert_arr (adm m hr 0) (W1 m) hr c _ (by rw [hn]; exact h)).trans ?_
    rw [hA, hB, hC, hI]
    refine (expertArr_at _ _ _ _ _ _ _ _ _ ⟨r.val / 1024, ht⟩ ⟨r.val % 1024, by omega⟩ _ rfl rfl (by show r.val = r.val / 1024 * 1024 + r.val % 1024; omega) rfl).trans ?_
    have hrow : (⟨(⟨r.val / 1024, ht⟩ : Fin 48).val * 1024 + (⟨r.val % 1024, by omega⟩ : Fin 1024).val, by show r.val / 1024 * 1024 + r.val % 1024 < 49152; omega⟩ : Fin 49152) = r :=
      Fin.ext (by show r.val / 1024 * 1024 + r.val % 1024 = r.val; omega)
    rw [hrow, hostIn_row]
    simp only [he]
    exact ffnWith_congr act rfl rfl rfl (funext fun f => congrArg (fun x => argC m c (ix4 0 (rowExpert (argT m c) r) f x)) hcol)
  · rw [if_neg (fun e => h (hu.mp e))]
    exact (if_neg h).symm

theorem final : W3 m hr c (Proc.devRef .tc main_v15) = moe act (argH m c) (argT m c) (argN m c) (argA m c) (argB m c) (argC m c) := by
  rw [W3_v15]
  funext i
  have hi : i = ix2 (i 0) (i 1) := funext fun k => match k with | ⟨0, _⟩ => rfl | ⟨1, _⟩ => rfl
  rw [hi]
  exact final_at m hr c (i 0) (i 1)

end Cert.Kernel2Ideal.Run

end
-- ==== Proof.Experts.ExpertsRef.lean ====
/-
  The experts' reference, element by element, as a function of its arguments over the reals.
-/
module

public import proofs.«01_k».proof.Proof.Experts.ExpertsKernel
public import proofs.«01_k».proof.Proof.Gen.Reference2Ideal.Run

@[expose] public section

set_option maxRecDepth 16384

noncomputable section

namespace Cert.Proof

open Idealize.ShloMosaic Idealize.ShloMosaic.TcCoe Idealize.SL.Sem
open Cert.Reference2Ideal Cert.Reference2Ideal.Gen Cert.Reference2Ideal.Value
open Cert.Kernel2Ideal.Run (ffnWith moe rowExpert used_word)

/-- The activation as the reference computes it. -/
def silu (x : EReal) : EReal := x * Ideal.div 1 (1 + Ideal.exp (-x))

theorem and_word : ∀ x y : BitVec 1, IntOp.andi x y = 1#1 ↔ x = 1#1 ∧ y = 1#1 := by decide +kernel
theorem eq_word (x y : BitVec 32) : IntOp.cmpi .eq x y = 1#1 ↔ x = y := by
  show BitVec.ofBool (x == y) = 1#1 ↔ x = y
  by_cases h : x = y
  · simp [h]
  · rw [beq_eq_false_iff_ne.mpr h]
    exact ⟨fun e => absurd e (by decide), fun e => absurd e h⟩

/-- The experts' gates, as the program composes them: one where the row is in use and the expert is its tile's. -/
def hostGates (T : Vec Ideal S48 .i32) (N : Vec Ideal S1 .i32) : FVec Ideal S49152x16 .f32 :=
  select (andi (broadcastInDim S49152x16 ![0, 1] bcast_S49152x1_S49152x16_0_1 (broadcastInDim S49152x1 ![0] bcast_S49152_S49152x1_0 (cmpi .slt (iotaInDim S49152 32 0) (broadcastInDim S49152 ![] bcast_S_S49152 (muli (shapeCast S_ N shapeCasts_S1_S_) (constantI S_ 32 1024#32))))))
      (cmpi .eq (broadcastInDim S49152x16 ![0, 1] bcast_S49152x1_S49152x16_0_1 (broadcastInDim S49152x1 ![0] bcast_S49152_S49152x1_0 (shapeCast S49152 (broadcastInDim S48x1024 ![0, 1] bcast_S48x1_S48x1024_0_1 (broadcastInDim S48x1 ![0] bcast_S48_S48x1_0 T)) shapeCasts_S48x1024_S49152)))
        (broadcastInDim S49152x16 ![0, 1] bcast_S1x16_S49152x16_0_1 (broadcastInDim S1x16 ![1] bcast_S16_S1x16_1 (iotaInDim S16 32 0)))))
    (broadcastInDim S49152x16 ![] bcast_S_S49152x16 (constant S_ .f32 0x3F800000#32)) (broadcastInDim S49152x16 ![] bcast_S_S49152x16 (constant S_ .f32 0x00000000#32))

theorem hostGates_apply (T : Vec Ideal S48 .i32) (N : Vec Ideal S1 .i32) (r : Fin 49152) (e : Fin 16) (hT : ∀ j, (T j : BitVec 32).toNat < 16)
    (hN : (N (ix1 0) : BitVec 32).toNat ≤ 48) :
    hostGates T N (ix2 r e) = if r.val < (N (ix1 0) : BitVec 32).toNat * 1024 ∧ rowExpert T r = e then 1 else 0 := by
  have hu := used_word r _ hN
  pointwise [hostGates]
  have ht := hT (ix1 ⟨r.val / 1024, by omega⟩)
  have hq : (T (ix1 ⟨r.val / 1024, by omega⟩) : BitVec 32) = BitVec.ofNat 32 e.val ↔ rowExpert T r = e := by
    have hee : (BitVec.ofNat 32 e.val).toNat = e.val := by rw [BitVec.toNat_ofNat]; omega
    constructor
    · intro h
      refine Fin.ext ?_
      show (T (ix1 ⟨r.val / 1024, by omega⟩) : BitVec 32).toNat % 16 = e.val
      rw [h, hee]; omega
    · intro h
      refine BitVec.eq_of_toNat_eq ?_
      rw [hee, ← h]
      exact (Nat.mod_eq_of_lt ht).symm
  exact if_congr ((and_word _ _).trans (and_congr hu ((eq_word _ _).trans hq))) rfl rfl

/-- One projection of the rows, with a weight of one expert. -/
def hostDot (H : FVec Ideal S49152x1024 .f32) (w : FVec Ideal S1024x512 .f32) : FVec Ideal S49152x512 .f32 :=
  Host.dotGeneral (φ₂ := .f32) dot_S49152x1024_S1024x512_S49152x512_1_0_0_1_n_n none H w
/-- One expert's part, of its gate and its weights. -/
def hostPart (g : FVec Ideal S49152x1 .f32) (a u : FVec Ideal S49152x512 .f32) (w : FVec Ideal S512x1024 .f32) : FVec Ideal S49152x1024 .f32 :=
  mulf (broadcastInDim S49152x1024 ![0, 1] bcast_S49152x1_S49152x1024_0_1 g)
    (Host.dotGeneral (φ₂ := .f32) dot_S49152x512_S512x1024_S49152x1024_1_0_0_1_n_n none
      (mulf (mulf a (Host.divf (broadcastInDim S49152x512 ![] bcast_S_S49152x512 (constant S_ .f32 0x3F800000#32)) (addf (broadcastInDim S49152x512 ![] bcast_S_S49152x512 (constant S_ .f32 0x3F800000#32)) (Host.exp (Host.negf a))))) u) w)

theorem hostDot_apply (H : FVec Ideal S49152x1024 .f32) (w : FVec Ideal S1024x512 .f32) (r : Fin 49152) (f : Fin 512) :
    hostDot H w (ix2 r f) = ∑ k : Fin 1024, H (ix2 r k) * w (ix2 k f) := by
  pointwise [hostDot]

theorem hostPart_apply (g : FVec Ideal S49152x1 .f32) (a u : FVec Ideal S49152x512 .f32) (w : FVec Ideal S512x1024 .f32) (r : Fin 49152) (d : Fin 1024) :
    hostPart g a u w (ix2 r d) = g (ix2 r 0) * ∑ f : Fin 512, silu (a (ix2 r f)) * u (ix2 r f) * w (ix2 f d) := by
  pointwise [hostPart, silu]

/-- Expert `e`'s part, of the arguments and the gates. -/
def hostExpert (H : FVec Ideal S49152x1024 .f32) (A B : FVec Ideal S2x16x1024x512 .f32) (C : FVec Ideal S2x16x512x1024 .f32) (G : FVec Ideal S49152x16 .f32) (e : ℕ)
    (hg : S49152x16.Slices ![0, e] S49152x1) (ha : S2x16x1024x512.Slices ![0, e, 0, 0] S1x1x1024x512) (hc : S2x16x512x1024.Slices ![0, e, 0, 0] S1x1x512x1024) :
    FVec Ideal S49152x1024 .f32 :=
  hostPart (id (extractStridedSlice S49152x1 ![0, e] G hg))
    (hostDot H (shapeCast (α := EReal) S1024x512 (extractStridedSlice S1x1x1024x512 ![0, e, 0, 0] A ha) shapeCasts_S1x1x1024x512_S1024x512))
    (hostDot H (shapeCast (α := EReal) S1024x512 (extractStridedSlice S1x1x1024x512 ![0, e, 0, 0] B ha) shapeCasts_S1x1x1024x512_S1024x512))
    (shapeCast (α := EReal) S512x1024 (extractStridedSlice S1x1x512x1024 ![0, e, 0, 0] C hc) shapeCasts_S1x1x512x1024_S512x1024)

theorem slice_gate (G : FVec Ideal S49152x16 .f32) (e : Fin 16) (hg : S49152x16.Slices ![0, e.val] S49152x1) (r : Fin 49152) :
    (extractStridedSlice S49152x1 ![0, e.val] G hg : FVec Ideal S49152x1 .f32) (ix2 r 0) = G (ix2 r e) := by
  refine congrArg G (funext fun k => Fin.ext ?_)
  match k with
  | ⟨0, _⟩ => show 0 + r.val = r.val; omega
  | ⟨1, _⟩ => show e.val + 0 = e.val; omega
theorem slice_in (A : FVec Ideal S2x16x1024x512 .f32) (e : Fin 16) (ha : S2x16x1024x512.Slices ![0, e.val, 0, 0] S1x1x1024x512) (k : Fin 1024) (f : Fin 512) :
    (shapeCast (α := EReal) S1024x512 (extractStridedSlice S1x1x1024x512 ![0, e.val, 0, 0] A ha) shapeCasts_S1x1x1024x512_S1024x512 : FVec Ideal S1024x512 .f32) (ix2 k f)
      = A (ix4 0 e k f) := by
  have h : ∀ x : FVec Ideal S1x1x1024x512 .f32, (shapeCast (α := EReal) S1024x512 x shapeCasts_S1x1x1024x512_S1024x512 : FVec Ideal S1024x512 .f32) (ix2 k f) = x (ix4 0 0 k f) := fun x => by
    pointwise
  refine (h _).trans (congrArg A (funext fun x => Fin.ext ?_))
  match x with
  | ⟨0, _⟩ => rfl
  | ⟨1, _⟩ => show e.val + 0 = e.val; omega
  | ⟨2, _⟩ => show 0 + k.val = k.val; omega
  | ⟨3, _⟩ => show 0 + f.val = f.val; omega
theorem slice_out (C : FVec Ideal S2x16x512x1024 .f32) (e : Fin 16) (hc : S2x16x512x1024.Slices ![0, e.val, 0, 0] S1x1x512x1024) (f : Fin 512) (d : Fin 1024) :
    (shapeCast (α := EReal) S512x1024 (extractStridedSlice S1x1x512x1024 ![0, e.val, 0, 0] C hc) shapeCasts_S1x1x512x1024_S512x1024 : FVec Ideal S512x1024 .f32) (ix2 f d)
      = C (ix4 0 e f d) := by
  have h : ∀ x : FVec Ideal S1x1x512x1024 .f32, (shapeCast (α := EReal) S512x1024 x shapeCasts_S1x1x512x1024_S512x1024 : FVec Ideal S512x1024 .f32) (ix2 f d) = x (ix4 0 0 f d) := fun x => by
    pointwise
  refine (h _).trans (congrArg C (funext fun k => Fin.ext ?_))
  match k with
  | ⟨0, _⟩ => rfl
  | ⟨1, _⟩ => show e.val + 0 = e.val; omega
  | ⟨2, _⟩ => show 0 + f.val = f.val; omega
  | ⟨3, _⟩ => show 0 + d.val = d.val; omega

variable (H : FVec Ideal S49152x1024 .f32) (A B : FVec Ideal S2x16x1024x512 .f32) (C : FVec Ideal S2x16x512x1024 .f32)

theorem hostExpert_apply (G : FVec Ideal S49152x16 .f32) (e : Fin 16) (hg : S49152x16.Slices ![0, e.val] S49152x1)
    (ha : S2x16x1024x512.Slices ![0, e.val, 0, 0] S1x1x1024x512) (hc : S2x16x512x1024.Slices ![0, e.val, 0, 0] S1x1x512x1024) (r : Fin 49152) (d : Fin 1024) :
    hostExpert H A B C G e.val hg ha hc (ix2 r d)
      = G (ix2 r e) * ffnWith silu (fun k => H (ix2 r k)) (fun k f => A (ix4 0 e k f)) (fun k f => B (ix4 0 e k f)) (fun f => C (ix4 0 e f d)) := by
  unfold hostExpert
  rw [hostPart_apply, id, slice_gate]
  unfold ffnWith
  simp only [hostDot_apply, slice_in, slice_out]

/-- The reference's result, of the arguments and the gates: the experts' parts added up in order. -/
def hostSum (G : FVec Ideal S49152x16 .f32) : FVec Ideal S49152x1024 .f32 :=
  addf (addf (addf (addf (addf (addf (addf (addf (addf (addf (addf (addf (addf (addf (addf (addf (broadcastInDim S49152x1024 ![] bcast_S_S49152x1024 (constant S_ .f32 0x00000000#32))
    (hostExpert H A B C G 0 slices_S49152x16_S49152x1_0_0 slices_S2x16x1024x512_S1x1x1024x512_0_0_0_0 slices_S2x16x512x1024_S1x1x512x1024_0_0_0_0))
    (hostExpert H A B C G 1 slices_S49152x16_S49152x1_0_1 slices_S2x16x1024x512_S1x1x1024x512_0_1_0_0 slices_S2x16x512x1024_S1x1x512x1024_0_1_0_0))
    (hostExpert H A B C G 2 slices_S49152x16_S49152x1_0_2 slices_S2x16x1024x512_S1x1x1024x512_0_2_0_0 slices_S2x16x512x1024_S1x1x512x1024_0_2_0_0))
    (hostExpert H A B C G 3 slices_S49152x16_S49152x1_0_3 slices_S2x16x1024x512_S1x1x1024x512_0_3_0_0 slices_S2x16x512x1024_S1x1x512x1024_0_3_0_0))
    (hostExpert H A B C G 4 slices_S49152x16_S49152x1_0_4 slices_S2x16x1024x512_S1x1x1024x512_0_4_0_0 slices_S2x16x512x1024_S1x1x512x1024_0_4_0_0))
    (hostExpert H A B C G 5 slices_S49152x16_S49152x1_0_5 slices_S2x16x1024x512_S1x1x1024x512_0_5_0_0 slices_S2x16x512x1024_S1x1x512x1024_0_5_0_0))
    (hostExpert H A B C G 6 slices_S49152x16_S49152x1_0_6 slices_S2x16x1024x512_S1x1x1024x512_0_6_0_0 slices_S2x16x512x1024_S1x1x512x1024_0_6_0_0))
    (hostExpert H A B C G 7 slices_S49152x16_S49152x1_0_7 slices_S2x16x1024x512_S1x1x1024x512_0_7_0_0 slices_S2x16x512x1024_S1x1x512x1024_0_7_0_0))
    (hostExpert H A B C G 8 slices_S49152x16_S49152x1_0_8 slices_S2x16x1024x512_S1x1x1024x512_0_8_0_0 slices_S2x16x512x1024_S1x1x512x1024_0_8_0_0))
    (hostExpert H A B C G 9 slices_S49152x16_S49152x1_0_9 slices_S2x16x1024x512_S1x1x1024x512_0_9_0_0 slices_S2x16x512x1024_S1x1x512x1024_0_9_0_0))
    (hostExpert H A B C G 10 slices_S49152x16_S49152x1_0_10 slices_S2x16x1024x512_S1x1x1024x512_0_10_0_0 slices_S2x16x512x1024_S1x1x512x1024_0_10_0_0))
    (hostExpert H A B C G 11 slices_S49152x16_S49152x1_0_11 slices_S2x16x1024x512_S1x1x1024x512_0_11_0_0 slices_S2x16x512x1024_S1x1x512x1024_0_11_0_0))
    (hostExpert H A B C G 12 slices_S49152x16_S49152x1_0_12 slices_S2x16x1024x512_S1x1x1024x512_0_12_0_0 slices_S2x16x512x1024_S1x1x512x1024_0_12_0_0))
    (hostExpert H A B C G 13 slices_S49152x16_S49152x1_0_13 slices_S2x16x1024x512_S1x1x1024x512_0_13_0_0 slices_S2x16x512x1024_S1x1x512x1024_0_13_0_0))
    (hostExpert H A B C G 14 slices_S49152x16_S49152x1_0_14 slices_S2x16x1024x512_S1x1x1024x512_0_14_0_0 slices_S2x16x512x1024_S1x1x512x1024_0_14_0_0))
    (hostExpert H A B C G 15 slices_S49152x16_S49152x1_0_15 slices_S2x16x1024x512_S1x1x1024x512_0_15_0_0 slices_S2x16x512x1024_S1x1x512x1024_0_15_0_0)

theorem sum16 (p : Fin 16 → EReal) : 0 + p 0 + p 1 + p 2 + p 3 + p 4 + p 5 + p 6 + p 7 + p 8 + p 9 + p 10 + p 11 + p 12 + p 13 + p 14 + p 15 = ∑ e : Fin 16, p e := by
  simp only [Fin.sum_univ_castSucc, Finset.univ_eq_empty, Finset.sum_empty]
  rfl

theorem hostSum_apply (G : FVec Ideal S49152x16 .f32) (r : Fin 49152) (d : Fin 1024) : hostSum H A B C G (ix2 r d)
    = ∑ e : Fin 16, G (ix2 r e) * ffnWith silu (fun k => H (ix2 r k)) (fun k f => A (ix4 0 e k f)) (fun k f => B (ix4 0 e k f)) (fun f => C (ix4 0 e f d)) := by
  have hz : (broadcastInDim S49152x1024 ![] bcast_S_S49152x1024 (constant S_ .f32 0x00000000#32 : FVec Ideal S_ .f32) : FVec Ideal S49152x1024 .f32) (ix2 r d) = 0 := by
    pointwise
  rw [← sum16]
  exact congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (hz)
    (hostExpert_apply H A B C G 0 slices_S49152x16_S49152x1_0_0 slices_S2x16x1024x512_S1x1x1024x512_0_0_0_0 slices_S2x16x512x1024_S1x1x512x1024_0_0_0_0 r d))
    (hostExpert_apply H A B C G 1 slices_S49152x16_S49152x1_0_1 slices_S2x16x1024x512_S1x1x1024x512_0_1_0_0 slices_S2x16x512x1024_S1x1x512x1024_0_1_0_0 r d))
    (hostExpert_apply H A B C G 2 slices_S49152x16_S49152x1_0_2 slices_S2x16x1024x512_S1x1x1024x512_0_2_0_0 slices_S2x16x512x1024_S1x1x512x1024_0_2_0_0 r d))
    (hostExpert_apply H A B C G 3 slices_S49152x16_S49152x1_0_3 slices_S2x16x1024x512_S1x1x1024x512_0_3_0_0 slices_S2x16x512x1024_S1x1x512x1024_0_3_0_0 r d))
    (hostExpert_apply H A B C G 4 slices_S49152x16_S49152x1_0_4 slices_S2x16x1024x512_S1x1x1024x512_0_4_0_0 slices_S2x16x512x1024_S1x1x512x1024_0_4_0_0 r d))
    (hostExpert_apply H A B C G 5 slices_S49152x16_S49152x1_0_5 slices_S2x16x1024x512_S1x1x1024x512_0_5_0_0 slices_S2x16x512x1024_S1x1x512x1024_0_5_0_0 r d))
    (hostExpert_apply H A B C G 6 slices_S49152x16_S49152x1_0_6 slices_S2x16x1024x512_S1x1x1024x512_0_6_0_0 slices_S2x16x512x1024_S1x1x512x1024_0_6_0_0 r d))
    (hostExpert_apply H A B C G 7 slices_S49152x16_S49152x1_0_7 slices_S2x16x1024x512_S1x1x1024x512_0_7_0_0 slices_S2x16x512x1024_S1x1x512x1024_0_7_0_0 r d))
    (hostExpert_apply H A B C G 8 slices_S49152x16_S49152x1_0_8 slices_S2x16x1024x512_S1x1x1024x512_0_8_0_0 slices_S2x16x512x1024_S1x1x512x1024_0_8_0_0 r d))
    (hostExpert_apply H A B C G 9 slices_S49152x16_S49152x1_0_9 slices_S2x16x1024x512_S1x1x1024x512_0_9_0_0 slices_S2x16x512x1024_S1x1x512x1024_0_9_0_0 r d))
    (hostExpert_apply H A B C G 10 slices_S49152x16_S49152x1_0_10 slices_S2x16x1024x512_S1x1x1024x512_0_10_0_0 slices_S2x16x512x1024_S1x1x512x1024_0_10_0_0 r d))
    (hostExpert_apply H A B C G 11 slices_S49152x16_S49152x1_0_11 slices_S2x16x1024x512_S1x1x1024x512_0_11_0_0 slices_S2x16x512x1024_S1x1x512x1024_0_11_0_0 r d))
    (hostExpert_apply H A B C G 12 slices_S49152x16_S49152x1_0_12 slices_S2x16x1024x512_S1x1x1024x512_0_12_0_0 slices_S2x16x512x1024_S1x1x512x1024_0_12_0_0 r d))
    (hostExpert_apply H A B C G 13 slices_S49152x16_S49152x1_0_13 slices_S2x16x1024x512_S1x1x1024x512_0_13_0_0 slices_S2x16x512x1024_S1x1x512x1024_0_13_0_0 r d))
    (hostExpert_apply H A B C G 14 slices_S49152x16_S49152x1_0_14 slices_S2x16x1024x512_S1x1x1024x512_0_14_0_0 slices_S2x16x512x1024_S1x1x512x1024_0_14_0_0 r d))
    (hostExpert_apply H A B C G 15 slices_S49152x16_S49152x1_0_15 slices_S2x16x1024x512_S1x1x1024x512_0_15_0_0 slices_S2x16x512x1024_S1x1x512x1024_0_15_0_0 r d)

theorem hostSum_at (T : Vec Ideal S48 .i32) (N : Vec Ideal S1 .i32) (hT : ∀ j, (T j : BitVec 32).toNat < 16) (hN : (N (ix1 0) : BitVec 32).toNat ≤ 48)
    (r : Fin 49152) (d : Fin 1024) : hostSum H A B C (hostGates T N) (ix2 r d) = moe silu H T N A B C (ix2 r d) := by
  rw [hostSum_apply]
  simp only [hostGates_apply _ _ _ _ hT hN]
  unfold moe
  by_cases h : r.val < (N (ix1 0) : BitVec 32).toNat * 1024
  · refine Eq.trans ?_ (if_pos h).symm
    rw [Finset.sum_eq_single (rowExpert T r)]
    · rw [if_pos ⟨h, rfl⟩, one_mul]; rfl
    · intro e _ he
      rw [if_neg (fun h' => he h'.2.symm), zero_mul]
    · intro h'; exact absurd (Finset.mem_univ _) h'
  · refine Eq.trans (Finset.sum_eq_zero fun e _ => ?_) (if_neg h).symm
    rw [if_neg (fun h' => h h'.1), zero_mul]

/-- The gates leave one expert's part, or none. -/
theorem hostSum_eq (T : Vec Ideal S48 .i32) (N : Vec Ideal S1 .i32) (hT : ∀ j, (T j : BitVec 32).toNat < 16) (hN : (N (ix1 0) : BitVec 32).toNat ≤ 48) :
    hostSum H A B C (hostGates T N) = moe silu H T N A B C := by
  funext i
  have hi : i = ix2 (i 0) (i 1) := funext fun k => match k with | ⟨0, _⟩ => rfl | ⟨1, _⟩ => rfl
  rw [hi]
  exact hostSum_at H A B C T N hT hN (i 0) (i 1)

end Cert.Proof

end
-- ==== Proof.Experts.ExpertsAlgebraic.lean ====
/-
  The experts' program and its reference read as one function of the arguments, where the activations and the gate's
  weights are finite.
-/
module

public import proofs.«01_k».proof.Defs
public import proofs.«01_k».proof.Proof.Experts.ExpertsRef
public import proofs.«01_k».proof.Proof.Experts.ExpertsPre

@[expose] public section

set_option maxRecDepth 16384

noncomputable section

namespace Cert.Proof

open Idealize.ShloMosaic Idealize.ShloMosaic.TcCoe Idealize.SL.Sem
open Cert.Kernel2Ideal.Run (ffnWith moe rowExpert act argH argT argN argA argB argC)

theorem half_eq : Ideal.ofBits .f32 0x3F000000#32 = ((1 / 2 : ℝ) : EReal) := by
  simp [Ideal.ofBits, Ideal.ieee, -EReal.coe_mul]; norm_num

/-- Half of `y`, plus half of `y` times the hyperbolic tangent of half of `y`, is `y` times its logistic function. -/
theorem half_tanh (y : ℝ) : 1 / 2 * y + 1 / 2 * y * Real.tanh (1 / 2 * y) = y * (1 + Real.exp (-y))⁻¹ := by
  have ha : 0 < Real.exp (1 / 2 * y) := Real.exp_pos _
  have he : Real.exp (-y) = (Real.exp (1 / 2 * y))⁻¹ * (Real.exp (1 / 2 * y))⁻¹ := by
    rw [← Real.exp_neg, ← Real.exp_add]; congr 1; ring
  rw [Real.tanh_eq_sinh_div_cosh, Real.sinh_eq, Real.cosh_eq, he, Real.exp_neg]
  generalize Real.exp (1 / 2 * y) = a at ha
  have h1 : 0 < a * a := by positivity
  field_simp
  ring

theorem act_eq (x : EReal) (ht : x ≠ ⊤) (hb : x ≠ ⊥) : act x = silu x := by
  lift x to ℝ using ⟨ht, hb⟩
  have h2 : silu (x : EReal) = ((x * (1 + Real.exp (-x))⁻¹ : ℝ) : EReal) := by
    show (x : EReal) * Ideal.logistic (x : EReal) = _
    rw [Ideal.logistic_coe, ← EReal.coe_mul]
  rw [h2, ← half_tanh]
  unfold act
  rw [half_eq, ← EReal.coe_mul, Ideal.tanh_coe, ← EReal.coe_mul, ← EReal.coe_add]

/-- A sum of finite products is finite. -/
theorem sum_finite {n : ℕ} (f g : Fin n → EReal) (hf : ∀ k, f k ≠ ⊤ ∧ f k ≠ ⊥) (hg : ∀ k, g k ≠ ⊤ ∧ g k ≠ ⊥) :
    (∑ k, f k * g k) ≠ ⊤ ∧ (∑ k, f k * g k) ≠ ⊥ := by
  have e : (∑ k, f k * g k) = ((∑ k, (f k).toReal * (g k).toReal : ℝ) : EReal) := by
    have hs : ∀ (u : Fin n → ℝ) (t : Finset (Fin n)), ((∑ k ∈ t, u k : ℝ) : EReal) = ∑ k ∈ t, (u k : EReal) := fun u t => by
      induction t using Finset.induction_on with
      | empty => simp
      | insert a t ha ih => rw [Finset.sum_insert ha, Finset.sum_insert ha, EReal.coe_add, ih]
    rw [hs]
    refine Finset.sum_congr rfl fun k _ => ?_
    rw [EReal.coe_mul, EReal.coe_toReal (hf k).1 (hf k).2, EReal.coe_toReal (hg k).1 (hg k).2]
  rw [e]
  exact ⟨EReal.coe_ne_top _, EReal.coe_ne_bot _⟩

open Cert.Kernel2Ideal in
/-- On finite activations and gate's weights the two activations give one result. -/
theorem moe_act (H : Vec Ideal S49152x1024 .f32) (T : Vec Ideal S48 .i32) (N : Vec Ideal S1 .i32) (A B : Vec Ideal S2x16x1024x512 .f32)
    (C : Vec Ideal S2x16x512x1024 .f32) (hH : ∀ j, (H j : EReal) ≠ ⊤ ∧ (H j : EReal) ≠ ⊥) (hA : ∀ j, (A j : EReal) ≠ ⊤ ∧ (A j : EReal) ≠ ⊥) :
    moe act H T N A B C = moe silu H T N A B C := by
  funext i
  unfold moe ffnWith
  refine if_congr Iff.rfl ?_ rfl
  refine Finset.sum_congr rfl fun f _ => ?_
  have h := sum_finite (fun k => H (ix2 (i 0) k)) (fun k => A (ix4 0 (rowExpert T (i 0)) k f)) (fun k => hH _) (fun k => hA _)
  exact congrArg (fun x => x * _ * _) (act_eq _ h.1 h.2)

open Cert.Reference2Ideal in
/-- The reference's run, over arguments whose words are in range. -/
theorem reference2_run (m : (ℓ : Loc nD τ sig) → Buf (Elt Ideal) ℓ) (ρ : Dev nD → PrngReg)
    (H : Dev nD → Vec Ideal Cert.Kernel2Ideal.S49152x1024 .f32)
    (T : Dev nD → Vec Ideal Cert.Kernel2Ideal.S48 .i32)
    (N : Dev nD → Vec Ideal Cert.Kernel2Ideal.S1 .i32)
    (A : Dev nD → Vec Ideal Cert.Kernel2Ideal.S2x16x1024x512 .f32)
    (B : Dev nD → Vec Ideal Cert.Kernel2Ideal.S2x16x1024x512 .f32)
    (C : Dev nD → Vec Ideal Cert.Kernel2Ideal.S2x16x512x1024 .f32)
    (hH : ∀ c : Dev nD, m ((c.tc : Thread nD τ).loc main_arg0) = H c)
    (hT : ∀ c : Dev nD, m ((c.tc : Thread nD τ).loc main_arg1) = T c)
    (hN : ∀ c : Dev nD, m ((c.tc : Thread nD τ).loc main_arg2) = N c)
    (hA : ∀ c : Dev nD, m ((c.tc : Thread nD τ).loc main_arg3) = A c)
    (hB : ∀ c : Dev nD, m ((c.tc : Thread nD τ).loc main_arg4) = B c)
    (hC : ∀ c : Dev nD, m ((c.tc : Thread nD τ).loc main_arg5) = C c)
    (hw : ∀ c, (∀ j, (T c j : BitVec 32).toNat < 16) ∧ (N c (ix1 0) : BitVec 32).toNat ≤ 48) :
    θ_run (defs (F := Ideal)) (onTc (τ := τ) (main (F := Ideal))) ⟨m, fun _ => 0, ρ⟩
      (fun r => ∀ c : Dev nD,
        r.2.mem ((c.tc : Thread nD τ).loc main_v274) = moe silu (H c) (T c) (N c) (A c) (B c) (C c)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)) := by
  refine (θ_run defs _ _).mono (fun r h c => ?_) (Value.run m ρ)
  obtain ⟨h0, h1⟩ := h c
  refine ⟨h0.trans ?_, h1⟩
  refine Eq.trans ?_ (hostSum_eq (H c) (A c) (B c) (C c) (T c) (N c) (hw c).1 (hw c).2)
  rw [← hH, ← hT, ← hN, ← hA, ← hB, ← hC]
  rfl

open Cert.Kernel2Ideal in
/-- The kernel's run. -/
theorem kernel2_run (m : (ℓ : Loc nD τ sig) → Buf (Elt Ideal) ℓ) (ρ : Dev nD → PrngReg) (hr : Run.InRange (Run.tables m)) :
    θ_run (defs (F := Ideal)) (onTc (τ := τ) (main (F := Ideal))) ⟨m, fun _ => 0, ρ⟩ (fun r => ∀ c : Dev nD,
      r.2.mem ((c.tc : Thread nD τ).loc main_v15) = moe act (argH m c) (argT m c) (argN m c) (argA m c) (argB m c) (argC m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h.1 c _ (Finset.mem_filter.mpr ⟨StableHlo.devRef_mem_tcRefs main_v15, by decide⟩)).trans (Run.final m hr c),
      (h.1 c _ (Finset.mem_filter.mpr ⟨StableHlo.devRef_mem_tcRefs main_arg0, by decide⟩)).trans
        (Run.W3_kept m hr c main_arg0 (by decide) (by decide) (by decide)),
      (h.1 c _ (Finset.mem_filter.mpr ⟨StableHlo.devRef_mem_tcRefs main_arg1, by decide⟩)).trans
        (Run.W3_kept m hr c main_arg1 (by decide) (by decide) (by decide)),
      (h.1 c _ (Finset.mem_filter.mpr ⟨StableHlo.devRef_mem_tcRefs main_arg2, by decide⟩)).trans
        (Run.W3_kept m hr c main_arg2 (by decide) (by decide) (by decide)),
      (h.1 c _ (Finset.mem_filter.mpr ⟨StableHlo.devRef_mem_tcRefs main_arg3, by decide⟩)).trans
        (Run.W3_read m hr c 1 rfl (by decide) (by decide)),
      (h.1 c _ (Finset.mem_filter.mpr ⟨StableHlo.devRef_mem_tcRefs main_arg4, by decide⟩)).trans
        (Run.W3_read m hr c 2 rfl (by decide) (by decide)),
      (h.1 c _ (Finset.mem_filter.mpr ⟨StableHlo.devRef_mem_tcRefs main_arg5, by decide⟩)).trans
        (Run.W3_read m hr c 3 rfl (by decide) (by decide))⟩) (Run.run m ρ hr)

theorem algebraic2 : Cert.algebraic_Kernel2Ideal_Reference2Ideal_pre_inputs_in_range (hKernel2Ideal := Cert.Kernel2Ideal.Gen.facts)
    (hReference2Ideal := Cert.Reference2Ideal.Gen.facts) (hPre_inputs_in_range := Cert.Pre_inputs_in_range.Gen.facts) := by
  intro m g m' g' hpre hagree
  have hw : ∀ c : Dev Cert.Kernel2Ideal.nD, Words (argT m c) (argN m c) := fun c => words_of_inputs (F := Ideal) _ _ _ _ _ _ (hpre c)
  have hf : ∀ c : Dev Cert.Kernel2Ideal.nD, (∀ j, (argH m c j : EReal) ≠ ⊤ ∧ (argH m c j : EReal) ≠ ⊥) ∧ ∀ j, (argA m c j : EReal) ≠ ⊤ ∧ (argA m c j : EReal) ≠ ⊥ :=
    fun c => finite_of_inputs _ _ _ _ _ _ (hpre c)
  have hr := Cert.Kernel2Ideal.Run.inRange_of_words m (hw 0)
  refine ⟨fun c => moe silu (argH m c) (argT m c) (argN m c) (argA m c) (argB m c) (argC m c), ?_,
    reference2_run m' g' (fun c => argH m c) (fun c => argT m c) (fun c => argN m c) (fun c => argA m c) (fun c => argB m c) (fun c => argC m c)
      (fun c => (hagree c).1) (fun c => (hagree c).2.1) (fun c => (hagree c).2.2.1) (fun c => (hagree c).2.2.2.1) (fun c => (hagree c).2.2.2.2.1)
      (fun c => (hagree c).2.2.2.2.2) (fun c => ⟨(hw c).tile, (hw c).le _⟩)⟩
  refine (θ_run Cert.Kernel2Ideal.defs _ _).mono (fun r h c => ⟨(h c).1.trans ?_, (h c).2⟩) (kernel2_run m g hr)
  exact moe_act _ _ _ _ _ _ (hf c).1 (hf c).2

end Cert.Proof

end
-- ==== Proof.SecondExperts.SecondRun.lean ====
module

public import proofs.«01_k».proof.Proof.Gen.Kernel3Ideal.Launch
public import proofs.«01_k».proof.Proof.Gen.Kernel3Ideal.Skeleton
public import Idealize.ShloMosaic.Lib.Pipeline.FrameBody
public import Idealize.ShloMosaic.Lib.Pipeline.Value
public import Idealize.ShloMosaic.Lib.VecWindow
public import Idealize.ShloMosaic.Lib.Ring
public import Idealize.ShloMosaic.Lib.Tactic
public import Idealize.ShloMosaic.Lib.WordCmp
public import Idealize.ShloMosaic.Lib.Claim
public import Idealize.ShloMosaic.Lib.WholeRead

@[expose] public section

set_option maxRecDepth 16384

noncomputable section

namespace Cert.Kernel3Ideal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen

variable {F : FTy → Type} [FloatOps F]

local notation "𝕄" => MT nD τ sig Unit (Elt F) ℕ (UR sig nD τ) ℕ

/-- The two tables of the call: the expert of each tile, and the number of tiles in use. -/
abbrev tabE : Memref sig .tc .smem S48 .i32 := Memref.whole main_arg1
abbrev tabN : Memref sig .tc .smem S1 .i32 := Memref.whole main_arg2
abbrev htabE : tabE.IsWhole := Memref.isWhole_whole _
abbrev htabN : tabN.IsWhole := Memref.isWhole_whole _

abbrev TabBuf (c : Dev nD) {S : Shape} {e : EltTy} (M : Memref sig .tc .smem S e) : Type := Buf (Elt F) (M.view.loc (c : Thread nD τ))
abbrev tabPt (c : Dev nD) {S : Shape} {e : EltTy} (M : Memref sig .tc .smem S e) (f : TabBuf (F := F) c M) : sProp 𝕄 :=
  M.view.loc (c : Thread nD τ) ↦{fullShare} f

/-- The number of tiles in use; the expert of tile `i`; the expert of the tile before it. -/
def wordN (c : Dev nD) (xn : TabBuf (F := F) c tabN) : Elt F .i32 :=
  xn ((Rect.unit (s := S1) ![0] S1.size inb_S1_S1_0).point numel1_S1)
def wordE (c : Dev nD) (i : grid0.Coords) (xe : TabBuf (F := F) c tabE) : Elt F .i32 :=
  xe ((Rect.unit (s := S48) (k0_off1 i) S1.size (k0_off1_inb i)).point numel1_S1)
def wordP (c : Dev nD) (i : grid0.Coords) (xe : TabBuf (F := F) c tabE) : Elt F .i32 :=
  xe ((Rect.unit (s := S48) (k0_off2 i) S1.size (k0_off2_inb i)).point numel1_S1)

/-- Whether the body takes new weights at point `i`: the tile is in use and is the first, or its expert is not that of
    the tile before it. -/
def newExpert (i : grid0.Coords) (n e p : BitVec 32) : BitVec 1 :=
  Scalar.cmpi .ne (Scalar.extui (Scalar.andi (Scalar.cmpi .slt (BitVec.ofNat 32 (i 0).val) n)
    (Scalar.ori (Scalar.cmpi .eq (BitVec.ofNat 32 (i 0).val) 0#32) (Scalar.cmpi .ne e p))) : BitVec 32) 0#32

/-- The rows of a tile, from the eight pieces of 128 columns its block holds. -/
def rowsIn (x : Vec F S4x2x1024x128 .bf16) : FVec F S1024x1024 .bf16 :=
  k0_pay9 (View.ld (Val := Elt F) (e' := .bf16) x (Rect.unit (s := S4x2x1024x128) ![0, 0, 0, 0] S1x1x1024x128.size inb_S4x2x1024x128_S1x1x1024x128_0_0_0_0))
    (View.ld (Val := Elt F) (e' := .bf16) x (Rect.unit (s := S4x2x1024x128) ![1, 0, 0, 0] S1x1x1024x128.size inb_S4x2x1024x128_S1x1x1024x128_1_0_0_0))
    (View.ld (Val := Elt F) (e' := .bf16) x (Rect.unit (s := S4x2x1024x128) ![2, 0, 0, 0] S1x1x1024x128.size inb_S4x2x1024x128_S1x1x1024x128_2_0_0_0))
    (View.ld (Val := Elt F) (e' := .bf16) x (Rect.unit (s := S4x2x1024x128) ![3, 0, 0, 0] S1x1x1024x128.size inb_S4x2x1024x128_S1x1x1024x128_3_0_0_0))
    (View.ld (Val := Elt F) (e' := .bf16) x (Rect.unit (s := S4x2x1024x128) ![0, 1, 0, 0] S1x1x1024x128.size inb_S4x2x1024x128_S1x1x1024x128_0_1_0_0))
    (View.ld (Val := Elt F) (e' := .bf16) x (Rect.unit (s := S4x2x1024x128) ![1, 1, 0, 0] S1x1x1024x128.size inb_S4x2x1024x128_S1x1x1024x128_1_1_0_0))
    (View.ld (Val := Elt F) (e' := .bf16) x (Rect.unit (s := S4x2x1024x128) ![2, 1, 0, 0] S1x1x1024x128.size inb_S4x2x1024x128_S1x1x1024x128_2_1_0_0))
    (View.ld (Val := Elt F) (e' := .bf16) x (Rect.unit (s := S4x2x1024x128) ![3, 1, 0, 0] S1x1x1024x128.size inb_S4x2x1024x128_S1x1x1024x128_3_1_0_0))

/-- The eight pieces the body writes of a tile, last first: each is 128 columns of the product. -/
def outPieces (h : FVec F S1024x1024 .bf16) (w0 w1 : Vec F S1024x512 .bf16) (w2 : Vec F S512x1024 .bf16) : List (View.Piece (Elt F) S4x2x1024x128 .bf16) :=
  [⟨Rect.unit (s := S4x2x1024x128) ![3, 1, 0, 0] S1x1x1024x128.size inb_S4x2x1024x128_S1x1x1024x128_3_1_0_0, k0_pay8 (k0_pay10 h w0 w1 w2)⟩,
   ⟨Rect.unit (s := S4x2x1024x128) ![3, 0, 0, 0] S1x1x1024x128.size inb_S4x2x1024x128_S1x1x1024x128_3_0_0_0, k0_pay7 (k0_pay10 h w0 w1 w2)⟩,
   ⟨Rect.unit (s := S4x2x1024x128) ![2, 1, 0, 0] S1x1x1024x128.size inb_S4x2x1024x128_S1x1x1024x128_2_1_0_0, k0_pay6 (k0_pay10 h w0 w1 w2)⟩,
   ⟨Rect.unit (s := S4x2x1024x128) ![2, 0, 0, 0] S1x1x1024x128.size inb_S4x2x1024x128_S1x1x1024x128_2_0_0_0, k0_pay5 (k0_pay10 h w0 w1 w2)⟩,
   ⟨Rect.unit (s := S4x2x1024x128) ![1, 1, 0, 0] S1x1x1024x128.size inb_S4x2x1024x128_S1x1x1024x128_1_1_0_0, k0_pay4 (k0_pay14 h w0 w1 w2)⟩,
   ⟨Rect.unit (s := S4x2x1024x128) ![1, 0, 0, 0] S1x1x1024x128.size inb_S4x2x1024x128_S1x1x1024x128_1_0_0_0, k0_pay13 h w0 w1 w2⟩,
   ⟨Rect.unit (s := S4x2x1024x128) ![0, 1, 0, 0] S1x1x1024x128.size inb_S4x2x1024x128_S1x1x1024x128_0_1_0_0, k0_pay12 h w0 w1 w2⟩,
   ⟨Rect.unit (s := S4x2x1024x128) ![0, 0, 0, 0] S1x1x1024x128.size inb_S4x2x1024x128_S1x1x1024x128_0_0_0_0, k0_pay11 h w0 w1 w2⟩]

/-- They cover the block. -/
theorem outPieces_cover (h : FVec F S1024x1024 .bf16) (w0 w1 : Vec F S1024x512 .bf16) (w2 : Vec F S512x1024 .bf16) :
    ∀ y, ∃ p ∈ outPieces h w0 w1 w2, y ∈ p.1.set :=
  View.cover_of_tiledL _ S1x1x1024x128.size (by unfold outPieces; sl_kernel_rfl)

/-- The block the body writes of a tile. -/
def outBlk (h : FVec F S1024x1024 .bf16) (w0 w1 : Vec F S1024x512 .bf16) (w2 : Vec F S512x1024 .bf16) : Vec F S4x2x1024x128 .bf16 :=
  View.canon (outPieces h w0 w1 w2)

set_option maxHeartbeats 1000000 in
/-- The body at a tile in use with a new expert: the weights are taken, then the tile is computed from them. -/
theorem expertsRunA (c : Dev nD) (i : grid0.Coords) (arg3 : Memref sig .tc .vmem S4x2x1024x128 .bf16) (harg3 : arg3.IsWhole) (arg4 : Memref sig .tc .vmem S1x1x1024x512 .f32) (harg4 : arg4.IsWhole) (arg5 : Memref sig .tc .vmem S1x1x1024x512 .f32) (harg5 : arg5.IsWhole) (arg6 : Memref sig .tc .vmem S1x1x512x1024 .f32) (harg6 : arg6.IsWhole) (arg7 : Memref sig .tc .vmem S4x2x1024x128 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S512x1024 .bf16) (harg10 : arg10.IsWhole)
    (xe : TabBuf (F := F) c tabE) (xn : TabBuf (F := F) c tabN) (hc0 : newExpert i (wordN c xn) (wordE c i xe) (wordP c i xe) = 1#1) (hc1 : k0_cond2 i (wordN c xn) = 1#1)
    (x0 : Vec F S4x2x1024x128 .bf16) (x1 x2 : Vec F S1x1x1024x512 .f32) (x3 : Vec F S1x1x512x1024 .f32) (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ tabPt c tabE xe ∗ tabPt c tabN xn
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (outBlk (rowsIn x0) (k0_pay1 x1) (k0_pay2 x2) (k0_pay3 x3)) ∗ owns (c : Thread nD τ) arg8 fullShare (k0_pay1 x1) ∗ owns (c : Thread nD τ) arg9 fullShare (k0_pay2 x2) ∗ owns (c : Thread nD τ) arg10 fullShare (k0_pay3 x3) ∗ tabPt c tabE xe ∗ tabPt c tabN xn) -∗ K ⟨⟩))
          ⊢ wp frame (wpE (defs₀ (F := F)) Variants.none c none) E (cc0_moe_experts i tabE htabE tabN htabN arg3 harg3 arg4 harg4 arg5 harg5 arg6 harg6 arg7 harg7 arg8 harg8 arg9 harg9 arg10 harg10) K := by
    simp only [cc0_moe_experts_eq_skeleton]; unfold cc0_moe_experts_skel
    simp only [k0_part1_eq_skeleton, k0_part2_eq_skeleton]; unfold k0_part1_skel k0_part2_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, HT0, HT1, Hk⟩
    obtain rfl := harg3.eq_unread hf0; obtain rfl := harg4.eq_unread hf1; obtain rfl := harg5.eq_unread hf2; obtain rfl := harg6.eq_unread hf3
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; swap; · iexact H4
      ipureintro
      unfold expertsRunA.sl.v44 expertsRunA.sl.v51 expertsRunA.sl.v55 expertsRunA.sl.H5_1 expertsRunA.sl.H6_1 expertsRunA.sl.H7_1 expertsRunA.sl.v16 expertsRunA.sl.v22 expertsRunA.sl.v28
      rw [View.readCov_full, View.readCov_full, View.readCov_full, View.readAt_full, View.readAt_full, View.readAt_full, harg4.read_unread, harg5.read_unread, harg6.read_unread]
      simp only [View.readAt_eq_ld, harg3.read_unread]
      exact View.read_writes_eq_canon _ _ (outPieces (rowsIn x0) (k0_pay1 x1) (k0_pay2 x2) (k0_pay3 x3)) (outPieces_cover _ _ _ _)
    isplitl [H5]
    · iexists _; isplitr; swap; · iexact H5
      ipureintro
      unfold expertsRunA.sl.H5_1 expertsRunA.sl.v16
      rw [View.read_writes_full, View.readAt_full, harg4.read_unread]
    isplitl [H6]
    · iexists _; isplitr; swap; · iexact H6
      ipureintro
      unfold expertsRunA.sl.H6_1 expertsRunA.sl.v22
      rw [View.read_writes_full, View.readAt_full, harg5.read_unread]
    isplitl [H7]
    · iexists _; isplitr; swap; · iexact H7
      ipureintro
      unfold expertsRunA.sl.H7_1 expertsRunA.sl.v28
      rw [View.read_writes_full, View.readAt_full, harg6.read_unread]
    isplitl [HT0]; · iexact HT0
    iexact HT1

set_option maxHeartbeats 1000000 in
/-- The body at a tile in use with the expert of the tile before: it is computed from the weights already taken. -/
theorem expertsRunB (c : Dev nD) (i : grid0.Coords) (arg3 : Memref sig .tc .vmem S4x2x1024x128 .bf16) (harg3 : arg3.IsWhole) (arg4 : Memref sig .tc .vmem S1x1x1024x512 .f32) (harg4 : arg4.IsWhole) (arg5 : Memref sig .tc .vmem S1x1x1024x512 .f32) (harg5 : arg5.IsWhole) (arg6 : Memref sig .tc .vmem S1x1x512x1024 .f32) (harg6 : arg6.IsWhole) (arg7 : Memref sig .tc .vmem S4x2x1024x128 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S512x1024 .bf16) (harg10 : arg10.IsWhole)
    (xe : TabBuf (F := F) c tabE) (xn : TabBuf (F := F) c tabN) (hc0 : ¬newExpert i (wordN c xn) (wordE c i xe) (wordP c i xe) = 1#1) (hc1 : k0_cond2 i (wordN c xn) = 1#1)
    (x0 : Vec F S4x2x1024x128 .bf16) (x1 x2 : Vec F S1x1x1024x512 .f32) (x3 : Vec F S1x1x512x1024 .f32) (s0 s1 : Vec F S1024x512 .bf16) (s2 : Vec F S512x1024 .bf16) (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare s0 ∗ owns (c : Thread nD τ) arg9 fullShare s1 ∗ owns (c : Thread nD τ) arg10 fullShare s2 ∗ tabPt c tabE xe ∗ tabPt c tabN xn
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (outBlk (rowsIn x0) s0 s1 s2) ∗ owns (c : Thread nD τ) arg8 fullShare s0 ∗ owns (c : Thread nD τ) arg9 fullShare s1 ∗ owns (c : Thread nD τ) arg10 fullShare s2 ∗ tabPt c tabE xe ∗ tabPt c tabN xn) -∗ K ⟨⟩))
          ⊢ wp frame (wpE (defs₀ (F := F)) Variants.none c none) E (cc0_moe_experts i tabE htabE tabN htabN arg3 harg3 arg4 harg4 arg5 harg5 arg6 harg6 arg7 harg7 arg8 harg8 arg9 harg9 arg10 harg10) K := by
    simp only [cc0_moe_experts_eq_skeleton]; unfold cc0_moe_experts_skel
    simp only [k0_part1_eq_skeleton, k0_part2_eq_skeleton]; unfold k0_part1_skel k0_part2_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, HT0, HT1, Hk⟩
    obtain rfl := harg3.eq_unread hf0; obtain rfl := harg4.eq_unread hf1; obtain rfl := harg5.eq_unread hf2; obtain rfl := harg6.eq_unread hf3; obtain rfl := harg8.eq_unread hf5; obtain rfl := harg9.eq_unread hf6; obtain rfl := harg10.eq_unread hf7
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; swap; · iexact H4
      ipureintro
      rw [View.readAt_full, View.readAt_full, View.readAt_full, harg8.read_unread, harg9.read_unread, harg10.read_unread]
      simp only [View.readAt_eq_ld, harg3.read_unread]
      exact View.read_writes_eq_canon _ _ (outPieces (rowsIn x0) s0 s1 s2) (outPieces_cover _ _ _ _)
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [HT0]; · iexact HT0
    iexact HT1

set_option maxHeartbeats 1000000 in
/-- The body at a tile not in use: nothing is written. -/
theorem expertsRunC (c : Dev nD) (i : grid0.Coords) (arg3 : Memref sig .tc .vmem S4x2x1024x128 .bf16) (harg3 : arg3.IsWhole) (arg4 : Memref sig .tc .vmem S1x1x1024x512 .f32) (harg4 : arg4.IsWhole) (arg5 : Memref sig .tc .vmem S1x1x1024x512 .f32) (harg5 : arg5.IsWhole) (arg6 : Memref sig .tc .vmem S1x1x512x1024 .f32) (harg6 : arg6.IsWhole) (arg7 : Memref sig .tc .vmem S4x2x1024x128 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S512x1024 .bf16) (harg10 : arg10.IsWhole)
    (xe : TabBuf (F := F) c tabE) (xn : TabBuf (F := F) c tabN) (hc0 : ¬newExpert i (wordN c xn) (wordE c i xe) (wordP c i xe) = 1#1) (hc1 : ¬k0_cond2 i (wordN c xn) = 1#1)
    (x0 : Vec F S4x2x1024x128 .bf16) (x1 x2 : Vec F S1x1x1024x512 .f32) (x3 : Vec F S1x1x512x1024 .f32) (x4 : Vec F S4x2x1024x128 .bf16) (s0 s1 : Vec F S1024x512 .bf16) (s2 : Vec F S512x1024 .bf16) (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare s0 ∗ owns (c : Thread nD τ) arg9 fullShare s1 ∗ owns (c : Thread nD τ) arg10 fullShare s2 ∗ tabPt c tabE xe ∗ tabPt c tabN xn
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare s0 ∗ owns (c : Thread nD τ) arg9 fullShare s1 ∗ owns (c : Thread nD τ) arg10 fullShare s2 ∗ tabPt c tabE xe ∗ tabPt c tabN xn) -∗ K ⟨⟩))
          ⊢ wp frame (wpE (defs₀ (F := F)) Variants.none c none) E (cc0_moe_experts i tabE htabE tabN htabN arg3 harg3 arg4 harg4 arg5 harg5 arg6 harg6 arg7 harg7 arg8 harg8 arg9 harg9 arg10 harg10) K := by
    simp only [cc0_moe_experts_eq_skeleton]; unfold cc0_moe_experts_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, HT0, HT1, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [HT0]; · iexact HT0
    iexact HT1

end Cert.Kernel3Ideal.Run

end
-- ==== Proof.SecondExperts.SecondTables.lean ====
module

public import proofs.«01_k».proof.Proof.SecondExperts.SecondRun
public import Idealize.ShloMosaic.Lib.PairWhole

@[expose] public section

set_option maxRecDepth 16384

noncomputable section

namespace Cert.Kernel3Ideal.Run

open Idealize.ShloMosaic Idealize.ShloMosaic.TcCoe Idealize.ShloMosaic.Tactic
open Idealize.ShloMosaic.Pipeline (Dat Cfg Window BodyObligation cellOf)
open Cert.Kernel3Ideal.Gen

variable {F : FTy → Type} [FloatOps F]

/-- The words the tables hold: the number of tiles in use, and the expert of tile `i`. -/
def num (v : pre0.Contents (Elt F)) : BitVec 32 := v.at 1 (Rect.unit (s := S1) ![0] S1.size inb_S1_S1_0) numel1_S1
def expert (v : pre0.Contents (Elt F)) (i : grid0.Coords) : BitVec 32 :=
  v.at 0 (Rect.unit (s := S48) (k0_off1 i) S1.size (k0_off1_inb i)) numel1_S1

/-- The tables are in range: at least one tile is in use and at most all, and every expert is one of the sixteen. -/
structure InRange (v : pre0.Contents (Elt F)) : Prop where
  pos : 1 ≤ (num v).toNat
  le : (num v).toNat ≤ 48
  tile : ∀ i, (expert v i).toNat < 16

theorem min_word : ∀ i n : Fin 48, (Scalar.minsi (BitVec.ofNat 32 i.val) (Scalar.subi (BitVec.ofNat 32 (n.val + 1)) 1#32)).toNat = min i.val n.val := by
  decide +kernel
theorem lt_word : ∀ (i : Fin 48) (n : Fin 49), (Scalar.cmpi .ne (Scalar.extui (Scalar.cmpi .slt (BitVec.ofNat 32 i.val) (BitVec.ofNat 32 n.val)) : BitVec 32) 0#32) = 1#1 ↔ i.val < n.val := by
  decide +kernel
theorem new_word : ∀ (i : Fin 48) (n : Fin 49) (b : Bool), (Scalar.cmpi .ne (Scalar.extui (Scalar.andi (Scalar.cmpi .slt (BitVec.ofNat 32 i.val) (BitVec.ofNat 32 n.val))
    (Scalar.ori (Scalar.cmpi .eq (BitVec.ofNat 32 i.val) 0#32) (BitVec.ofBool b))) : BitVec 32) 0#32) = 1#1 ↔ i.val < n.val ∧ (i.val = 0 ∨ b = true) := by
  decide +kernel

theorem coord_lt (i : grid0.Coords) : (i 0).val < 48 := (i 0).isLt

/-- The row block of tile `i`: its own while in use, the last one in use after that. -/
theorem map0 (v : pre0.Contents (Elt F)) (h : InRange v) (i : grid0.Coords) :
    cc0_transform_0 inb_S1_S1_0 numel1_S1 v i = ![0, 0, min (i 0).val ((num v).toNat - 1), 0] := by
  have hp := h.pos; have hl := h.le
  have e := min_word ⟨(i 0).val, coord_lt i⟩ ⟨(num v).toNat - 1, by omega⟩
  simp only at e
  rw [Nat.sub_add_cancel hp, BitVec.ofNat_toNat, BitVec.setWidth_eq] at e
  rw [← e]; rfl
theorem map4 (v : pre0.Contents (Elt F)) (h : InRange v) (i : grid0.Coords) :
    cc0_transform_4 inb_S1_S1_0 numel1_S1 v i = ![0, 0, min (i 0).val ((num v).toNat - 1), 0] :=
  (show cc0_transform_4 inb_S1_S1_0 numel1_S1 v i = cc0_transform_0 inb_S1_S1_0 numel1_S1 v i from rfl).trans (map0 v h i)
theorem map1 (v : pre0.Contents (Elt F)) (i : grid0.Coords) :
    cc0_transform_1 k0_off1_inb numel1_S1 v i = ![1, (expert v i).toNat, 0, 0] := rfl
theorem map2 (v : pre0.Contents (Elt F)) (i : grid0.Coords) :
    cc0_transform_2 k0_off1_inb numel1_S1 v i = ![1, (expert v i).toNat, 0, 0] := rfl
theorem map3 (v : pre0.Contents (Elt F)) (i : grid0.Coords) :
    cc0_transform_3 k0_off1_inb numel1_S1 v i = ![1, (expert v i).toNat, 0, 0] := rfl

/-- Whether tile `i` is in use. -/
theorem used_iff (v : pre0.Contents (Elt F)) (h : InRange v) (i : grid0.Coords) : k0_cond2 i (num v) = 1#1 ↔ (i 0).val < (num v).toNat := by
  have hl := h.le
  have e := lt_word ⟨(i 0).val, coord_lt i⟩ ⟨(num v).toNat, by omega⟩
  simp only at e
  rw [BitVec.ofNat_toNat, BitVec.setWidth_eq] at e
  exact e
/-- Whether new weights are taken at tile `i`. -/
theorem new_iff (v : pre0.Contents (Elt F)) (h : InRange v) (i : grid0.Coords) (e p : BitVec 32) :
    newExpert i (num v) e p = 1#1 ↔ (i 0).val < (num v).toNat ∧ ((i 0).val = 0 ∨ e ≠ p) := by
  have hl := h.le
  have q := new_word ⟨(i 0).val, coord_lt i⟩ ⟨(num v).toNat, by omega⟩ (e != p)
  simp only at q
  rw [BitVec.ofNat_toNat, BitVec.setWidth_eq, bne_iff_ne] at q
  exact q

/-- Every block the tables name lies inside its array. -/
theorem ok_of_inRange (v : pre0.Contents (Elt F)) (h : InRange v) : ok0 v := by
  have hp := h.pos; have hl := h.le
  have hb : ∀ (i : grid0.Coords) (off : Fin 4 → ℕ) (_ : off = ![0, 0, min (i 0).val ((num v).toNat - 1), 0]),
      ∃ hh : (∀ a, (off a + 1) * S4x2x1024x128.size a ≤ S4x2x49152x128.size a),
        EltTy.bits .bf16 = 32 ∨ (Rect.block (s := S4x2x49152x128) S4x2x1024x128.size off hh).WholeWords (EltTy.packing .bf16) := by
    rintro i off rfl
    refine ⟨fun a => ?_, Or.inr (.inl (Rect.packedRows_of_rowAxis _ _ (by decide) ?_ ?_ rfl))⟩
    · have := coord_lt i
      fin_cases a
      · exact Nat.le_refl 4
      · exact Nat.le_refl 2
      · show (min (i 0).val ((num v).toNat - 1) + 1) * 1024 ≤ 49152
        omega
      · exact Nat.le_refl 128
    · exact ⟨min (i 0).val ((num v).toNat - 1) * 512, by show min (i 0).val ((num v).toNat - 1) * 1024 = 2 * _; omega⟩
    · exact ⟨512, rfl⟩
  refine ⟨fun i => hb i _ (map0 v h i), fun i => ?_, fun i => ?_, fun i => ?_, fun i => hb i _ (map4 v h i)⟩
  · refine ⟨fun a => ?_, Or.inl rfl⟩
    rw [map1]; have := h.tile i
    fin_cases a
    · exact (by decide : (1 + 1) * 1 ≤ 2)
    · show ((expert v i).toNat + 1) * 1 ≤ 16; omega
    · exact Nat.le_refl 1024
    · exact Nat.le_refl 512
  · refine ⟨fun a => ?_, Or.inl rfl⟩
    rw [map2]; have := h.tile i
    fin_cases a
    · exact (by decide : (1 + 1) * 1 ≤ 2)
    · show ((expert v i).toNat + 1) * 1 ≤ 16; omega
    · exact Nat.le_refl 1024
    · exact Nat.le_refl 512
  · refine ⟨fun a => ?_, Or.inl rfl⟩
    rw [map3]; have := h.tile i
    fin_cases a
    · exact (by decide : (1 + 1) * 1 ≤ 2)
    · show ((expert v i).toNat + 1) * 1 ≤ 16; omega
    · exact Nat.le_refl 512
    · exact Nat.le_refl 1024

/-- The words as the body reads them. -/
theorem wordN_eq (c : Dev nD) (v : pre0.Contents (Elt F)) : wordN c (v 1) = num v := rfl
theorem wordE_eq (c : Dev nD) (v : pre0.Contents (Elt F)) (i : grid0.Coords) : wordE c i (v 0) = expert v i := rfl
theorem atD_num (v : pre0.Contents (Elt F)) : v.atD 1 ![0] = num v := by
  unfold Pipeline.Prefetch.Contents.atD
  have h : ∀ a : Fin (pre0.ref 1).ty.shape.rank, (![0] : Fin 1 → ℕ) a + 1 ≤ (pre0.ref 1).ty.shape.size a := fun (a : Fin 1) => match a with
    | ⟨0, _⟩ => Nat.le_refl 1
  rw [dif_pos h]; rfl

theorem coords_val (t : Fin grid0.N) : (grid0.coords t 0).val = t.val := by
  have ht : t.val < 48 := lt_of_lt_of_eq t.isLt N_0
  have e : (grid0.coords t 0).val = t.val / 1 % 48 := Pipeline.Grid.coords_val t 0 (by decide) rfl
  omega

/-- The tile before. -/
def prev (t : Fin grid0.N) : Fin grid0.N := ⟨t.val - 1, lt_of_le_of_lt (Nat.sub_le _ _) t.isLt⟩
theorem wordP_eq (c : Dev nD) (v : pre0.Contents (Elt F)) (t : Fin grid0.N) (ht : t.val ≠ 0) :
    wordP c (grid0.coords t) (v 0) = expert v (grid0.coords (prev t)) := by
  have hx : ∀ i : Fin 48, i.val ≠ 0 → (Scalar.maxsi (Scalar.subi (BitVec.ofNat 32 i.val) 1#32) 0#32).toNat = (BitVec.ofNat 32 (i.val - 1)).toNat := by decide +kernel
  have e : k0_off2 (grid0.coords t) = k0_off1 (grid0.coords (prev t)) := by
    have := hx ⟨t.val, lt_of_lt_of_eq t.isLt N_0⟩ ht
    unfold k0_off2 k0_off1
    simp only [coords_val, prev, Scalar.indexCast]
    exact congrArg (fun n => ![n]) this
  unfold wordP expert Pipeline.Prefetch.Contents.at
  exact congrArg (v 0) (funext fun a => Fin.ext (congrFun (congrArg (fun (o : Fin 1 → ℕ) => fun a : Fin 1 => o a + 1 * 0) e) a))

end Cert.Kernel3Ideal.Run

end
-- ==== Proof.SecondExperts.SecondDat.lean ====
module

public import proofs.«01_k».proof.Proof.SecondExperts.SecondTables
public import Idealize.ShloMosaic.Lib.Pipeline.RegionArraysTS
public import Idealize.ShloMosaic.Lib.Pipeline.TableIdle

@[expose] public section

set_option maxRecDepth 16384

noncomputable section

namespace Cert.Kernel3Ideal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen

variable {F : FTy → Type} [FloatOps F]

local notation "𝕄" => MT nD τ sig Unit (Elt F) ℕ (UR sig nD τ) ℕ

variable (a : (pcfg0 (F := F)).Adm) (W : Dev nD → Valuation τ sig (Elt F))

/-- What each window's block at point `t` holds of its array, the buffers being at `W` when the call starts. -/
def blk0 (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (W c (Proc.devRef .tc (Pipeline.arrRef spec0 w)))

/-- The weights of the expert of tile `t`, as the scratch buffers hold them. -/
def gate0 (c : Dev nD) (t : Fin (cfg0 a).N) : Vec F S1024x512 .bf16 := k0_pay1 (blk0 a W c 1 t)
def up0 (c : Dev nD) (t : Fin (cfg0 a).N) : Vec F S1024x512 .bf16 := k0_pay2 (blk0 a W c 2 t)
def down0 (c : Dev nD) (t : Fin (cfg0 a).N) : Vec F S512x1024 .bf16 := k0_pay3 (blk0 a W c 3 t)

/-- The block computed at tile `t`. -/
def tileOut (c : Dev nD) (t : Fin (cfg0 a).N) : Vec F S4x2x1024x128 .bf16 :=
  outBlk (rowsIn (blk0 a W c 0 t)) (gate0 a W c t) (up0 a W c t) (down0 a W c t)

/-- The tile the output's buffer holds after point `t`: its own, or the last one in use. -/
def lastUsed (t : Fin (cfg0 a).N) : Fin (cfg0 a).N := ⟨min t.val ((num a.1).toNat - 1), lt_of_le_of_lt (Nat.min_le_left _ _) t.isLt⟩

/-- The point before position `s`. -/
def before (s : Fin ((cfg0 a).N + 1)) : Fin (cfg0 a).N := ⟨s.val - 1, by
  have hN : (cfg0 a).N = 48 := N_0
  have := s.isLt; omega⟩

abbrev scrA : Memref sig .tc .vmem S1024x512 .bf16 := Memref.whole cc0_scratch0
abbrev scrB : Memref sig .tc .vmem S1024x512 .bf16 := Memref.whole cc0_scratch1
abbrev scrC : Memref sig .tc .vmem S512x1024 .bf16 := Memref.whole cc0_scratch2

/-- The scratch buffers at position `s`: after a tile in use they hold the weights of its expert. -/
def scratch (c : Dev nD) (s : Fin ((cfg0 a).N + 1)) : sProp 𝕄 :=
  iprop(∃ d0, ∃ d1, ∃ d2, ⌜0 < s.val ∧ s.val ≤ (num a.1).toNat → d0 = gate0 a W c (before a s) ∧ d1 = up0 a W c (before a s) ∧ d2 = down0 a W c (before a s)⌝
    ∗ owns (c : Thread nD τ) scrA fullShare d0 ∗ owns (c : Thread nD τ) scrB fullShare d1 ∗ owns (c : Thread nD τ) scrC fullShare d2)

/-- The call's proof data: the arrays at `W`; after the body each input's block in place and the output's at the last tile
    computed; the scratch buffers between points; the tables held whole. -/
def dat0 (c : Dev nD) : Dat τ (Elt F) Unit ℕ (UR sig nD τ) ℕ (cfg0 a) c where
  A w := W c (Proc.devRef .tc (Pipeline.arrRef spec0 w))
  after w t := match w with
    | ⟨0, _⟩ => blk0 a W c 0 t
    | ⟨1, _⟩ => blk0 a W c 1 t
    | ⟨2, _⟩ => blk0 a W c 2 t
    | ⟨3, _⟩ => blk0 a W c 3 t
    | ⟨4, _⟩ => tileOut a W c (lastUsed a t)
  Φ s := iprop(scratch a W c s ∗ Pipeline.prefHeld pre0 c (fun _ => fullShare) a.1)
  q _ := fullShare
  owed _ := 0

theorem dat0_A (c : Dev nD) (w : Fin (cfg0 a).W) : (dat0 a W c).A w = W c (Proc.devRef .tc (Pipeline.arrRef spec0 w)) := by dsimp only [dat0]
theorem after0_0 (c : Dev nD) (t : Fin (cfg0 a).N) : (dat0 a W c).after 0 t = blk0 a W c 0 t := by dsimp only [dat0]; try rfl
theorem after0_1 (c : Dev nD) (t : Fin (cfg0 a).N) : (dat0 a W c).after 1 t = blk0 a W c 1 t := by dsimp only [dat0]; try rfl
theorem after0_2 (c : Dev nD) (t : Fin (cfg0 a).N) : (dat0 a W c).after 2 t = blk0 a W c 2 t := by dsimp only [dat0]; try rfl
theorem after0_3 (c : Dev nD) (t : Fin (cfg0 a).N) : (dat0 a W c).after 3 t = blk0 a W c 3 t := by dsimp only [dat0]; try rfl
theorem after0_4 (c : Dev nD) (t : Fin (cfg0 a).N) : (dat0 a W c).after 4 t = tileOut a W c (lastUsed a t) := by dsimp only [dat0]; try rfl

theorem before0_0 (c : Dev nD) (t : Fin (cfg0 a).N) (d) : (dat0 a W c).before 0 t d = blk0 a W c 0 t :=
  ((dat0 a W c).before_in_eq_fetched 0 rfl (fun _ => rfl) (fun _ _ _ => rfl)
    (fun t => by rw [after0_0]; unfold Dat.blockOf blk0; rw [dat0_A]; try rfl) t d).trans
    (by unfold Dat.fetched Dat.blockOf blk0; rw [dat0_A]; try rfl)
theorem before0_1 (c : Dev nD) (t : Fin (cfg0 a).N) (d) : (dat0 a W c).before 1 t d = blk0 a W c 1 t :=
  ((dat0 a W c).before_in_eq_fetched 1 rfl (fun _ => rfl) (fun _ _ _ => rfl)
    (fun t => by rw [after0_1]; unfold Dat.blockOf blk0; rw [dat0_A]; try rfl) t d).trans
    (by unfold Dat.fetched Dat.blockOf blk0; rw [dat0_A]; try rfl)
theorem before0_2 (c : Dev nD) (t : Fin (cfg0 a).N) (d) : (dat0 a W c).before 2 t d = blk0 a W c 2 t :=
  ((dat0 a W c).before_in_eq_fetched 2 rfl (fun _ => rfl) (fun _ _ _ => rfl)
    (fun t => by rw [after0_2]; unfold Dat.blockOf blk0; rw [dat0_A]; try rfl) t d).trans
    (by unfold Dat.fetched Dat.blockOf blk0; rw [dat0_A]; try rfl)
theorem before0_3 (c : Dev nD) (t : Fin (cfg0 a).N) (d) : (dat0 a W c).before 3 t d = blk0 a W c 3 t :=
  ((dat0 a W c).before_in_eq_fetched 3 rfl (fun _ => rfl) (fun _ _ _ => rfl)
    (fun t => by rw [after0_3]; unfold Dat.blockOf blk0; rw [dat0_A]; try rfl) t d).trans
    (by unfold Dat.fetched Dat.blockOf blk0; rw [dat0_A]; try rfl)

/-- Two points whose tiles have one expert read the same weights. -/
theorem fetched_eq (c : Dev nD) (w : Fin (cfg0 a).W) (t t' : Fin (cfg0 a).N) (h : ((cfg0 a).win w).index t = ((cfg0 a).win w).index t') (d) :
    (dat0 a W c).fetched w t d = (dat0 a W c).fetched w t' d := (dat0 a W c).fetched_congr w h rfl d
theorem blk1_eq (c : Dev nD) (t t' : Fin (cfg0 a).N) (h : expert a.1 (grid0.coords t) = expert a.1 (grid0.coords t')) : blk0 a W c 1 t = blk0 a W c 1 t' := by
  have e := fetched_eq a W c 1 t t' (by show cc0_transform_1 k0_off1_inb numel1_S1 a.1 _ = cc0_transform_1 k0_off1_inb numel1_S1 a.1 _; rw [map1, map1, h]) (blk0 a W c 1 t)
  unfold Dat.fetched Dat.blockOf at e; rw [dat0_A] at e; exact e
theorem blk2_eq (c : Dev nD) (t t' : Fin (cfg0 a).N) (h : expert a.1 (grid0.coords t) = expert a.1 (grid0.coords t')) : blk0 a W c 2 t = blk0 a W c 2 t' := by
  have e := fetched_eq a W c 2 t t' (by show cc0_transform_2 k0_off1_inb numel1_S1 a.1 _ = cc0_transform_2 k0_off1_inb numel1_S1 a.1 _; rw [map2, map2, h]) (blk0 a W c 2 t)
  unfold Dat.fetched Dat.blockOf at e; rw [dat0_A] at e; exact e
theorem blk3_eq (c : Dev nD) (t t' : Fin (cfg0 a).N) (h : expert a.1 (grid0.coords t) = expert a.1 (grid0.coords t')) : blk0 a W c 3 t = blk0 a W c 3 t' := by
  have e := fetched_eq a W c 3 t t' (by show cc0_transform_3 k0_off1_inb numel1_S1 a.1 _ = cc0_transform_3 k0_off1_inb numel1_S1 a.1 _; rw [map3, map3, h]) (blk0 a W c 3 t)
  unfold Dat.fetched Dat.blockOf at e; rw [dat0_A] at e; exact e

variable (hr : InRange a.1)
include hr

theorem idle4 (t : Fin (cfg0 a).N) : (cfg0 a).idle 4 (grid0.coords t) = false ↔ t.val < (num a.1).toNat := by
  have e : (cfg0 a).idle 4 (grid0.coords t) = !(k0_cond2 (grid0.coords t) (a.1.atD 1 ![0]) == 1#1) := rfl
  rw [e, atD_num, Bool.not_eq_false', beq_iff_eq, used_iff a.1 hr, coords_val]
theorem flush4 (t : Fin (cfg0 a).N) (h : (num a.1).toNat ≤ t.val + 1) (h1 : t.val + 1 < 48) : ((cfg0 a).win 4).flush t = false := by
  have hN : (cfg0 a).N = 48 := N_0
  have hp := hr.pos
  have hi : ∀ t : Fin (cfg0 a).N, ((cfg0 a).win 4).index t = ![0, 0, min t.val ((num a.1).toNat - 1), 0] := fun t => by
    show cc0_transform_4 inb_S1_S1_0 numel1_S1 a.1 (grid0.coords t) = _
    rw [map4 a.1 hr, coords_val]
  unfold Pipeline.Window.flush
  rw [Bool.and_eq_false_iff]; right
  rw [Bool.or_eq_false_iff]; constructor
  · exact decide_eq_false (by show ¬ t.val + 1 = grid0.N; rw [N_0]; omega)
  · refine decide_eq_false ?_
    rintro ⟨h2, h3⟩
    refine h3 ?_
    rw [hi, hi]
    have : min (t.val + 1) ((num a.1).toNat - 1) = min t.val ((num a.1).toNat - 1) := by omega
    show (![0, 0, min (t.val + 1) _, 0] : Fin 4 → ℕ) = _
    rw [this]
/-- A buffer past the tiles in use holds the last of them. -/
theorem fresh4 : ∀ n : ℕ, (num a.1).toNat ≤ n → n < 48 → (cfg0 a).fresh 4 n = false
  | 0, h, _ => absurd hr.pos (by omega)
  | n + 1, h, h1 => by
    have hN : n < (cfg0 a).N := by
      have hN : (cfg0 a).N = 48 := N_0
      omega
    rw [(cfg0 a).fresh_succ 4 n hN, flush4 a hr ⟨n, hN⟩ h h1, Bool.false_or]
    by_cases hn : (num a.1).toNat ≤ n
    · rw [fresh4 n hn (by omega), Bool.and_false]
    · rw [show (cfg0 a).idle 4 ((cfg0 a).grid.coords ⟨n, hN⟩) = false from (idle4 a hr ⟨n, hN⟩).mpr (by show n < _; omega), Bool.false_and]
theorem before0_4 (c : Dev nD) (t : Fin (cfg0 a).N) (h : (num a.1).toNat ≤ t.val) (d) :
    (dat0 a W c).before 4 t d = tileOut a W c (lastUsed a t) := by
  have hN : (cfg0 a).N = 48 := N_0
  have hp := hr.pos
  have hlast : ∀ t : Fin (cfg0 a).N, (num a.1).toNat ≤ t.val → lastUsed a t = lastUsed a ⟨t.val - 1, by omega⟩ := fun t h =>
    Fin.ext (by show min t.val _ = min (t.val - 1) _; omega)
  rw [(dat0 a W c).before_out_traj 4 rfl (fun _ _ => rfl) (fun t h0 hi _ => by
    have : ¬ t.val < (num a.1).toNat := fun h => by rw [(idle4 a hr t).mpr h] at hi; exact Bool.false_ne_true hi
    rw [after0_4, after0_4, hlast t (by omega)]) t.val t rfl d, fresh4 a hr t.val h (by omega), if_neg Bool.false_ne_true, after0_4, hlast t h]

abbrev stg0_0 (t : Fin (cfg0 a).N) : Memref sig .tc .vmem S4x2x1024x128 .bf16 := spec0_0.stage ((cfg0 a).slots t 0)
abbrev stg0_1 (t : Fin (cfg0 a).N) : Memref sig .tc .vmem S1x1x1024x512 .f32 := spec0_1.stage ((cfg0 a).slots t 1)
abbrev stg0_2 (t : Fin (cfg0 a).N) : Memref sig .tc .vmem S1x1x1024x512 .f32 := spec0_2.stage ((cfg0 a).slots t 2)
abbrev stg0_3 (t : Fin (cfg0 a).N) : Memref sig .tc .vmem S1x1x512x1024 .f32 := spec0_3.stage ((cfg0 a).slots t 3)
abbrev stg0_4 (t : Fin (cfg0 a).N) : Memref sig .tc .vmem S4x2x1024x128 .bf16 := spec0_4.stage ((cfg0 a).slots t 4)

theorem leaves0_4 (c : Dev nD) (t : Fin (cfg0 a).N) :
    owns (c : Thread nD τ) (stg0_4 a t) fullShare (tileOut a W c (lastUsed a t)) ⊢ ((dat0 a W c).leavesExact 4 t : sProp 𝕄) := by
  by_cases h : t.val < (num a.1).toNat
  · unfold Dat.leavesExact; rw [(idle4 a hr t).mpr h, after0_4]; exact .rfl
  · unfold Dat.leavesExact
    cases (cfg0 a).idle 4 ((cfg0 a).grid.coords t)
    · simp only [after0_4]; exact .rfl
    · cases ((cfg0 a).win 4).flush t
      · simp only [before0_4 a W hr c t (by omega)]
        iintro H; iexists tileOut a W c (lastUsed a t); iexact H
      · simp only [after0_4]; exact .rfl
omit hr

/-- The body at point `t`, on the staging buffers it is handed. -/
abbrev body0At (t : Fin (cfg0 a).N) : Prog (TpuEff nD τ sig (Elt F) Λ₀ .tc) PUnit :=
  cc0_moe_experts (grid0.coords t) tabE htabE tabN htabN (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) scrA (Memref.isWhole_whole _) scrB (Memref.isWhole_whole _) scrC (Memref.isWhole_whole _)

def body0Pre (c : Dev nD) (t : Fin (cfg0 a).N) : sProp 𝕄 :=
  iprop((dat0 a W c).Φ t.castSucc ∗ (dat0 a W c).owesAt () t.castSucc
    ∗ (∃ d, owns (c : Thread nD τ) (stg0_0 a t) fullShare ((dat0 a W c).before 0 t d))
    ∗ (∃ d, owns (c : Thread nD τ) (stg0_1 a t) fullShare ((dat0 a W c).before 1 t d))
    ∗ (∃ d, owns (c : Thread nD τ) (stg0_2 a t) fullShare ((dat0 a W c).before 2 t d))
    ∗ (∃ d, owns (c : Thread nD τ) (stg0_3 a t) fullShare ((dat0 a W c).before 3 t d))
    ∗ (∃ d, owns (c : Thread nD τ) (stg0_4 a t) fullShare ((dat0 a W c).before 4 t d)))

def body0Post (c : Dev nD) (t : Fin (cfg0 a).N) : sProp 𝕄 :=
  iprop((dat0 a W c).Φ t.succ ∗ (dat0 a W c).owesAt () t.succ
    ∗ owns (c : Thread nD τ) (stg0_0 a t) fullShare ((dat0 a W c).after 0 t)
    ∗ owns (c : Thread nD τ) (stg0_1 a t) fullShare ((dat0 a W c).after 1 t)
    ∗ owns (c : Thread nD τ) (stg0_2 a t) fullShare ((dat0 a W c).after 2 t)
    ∗ owns (c : Thread nD τ) (stg0_3 a t) fullShare ((dat0 a W c).after 3 t)
    ∗ (dat0 a W c).leavesExact 4 t)

theorem tables0_eq (c : Dev nD) (v : pre0.Contents (Elt F)) :
    (Pipeline.prefHeld pre0 c (fun _ => fullShare) v : sProp 𝕄) = iprop(tabPt c tabE (v 0) ∗ tabPt c tabN (v 1)) := by
  unfold Pipeline.prefHeld
  rw [show (Finset.univ : Finset (Fin 2)) = insert (0 : Fin 2) {(1 : Fin 2)} from by decide, bigSep_insert (by decide), bigSep_singleton]
  rfl
theorem Φ_eq (c : Dev nD) (s : Fin ((cfg0 a).N + 1)) : (dat0 a W c).Φ s = iprop(scratch a W c s ∗ tabPt c tabE (a.1 0) ∗ tabPt c tabN (a.1 1)) := by
  rw [← tables0_eq]; rfl
theorem before_succ (t : Fin (cfg0 a).N) : before a t.succ = t := Fin.ext (by show t.val + 1 - 1 = t.val; omega)
theorem before_castSucc (t : Fin (cfg0 a).N) : before a t.castSucc = prev t := rfl
theorem lastUsed_eq (t : Fin (cfg0 a).N) (h : t.val < (num a.1).toNat) : lastUsed a t = t := Fin.ext (by show min t.val _ = t.val; omega)

set_option maxHeartbeats 1600000 in
theorem body0_sound (c : Dev nD) (hr : InRange a.1) (t : Fin (cfg0 a).N) :
    body0Pre a W c t ⊢ wp frame (wpE (defs₀ (F := F)) Variants.none c none) Set.univ (body0At a t) (fun _ => body0Post a W c t) := by
  unfold body0Pre body0Post body0At
  simp only [before0_0, before0_1, before0_2, before0_3]
  rw [show (dat0 a W c).owesAt () t.succ = (dat0 a W c).owesAt () t.castSucc from rfl, after0_0, after0_1, after0_2, after0_3, Φ_eq, Φ_eq]
  unfold scratch
  rw [before_succ, before_castSucc]
  by_cases hu : t.val < (num a.1).toNat
  · have hc1 : k0_cond2 (grid0.coords t) (wordN c (a.1 1)) = 1#1 := (used_iff a.1 hr _).mpr (by rw [coords_val]; exact hu)
    by_cases hn : newExpert (grid0.coords t) (wordN c (a.1 1)) (wordE c (grid0.coords t) (a.1 0)) (wordP c (grid0.coords t) (a.1 0)) = 1#1
    · iintro ⟨⟨⟨%s0, %s1, %s2, %hs, HA, HB, HC⟩, ⟨HT0, HT1⟩⟩, Ho, ⟨%d0, H0⟩, ⟨%d1, H1⟩, ⟨%d2, H2⟩, ⟨%d3, H3⟩, ⟨%d4, H4⟩⟩
      iapply ((expertsRunA c (grid0.coords t) _ _ _ _ _ _ _ _ _ _ _ _ _ _ _ _ (a.1 0) (a.1 1) hn hc1 (blk0 a W c 0 t) (blk0 a W c 1 t) (blk0 a W c 2 t) (blk0 a W c 3 t)) Set.univ _)
      isplitl [H0]; · iexact H0
      isplitl [H1]; · iexact H1
      isplitl [H2]; · iexact H2
      isplitl [H3]; · iexact H3
      isplitl [H4]; · iexists _; iexact H4
      isplitl [HA]; · iexists _; iexact HA
      isplitl [HB]; · iexists _; iexact HB
      isplitl [HC]; · iexists _; iexact HC
      isplitl [HT0]; · iexact HT0
      isplitl [HT1]; · iexact HT1
      iintro ⟨H0, H1, H2, H3, H4, HA, HB, HC, HT0, HT1⟩
      isplitl [HA HB HC HT0 HT1]
      · isplitl [HA HB HC]
        · iexists _; iexists _; iexists _
          isplitr; · ipureintro; exact fun _ => ⟨rfl, rfl, rfl⟩
          isplitl [HA]; · iexact HA
          isplitl [HB]; · iexact HB
          iexact HC
        isplitl [HT0]; · iexact HT0
        iexact HT1
      isplitl [Ho]; · iexact Ho
      isplitl [H0]; · iexact H0
      isplitl [H1]; · iexact H1
      isplitl [H2]; · iexact H2
      isplitl [H3]; · iexact H3
      iapply (leaves0_4 a W hr c t)
      rw [lastUsed_eq a t hu]
      iexact H4
    · have h2 := fun h => hn ((new_iff a.1 hr (grid0.coords t) (wordE c (grid0.coords t) (a.1 0)) (wordP c (grid0.coords t) (a.1 0))).mpr h)
      rw [coords_val] at h2
      have ht : t.val ≠ 0 := fun h => h2 ⟨hu, .inl h⟩
      have he : expert a.1 (grid0.coords (prev t)) = expert a.1 (grid0.coords t) := by
        rw [← wordP_eq c a.1 t ht, ← wordE_eq c a.1 (grid0.coords t)]
        by_contra hne; exact h2 ⟨hu, .inr fun e => hne e.symm⟩
      have hg : gate0 a W c (prev t) = gate0 a W c t := by unfold gate0; rw [blk1_eq a W c _ _ he]
      have hup : up0 a W c (prev t) = up0 a W c t := by unfold up0; rw [blk2_eq a W c _ _ he]
      have hd : down0 a W c (prev t) = down0 a W c t := by unfold down0; rw [blk3_eq a W c _ _ he]
      rw [hg, hup, hd]
      iintro ⟨⟨⟨%s0, %s1, %s2, %hs, HA, HB, HC⟩, ⟨HT0, HT1⟩⟩, Ho, ⟨%d0, H0⟩, ⟨%d1, H1⟩, ⟨%d2, H2⟩, ⟨%d3, H3⟩, ⟨%d4, H4⟩⟩
      have hs' := hs ⟨Nat.pos_of_ne_zero ht, Nat.le_of_lt hu⟩
      obtain ⟨rfl, rfl, rfl⟩ := hs'
      iapply ((expertsRunB c (grid0.coords t) _ _ _ _ _ _ _ _ _ _ _ _ _ _ _ _ (a.1 0) (a.1 1) hn hc1 (blk0 a W c 0 t) (blk0 a W c 1 t) (blk0 a W c 2 t) (blk0 a W c 3 t) (gate0 a W c t) (up0 a W c t) (down0 a W c t)) Set.univ _)
      isplitl [H0]; · iexact H0
      isplitl [H1]; · iexact H1
      isplitl [H2]; · iexact H2
      isplitl [H3]; · iexact H3
      isplitl [H4]; · iexists _; iexact H4
      isplitl [HA]; · iexact HA
      isplitl [HB]; · iexact HB
      isplitl [HC]; · iexact HC
      isplitl [HT0]; · iexact HT0
      isplitl [HT1]; · iexact HT1
      iintro ⟨H0, H1, H2, H3, H4, HA, HB, HC, HT0, HT1⟩
      isplitl [HA HB HC HT0 HT1]
      · isplitl [HA HB HC]
        · iexists _; iexists _; iexists _
          isplitr; · ipureintro; exact fun _ => ⟨rfl, rfl, rfl⟩
          isplitl [HA]; · iexact HA
          isplitl [HB]; · iexact HB
          iexact HC
        isplitl [HT0]; · iexact HT0
        iexact HT1
      isplitl [Ho]; · iexact Ho
      isplitl [H0]; · iexact H0
      isplitl [H1]; · iexact H1
      isplitl [H2]; · iexact H2
      isplitl [H3]; · iexact H3
      iapply (leaves0_4 a W hr c t)
      rw [lastUsed_eq a t hu]
      iexact H4
  · have hc1 : ¬ k0_cond2 (grid0.coords t) (wordN c (a.1 1)) = 1#1 := fun h => hu (by have := (used_iff a.1 hr _).mp h; rwa [coords_val] at this)
    have hn : ¬ newExpert (grid0.coords t) (wordN c (a.1 1)) (wordE c (grid0.coords t) (a.1 0)) (wordP c (grid0.coords t) (a.1 0)) = 1#1 := fun h =>
      hu (by have := ((new_iff a.1 hr (grid0.coords t) _ _).mp h).1; rwa [coords_val] at this)
    simp only [before0_4 a W hr c t (Nat.le_of_not_lt hu)]
    iintro ⟨⟨⟨%s0, %s1, %s2, %hs, HA, HB, HC⟩, ⟨HT0, HT1⟩⟩, Ho, ⟨%d0, H0⟩, ⟨%d1, H1⟩, ⟨%d2, H2⟩, ⟨%d3, H3⟩, ⟨%d4, H4⟩⟩
    iapply ((expertsRunC c (grid0.coords t) _ _ _ _ _ _ _ _ _ _ _ _ _ _ _ _ (a.1 0) (a.1 1) hn hc1 (blk0 a W c 0 t) (blk0 a W c 1 t) (blk0 a W c 2 t) (blk0 a W c 3 t) (tileOut a W c (lastUsed a t)) s0 s1 s2) Set.univ _)
    isplitl [H0]; · iexact H0
    isplitl [H1]; · iexact H1
    isplitl [H2]; · iexact H2
    isplitl [H3]; · iexact H3
    isplitl [H4]; · iexact H4
    isplitl [HA]; · iexact HA
    isplitl [HB]; · iexact HB
    isplitl [HC]; · iexact HC
    isplitl [HT0]; · iexact HT0
    isplitl [HT1]; · iexact HT1
    iintro ⟨H0, H1, H2, H3, H4, HA, HB, HC, HT0, HT1⟩
    isplitl [HA HB HC HT0 HT1]
    · isplitl [HA HB HC]
      · iexists s0; iexists s1; iexists s2
        isplitr; · ipureintro; exact fun h => absurd h.2 (by show ¬ t.val + 1 ≤ _; omega)
        isplitl [HA]; · iexact HA
        isplitl [HB]; · iexact HB
        iexact HC
      isplitl [HT0]; · iexact HT0
      iexact HT1
    isplitl [Ho]; · iexact Ho
    isplitl [H0]; · iexact H0
    isplitl [H1]; · iexact H1
    isplitl [H2]; · iexact H2
    isplitl [H3]; · iexact H3
    iapply (leaves0_4 a W hr c t)
    iexact H4

theorem body0_row (t : Fin (cfg0 a).N) :
    defs₀ (F := F) .tc (cfg0 a).body ((cfg0 a).bodyArgs t ((cfg0 a).slots t)) = body0At a t := by
  unfold defs₀; rw [Defs.onTc_tc]

theorem body0_obligation (hr : InRange a.1) (c : Dev nD) : BodyObligation (dat0 a W c) (defs₀ (F := F)) Variants.none () Set.univ := fun t => by
  rw [bigSep_W0, bigSep_W0, body0_row a]
  exact triple_restated (body0_sound a W c hr t) rfl .rfl fun _ => .rfl

/-- What the call begins and ends with beside its arrays. -/
theorem phi_in (c : Dev nD) : iprop(iprop(Pipeline.scopedRest spec0 c ∗ BI.emp) ∗ Pipeline.prefHeld pre0 c (fun _ => fullShare) a.1) ⊢ ((dat0 a W c).Φ 0 : sProp 𝕄) := by
  rw [Φ_eq, tables0_eq, scopedRest0_eq]
  unfold scratch
  simp only [owns_whole]
  iintro ⟨⟨⟨⟨%f0, HA⟩, ⟨%f1, HB⟩, ⟨%f2, HC⟩⟩, -⟩, ⟨HT0, HT1⟩⟩
  isplitl [HA HB HC]
  · iexists f0; iexists f1; iexists f2
    isplitr; · ipureintro; exact fun h => absurd h.1 (Nat.lt_irrefl 0)
    isplitl [HA]; · iexact HA
    isplitl [HB]; · iexact HB
    iexact HC
  isplitl [HT0]; · iexact HT0
  iexact HT1
theorem phi_out (c : Dev nD) : ((dat0 a W c).Φ (Fin.last (cfg0 a).N) : sProp 𝕄) ⊢ iprop(iprop(Pipeline.scopedRest spec0 c ∗ BI.emp) ∗ Pipeline.prefHeld pre0 c (fun _ => fullShare) a.1) := by
  rw [Φ_eq, tables0_eq, scopedRest0_eq]
  unfold scratch
  simp only [owns_whole]
  iintro ⟨⟨%s0, %s1, %s2, -, HA, HB, HC⟩, ⟨HT0, HT1⟩⟩
  isplitl [HA HB HC]
  · isplitl [HA HB HC]
    · isplitl [HA]; · iexists s0; iexact HA
      isplitl [HB]; · iexists s1; iexact HB
      iexists s2; iexact HC
    iempintro
  isplitl [HT0]; · iexact HT0
  iexact HT1

end Cert.Kernel3Ideal.Run

end
-- ==== Proof.SecondExperts.SecondWhole.lean ====
module

public import proofs.«01_k».proof.Proof.SecondExperts.SecondDat
public import proofs.«01_k».proof.Proof.Experts.ExpertsPre
public import proofs.«01_k».proof.Proof.Gen.Kernel3Ideal.Launch
public import Idealize.ShloMosaic.Lib.Pipeline.Regions
public import Idealize.ShloMosaic.Lib.Pipeline.FrameSuffix
public import Idealize.ShloMosaic.Lib.StableHlo.RunRead

@[expose] public section

set_option maxRecDepth 16384

noncomputable section

namespace Cert.Kernel3Ideal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hostOps0_fresh : (hostOps0 : List (HloOp τ sig (Elt F))).Forall fun op => op.fresh = ∅ := by
  simp only [List.Forall]; repeat' constructor
/-- The buffer each host operation before the call writes, in order. -/
abbrev hostOps0_W : List (Ref sig .tc) := [main_v0, main_v1, main_v2, main_v3, main_v4, main_v5, main_c, main_v6, main_v7, main_v8, main_v9]
theorem hostOps0_writes : (hostOps0 : List (HloOp τ sig (Elt F))).Forall fun op => op.writes ⊆ (hostOps0_W.map (Proc.devRef (τ := τ) .tc)).toFinset :=
  StableHlo.forall_writes_sub_of_map rfl
theorem hostOps1_fresh : (hostOps1 : List (HloOp τ sig (Elt F))).Forall fun op => op.fresh = ∅ := by
  simp only [List.Forall]; repeat' constructor
/-- The buffer each host operation after the call writes, in order. -/
abbrev hostOps1_W : List (Ref sig .tc) := [main_v11, main_v12, main_v13, main_cst, main_v14, main_v15]
theorem hostOps1_writes : (hostOps1 : List (HloOp τ sig (Elt F))).Forall fun op => op.writes ⊆ (hostOps1_W.map (Proc.devRef (τ := τ) .tc)).toFinset :=
  StableHlo.forall_writes_sub_of_map rfl
theorem regions_no_unscoped : ∀ sm : SemLoc sig, sm.isScoped .tc = true := by decide

/-- The tables the call runs at: the second and third arguments. -/
def tables : pre0.Contents (Elt F) := fun
  | 0 => m ((0 : Dev nD), Proc.devRef .tc main_arg1)
  | 1 => m ((0 : Dev nD), Proc.devRef .tc main_arg2)

theorem inRange_of_words (h : Cert.Proof.Words (tables m 0) (tables m 1)) : InRange (tables m) :=
  ⟨h.pos _, h.le _, fun _ => h.tile _⟩

variable (hr : InRange (tables m))

def adm : (p : Fin 1) → (pcfgs (F := F) p).Adm
  | 0 => ⟨tables m, ok_of_inRange _ hr⟩

/-- The buffers after the host's first operations, after the call and at the end. -/
abbrev W1 (c : Dev nD) : Valuation τ sig (Elt F) := StableHlo.after hostOps0 (fun b => m (c, b))
def W2 (c : Dev nD) : Valuation τ sig (Elt F) := Pipeline.afterRegion (dat0 (adm m hr 0) (W1 m) c) (W1 m c)
abbrev W3 (c : Dev nD) : Valuation τ sig (Elt F) := StableHlo.after hostOps1 (W2 m hr c)

def pdats : (p : Fin 1) → (c : Dev nD) → Dat τ (Elt F) Unit ℕ (UR sig nD τ) ℕ (Pipeline.pin (pcfgs (F := F)) (adm m hr) p) c
  | 0 => fun c => dat0 (adm m hr 0) (W1 m) c

/-- Every semaphore of a TensorCore may be waited on; nothing is owed. -/
def lvls : GSem nD τ sig → Finset Unit := fun g => if g.1.2 = .tc then Finset.univ else ∅
def lv0 : GSem nD τ sig → Unit → ℕ := fun _ _ => 0
def dues : Dev nD → CellTallies nD τ sig Unit := fun _ => 0

theorem cut (p : Fin 1) : Pipeline.LevelCut (pcfgs (F := F)) (adm m hr) () lvls lv0 p dues (fun _ => 0) where
  hι _ _ _ := by unfold lvls; rw [if_pos rfl]; exact Finset.mem_univ _
  hιb _ _ _ := Nat.le_refl 0
  hD _ _ _ h := absurd h (Nat.lt_irrefl 0)

theorem W1_of (c : Dev nD) (r : Ref sig .tc) (h : r ∉ hostOps0_W) : W1 m c (Proc.devRef .tc r) = m (c, Proc.devRef .tc r) :=
  StableHlo.after_of_writes_sub (hostOps0 (F := F)) _ hostOps0_writes h
theorem W1_table (c : Dev nD) : ∀ k, (adm m hr 0).1 k = W1 m c (Proc.devRef .tc ((pcfgs (F := F) 0).pre.ref k))
  | 0 => by
    obtain rfl : c = 0 := Subsingleton.elim _ _
    exact (W1_of m 0 main_arg1 (by decide)).symm
  | 1 => by
    obtain rfl : c = 0 := Subsingleton.elim _ _
    exact (W1_of m 0 main_arg2 (by decide)).symm
theorem W2_of (c : Dev nD) (r : Ref sig .tc) (h : ∀ w, r ≠ Pipeline.arrRef spec0 w) : W2 m hr c r = W1 m c r := by
  unfold W2; exact Pipeline.afterRegion_of_not_arr _ _ h

theorem arrs_in (p : Fin 1) : Pipeline.arrRefs (τ := τ) (pcfgs (F := F) p).spec ⊆ Pipeline.ucRefs τ sig :=
  Pipeline.arrRefs_sub_ucRefs _ (match p with | 0 => winFacts0.arr_unscoped)
theorem tbls_in (p : Fin 1) : Pipeline.tblRefs (τ := τ) (pcfgs (F := F) p).pre ⊆ Pipeline.ucRefs τ sig :=
  Pipeline.tblRefs_sub_ucRefs _ (match p with | 0 => preFacts0.unscoped)

/-- The call: its tables read and left as they are, its scratch buffers carried from point to point. -/
def reg0 : RegionSeg (pcfgs (F := F)) (adm m hr) (pdats m hr) () defs₀ Variants.none lvls lv0 0 :=
  RegionSeg.ofHeldInT (pcfgs (F := F)) (adm m hr) (pdats m hr) () defs₀ Variants.none lvls lv0 0 dues (Pipeline.ucRefs τ sig)
    (fun _ => BI.emp) (fun _ => BI.emp) launch0 (fun c => (body0_obligation (adm m hr 0) (W1 m) hr c).loose) (fun _ _ => rfl) (fun _ => rfl)
    (fun c => (dat0 (adm m hr 0) (W1 m) c).share_full fun _ => rfl) (fun c => phi_in (adm m hr 0) (W1 m) c) (fun c => phi_out (adm m hr 0) (W1 m) c)
    (fun _ => 0) (cut m hr 0) (fun _ => BI.emp)
    (W1 m) (fun _ _ => rfl) (W1_table m hr)

/-- What rides beside the buffers between two stages. -/
def rest (c : Dev nD) : sProp 𝕄 := iprop(∃ Wd, owes (c : Thread nD τ) (0 : CellTallies nD τ sig Unit) Wd)

theorem rest_in (c : Dev nD) (V : Valuation τ sig (Elt F)) : (iprop(StableHlo.held (c : Thread nD τ) (Pipeline.ucRefs τ sig) V ∗ rest (F := F) c) : sProp 𝕄)
    ⊢ iprop(StableHlo.held (c : Thread nD τ) (Pipeline.ucRefs τ sig) V ∗ ((∃ Wd, owes (c : Thread nD τ) (dues c) Wd) ∗ BI.emp ∗ BI.emp)) := by
  unfold rest; iintro ⟨H, Hw⟩
  isplitl [H]; · iexact H
  isplitl [Hw]; · iexact Hw
  isplitl []; · iempintro
  iempintro
theorem rest_out (c : Dev nD) (V : Valuation τ sig (Elt F)) :
    (iprop(StableHlo.held (c : Thread nD τ) (Pipeline.ucRefs τ sig) V ∗ ((∃ Wd, owes (c : Thread nD τ) (dues c) Wd) ∗ BI.emp ∗ BI.emp)) : sProp 𝕄)
    ⊢ iprop(StableHlo.held (c : Thread nD τ) (Pipeline.ucRefs τ sig) V ∗ rest (F := F) c) := by
  unfold rest; iintro ⟨H, Hw, -, -⟩
  isplitl [H]; · iexact H
  iexact Hw
theorem pre0 (c : Dev nD) : iprop(StableHlo.held (c : Thread nD τ) (Pipeline.ucRefs τ sig) (W1 m c) ∗ rest (F := F) c) ⊢ (reg0 m hr).pre c :=
  by
  refine (rest_in c _).trans ?_
  unfold reg0
  exact Pipeline.RegionSeg.ofHeldInT_pre (pcs := pcfgs (F := F)) (a := adm m hr) (pdats := pdats m hr) (ι := ()) (defs₀ := defs₀)
    (𝒱₀ := Variants.none) (L := lvls) (lv := lv0) (p := 0) (D := dues) (S := Pipeline.ucRefs τ sig) (arrs_in (F := F) 0) (tbls_in (F := F) 0)
    (X := fun _ => BI.emp) (Y := fun _ => BI.emp) (R := fun _ => BI.emp) (W := W1 m) c
theorem post0 (c : Dev nD) : (reg0 m hr).post c ⊢ iprop(StableHlo.held (c : Thread nD τ) (Pipeline.ucRefs τ sig) (W2 m hr c) ∗ rest (F := F) c) :=
  (Pipeline.RegionSeg.ofHeldInT_post (arrs_in 0) (tbls_in 0) c).trans (rest_out c _)

def host0 : HostSeg (Ix := Unit) (Name := ℕ) (U := UR sig nD τ) (Lvl := ℕ) (pcfgs (F := F)) defs₀ Variants.none lvls lv0 :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (fun c b => m (c, b)) rest
def host1 : HostSeg (Ix := Unit) (Name := ℕ) (U := UR sig nD τ) (Lvl := ℕ) (pcfgs (F := F)) defs₀ Variants.none lvls lv0 :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W2 m hr) rest

abbrev parts (_ : Dev nD) : List (Seg (pcfgs (F := F)) (adm m hr) (pdats m hr) () defs₀ Variants.none lvls lv0) :=
  [.host (host0 m), .region (reg0 m hr), .host (host1 m hr)]

def tok0 : UR sig nD τ := initOf (Pipeline.cells (Pipeline.pin (pcfgs (F := F)) (adm m hr)) (cellOf_inj (adm m hr)))
  (Pipeline.launchToks (Pipeline.pin (pcfgs (F := F)) (adm m hr)) (cellOf_inj (adm m hr)))

theorem sep_elim_W3 (c : Dev nD) : (iprop(StableHlo.held (c : Thread nD τ) (Pipeline.ucRefs τ sig) (W3 m hr c) ∗ rest (F := F) c) : sProp 𝕄)
    ⊢ iprop(StableHlo.held (c : Thread nD τ) (Pipeline.ucRefs τ sig) (W3 m hr c) ∗ rest (F := F) c) := .rfl

include hr in
set_option backward.isDefEq.respectTransparency.types false in
/-- The whole program runs to the end with every buffer at `W3` and every counter at zero. -/
theorem run : θ_run defs (onTc (τ := τ) (main (F := F))) ⟨m, fun _ => 0, ρ⟩ (fun r =>
    (∀ c : Dev nD, ∀ b ∈ Pipeline.ucRefs τ sig, r.2.mem ((c : Thread nD τ).1, b) = W3 m hr c b) ∧ r.2.sem = fun _ => 0) := by
  refine Pipeline.θ_run_regions_kit_dev_sems (pcfgs (F := F)) (adm m hr) (pdats m hr) () (cellOf_inj (adm m hr)) emb₁ defs₀ Variants.none lvls lv0 m ρ main
    (parts m hr)
    (fun c Q => by
      rewrite [main_chain c, Seg.run_eq_chain,
        show (parts m hr c).map Seg.prog = [
          StableHlo.seq hostOps0,
          Prog.lift (.customCall (Pipeline.entry 0) ()),
          StableHlo.seq hostOps1 ] from rfl]
      dsimp (config := { failIfUnchanged := false }) only
      exact .rfl)
    (fun c => by simp only [parts, Seg.pipes_host, Seg.pipes_region, Seg.pipes_nil]; decide) dues
    (fun g h => by unfold lvls; rw [if_neg h]) (fun _ => BI.emp) (tok0 m hr) ?_
    (T₀ := fun c => iprop(StableHlo.held (c : Thread nD τ) (Pipeline.ucRefs τ sig) (fun b => m (c, b)) ∗ rest (F := F) c))
    (Tₙ := fun c => StableHlo.held (c : Thread nD τ) (Pipeline.ucRefs τ sig) (W3 m hr c))
    (hch := fun c => ⟨.rfl, pre0 m hr c, post0 m hr c, sep_elim_W3 m hr c⟩)
    (hinit := ?_) (QY := fun c s => ∀ b ∈ Pipeline.ucRefs τ sig, s.mem ((c : Thread nD τ).1, b) = W3 m hr c b)
    (hfin := fun c s' => ?_) (hQ := fun _ h hz => ⟨h, funext fun g => hz g (.inr (regions_no_unscoped g.2))⟩)
  · iintro Hu; imodintro
    isplitl [Hu]
    · iapply (show (ownU _ : sProp 𝕄) ⊢ BI.own (emb₁ (tok0 m hr)) from .rfl); iexact Hu
    · iapply (show (BI.emp : sProp 𝕄) ⊢ bigSep Finset.univ (fun _ : Dev nD => (BI.emp : sProp 𝕄)) from by rw [BI.bigSep_emp_const]); iempintro
  · have h : (bigSep Finset.univ fun c : Dev nD => iprop(unscopedBufs c (fun b => m ((c.tc : Thread nD τ).loc b)) ∗ unscopedSems0 c
          ∗ owes (c.tc : Thread nD τ) (dues c) ∅ ∗ Pipeline.launchCred dues c ∗ prngReg c (ρ c) ∗ BI.emp))
        ⊢ (bigSep Finset.univ fun c : Dev nD => iprop(StableHlo.held (c : Thread nD τ) (Pipeline.ucRefs τ sig) (fun b => m (c, b)) ∗ rest (F := F) c) : sProp 𝕄) := by
      refine bigSep_mono fun c _ => ?_
      show (_ : sProp 𝕄) ⊢ _
      rw [← Pipeline.unscopedBufs_held (Ix := Unit) (Name := ℕ) (U := UR sig nD τ) (Lvl := ℕ) c (fun b => m (c, b))]
      unfold rest
      iintro ⟨H, -, Hw, -, -, -⟩
      isplitl [H]; · iexact H
      iexists ∅; iexact Hw
    iintro ⟨H, -⟩
    imodintro
    iapply h; iexact H
  · unfold StableHlo.held
    iintro ⟨Hh, HSI⟩
    ihave Hr := (pointsTo_read_all (Pipeline.ucRefs τ sig) (fun b => ((c : Thread nD τ).1, b)) (W3 m hr c) s') $$ [Hh HSI]
    · isplitl [Hh] <;> iassumption
    icases Hr with ⟨%h, HSI⟩
    imodintro; isplitr
    · ipureintro; exact h
    · iexact HSI

/-- A buffer no host operation writes and the call does not write back ends as it started. -/
theorem W3_kept (c : Dev nD) (r : Ref sig .tc) (h2 : r ∉ hostOps1_W) (h1 : ∀ w, r ≠ Pipeline.arrRef spec0 w) (h0 : r ∉ hostOps0_W) :
    W3 m hr c (Proc.devRef .tc r) = m (c, Proc.devRef .tc r) :=
  (StableHlo.after_of_writes_sub hostOps1 _ hostOps1_writes h2).trans
    ((W2_of m hr c r h1).trans (W1_of m c r h0))

/-- The same for an array the call only reads. -/
theorem W3_read (c : Dev nD) (w : Fin 5) (hw : (pcfg0.win (adm m hr 0) w).isOut = false) (h2 : Pipeline.arrRef spec0 w ∉ hostOps1_W) (h0 : Pipeline.arrRef spec0 w ∉ hostOps0_W) :
    W3 m hr c (Proc.devRef .tc (Pipeline.arrRef spec0 w)) = m (c, Proc.devRef .tc (Pipeline.arrRef spec0 w)) := by
  refine (StableHlo.after_of_writes_sub hostOps1 _ hostOps1_writes h2).trans (Eq.trans ?_ (W1_of m c _ h0))
  unfold W2
  exact (Pipeline.afterRegion_arr (dat0 (adm m hr 0) (W1 m) c) (W1 m c) winFacts0.arr_inj w).trans ((dat0 (adm m hr 0) (W1 m) c).arrAt_in w hw _)

include hr in
/-- The run, read at the arguments. -/
theorem run_args : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
    ⟨(h.1 c _ (Finset.mem_filter.mpr ⟨StableHlo.devRef_mem_tcRefs main_arg0, by decide⟩)).trans
        (W3_kept m hr c main_arg0 (by decide) (by decide) (by decide)),
      (h.1 c _ (Finset.mem_filter.mpr ⟨StableHlo.devRef_mem_tcRefs main_arg1, by decide⟩)).trans
        (W3_kept m hr c main_arg1 (by decide) (by decide) (by decide)),
      (h.1 c _ (Finset.mem_filter.mpr ⟨StableHlo.devRef_mem_tcRefs main_arg2, by decide⟩)).trans
        (W3_kept m hr c main_arg2 (by decide) (by decide) (by decide)),
      (h.1 c _ (Finset.mem_filter.mpr ⟨StableHlo.devRef_mem_tcRefs main_arg3, by decide⟩)).trans
        (W3_read m hr c 1 rfl (by decide) (by decide)),
      (h.1 c _ (Finset.mem_filter.mpr ⟨StableHlo.devRef_mem_tcRefs main_arg4, by decide⟩)).trans
        (W3_read m hr c 2 rfl (by decide) (by decide)),
      (h.1 c _ (Finset.mem_filter.mpr ⟨StableHlo.devRef_mem_tcRefs main_arg5, by decide⟩)).trans
        (W3_read m hr c 3 rfl (by decide) (by decide))⟩, h.2⟩) (run m ρ hr)

end Cert.Kernel3Ideal.Run

end
-- ==== Proof.SecondExperts.SecondFrames.lean ====
/-
  The frames of the experts at the second layer: under the preconditions each program ends, faults nowhere, leaves its arguments
  as they were and every counter at zero.
-/
module

public import proofs.«01_k».proof.Defs
public import proofs.«01_k».proof.Proof.SecondExperts.SecondWhole
public import proofs.«01_k».proof.Proof.Gen.Reference3Ideal
public import proofs.«01_k».proof.Proof.Gen.Reference3Ideal.Run
public import Idealize.ShloMosaic.Lib.Quiescent

@[expose] public section

noncomputable section

namespace Cert.Proof.Second

open Idealize.ShloMosaic Idealize.SL.Sem

theorem frame_ideal3 : Cert.quiescent_Kernel3Ideal := fun m ρ h =>
  Cert.Kernel3Ideal.Run.run_args (F := Ideal) m ρ (Cert.Kernel3Ideal.Run.inRange_of_words m (words_of_tiles (F := Ideal) _ _ _ _ _ _ (h 0)))

theorem frame_ideal3_inputs : Cert.quiescent_Kernel3Ideal_pre_inputs_in_range := fun m ρ h =>
  Cert.Kernel3Ideal.Run.run_args (F := Ideal) m ρ (Cert.Kernel3Ideal.Run.inRange_of_words m (words_of_inputs (F := Ideal) _ _ _ _ _ _ (h 0)))

theorem frame_reference3 : Cert.quiescent_Reference3Ideal := fun m ρ _ =>
  (θ_run Cert.Reference3Ideal.defs _ _).mono (fun r h => ⟨fun c => (h c).2,
    Idealize.ShloMosaic.sem_eq_zero_of_no_sems (by decide) r.2⟩) (Cert.Reference3Ideal.Value.run (F := Ideal) m ρ)

theorem frame_reference3_inputs : Cert.quiescent_Reference3Ideal_pre_inputs_in_range := fun m ρ _ => frame_reference3 m ρ trivial

end Cert.Proof.Second

end
-- ==== Proof.SecondExperts.SecondPay.lean ====
/-
  What the experts' body computes from its blocks, element by element, over the reals.
-/
module

public import proofs.«01_k».proof.Proof.SecondExperts.SecondRun
public import Idealize.ShloMosaic.Lib.Pointwise
public import Idealize.ShloMosaic.Lib.Pipeline.Value

@[expose] public section

set_option maxRecDepth 16384

noncomputable section

namespace Cert.Kernel3Ideal.Run

open Idealize.ShloMosaic Idealize.ShloMosaic.TcCoe
open Cert.Kernel3Ideal.Gen

/-- The gate's activation as the kernel computes it: half of `x` plus half of `x` times its hyperbolic tangent. -/
def act (x : EReal) : EReal :=
  Ideal.ofBits .f32 0x3F000000#32 * x + Ideal.ofBits .f32 0x3F000000#32 * x * Ideal.tanh (Ideal.ofBits .f32 0x3F000000#32 * x)

/-- One element of an expert's output: of the row `h`, the gate's and the input's weights, and one column of the output's. -/
def ffnWith (s : EReal → EReal) (h : Fin 1024 → EReal) (wg wu : Fin 1024 → Fin 512 → EReal) (wd : Fin 512 → EReal) : EReal :=
  ∑ f : Fin 512, s (∑ k : Fin 1024, h k * wg k f) * (∑ k : Fin 1024, h k * wu k f) * wd f

theorem pay1_apply (x : Vec Ideal S1x1x1024x512 .f32) (k : Fin 1024) (f : Fin 512) : k0_pay1 (F := Ideal) x (ix2 k f) = x (ix4 0 0 k f) := by
  pointwise [k0_pay1]
theorem pay2_apply (x : Vec Ideal S1x1x1024x512 .f32) (k : Fin 1024) (f : Fin 512) : k0_pay2 (F := Ideal) x (ix2 k f) = x (ix4 0 0 k f) := by
  pointwise [k0_pay2]
theorem pay3_apply (x : Vec Ideal S1x1x512x1024 .f32) (f : Fin 512) (d : Fin 1024) : k0_pay3 (F := Ideal) x (ix2 f d) = x (ix4 0 0 f d) := by
  pointwise [k0_pay3]

theorem pay10_apply (h : FVec Ideal S1024x1024 .bf16) (w0 w1 : FVec Ideal S1024x512 .bf16) (w2 : FVec Ideal S512x1024 .bf16) (x d : Fin 1024) :
    k0_pay10 (F := Ideal) h w0 w1 w2 (ix2 x d)
      = ffnWith act (fun k => h (ix2 x k)) (fun k f => w0 (ix2 k f)) (fun k f => w1 (ix2 k f)) (fun f => w2 (ix2 f d)) := by
  pointwise [k0_pay10, ffnWith, act]

/-- The block's elements: piece `(j, p)` is the columns of the product from `512 p + 128 j` on. -/
def blkOf (Y : FVec Ideal S1024x1024 .f32) : Vec Ideal S4x2x1024x128 .bf16 := fun i =>
  Y (ix2 (i 2) ⟨512 * (i 1).val + 128 * (i 0).val + (i 3).val, by
    have h0 : (i 0).val < 4 := (i 0).isLt
    have h1 : (i 1).val < 2 := (i 1).isLt
    have h3 : (i 3).val < 128 := (i 3).isLt
    omega⟩)

theorem eq_piece (x : S1x1x1024x128.Idx) : x = ix4 0 0 (x 2) (x 3) := funext fun k => match k with
  | ⟨0, _⟩ => Subsingleton.elim (α := Fin 1) _ _
  | ⟨1, _⟩ => Subsingleton.elim (α := Fin 1) _ _
  | ⟨2, _⟩ => rfl
  | ⟨3, _⟩ => rfl
theorem pay4_apply (Y : FVec Ideal S1024x128 .bf16) (x : S1x1x1024x128.Idx) : k0_pay4 (F := Ideal) Y x = Y (ix2 (x 2) (x 3)) := by
  have hx : x = ix4 0 0 (x 2) (x 3) := eq_piece x
  rw [hx]; pointwise [k0_pay4]
theorem pay5_apply (Y : FVec Ideal S1024x1024 .f32) (x : S1x1x1024x128.Idx) :
    k0_pay5 (F := Ideal) Y x = Y (ix2 (x 2) ⟨256 + (x 3).val, by have h : (x 3).val < 128 := (x 3).isLt; omega⟩) := by
  have hx : x = ix4 0 0 (x 2) (x 3) := eq_piece x
  rw [hx]; pointwise [k0_pay5]
theorem pay6_apply (Y : FVec Ideal S1024x1024 .f32) (x : S1x1x1024x128.Idx) :
    k0_pay6 (F := Ideal) Y x = Y (ix2 (x 2) ⟨768 + (x 3).val, by have h : (x 3).val < 128 := (x 3).isLt; omega⟩) := by
  have hx : x = ix4 0 0 (x 2) (x 3) := eq_piece x
  rw [hx]; pointwise [k0_pay6]
theorem pay7_apply (Y : FVec Ideal S1024x1024 .f32) (x : S1x1x1024x128.Idx) :
    k0_pay7 (F := Ideal) Y x = Y (ix2 (x 2) ⟨384 + (x 3).val, by have h : (x 3).val < 128 := (x 3).isLt; omega⟩) := by
  have hx : x = ix4 0 0 (x 2) (x 3) := eq_piece x
  rw [hx]; pointwise [k0_pay7]
theorem pay8_apply (Y : FVec Ideal S1024x1024 .f32) (x : S1x1x1024x128.Idx) :
    k0_pay8 (F := Ideal) Y x = Y (ix2 (x 2) ⟨896 + (x 3).val, by have h : (x 3).val < 128 := (x 3).isLt; omega⟩) := by
  have hx : x = ix4 0 0 (x 2) (x 3) := eq_piece x
  rw [hx]; pointwise [k0_pay8]
theorem pay11_apply (h : FVec Ideal S1024x1024 .bf16) (w0 w1 : FVec Ideal S1024x512 .bf16) (w2 : FVec Ideal S512x1024 .bf16) (x : S1x1x1024x128.Idx) :
    k0_pay11 (F := Ideal) h w0 w1 w2 x = k0_pay10 (F := Ideal) h w0 w1 w2 (ix2 (x 2) ⟨0 + (x 3).val, by have h : (x 3).val < 128 := (x 3).isLt; omega⟩) := by
  have hx : x = ix4 0 0 (x 2) (x 3) := eq_piece x
  unfold k0_pay11
  generalize k0_pay10 (F := Ideal) h w0 w1 w2 = Y
  rw [hx]; pointwise
theorem pay12_apply (h : FVec Ideal S1024x1024 .bf16) (w0 w1 : FVec Ideal S1024x512 .bf16) (w2 : FVec Ideal S512x1024 .bf16) (x : S1x1x1024x128.Idx) :
    k0_pay12 (F := Ideal) h w0 w1 w2 x = k0_pay10 (F := Ideal) h w0 w1 w2 (ix2 (x 2) ⟨512 + (x 3).val, by have h : (x 3).val < 128 := (x 3).isLt; omega⟩) := by
  have hx : x = ix4 0 0 (x 2) (x 3) := eq_piece x
  unfold k0_pay12
  generalize k0_pay10 (F := Ideal) h w0 w1 w2 = Y
  rw [hx]; pointwise
theorem pay13_apply (h : FVec Ideal S1024x1024 .bf16) (w0 w1 : FVec Ideal S1024x512 .bf16) (w2 : FVec Ideal S512x1024 .bf16) (x : S1x1x1024x128.Idx) :
    k0_pay13 (F := Ideal) h w0 w1 w2 x = k0_pay10 (F := Ideal) h w0 w1 w2 (ix2 (x 2) ⟨128 + (x 3).val, by have h : (x 3).val < 128 := (x 3).isLt; omega⟩) := by
  have hx : x = ix4 0 0 (x 2) (x 3) := eq_piece x
  unfold k0_pay13
  generalize k0_pay10 (F := Ideal) h w0 w1 w2 = Y
  rw [hx]; pointwise
theorem pay14_apply (h : FVec Ideal S1024x1024 .bf16) (w0 w1 : FVec Ideal S1024x512 .bf16) (w2 : FVec Ideal S512x1024 .bf16) (r : Fin 1024) (q : Fin 128) :
    k0_pay14 (F := Ideal) h w0 w1 w2 (ix2 r q) = k0_pay10 (F := Ideal) h w0 w1 w2 (ix2 r ⟨640 + q.val, by omega⟩) := by
  unfold k0_pay14
  generalize k0_pay10 (F := Ideal) h w0 w1 w2 = Y
  pointwise

theorem outBlk_eq (h : FVec Ideal S1024x1024 .bf16) (w0 w1 : Vec Ideal S1024x512 .bf16) (w2 : Vec Ideal S512x1024 .bf16) :
    outBlk (F := Ideal) h w0 w1 w2 = blkOf (k0_pay10 (F := Ideal) h w0 w1 w2) := by
  funext y
  unfold outBlk
  refine View.canon_apply_of_pieces _ _ (fun p hp x => ?_) y (outPieces_cover h w0 w1 w2 y)
  have key : ∀ (Y : FVec Ideal S1024x1024 .f32) (a b : S1024x1024.Idx), (a 0).val = (b 0).val → (a 1).val = (b 1).val → Y a = Y b := fun Y a b h0 h1 =>
    congrArg Y (funext fun k => match k with | ⟨0, _⟩ => Fin.ext h0 | ⟨1, _⟩ => Fin.ext h1)
  unfold outPieces at hp
  simp only [List.mem_cons, List.not_mem_nil, or_false] at hp
  unfold blkOf
  rcases hp with rfl | rfl | rfl | rfl | rfl | rfl | rfl | rfl
  all_goals
    have x0 : (x 0).val = 0 := by have h : (x 0).val < 1 := (x 0).isLt; omega
    have x1 : (x 1).val = 0 := by have h : (x 1).val < 1 := (x 1).isLt; omega
  · refine (pay8_apply _ _).trans (key _ _ _ ?_ ?_)
    · show (x 2).val = 0 + 1 * (x 2).val; omega
    · show 896 + (x 3).val = 512 * (1 + 1 * (x 1).val) + 128 * (3 + 1 * (x 0).val) + (0 + 1 * (x 3).val); omega
  · refine (pay7_apply _ _).trans (key _ _ _ ?_ ?_)
    · show (x 2).val = 0 + 1 * (x 2).val; omega
    · show 384 + (x 3).val = 512 * (0 + 1 * (x 1).val) + 128 * (3 + 1 * (x 0).val) + (0 + 1 * (x 3).val); omega
  · refine (pay6_apply _ _).trans (key _ _ _ ?_ ?_)
    · show (x 2).val = 0 + 1 * (x 2).val; omega
    · show 768 + (x 3).val = 512 * (1 + 1 * (x 1).val) + 128 * (2 + 1 * (x 0).val) + (0 + 1 * (x 3).val); omega
  · refine (pay5_apply _ _).trans (key _ _ _ ?_ ?_)
    · show (x 2).val = 0 + 1 * (x 2).val; omega
    · show 256 + (x 3).val = 512 * (0 + 1 * (x 1).val) + 128 * (2 + 1 * (x 0).val) + (0 + 1 * (x 3).val); omega
  · refine (pay4_apply _ _).trans ((pay14_apply _ _ _ _ _ _).trans (key _ _ _ ?_ ?_))
    · show (x 2).val = 0 + 1 * (x 2).val; omega
    · show 640 + (x 3).val = 512 * (1 + 1 * (x 1).val) + 128 * (1 + 1 * (x 0).val) + (0 + 1 * (x 3).val); omega
  · refine (pay13_apply _ _ _ _ _).trans (key _ _ _ ?_ ?_)
    · show (x 2).val = 0 + 1 * (x 2).val; omega
    · show 128 + (x 3).val = 512 * (0 + 1 * (x 1).val) + 128 * (1 + 1 * (x 0).val) + (0 + 1 * (x 3).val); omega
  · refine (pay12_apply _ _ _ _ _).trans (key _ _ _ ?_ ?_)
    · show (x 2).val = 0 + 1 * (x 2).val; omega
    · show 512 + (x 3).val = 512 * (1 + 1 * (x 1).val) + 128 * (0 + 1 * (x 0).val) + (0 + 1 * (x 3).val); omega
  · refine (pay11_apply _ _ _ _ _).trans (key _ _ _ ?_ ?_)
    · show (x 2).val = 0 + 1 * (x 2).val; omega
    · show 0 + (x 3).val = 512 * (0 + 1 * (x 1).val) + 128 * (0 + 1 * (x 0).val) + (0 + 1 * (x 3).val); omega

/-- The rows of a tile: column `512 p + 128 j + q` is element `q` of piece `(j, p)`. -/
theorem rowsIn_apply (x : Vec Ideal S4x2x1024x128 .bf16) (r k : Fin 1024) :
    rowsIn (F := Ideal) x (ix2 r k) = x (ix4 ⟨k.val % 512 / 128, by omega⟩ ⟨k.val / 512, by omega⟩ r ⟨k.val % 128, by omega⟩) := by
  have key : ∀ (a a' : Fin 4) (b b' : Fin 2) (r r' : Fin 1024) (d d' : Fin 128), a.val = a'.val → b.val = b'.val → r.val = r'.val → d.val = d'.val →
      x (ix4 a b r d) = x (ix4 a' b' r' d') := by
    intro a a' b b' r r' d d' h₁ h₂ h₃ h₄
    rw [Fin.ext h₁, Fin.ext h₂, Fin.ext h₃, Fin.ext h₄]
  have hk := k.isLt
  unfold rowsIn
  pointwise [k0_pay9]
  split_ifs <;> apply key <;> first | rfl | skip
  all_goals simp only [Fin.val_zero, Fin.val_one, Fin.val_two, show ((3 : Fin 4).val) = 3 from rfl]
  all_goals omega

end Cert.Kernel3Ideal.Run

end
-- ==== Proof.SecondExperts.SecondValue.lean ====
/-
  What the experts' call leaves in its array, row by row of the tiles in use, over the reals.
-/
module

public import proofs.«01_k».proof.Proof.SecondExperts.SecondPay
public import proofs.«01_k».proof.Proof.SecondExperts.SecondDat
public import Idealize.ShloMosaic.Lib.Pipeline.ValueKit

@[expose] public section

set_option maxRecDepth 16384

noncomputable section

namespace Cert.Kernel3Ideal.Run

open Idealize.ShloMosaic Idealize.ShloMosaic.TcCoe
open Idealize.ShloMosaic.Pipeline (Dat Cfg Window)
open Cert.Kernel3Ideal.Gen

/-- Row `r` of the activations, as the array of pieces holds it: column `512 p + 128 j + q` is element `q` of piece `(j, p)`. -/
def pieceRow (Z : Vec Ideal S4x2x49152x128 .bf16) (r : Fin 49152) (k : Fin 1024) : EReal :=
  Z (ix4 ⟨k.val % 512 / 128, by omega⟩ ⟨k.val / 512, by omega⟩ r ⟨k.val % 128, by omega⟩)

/-- The column of a row that element `q` of piece `(j, p)` is. -/
def pieceCol (j : Fin 4) (p : Fin 2) (q : Fin 128) : Fin 1024 := ⟨512 * p.val + 128 * j.val + q.val, by omega⟩

/-- The output of the experts `e`, one per tile, as an array of pieces. -/
def expertArr (s : EReal → EReal) (e : Fin 48 → Fin 16) (Z : Vec Ideal S4x2x49152x128 .bf16) (A B : Vec Ideal S2x16x1024x512 .f32) (C : Vec Ideal S2x16x512x1024 .f32) :
    Vec Ideal S4x2x49152x128 .bf16 := fun i =>
  have hi : (i 2).val < 49152 := (i 2).isLt
  ffnWith s (pieceRow Z (i 2)) (fun k f => A (ix4 1 (e ⟨(i 2).val / 1024, by omega⟩) k f)) (fun k f => B (ix4 1 (e ⟨(i 2).val / 1024, by omega⟩) k f))
    (fun f => C (ix4 1 (e ⟨(i 2).val / 1024, by omega⟩) f (pieceCol (i 0) (i 1) (i 3))))

theorem ffnWith_congr (s : EReal → EReal) {h h' : Fin 1024 → EReal} {x x' y y' : Fin 1024 → Fin 512 → EReal} {z z' : Fin 512 → EReal}
    (h1 : h = h') (h2 : x = x') (h3 : y = y') (h4 : z = z') : ffnWith s h x y z = ffnWith s h' x' y' z' := by
  rw [h1, h2, h3, h4]

theorem expertArr_at (s : EReal → EReal) (e : Fin 48 → Fin 16) (Z : Vec Ideal S4x2x49152x128 .bf16) (A B : Vec Ideal S2x16x1024x512 .f32) (C : Vec Ideal S2x16x512x1024 .f32)
    (i : S4x2x49152x128.Idx) (j : Fin 4) (p : Fin 2) (t : Fin 48) (r : Fin 1024) (q : Fin 128) (h0 : (i 0).val = j.val) (h1 : (i 1).val = p.val)
    (h2 : (i 2).val = t.val * 1024 + r.val) (h3 : (i 3).val = q.val) :
    expertArr s e Z A B C i = ffnWith s (pieceRow Z ⟨t.val * 1024 + r.val, by omega⟩) (fun k f => A (ix4 1 (e t) k f)) (fun k f => B (ix4 1 (e t) k f))
      (fun f => C (ix4 1 (e t) f (pieceCol j p q))) := by
  have e0 : i 0 = j := Fin.ext h0
  have e1 : i 1 = p := Fin.ext h1
  have e2 : i 2 = (⟨t.val * 1024 + r.val, by omega⟩ : Fin 49152) := Fin.ext h2
  have e3 : i 3 = q := Fin.ext h3
  have et : ∀ h, (⟨(i 2).val / 1024, h⟩ : Fin 48) = t := fun h => Fin.ext (by show (i 2).val / 1024 = t.val; omega)
  unfold expertArr
  simp only [et]
  rw [e0, e1, e2, e3]

variable (a : (pcfg0 (F := Ideal)).Adm) (W : Dev nD → Valuation τ sig (Elt Ideal)) (hr : InRange a.1) (c : Dev nD)

/-- The expert of tile `t`. -/
def tileExpert (t : Fin (cfg0 a).N) : Fin 16 := ⟨(expert a.1 (grid0.coords t)).toNat, hr.tile _⟩

abbrev inA : Vec Ideal S4x2x49152x128 .bf16 := W c (Proc.devRef .tc main_v2)
abbrev wA : Vec Ideal S2x16x1024x512 .f32 := W c (Proc.devRef .tc main_arg3)
abbrev wB : Vec Ideal S2x16x1024x512 .f32 := W c (Proc.devRef .tc main_arg4)
abbrev wC : Vec Ideal S2x16x512x1024 .f32 := W c (Proc.devRef .tc main_arg5)

include hr in
theorem index0 (t : Fin (cfg0 a).N) : ((cfg0 a).win 0).index t = ![0, 0, min t.val ((num a.1).toNat - 1), 0] := by
  show cc0_transform_0 inb_S1_S1_0 numel1_S1 a.1 (grid0.coords t) = _
  rw [map0 a.1 hr, coords_val]
include hr in
theorem index4 (t : Fin (cfg0 a).N) : ((cfg0 a).win 4).index t = ![0, 0, min t.val ((num a.1).toNat - 1), 0] := by
  show cc0_transform_4 inb_S1_S1_0 numel1_S1 a.1 (grid0.coords t) = _
  rw [map4 a.1 hr, coords_val]
theorem index1 (t : Fin (cfg0 a).N) : ((cfg0 a).win 1).index t = ![1, (tileExpert a hr t).val, 0, 0] := rfl
theorem index2 (t : Fin (cfg0 a).N) : ((cfg0 a).win 2).index t = ![1, (tileExpert a hr t).val, 0, 0] := rfl
theorem index3 (t : Fin (cfg0 a).N) : ((cfg0 a).win 3).index t = ![1, (tileExpert a hr t).val, 0, 0] := rfl

theorem pt_lt (t : Fin (cfg0 a).N) : t.val < 48 := lt_of_lt_of_eq t.isLt N_0

include hr in
theorem blk0_0_apply (t : Fin (cfg0 a).N) (j : Fin 4) (p : Fin 2) (r : Fin 1024) (q : Fin 128) :
    blk0 a W c 0 t (ix4 j p r q) = inA W c (ix4 j p ⟨min t.val ((num a.1).toNat - 1) * 1024 + r.val, by have := pt_lt a t; omega⟩ q) := by
  unfold blk0
  have e := index0 a hr t
  blk_simp
  blk_ext [e]
theorem blk0_1_apply (t : Fin (cfg0 a).N) (k : Fin 1024) (f : Fin 512) :
    blk0 a W c 1 t (ix4 0 0 k f) = wA W c (ix4 1 (tileExpert a hr t) k f) := by
  unfold blk0
  have e := index1 a hr t
  blk_simp
  blk_ext [e]
theorem blk0_2_apply (t : Fin (cfg0 a).N) (k : Fin 1024) (f : Fin 512) :
    blk0 a W c 2 t (ix4 0 0 k f) = wB W c (ix4 1 (tileExpert a hr t) k f) := by
  unfold blk0
  have e := index2 a hr t
  blk_simp
  blk_ext [e]
theorem blk0_3_apply (t : Fin (cfg0 a).N) (f : Fin 512) (d : Fin 1024) :
    blk0 a W c 3 t (ix4 0 0 f d) = wC W c (ix4 1 (tileExpert a hr t) f d) := by
  unfold blk0
  have e := index3 a hr t
  blk_simp
  blk_ext [e]

/-- A tile's output at an element, of the arrays. -/
theorem tileOut_apply (t : Fin (cfg0 a).N) (i : S4x2x1024x128.Idx) : tileOut a W c t i
    = ffnWith act (pieceRow (inA W c) ⟨min t.val ((num a.1).toNat - 1) * 1024 + (i 2).val, by
        have := pt_lt a t; have h : (i 2).val < 1024 := (i 2).isLt; omega⟩)
      (fun k f => wA W c (ix4 1 (tileExpert a hr t) k f)) (fun k f => wB W c (ix4 1 (tileExpert a hr t) k f))
      (fun f => wC W c (ix4 1 (tileExpert a hr t) f (pieceCol (i 0) (i 1) (i 3)))) := by
  unfold tileOut
  rw [outBlk_eq]
  unfold blkOf
  refine (pay10_apply _ _ _ _ _ _).trans ?_
  have h1 : (fun k => rowsIn (F := Ideal) (blk0 a W c 0 t) (ix2 (i 2) k))
      = pieceRow (inA W c) ⟨min t.val ((num a.1).toNat - 1) * 1024 + (i 2).val, by
        have := pt_lt a t; have h : (i 2).val < 1024 := (i 2).isLt; omega⟩ := by
    funext k
    exact (rowsIn_apply _ _ _).trans (blk0_0_apply a W hr c t _ _ _ _)
  have h2 : (fun k f => gate0 a W c t (ix2 k f)) = fun k f => wA W c (ix4 1 (tileExpert a hr t) k f) := by
    funext k f
    exact (pay1_apply _ _ _).trans (blk0_1_apply a W hr c t k f)
  have h3 : (fun k f => up0 a W c t (ix2 k f)) = fun k f => wB W c (ix4 1 (tileExpert a hr t) k f) := by
    funext k f
    exact (pay2_apply _ _ _).trans (blk0_2_apply a W hr c t k f)
  have h4 : ∀ d : Fin 1024, (fun f => down0 a W c t (ix2 f d)) = fun f => wC W c (ix4 1 (tileExpert a hr t) f d) := by
    intro d; funext f
    exact (pay3_apply _ _ _).trans (blk0_3_apply a W hr c t f d)
  exact ffnWith_congr act h1 h2 h3 (h4 _)

include hr in
/-- The points at which the output's block is written back: those of the tiles in use but the last, and the last point. -/
theorem flush4_of (t : Fin (cfg0 a).N) (h : t.val + 1 < (num a.1).toNat ∨ t.val = 47) : ((cfg0 a).win 4).flush t = true := by
  have hN : (cfg0 a).N = 48 := N_0
  have hl := hr.le
  have e := index4 a hr
  unfold Pipeline.Window.flush
  rw [Bool.and_eq_true_iff]
  refine ⟨rfl, ?_⟩
  rw [Bool.or_eq_true_iff, decide_eq_true_iff, decide_eq_true_iff]
  rcases h with h | h
  · right
    have h1 : t.val + 1 < (cfg0 a).N := by omega
    refine ⟨h1, fun h3 => ?_⟩
    have h4 := congrFun ((e ⟨t.val + 1, h1⟩).symm.trans (h3.trans (e t))) 2
    have h5 : min (t.val + 1) ((num a.1).toNat - 1) = min t.val ((num a.1).toNat - 1) := h4
    omega
  · left
    show t.val + 1 = (cfg0 a).N
    omega

/-- Row `r` of tile `t`, in use, of the array the call writes. -/
theorem expert_arr (i : S4x2x49152x128.Idx) (hi : (i 2).val < (num a.1).toNat * 1024) :
    ((dat0 a W c).arrAt 4 (cfg0 a).N : Vec Ideal S4x2x49152x128 .bf16) i
      = expertArr act (fun t => tileExpert a hr ⟨t.val, lt_of_lt_of_eq t.isLt N_0.symm⟩) (inA W c) (wA W c) (wB W c) (wC W c) i := by
  have hN : (cfg0 a).N = 48 := N_0
  have hl := hr.le
  have hp := hr.pos
  have e := index4 a hr
  have hmem : ∃ t : Fin (cfg0 a).N, ((cfg0 a).win 4).flush t = true ∧ i ∈ (((cfg0 a).win 4).blk t).view.set := by
    have hin : ∀ t : Fin (cfg0 a).N, min t.val ((num a.1).toNat - 1) = (i 2).val / 1024 → i ∈ (((cfg0 a).win 4).blk t).view.set := by
      intro t ht
      have e' := e t
      have hi0 : (i 0).val < 4 := (i 0).isLt
      have hi1 : (i 1).val < 2 := (i 1).isLt
      have hi3 : (i 3).val < 128 := (i 3).isLt
      refine (((cfg0 a).win 4).emb_mem_blk_iff t i).mpr fun k => ?_
      rw [e']
      match k with
      | ⟨0, _⟩ => show 0 * 4 ≤ (i 0).val ∧ (i 0).val < 0 * 4 + 4; omega
      | ⟨1, _⟩ => show 0 * 2 ≤ (i 1).val ∧ (i 1).val < 0 * 2 + 2; omega
      | ⟨2, _⟩ => show min t.val ((num a.1).toNat - 1) * 1024 ≤ (i 2).val ∧ (i 2).val < min t.val ((num a.1).toNat - 1) * 1024 + 1024; omega
      | ⟨3, _⟩ => show 0 * 128 ≤ (i 3).val ∧ (i 3).val < 0 * 128 + 128; omega
    by_cases h : (i 2).val / 1024 + 1 < (num a.1).toNat
    · exact ⟨⟨(i 2).val / 1024, by omega⟩, flush4_of a hr _ (.inl h), hin _ (by show min ((i 2).val / 1024) _ = _; omega)⟩
    · exact ⟨⟨47, by omega⟩, flush4_of a hr _ (.inr rfl), hin _ (by show min 47 _ = _; omega)⟩
  obtain ⟨t, hf, ht⟩ := hmem
  refine (dat0 a W c).arrAt_apply_of_mem 4 (expertArr act (fun t => tileExpert a hr ⟨t.val, lt_of_lt_of_eq t.isLt N_0.symm⟩) (inA W c) (wA W c) (wB W c) (wC W c))
    (fun t hf => ?_) (cfg0 a).N t i t.isLt hf ht
  funext y
  have e' := e t
  blk_simp
  rw [after0_4]
  refine (tileOut_apply a W hr c (lastUsed a t) y).trans (Eq.symm ?_)
  have hlt := (lastUsed a t).isLt
  refine (expertArr_at _ _ _ _ _ _ _ ((fun z : S4x2x1024x128.Idx => z 0) y) ((fun z : S4x2x1024x128.Idx => z 1) y) ⟨(lastUsed a t).val, by omega⟩ ((fun z : S4x2x1024x128.Idx => z 2) y) ((fun z : S4x2x1024x128.Idx => z 3) y) (by blk_simp [e']) (by blk_simp [e']) (by blk_simp [e']; rfl) (by blk_simp [e'])).trans ?_
  have hm : min (lastUsed a t).val ((num a.1).toNat - 1) = (lastUsed a t).val := by
    show min (min t.val ((num a.1).toNat - 1)) ((num a.1).toNat - 1) = min t.val ((num a.1).toNat - 1)
    omega
  refine ffnWith_congr act ?_ rfl rfl rfl
  refine congrArg (pieceRow (inA W c)) (Fin.ext ?_)
  show (lastUsed a t).val * 1024 + _ = min (lastUsed a t).val ((num a.1).toNat - 1) * 1024 + _
  rw [hm]

end Cert.Kernel3Ideal.Run

end
-- ==== Proof.SecondExperts.SecondHost.lean ====
/-
  The host's steps around the experts' call, element by element over the reals: the rows cut into pieces, the rows in use
  marked, the pieces put back together.
-/
module

public import proofs.«01_k».proof.Proof.SecondExperts.SecondValue

@[expose] public section

set_option maxRecDepth 16384

noncomputable section

namespace Cert.Kernel3Ideal.Run

open Idealize.ShloMosaic Idealize.ShloMosaic.TcCoe
open Cert.Kernel3Ideal.Gen

/-- The rows cut into pieces. -/
def hostIn (H : FVec Ideal S49152x1024 .f32) : FVec Ideal S4x2x49152x128 .bf16 :=
  truncf .bf16 (transpose S4x2x49152x128 [2, 1, 0, 3] (shapeCast S49152x2x4x128 H shapeCasts_S49152x1024_S49152x2x4x128 : FVec Ideal S49152x2x4x128 .f32)
    transposes_S49152x2x4x128_S4x2x49152x128_2_1_0_3 : FVec Ideal S4x2x49152x128 .f32) bitsLt_bf16_f32

theorem hostIn_row (H : FVec Ideal S49152x1024 .f32) (r : Fin 49152) : pieceRow (hostIn H) r = fun k => H (ix2 r k) := by
  have key : ∀ (b b' : Fin 49152) (d d' : Fin 1024), b.val = b'.val → d.val = d'.val → H (ix2 b d) = H (ix2 b' d') := fun b b' d d' hb hd => by
    rw [Fin.ext hb, Fin.ext hd]
  funext k
  pointwise [pieceRow, hostIn]

/-- Which rows are in use, of the number of tiles. -/
def hostMask (N : Vec Ideal S1 .i32) : Vec Ideal S49152x1024 .i1 :=
  broadcastInDim S49152x1024 ![0, 1] bcast_S49152x1_S49152x1024_0_1 (cmpi .slt (broadcastInDim S49152x1 ![0] bcast_S49152_S49152x1_0 (iotaInDim S49152 32 0))
    (broadcastInDim S49152x1 ![] bcast_S_S49152x1 (muli (shapeCast S_ N shapeCasts_S1_S_) (constantI S_ 32 1024#32))))

theorem hostMask_apply (N : Vec Ideal S1 .i32) (r : Fin 49152) (d : Fin 1024) :
    hostMask N (ix2 r d) = IntOp.cmpi .slt (BitVec.ofNat 32 r.val) (IntOp.muli (N (ix1 0)) 1024#32) := by
  pointwise [hostMask]

/-- The comparison of words is one of numbers. -/
theorem used_word (r : Fin 49152) (n : BitVec 32) (hn : n.toNat ≤ 48) :
    IntOp.cmpi .slt (BitVec.ofNat 32 r.val) (IntOp.muli n 1024#32) = 1#1 ↔ r.val < n.toNat * 1024 := by
  have hr := r.isLt
  have h1 : (BitVec.ofNat 32 r.val).toNat = r.val := by rw [BitVec.toNat_ofNat]; omega
  have h2 : (n * 1024#32).toNat = n.toNat * 1024 := by
    rw [BitVec.toNat_mul]
    show n.toNat * 1024 % 4294967296 = n.toNat * 1024
    omega
  have e1 : (BitVec.ofNat 32 r.val).toInt = r.val := by rw [BitVec.toInt_eq_toNat_of_lt (by rw [h1]; omega), h1]
  have e2 : (n * 1024#32).toInt = (n.toNat * 1024 : ℕ) := by rw [BitVec.toInt_eq_toNat_of_lt (by rw [h2]; omega), h2]
  have e : ((BitVec.ofNat 32 r.val).slt (n * 1024#32)) = decide (r.val < n.toNat * 1024) := by
    rw [BitVec.slt, e1, e2]
    exact decide_eq_decide.mpr Int.ofNat_lt
  show BitVec.ofBool ((BitVec.ofNat 32 r.val).slt (n * 1024#32)) = 1#1 ↔ _
  rw [e]
  by_cases h : r.val < n.toNat * 1024
  · simp [h]
  · simp [h]

/-- The pieces put back together, the rows not in use zero. -/
def hostOut (M : Vec Ideal S49152x1024 .i1) (Z : FVec Ideal S4x2x49152x128 .bf16) : FVec Ideal S49152x1024 .f32 :=
  select M (shapeCast (α := EReal) S49152x1024 (transpose S49152x2x4x128 [2, 1, 0, 3] (extf .f32 Z bitsLt_bf16_f32 : FVec Ideal S4x2x49152x128 .f32) transposes_S4x2x49152x128_S49152x2x4x128_2_1_0_3)
    shapeCasts_S49152x2x4x128_S49152x1024) (broadcastInDim S49152x1024 ![] bcast_S_S49152x1024 (constant S_ .f32 0x00000000#32 : FVec Ideal S_ .f32))

theorem hostOut_apply (M : Vec Ideal S49152x1024 .i1) (Z : FVec Ideal S4x2x49152x128 .bf16) (r : Fin 49152) (d : Fin 1024) :
    hostOut M Z (ix2 r d) = if M (ix2 r d) = 1#1 then Z (ix4 ⟨d.val % 512 / 128, by omega⟩ ⟨d.val / 512, by omega⟩ r ⟨d.val % 128, by omega⟩) else 0 := by
  have key : ∀ (a a' : Fin 4) (b b' : Fin 2) (r r' : Fin 49152) (d d' : Fin 128), a.val = a'.val → b.val = b'.val → r.val = r'.val → d.val = d'.val →
      Z (ix4 a b r d) = Z (ix4 a' b' r' d') := by
    intro a a' b b' r r' d d' h₁ h₂ h₃ h₄
    rw [Fin.ext h₁, Fin.ext h₂, Fin.ext h₃, Fin.ext h₄]
  pointwise [hostOut]
  by_cases hm : M (ix2 r d) = 1#1
  · rw [if_pos hm, hm]
    exact key _ _ _ _ _ _ _ _ (by show d.val / 128 % 4 = d.val % 512 / 128; omega) rfl rfl rfl
  · rw [if_neg hm]
    exact if_neg hm

end Cert.Kernel3Ideal.Run

end
-- ==== Proof.SecondExperts.SecondKernel.lean ====
/-
  The experts program's result, element by element, as a function of its arguments over the reals.
-/
module

public import proofs.«01_k».proof.Proof.SecondExperts.SecondHost
public import proofs.«01_k».proof.Proof.SecondExperts.SecondWhole

@[expose] public section

set_option maxRecDepth 16384

noncomputable section

namespace Cert.Kernel3Ideal.Run

open Idealize.ShloMosaic Idealize.ShloMosaic.TcCoe Idealize.ShloMosaic.Tactic
open Idealize.ShloMosaic.Pipeline (Dat Cfg Window)
open Cert.Kernel3Ideal.Gen

/-- The expert of row `r`: that of its tile. -/
def rowExpert (T : Vec Ideal S48 .i32) (r : Fin 49152) : Fin 16 := ⟨(T (ix1 ⟨r.val / 1024, by omega⟩) : BitVec 32).toNat % 16, by omega⟩

/-- Row `r` of the result: the expert of its tile applied to the row, and zero past the tiles in use. -/
def moe (s : EReal → EReal) (H : Vec Ideal S49152x1024 .f32) (T : Vec Ideal S48 .i32) (N : Vec Ideal S1 .i32) (A B : Vec Ideal S2x16x1024x512 .f32)
    (C : Vec Ideal S2x16x512x1024 .f32) : Vec Ideal S49152x1024 .f32 := fun i =>
  if (i 0).val < (N (ix1 0) : BitVec 32).toNat * 1024 then
    ffnWith s (fun k => H (ix2 (i 0) k)) (fun k f => A (ix4 1 (rowExpert T (i 0)) k f)) (fun k f => B (ix4 1 (rowExpert T (i 0)) k f))
      (fun f => C (ix4 1 (rowExpert T (i 0)) f (i 1)))
  else 0

variable (m : (ℓ : Loc nD τ sig) → Buf (Elt Ideal) ℓ) (hr : InRange (tables m)) (c : Dev nD)

/-- The arguments. -/
abbrev argH : Vec Ideal S49152x1024 .f32 := m (c, Proc.devRef .tc main_arg0)
abbrev argT : Vec Ideal S48 .i32 := m (c, Proc.devRef .tc main_arg1)
abbrev argN : Vec Ideal S1 .i32 := m (c, Proc.devRef .tc main_arg2)
abbrev argA : Vec Ideal S2x16x1024x512 .f32 := m (c, Proc.devRef .tc main_arg3)
abbrev argB : Vec Ideal S2x16x1024x512 .f32 := m (c, Proc.devRef .tc main_arg4)
abbrev argC : Vec Ideal S2x16x512x1024 .f32 := m (c, Proc.devRef .tc main_arg5)

theorem W1_v2 : W1 m c (Proc.devRef .tc main_v2) = hostIn (argH m c) := by
  after_reads_simp
  try rfl

theorem W1_v9 : W1 m c (Proc.devRef .tc main_v9) = hostMask (argN m c) := by
  after_reads_simp
  try rfl

/-- The pieces the call leaves. -/
def outRows : FVec Ideal S4x2x49152x128 .bf16 := (dat0 (adm m hr 0) (W1 m) c).arrAt 4 (cfg0 (adm m hr 0)).N

theorem W3_v15 : W3 m hr c (Proc.devRef .tc main_v15) = hostOut (hostMask (argN m c)) (outRows m hr c) := by
  have h9 : W2 m hr c (Proc.devRef .tc main_v9) = hostMask (argN m c) := (W2_of m hr c main_v9 (by decide)).trans (W1_v9 m c)
  have h10 : W2 m hr c (Proc.devRef .tc main_v10) = outRows m hr c := by
    unfold W2 outRows
    exact Pipeline.afterRegion_arr (dat0 (adm m hr 0) (W1 m) c) (W1 m c) winFacts0.arr_inj 4
  rw [← h9, ← h10]
  after_reads_simp
  try rfl

theorem num_eq : num (adm m hr 0).1 = (argN m c (ix1 0) : BitVec 32) := by
  obtain rfl : c = 0 := Subsingleton.elim _ _
  refine congrArg (argN m 0) (funext fun k => Fin.ext ?_)
  match k with
  | ⟨0, _⟩ => rfl

theorem tileExpert_eq (r : Fin 49152) (h) : tileExpert (adm m hr 0) hr ⟨r.val / 1024, h⟩ = rowExpert (argT m c) r := by
  obtain rfl : c = 0 := Subsingleton.elim _ _
  have hx : expert (adm m hr 0).1 (grid0.coords ⟨r.val / 1024, h⟩) = (argT m 0 (ix1 ⟨r.val / 1024, by omega⟩) : BitVec 32) := by
    refine congrArg (argT m 0) (funext fun k => Fin.ext ?_)
    match k with
    | ⟨0, _⟩ =>
      show (BitVec.ofNat 32 (grid0.coords ⟨r.val / 1024, h⟩ 0).val).toNat + 1 * 0 = r.val / 1024
      rw [coords_val, BitVec.toNat_ofNat]
      show r.val / 1024 % 4294967296 + 1 * 0 = r.val / 1024
      omega
  have hlt := hr.tile (grid0.coords ⟨r.val / 1024, h⟩)
  refine Fin.ext ?_
  show (expert (adm m hr 0).1 (grid0.coords ⟨r.val / 1024, h⟩)).toNat = (argT m 0 (ix1 ⟨r.val / 1024, by omega⟩) : BitVec 32).toNat % 16
  rw [← hx]
  exact (Nat.mod_eq_of_lt hlt).symm

theorem final_at (r : Fin 49152) (d : Fin 1024) : hostOut (hostMask (argN m c)) (outRows m hr c) (ix2 r d)
    = moe act (argH m c) (argT m c) (argN m c) (argA m c) (argB m c) (argC m c) (ix2 r d) := by
  have hn := num_eq m hr c
  have hl : (argN m c (ix1 0) : BitVec 32).toNat ≤ 48 := hn ▸ hr.le
  rw [hostOut_apply, hostMask_apply]
  unfold moe
  have hu := used_word r (argN m c (ix1 0)) hl
  by_cases h : r.val < (argN m c (ix1 0) : BitVec 32).toNat * 1024
  · rw [if_pos (hu.mpr h)]
    refine Eq.trans ?_ (if_pos h).symm
    have ht : r.val / 1024 < 48 := by omega
    have hcol : pieceCol ⟨d.val % 512 / 128, by omega⟩ ⟨d.val / 512, by omega⟩ ⟨d.val % 128, by omega⟩ = d := Fin.ext (by
      show 512 * (d.val / 512) + 128 * (d.val % 512 / 128) + d.val % 128 = d.val
      omega)
    have he := tileExpert_eq m hr c r (lt_of_lt_of_eq ht N_0.symm)
    have hA : wA (W1 m) c = argA m c := W1_of m c main_arg3 (by decide)
    have hB : wB (W1 m) c = argB m c := W1_of m c main_arg4 (by decide)
    have hC : wC (W1 m) c = argC m c := W1_of m c main_arg5 (by decide)
    have hI : inA (W1 m) c = hostIn (argH m c) := W1_v2 m c
    refine (expert_arr (adm m hr 0) (W1 m) hr c _ (by rw [hn]; exact h)).trans ?_
    rw [hA, hB, hC, hI]
    refine (expertArr_at _ _ _ _ _ _ _ _ _ ⟨r.val / 1024, ht⟩ ⟨r.val % 1024, by omega⟩ _ rfl rfl (by show r.val = r.val / 1024 * 1024 + r.val % 1024; omega) rfl).trans ?_
    have hrow : (⟨(⟨r.val / 1024, ht⟩ : Fin 48).val * 1024 + (⟨r.val % 1024, by omega⟩ : Fin 1024).val, by show r.val / 1024 * 1024 + r.val % 1024 < 49152; omega⟩ : Fin 49152) = r :=
      Fin.ext (by show r.val / 1024 * 1024 + r.val % 1024 = r.val; omega)
    rw [hrow, hostIn_row]
    simp only [he]
    exact ffnWith_congr act rfl rfl rfl (funext fun f => congrArg (fun x => argC m c (ix4 1 (rowExpert (argT m c) r) f x)) hcol)
  · rw [if_neg (fun e => h (hu.mp e))]
    exact (if_neg h).symm

theorem final : W3 m hr c (Proc.devRef .tc main_v15) = moe act (argH m c) (argT m c) (argN m c) (argA m c) (argB m c) (argC m c) := by
  rw [W3_v15]
  funext i
  have hi : i = ix2 (i 0) (i 1) := funext fun k => match k with | ⟨0, _⟩ => rfl | ⟨1, _⟩ => rfl
  rw [hi]
  exact final_at m hr c (i 0) (i 1)

end Cert.Kernel3Ideal.Run

end
-- ==== Proof.SecondExperts.SecondRef.lean ====
/-
  The experts' reference, element by element, as a function of its arguments over the reals.
-/
module

public import proofs.«01_k».proof.Proof.SecondExperts.SecondKernel
public import proofs.«01_k».proof.Proof.Gen.Reference3Ideal.Run

@[expose] public section

set_option maxRecDepth 16384

noncomputable section

namespace Cert.Proof.Second

open Idealize.ShloMosaic Idealize.ShloMosaic.TcCoe Idealize.SL.Sem
open Cert.Reference3Ideal Cert.Reference3Ideal.Gen Cert.Reference3Ideal.Value
open Cert.Kernel3Ideal.Run (ffnWith moe rowExpert used_word)

/-- The activation as the reference computes it. -/
def silu (x : EReal) : EReal := x * Ideal.div 1 (1 + Ideal.exp (-x))

theorem and_word : ∀ x y : BitVec 1, IntOp.andi x y = 1#1 ↔ x = 1#1 ∧ y = 1#1 := by decide +kernel
theorem eq_word (x y : BitVec 32) : IntOp.cmpi .eq x y = 1#1 ↔ x = y := by
  show BitVec.ofBool (x == y) = 1#1 ↔ x = y
  by_cases h : x = y
  · simp [h]
  · rw [beq_eq_false_iff_ne.mpr h]
    exact ⟨fun e => absurd e (by decide), fun e => absurd e h⟩

/-- The experts' gates, as the program composes them: one where the row is in use and the expert is its tile's. -/
def hostGates (T : Vec Ideal S48 .i32) (N : Vec Ideal S1 .i32) : FVec Ideal S49152x16 .f32 :=
  select (andi (broadcastInDim S49152x16 ![0, 1] bcast_S49152x1_S49152x16_0_1 (broadcastInDim S49152x1 ![0] bcast_S49152_S49152x1_0 (cmpi .slt (iotaInDim S49152 32 0) (broadcastInDim S49152 ![] bcast_S_S49152 (muli (shapeCast S_ N shapeCasts_S1_S_) (constantI S_ 32 1024#32))))))
      (cmpi .eq (broadcastInDim S49152x16 ![0, 1] bcast_S49152x1_S49152x16_0_1 (broadcastInDim S49152x1 ![0] bcast_S49152_S49152x1_0 (shapeCast S49152 (broadcastInDim S48x1024 ![0, 1] bcast_S48x1_S48x1024_0_1 (broadcastInDim S48x1 ![0] bcast_S48_S48x1_0 T)) shapeCasts_S48x1024_S49152)))
        (broadcastInDim S49152x16 ![0, 1] bcast_S1x16_S49152x16_0_1 (broadcastInDim S1x16 ![1] bcast_S16_S1x16_1 (iotaInDim S16 32 0)))))
    (broadcastInDim S49152x16 ![] bcast_S_S49152x16 (constant S_ .f32 0x3F800000#32)) (broadcastInDim S49152x16 ![] bcast_S_S49152x16 (constant S_ .f32 0x00000000#32))

theorem hostGates_apply (T : Vec Ideal S48 .i32) (N : Vec Ideal S1 .i32) (r : Fin 49152) (e : Fin 16) (hT : ∀ j, (T j : BitVec 32).toNat < 16)
    (hN : (N (ix1 0) : BitVec 32).toNat ≤ 48) :
    hostGates T N (ix2 r e) = if r.val < (N (ix1 0) : BitVec 32).toNat * 1024 ∧ rowExpert T r = e then 1 else 0 := by
  have hu := used_word r _ hN
  pointwise [hostGates]
  have ht := hT (ix1 ⟨r.val / 1024, by omega⟩)
  have hq : (T (ix1 ⟨r.val / 1024, by omega⟩) : BitVec 32) = BitVec.ofNat 32 e.val ↔ rowExpert T r = e := by
    have hee : (BitVec.ofNat 32 e.val).toNat = e.val := by rw [BitVec.toNat_ofNat]; omega
    constructor
    · intro h
      refine Fin.ext ?_
      show (T (ix1 ⟨r.val / 1024, by omega⟩) : BitVec 32).toNat % 16 = e.val
      rw [h, hee]; omega
    · intro h
      refine BitVec.eq_of_toNat_eq ?_
      rw [hee, ← h]
      exact (Nat.mod_eq_of_lt ht).symm
  exact if_congr ((and_word _ _).trans (and_congr hu ((eq_word _ _).trans hq))) rfl rfl

/-- One projection of the rows, with a weight of one expert. -/
def hostDot (H : FVec Ideal S49152x1024 .f32) (w : FVec Ideal S1024x512 .f32) : FVec Ideal S49152x512 .f32 :=
  Host.dotGeneral (φ₂ := .f32) dot_S49152x1024_S1024x512_S49152x512_1_0_0_1_n_n none H w
/-- One expert's part, of its gate and its weights. -/
def hostPart (g : FVec Ideal S49152x1 .f32) (a u : FVec Ideal S49152x512 .f32) (w : FVec Ideal S512x1024 .f32) : FVec Ideal S49152x1024 .f32 :=
  mulf (broadcastInDim S49152x1024 ![0, 1] bcast_S49152x1_S49152x1024_0_1 g)
    (Host.dotGeneral (φ₂ := .f32) dot_S49152x512_S512x1024_S49152x1024_1_0_0_1_n_n none
      (mulf (mulf a (Host.divf (broadcastInDim S49152x512 ![] bcast_S_S49152x512 (constant S_ .f32 0x3F800000#32)) (addf (broadcastInDim S49152x512 ![] bcast_S_S49152x512 (constant S_ .f32 0x3F800000#32)) (Host.exp (Host.negf a))))) u) w)

theorem hostDot_apply (H : FVec Ideal S49152x1024 .f32) (w : FVec Ideal S1024x512 .f32) (r : Fin 49152) (f : Fin 512) :
    hostDot H w (ix2 r f) = ∑ k : Fin 1024, H (ix2 r k) * w (ix2 k f) := by
  pointwise [hostDot]

theorem hostPart_apply (g : FVec Ideal S49152x1 .f32) (a u : FVec Ideal S49152x512 .f32) (w : FVec Ideal S512x1024 .f32) (r : Fin 49152) (d : Fin 1024) :
    hostPart g a u w (ix2 r d) = g (ix2 r 0) * ∑ f : Fin 512, silu (a (ix2 r f)) * u (ix2 r f) * w (ix2 f d) := by
  pointwise [hostPart, silu]

/-- Expert `e`'s part, of the arguments and the gates. -/
def hostExpert (H : FVec Ideal S49152x1024 .f32) (A B : FVec Ideal S2x16x1024x512 .f32) (C : FVec Ideal S2x16x512x1024 .f32) (G : FVec Ideal S49152x16 .f32) (e : ℕ)
    (hg : S49152x16.Slices ![0, e] S49152x1) (ha : S2x16x1024x512.Slices ![1, e, 0, 0] S1x1x1024x512) (hc : S2x16x512x1024.Slices ![1, e, 0, 0] S1x1x512x1024) :
    FVec Ideal S49152x1024 .f32 :=
  hostPart (id (extractStridedSlice S49152x1 ![0, e] G hg))
    (hostDot H (shapeCast (α := EReal) S1024x512 (extractStridedSlice S1x1x1024x512 ![1, e, 0, 0] A ha) shapeCasts_S1x1x1024x512_S1024x512))
    (hostDot H (shapeCast (α := EReal) S1024x512 (extractStridedSlice S1x1x1024x512 ![1, e, 0, 0] B ha) shapeCasts_S1x1x1024x512_S1024x512))
    (shapeCast (α := EReal) S512x1024 (extractStridedSlice S1x1x512x1024 ![1, e, 0, 0] C hc) shapeCasts_S1x1x512x1024_S512x1024)

theorem slice_gate (G : FVec Ideal S49152x16 .f32) (e : Fin 16) (hg : S49152x16.Slices ![0, e.val] S49152x1) (r : Fin 49152) :
    (extractStridedSlice S49152x1 ![0, e.val] G hg : FVec Ideal S49152x1 .f32) (ix2 r 0) = G (ix2 r e) := by
  refine congrArg G (funext fun k => Fin.ext ?_)
  match k with
  | ⟨0, _⟩ => show 0 + r.val = r.val; omega
  | ⟨1, _⟩ => show e.val + 0 = e.val; omega
theorem slice_in (A : FVec Ideal S2x16x1024x512 .f32) (e : Fin 16) (ha : S2x16x1024x512.Slices ![1, e.val, 0, 0] S1x1x1024x512) (k : Fin 1024) (f : Fin 512) :
    (shapeCast (α := EReal) S1024x512 (extractStridedSlice S1x1x1024x512 ![1, e.val, 0, 0] A ha) shapeCasts_S1x1x1024x512_S1024x512 : FVec Ideal S1024x512 .f32) (ix2 k f)
      = A (ix4 1 e k f) := by
  have h : ∀ x : FVec Ideal S1x1x1024x512 .f32, (shapeCast (α := EReal) S1024x512 x shapeCasts_S1x1x1024x512_S1024x512 : FVec Ideal S1024x512 .f32) (ix2 k f) = x (ix4 0 0 k f) := fun x => by
    pointwise
  refine (h _).trans (congrArg A (funext fun x => Fin.ext ?_))
  match x with
  | ⟨0, _⟩ => rfl
  | ⟨1, _⟩ => show e.val + 0 = e.val; omega
  | ⟨2, _⟩ => show 0 + k.val = k.val; omega
  | ⟨3, _⟩ => show 0 + f.val = f.val; omega
theorem slice_out (C : FVec Ideal S2x16x512x1024 .f32) (e : Fin 16) (hc : S2x16x512x1024.Slices ![1, e.val, 0, 0] S1x1x512x1024) (f : Fin 512) (d : Fin 1024) :
    (shapeCast (α := EReal) S512x1024 (extractStridedSlice S1x1x512x1024 ![1, e.val, 0, 0] C hc) shapeCasts_S1x1x512x1024_S512x1024 : FVec Ideal S512x1024 .f32) (ix2 f d)
      = C (ix4 1 e f d) := by
  have h : ∀ x : FVec Ideal S1x1x512x1024 .f32, (shapeCast (α := EReal) S512x1024 x shapeCasts_S1x1x512x1024_S512x1024 : FVec Ideal S512x1024 .f32) (ix2 f d) = x (ix4 0 0 f d) := fun x => by
    pointwise
  refine (h _).trans (congrArg C (funext fun k => Fin.ext ?_))
  match k with
  | ⟨0, _⟩ => rfl
  | ⟨1, _⟩ => show e.val + 0 = e.val; omega
  | ⟨2, _⟩ => show 0 + f.val = f.val; omega
  | ⟨3, _⟩ => show 0 + d.val = d.val; omega

variable (H : FVec Ideal S49152x1024 .f32) (A B : FVec Ideal S2x16x1024x512 .f32) (C : FVec Ideal S2x16x512x1024 .f32)

theorem hostExpert_apply (G : FVec Ideal S49152x16 .f32) (e : Fin 16) (hg : S49152x16.Slices ![0, e.val] S49152x1)
    (ha : S2x16x1024x512.Slices ![1, e.val, 0, 0] S1x1x1024x512) (hc : S2x16x512x1024.Slices ![1, e.val, 0, 0] S1x1x512x1024) (r : Fin 49152) (d : Fin 1024) :
    hostExpert H A B C G e.val hg ha hc (ix2 r d)
      = G (ix2 r e) * ffnWith silu (fun k => H (ix2 r k)) (fun k f => A (ix4 1 e k f)) (fun k f => B (ix4 1 e k f)) (fun f => C (ix4 1 e f d)) := by
  unfold hostExpert
  rw [hostPart_apply, id, slice_gate]
  unfold ffnWith
  simp only [hostDot_apply, slice_in, slice_out]

/-- The reference's result, of the arguments and the gates: the experts' parts added up in order. -/
def hostSum (G : FVec Ideal S49152x16 .f32) : FVec Ideal S49152x1024 .f32 :=
  addf (addf (addf (addf (addf (addf (addf (addf (addf (addf (addf (addf (addf (addf (addf (addf (broadcastInDim S49152x1024 ![] bcast_S_S49152x1024 (constant S_ .f32 0x00000000#32))
    (hostExpert H A B C G 0 slices_S49152x16_S49152x1_0_0 slices_S2x16x1024x512_S1x1x1024x512_1_0_0_0 slices_S2x16x512x1024_S1x1x512x1024_1_0_0_0))
    (hostExpert H A B C G 1 slices_S49152x16_S49152x1_0_1 slices_S2x16x1024x512_S1x1x1024x512_1_1_0_0 slices_S2x16x512x1024_S1x1x512x1024_1_1_0_0))
    (hostExpert H A B C G 2 slices_S49152x16_S49152x1_0_2 slices_S2x16x1024x512_S1x1x1024x512_1_2_0_0 slices_S2x16x512x1024_S1x1x512x1024_1_2_0_0))
    (hostExpert H A B C G 3 slices_S49152x16_S49152x1_0_3 slices_S2x16x1024x512_S1x1x1024x512_1_3_0_0 slices_S2x16x512x1024_S1x1x512x1024_1_3_0_0))
    (hostExpert H A B C G 4 slices_S49152x16_S49152x1_0_4 slices_S2x16x1024x512_S1x1x1024x512_1_4_0_0 slices_S2x16x512x1024_S1x1x512x1024_1_4_0_0))
    (hostExpert H A B C G 5 slices_S49152x16_S49152x1_0_5 slices_S2x16x1024x512_S1x1x1024x512_1_5_0_0 slices_S2x16x512x1024_S1x1x512x1024_1_5_0_0))
    (hostExpert H A B C G 6 slices_S49152x16_S49152x1_0_6 slices_S2x16x1024x512_S1x1x1024x512_1_6_0_0 slices_S2x16x512x1024_S1x1x512x1024_1_6_0_0))
    (hostExpert H A B C G 7 slices_S49152x16_S49152x1_0_7 slices_S2x16x1024x512_S1x1x1024x512_1_7_0_0 slices_S2x16x512x1024_S1x1x512x1024_1_7_0_0))
    (hostExpert H A B C G 8 slices_S49152x16_S49152x1_0_8 slices_S2x16x1024x512_S1x1x1024x512_1_8_0_0 slices_S2x16x512x1024_S1x1x512x1024_1_8_0_0))
    (hostExpert H A B C G 9 slices_S49152x16_S49152x1_0_9 slices_S2x16x1024x512_S1x1x1024x512_1_9_0_0 slices_S2x16x512x1024_S1x1x512x1024_1_9_0_0))
    (hostExpert H A B C G 10 slices_S49152x16_S49152x1_0_10 slices_S2x16x1024x512_S1x1x1024x512_1_10_0_0 slices_S2x16x512x1024_S1x1x512x1024_1_10_0_0))
    (hostExpert H A B C G 11 slices_S49152x16_S49152x1_0_11 slices_S2x16x1024x512_S1x1x1024x512_1_11_0_0 slices_S2x16x512x1024_S1x1x512x1024_1_11_0_0))
    (hostExpert H A B C G 12 slices_S49152x16_S49152x1_0_12 slices_S2x16x1024x512_S1x1x1024x512_1_12_0_0 slices_S2x16x512x1024_S1x1x512x1024_1_12_0_0))
    (hostExpert H A B C G 13 slices_S49152x16_S49152x1_0_13 slices_S2x16x1024x512_S1x1x1024x512_1_13_0_0 slices_S2x16x512x1024_S1x1x512x1024_1_13_0_0))
    (hostExpert H A B C G 14 slices_S49152x16_S49152x1_0_14 slices_S2x16x1024x512_S1x1x1024x512_1_14_0_0 slices_S2x16x512x1024_S1x1x512x1024_1_14_0_0))
    (hostExpert H A B C G 15 slices_S49152x16_S49152x1_0_15 slices_S2x16x1024x512_S1x1x1024x512_1_15_0_0 slices_S2x16x512x1024_S1x1x512x1024_1_15_0_0)

theorem sum16 (p : Fin 16 → EReal) : 0 + p 0 + p 1 + p 2 + p 3 + p 4 + p 5 + p 6 + p 7 + p 8 + p 9 + p 10 + p 11 + p 12 + p 13 + p 14 + p 15 = ∑ e : Fin 16, p e := by
  simp only [Fin.sum_univ_castSucc, Finset.univ_eq_empty, Finset.sum_empty]
  rfl

theorem hostSum_apply (G : FVec Ideal S49152x16 .f32) (r : Fin 49152) (d : Fin 1024) : hostSum H A B C G (ix2 r d)
    = ∑ e : Fin 16, G (ix2 r e) * ffnWith silu (fun k => H (ix2 r k)) (fun k f => A (ix4 1 e k f)) (fun k f => B (ix4 1 e k f)) (fun f => C (ix4 1 e f d)) := by
  have hz : (broadcastInDim S49152x1024 ![] bcast_S_S49152x1024 (constant S_ .f32 0x00000000#32 : FVec Ideal S_ .f32) : FVec Ideal S49152x1024 .f32) (ix2 r d) = 0 := by
    pointwise
  rw [← sum16]
  exact congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (hz)
    (hostExpert_apply H A B C G 0 slices_S49152x16_S49152x1_0_0 slices_S2x16x1024x512_S1x1x1024x512_1_0_0_0 slices_S2x16x512x1024_S1x1x512x1024_1_0_0_0 r d))
    (hostExpert_apply H A B C G 1 slices_S49152x16_S49152x1_0_1 slices_S2x16x1024x512_S1x1x1024x512_1_1_0_0 slices_S2x16x512x1024_S1x1x512x1024_1_1_0_0 r d))
    (hostExpert_apply H A B C G 2 slices_S49152x16_S49152x1_0_2 slices_S2x16x1024x512_S1x1x1024x512_1_2_0_0 slices_S2x16x512x1024_S1x1x512x1024_1_2_0_0 r d))
    (hostExpert_apply H A B C G 3 slices_S49152x16_S49152x1_0_3 slices_S2x16x1024x512_S1x1x1024x512_1_3_0_0 slices_S2x16x512x1024_S1x1x512x1024_1_3_0_0 r d))
    (hostExpert_apply H A B C G 4 slices_S49152x16_S49152x1_0_4 slices_S2x16x1024x512_S1x1x1024x512_1_4_0_0 slices_S2x16x512x1024_S1x1x512x1024_1_4_0_0 r d))
    (hostExpert_apply H A B C G 5 slices_S49152x16_S49152x1_0_5 slices_S2x16x1024x512_S1x1x1024x512_1_5_0_0 slices_S2x16x512x1024_S1x1x512x1024_1_5_0_0 r d))
    (hostExpert_apply H A B C G 6 slices_S49152x16_S49152x1_0_6 slices_S2x16x1024x512_S1x1x1024x512_1_6_0_0 slices_S2x16x512x1024_S1x1x512x1024_1_6_0_0 r d))
    (hostExpert_apply H A B C G 7 slices_S49152x16_S49152x1_0_7 slices_S2x16x1024x512_S1x1x1024x512_1_7_0_0 slices_S2x16x512x1024_S1x1x512x1024_1_7_0_0 r d))
    (hostExpert_apply H A B C G 8 slices_S49152x16_S49152x1_0_8 slices_S2x16x1024x512_S1x1x1024x512_1_8_0_0 slices_S2x16x512x1024_S1x1x512x1024_1_8_0_0 r d))
    (hostExpert_apply H A B C G 9 slices_S49152x16_S49152x1_0_9 slices_S2x16x1024x512_S1x1x1024x512_1_9_0_0 slices_S2x16x512x1024_S1x1x512x1024_1_9_0_0 r d))
    (hostExpert_apply H A B C G 10 slices_S49152x16_S49152x1_0_10 slices_S2x16x1024x512_S1x1x1024x512_1_10_0_0 slices_S2x16x512x1024_S1x1x512x1024_1_10_0_0 r d))
    (hostExpert_apply H A B C G 11 slices_S49152x16_S49152x1_0_11 slices_S2x16x1024x512_S1x1x1024x512_1_11_0_0 slices_S2x16x512x1024_S1x1x512x1024_1_11_0_0 r d))
    (hostExpert_apply H A B C G 12 slices_S49152x16_S49152x1_0_12 slices_S2x16x1024x512_S1x1x1024x512_1_12_0_0 slices_S2x16x512x1024_S1x1x512x1024_1_12_0_0 r d))
    (hostExpert_apply H A B C G 13 slices_S49152x16_S49152x1_0_13 slices_S2x16x1024x512_S1x1x1024x512_1_13_0_0 slices_S2x16x512x1024_S1x1x512x1024_1_13_0_0 r d))
    (hostExpert_apply H A B C G 14 slices_S49152x16_S49152x1_0_14 slices_S2x16x1024x512_S1x1x1024x512_1_14_0_0 slices_S2x16x512x1024_S1x1x512x1024_1_14_0_0 r d))
    (hostExpert_apply H A B C G 15 slices_S49152x16_S49152x1_0_15 slices_S2x16x1024x512_S1x1x1024x512_1_15_0_0 slices_S2x16x512x1024_S1x1x512x1024_1_15_0_0 r d)

theorem hostSum_at (T : Vec Ideal S48 .i32) (N : Vec Ideal S1 .i32) (hT : ∀ j, (T j : BitVec 32).toNat < 16) (hN : (N (ix1 0) : BitVec 32).toNat ≤ 48)
    (r : Fin 49152) (d : Fin 1024) : hostSum H A B C (hostGates T N) (ix2 r d) = moe silu H T N A B C (ix2 r d) := by
  rw [hostSum_apply]
  simp only [hostGates_apply _ _ _ _ hT hN]
  unfold moe
  by_cases h : r.val < (N (ix1 0) : BitVec 32).toNat * 1024
  · refine Eq.trans ?_ (if_pos h).symm
    rw [Finset.sum_eq_single (rowExpert T r)]
    · rw [if_pos ⟨h, rfl⟩, one_mul]; rfl
    · intro e _ he
      rw [if_neg (fun h' => he h'.2.symm), zero_mul]
    · intro h'; exact absurd (Finset.mem_univ _) h'
  · refine Eq.trans (Finset.sum_eq_zero fun e _ => ?_) (if_neg h).symm
    rw [if_neg (fun h' => h h'.1), zero_mul]

/-- The gates leave one expert's part, or none. -/
theorem hostSum_eq (T : Vec Ideal S48 .i32) (N : Vec Ideal S1 .i32) (hT : ∀ j, (T j : BitVec 32).toNat < 16) (hN : (N (ix1 0) : BitVec 32).toNat ≤ 48) :
    hostSum H A B C (hostGates T N) = moe silu H T N A B C := by
  funext i
  have hi : i = ix2 (i 0) (i 1) := funext fun k => match k with | ⟨0, _⟩ => rfl | ⟨1, _⟩ => rfl
  rw [hi]
  exact hostSum_at H A B C T N hT hN (i 0) (i 1)

end Cert.Proof.Second

end
-- ==== Proof.SecondExperts.SecondAlgebraic.lean ====
/-
  The experts' program and its reference read as one function of the arguments, where the activations and the gate's
  weights are finite.
-/
module

public import proofs.«01_k».proof.Defs
public import proofs.«01_k».proof.Proof.SecondExperts.SecondRef
public import proofs.«01_k».proof.Proof.Experts.ExpertsPre

@[expose] public section

set_option maxRecDepth 16384

noncomputable section

namespace Cert.Proof.Second

open Idealize.ShloMosaic Idealize.ShloMosaic.TcCoe Idealize.SL.Sem
open Cert.Kernel3Ideal.Run (ffnWith moe rowExpert act argH argT argN argA argB argC)

theorem half_eq : Ideal.ofBits .f32 0x3F000000#32 = ((1 / 2 : ℝ) : EReal) := by
  simp [Ideal.ofBits, Ideal.ieee, -EReal.coe_mul]; norm_num

/-- Half of `y`, plus half of `y` times the hyperbolic tangent of half of `y`, is `y` times its logistic function. -/
theorem half_tanh (y : ℝ) : 1 / 2 * y + 1 / 2 * y * Real.tanh (1 / 2 * y) = y * (1 + Real.exp (-y))⁻¹ := by
  have ha : 0 < Real.exp (1 / 2 * y) := Real.exp_pos _
  have he : Real.exp (-y) = (Real.exp (1 / 2 * y))⁻¹ * (Real.exp (1 / 2 * y))⁻¹ := by
    rw [← Real.exp_neg, ← Real.exp_add]; congr 1; ring
  rw [Real.tanh_eq_sinh_div_cosh, Real.sinh_eq, Real.cosh_eq, he, Real.exp_neg]
  generalize Real.exp (1 / 2 * y) = a at ha
  have h1 : 0 < a * a := by positivity
  field_simp
  ring

theorem act_eq (x : EReal) (ht : x ≠ ⊤) (hb : x ≠ ⊥) : act x = silu x := by
  lift x to ℝ using ⟨ht, hb⟩
  have h2 : silu (x : EReal) = ((x * (1 + Real.exp (-x))⁻¹ : ℝ) : EReal) := by
    show (x : EReal) * Ideal.logistic (x : EReal) = _
    rw [Ideal.logistic_coe, ← EReal.coe_mul]
  rw [h2, ← half_tanh]
  unfold act
  rw [half_eq, ← EReal.coe_mul, Ideal.tanh_coe, ← EReal.coe_mul, ← EReal.coe_add]

/-- A sum of finite products is finite. -/
theorem sum_finite {n : ℕ} (f g : Fin n → EReal) (hf : ∀ k, f k ≠ ⊤ ∧ f k ≠ ⊥) (hg : ∀ k, g k ≠ ⊤ ∧ g k ≠ ⊥) :
    (∑ k, f k * g k) ≠ ⊤ ∧ (∑ k, f k * g k) ≠ ⊥ := by
  have e : (∑ k, f k * g k) = ((∑ k, (f k).toReal * (g k).toReal : ℝ) : EReal) := by
    have hs : ∀ (u : Fin n → ℝ) (t : Finset (Fin n)), ((∑ k ∈ t, u k : ℝ) : EReal) = ∑ k ∈ t, (u k : EReal) := fun u t => by
      induction t using Finset.induction_on with
      | empty => simp
      | insert a t ha ih => rw [Finset.sum_insert ha, Finset.sum_insert ha, EReal.coe_add, ih]
    rw [hs]
    refine Finset.sum_congr rfl fun k _ => ?_
    rw [EReal.coe_mul, EReal.coe_toReal (hf k).1 (hf k).2, EReal.coe_toReal (hg k).1 (hg k).2]
  rw [e]
  exact ⟨EReal.coe_ne_top _, EReal.coe_ne_bot _⟩

open Cert.Kernel3Ideal in
/-- On finite activations and gate's weights the two activations give one result. -/
theorem moe_act (H : Vec Ideal S49152x1024 .f32) (T : Vec Ideal S48 .i32) (N : Vec Ideal S1 .i32) (A B : Vec Ideal S2x16x1024x512 .f32)
    (C : Vec Ideal S2x16x512x1024 .f32) (hH : ∀ j, (H j : EReal) ≠ ⊤ ∧ (H j : EReal) ≠ ⊥) (hA : ∀ j, (A j : EReal) ≠ ⊤ ∧ (A j : EReal) ≠ ⊥) :
    moe act H T N A B C = moe silu H T N A B C := by
  funext i
  unfold moe ffnWith
  refine if_congr Iff.rfl ?_ rfl
  refine Finset.sum_congr rfl fun f _ => ?_
  have h := sum_finite (fun k => H (ix2 (i 0) k)) (fun k => A (ix4 1 (rowExpert T (i 0)) k f)) (fun k => hH _) (fun k => hA _)
  exact congrArg (fun x => x * _ * _) (act_eq _ h.1 h.2)

open Cert.Reference3Ideal in
/-- The reference's run, over arguments whose words are in range. -/
theorem reference3_run (m : (ℓ : Loc nD τ sig) → Buf (Elt Ideal) ℓ) (ρ : Dev nD → PrngReg)
    (H : Dev nD → Vec Ideal Cert.Kernel3Ideal.S49152x1024 .f32)
    (T : Dev nD → Vec Ideal Cert.Kernel3Ideal.S48 .i32)
    (N : Dev nD → Vec Ideal Cert.Kernel3Ideal.S1 .i32)
    (A : Dev nD → Vec Ideal Cert.Kernel3Ideal.S2x16x1024x512 .f32)
    (B : Dev nD → Vec Ideal Cert.Kernel3Ideal.S2x16x1024x512 .f32)
    (C : Dev nD → Vec Ideal Cert.Kernel3Ideal.S2x16x512x1024 .f32)
    (hH : ∀ c : Dev nD, m ((c.tc : Thread nD τ).loc main_arg0) = H c)
    (hT : ∀ c : Dev nD, m ((c.tc : Thread nD τ).loc main_arg1) = T c)
    (hN : ∀ c : Dev nD, m ((c.tc : Thread nD τ).loc main_arg2) = N c)
    (hA : ∀ c : Dev nD, m ((c.tc : Thread nD τ).loc main_arg3) = A c)
    (hB : ∀ c : Dev nD, m ((c.tc : Thread nD τ).loc main_arg4) = B c)
    (hC : ∀ c : Dev nD, m ((c.tc : Thread nD τ).loc main_arg5) = C c)
    (hw : ∀ c, (∀ j, (T c j : BitVec 32).toNat < 16) ∧ (N c (ix1 0) : BitVec 32).toNat ≤ 48) :
    θ_run (defs (F := Ideal)) (onTc (τ := τ) (main (F := Ideal))) ⟨m, fun _ => 0, ρ⟩
      (fun r => ∀ c : Dev nD,
        r.2.mem ((c.tc : Thread nD τ).loc main_v274) = moe silu (H c) (T c) (N c) (A c) (B c) (C c)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)) := by
  refine (θ_run defs _ _).mono (fun r h c => ?_) (Value.run m ρ)
  obtain ⟨h0, h1⟩ := h c
  refine ⟨h0.trans ?_, h1⟩
  refine Eq.trans ?_ (hostSum_eq (H c) (A c) (B c) (C c) (T c) (N c) (hw c).1 (hw c).2)
  rw [← hH, ← hT, ← hN, ← hA, ← hB, ← hC]
  rfl

open Cert.Kernel3Ideal in
/-- The kernel's run. -/
theorem kernel3_run (m : (ℓ : Loc nD τ sig) → Buf (Elt Ideal) ℓ) (ρ : Dev nD → PrngReg) (hr : Run.InRange (Run.tables m)) :
    θ_run (defs (F := Ideal)) (onTc (τ := τ) (main (F := Ideal))) ⟨m, fun _ => 0, ρ⟩ (fun r => ∀ c : Dev nD,
      r.2.mem ((c.tc : Thread nD τ).loc main_v15) = moe act (argH m c) (argT m c) (argN m c) (argA m c) (argB m c) (argC m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h.1 c _ (Finset.mem_filter.mpr ⟨StableHlo.devRef_mem_tcRefs main_v15, by decide⟩)).trans (Run.final m hr c),
      (h.1 c _ (Finset.mem_filter.mpr ⟨StableHlo.devRef_mem_tcRefs main_arg0, by decide⟩)).trans
        (Run.W3_kept m hr c main_arg0 (by decide) (by decide) (by decide)),
      (h.1 c _ (Finset.mem_filter.mpr ⟨StableHlo.devRef_mem_tcRefs main_arg1, by decide⟩)).trans
        (Run.W3_kept m hr c main_arg1 (by decide) (by decide) (by decide)),
      (h.1 c _ (Finset.mem_filter.mpr ⟨StableHlo.devRef_mem_tcRefs main_arg2, by decide⟩)).trans
        (Run.W3_kept m hr c main_arg2 (by decide) (by decide) (by decide)),
      (h.1 c _ (Finset.mem_filter.mpr ⟨StableHlo.devRef_mem_tcRefs main_arg3, by decide⟩)).trans
        (Run.W3_read m hr c 1 rfl (by decide) (by decide)),
      (h.1 c _ (Finset.mem_filter.mpr ⟨StableHlo.devRef_mem_tcRefs main_arg4, by decide⟩)).trans
        (Run.W3_read m hr c 2 rfl (by decide) (by decide)),
      (h.1 c _ (Finset.mem_filter.mpr ⟨StableHlo.devRef_mem_tcRefs main_arg5, by decide⟩)).trans
        (Run.W3_read m hr c 3 rfl (by decide) (by decide))⟩) (Run.run m ρ hr)

theorem algebraic3 : Cert.algebraic_Kernel3Ideal_Reference3Ideal_pre_inputs_in_range (hKernel3Ideal := Cert.Kernel3Ideal.Gen.facts)
    (hReference3Ideal := Cert.Reference3Ideal.Gen.facts) (hPre_inputs_in_range := Cert.Pre_inputs_in_range.Gen.facts) := by
  intro m g m' g' hpre hagree
  have hw : ∀ c : Dev Cert.Kernel3Ideal.nD, Words (argT m c) (argN m c) := fun c => words_of_inputs (F := Ideal) _ _ _ _ _ _ (hpre c)
  have hf : ∀ c : Dev Cert.Kernel3Ideal.nD, (∀ j, (argH m c j : EReal) ≠ ⊤ ∧ (argH m c j : EReal) ≠ ⊥) ∧ ∀ j, (argA m c j : EReal) ≠ ⊤ ∧ (argA m c j : EReal) ≠ ⊥ :=
    fun c => finite_of_inputs _ _ _ _ _ _ (hpre c)
  have hr := Cert.Kernel3Ideal.Run.inRange_of_words m (hw 0)
  refine ⟨fun c => moe silu (argH m c) (argT m c) (argN m c) (argA m c) (argB m c) (argC m c), ?_,
    reference3_run m' g' (fun c => argH m c) (fun c => argT m c) (fun c => argN m c) (fun c => argA m c) (fun c => argB m c) (fun c => argC m c)
      (fun c => (hagree c).1) (fun c => (hagree c).2.1) (fun c => (hagree c).2.2.1) (fun c => (hagree c).2.2.2.1) (fun c => (hagree c).2.2.2.2.1)
      (fun c => (hagree c).2.2.2.2.2) (fun c => ⟨(hw c).tile, (hw c).le _⟩)⟩
  refine (θ_run Cert.Kernel3Ideal.defs _ _).mono (fun r h c => ⟨(h c).1.trans ?_, (h c).2⟩) (kernel3_run m g hr)
  exact moe_act _ _ _ _ _ _ (hf c).1 (hf c).2

end Cert.Proof.Second

end
-- ==== Proof.SecondProjection.SecondRowsRun.lean ====
module

public import proofs.«01_k».proof.Proof.Gen.Kernel4Ideal.Regions
public import proofs.«01_k».proof.Proof.Gen.Kernel4Ideal.Skeleton
public import proofs.«01_k».proof.Proof.Gen.Kernel4Ideal.Points
public import Idealize.ShloMosaic.Lib.Pipeline.FrameBody
public import Idealize.ShloMosaic.Lib.Pipeline.Value
public import Idealize.ShloMosaic.Lib.VecWindow
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel4Ideal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

local notation "𝕄" => MT nD τ sig Unit (Elt F) ℕ (UR sig nD τ) ℕ

/-- The two tables of each gathering call: where each block of rows starts, and how many of its rows are kept. -/
abbrev tab0a : Memref sig .tc .smem S25 .i32 := Memref.whole main_c
abbrev tab0b : Memref sig .tc .smem S25 .i32 := Memref.whole main_c_0
abbrev htab0a : tab0a.IsWhole := Memref.isWhole_whole _
abbrev htab0b : tab0b.IsWhole := Memref.isWhole_whole _
abbrev tab1a : Memref sig .tc .smem S9 .i32 := Memref.whole main_c_1
abbrev tab1b : Memref sig .tc .smem S9 .i32 := Memref.whole main_c_2
abbrev htab1a : tab1a.IsWhole := Memref.isWhole_whole _
abbrev htab1b : tab1b.IsWhole := Memref.isWhole_whole _

abbrev TabBuf (c : Dev nD) {S : Shape} {e : EltTy} (M : Memref sig .tc .smem S e) : Type := Buf (Elt F) (M.view.loc (c : Thread nD τ))
abbrev tabPt (c : Dev nD) {S : Shape} {e : EltTy} (M : Memref sig .tc .smem S e) (f : TabBuf (F := F) c M) : sProp 𝕄 :=
  M.view.loc (c : Thread nD τ) ↦{fullShare} f

/-- The word of the second table at point `i`: how many of the point's 256 rows are kept. -/
def word0 (c : Dev nD) (i : grid0.Coords) (xb : TabBuf (F := F) c tab0b) : Elt F .i32 :=
  xb ((Rect.unit (s := S25) (k0_off1 i) S1.size (k0_off1_inb i)).point numel1_S1)

set_option maxHeartbeats 1000000 in
/-- The body of the call that gathers the main columns: with both tables held, one block of rows is read and the kept rows are
    written, zeros elsewhere. -/
theorem rowsRun0 (c : Dev nD) (i : grid0.Coords) (arg3 : Memref sig .tc .vmem S2x256x1024 .f32) (harg3 : arg3.IsWhole) (arg4 : Memref sig .tc .vmem S2x256x1024 .bf16) (harg4 : arg4.IsWhole)
    (x0 : Vec F S2x256x1024 .f32) (xa : TabBuf (F := F) c tab0a) (xb : TabBuf (F := F) c tab0b) (E : Set ℕ) (K : PUnit → sProp 𝕄) :
        iprop(owns (c : Thread nD τ) arg3 fullShare x0 ∗ (∃ d, owns (c : Thread nD τ) arg4 fullShare d) ∗ tabPt c tab0a xa ∗ tabPt c tab0b xb
            ∗ (iprop(owns (c : Thread nD τ) arg3 fullShare x0 ∗ (owns (c : Thread nD τ) arg4 fullShare (k0_pay1 (word0 c i xb) x0)) ∗ tabPt c tab0a xa ∗ tabPt c tab0b xb) -∗ K ⟨⟩))
          ⊢ wp frame (wpE (defs₀ (F := F)) Variants.none c none) E (cc0_w_in_rows i tab0a htab0a tab0b htab0b arg3 harg3 arg4 harg4) K := by
    simp only [cc0_w_in_rows_eq_skeleton]; unfold cc0_w_in_rows_skel
    unfold owns
    iintro ⟨⟨%f0, %hf0, H0⟩, ⟨%d1, %f1, -, H1⟩, HT0, HT1, Hk⟩
    obtain rfl := harg3.eq_unread hf0
    sl_exec
    sl_step
    iapply Hk
    isplitl [H0]
    · iexists _; isplitr; · ipureintro; exact harg3.read_unread _
      iexact H0
    isplitl [H1]
    · iexists _; isplitr; swap; · iexact H1
      ipureintro
      rw [View.read_writes_full]
      unfold rowsRun0.sl.r
      rw [View.readAt_full, harg3.read_unread]
      rfl
    isplitl [HT0]; · iexact HT0
    iexact HT1

/-- The word of the second table at point `i`: how many of the point's 256 rows are kept. -/
def word1 (c : Dev nD) (i : grid1.Coords) (xb : TabBuf (F := F) c tab1b) : Elt F .i32 :=
  xb ((Rect.unit (s := S9) (k1_off1 i) S1.size (k1_off1_inb i)).point numel1_S1)

set_option maxHeartbeats 1000000 in
/-- The body of the call that gathers the attention columns: with both tables held, one block of rows is read and the kept rows are
    written, zeros elsewhere. -/
theorem rowsRun1 (c : Dev nD) (i : grid1.Coords) (arg3 : Memref sig .tc .vmem S2x256x1024 .f32) (harg3 : arg3.IsWhole) (arg4 : Memref sig .tc .vmem S2x256x1024 .bf16) (harg4 : arg4.IsWhole)
    (x0 : Vec F S2x256x1024 .f32) (xa : TabBuf (F := F) c tab1a) (xb : TabBuf (F := F) c tab1b) (E : Set ℕ) (K : PUnit → sProp 𝕄) :
        iprop(owns (c : Thread nD τ) arg3 fullShare x0 ∗ (∃ d, owns (c : Thread nD τ) arg4 fullShare d) ∗ tabPt c tab1a xa ∗ tabPt c tab1b xb
            ∗ (iprop(owns (c : Thread nD τ) arg3 fullShare x0 ∗ (owns (c : Thread nD τ) arg4 fullShare (k1_pay1 (word1 c i xb) x0)) ∗ tabPt c tab1a xa ∗ tabPt c tab1b xb) -∗ K ⟨⟩))
          ⊢ wp frame (wpE (defs₀ (F := F)) Variants.none c none) E (cc1_w_in_rows i tab1a htab1a tab1b htab1b arg3 harg3 arg4 harg4) K := by
    simp only [cc1_w_in_rows_eq_skeleton]; unfold cc1_w_in_rows_skel
    unfold owns
    iintro ⟨⟨%f0, %hf0, H0⟩, ⟨%d1, %f1, -, H1⟩, HT0, HT1, Hk⟩
    obtain rfl := harg3.eq_unread hf0
    sl_exec
    sl_step
    iapply Hk
    isplitl [H0]
    · iexists _; isplitr; · ipureintro; exact harg3.read_unread _
      iexact H0
    isplitl [H1]
    · iexists _; isplitr; swap; · iexact H1
      ipureintro
      rw [View.read_writes_full]
      unfold rowsRun1.sl.r
      rw [View.readAt_full, harg3.read_unread]
      rfl
    isplitl [HT0]; · iexact HT0
    iexact HT1

end Cert.Kernel4Ideal.Run

end
-- ==== Proof.SecondProjection.SecondRows.lean ====
module

public import proofs.«01_k».proof.Proof.SecondProjection.SecondRowsRun
public import Idealize.ShloMosaic.Lib.Pipeline.RegionArraysTS

@[expose] public section

set_option maxRecDepth 16384

noncomputable section

namespace Cert.Kernel4Ideal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

local notation "𝕄" => MT nD τ sig Unit (Elt F) ℕ (UR sig nD τ) ℕ

section Main

variable (a : (pcfg0 (F := F)).Adm) (W : Dev nD → Valuation τ sig (Elt F))

/-- What each window's block at point `t` holds of its array, the buffers being at `W` when the call starts. -/
def blk0 (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (W c (Proc.devRef .tc (Pipeline.arrRef spec0 w)))

/-- The block written at point `t`. -/
def out0 (c : Dev nD) (t : Fin (cfg0 a).N) : Vec F S2x256x1024 .bf16 := k0_pay1 (word0 c (grid0.coords t) (a.1 1)) (blk0 a W c 0 t)

/-- The call's proof data: the arrays at `W`; after the body the input's block in place and the output's at `out0`; the tables held whole. -/
def dat0 (c : Dev nD) : Dat τ (Elt F) Unit ℕ (UR sig nD τ) ℕ (cfg0 a) c where
  A w := W c (Proc.devRef .tc (Pipeline.arrRef spec0 w))
  after w t := match w with
    | ⟨0, _⟩ => blk0 a W c 0 t
    | ⟨1, _⟩ => out0 a W c t
  Φ _ := iprop(iprop(Pipeline.scopedRest spec0 c ∗ BI.emp) ∗ Pipeline.prefHeld pre0 c (fun _ => fullShare) a.1)
  q _ := fullShare
  owed _ := 0

theorem dat0_A (c : Dev nD) (w : Fin (cfg0 a).W) : (dat0 a W c).A w = W c (Proc.devRef .tc (Pipeline.arrRef spec0 w)) := by dsimp only [dat0]
theorem after0_0 (c : Dev nD) (t : Fin (cfg0 a).N) : (dat0 a W c).after 0 t = blk0 a W c 0 t := by dsimp only [dat0]; try rfl
theorem after0_1 (c : Dev nD) (t : Fin (cfg0 a).N) : (dat0 a W c).after 1 t = out0 a W c t := by dsimp only [dat0]; try rfl

theorem before0_0 (c : Dev nD) (t : Fin (cfg0 a).N) (d) : (dat0 a W c).before 0 t d = blk0 a W c 0 t :=
  ((dat0 a W c).before_in_eq_fetched 0 rfl (fun _ => rfl) (fun _ _ _ => rfl)
    (fun t => by rw [after0_0]; unfold Dat.blockOf blk0; rw [dat0_A]; try rfl) t d).trans
    (by unfold Dat.fetched Dat.blockOf blk0; rw [dat0_A]; try rfl)

theorem tables0_eq (c : Dev nD) (v : pre0.Contents (Elt F)) :
    (Pipeline.prefHeld pre0 c (fun _ => fullShare) v : sProp 𝕄) = iprop(tabPt c tab0a (v 0) ∗ tabPt c tab0b (v 1)) := by
  unfold Pipeline.prefHeld
  rw [show (Finset.univ : Finset (Fin 2)) = insert (0 : Fin 2) {(1 : Fin 2)} from by decide, bigSep_insert (by decide), bigSep_singleton]
  rfl

abbrev stg0_0 (t : Fin (cfg0 a).N) : Memref sig .tc .vmem S2x256x1024 .f32 := spec0_0.stage ((cfg0 a).slots t 0)
abbrev stg0_1 (t : Fin (cfg0 a).N) : Memref sig .tc .vmem S2x256x1024 .bf16 := spec0_1.stage ((cfg0 a).slots t 1)

/-- The body at point `t`, on the staging buffers it is handed. -/
abbrev body0At (t : Fin (cfg0 a).N) : Prog (TpuEff nD τ sig (Elt F) Λ₀ .tc) PUnit :=
  cc0_w_in_rows (grid0.coords t) (Memref.whole main_c) (Memref.isWhole_whole _) (Memref.whole main_c_0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1))

def body0Pre (c : Dev nD) (t : Fin (cfg0 a).N) : sProp 𝕄 :=
  iprop((dat0 a W c).Φ t.castSucc ∗ (dat0 a W c).owesAt () t.castSucc
    ∗ (∃ d, owns (c : Thread nD τ) (stg0_0 a t) fullShare ((dat0 a W c).before 0 t d))
    ∗ (∃ d, owns (c : Thread nD τ) (stg0_1 a t) fullShare ((dat0 a W c).before 1 t d)))

def body0Post (c : Dev nD) (t : Fin (cfg0 a).N) : sProp 𝕄 :=
  iprop((dat0 a W c).Φ t.succ ∗ (dat0 a W c).owesAt () t.succ
    ∗ owns (c : Thread nD τ) (stg0_0 a t) fullShare ((dat0 a W c).after 0 t)
    ∗ owns (c : Thread nD τ) (stg0_1 a t) fullShare ((dat0 a W c).after 1 t))

theorem body0_sound (c : Dev nD) (t : Fin (cfg0 a).N) :
    body0Pre a W c t ⊢ wp frame (wpE (defs₀ (F := F)) Variants.none c none) Set.univ (body0At a t) (fun _ => body0Post a W c t) := by
  unfold body0Pre body0Post body0At
  simp only [before0_0]
  rw [show (dat0 a W c).Φ t.succ = (dat0 a W c).Φ t.castSucc from rfl,
    show (dat0 a W c).owesAt () t.succ = (dat0 a W c).owesAt () t.castSucc from rfl, after0_0, after0_1]
  rw [show (dat0 a W c).Φ t.castSucc = iprop(iprop(Pipeline.scopedRest spec0 c ∗ BI.emp) ∗ Pipeline.prefHeld pre0 c (fun _ => fullShare) a.1) from rfl, tables0_eq]
  iintro ⟨⟨HΦ, ⟨HT0, HT1⟩⟩, Ho, ⟨%d0, H0⟩, ⟨%d1, H1⟩⟩
  iapply ((rowsRun0 c (grid0.coords t) _ _ _ _ (blk0 a W c 0 t) (a.1 0) (a.1 1)) Set.univ _)
  isplitl [H0]; · iexact H0
  isplitl [H1]; · iexists _; iexact H1
  isplitl [HT0]; · iexact HT0
  isplitl [HT1]; · iexact HT1
  iintro ⟨H0, H1, HT0, HT1⟩
  isplitl [HΦ HT0 HT1]
  · isplitl [HΦ]
    · iexact HΦ
    isplitl [HT0]; · iexact HT0
    iexact HT1
  isplitl [Ho]; · iexact Ho
  isplitl [H0]; · iexact H0
  iexact H1

theorem body0_row (t : Fin (cfg0 a).N) :
    defs₀ (F := F) .tc (cfg0 a).body ((cfg0 a).bodyArgs t ((cfg0 a).slots t)) = body0At a t := by
  unfold defs₀; rw [Defs.onTc_tc]

theorem body0_obligation (c : Dev nD) : BodyObligation (dat0 a W c) (defs₀ (F := F)) Variants.none () Set.univ := fun t => by
  rw [bigSep_W0, bigSep_W0, body0_row a]
  exact triple_restated (body0_sound a W c t) rfl .rfl fun _ => .rfl

end Main

section Attention

variable (a : (pcfg1 (F := F)).Adm) (W : Dev nD → Valuation τ sig (Elt F))

/-- What each window's block at point `t` holds of its array, the buffers being at `W` when the call starts. -/
def blk1 (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (W c (Proc.devRef .tc (Pipeline.arrRef spec1 w)))

/-- The block written at point `t`. -/
def out1 (c : Dev nD) (t : Fin (cfg1 a).N) : Vec F S2x256x1024 .bf16 := k1_pay1 (word1 c (grid1.coords t) (a.1 1)) (blk1 a W c 0 t)

/-- The call's proof data: the arrays at `W`; after the body the input's block in place and the output's at `out1`; the tables held whole. -/
def dat1 (c : Dev nD) : Dat τ (Elt F) Unit ℕ (UR sig nD τ) ℕ (cfg1 a) c where
  A w := W c (Proc.devRef .tc (Pipeline.arrRef spec1 w))
  after w t := match w with
    | ⟨0, _⟩ => blk1 a W c 0 t
    | ⟨1, _⟩ => out1 a W c t
  Φ _ := iprop(iprop(Pipeline.scopedRest spec1 c ∗ BI.emp) ∗ Pipeline.prefHeld pre1 c (fun _ => fullShare) a.1)
  q _ := fullShare
  owed _ := 0

theorem dat1_A (c : Dev nD) (w : Fin (cfg1 a).W) : (dat1 a W c).A w = W c (Proc.devRef .tc (Pipeline.arrRef spec1 w)) := by dsimp only [dat1]
theorem after1_0 (c : Dev nD) (t : Fin (cfg1 a).N) : (dat1 a W c).after 0 t = blk1 a W c 0 t := by dsimp only [dat1]; try rfl
theorem after1_1 (c : Dev nD) (t : Fin (cfg1 a).N) : (dat1 a W c).after 1 t = out1 a W c t := by dsimp only [dat1]; try rfl

theorem before1_0 (c : Dev nD) (t : Fin (cfg1 a).N) (d) : (dat1 a W c).before 0 t d = blk1 a W c 0 t :=
  ((dat1 a W c).before_in_eq_fetched 0 rfl (fun _ => rfl) (fun _ _ _ => rfl)
    (fun t => by rw [after1_0]; unfold Dat.blockOf blk1; rw [dat1_A]; try rfl) t d).trans
    (by unfold Dat.fetched Dat.blockOf blk1; rw [dat1_A]; try rfl)

theorem tables1_eq (c : Dev nD) (v : pre1.Contents (Elt F)) :
    (Pipeline.prefHeld pre1 c (fun _ => fullShare) v : sProp 𝕄) = iprop(tabPt c tab1a (v 0) ∗ tabPt c tab1b (v 1)) := by
  unfold Pipeline.prefHeld
  rw [show (Finset.univ : Finset (Fin 2)) = insert (0 : Fin 2) {(1 : Fin 2)} from by decide, bigSep_insert (by decide), bigSep_singleton]
  rfl

abbrev stg1_0 (t : Fin (cfg1 a).N) : Memref sig .tc .vmem S2x256x1024 .f32 := spec1_0.stage ((cfg1 a).slots t 0)
abbrev stg1_1 (t : Fin (cfg1 a).N) : Memref sig .tc .vmem S2x256x1024 .bf16 := spec1_1.stage ((cfg1 a).slots t 1)

/-- The body at point `t`, on the staging buffers it is handed. -/
abbrev body1At (t : Fin (cfg1 a).N) : Prog (TpuEff nD τ sig (Elt F) Λ₀ .tc) PUnit :=
  cc1_w_in_rows (grid1.coords t) (Memref.whole main_c_1) (Memref.isWhole_whole _) (Memref.whole main_c_2) (Memref.isWhole_whole _) (spec1_0.stage ((cfg1 a).slots t 0)) (hstage1_0 (((cfg1 a).slots t 0).cast nbuf1_0)) (spec1_1.stage ((cfg1 a).slots t 1)) (hstage1_1 (((cfg1 a).slots t 1).cast nbuf1_1))

def body1Pre (c : Dev nD) (t : Fin (cfg1 a).N) : sProp 𝕄 :=
  iprop((dat1 a W c).Φ t.castSucc ∗ (dat1 a W c).owesAt () t.castSucc
    ∗ (∃ d, owns (c : Thread nD τ) (stg1_0 a t) fullShare ((dat1 a W c).before 0 t d))
    ∗ (∃ d, owns (c : Thread nD τ) (stg1_1 a t) fullShare ((dat1 a W c).before 1 t d)))

def body1Post (c : Dev nD) (t : Fin (cfg1 a).N) : sProp 𝕄 :=
  iprop((dat1 a W c).Φ t.succ ∗ (dat1 a W c).owesAt () t.succ
    ∗ owns (c : Thread nD τ) (stg1_0 a t) fullShare ((dat1 a W c).after 0 t)
    ∗ owns (c : Thread nD τ) (stg1_1 a t) fullShare ((dat1 a W c).after 1 t))

theorem body1_sound (c : Dev nD) (t : Fin (cfg1 a).N) :
    body1Pre a W c t ⊢ wp frame (wpE (defs₀ (F := F)) Variants.none c none) Set.univ (body1At a t) (fun _ => body1Post a W c t) := by
  unfold body1Pre body1Post body1At
  simp only [before1_0]
  rw [show (dat1 a W c).Φ t.succ = (dat1 a W c).Φ t.castSucc from rfl,
    show (dat1 a W c).owesAt () t.succ = (dat1 a W c).owesAt () t.castSucc from rfl, after1_0, after1_1]
  rw [show (dat1 a W c).Φ t.castSucc = iprop(iprop(Pipeline.scopedRest spec1 c ∗ BI.emp) ∗ Pipeline.prefHeld pre1 c (fun _ => fullShare) a.1) from rfl, tables1_eq]
  iintro ⟨⟨HΦ, ⟨HT0, HT1⟩⟩, Ho, ⟨%d0, H0⟩, ⟨%d1, H1⟩⟩
  iapply ((rowsRun1 c (grid1.coords t) _ _ _ _ (blk1 a W c 0 t) (a.1 0) (a.1 1)) Set.univ _)
  isplitl [H0]; · iexact H0
  isplitl [H1]; · iexists _; iexact H1
  isplitl [HT0]; · iexact HT0
  isplitl [HT1]; · iexact HT1
  iintro ⟨H0, H1, HT0, HT1⟩
  isplitl [HΦ HT0 HT1]
  · isplitl [HΦ]
    · iexact HΦ
    isplitl [HT0]; · iexact HT0
    iexact HT1
  isplitl [Ho]; · iexact Ho
  isplitl [H0]; · iexact H0
  iexact H1

theorem body1_row (t : Fin (cfg1 a).N) :
    defs₀ (F := F) .tc (cfg1 a).body ((cfg1 a).bodyArgs t ((cfg1 a).slots t)) = body1At a t := by
  unfold defs₀; rw [Defs.onTc_tc]

theorem body1_obligation (c : Dev nD) : BodyObligation (dat1 a W c) (defs₀ (F := F)) Variants.none () Set.univ := fun t => by
  rw [bigSep_W1, bigSep_W1, body1_row a]
  exact triple_restated (body1_sound a W c t) rfl .rfl fun _ => .rfl

end Attention

end Cert.Kernel4Ideal.Run

end
-- ==== Proof.SecondProjection.SecondTables.lean ====
module

public import proofs.«01_k».proof.Proof.SecondProjection.SecondRows

@[expose] public section

set_option maxRecDepth 16384

noncomputable section

namespace Cert.Kernel4Ideal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

local notation "𝕄" => MT nD τ sig Unit (Elt F) ℕ (UR sig nD τ) ℕ

/-- The tables' contents: they are constants of the program. -/
def table0 : pre0.Contents (Elt F) := fun | 0 => fun i => lit0 (S25.rowMajor i) | 1 => fun i => lit1 (S25.rowMajor i)
def table1 : pre1.Contents (Elt F) := fun | 0 => fun i => lit2 (S9.rowMajor i) | 1 => constantI S9 32 256#32

/-- The element of the tables that point `i` reads is number `i`. -/
theorem point0 : ∀ i : grid0.Coords, S25.rowMajor ((Rect.unit (s := S25) (k0_off1 i) S1.size (k0_off1_inb i)).point numel1_S1) = (⟨(i 0).val, (i 0).isLt⟩ : Fin 25) := by
  have h : ∀ i : grid0.Coords, (S25.rowMajor ((Rect.unit (s := S25) (k0_off1 i) S1.size (k0_off1_inb i)).point numel1_S1)).val = (i 0).val := by decide +kernel
  exact fun i => Fin.ext (h i)
theorem start0 (i : grid0.Coords) : cc0_transform_0 k0_off1_inb numel1_S1 (table0 (F := F)) i = ![0, (lit0 ⟨(i 0).val, (i 0).isLt⟩).toNat, 0] := by
  rw [← point0 i]; rfl
theorem mult0 (i : grid0.Coords) : k0_mult1 (table0 (F := F)) i = lit0 ⟨(i 0).val, (i 0).isLt⟩ := by
  rw [← point0 i]
  show (table0 (F := F)).atD 0 (k0_off1 i) = _
  unfold Pipeline.Prefetch.Contents.atD
  have h : ∀ a : Fin (pre0.ref 0).ty.shape.rank, k0_off1 i a + 1 ≤ (pre0.ref 0).ty.shape.size a := fun (a : Fin 1) => match a with
    | ⟨0, _⟩ => k0_off1_inb i 0
  rw [dif_pos h]
  exact congrArg (fun j => lit0 (S25.rowMajor j)) (funext fun a => Fin.ext (by show _ = _ + 1 * 0; rfl))
theorem keep0 (c : Dev nD) (i : grid0.Coords) : word0 c i (table0 (F := F) 1) = lit1 ⟨(i 0).val, (i 0).isLt⟩ := by
  rw [← point0 i]; rfl
theorem starts0_in : ∀ k : Fin 25, 8 ∣ (lit0 k).toInt ∧ (lit0 k).toNat + 256 ≤ 8456 := by decide +kernel

/-- Every block the tables name lies inside the weight array. -/
theorem table0_ok : ok0 (F := F) table0 := by
  constructor
  · intro i; rw [mult0]; exact (starts0_in _).1
  · intro i
    refine ⟨fun a => ?_, Or.inl rfl⟩
    rw [start0]
    fin_cases a
    · exact Nat.le_refl 2
    · exact (starts0_in _).2
    · exact Nat.le_refl 1024

/-- The element of the tables that point `i` reads is number `i`. -/
theorem point1 : ∀ i : grid1.Coords, S9.rowMajor ((Rect.unit (s := S9) (k1_off1 i) S1.size (k1_off1_inb i)).point numel1_S1) = (⟨(i 0).val, (i 0).isLt⟩ : Fin 9) := by
  have h : ∀ i : grid1.Coords, (S9.rowMajor ((Rect.unit (s := S9) (k1_off1 i) S1.size (k1_off1_inb i)).point numel1_S1)).val = (i 0).val := by decide +kernel
  exact fun i => Fin.ext (h i)
theorem start1 (i : grid1.Coords) : cc1_transform_0 k1_off1_inb numel1_S1 (table1 (F := F)) i = ![0, (lit2 ⟨(i 0).val, (i 0).isLt⟩).toNat, 0] := by
  rw [← point1 i]; rfl
theorem mult1 (i : grid1.Coords) : k1_mult1 (table1 (F := F)) i = lit2 ⟨(i 0).val, (i 0).isLt⟩ := by
  rw [← point1 i]
  show (table1 (F := F)).atD 0 (k1_off1 i) = _
  unfold Pipeline.Prefetch.Contents.atD
  have h : ∀ a : Fin (pre1.ref 0).ty.shape.rank, k1_off1 i a + 1 ≤ (pre1.ref 0).ty.shape.size a := fun (a : Fin 1) => match a with
    | ⟨0, _⟩ => k1_off1_inb i 0
  rw [dif_pos h]
  exact congrArg (fun j => lit2 (S9.rowMajor j)) (funext fun a => Fin.ext (by show _ = _ + 1 * 0; rfl))
theorem keep1 (c : Dev nD) (i : grid1.Coords) : word1 c i (table1 (F := F) 1) = 256#32 := rfl
theorem starts1_in : ∀ k : Fin 9, 8 ∣ (lit2 k).toInt ∧ (lit2 k).toNat + 256 ≤ 8456 := by decide +kernel

/-- Every block the tables name lies inside the weight array. -/
theorem table1_ok : ok1 (F := F) table1 := by
  constructor
  · intro i; rw [mult1]; exact (starts1_in _).1
  · intro i
    refine ⟨fun a => ?_, Or.inl rfl⟩
    rw [start1]
    fin_cases a
    · exact Nat.le_refl 2
    · exact (starts1_in _).2
    · exact Nat.le_refl 1024

def adm0 : (pcfg0 (F := F)).Adm := ⟨table0, table0_ok⟩
def adm1 : (pcfg1 (F := F)).Adm := ⟨table1, table1_ok⟩

end Cert.Kernel4Ideal.Run

end
-- ==== Proof.SecondProjection.SecondInprojRun.lean ====
module

public import proofs.«01_k».proof.Proof.SecondProjection.SecondRowsRun
public import Idealize.ShloMosaic.Lib.WholeRead

@[expose] public section

set_option maxRecDepth 16384

noncomputable section

namespace Cert.Kernel4Ideal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

local notation "𝕄" => MT nD τ sig Unit (Elt F) ℕ (UR sig nD τ) ℕ

/-- The gate rows the body reads: the first 128 of the window's 256. -/
def gateRows (x3 : Vec F S1x256x1024 .bf16) : Vec F S1x128x1024 .bf16 :=
  extractStridedSlice S1x128x1024 ![0, 0, 0] x3 ⟨rfl, inb_S1x256x1024_S1x128x1024_0_0_0⟩

set_option maxHeartbeats 1600000 in
/-- The projection's body where a new block of rows begins: the normalised rows are written, the gates from
    them, and the projection block from the same rows. -/
theorem inprojRunA (c : Dev nD) (i : grid2.Coords) (arg2 : Memref sig .tc .vmem S1024x1024 .f32) (harg2 : arg2.IsWhole) (arg3 : Memref sig .tc .vmem S1x1024 .f32) (harg3 : arg3.IsWhole) (arg4 : Memref sig .tc .vmem S1x3072x1024 .bf16) (harg4 : arg4.IsWhole) (arg5 : Memref sig .tc .vmem S1x256x1024 .bf16) (harg5 : arg5.IsWhole) (arg6 : Memref sig .tc .vmem S1024x3072 .bf16) (harg6 : arg6.IsWhole) (arg7 : Memref sig .tc .vmem S1024x1024 .bf16) (harg7 : arg7.IsWhole) (arg8 : Memref sig .tc .vmem S8x1024 .f32) (harg8 : arg8.IsWhole) (hc0 : k2_cond1 i = 1#1)
    (x0 : Vec F S1024x1024 .f32) (x1 : Vec F S1x1024 .f32) (x2 : Vec F S1x3072x1024 .bf16) (x3 : Vec F S1x256x1024 .bf16) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k2_pay3 (k2_pay1 x0 x1) x2) ∗ owns (c : Thread nD τ) arg7 fullShare (k2_pay1 x0 x1) ∗ owns (c : Thread nD τ) arg8 fullShare (k2_pay2 x0 x1 (gateRows x3))) -∗ K ⟨⟩))
          ⊢ wp frame (wpE (defs₀ (F := F)) Variants.none c none) E (cc2_inproj i arg2 harg2 arg3 harg3 arg4 harg4 arg5 harg5 arg6 harg6 arg7 harg7 arg8 harg8) K := by
    simp only [cc2_inproj_eq_skeleton]; unfold cc2_inproj_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      rw [View.read_writes_full]
      unfold inprojRunA.sl.v3 inprojRunA.sl.H5_1
      rw [View.readCov_full, View.readAt_full, View.readAt_full, View.readAt_full, harg2.read_unread, harg3.read_unread, harg4.read_unread]
    isplitl [H5]
    · iexists _; isplitr; swap; · iexact H5
      ipureintro
      unfold inprojRunA.sl.H5_1
      rw [View.read_writes_full, View.readAt_full, View.readAt_full, harg2.read_unread, harg3.read_unread]
    iexists _; isplitr; swap; · iexact H6
    ipureintro
    rw [View.read_writes_full, View.readAt_full, View.readAt_full, harg2.read_unread, harg3.read_unread]
    exact congrArg (k2_pay2 x0 x1) (funext fun y => (harg5.readAt_unread _ _ y).trans (congrArg x3 (funext fun a => Fin.ext (congrArg (_ + ·) (Nat.one_mul (y a).val)))))

set_option maxHeartbeats 1600000 in
/-- The projection's body at the other points: only the projection block is written, from the rows already
    normalised. -/
theorem inprojRunB (c : Dev nD) (i : grid2.Coords) (arg2 : Memref sig .tc .vmem S1024x1024 .f32) (harg2 : arg2.IsWhole) (arg3 : Memref sig .tc .vmem S1x1024 .f32) (harg3 : arg3.IsWhole) (arg4 : Memref sig .tc .vmem S1x3072x1024 .bf16) (harg4 : arg4.IsWhole) (arg5 : Memref sig .tc .vmem S1x256x1024 .bf16) (harg5 : arg5.IsWhole) (arg6 : Memref sig .tc .vmem S1024x3072 .bf16) (harg6 : arg6.IsWhole) (arg7 : Memref sig .tc .vmem S1024x1024 .bf16) (harg7 : arg7.IsWhole) (arg8 : Memref sig .tc .vmem S8x1024 .f32) (harg8 : arg8.IsWhole) (hc0 : ¬k2_cond1 i = 1#1)
    (x0 : Vec F S1024x1024 .f32) (x1 : Vec F S1x1024 .f32) (x2 : Vec F S1x3072x1024 .bf16) (x3 : Vec F S1x256x1024 .bf16) (x5 : Vec F S1024x1024 .bf16) (x6 : Vec F S8x1024 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare x5 ∗ owns (c : Thread nD τ) arg8 fullShare x6
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k2_pay3 x5 x2) ∗ owns (c : Thread nD τ) arg7 fullShare x5 ∗ owns (c : Thread nD τ) arg8 fullShare x6) -∗ K ⟨⟩))
          ⊢ wp frame (wpE (defs₀ (F := F)) Variants.none c none) E (cc2_inproj i arg2 harg2 arg3 harg3 arg4 harg4 arg5 harg5 arg6 harg6 arg7 harg7 arg8 harg8) K := by
    simp only [cc2_inproj_eq_skeleton]; unfold cc2_inproj_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hf6
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      rw [View.read_writes_full, View.readAt_full, View.readAt_full, harg7.read_unread, harg4.read_unread]
    isplitl [H5]
    · iexists _; isplitr; swap; · iexact H5
      ipureintro
      exact harg7.read_unread _
    iexists _; isplitr; swap; · iexact H6
    ipureintro
    exact harg8.read_unread _

end Cert.Kernel4Ideal.Run

end
-- ==== Proof.SecondProjection.SecondInproj.lean ====
module

public import proofs.«01_k».proof.Proof.SecondProjection.SecondInprojRun

@[expose] public section

set_option maxRecDepth 16384

noncomputable section

namespace Cert.Kernel4Ideal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

local notation "𝕄" => MT nD τ sig Unit (Elt F) ℕ (UR sig nD τ) ℕ

variable (W : Dev nD → Valuation τ sig (Elt F))

/-- What each window's block at point `t` holds of its array, the buffers being at `W` when the call starts. -/
def blk2 (c : Dev nD) (w : Fin cfg2.W) (t : Fin cfg2.N) : ((cfg2.win w).xblock (cfg2.grid.coords t)).Idx → Elt F (cfg2.win w).elt :=
  ((cfg2.win w).blk t).view.read (Elt F) (W c (Proc.devRef .tc (Pipeline.arrRef spec2 w)))

/-- The weights' window does not tile its array, but no block it reaches is cut: a filler for the part nothing leaves unfilled. -/
def fill2_2 : (cfg2.win 2).block.Idx → Elt F (cfg2.win 2).elt := fun _ => Classical.choice inferInstance
def wblk2 (c : Dev nD) (t : Fin cfg2.N) : (cfg2.win 2).block.Idx → Elt F (cfg2.win 2).elt :=
  (cfg2.win 2).fill (cfg2.grid.coords t) fill2_2 (blk2 W c 2 t)
theorem uncut2_2 : ∀ t : Fin cfg2.N, ∀ a, (cfg2.win 2).xsize (cfg2.grid.coords t) a = (cfg2.win 2).size a := by decide +kernel
theorem moved2_2 (t : Fin cfg2.N) (j : (cfg2.win 2).block.Idx) : (cfg2.win 2).moved (cfg2.grid.coords t) j = true :=
  ((cfg2.win 2).moved_iff _ j).mpr fun a => by rw [uncut2_2 t a]; exact (j a).isLt
theorem fill2_2_eq (t : Fin cfg2.N) (d d' : (cfg2.win 2).block.Idx → Elt F (cfg2.win 2).elt) (g) :
    (cfg2.win 2).fill (cfg2.grid.coords t) d g = (cfg2.win 2).fill (cfg2.grid.coords t) d' g := by
  funext j; unfold Pipeline.Window.fill; rw [dif_pos (moved2_2 t j), dif_pos (moved2_2 t j)]

/-- The first of the two points that share a block of rows. -/
def rowPt (t : Fin cfg2.N) : Fin cfg2.N := ⟨t.val / 2 * 2, lt_of_le_of_lt (Nat.div_mul_le_self _ _) t.isLt⟩
theorem rowPt_even (t : Fin cfg2.N) (h : t.val % 2 = 0) : rowPt t = t := Fin.ext (by show t.val / 2 * 2 = t.val; omega)
theorem rowPt_odd (t : Fin cfg2.N) (h : ¬ t.val % 2 = 0) : rowPt ⟨t.val - 1, lt_of_le_of_lt (Nat.sub_le _ _) t.isLt⟩ = rowPt t :=
  Fin.ext (by show (t.val - 1) / 2 * 2 = t.val / 2 * 2; omega)

/-- The normalised rows, the projection block and the gates the call writes at point `t`. -/
def hOut (c : Dev nD) (t : Fin cfg2.N) : Vec F S1024x1024 .bf16 := k2_pay1 (blk2 W c 0 (rowPt t)) (blk2 W c 1 (rowPt t))
def projOut (c : Dev nD) (t : Fin cfg2.N) : Vec F S1024x3072 .bf16 := k2_pay3 (hOut W c t) (wblk2 W c t)
def gateOut (c : Dev nD) (t : Fin cfg2.N) : Vec F S8x1024 .f32 :=
  k2_pay2 (blk2 W c 0 (rowPt t)) (blk2 W c 1 (rowPt t)) (gateRows (blk2 W c 3 (rowPt t)))

def dat2 (c : Dev nD) : Dat τ (Elt F) Unit ℕ (UR sig nD τ) ℕ cfg2 c where
  A w := W c (Proc.devRef .tc (Pipeline.arrRef spec2 w))
  after w t := match w with
    | ⟨0, _⟩ => blk2 W c 0 t
    | ⟨1, _⟩ => blk2 W c 1 t
    | ⟨2, _⟩ => wblk2 W c t
    | ⟨3, _⟩ => blk2 W c 3 t
    | ⟨4, _⟩ => projOut W c t
    | ⟨5, _⟩ => hOut W c t
    | ⟨6, _⟩ => gateOut W c t
  Φ _ := Pipeline.scopedRest spec2 c
  q w := Pipeline.shareOf spec2 w
  owed _ := 0

theorem dat2_A (c : Dev nD) (w : Fin cfg2.W) : (dat2 W c).A w = W c (Proc.devRef .tc (Pipeline.arrRef spec2 w)) := by dsimp only [dat2]
theorem after2_0 (c : Dev nD) (t : Fin cfg2.N) : (dat2 W c).after 0 t = blk2 W c 0 t := by dsimp only [dat2]
theorem after2_1 (c : Dev nD) (t : Fin cfg2.N) : (dat2 W c).after 1 t = blk2 W c 1 t := by dsimp only [dat2]
theorem after2_2 (c : Dev nD) (t : Fin cfg2.N) : (dat2 W c).after 2 t = wblk2 W c t := by dsimp only [dat2]
theorem after2_3 (c : Dev nD) (t : Fin cfg2.N) : (dat2 W c).after 3 t = blk2 W c 3 t := by dsimp only [dat2]
theorem after2_4 (c : Dev nD) (t : Fin cfg2.N) : (dat2 W c).after 4 t = projOut W c t := by dsimp only [dat2]
theorem after2_5 (c : Dev nD) (t : Fin cfg2.N) : (dat2 W c).after 5 t = hOut W c t := by dsimp only [dat2]
theorem after2_6 (c : Dev nD) (t : Fin cfg2.N) : (dat2 W c).after 6 t = gateOut W c t := by dsimp only [dat2]

theorem before2_0 (c : Dev nD) (t : Fin cfg2.N) (d) : (dat2 W c).before 0 t d = blk2 W c 0 t :=
  ((dat2 W c).before_in_eq_fetched 0 rfl (fun _ => rfl) (fun _ _ _ => rfl)
    (fun t => by rw [after2_0]; unfold Dat.blockOf blk2; rw [dat2_A]; try rfl) t d).trans
    (by unfold Dat.fetched Dat.blockOf blk2; rw [dat2_A]; try rfl)
theorem before2_1 (c : Dev nD) (t : Fin cfg2.N) (d) : (dat2 W c).before 1 t d = blk2 W c 1 t :=
  ((dat2 W c).before_in_eq_fetched 1 rfl (fun _ => rfl) (fun _ _ _ => rfl)
    (fun t => by rw [after2_1]; unfold Dat.blockOf blk2; rw [dat2_A]; try rfl) t d).trans
    (by unfold Dat.fetched Dat.blockOf blk2; rw [dat2_A]; try rfl)
theorem before2_3 (c : Dev nD) (t : Fin cfg2.N) (d) : (dat2 W c).before 3 t d = blk2 W c 3 t :=
  ((dat2 W c).before_in_eq_fetched 3 rfl (fun _ => rfl) (fun _ _ _ => rfl)
    (fun t => by rw [after2_3]; unfold Dat.blockOf blk2; rw [dat2_A]; try rfl) t d).trans
    (by unfold Dat.fetched Dat.blockOf blk2; rw [dat2_A]; try rfl)
theorem before2_2 (c : Dev nD) (t : Fin cfg2.N) (d) : (dat2 W c).before 2 t d = wblk2 W c t :=
  ((dat2 W c).before_in_eq_fetched 2 rfl (fun _ => rfl)
      (fun t t' h => funext fun a => congrArg (fun n => Pipeline.Clip.of n ((cfg2.win 2).size a) (S2x6400x1024.size a)) (congrFun h a))
      (fun t => by rw [after2_2]; unfold wblk2; rw [Pipeline.Window.cut_fill]; unfold Dat.blockOf blk2; rw [dat2_A]; try rfl) t d).trans
    (by unfold Dat.fetched wblk2; rw [fill2_2_eq t d fill2_2]; unfold Dat.blockOf blk2; rw [dat2_A]; try rfl)

/-- The body's condition holds at the first point of each pair. -/
theorem cond2 (t : Fin cfg2.N) : k2_cond1 (grid2.coords t) = 1#1 ↔ t.val % 2 = 0 := by
  have ht : t.val < 32 := lt_of_lt_of_eq t.isLt N_2
  have e0 : (grid2.coords t 0).val = t.val / 2 % 16 := Pipeline.Grid.coords_val t 0 (by decide) rfl
  have e1 : (grid2.coords t 1).val = t.val / 1 % 2 := Pipeline.Grid.coords_val t 1 (by decide) rfl
  simp only [k2_cond1, e0, e1]
  word_cmp

abbrev stg2_0 (t : Fin cfg2.N) : Memref sig .tc .vmem S1024x1024 .f32 := win2_0.stage (cfg2.slots t 0)
abbrev stg2_1 (t : Fin cfg2.N) : Memref sig .tc .vmem S1x1024 .f32 := win2_1.stage (cfg2.slots t 1)
abbrev stg2_2 (t : Fin cfg2.N) : Memref sig .tc .vmem S1x3072x1024 .bf16 := win2_2.stage (cfg2.slots t 2)
abbrev stg2_3 (t : Fin cfg2.N) : Memref sig .tc .vmem S1x256x1024 .bf16 := win2_3.stage (cfg2.slots t 3)
abbrev stg2_4 (t : Fin cfg2.N) : Memref sig .tc .vmem S1024x3072 .bf16 := win2_4.stage (cfg2.slots t 4)
abbrev stg2_5 (t : Fin cfg2.N) : Memref sig .tc .vmem S1024x1024 .bf16 := win2_5.stage (cfg2.slots t 5)
abbrev stg2_6 (t : Fin cfg2.N) : Memref sig .tc .vmem S8x1024 .f32 := win2_6.stage (cfg2.slots t 6)

/-- The windows of the rows and the gates are stored only at the first point of a pair. -/
theorem idle2_first (t : Fin cfg2.N) (h : t.val % 2 = 0) : cfg2.idle 5 (grid2.coords t) = false ∧ cfg2.idle 6 (grid2.coords t) = false := by
  have e := (cond2 t).mpr h
  constructor <;> (show (!(k2_cond1 (grid2.coords t) == 1#1)) = false) <;> rw [e] <;> rfl
/-- At the second point of a pair the buffer still holds what the first left. -/
theorem before2_5 (c : Dev nD) (t : Fin cfg2.N) (h : ¬ t.val % 2 = 0) (d) : (dat2 W c).before 5 t d = hOut W c t := by
  have hN : t.val < 32 := lt_of_lt_of_eq t.isLt N_2
  have hi := (idle2_first ⟨t.val - 1, lt_of_le_of_lt (Nat.sub_le _ _) t.isLt⟩ (by show (t.val - 1) % 2 = 0; omega)).1
  have hfl : (cfg2.win 5).flush ⟨t.val - 1, lt_of_le_of_lt (Nat.sub_le _ _) t.isLt⟩ = false := Bool.eq_false_iff.mpr fun e => by
    have e := (flush2_5 _).mp e; simp only at e; omega
  rw [(dat2 W c).before_of_pos 5 t (by omega) ((cfg2.win 5).fetch_out rfl t), hfl, if_neg Bool.false_ne_true]
  unfold Dat.left
  rw [hi]
  show (dat2 W c).after 5 _ = _
  rw [after2_5]
  unfold hOut; rw [rowPt_odd t h]
theorem leaves2_5 (c : Dev nD) (t : Fin cfg2.N) : (dat2 W c).leavesExact 5 t = owns (c : Thread nD τ) (stg2_5 t) fullShare (hOut W c t) := by
  by_cases h : t.val % 2 = 0
  · unfold Dat.leavesExact; rw [(idle2_first t h).1, after2_5]
  · unfold Dat.leavesExact
    rw [(flush2_5 t).mpr (by omega)]
    cases cfg2.idle 5 (cfg2.grid.coords t) <;> simp only [after2_5]
/-- At the second point of a pair the buffer still holds what the first left. -/
theorem before2_6 (c : Dev nD) (t : Fin cfg2.N) (h : ¬ t.val % 2 = 0) (d) : (dat2 W c).before 6 t d = gateOut W c t := by
  have hN : t.val < 32 := lt_of_lt_of_eq t.isLt N_2
  have hi := (idle2_first ⟨t.val - 1, lt_of_le_of_lt (Nat.sub_le _ _) t.isLt⟩ (by show (t.val - 1) % 2 = 0; omega)).2
  have hfl : (cfg2.win 6).flush ⟨t.val - 1, lt_of_le_of_lt (Nat.sub_le _ _) t.isLt⟩ = false := Bool.eq_false_iff.mpr fun e => by
    have e := (flush2_6 _).mp e; simp only at e; omega
  rw [(dat2 W c).before_of_pos 6 t (by omega) ((cfg2.win 6).fetch_out rfl t), hfl, if_neg Bool.false_ne_true]
  unfold Dat.left
  rw [hi]
  show (dat2 W c).after 6 _ = _
  rw [after2_6]
  unfold gateOut; rw [rowPt_odd t h]
theorem leaves2_6 (c : Dev nD) (t : Fin cfg2.N) : (dat2 W c).leavesExact 6 t = owns (c : Thread nD τ) (stg2_6 t) fullShare (gateOut W c t) := by
  by_cases h : t.val % 2 = 0
  · unfold Dat.leavesExact; rw [(idle2_first t h).2, after2_6]
  · unfold Dat.leavesExact
    rw [(flush2_6 t).mpr (by omega)]
    cases cfg2.idle 6 (cfg2.grid.coords t) <;> simp only [after2_6]

theorem live2_0 (t : Fin cfg2.N) : cfg2.idle 0 (grid2.coords t) = false := rfl
theorem leaves2_0 (c : Dev nD) (t : Fin cfg2.N) : (dat2 W c).leavesExact 0 t = owns (c : Thread nD τ) (stg2_0 t) fullShare (blk2 W c 0 t) := by
  unfold Dat.leavesExact; rw [live2_0 t, after2_0]
theorem live2_1 (t : Fin cfg2.N) : cfg2.idle 1 (grid2.coords t) = false := rfl
theorem leaves2_1 (c : Dev nD) (t : Fin cfg2.N) : (dat2 W c).leavesExact 1 t = owns (c : Thread nD τ) (stg2_1 t) fullShare (blk2 W c 1 t) := by
  unfold Dat.leavesExact; rw [live2_1 t, after2_1]
theorem live2_2 (t : Fin cfg2.N) : cfg2.idle 2 (grid2.coords t) = false := rfl
theorem leaves2_2 (c : Dev nD) (t : Fin cfg2.N) : (dat2 W c).leavesExact 2 t = owns (c : Thread nD τ) (stg2_2 t) fullShare (wblk2 W c t) := by
  unfold Dat.leavesExact; rw [live2_2 t, after2_2]
theorem live2_3 (t : Fin cfg2.N) : cfg2.idle 3 (grid2.coords t) = false := rfl
theorem leaves2_3 (c : Dev nD) (t : Fin cfg2.N) : (dat2 W c).leavesExact 3 t = owns (c : Thread nD τ) (stg2_3 t) fullShare (blk2 W c 3 t) := by
  unfold Dat.leavesExact; rw [live2_3 t, after2_3]
theorem live2_4 (t : Fin cfg2.N) : cfg2.idle 4 (grid2.coords t) = false := rfl
theorem leaves2_4 (c : Dev nD) (t : Fin cfg2.N) : (dat2 W c).leavesExact 4 t = owns (c : Thread nD τ) (stg2_4 t) fullShare (projOut W c t) := by
  unfold Dat.leavesExact; rw [live2_4 t, after2_4]

def body2Pre (c : Dev nD) (t : Fin cfg2.N) : sProp 𝕄 :=
  iprop((dat2 W c).Φ t.castSucc ∗ (dat2 W c).owesAt () t.castSucc
    ∗ (∃ d, owns (c : Thread nD τ) (stg2_0 t) fullShare ((dat2 W c).before 0 t d))
    ∗ (∃ d, owns (c : Thread nD τ) (stg2_1 t) fullShare ((dat2 W c).before 1 t d))
    ∗ (∃ d, owns (c : Thread nD τ) (stg2_2 t) fullShare ((dat2 W c).before 2 t d))
    ∗ (∃ d, owns (c : Thread nD τ) (stg2_3 t) fullShare ((dat2 W c).before 3 t d))
    ∗ (∃ d, owns (c : Thread nD τ) (stg2_4 t) fullShare ((dat2 W c).before 4 t d))
    ∗ (∃ d, owns (c : Thread nD τ) (stg2_5 t) fullShare ((dat2 W c).before 5 t d))
    ∗ (∃ d, owns (c : Thread nD τ) (stg2_6 t) fullShare ((dat2 W c).before 6 t d)))

def body2Post (c : Dev nD) (t : Fin cfg2.N) : sProp 𝕄 :=
  iprop((dat2 W c).Φ t.succ ∗ (dat2 W c).owesAt () t.succ
    ∗ (dat2 W c).leavesExact 0 t
    ∗ (dat2 W c).leavesExact 1 t
    ∗ (dat2 W c).leavesExact 2 t
    ∗ (dat2 W c).leavesExact 3 t
    ∗ (dat2 W c).leavesExact 4 t
    ∗ (dat2 W c).leavesExact 5 t
    ∗ (dat2 W c).leavesExact 6 t)

set_option maxHeartbeats 1600000 in
theorem body2_sound (c : Dev nD) (t : Fin cfg2.N) :
    body2Pre W c t ⊢ wp frame (wpE (defs₀ (F := F)) Variants.none c none) Set.univ (bodyAt2 t) (fun _ => body2Post W c t) := by
  unfold body2Pre body2Post bodyAt2
  simp only [before2_0, before2_1, before2_2, before2_3]
  rw [show (dat2 W c).Φ t.succ = (dat2 W c).Φ t.castSucc from rfl,
    show (dat2 W c).owesAt () t.succ = (dat2 W c).owesAt () t.castSucc from rfl,
    leaves2_0, leaves2_1, leaves2_2, leaves2_3, leaves2_4, leaves2_5, leaves2_6]
  by_cases h0 : t.val % 2 = 0
  · have hh : hOut W c t = k2_pay1 (blk2 W c 0 t) (blk2 W c 1 t) := by unfold hOut; rw [rowPt_even t h0]
    have hp : projOut W c t = k2_pay3 (k2_pay1 (blk2 W c 0 t) (blk2 W c 1 t)) (wblk2 W c t) := by unfold projOut; rw [hh]
    have hg : gateOut W c t = k2_pay2 (blk2 W c 0 t) (blk2 W c 1 t) (gateRows (blk2 W c 3 t)) := by unfold gateOut; rw [rowPt_even t h0]
    rw [hh, hp, hg]
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((inprojRunA c (grid2.coords t) _ _ _ _ _ _ _ _ _ _ _ _ _ _ ((cond2 t).mpr h0) (blk2 W c 0 t) (blk2 W c 1 t) (wblk2 W c t) (blk2 W c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · simp only [before2_5 W c t h0, before2_6 W c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((inprojRunB c (grid2.coords t) _ _ _ _ _ _ _ _ _ _ _ _ _ _ (fun h => h0 ((cond2 t).mp h)) (blk2 W c 0 t) (blk2 W c 1 t) (wblk2 W c t) (blk2 W c 3 t) (hOut W c t) (gateOut W c t)) Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem body2_row (t : Fin cfg2.N) :
    defs₀ (F := F) .tc cfg2.body (cfg2.bodyArgs t (cfg2.slots t)) = bodyAt2 t := by
  unfold defs₀; rw [Defs.onTc_tc]

theorem body2_obligation (c : Dev nD) : BodyObligation (dat2 W c) (defs₀ (F := F)) Variants.none () Set.univ := fun t => by
  rw [bigSep_W2, bigSep_W2, body2_row]
  exact triple_restated (body2_sound W c t) rfl .rfl fun _ => .rfl

end Cert.Kernel4Ideal.Run

end
-- ==== Proof.SecondProjection.SecondRun.lean ====
module

public import proofs.«01_k».proof.Proof.SecondProjection.SecondTables
public import proofs.«01_k».proof.Proof.SecondProjection.SecondInproj
public import proofs.«01_k».proof.Proof.Gen.Kernel4Ideal.Regions
public import Idealize.ShloMosaic.Lib.Pipeline.FrameSuffix
public import Idealize.ShloMosaic.Lib.StableHlo.RunRead

@[expose] public section

set_option maxRecDepth 16384

noncomputable section

namespace Cert.Kernel4Ideal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The tables each call runs at. -/
def adm : (p : Fin 3) → (pcfgs (F := F) p).Adm
  | 0 => adm0
  | 1 => adm1
  | 2 => cfg2.toPCfg_adm

/-- The buffers after the host's first operations, after each of the two re-tiling calls, after the host's second
    operations and at the end. -/
abbrev W1 (c : Dev nD) : Valuation τ sig (Elt F) := StableHlo.after hostOps0 (fun b => m (c, b))
def W2 (c : Dev nD) : Valuation τ sig (Elt F) := Pipeline.afterRegion (dat0 adm0 (W1 m) c) (W1 m c)
def W3 (c : Dev nD) : Valuation τ sig (Elt F) := Pipeline.afterRegion (dat1 adm1 (W2 m) c) (W2 m c)
abbrev W4 (c : Dev nD) : Valuation τ sig (Elt F) := StableHlo.after hostOps2 (W3 m c)
def W5 (c : Dev nD) : Valuation τ sig (Elt F) :=
  Pipeline.withArrays spec2 c (W4 m c) fun w => (dat2 (W4 m) c).arrAt w cfg2.N

def pdats : (p : Fin 3) → (c : Dev nD) → Dat τ (Elt F) Unit ℕ (UR sig nD τ) ℕ (Pipeline.pin (pcfgs (F := F)) adm p) c
  | 0 => fun c => dat0 adm0 (W1 m) c
  | 1 => fun c => dat1 adm1 (W2 m) c
  | 2 => fun c => dat2 (W4 m) c

/-- Every semaphore of a TensorCore may be waited on; nothing is owed. -/
def lvls : GSem nD τ sig → Finset Unit := fun g => if g.1.2 = .tc then Finset.univ else ∅
def lv0 : GSem nD τ sig → Unit → ℕ := fun _ _ => 0
def dues : Dev nD → CellTallies nD τ sig Unit := fun _ => 0

theorem cut (p : Fin 3) : Pipeline.LevelCut (pcfgs (F := F)) adm () lvls lv0 p dues (fun _ => 0) where
  hι _ _ _ := by unfold lvls; rw [if_pos rfl]; exact Finset.mem_univ _
  hιb _ _ _ := Nat.le_refl 0
  hD _ _ _ h := absurd h (Nat.lt_irrefl 0)

theorem W1_table (c : Dev nD) : ∀ k, (adm (F := F) 0).1 k = W1 m c (Proc.devRef .tc ((pcfgs (F := F) 0).pre.ref k))
  | 0 => by show table0 0 = W1 m c (Proc.devRef .tc main_c); after_reads_simp; rfl
  | 1 => by show table0 1 = W1 m c (Proc.devRef .tc main_c_0); after_reads_simp; rfl
theorem W2_of (c : Dev nD) (r : Ref sig .tc) (h : ∀ w, r ≠ Pipeline.arrRef spec0 w) : W2 m c r = W1 m c r := by
  unfold W2; exact Pipeline.afterRegion_of_not_arr _ _ h
theorem W3_of (c : Dev nD) (r : Ref sig .tc) (h : ∀ w, r ≠ Pipeline.arrRef spec1 w) : W3 m c r = W2 m c r := by
  unfold W3; exact Pipeline.afterRegion_of_not_arr _ _ h
theorem W5_of (c : Dev nD) (r : Ref sig .tc) (h : ∀ w, Pipeline.arrRef spec2 w ≠ r) : W5 m c r = W4 m c r := by
  unfold W5; exact Pipeline.withArrays_of_ne _ _ _ _ _ h
theorem W2_table (c : Dev nD) : ∀ k, (adm (F := F) 1).1 k = W2 m c (Proc.devRef .tc ((pcfgs (F := F) 1).pre.ref k))
  | 0 => by
    show table1 0 = W2 m c (Proc.devRef .tc main_c_1)
    rw [W2_of m c main_c_1 (by decide)]; after_reads_simp; rfl
  | 1 => by
    show table1 1 = W2 m c (Proc.devRef .tc main_c_2)
    rw [W2_of m c main_c_2 (by decide)]; after_reads_simp; rfl

theorem arrs_in (p : Fin 3) : Pipeline.arrRefs (τ := τ) (pcfgs (F := F) p).spec ⊆ Pipeline.ucRefs τ sig :=
  Pipeline.arrRefs_sub_ucRefs _ (match p with | 0 => winFacts0.arr_unscoped | 1 => winFacts1.arr_unscoped | 2 => winFacts₀2.arr_unscoped)
theorem tbls_in (p : Fin 3) : Pipeline.tblRefs (τ := τ) (pcfgs (F := F) p).pre ⊆ Pipeline.ucRefs τ sig :=
  Pipeline.tblRefs_sub_ucRefs _ (match p with | 0 => preFacts0.unscoped | 1 => preFacts1.unscoped | 2 => fun k => k.elim0)

/-- The two re-tiling calls: from the buffers at one stage to the next, the call's tables read and left as they are. -/
def reg0 : RegionSeg (pcfgs (F := F)) adm (pdats m) () defs₀ Variants.none lvls lv0 0 :=
  RegionSeg.ofHeldInT (pcfgs (F := F)) adm (pdats m) () defs₀ Variants.none lvls lv0 0 dues (Pipeline.ucRefs τ sig)
    (fun _ => BI.emp) (fun _ => BI.emp) launch0 (fun c => (body0_obligation adm0 (W1 m) c).loose) (fun _ _ => rfl) (fun _ => rfl)
    (fun c => (dat0 adm0 (W1 m) c).share_full fun _ => rfl) (fun _ => .rfl) (fun _ => .rfl) (fun _ => 0) (cut 0) (fun _ => BI.emp)
    (W1 m) (fun _ _ => rfl) (W1_table m)
def reg1 : RegionSeg (pcfgs (F := F)) adm (pdats m) () defs₀ Variants.none lvls lv0 1 :=
  RegionSeg.ofHeldInT (pcfgs (F := F)) adm (pdats m) () defs₀ Variants.none lvls lv0 1 dues (Pipeline.ucRefs τ sig)
    (fun _ => BI.emp) (fun _ => BI.emp) launch1 (fun c => (body1_obligation adm1 (W2 m) c).loose) (fun _ _ => rfl) (fun _ => rfl)
    (fun c => (dat1 adm1 (W2 m) c).share_full fun _ => rfl) (fun _ => .rfl) (fun _ => .rfl) (fun _ => 0) (cut 1) (fun _ => BI.emp)
    (W2 m) (fun _ _ => rfl) (W2_table m)
theorem in2 (c : Dev nD) : iprop(Pipeline.scopedRest spec2 c ∗ BI.emp) ⊢ ((pdats m 2 c).Φ 0 : sProp 𝕄) := by
  show _ ⊢ (Pipeline.scopedRest spec2 c : sProp 𝕄)
  iintro ⟨H, -⟩; iexact H
theorem out2 (c : Dev nD) : ((pdats m 2 c).Φ (Fin.last cfg2.N) : sProp 𝕄) ⊢ iprop(Pipeline.scopedRest spec2 c ∗ BI.emp) := by
  show (Pipeline.scopedRest spec2 c : sProp 𝕄) ⊢ _
  iintro H; isplitl [H]; · iexact H
  iempintro
/-- The projection call: its arrays alone, the other buffers carried past it. -/
def reg2 : RegionSeg (pcfgs (F := F)) adm (pdats m) () defs₀ Variants.none lvls lv0 2 :=
  RegionSeg.ofArrays (pcfgs (F := F)) adm (pdats m) () defs₀ Variants.none lvls lv0 2 dues
    (fun _ => BI.emp) (fun _ => BI.emp) launch₀2 rfl (fun c => (body2_obligation (W4 m) c).loose) (fun _ _ => rfl) (fun _ => rfl)
    (in2 m) (out2 m) (fun _ => 0) (cut 2)
    (fun c => Pipeline.unscopedRest spec2 c fun b => W4 m c b)

/-- What rides beside the buffers between two stages. -/
def rest (c : Dev nD) : sProp 𝕄 := iprop(∃ Wd, owes (c : Thread nD τ) (0 : CellTallies nD τ sig Unit) Wd)

theorem rest_in (c : Dev nD) (V : Valuation τ sig (Elt F)) : (iprop(StableHlo.held (c : Thread nD τ) (Pipeline.ucRefs τ sig) V ∗ rest (F := F) c) : sProp 𝕄)
    ⊢ iprop(StableHlo.held (c : Thread nD τ) (Pipeline.ucRefs τ sig) V ∗ ((∃ Wd, owes (c : Thread nD τ) (dues c) Wd) ∗ BI.emp ∗ BI.emp)) := by
  unfold rest; iintro ⟨H, Hw⟩
  isplitl [H]; · iexact H
  isplitl [Hw]; · iexact Hw
  isplitl []; · iempintro
  iempintro
theorem rest_out (c : Dev nD) (V : Valuation τ sig (Elt F)) :
    (iprop(StableHlo.held (c : Thread nD τ) (Pipeline.ucRefs τ sig) V ∗ ((∃ Wd, owes (c : Thread nD τ) (dues c) Wd) ∗ BI.emp ∗ BI.emp)) : sProp 𝕄)
    ⊢ iprop(StableHlo.held (c : Thread nD τ) (Pipeline.ucRefs τ sig) V ∗ rest (F := F) c) := by
  unfold rest; iintro ⟨H, Hw, -, -⟩
  isplitl [H]; · iexact H
  iexact Hw
theorem pre0 (c : Dev nD) : iprop(StableHlo.held (c : Thread nD τ) (Pipeline.ucRefs τ sig) (W1 m c) ∗ rest (F := F) c) ⊢ (reg0 m).pre c :=
  by
  refine (rest_in c _).trans ?_
  unfold reg0
  exact Pipeline.RegionSeg.ofHeldInT_pre (pcs := pcfgs (F := F)) (a := adm) (pdats := pdats m) (ι := ()) (defs₀ := defs₀)
    (𝒱₀ := Variants.none) (L := lvls) (lv := lv0) (p := 0) (D := dues) (S := Pipeline.ucRefs τ sig) (arrs_in (F := F) 0) (tbls_in (F := F) 0)
    (X := fun _ => BI.emp) (Y := fun _ => BI.emp) (R := fun _ => BI.emp) (W := W1 m) c
theorem post0 (c : Dev nD) : (reg0 m).post c ⊢ iprop(StableHlo.held (c : Thread nD τ) (Pipeline.ucRefs τ sig) (W2 m c) ∗ rest (F := F) c) :=
  (Pipeline.RegionSeg.ofHeldInT_post (arrs_in 0) (tbls_in 0) c).trans (rest_out c _)
theorem pre1 (c : Dev nD) : iprop(StableHlo.held (c : Thread nD τ) (Pipeline.ucRefs τ sig) (W2 m c) ∗ rest (F := F) c) ⊢ (reg1 m).pre c :=
  by
  refine (rest_in c _).trans ?_
  unfold reg1
  exact Pipeline.RegionSeg.ofHeldInT_pre (pcs := pcfgs (F := F)) (a := adm) (pdats := pdats m) (ι := ()) (defs₀ := defs₀)
    (𝒱₀ := Variants.none) (L := lvls) (lv := lv0) (p := 1) (D := dues) (S := Pipeline.ucRefs τ sig) (arrs_in (F := F) 1) (tbls_in (F := F) 1)
    (X := fun _ => BI.emp) (Y := fun _ => BI.emp) (R := fun _ => BI.emp) (W := W2 m) c
theorem post1 (c : Dev nD) : (reg1 m).post c ⊢ iprop(StableHlo.held (c : Thread nD τ) (Pipeline.ucRefs τ sig) (W3 m c) ∗ rest (F := F) c) :=
  (Pipeline.RegionSeg.ofHeldInT_post (arrs_in 1) (tbls_in 1) c).trans (rest_out c _)

/-- The unscoped buffers are the projection call's arrays and the rest. -/
theorem split2 (c : Dev nD) (V : Valuation τ sig (Elt F)) (G : (w : Fin cfg2.W) → Buf (Elt F) ((cfg2.spec w).arr.view.loc (c.tc : Thread nD τ)))
    (hG : ∀ w, G w = V (Proc.devRef .tc (Pipeline.arrRef spec2 w))) :
    (StableHlo.held (c : Thread nD τ) (Pipeline.ucRefs τ sig) V : sProp 𝕄)
      = iprop((dat2 (W4 m) c).arrays G ∗ Pipeline.unscopedRest spec2 c fun b => V b) := by
  rw [← Pipeline.unscopedBufs_held (Ix := Unit) (Name := ℕ) (U := UR sig nD τ) (Lvl := ℕ) c V]
  rw [Pipeline.unscopedBufs_split₀ (Pipeline.pin (pcfgs (F := F)) adm) 2 winFacts₀2.arr_unscoped c (fun b => V b)]
  exact congrArg (fun X => iprop(X ∗ Pipeline.unscopedRest spec2 c fun b => V b))
    ((dat2 (W4 m) c).arrBufs_eq_arrays sharedIn2 arr_whole2 (fun _ _ => rfl) (fun b => V b) G hG)
theorem pre2 (c : Dev nD) : iprop(StableHlo.held (c : Thread nD τ) (Pipeline.ucRefs τ sig) (W4 m c) ∗ rest (F := F) c) ⊢ (reg2 m).pre c := by
  show _ ⊢ iprop((dat2 (W4 m) c).arrays ((dat2 (W4 m) c).arrAt · 0) ∗ BI.emp ∗ (Pipeline.unscopedRest spec2 c fun b => W4 m c b)
    ∗ ∃ Wd, owes (c : Thread nD τ) (dues c) Wd)
  rw [split2 m c (W4 m c) ((dat2 (W4 m) c).arrAt · 0) (fun w => rfl)]
  unfold rest
  iintro ⟨⟨Ha, Hu⟩, Hw⟩
  isplitl [Ha]; · iexact Ha
  isplitl []; · iempintro
  isplitl [Hu]; · iexact Hu
  iexact Hw
theorem rest2 (c : Dev nD) : (Pipeline.unscopedRest (Ix := Unit) (Name := ℕ) (U := UR sig nD τ) (Lvl := ℕ) spec2 c (fun b => W5 m c b) : sProp 𝕄)
    = Pipeline.unscopedRest spec2 c fun b => W4 m c b := by
  unfold Pipeline.unscopedRest
  exact bigSep_congr fun b hb => by
    dsimp only
    rw [W5_of m c b fun w e => (Finset.mem_sdiff.mp hb).2 (Finset.mem_image.mpr ⟨w, Finset.mem_univ _, e⟩)]
theorem W5_arr (c : Dev nD) (w : Fin cfg2.W) : W5 m c (Proc.devRef .tc (Pipeline.arrRef spec2 w)) = (dat2 (W4 m) c).arrAt w cfg2.N := by
  unfold W5; exact (dat2 (W4 m) c).withArrays_arrAt sharedIn2 (W4 m c) (fun _ => rfl) w
theorem post2 (c : Dev nD) : (reg2 m).post c ⊢ iprop(StableHlo.held (c : Thread nD τ) (Pipeline.ucRefs τ sig) (W5 m c) ∗ rest (F := F) c) := by
  show iprop((dat2 (W4 m) c).arrays ((dat2 (W4 m) c).arrAt · cfg2.N) ∗ BI.emp ∗ (Pipeline.unscopedRest spec2 c fun b => W4 m c b)
    ∗ ∃ Wd, owes (c : Thread nD τ) (dues c) Wd) ⊢ _
  rw [split2 m c (W5 m c) ((dat2 (W4 m) c).arrAt · cfg2.N) (fun w => (W5_arr m c w).symm), rest2]
  unfold rest
  iintro ⟨Ha, -, Hu, Hw⟩
  isplitl [Ha Hu]
  · isplitl [Ha]; · iexact Ha
    iexact Hu
  iexact Hw

def host0 : HostSeg (Ix := Unit) (Name := ℕ) (U := UR sig nD τ) (Lvl := ℕ) (pcfgs (F := F)) defs₀ Variants.none lvls lv0 :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (fun c b => m (c, b)) rest
def host2 : HostSeg (Ix := Unit) (Name := ℕ) (U := UR sig nD τ) (Lvl := ℕ) (pcfgs (F := F)) defs₀ Variants.none lvls lv0 :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W3 m) rest

abbrev parts (_ : Dev nD) : List (Seg (pcfgs (F := F)) adm (pdats m) () defs₀ Variants.none lvls lv0) :=
  [.host (host0 m), .region (reg0 m), .region (reg1 m), .host (host2 m), .region (reg2 m)]

def tok0 : UR sig nD τ := initOf (Pipeline.cells (Pipeline.pin (pcfgs (F := F)) adm) (cellOf_inj adm))
  (Pipeline.launchToks (Pipeline.pin (pcfgs (F := F)) adm) (cellOf_inj adm))

set_option backward.isDefEq.respectTransparency.types false in
/-- The whole program runs to the end with every buffer at `W5` and every counter at zero. -/
theorem run : θ_run defs (onTc (τ := τ) (main (F := F))) ⟨m, fun _ => 0, ρ⟩ (fun r =>
    (∀ c : Dev nD, ∀ b ∈ Pipeline.ucRefs τ sig, r.2.mem ((c : Thread nD τ).1, b) = W5 m c b) ∧ r.2.sem = fun _ => 0) := by
  refine Pipeline.θ_run_regions_kit_dev_sems (pcfgs (F := F)) adm (pdats m) () (cellOf_inj adm) emb₁ defs₀ Variants.none lvls lv0 m ρ main
    (parts m)
    (fun c Q => by
      rewrite [main_chain c, Seg.run_eq_chain,
        show (parts m c).map Seg.prog = [
          StableHlo.seq hostOps0,
          Prog.lift (.customCall (Pipeline.entry 0) ()),
          Prog.lift (.customCall (Pipeline.entry 1) ()),
          StableHlo.seq hostOps2,
          Prog.lift (.customCall (Pipeline.entry 2) ()) ] from rfl]
      dsimp (config := { failIfUnchanged := false }) only
      exact .rfl)
    (fun c => by simp only [parts, Seg.pipes_host, Seg.pipes_region, Seg.pipes_nil]; decide) dues
    (fun g h => by unfold lvls; rw [if_neg h]) (fun _ => BI.emp) (tok0 (F := F)) ?_
    (T₀ := fun c => iprop(StableHlo.held (c : Thread nD τ) (Pipeline.ucRefs τ sig) (fun b => m (c, b)) ∗ rest (F := F) c))
    (Tₙ := fun c => StableHlo.held (c : Thread nD τ) (Pipeline.ucRefs τ sig) (W5 m c))
    (hch := fun c => ⟨.rfl, pre0 m c, (post0 m c).trans (pre1 m c), post1 m c, pre2 m c, post2 m c⟩)
    (hinit := ?_) (QY := fun c s => ∀ b ∈ Pipeline.ucRefs τ sig, s.mem ((c : Thread nD τ).1, b) = W5 m c b)
    (hfin := fun c s' => ?_) (hQ := fun _ h hz => ⟨h, funext fun g => hz g (.inr (regions_no_unscoped g.2))⟩)
  · iintro Hu; imodintro
    isplitl [Hu]
    · iapply (show (ownU _ : sProp 𝕄) ⊢ BI.own (emb₁ (tok0 (F := F))) from .rfl); iexact Hu
    · iapply (show (BI.emp : sProp 𝕄) ⊢ bigSep Finset.univ (fun _ : Dev nD => (BI.emp : sProp 𝕄)) from by rw [BI.bigSep_emp_const]); iempintro
  · have h : (bigSep Finset.univ fun c : Dev nD => iprop(unscopedBufs c (fun b => m ((c.tc : Thread nD τ).loc b)) ∗ unscopedSems0 c
          ∗ owes (c.tc : Thread nD τ) (dues c) ∅ ∗ Pipeline.launchCred dues c ∗ prngReg c (ρ c) ∗ BI.emp))
        ⊢ (bigSep Finset.univ fun c : Dev nD => iprop(StableHlo.held (c : Thread nD τ) (Pipeline.ucRefs τ sig) (fun b => m (c, b)) ∗ rest (F := F) c) : sProp 𝕄) := by
      refine bigSep_mono fun c _ => ?_
      show (_ : sProp 𝕄) ⊢ _
      rw [← Pipeline.unscopedBufs_held (Ix := Unit) (Name := ℕ) (U := UR sig nD τ) (Lvl := ℕ) c (fun b => m (c, b))]
      unfold rest
      iintro ⟨H, -, Hw, -, -, -⟩
      isplitl [H]; · iexact H
      iexists ∅; iexact Hw
    iintro ⟨H, -⟩
    imodintro
    iapply h; iexact H
  · unfold StableHlo.held
    iintro ⟨Hh, HSI⟩
    ihave Hr := (pointsTo_read_all (Pipeline.ucRefs τ sig) (fun b => ((c : Thread nD τ).1, b)) (W5 m c) s') $$ [Hh HSI]
    · isplitl [Hh] <;> iassumption
    icases Hr with ⟨%h, HSI⟩
    imodintro; isplitr
    · ipureintro; exact h
    · iexact HSI

end Cert.Kernel4Ideal.Run

end
-- ==== Proof.SecondProjection.SecondKept.lean ====
/-
  The run, read at the three arguments: nothing writes them.
-/
module

public import proofs.«01_k».proof.Proof.SecondProjection.SecondRun

@[expose] public section

set_option maxRecDepth 16384

noncomputable section

namespace Cert.Kernel4Ideal.Run

open Idealize.ShloMosaic Idealize.ShloMosaic.TcCoe Idealize.SL.Sem
open Cert.Kernel4Ideal.Gen

variable {F : FTy → Type} [FloatOps F]
variable (m : (ℓ : Loc nD τ sig) → Buf (Elt F) ℓ) (ρ : Dev nD → PrngReg)

/-- A buffer no host operation writes and no call writes back ends as it started. -/
theorem W5_kept (c : Dev nD) (r : Ref sig .tc) (h2 : ∀ w, Pipeline.arrRef spec2 w ≠ r) (hh2 : r ∉ hostOps2_W)
    (h1 : ∀ w, r ≠ Pipeline.arrRef spec1 w) (h0 : ∀ w, r ≠ Pipeline.arrRef spec0 w) (hh0 : r ∉ hostOps0_W) :
    W5 m c (Proc.devRef .tc r) = m (c, Proc.devRef .tc r) :=
  (W5_of m c r h2).trans ((StableHlo.after_of_writes_sub hostOps2 _ hostOps2_writes hh2).trans
    ((W3_of m c r h1).trans ((W2_of m c r h0).trans (StableHlo.after_of_writes_sub hostOps0 _ hostOps0_writes hh0))))

/-- The run, read at the three arguments. -/
theorem run_args : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(h.1 c _ (Finset.mem_filter.mpr ⟨StableHlo.devRef_mem_tcRefs main_arg0, by decide⟩)).trans
        (W5_kept m c main_arg0 (by decide) (by decide) (by decide) (by decide) (by decide)),
      (h.1 c _ (Finset.mem_filter.mpr ⟨StableHlo.devRef_mem_tcRefs main_arg1, by decide⟩)).trans
        (W5_kept m c main_arg1 (by decide) (by decide) (by decide) (by decide) (by decide)),
      (h.1 c _ (Finset.mem_filter.mpr ⟨StableHlo.devRef_mem_tcRefs main_arg2, by decide⟩)).trans
        (W5_kept m c main_arg2 (by decide) (by decide) (by decide) (by decide) (by decide))⟩, h.2⟩) (run m ρ)

end Cert.Kernel4Ideal.Run

end
-- ==== Proof.SecondProjection.SecondFrames.lean ====
/-
  The frames of the projection at the second layer: each program ends, faults nowhere, leaves its arguments as they were and every counter at zero.
-/
module

public import proofs.«01_k».proof.Defs
public import proofs.«01_k».proof.Proof.SecondProjection.SecondKept
public import proofs.«01_k».proof.Proof.Gen.Reference4Ideal
public import proofs.«01_k».proof.Proof.Gen.Reference4Ideal.Run
public import Idealize.ShloMosaic.Lib.Quiescent

@[expose] public section

noncomputable section

namespace Cert.Proof.SecondProjection

open Idealize.ShloMosaic Idealize.SL.Sem

theorem frame_ideal : Cert.quiescent_Kernel4Ideal := fun m ρ _ => Cert.Kernel4Ideal.Run.run_args (F := Ideal) m ρ

theorem frame_reference : Cert.quiescent_Reference4Ideal := fun m ρ _ =>
  (θ_run Cert.Reference4Ideal.defs _ _).mono (fun r h => ⟨fun c => (h c).2.2.2.2,
    Idealize.ShloMosaic.sem_eq_zero_of_no_sems (by decide) r.2⟩) (Cert.Reference4Ideal.Value.run (F := Ideal) m ρ)

end Cert.Proof.SecondProjection

end
-- ==== Proof.SecondProjection.SecondRowsValue.lean ====
/-
  What the two re-tiling calls leave in their arrays, element by element, over the reals: row `256 c + r` is row
  `starts[c] + r` of the transposed weight, or zero from row `valid[c]` of the block on.
-/
module

public import proofs.«01_k».proof.Proof.SecondProjection.SecondRun
public import Idealize.ShloMosaic.Lib.Pointwise
public import Idealize.ShloMosaic.Lib.Pipeline.ValueKit

@[expose] public section

set_option maxRecDepth 16384

noncomputable section

namespace Cert.Kernel4Ideal.Run

open Idealize.ShloMosaic Idealize.ShloMosaic.TcCoe
open Idealize.ShloMosaic.Pipeline (Dat Cfg Window)
open Cert.Kernel4Ideal.Gen

/-- The block's row test is a comparison of numbers. -/
theorem row_lt0 : ∀ k : Fin 25, ∀ r : Fin 256, IntOp.cmpi .slt (BitVec.ofNat 32 r.val) (lit1 k) = 1#1 ↔ r.val < (lit1 k).toNat := by
  decide +kernel

theorem pay0_apply (k : Fin 25) (v : Vec Ideal S2x256x1024 .f32) (j : S2x256x1024.Idx) :
    k0_pay1 (F := Ideal) (lit1 k) v j = if (j 1).val < (lit1 k).toNat then v j else 0 := by
  have h := row_lt0 k (j 1)
  pointwise [k0_pay1]
  by_cases hr : (j 1).val < (lit1 k).toNat
  · rw [if_pos hr, h.mpr hr]; rfl
  · rw [if_neg hr]
    have : IntOp.cmpi .slt (BitVec.ofNat 32 (j 1).val) (lit1 k) ≠ 1#1 := fun e => hr (h.mp e)
    exact if_neg this

/-- The weight rows the projection reads: block `c` holds the columns of the weight from `starts[c]` on. -/
def rows0 (A : Vec Ideal S2x8456x1024 .f32) : Vec Ideal S2x6400x1024 .bf16 := fun i =>
  if (i 1).val % 256 < (lit1 ⟨(i 1).val / 256, Nat.div_lt_of_lt_mul (i 1).isLt⟩).toNat then
    A (ix3 (i 0) ⟨(lit0 ⟨(i 1).val / 256, Nat.div_lt_of_lt_mul (i 1).isLt⟩).toNat + (i 1).val % 256, by
      have h1 := (starts0_in ⟨(i 1).val / 256, Nat.div_lt_of_lt_mul (i 1).isLt⟩).2
      have h2 := Nat.mod_lt (i 1).val (show 0 < 256 by decide)
      omega⟩ (i 2))
  else 0

theorem rows0_at (A : Vec Ideal S2x8456x1024 .f32) (i : S2x6400x1024.Idx) (k : Fin 25) (r : Fin 256)
    (h : (i 1).val = k.val * 256 + r.val) :
    rows0 A i = if r.val < (lit1 k).toNat then
      A (ix3 (i 0) ⟨(lit0 k).toNat + r.val, by have h1 := (starts0_in k).2; omega⟩ (i 2)) else 0 := by
  have hk : (⟨(i 1).val / 256, Nat.div_lt_of_lt_mul (i 1).isLt⟩ : Fin 25) = k := Fin.ext (by show (i 1).val / 256 = _; omega)
  have hr : (i 1).val % 256 = r.val := by omega
  unfold rows0
  simp only [hk, hr]

theorem rows0_arr (c : Dev nD) (W : Dev nD → Valuation τ sig (Elt Ideal)) :
    (dat0 adm0 W c).arrAt 1 (cfg0 (F := Ideal) adm0).N = rows0 (W c (Proc.devRef .tc main_v0)) := by
  refine (dat0 adm0 W c).arrAt_eq_of_covers 1 _ (by decide +kernel) fun t hf y => ?_
  blk_simp
  rw [after0_1]
  have e : ∀ t : Fin grid0.N, cc0_transform_1 (grid0.coords t) = ![0, (grid0.coords t 0).val, 0] := by decide +kernel
  have e1 : ((cfg0 (F := Ideal) adm0).win 1).index t = ![0, (grid0.coords t 0).val, 0] := e t
  have e0 : ((cfg0 (F := Ideal) adm0).win 0).index t = ![0, (lit0 ⟨(grid0.coords t 0).val, (grid0.coords t 0).isLt⟩).toNat, 0] :=
    start0 (grid0.coords t)
  have hy : ((((cfg0 (F := Ideal) adm0).win 1).blk t).view.emb y 1).val = (grid0.coords t 0).val * 256 + (y 1).val := by
    blk_simp [e1]
  have hy0 : (((cfg0 (F := Ideal) adm0).win 1).blk t).view.emb y 0 = y 0 := by
    apply Fin.ext; blk_simp [e1]
  have hy2 : (((cfg0 (F := Ideal) adm0).win 1).blk t).view.emb y 2 = y 2 := by
    apply Fin.ext; blk_simp [e1]
  have hx : ∀ j : S2x256x1024.Idx, ∀ a, ((((cfg0 (F := Ideal) adm0).win 0).blk t).view.emb j a).val
      = ((cfg0 (F := Ideal) adm0).win 0).index t a + (j a).val := fun j a =>
    ((cfg0 (F := Ideal) adm0).win 0).rect_emb_val_off t j a
  show k0_pay1 (word0 c (grid0.coords t) (table0 1)) (blk0 adm0 W c 0 t) y = _
  rw [keep0, pay0_apply]
  refine Eq.trans ?_ (rows0_at _ _ ⟨(grid0.coords t 0).val, (grid0.coords t 0).isLt⟩ (y 1) hy).symm
  refine if_congr Iff.rfl ?_ rfl
  refine congrArg (W c (Proc.devRef .tc main_v0)) (funext fun (a : Fin 3) => Fin.ext ?_)
  refine (hx y a).trans ?_
  rw [e0]
  match a with
  | ⟨0, _⟩ => show 0 + (y 0).val = _; rw [Nat.zero_add]; exact congrArg Fin.val hy0.symm
  | ⟨1, _⟩ => rfl
  | ⟨2, _⟩ => show 0 + (y 2).val = _; rw [Nat.zero_add]; exact congrArg Fin.val hy2.symm

/-! ## The attention's rows -/

theorem row_lt1 : ∀ r : Fin 256, IntOp.cmpi .slt (BitVec.ofNat 32 r.val) 256#32 = 1#1 := by decide +kernel

theorem pay1_apply (v : Vec Ideal S2x256x1024 .f32) (j : S2x256x1024.Idx) : k1_pay1 (F := Ideal) 256#32 v j = v j := by
  have h := row_lt1 (j 1)
  pointwise [k1_pay1]
  rw [h]; rfl

/-- The weight rows the attention reads: block `c` holds the columns of the weight from `starts[c]` on. -/
def rows1 (A : Vec Ideal S2x8456x1024 .f32) : Vec Ideal S2x2304x1024 .bf16 := fun i =>
  A (ix3 (i 0) ⟨(lit2 ⟨(i 1).val / 256, Nat.div_lt_of_lt_mul (i 1).isLt⟩).toNat + (i 1).val % 256, by
      have h1 := (starts1_in ⟨(i 1).val / 256, Nat.div_lt_of_lt_mul (i 1).isLt⟩).2
      have h2 := Nat.mod_lt (i 1).val (show 0 < 256 by decide)
      omega⟩ (i 2))

theorem rows1_at (A : Vec Ideal S2x8456x1024 .f32) (i : S2x2304x1024.Idx) (k : Fin 9) (r : Fin 256)
    (h : (i 1).val = k.val * 256 + r.val) :
    rows1 A i = A (ix3 (i 0) ⟨(lit2 k).toNat + r.val, by have h1 := (starts1_in k).2; omega⟩ (i 2)) := by
  have hk : (⟨(i 1).val / 256, Nat.div_lt_of_lt_mul (i 1).isLt⟩ : Fin 9) = k := Fin.ext (by show (i 1).val / 256 = _; omega)
  have hr : (i 1).val % 256 = r.val := by omega
  unfold rows1
  simp only [hk, hr]

theorem rows1_arr (c : Dev nD) (W : Dev nD → Valuation τ sig (Elt Ideal)) :
    (dat1 adm1 W c).arrAt 1 (cfg1 (F := Ideal) adm1).N = rows1 (W c (Proc.devRef .tc main_v0)) := by
  refine (dat1 adm1 W c).arrAt_eq_of_covers 1 _ (by decide +kernel) fun t hf y => ?_
  blk_simp
  rw [after1_1]
  have e : ∀ t : Fin grid1.N, cc1_transform_1 (grid1.coords t) = ![0, (grid1.coords t 0).val, 0] := by decide +kernel
  have e1 : ((cfg1 (F := Ideal) adm1).win 1).index t = ![0, (grid1.coords t 0).val, 0] := e t
  have e0 : ((cfg1 (F := Ideal) adm1).win 0).index t = ![0, (lit2 ⟨(grid1.coords t 0).val, (grid1.coords t 0).isLt⟩).toNat, 0] :=
    start1 (grid1.coords t)
  have hy : ((((cfg1 (F := Ideal) adm1).win 1).blk t).view.emb y 1).val = (grid1.coords t 0).val * 256 + (y 1).val := by
    blk_simp [e1]
  have hy0 : (((cfg1 (F := Ideal) adm1).win 1).blk t).view.emb y 0 = y 0 := by
    apply Fin.ext; blk_simp [e1]
  have hy2 : (((cfg1 (F := Ideal) adm1).win 1).blk t).view.emb y 2 = y 2 := by
    apply Fin.ext; blk_simp [e1]
  have hx : ∀ j : S2x256x1024.Idx, ∀ a, ((((cfg1 (F := Ideal) adm1).win 0).blk t).view.emb j a).val
      = ((cfg1 (F := Ideal) adm1).win 0).index t a + (j a).val := fun j a =>
    ((cfg1 (F := Ideal) adm1).win 0).rect_emb_val_off t j a
  show k1_pay1 (word1 c (grid1.coords t) (table1 1)) (blk1 adm1 W c 0 t) y = _
  rw [keep1, pay1_apply]
  refine Eq.trans ?_ (rows1_at _ _ ⟨(grid1.coords t 0).val, (grid1.coords t 0).isLt⟩ (y 1) hy).symm
  refine congrArg (W c (Proc.devRef .tc main_v0)) (funext fun (a : Fin 3) => Fin.ext ?_)
  refine (hx y a).trans ?_
  rw [e0]
  match a with
  | ⟨0, _⟩ => show 0 + (y 0).val = _; rw [Nat.zero_add]; exact congrArg Fin.val hy0.symm
  | ⟨1, _⟩ => rfl
  | ⟨2, _⟩ => show 0 + (y 2).val = _; rw [Nat.zero_add]; exact congrArg Fin.val hy2.symm

end Cert.Kernel4Ideal.Run

end
-- ==== Proof.SecondProjection.SecondInprojPay.lean ====
/-
  What the projection's body computes from its blocks, element by element, over the reals.
-/
module

public import proofs.«01_k».proof.Proof.SecondProjection.SecondInproj
public import Idealize.ShloMosaic.Lib.Pointwise

@[expose] public section

set_option maxRecDepth 16384

noncomputable section

namespace Cert.Kernel4Ideal.Run

open Idealize.ShloMosaic Idealize.ShloMosaic.TcCoe
open Cert.Kernel4Ideal.Gen

/-- Element `d` of a row divided by its root mean square and scaled by the gain. -/
def normRow (x g : Fin 1024 → EReal) (d : Fin 1024) : EReal :=
  x d * Ideal.rsqrt (Ideal.div (∑ k : Fin 1024, x k * x k) (Ideal.ofBits .f32 0x44800000#32) + Ideal.ofBits .f32 0x358637BD#32) * g d

theorem pay2_1_apply (x : Vec Ideal S1024x1024 .f32) (g : Vec Ideal S1x1024 .f32) (j : S1024x1024.Idx) :
    k2_pay1 (F := Ideal) x g j = normRow (fun k => x (ix2 (j 0) k)) (fun k => g (ix2 0 k)) (j 1) := by
  pointwise [k2_pay1, normRow]

theorem pay2_2_apply (x : Vec Ideal S1024x1024 .f32) (g : Vec Ideal S1x1024 .f32) (w : Vec Ideal S1x256x1024 .bf16) (j : S8x1024.Idx) :
    k2_pay2 (F := Ideal) x g (gateRows w) j
      = ∑ k : Fin 1024, w (ix3 0 ⟨(j 0).val, lt_of_lt_of_le (j 0).isLt (by decide)⟩ k)
          * normRow (fun k => x (ix2 (j 1) k)) (fun k => g (ix2 0 k)) k := by
  pointwise [k2_pay2, gateRows]
  simp only [pay2_1_apply]
  rfl

theorem pay2_3_apply (x : Vec Ideal S1024x1024 .bf16) (w : Vec Ideal S1x3072x1024 .bf16) (j : S1024x3072.Idx) :
    k2_pay3 (F := Ideal) x w j = ∑ k : Fin 1024, x (ix2 (j 0) k) * w (ix3 0 (j 1) k) := by
  pointwise [k2_pay3]

end Cert.Kernel4Ideal.Run

end
-- ==== Proof.SecondProjection.SecondInprojValue.lean ====
/-
  What the projection leaves in its three arrays, element by element, over the reals.
-/
module

public import proofs.«01_k».proof.Proof.SecondProjection.SecondInprojPay
public import Idealize.ShloMosaic.Lib.Pipeline.ValueKit

@[expose] public section

set_option maxRecDepth 16384

noncomputable section

namespace Cert.Kernel4Ideal.Run

open Idealize.ShloMosaic Idealize.ShloMosaic.TcCoe
open Idealize.ShloMosaic.Pipeline (Dat Cfg Window)
open Cert.Kernel4Ideal.Gen

/-- The normalised activations, the projection and the gates, of the tokens `X`, the gain `g` and the re-tiled weight `V`. -/
def normArr (X : Vec Ideal S16384x1024 .f32) (g : Vec Ideal S1x1024 .f32) : Vec Ideal S16384x1024 .bf16 := fun i =>
  normRow (fun k => X (ix2 (i 0) k)) (fun k => g (ix2 0 k)) (i 1)
def projArr (X : Vec Ideal S16384x1024 .f32) (g : Vec Ideal S1x1024 .f32) (V : Vec Ideal S2x6400x1024 .bf16) : Vec Ideal S16384x6144 .bf16 :=
  fun i => ∑ k : Fin 1024, normRow (fun k => X (ix2 (i 0) k)) (fun k => g (ix2 0 k)) k
    * V (ix3 1 ⟨(i 1).val, lt_of_lt_of_le (i 1).isLt (by decide)⟩ k)
def gateArr (X : Vec Ideal S16384x1024 .f32) (g : Vec Ideal S1x1024 .f32) (V : Vec Ideal S2x6400x1024 .bf16) : Vec Ideal S8x16384 .f32 :=
  fun i => ∑ k : Fin 1024, V (ix3 1 ⟨6144 + (i 0).val, by have h : (i 0).val < 8 := (i 0).isLt; omega⟩ k)
    * normRow (fun k => X (ix2 (i 1) k)) (fun k => g (ix2 0 k)) k

theorem normArr_at (X : Vec Ideal S16384x1024 .f32) (g : Vec Ideal S1x1024 .f32) (i : S16384x1024.Idx) (r : Fin 16384) (d : Fin 1024)
    (h0 : (i 0).val = r.val) (h1 : (i 1).val = d.val) :
    normArr X g i = normRow (fun k => X (ix2 r k)) (fun k => g (ix2 0 k)) d := by
  have e0 : i 0 = r := Fin.ext h0
  have e1 : i 1 = d := Fin.ext h1
  unfold normArr; rw [e0, e1]
theorem projArr_at (X : Vec Ideal S16384x1024 .f32) (g : Vec Ideal S1x1024 .f32) (V : Vec Ideal S2x6400x1024 .bf16) (i : S16384x6144.Idx)
    (r : Fin 16384) (n : Fin 6400) (h0 : (i 0).val = r.val) (h1 : (i 1).val = n.val) :
    projArr X g V i = ∑ k : Fin 1024, normRow (fun k => X (ix2 r k)) (fun k => g (ix2 0 k)) k * V (ix3 1 n k) := by
  have e0 : i 0 = r := Fin.ext h0
  have e1 : (⟨(i 1).val, lt_of_lt_of_le (i 1).isLt (by decide)⟩ : Fin 6400) = n := Fin.ext h1
  unfold projArr; rw [e0, e1]
theorem gateArr_at (X : Vec Ideal S16384x1024 .f32) (g : Vec Ideal S1x1024 .f32) (V : Vec Ideal S2x6400x1024 .bf16) (i : S8x16384.Idx)
    (r : Fin 16384) (n : Fin 6400) (h0 : 6144 + (i 0).val = n.val) (h1 : (i 1).val = r.val) :
    gateArr X g V i = ∑ k : Fin 1024, V (ix3 1 n k) * normRow (fun k => X (ix2 r k)) (fun k => g (ix2 0 k)) k := by
  have e0 : i 1 = r := Fin.ext h1
  have e1 : (⟨6144 + (i 0).val, by have h : (i 0).val < 8 := (i 0).isLt; omega⟩ : Fin 6400) = n := Fin.ext h0
  unfold gateArr; rw [e0, e1]

theorem ix2_0 : ∀ t : Fin grid2.N, win2_0.index t = ![(grid2.coords t 0).val, 0] := by decide +kernel
theorem ix2_1 : ∀ t : Fin grid2.N, win2_1.index t = ![0, 0] := by decide +kernel
theorem ix2_2 : ∀ t : Fin grid2.N, win2_2.index t = ![1, (grid2.coords t 1).val, 0] := by decide +kernel
theorem ix2_3 : ∀ t : Fin grid2.N, win2_3.index t = ![1, 24, 0] := by decide +kernel
theorem ix2_4 : ∀ t : Fin grid2.N, win2_4.index t = ![(grid2.coords t 0).val, (grid2.coords t 1).val] := by decide +kernel
theorem ix2_5 : ∀ t : Fin grid2.N, win2_5.index t = ![(grid2.coords t 0).val, 0] := by decide +kernel
theorem ix2_6 : ∀ t : Fin grid2.N, win2_6.index t = ![0, (grid2.coords t 0).val] := by decide +kernel
theorem rowPt_coords : ∀ t : Fin cfg2.N, (grid2.coords (rowPt t) 0).val = (grid2.coords t 0).val := by decide +kernel

variable (c : Dev nD) (W : Dev nD → Valuation τ sig (Elt Ideal))

theorem blk2_0_apply (t : Fin cfg2.N) (j : S1024x1024.Idx) :
    blk2 W c 0 (rowPt t) j = (W c (Proc.devRef .tc main_v3) : Vec Ideal S16384x1024 .f32)
      (ix2 ⟨(grid2.coords t 0).val * 1024 + (j 0).val, by
        have h0 : (grid2.coords t 0).val < 16 := (grid2.coords t 0).isLt
        have h1 : (j 0).val < 1024 := (j 0).isLt
        omega⟩ (j 1)) := by
  unfold blk2
  have e := rowPt_coords t
  blk_simp
  blk_ext [ix2_0]
theorem blk2_1_apply (t : Fin cfg2.N) (j : S1x1024.Idx) :
    blk2 W c 1 (rowPt t) j = (W c (Proc.devRef .tc main_v6) : Vec Ideal S1x1024 .f32) j := by
  unfold blk2
  blk_simp
  blk_ext [ix2_1]
theorem blk2_3_apply (t : Fin cfg2.N) (j : S1x256x1024.Idx) :
    blk2 W c 3 (rowPt t) j = (W c (Proc.devRef .tc main_v1) : Vec Ideal S2x6400x1024 .bf16)
      (ix3 1 ⟨6144 + (j 1).val, by have h : (j 1).val < 256 := (j 1).isLt; omega⟩ (j 2)) := by
  unfold blk2
  blk_simp
  blk_ext [ix2_3]
theorem wblk2_apply (t : Fin cfg2.N) (j : S1x3072x1024.Idx) :
    wblk2 W c t j = (W c (Proc.devRef .tc main_v1) : Vec Ideal S2x6400x1024 .bf16)
      (ix3 1 ⟨(grid2.coords t 1).val * 3072 + (j 1).val, by
        have h0 : (grid2.coords t 1).val < 2 := (grid2.coords t 1).isLt
        have h : (j 1).val < 3072 := (j 1).isLt; omega⟩ (j 2)) := by
  unfold wblk2
  unfold Pipeline.Window.fill; rw [dif_pos (moved2_2 t j)]
  unfold blk2
  blk_simp
  blk_ext [ix2_2]

/-- The row of the tokens that row `r` of point `t`'s block is, and the row of the weight that row `n` of its block is. -/
def tok (t : Fin cfg2.N) (r : Fin 1024) : Fin 16384 :=
  ⟨(grid2.coords t 0).val * 1024 + r.val, by have h0 : (grid2.coords t 0).val < 16 := (grid2.coords t 0).isLt; omega⟩
def wrow (t : Fin cfg2.N) (n : Fin 3072) : Fin 6400 :=
  ⟨(grid2.coords t 1).val * 3072 + n.val, by have h0 : (grid2.coords t 1).val < 2 := (grid2.coords t 1).isLt; omega⟩

def grow (n : Fin 8) : Fin 6400 := ⟨6144 + n.val, by omega⟩

theorem hOut_apply (t : Fin cfg2.N) (j : S1024x1024.Idx) : hOut W c t j
    = normRow (fun k => (W c (Proc.devRef .tc main_v3) : Vec Ideal S16384x1024 .f32) (ix2 (tok t (j 0)) k))
        (fun k => (W c (Proc.devRef .tc main_v6) : Vec Ideal S1x1024 .f32) (ix2 0 k)) (j 1) := by
  unfold hOut
  rw [pay2_1_apply]
  congr 1
  · funext k; exact blk2_0_apply c W t (ix2 (j 0) k)
  · funext k; exact blk2_1_apply c W t (ix2 0 k)

theorem projOut_apply (t : Fin cfg2.N) (j : S1024x3072.Idx) : projOut W c t j
    = ∑ k : Fin 1024, normRow (fun k => (W c (Proc.devRef .tc main_v3) : Vec Ideal S16384x1024 .f32) (ix2 (tok t (j 0)) k))
        (fun k => (W c (Proc.devRef .tc main_v6) : Vec Ideal S1x1024 .f32) (ix2 0 k)) k
      * (W c (Proc.devRef .tc main_v1) : Vec Ideal S2x6400x1024 .bf16) (ix3 1 (wrow t (j 1)) k) := by
  unfold projOut
  rw [pay2_3_apply]
  refine Finset.sum_congr rfl fun k _ => ?_
  rw [hOut_apply, wblk2_apply]
  rfl

theorem gateOut_apply (t : Fin cfg2.N) (j : S8x1024.Idx) : gateOut W c t j
    = ∑ k : Fin 1024, (show EReal from (W c (Proc.devRef .tc main_v1) : Vec Ideal S2x6400x1024 .bf16) (ix3 1 (grow (j 0)) k))
      * normRow (fun k => (W c (Proc.devRef .tc main_v3) : Vec Ideal S16384x1024 .f32) (ix2 (tok t (j 1)) k))
        (fun k => (W c (Proc.devRef .tc main_v6) : Vec Ideal S1x1024 .f32) (ix2 0 k)) k := by
  unfold gateOut
  rw [pay2_2_apply]
  refine Finset.sum_congr rfl fun k _ => ?_
  rw [blk2_3_apply]
  congr 1
  congr 1
  · funext k'; exact blk2_0_apply c W t (ix2 (j 1) k')
  · funext k'; exact blk2_1_apply c W t (ix2 0 k')

theorem norm_arr : (dat2 W c).arrAt 5 cfg2.N
    = normArr (W c (Proc.devRef .tc main_v3)) (W c (Proc.devRef .tc main_v6)) := by
  refine (dat2 W c).arrAt_eq_of_covers 5 _ (by decide +kernel) fun t hf y => ?_
  blk_simp
  rw [after2_5]
  exact (hOut_apply c W t y).trans (normArr_at _ _ _ (tok t (y 0)) (y 1) (by blk_simp [ix2_5]; rfl) (by blk_simp [ix2_5])).symm

theorem proj_arr : (dat2 W c).arrAt 4 cfg2.N
    = projArr (W c (Proc.devRef .tc main_v3)) (W c (Proc.devRef .tc main_v6)) (W c (Proc.devRef .tc main_v1)) := by
  refine (dat2 W c).arrAt_eq_of_covers 4 _ (by decide +kernel) fun t hf y => ?_
  blk_simp
  rw [after2_4]
  exact (projOut_apply c W t y).trans (projArr_at _ _ _ _ (tok t (y 0)) (wrow t (y 1)) (by blk_simp [ix2_4]; rfl) (by blk_simp [ix2_4]; rfl)).symm

theorem gate_arr : (dat2 W c).arrAt 6 cfg2.N
    = gateArr (W c (Proc.devRef .tc main_v3)) (W c (Proc.devRef .tc main_v6)) (W c (Proc.devRef .tc main_v1)) := by
  refine (dat2 W c).arrAt_eq_of_covers 6 _ (by decide +kernel) fun t hf y => ?_
  blk_simp
  rw [after2_6]
  exact (gateOut_apply c W t y).trans (gateArr_at _ _ _ _ (tok t (y 1)) (grow (y 0)) (by blk_simp [ix2_6]; rfl) (by blk_simp [ix2_6]; rfl)).symm

end Cert.Kernel4Ideal.Run

end
-- ==== Proof.SecondProjection.SecondKernelValue.lean ====
/-
  The program's four results, element by element, as functions of its arguments over the reals.
-/
module

public import proofs.«01_k».proof.Proof.SecondProjection.SecondRowsValue
public import proofs.«01_k».proof.Proof.SecondProjection.SecondInprojValue

@[expose] public section

set_option maxRecDepth 16384

noncomputable section

namespace Cert.Kernel4Ideal.Run

open Idealize.ShloMosaic Idealize.ShloMosaic.TcCoe Idealize.ShloMosaic.Tactic
open Idealize.ShloMosaic.Pipeline (Dat Cfg Window)
open Cert.Kernel4Ideal.Gen

variable (m : (ℓ : Loc nD τ sig) → Buf (Elt Ideal) ℓ) (c : Dev nD)

/-- The arguments. -/
abbrev argX : Vec Ideal S4x4096x1024 .f32 := m (c, Proc.devRef .tc main_arg0)
abbrev argG : Vec Ideal S2x1024 .f32 := m (c, Proc.devRef .tc main_arg1)
abbrev argW : Vec Ideal S2x1024x8456 .f32 := m (c, Proc.devRef .tc main_arg2)

theorem W1_v0 : W1 m c (Proc.devRef .tc main_v0) = transpose S2x8456x1024 [0, 2, 1] (argW m c) transposes_S2x1024x8456_S2x8456x1024_0_2_1 := by
  after_reads_simp
  try rfl

theorem W3_v1 : W3 m c (Proc.devRef .tc main_v1) = rows0 (W1 m c (Proc.devRef .tc main_v0)) := by
  rw [W3_of m c main_v1 (by decide)]
  unfold W2
  exact (Pipeline.afterRegion_arr (dat0 adm0 (W1 m) c) (W1 m c) winFacts0.arr_inj 1).trans (rows0_arr c (W1 m))

theorem W3_v2 : W3 m c (Proc.devRef .tc main_v2) = rows1 (W1 m c (Proc.devRef .tc main_v0)) := by
  unfold W3
  refine (Pipeline.afterRegion_arr (dat1 adm1 (W2 m) c) (W2 m c) winFacts1.arr_inj 1).trans ((rows1_arr c (W2 m)).trans ?_)
  have h : W2 m c (Proc.devRef .tc main_v0) = W1 m c (Proc.devRef .tc main_v0) := by
    unfold W2
    refine (Pipeline.afterRegion_arr (dat0 adm0 (W1 m) c) (W1 m c) winFacts0.arr_inj 0).trans ?_
    exact (dat0 adm0 (W1 m) c).arrAt_in 0 rfl _
  rw [h]

theorem W4_v3 : W4 m c (Proc.devRef .tc main_v3) = shapeCast S16384x1024 (argX m c) shapeCasts_S4x4096x1024_S16384x1024 := by
  after_reads_simp
  have h : W3 m c (Proc.devRef .tc main_arg0) = argX m c :=
    (W3_of m c main_arg0 (by decide)).trans ((W2_of m c main_arg0 (by decide)).trans (StableHlo.after_of_writes_sub hostOps0 _ hostOps0_writes (by decide)))
  rw [h]
  rfl

/-- The second layer's gain. -/
def gainRow (G : Vec Ideal S2x1024 .f32) : Vec Ideal S1x1024 .f32 := fun i => G (ix2 1 (i 1))

theorem W4_v6 : W4 m c (Proc.devRef .tc main_v6) = gainRow (argG m c) := by
  after_reads_simp
  have h : W3 m c (Proc.devRef .tc main_arg1) = argG m c :=
    (W3_of m c main_arg1 (by decide)).trans ((W2_of m c main_arg1 (by decide)).trans (StableHlo.after_of_writes_sub hostOps0 _ hostOps0_writes (by decide)))
  rw [h]
  funext i
  pointwise [gainRow]

theorem W4_v1 : W4 m c (Proc.devRef .tc main_v1) = rows0 (W1 m c (Proc.devRef .tc main_v0)) :=
  (StableHlo.after_of_writes_sub hostOps2 _ hostOps2_writes (by decide)).trans (W3_v1 m c)

theorem W4_v2 : W4 m c (Proc.devRef .tc main_v2) = rows1 (W1 m c (Proc.devRef .tc main_v0)) :=
  (StableHlo.after_of_writes_sub hostOps2 _ hostOps2_writes (by decide)).trans (W3_v2 m c)

/-! ## The results of the arguments -/

/-- Token `t`'s activations: the batch and the position of the token are its number's quotient and remainder. -/
def tokRow (X : Vec Ideal S4x4096x1024 .f32) (t : Fin 16384) (k : Fin 1024) : EReal :=
  X (ix3 ⟨t.val / 4096, by omega⟩ ⟨t.val % 4096, by omega⟩ k)
def gain (G : Vec Ideal S2x1024 .f32) (k : Fin 1024) : EReal := G (ix2 1 k)
/-- The weight's column the projection's column `n` is: the attention's and the gates' columns are left out. -/
def col (n : Fin 6144) : Fin 8456 := ⟨if n.val < 2048 then n.val else n.val + 2312, by split <;> omega⟩
/-- The weight's column the attention's row `n` is. -/
def acol (n : Fin 2304) : Fin 8456 := ⟨2056 + n.val / 256 % 3 * 768 + n.val / 768 * 256 + n.val % 256, by omega⟩

def resH (X : Vec Ideal S4x4096x1024 .f32) (G : Vec Ideal S2x1024 .f32) : Vec Ideal S16384x1024 .bf16 := fun i =>
  normRow (tokRow X (i 0)) (gain G) (i 1)
def resP (X : Vec Ideal S4x4096x1024 .f32) (G : Vec Ideal S2x1024 .f32) (V : Vec Ideal S2x1024x8456 .f32) : Vec Ideal S16384x6144 .bf16 :=
  fun i => ∑ k : Fin 1024, normRow (tokRow X (i 0)) (gain G) k * (show EReal from V (ix3 1 k (col (i 1))))
def resG (X : Vec Ideal S4x4096x1024 .f32) (G : Vec Ideal S2x1024 .f32) (V : Vec Ideal S2x1024x8456 .f32) : Vec Ideal S8x16384 .f32 :=
  fun i => ∑ k : Fin 1024, normRow (tokRow X (i 1)) (gain G) k
    * (show EReal from V (ix3 1 k ⟨2048 + (i 0).val, by have h : (i 0).val < 8 := (i 0).isLt; omega⟩))
def resA (V : Vec Ideal S2x1024x8456 .f32) : Vec Ideal S2x2304x1024 .bf16 := fun i => V (ix3 (i 0) (i 2) (acol (i 1)))

theorem rows_apply (X : Vec Ideal S4x4096x1024 .f32) (t : Fin 16384) (k : Fin 1024) :
    shapeCast S16384x1024 X shapeCasts_S4x4096x1024_S16384x1024 (ix2 t k) = tokRow X t k := by
  pointwise [tokRow]

theorem lit_main : ∀ k : Fin 24, (lit1 ⟨k.val, by omega⟩).toNat = 256
    ∧ (lit0 ⟨k.val, by omega⟩).toNat = if k.val < 8 then k.val * 256 else k.val * 256 + 2312 := by decide +kernel
theorem lit_gate : (lit1 24).toNat = 8 ∧ (lit0 24).toNat = 2048 := by decide +kernel
theorem lit_attn : ∀ k : Fin 9, (lit2 k).toNat = 2056 + k.val % 3 * 768 + k.val / 3 * 256 := by decide +kernel

theorem rows0_main (V : Vec Ideal S2x1024x8456 .f32) (n : Fin 6144) (k : Fin 1024) :
    rows0 (transpose S2x8456x1024 [0, 2, 1] V transposes_S2x1024x8456_S2x8456x1024_0_2_1) (ix3 1 ⟨n.val, by omega⟩ k) = V (ix3 1 k (col n)) := by
  have hb : n.val / 256 < 24 := by omega
  have hl := lit_main ⟨n.val / 256, hb⟩
  rw [rows0_at _ _ ⟨n.val / 256, by omega⟩ ⟨n.val % 256, by omega⟩ (by show n.val = n.val / 256 * 256 + n.val % 256; omega),
    if_pos (by have := hl.1; simp only at this ⊢; omega)]
  pointwise
  refine congrArg (fun r => V (ix3 1 k r)) (Fin.ext ?_)
  have h2 := hl.2
  simp only [col] at h2 ⊢
  rw [h2]
  split_ifs <;> omega

theorem rows0_gate (V : Vec Ideal S2x1024x8456 .f32) (n : Fin 8) (k : Fin 1024) :
    rows0 (transpose S2x8456x1024 [0, 2, 1] V transposes_S2x1024x8456_S2x8456x1024_0_2_1) (ix3 1 ⟨6144 + n.val, by omega⟩ k)
      = V (ix3 1 k ⟨2048 + n.val, by omega⟩) := by
  rw [rows0_at _ _ 24 ⟨n.val, by omega⟩ rfl, if_pos (by have := lit_gate.1; simp only at this ⊢; omega)]
  pointwise
  refine congrArg (fun r => V (ix3 1 k r)) (Fin.ext ?_)
  have h2 := lit_gate.2
  simp only at h2 ⊢
  rw [h2]

theorem rows1_apply (V : Vec Ideal S2x1024x8456 .f32) :
    rows1 (transpose S2x8456x1024 [0, 2, 1] V transposes_S2x1024x8456_S2x8456x1024_0_2_1) = resA V := by
  funext i
  have hi : (i 1).val < 2304 := (i 1).isLt
  have hl := lit_attn ⟨(i 1).val / 256, by omega⟩
  rw [rows1_at _ _ ⟨(i 1).val / 256, by omega⟩ ⟨(i 1).val % 256, by omega⟩ (by show (i 1).val = (i 1).val / 256 * 256 + (i 1).val % 256; omega)]
  pointwise [resA]
  refine congrArg (fun r => V (ix3 (i 0) (i 2) r)) (Fin.ext ?_)
  simp only [acol] at hl ⊢
  rw [hl]
  omega

/-- The four results. -/
theorem final_p : W5 m c (Proc.devRef .tc main_v7_0) = resP (argX m c) (argG m c) (argW m c) := by
  refine (W5_arr m c 4).trans ((proj_arr c (W4 m)).trans ?_)
  rw [W4_v3, W4_v6, W4_v1, W1_v0]
  funext i
  unfold projArr resP
  refine Finset.sum_congr rfl fun k _ => ?_
  exact congrArg₂ (· * ·) (congrArg₂ (fun a g => normRow a g k) (funext fun _ => rows_apply _ (i 0) _) rfl) (rows0_main _ (i 1) k)

theorem final_h : W5 m c (Proc.devRef .tc main_v7_1) = resH (argX m c) (argG m c) := by
  refine (W5_arr m c 5).trans ((norm_arr c (W4 m)).trans ?_)
  rw [W4_v3, W4_v6]
  funext i
  unfold normArr resH
  exact congrArg₂ (fun a g => normRow a g (i 1)) (funext fun _ => rows_apply _ (i 0) _) rfl

theorem final_g : W5 m c (Proc.devRef .tc main_v7_2) = resG (argX m c) (argG m c) (argW m c) := by
  refine (W5_arr m c 6).trans ((gate_arr c (W4 m)).trans ?_)
  rw [W4_v3, W4_v6, W4_v1, W1_v0]
  funext i
  unfold gateArr resG
  refine Finset.sum_congr rfl fun k _ => ?_
  exact (mul_comm _ _).trans (congrArg₂ (· * ·)
    (congrArg₂ (fun a g => normRow a g k) (funext fun _ => rows_apply _ (i 1) _) rfl) (rows0_gate _ (i 0) k))

theorem final_a : W5 m c (Proc.devRef .tc main_v2) = resA (argW m c) := by
  refine (W5_of m c main_v2 (by decide)).trans ((W4_v2 m c).trans ?_)
  rw [W1_v0]
  exact rows1_apply _

end Cert.Kernel4Ideal.Run

end
-- ==== Proof.SecondProjection.SecondRefValue.lean ====
/-
  The reference's four results are the same functions of its arguments.
-/
module

public import proofs.«01_k».proof.Proof.SecondProjection.SecondKernelValue
public import proofs.«01_k».proof.Proof.Gen.Reference4Ideal.Run

@[expose] public section

set_option maxRecDepth 16384

noncomputable section

namespace Cert.Proof.SecondProjection

open Idealize.ShloMosaic Idealize.ShloMosaic.TcCoe Idealize.SL.Sem
open Cert.Reference4Ideal Cert.Reference4Ideal.Gen Cert.Reference4Ideal.Value
open Cert.Kernel4Ideal.Run (resH resP resG resA normRow tokRow gain col acol)

variable (X : Vec Ideal S4x4096x1024 .f32) (G : Vec Ideal S2x1024 .f32) (V : Vec Ideal S2x1024x8456 .f32)

/-- The reference's normalised activations, as the program composes them. -/
def hostNorm : FVec Ideal S4x4096x1024 .f32 :=
  mulf (mulf X (broadcastInDim S4x4096x1024 ![0, 1, 2] bcast_S4x4096x1_S4x4096x1024_0_1_2
      (Host.rsqrt (addf (Host.divf (broadcastInDim S4x4096x1 ![0, 1] bcast_S4x4096_S4x4096x1_0_1
          (Host.reduceAdd (mulf X X) (constant S_ .f32 0x00000000#32) reducesTo_S4x4096x1024_S4x4096_d2 h_S_))
        (broadcastInDim S4x4096x1 ![] bcast_S_S4x4096x1 (constant S_ .f32 0x44800000#32)))
        (broadcastInDim S4x4096x1 ![] bcast_S_S4x4096x1 (constant S_ .f32 0x358637BD#32))))))
    (broadcastInDim S4x4096x1024 ![0, 1, 2] bcast_S1x1x1024_S4x4096x1024_0_1_2
      (broadcastInDim S1x1x1024 ![2] bcast_S1024_S1x1x1024_2
        (shapeCast S1024 (extractStridedSlice S1x1024 ![1, 0] G slices_S2x1024_S1x1024_1_0) shapeCasts_S1x1024_S1024)))

theorem hostNorm_apply (b : Fin 4) (s : Fin 4096) (d : Fin 1024) :
    hostNorm X G (ix3 b s d) = normRow (fun k => X (ix3 b s k)) (gain G) d := by
  pointwise [hostNorm, normRow, gain]

/-- The reference's product, all columns. -/
def hostProj : FVec Ideal S4x4096x8456 .f32 :=
  Host.dotGeneral (φ₂ := .f32) dot_S4x4096x1024_S1024x8456_S4x4096x8456_2_0_01_1_n_n none (hostNorm X G)
    (shapeCast (α := EReal) S1024x8456 (extractStridedSlice S1x1024x8456 ![1, 0, 0] V slices_S2x1024x8456_S1x1024x8456_1_0_0) shapeCasts_S1x1024x8456_S1024x8456)

/-- Column `n` of token `t`'s product. -/
def colSum (t : Fin 16384) (n : Fin 8456) : EReal :=
  ∑ k : Fin 1024, normRow (tokRow X t) (gain G) k * (show EReal from V (ix3 1 k n))

theorem hostProj_apply (t : Fin 16384) (n : Fin 8456) :
    hostProj X G V (ix3 ⟨t.val / 4096, by omega⟩ ⟨t.val % 4096, by omega⟩ n) = colSum X G V t n := by
  pointwise [hostProj]
  simp only [hostNorm_apply]
  rfl

/-- The first result of the product `P`: the columns kept, side by side. -/
def hostMain (P : FVec Ideal S4x4096x8456 .f32) : FVec Ideal S16384x6144 .bf16 :=
  shapeCast S16384x6144 (truncf .bf16 (concatenate S4x4096x6144 2 [⟨S4x4096x512, extractStridedSlice S4x4096x512 ![0, 0, 0] P slices_S4x4096x8456_S4x4096x512_0_0_0⟩,
      ⟨S4x4096x512, extractStridedSlice S4x4096x512 ![0, 0, 512] P slices_S4x4096x8456_S4x4096x512_0_0_512⟩,
      ⟨S4x4096x512, extractStridedSlice S4x4096x512 ![0, 0, 1024] P slices_S4x4096x8456_S4x4096x512_0_0_1024⟩,
      ⟨S4x4096x512, extractStridedSlice S4x4096x512 ![0, 0, 1536] P slices_S4x4096x8456_S4x4096x512_0_0_1536⟩,
      ⟨S4x4096x512, extractStridedSlice S4x4096x512 ![0, 0, 4360] P slices_S4x4096x8456_S4x4096x512_0_0_4360⟩,
      ⟨S4x4096x512, extractStridedSlice S4x4096x512 ![0, 0, 4872] P slices_S4x4096x8456_S4x4096x512_0_0_4872⟩,
      ⟨S4x4096x3072, extractStridedSlice S4x4096x3072 ![0, 0, 5384] P slices_S4x4096x8456_S4x4096x3072_0_0_5384⟩]
    concatenates_S4x4096x512_S4x4096x512_S4x4096x512_S4x4096x512_S4x4096x512_S4x4096x512_S4x4096x3072_S4x4096x6144_d2
      : FVec Ideal S4x4096x6144 .f32) bitsLt_bf16_f32) shapeCasts_S4x4096x6144_S16384x6144

theorem hostMain_apply (P : FVec Ideal S4x4096x8456 .f32) (t : Fin 16384) (n : Fin 6144) :
    hostMain P (ix2 t n) = P (ix3 ⟨t.val / 4096, by omega⟩ ⟨t.val % 4096, by omega⟩ (col n)) := by
  have hP : ∀ (a a' : Fin 4) (b b' : Fin 4096) (d d' : Fin 8456), a.val = a'.val → b.val = b'.val → d.val = d'.val →
      P (ix3 a b d) = P (ix3 a' b' d') := fun a a' b b' d d' ha hb hd => by rw [Fin.ext ha, Fin.ext hb, Fin.ext hd]
  pointwise [hostMain]
  split_ifs <;> (apply hP <;> (try simp only [col]) <;> (try split_ifs) <;> (try omega))

/-- The gates of the product `P`, one row per head. -/
def hostGate (P : FVec Ideal S4x4096x8456 .f32) : FVec Ideal S8x16384 .f32 :=
  transpose S8x16384 [1, 0] (shapeCast S16384x8 (concatenate S4x4096x8 2 [⟨S4x4096x4, extractStridedSlice S4x4096x4 ![0, 0, 2048] P slices_S4x4096x8456_S4x4096x4_0_0_2048⟩,
      ⟨S4x4096x4, extractStridedSlice S4x4096x4 ![0, 0, 2052] P slices_S4x4096x8456_S4x4096x4_0_0_2052⟩] concatenates_S4x4096x4_S4x4096x4_S4x4096x8_d2
        : FVec Ideal S4x4096x8 .f32) shapeCasts_S4x4096x8_S16384x8) transposes_S16384x8_S8x16384_1_0

theorem hostGate_apply (P : FVec Ideal S4x4096x8456 .f32) (n : Fin 8) (t : Fin 16384) :
    hostGate P (ix2 n t) = P (ix3 ⟨t.val / 4096, by omega⟩ ⟨t.val % 4096, by omega⟩ ⟨2048 + n.val, by omega⟩) := by
  have hP : ∀ (a a' : Fin 4) (b b' : Fin 4096) (d d' : Fin 8456), a.val = a'.val → b.val = b'.val → d.val = d'.val →
      P (ix3 a b d) = P (ix3 a' b' d') := fun a a' b b' d d' ha hb hd => by rw [Fin.ext ha, Fin.ext hb, Fin.ext hd]
  pointwise [hostGate]
  split_ifs <;> (apply hP <;> (try dsimp only) <;> (try omega))

/-- The attention's weight rows, transposed. -/
def hostAttn : FVec Ideal S2x2304x1024 .bf16 :=
  truncf .bf16 (shapeCast S2x2304x1024 (transpose S2x3x3x256x1024 [0, 3, 2, 4, 1]
    (shapeCast S2x1024x3x3x256 (extractStridedSlice S2x1024x2304 ![0, 0, 2056] V slices_S2x1024x8456_S2x1024x2304_0_0_2056)
      shapeCasts_S2x1024x2304_S2x1024x3x3x256) transposes_S2x1024x3x3x256_S2x3x3x256x1024_0_3_2_4_1)
    shapeCasts_S2x3x3x256x1024_S2x2304x1024 : FVec Ideal S2x2304x1024 .f32) bitsLt_bf16_f32

theorem hostAttn_eq : hostAttn V = resA V := by
  funext i
  have hi : (i 1).val < 2304 := (i 1).isLt
  pointwise [hostAttn, resA, acol]
  exact congrArg (fun r => V (ix3 (i 0) (i 2) r)) (Fin.ext (by dsimp only; omega))

theorem hostMain_eq : hostMain (hostProj X G V) = resP X G V := by
  funext i
  have hi : i = ix2 (i 0) (i 1) := by funext d; fin_cases d <;> rfl
  rw [hi]
  exact (hostMain_apply _ _ _).trans (hostProj_apply X G V _ _)

theorem hostGate_eq : hostGate (hostProj X G V) = resG X G V := by
  funext i
  have hi : i = ix2 (i 0) (i 1) := by funext d; fin_cases d <;> rfl
  rw [hi]
  exact (hostGate_apply _ _ _).trans (hostProj_apply X G V _ _)

/-- The normalised activations, one row per token. -/
def hostRows : FVec Ideal S16384x1024 .bf16 :=
  truncf .bf16 (shapeCast S16384x1024 (hostNorm X G) shapeCasts_S4x4096x1024_S16384x1024 : FVec Ideal S16384x1024 .f32) bitsLt_bf16_f32

theorem hostRows_apply (t : Fin 16384) (k : Fin 1024) :
    hostRows X G (ix2 t k) = hostNorm X G (ix3 ⟨t.val / 4096, by omega⟩ ⟨t.val % 4096, by omega⟩ k) := by
  pointwise [hostRows]

theorem hostRows_eq : hostRows X G = resH X G := by
  funext i
  have hi : i = ix2 (i 0) (i 1) := by funext d; fin_cases d <;> rfl
  rw [hi]
  exact (hostRows_apply _ _ _ _).trans (hostNorm_apply X G _ _ _)

end Cert.Proof.SecondProjection

end
-- ==== Proof.SecondProjection.SecondAlgebraic.lean ====
/-
  Both programs' runs, read as the same functions of the arguments.
-/
module

public import proofs.«01_k».proof.Defs
public import proofs.«01_k».proof.Proof.SecondProjection.SecondKept
public import proofs.«01_k».proof.Proof.SecondProjection.SecondRefValue

@[expose] public section

set_option maxRecDepth 16384

noncomputable section

namespace Cert.Proof.SecondProjection

open Idealize.ShloMosaic Idealize.ShloMosaic.TcCoe Idealize.SL.Sem
open Cert.Kernel4Ideal.Run (resH resP resG resA argX argG argW W5_kept final_p final_h final_g final_a)

/-- The reference's run, over arguments `X`, `G`, `V`. -/
theorem reference_run (m : (ℓ : Loc Cert.Reference4Ideal.nD Cert.Reference4Ideal.τ Cert.Reference4Ideal.sig) → Buf (Elt Ideal) ℓ)
    (ρ : Dev Cert.Reference4Ideal.nD → PrngReg)
    (X : Dev Cert.Reference4Ideal.nD → Vec Ideal Cert.Kernel4Ideal.S4x4096x1024 .f32) (G : Dev Cert.Reference4Ideal.nD → Vec Ideal Cert.Kernel4Ideal.S2x1024 .f32)
    (V : Dev Cert.Reference4Ideal.nD → Vec Ideal Cert.Kernel4Ideal.S2x1024x8456 .f32)
    (hX : ∀ c : Dev Cert.Reference4Ideal.nD, m ((c.tc : Thread Cert.Reference4Ideal.nD Cert.Reference4Ideal.τ).loc Cert.Reference4Ideal.main_arg0) = X c)
    (hG : ∀ c : Dev Cert.Reference4Ideal.nD, m ((c.tc : Thread Cert.Reference4Ideal.nD Cert.Reference4Ideal.τ).loc Cert.Reference4Ideal.main_arg1) = G c)
    (hV : ∀ c : Dev Cert.Reference4Ideal.nD, m ((c.tc : Thread Cert.Reference4Ideal.nD Cert.Reference4Ideal.τ).loc Cert.Reference4Ideal.main_arg2) = V c) :
    θ_run (Cert.Reference4Ideal.defs (F := Ideal)) (onTc (τ := Cert.Reference4Ideal.τ) (Cert.Reference4Ideal.main (F := Ideal))) ⟨m, fun _ => 0, ρ⟩
      (fun r => ∀ c : Dev Cert.Reference4Ideal.nD,
        r.2.mem ((c.tc : Thread Cert.Reference4Ideal.nD Cert.Reference4Ideal.τ).loc Cert.Reference4Ideal.main_v37) = resP (X c) (G c) (V c)
        ∧ r.2.mem ((c.tc : Thread Cert.Reference4Ideal.nD Cert.Reference4Ideal.τ).loc Cert.Reference4Ideal.main_v39) = resH (X c) (G c)
        ∧ r.2.mem ((c.tc : Thread Cert.Reference4Ideal.nD Cert.Reference4Ideal.τ).loc Cert.Reference4Ideal.main_v41) = resG (X c) (G c) (V c)
        ∧ r.2.mem ((c.tc : Thread Cert.Reference4Ideal.nD Cert.Reference4Ideal.τ).loc Cert.Reference4Ideal.main_v42) = resA (V c)
        ∧ r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
        ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
        ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)) := by
  refine (θ_run Cert.Reference4Ideal.defs _ _).mono (fun r h c => ?_) (Cert.Reference4Ideal.Value.run m ρ)
  obtain ⟨h0, h1, h2, h3, h4⟩ := h c
  refine ⟨h0.trans ?_, h1.trans ?_, h2.trans ?_, h3.trans ?_, h4⟩
  · refine Eq.trans ?_ (hostMain_eq (X c) (G c) (V c))
    rw [← hX, ← hG, ← hV]
    rfl
  · refine Eq.trans ?_ (hostRows_eq (X c) (G c))
    rw [← hX, ← hG]
    rfl
  · refine Eq.trans ?_ (hostGate_eq (X c) (G c) (V c))
    rw [← hX, ← hG, ← hV]
    rfl
  · refine Eq.trans ?_ (hostAttn_eq (V c))
    rw [← hV]
    rfl

open Cert.Kernel4Ideal in
/-- The kernel's run. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v7_0) = resP (argX m c) (argG m c) (argW m c)
      ∧ r.2.mem ((c.tc : Thread nD τ).loc main_v7_1) = resH (argX m c) (argG m c)
      ∧ r.2.mem ((c.tc : Thread nD τ).loc main_v7_2) = resG (argX m c) (argG m c) (argW m c)
      ∧ r.2.mem ((c.tc : Thread nD τ).loc main_v2) = resA (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h.1 c _ (Finset.mem_filter.mpr ⟨StableHlo.devRef_mem_tcRefs main_v7_0, by decide⟩)).trans (final_p m c),
      (h.1 c _ (Finset.mem_filter.mpr ⟨StableHlo.devRef_mem_tcRefs main_v7_1, by decide⟩)).trans (final_h m c),
      (h.1 c _ (Finset.mem_filter.mpr ⟨StableHlo.devRef_mem_tcRefs main_v7_2, by decide⟩)).trans (final_g m c),
      (h.1 c _ (Finset.mem_filter.mpr ⟨StableHlo.devRef_mem_tcRefs main_v2, by decide⟩)).trans (final_a m c),
      (h.1 c _ (Finset.mem_filter.mpr ⟨StableHlo.devRef_mem_tcRefs main_arg0, by decide⟩)).trans
        (W5_kept m c main_arg0 (by decide) (by decide) (by decide) (by decide) (by decide)),
      (h.1 c _ (Finset.mem_filter.mpr ⟨StableHlo.devRef_mem_tcRefs main_arg1, by decide⟩)).trans
        (W5_kept m c main_arg1 (by decide) (by decide) (by decide) (by decide) (by decide)),
      (h.1 c _ (Finset.mem_filter.mpr ⟨StableHlo.devRef_mem_tcRefs main_arg2, by decide⟩)).trans
        (W5_kept m c main_arg2 (by decide) (by decide) (by decide) (by decide) (by decide))⟩) (Cert.Kernel4Ideal.Run.run m ρ)

theorem algebraic : Cert.algebraic_Kernel4Ideal_Reference4Ideal (hKernel4Ideal := Cert.Kernel4Ideal.Gen.facts)
    (hReference4Ideal := Cert.Reference4Ideal.Gen.facts) := by
  intro m g m' g' _ hagree
  exact ⟨fun c => resP (argX m c) (argG m c) (argW m c), fun c => resH (argX m c) (argG m c),
    fun c => resG (argX m c) (argG m c) (argW m c), fun c => resA (argW m c), kernel_run m g,
    reference_run m' g' (fun c => argX m c) (fun c => argG m c) (fun c => argW m c)
      (fun c => (hagree c).1) (fun c => (hagree c).2.1) (fun c => (hagree c).2.2)⟩

end Cert.Proof.SecondProjection

end
-- ==== Proof.Merge.MergeChunk.lean ====
/-
  The sixteen chunks of the spatial gating that one block of 512 tokens holds: four chunks of 128 tokens by four groups of
  128 features. Each is the same function of its parts, and this function is read element by element over the reals.
-/
module

public import proofs.«01_k».proof.Proof.Gen.Kernel5Ideal.Skeleton
public import Idealize.ShloMosaic.Lib.Pointwise

@[expose] public section

set_option maxRecDepth 16384

noncomputable section

namespace Cert.Kernel5Ideal.Merge

open Idealize.ShloMosaic Idealize.ShloMosaic.TcCoe
open Cert.Kernel5Ideal.Gen

section
variable {F : FTy → Type} [FloatOps F] [Named F]

/-- A chunk's gating, from its two halves, the gain, and the group's token weights and offsets. -/
def chunk (u v : Vec F S128x128 .bf16) (g : Vec F S1x128 .f32) (w : Vec F S1x128x128 .bf16) (b : Vec F S1x128x128 .f32) : FVec F S128x128 .bf16 :=
  k0_pay8 (k0_pay6 (k0_pay3 u) (k0_pay4 u) (k0_pay5 u)) (k0_pay7 v g w) b

variable (u v : Vec F S128x128 .bf16) (g : Vec F S1x128 .f32) (w : Vec F S1x128x128 .bf16) (b : Vec F S1x128x128 .f32)

theorem chunk_0_1 : k0_pay13 (k0_pay9 u) (k0_pay10 v) (k0_pay11 g) (k0_pay12 v) (Scalar.ofBits .f32 0x358637BD#32) w b = chunk u v g w b := rfl
theorem chunk_0_2 : k0_pay18 (k0_pay14 u) (k0_pay15 v) (k0_pay16 v) (k0_pay17 v) g w b = chunk u v g w b := rfl
theorem chunk_0_3 : k0_pay23 (k0_pay22 (k0_pay19 u) (k0_pay20 u) (k0_pay21 u) v g w b) = chunk u v g w b := rfl
theorem chunk_1_0 : k0_pay28 (k0_pay24 u) (k0_pay25 v) (k0_pay26 g) (k0_pay27 v) w b = chunk u v g w b := rfl
theorem chunk_1_1 : k0_pay33 (k0_pay29 u) (k0_pay30 v) (k0_pay31 v) (k0_pay32 v) g w b = chunk u v g w b := rfl
theorem chunk_1_2 : k0_pay38 (k0_pay37 (k0_pay34 u) (k0_pay35 u) (k0_pay36 u) v g w b) = chunk u v g w b := rfl
theorem chunk_1_3 : k0_pay42 (k0_pay39 u) (k0_pay40 v) (k0_pay41 g) w b = chunk u v g w b := rfl
theorem chunk_2_0 : k0_pay47 (k0_pay43 u) (k0_pay45 v) (k0_pay46 v) g w b = chunk u v g w b := rfl
theorem chunk_2_1 : k0_pay51 (k0_pay49 u) (k0_pay50 u) v g w b = chunk u v g w b := rfl
theorem chunk_2_2 : k0_pay54 (k0_pay52 u) (k0_pay53 v g) w b = chunk u v g w b := rfl
theorem chunk_2_3 : k0_pay57 (k0_pay55 u) (k0_pay56 v) g w b = chunk u v g w b := rfl
theorem chunk_3_0 : k0_pay59 (k0_pay58 u) v g w b = chunk u v g w b := rfl
theorem chunk_3_1 : k0_pay63 (k0_pay60 u) (k0_pay61 v g) (k0_pay62 w) b = chunk u v g w b := rfl
theorem chunk_3_2 : k0_pay68 (k0_pay64 u) (k0_pay65 v) (k0_pay66 g) (k0_pay67 v) w b = chunk u v g w b := rfl
theorem chunk_3_3 : k0_pay71 (k0_pay69 u) (k0_pay70 v) g w b = chunk u v g w b := rfl

end

/-- The activation as the kernel computes it. -/
def geluK (x : EReal) : EReal :=
  Ideal.ofBits .f32 0x3F000000#32 * x + Ideal.ofBits .f32 0x3F000000#32 * x
    * Ideal.tanh (x * (Ideal.ofBits .f32 0x3F4C422A#32 + Named.named (F := Ideal) κ "gelu_cubic" 0x3D122279#32 * (x * x)))

/-- Element `q` of a row of 128 activated features divided by its root mean square and scaled by the gain. -/
def normGelu (x g : Fin 128 → EReal) (q : Fin 128) : EReal :=
  geluK (x q) * Ideal.rsqrt (Ideal.div (∑ k : Fin 128, geluK (x k) * geluK (x k)) (Ideal.ofBits .f32 0x43000000#32) + Ideal.ofBits .f32 0x358637BD#32) * g q

theorem pay6_apply (u : Vec Ideal S128x128 .bf16) (r q : Fin 128) :
    k0_pay6 (F := Ideal) (k0_pay3 u) (k0_pay4 u) (k0_pay5 u) (ix2 r q) = geluK (u (ix2 r q)) := by
  pointwise [k0_pay6, k0_pay3, k0_pay4, k0_pay5, geluK]

theorem pay7_apply (v : Vec Ideal S128x128 .bf16) (g : Vec Ideal S1x128 .f32) (w : Vec Ideal S1x128x128 .bf16) (r q : Fin 128) :
    k0_pay7 (F := Ideal) v g w (ix2 r q)
      = ∑ s : Fin 128, w (ix3 0 r s) * normGelu (fun k => v (ix2 s k)) (fun k => g (ix2 0 k)) q := by
  pointwise [k0_pay7, normGelu, geluK]

theorem chunk_apply (u v : Vec Ideal S128x128 .bf16) (g : Vec Ideal S1x128 .f32) (w : Vec Ideal S1x128x128 .bf16) (b : Vec Ideal S1x128x128 .f32)
    (r q : Fin 128) :
    chunk (F := Ideal) u v g w b (ix2 r q)
      = geluK (u (ix2 r q)) * ((∑ s : Fin 128, w (ix3 0 r s) * normGelu (fun k => v (ix2 s k)) (fun k => g (ix2 0 k)) q) + b (ix3 0 r q)) := by
  unfold chunk
  rw [← pay6_apply, ← pay7_apply v g w]
  generalize k0_pay6 (F := Ideal) (k0_pay3 u) (k0_pay4 u) (k0_pay5 u) = A
  generalize k0_pay7 (F := Ideal) v g w = B
  pointwise [k0_pay8]

end Cert.Kernel5Ideal.Merge

end
-- ==== Proof.Merge.MergeBlock.lean ====
/-
  What the body leaves in its block of the result: the run's one store, its loads read off the blocks, and the scratch rows
  read back as the sixteen chunks of the gating.
-/
module

public import proofs.«01_k».proof.Proof.Merge.MergeChunk
public import proofs.«01_k».proof.Proof.Gen.Kernel5Ideal.Value
public import Idealize.ShloMosaic.Lib.Pipeline.ValueKit

@[expose] public section

set_option maxRecDepth 16384

noncomputable section

namespace Cert.Kernel5Ideal.Merge

open Idealize.ShloMosaic Idealize.ShloMosaic.TcCoe
open Cert.Kernel5Ideal.Gen

theorem zero2 : (![0, 0] : Fin 2 → Nat) = fun _ => 0 := funext fun a => by fin_cases a <;> rfl

/-- The gated features of a block of 512 tokens: the token weights mix the tokens of its own chunk of 128 only. -/
def gated (u v : Vec Ideal S512x512 .bf16) (w : Vec Ideal S4x128x128 .bf16) (b : Vec Ideal S4x128x128 .f32) (g : Vec Ideal S1x512 .f32) :
    Vec Ideal S512x512 .bf16 := fun y =>
  have h0 : (y 0).val < 512 := (y 0).isLt
  have h1 : (y 1).val < 512 := (y 1).isLt
  geluK (u y) * ((∑ s : Fin 128, w (ix3 ⟨(y 1).val / 128, by omega⟩ ⟨(y 0).val % 128, by omega⟩ s)
      * normGelu (fun k => v (ix2 ⟨(y 0).val / 128 * 128 + s.val, by omega⟩ ⟨(y 1).val / 128 * 128 + k.val, by omega⟩))
          (fun k => g (ix2 0 ⟨(y 1).val / 128 * 128 + k.val, by omega⟩)) ⟨(y 1).val % 128, by omega⟩)
    + b (ix3 ⟨(y 1).val / 128, by omega⟩ ⟨(y 0).val % 128, by omega⟩ ⟨(y 1).val % 128, by omega⟩))

/-- One chunk of it, from the chunk's parts. -/
theorem chunk_gated (u v : Vec Ideal S512x512 .bf16) (w : Vec Ideal S4x128x128 .bf16) (b : Vec Ideal S4x128x128 .f32) (g : Vec Ideal S1x512 .f32)
    (J G : Fin 4) (u' v' : Vec Ideal S128x128 .bf16) (g' : Vec Ideal S1x128 .f32) (w' : Vec Ideal S1x128x128 .bf16) (b' : Vec Ideal S1x128x128 .f32)
    (hu : ∀ r q : Fin 128, u' (ix2 r q) = u (ix2 ⟨J.val * 128 + r.val, by omega⟩ ⟨G.val * 128 + q.val, by omega⟩))
    (hv : ∀ r q : Fin 128, v' (ix2 r q) = v (ix2 ⟨J.val * 128 + r.val, by omega⟩ ⟨G.val * 128 + q.val, by omega⟩))
    (hg : ∀ q : Fin 128, g' (ix2 0 q) = g (ix2 0 ⟨G.val * 128 + q.val, by omega⟩))
    (hw : ∀ r q : Fin 128, w' (ix3 0 r q) = w (ix3 G r q))
    (hb : ∀ r q : Fin 128, b' (ix3 0 r q) = b (ix3 G r q)) (x : S128x128.Idx) (y : S512x512.Idx)
    (hy0 : (y 0).val = J.val * 128 + (x 0).val) (hy1 : (y 1).val = G.val * 128 + (x 1).val) :
    chunk (F := Ideal) u' v' g' w' b' x = gated u v w b g y := by
  obtain ⟨r, q, rfl⟩ : ∃ r q : Fin 128, x = ix2 r q := ⟨x 0, x 1, funext fun k => match k with | ⟨0, _⟩ => rfl | ⟨1, _⟩ => rfl⟩
  replace hy0 : (y 0).val = J.val * 128 + r.val := hy0
  replace hy1 : (y 1).val = G.val * 128 + q.val := hy1
  have d0 : (y 0).val / 128 = J.val := by omega
  have d1 : (y 1).val / 128 = G.val := by omega
  have m0 : (y 0).val % 128 = r.val := by omega
  have m1 : (y 1).val % 128 = q.val := by omega
  refine (chunk_apply u' v' g' w' b' r q).trans ?_
  have e : y = ix2 ⟨J.val * 128 + r.val, by omega⟩ ⟨G.val * 128 + q.val, by omega⟩ :=
    funext fun k => match k with | ⟨0, _⟩ => Fin.ext hy0 | ⟨1, _⟩ => Fin.ext hy1
  unfold gated
  simp only [hu, hv, hg, hw, hb, d0, d1, m0, m1, Fin.eta, congrArg u e]

theorem ld_tok (X : Vec Ideal S512x512 .bf16) (a b : Nat) (J G : Fin 4) (ha : a = J.val * 128) (hb : b = G.val * 128)
    (inb : ∀ k, (![a, b] : Fin 2 → Nat) k + S128x128.size k ≤ S512x512.size k) (r q : Fin 128) :
    View.ld X (Rect.unit (s := S512x512) ![a, b] S128x128.size inb) (ix2 r q) = X (ix2 ⟨J.val * 128 + r.val, by omega⟩ ⟨G.val * 128 + q.val, by omega⟩) := by
  subst ha hb
  exact congrArg X (funext fun k => match k with
    | ⟨0, _⟩ => Fin.ext (by show J.val * 128 + 1 * r.val = J.val * 128 + r.val; omega)
    | ⟨1, _⟩ => Fin.ext (by show G.val * 128 + 1 * q.val = G.val * 128 + q.val; omega))
theorem ld_gain (X : Vec Ideal S1x512 .f32) (b : Nat) (G : Fin 4) (hb : b = G.val * 128)
    (inb : ∀ k, (![0, b] : Fin 2 → Nat) k + S1x128.size k ≤ S1x512.size k) (q : Fin 128) :
    View.ld X (Rect.unit (s := S1x512) ![0, b] S1x128.size inb) (ix2 0 q) = X (ix2 0 ⟨G.val * 128 + q.val, by omega⟩) := by
  subst hb
  exact congrArg X (funext fun k => match k with
    | ⟨0, _⟩ => Fin.ext rfl
    | ⟨1, _⟩ => Fin.ext (by show G.val * 128 + 1 * q.val = G.val * 128 + q.val; omega))
theorem ld_group {e : EltTy} (X : Vec Ideal S4x128x128 e) (a : Nat) (G : Fin 4) (ha : a = G.val)
    (inb : ∀ k, (![a, 0, 0] : Fin 3 → Nat) k + S1x128x128.size k ≤ S4x128x128.size k) (r q : Fin 128) :
    View.ld X (Rect.unit (s := S4x128x128) ![a, 0, 0] S1x128x128.size inb) (ix3 0 r q) = X (ix3 G r q) := by
  subst ha
  exact congrArg X (funext fun k => match k with
    | ⟨0, _⟩ => Fin.ext rfl
    | ⟨1, _⟩ => Fin.ext (by show 0 + 1 * r.val = r.val; omega)
    | ⟨2, _⟩ => Fin.ext (by show 0 + 1 * q.val = q.val; omega))

/-- A rectangle of a buffer written by 128-by-128 pieces that together cover it, each holding its part of `G`, reads as `G`. -/
theorem readCov_of_pieces {sp : Space} (v : View sig .tc sp S512x512 .bf16) (L : List (View.Piece (Elt Ideal) S512x512 .bf16))
    (r : LoadRect S512x512) (G : Vec Ideal S512x512 .bf16) (hc : View.Piece.tiledL L S128x128.size = true)
    (hL : ∀ p ∈ L, ∀ x : p.1.shape.Idx, p.2 x = G (p.1.emb x)) : v.readCov L r = fun y => G (r.idx y) := by
  rw [View.readCov_eq_canon']
  exact funext fun y => View.canon_apply_of_pieces G L hL _ (View.cover_of_tiledL L S128x128.size hc _)

set_option maxHeartbeats 4000000 in
/-- The body's block of the result. -/
theorem out_eq (c : Dev nD) (i : grid0.Coords) (a1 : Memref sig .tc .vmem S512x512 .bf16) (h1 : a1.IsWhole) (a2 : Memref sig .tc .vmem S512x256 .bf16) (h2 : a2.IsWhole) (a3 : Memref sig .tc .vmem S512x256 .bf16) (h3 : a3.IsWhole) (a4 : Memref sig .tc .vmem S512x256 .bf16) (h4 : a4.IsWhole) (a5 : Memref sig .tc .vmem S512x256 .f32) (h5 : a5.IsWhole) (a6 : Memref sig .tc .vmem S512x256 .f32) (h6 : a6.IsWhole) (a7 : Memref sig .tc .vmem S512x256 .f32) (h7 : a7.IsWhole) (a8 : Memref sig .tc .vmem S512x512 .bf16) (h8 : a8.IsWhole) (a9 : Memref sig .tc .vmem S512x512 .bf16) (h9 : a9.IsWhole) (a10 : Memref sig .tc .vmem S512x3072 .bf16) (h10 : a10.IsWhole) (a11 : Memref sig .tc .vmem S512x1024 .f32) (h11 : a11.IsWhole) (a12 : Memref sig .tc .vmem S512x1024 .bf16) (h12 : a12.IsWhole) (a13 : Memref sig .tc .vmem S768x1024 .bf16) (h13 : a13.IsWhole) (a14 : Memref sig .tc .vmem S512x1024 .bf16) (h14 : a14.IsWhole) (a15 : Memref sig .tc .vmem S1024x1024 .bf16) (h15 : a15.IsWhole) (a16 : Memref sig .tc .vmem S4x128x128 .bf16) (h16 : a16.IsWhole) (a17 : Memref sig .tc .vmem S4x128x128 .f32) (h17 : a17.IsWhole) (a18 : Memref sig .tc .vmem S1x512 .f32) (h18 : a18.IsWhole) (a19 : Memref sig .tc .vmem S512x1024 .f32) (h19 : a19.IsWhole) (a20 : Memref sig .tc .vmem S512x512 .bf16) (h20 : a20.IsWhole)
    (x0 : Vec Ideal S512x512 .bf16) (x1 : Vec Ideal S512x256 .bf16) (x2 : Vec Ideal S512x256 .bf16) (x3 : Vec Ideal S512x256 .bf16) (x4 : Vec Ideal S512x256 .f32) (x5 : Vec Ideal S512x256 .f32) (x6 : Vec Ideal S512x256 .f32) (x7 : Vec Ideal S512x512 .bf16) (x8 : Vec Ideal S512x512 .bf16) (x9 : Vec Ideal S512x3072 .bf16) (x10 : Vec Ideal S512x1024 .f32) (x11 : Vec Ideal S512x1024 .bf16) (x12 : Vec Ideal S768x1024 .bf16) (x13 : Vec Ideal S512x1024 .bf16) (x14 : Vec Ideal S1024x1024 .bf16) (x15 : Vec Ideal S4x128x128 .bf16) (x16 : Vec Ideal S4x128x128 .f32) (x17 : Vec Ideal S1x512 .f32) :
    out0_A_18 c i a1 h1 a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13 x14 x15 x16 x17
      = k0_pay1 (k0_pay73 (k0_pay2 x4 x5 x6 x1 x2 x3) (k0_pay72 (View.ld x9 (Rect.unit (s := S512x3072) ![0, 0] S512x1024.size inb_S512x3072_S512x1024_0_0)))
          x0 x11 (View.ld x9 (Rect.unit (s := S512x3072) ![0, 1024] S512x1024.size inb_S512x3072_S512x1024_0_1024)) x12)
        (k0_pay74 (View.ld x9 (Rect.unit (s := S512x3072) ![0, 2048] S512x1024.size inb_S512x3072_S512x1024_0_2048)) (gated x7 x8 x15 x16 x17) x13) x10 x14 := by
  unfold out0_A_18
  rw [View.read_writes_eq_canon _ _ _ (cover0_A_18 c i a1 h1 a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13 x14 x15 x16 x17)]
  unfold kernelRun0_A
  dsimp only
  sl_unfold_words
  rw [View.canon_unit_zero zero2]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, View.ld_unit_zero (S := S512x512) zero2, View.ld_unit_zero (S := S512x256) zero2,
    View.ld_unit_zero (S := S512x1024) zero2, View.ld_unit_zero (S := S768x1024) zero2, View.ld_unit_zero (S := S1024x1024) zero2]
  congr 2
  refine (readCov_of_pieces _ _ _ (gated x7 x8 x15 x16 x17) (by sl_kernel_rfl) ?_).trans (funext fun y => ?_)
  · intro p hp x
    simp only [List.mem_cons, List.not_mem_nil, or_false] at hp
    rcases hp with rfl | rfl | rfl | rfl | rfl | rfl | rfl | rfl | rfl | rfl | rfl | rfl | rfl | rfl | rfl | rfl
    · exact (congrFun (chunk_3_3 _ _ _ _ _) x).trans (chunk_gated x7 x8 x15 x16 x17 3 3 _ _ _ _ _ (ld_tok _ _ _ 3 3 rfl rfl _) (ld_tok _ _ _ 3 3 rfl rfl _) (ld_gain _ _ 3 rfl _)
        (ld_group _ _ 3 rfl _) (ld_group _ _ 3 rfl _) x _ (by show 384 + 1 * (x 0).val = 3 * 128 + (x 0).val; omega) (by show 384 + 1 * (x 1).val = 3 * 128 + (x 1).val; omega))
    · exact (congrFun (chunk_3_2 _ _ _ _ _) x).trans (chunk_gated x7 x8 x15 x16 x17 3 2 _ _ _ _ _ (ld_tok _ _ _ 3 2 rfl rfl _) (ld_tok _ _ _ 3 2 rfl rfl _) (ld_gain _ _ 2 rfl _)
        (ld_group _ _ 2 rfl _) (ld_group _ _ 2 rfl _) x _ (by show 384 + 1 * (x 0).val = 3 * 128 + (x 0).val; omega) (by show 256 + 1 * (x 1).val = 2 * 128 + (x 1).val; omega))
    · exact (congrFun (chunk_3_1 _ _ _ _ _) x).trans (chunk_gated x7 x8 x15 x16 x17 3 1 _ _ _ _ _ (ld_tok _ _ _ 3 1 rfl rfl _) (ld_tok _ _ _ 3 1 rfl rfl _) (ld_gain _ _ 1 rfl _)
        (ld_group _ _ 1 rfl _) (ld_group _ _ 1 rfl _) x _ (by show 384 + 1 * (x 0).val = 3 * 128 + (x 0).val; omega) (by show 128 + 1 * (x 1).val = 1 * 128 + (x 1).val; omega))
    · exact (congrFun (chunk_3_0 _ _ _ _ _) x).trans (chunk_gated x7 x8 x15 x16 x17 3 0 _ _ _ _ _ (ld_tok _ _ _ 3 0 rfl rfl _) (ld_tok _ _ _ 3 0 rfl rfl _) (ld_gain _ _ 0 rfl _)
        (ld_group _ _ 0 rfl _) (ld_group _ _ 0 rfl _) x _ (by show 384 + 1 * (x 0).val = 3 * 128 + (x 0).val; omega) (by show 0 + 1 * (x 1).val = 0 * 128 + (x 1).val; omega))
    · exact (congrFun (chunk_2_3 _ _ _ _ _) x).trans (chunk_gated x7 x8 x15 x16 x17 2 3 _ _ _ _ _ (ld_tok _ _ _ 2 3 rfl rfl _) (ld_tok _ _ _ 2 3 rfl rfl _) (ld_gain _ _ 3 rfl _)
        (ld_group _ _ 3 rfl _) (ld_group _ _ 3 rfl _) x _ (by show 256 + 1 * (x 0).val = 2 * 128 + (x 0).val; omega) (by show 384 + 1 * (x 1).val = 3 * 128 + (x 1).val; omega))
    · exact (congrFun (chunk_2_2 _ _ _ _ _) x).trans (chunk_gated x7 x8 x15 x16 x17 2 2 _ _ _ _ _ (ld_tok _ _ _ 2 2 rfl rfl _) (ld_tok _ _ _ 2 2 rfl rfl _) (ld_gain _ _ 2 rfl _)
        (ld_group _ _ 2 rfl _) (ld_group _ _ 2 rfl _) x _ (by show 256 + 1 * (x 0).val = 2 * 128 + (x 0).val; omega) (by show 256 + 1 * (x 1).val = 2 * 128 + (x 1).val; omega))
    · exact (congrFun (chunk_2_1 _ _ _ _ _) x).trans (chunk_gated x7 x8 x15 x16 x17 2 1 _ _ _ _ _ (ld_tok _ _ _ 2 1 rfl rfl _) (ld_tok _ _ _ 2 1 rfl rfl _) (ld_gain _ _ 1 rfl _)
        (ld_group _ _ 1 rfl _) (ld_group _ _ 1 rfl _) x _ (by show 256 + 1 * (x 0).val = 2 * 128 + (x 0).val; omega) (by show 128 + 1 * (x 1).val = 1 * 128 + (x 1).val; omega))
    · exact (congrFun (chunk_2_0 _ _ _ _ _) x).trans (chunk_gated x7 x8 x15 x16 x17 2 0 _ _ _ _ _ (ld_tok _ _ _ 2 0 rfl rfl _) (ld_tok _ _ _ 2 0 rfl rfl _) (ld_gain _ _ 0 rfl _)
        (ld_group _ _ 0 rfl _) (ld_group _ _ 0 rfl _) x _ (by show 256 + 1 * (x 0).val = 2 * 128 + (x 0).val; omega) (by show 0 + 1 * (x 1).val = 0 * 128 + (x 1).val; omega))
    · exact (congrFun (chunk_1_3 _ _ _ _ _) x).trans (chunk_gated x7 x8 x15 x16 x17 1 3 _ _ _ _ _ (ld_tok _ _ _ 1 3 rfl rfl _) (ld_tok _ _ _ 1 3 rfl rfl _) (ld_gain _ _ 3 rfl _)
        (ld_group _ _ 3 rfl _) (ld_group _ _ 3 rfl _) x _ (by show 128 + 1 * (x 0).val = 1 * 128 + (x 0).val; omega) (by show 384 + 1 * (x 1).val = 3 * 128 + (x 1).val; omega))
    · exact (congrFun (chunk_1_2 _ _ _ _ _) x).trans (chunk_gated x7 x8 x15 x16 x17 1 2 _ _ _ _ _ (ld_tok _ _ _ 1 2 rfl rfl _) (ld_tok _ _ _ 1 2 rfl rfl _) (ld_gain _ _ 2 rfl _)
        (ld_group _ _ 2 rfl _) (ld_group _ _ 2 rfl _) x _ (by show 128 + 1 * (x 0).val = 1 * 128 + (x 0).val; omega) (by show 256 + 1 * (x 1).val = 2 * 128 + (x 1).val; omega))
    · exact (congrFun (chunk_1_1 _ _ _ _ _) x).trans (chunk_gated x7 x8 x15 x16 x17 1 1 _ _ _ _ _ (ld_tok _ _ _ 1 1 rfl rfl _) (ld_tok _ _ _ 1 1 rfl rfl _) (ld_gain _ _ 1 rfl _)
        (ld_group _ _ 1 rfl _) (ld_group _ _ 1 rfl _) x _ (by show 128 + 1 * (x 0).val = 1 * 128 + (x 0).val; omega) (by show 128 + 1 * (x 1).val = 1 * 128 + (x 1).val; omega))
    · exact (congrFun (chunk_1_0 _ _ _ _ _) x).trans (chunk_gated x7 x8 x15 x16 x17 1 0 _ _ _ _ _ (ld_tok _ _ _ 1 0 rfl rfl _) (ld_tok _ _ _ 1 0 rfl rfl _) (ld_gain _ _ 0 rfl _)
        (ld_group _ _ 0 rfl _) (ld_group _ _ 0 rfl _) x _ (by show 128 + 1 * (x 0).val = 1 * 128 + (x 0).val; omega) (by show 0 + 1 * (x 1).val = 0 * 128 + (x 1).val; omega))
    · exact (congrFun (chunk_0_3 _ _ _ _ _) x).trans (chunk_gated x7 x8 x15 x16 x17 0 3 _ _ _ _ _ (ld_tok _ _ _ 0 3 rfl rfl _) (ld_tok _ _ _ 0 3 rfl rfl _) (ld_gain _ _ 3 rfl _)
        (ld_group _ _ 3 rfl _) (ld_group _ _ 3 rfl _) x _ (by show 0 + 1 * (x 0).val = 0 * 128 + (x 0).val; omega) (by show 384 + 1 * (x 1).val = 3 * 128 + (x 1).val; omega))
    · exact (congrFun (chunk_0_2 _ _ _ _ _) x).trans (chunk_gated x7 x8 x15 x16 x17 0 2 _ _ _ _ _ (ld_tok _ _ _ 0 2 rfl rfl _) (ld_tok _ _ _ 0 2 rfl rfl _) (ld_gain _ _ 2 rfl _)
        (ld_group _ _ 2 rfl _) (ld_group _ _ 2 rfl _) x _ (by show 0 + 1 * (x 0).val = 0 * 128 + (x 0).val; omega) (by show 256 + 1 * (x 1).val = 2 * 128 + (x 1).val; omega))
    · exact (congrFun (chunk_0_1 _ _ _ _ _) x).trans (chunk_gated x7 x8 x15 x16 x17 0 1 _ _ _ _ _ (ld_tok _ _ _ 0 1 rfl rfl _) (ld_tok _ _ _ 0 1 rfl rfl _) (ld_gain _ _ 1 rfl _)
        (ld_group _ _ 1 rfl _) (ld_group _ _ 1 rfl _) x _ (by show 0 + 1 * (x 0).val = 0 * 128 + (x 0).val; omega) (by show 128 + 1 * (x 1).val = 1 * 128 + (x 1).val; omega))
    · exact chunk_gated x7 x8 x15 x16 x17 0 0 _ _ _ _ _ (ld_tok _ _ _ 0 0 rfl rfl _) (ld_tok _ _ _ 0 0 rfl rfl _) (ld_gain _ _ 0 rfl _)
        (ld_group _ _ 0 rfl _) (ld_group _ _ 0 rfl _) x _ (by show 0 + 1 * (x 0).val = 0 * 128 + (x 0).val; omega) (by show 0 + 1 * (x 1).val = 0 * 128 + (x 1).val; omega)
  · exact congrArg (gated x7 x8 x15 x16 x17) (funext fun k => match k with
      | ⟨0, _⟩ => Fin.ext (by show 0 + 1 * (y 0).val = (y 0).val; omega)
      | ⟨1, _⟩ => Fin.ext (by show 0 + 1 * (y 1).val = (y 1).val; omega))

end Cert.Kernel5Ideal.Merge

end
-- ==== Proof.Merge.MergePay.lean ====
/-
  The body's arithmetic over the reals, element by element: the weighted attention rows, the three gated products and the
  last product.
-/
module

public import proofs.«01_k».proof.Proof.Gen.Kernel5Ideal.Skeleton
public import Idealize.ShloMosaic.Lib.Pointwise

@[expose] public section

set_option maxRecDepth 16384

noncomputable section

namespace Cert.Kernel5Ideal.Merge

open Idealize.ShloMosaic Idealize.ShloMosaic.TcCoe
open Cert.Kernel5Ideal.Gen

/-- Twice the logistic function, as the kernel computes it. -/
def gate2 (x : EReal) : EReal := Ideal.tanh (Ideal.ofBits .f32 0x3F000000#32 * x) + Ideal.ofBits .f32 0x3F800000#32

/-- The weight of the group whose logarithm is `x`, among the three groups' `a`, `b` and `c`. -/
def softK (a b c x : EReal) : EReal :=
  Ideal.exp (x - max (max a b) c)
    * Ideal.div (Ideal.ofBits .f32 0x3F800000#32) (Ideal.exp (a - max (max a b) c) + Ideal.exp (b - max (max a b) c) + Ideal.exp (c - max (max a b) c))

/-- Column `k` of the three groups' weighted rows, side by side. -/
def sideBySide (l0 l1 l2 o0 o1 o2 : Fin 256 → EReal) (k : Fin 768) : EReal :=
  if h : k.val < 256 then o0 ⟨k.val, h⟩ * softK (l0 ⟨k.val, h⟩) (l1 ⟨k.val, h⟩) (l2 ⟨k.val, h⟩) (l0 ⟨k.val, h⟩)
  else if h : k.val - 256 < 256 then
    o1 ⟨k.val - 256, h⟩ * softK (l0 ⟨k.val - 256, h⟩) (l1 ⟨k.val - 256, h⟩) (l2 ⟨k.val - 256, h⟩) (l1 ⟨k.val - 256, h⟩)
  else
    o2 ⟨k.val - 256 - 256, by omega⟩ * softK (l0 ⟨k.val - 256 - 256, by omega⟩) (l1 ⟨k.val - 256 - 256, by omega⟩) (l2 ⟨k.val - 256 - 256, by omega⟩) (l2 ⟨k.val - 256 - 256, by omega⟩)

theorem pay2_apply (l0 l1 l2 : Vec Ideal S512x256 .f32) (o0 o1 o2 : Vec Ideal S512x256 .bf16) (r : Fin 512) (k : Fin 768) :
    k0_pay2 (F := Ideal) l0 l1 l2 o0 o1 o2 (ix2 r k)
      = sideBySide (fun j => l0 (ix2 r j)) (fun j => l1 (ix2 r j)) (fun j => l2 (ix2 r j)) (fun j => o0 (ix2 r j)) (fun j => o1 (ix2 r j)) (fun j => o2 (ix2 r j)) k := by
  pointwise [k0_pay2, sideBySide, softK]

theorem pay73_apply (yb : FVec Ideal S512x768 .bf16) (g : Vec Ideal S512x1024 .bf16) (ya : Vec Ideal S512x512 .bf16) (wa : Vec Ideal S512x1024 .bf16)
    (g' : Vec Ideal S512x1024 .bf16) (wb : Vec Ideal S768x1024 .bf16) (r : Fin 512) (m : Fin 1024) :
    k0_pay73 (F := Ideal) yb (k0_pay72 g) ya wa g' wb (ix2 r m)
      = gate2 (g (ix2 r m)) * (∑ k : Fin 512, ya (ix2 r k) * wa (ix2 k m)) + gate2 (g' (ix2 r m)) * (∑ k : Fin 768, yb (ix2 r k) * wb (ix2 k m)) := by
  pointwise [k0_pay73, k0_pay72, gate2]

theorem pay74_apply (g : Vec Ideal S512x1024 .bf16) (yc : Vec Ideal S512x512 .bf16) (wc : Vec Ideal S512x1024 .bf16) (r : Fin 512) (m : Fin 1024) :
    k0_pay74 (F := Ideal) g yc wc (ix2 r m) = gate2 (g (ix2 r m)) * (∑ k : Fin 512, yc (ix2 r k) * wc (ix2 k m)) := by
  pointwise [k0_pay74, gate2]

theorem pay1_apply (A B : FVec Ideal S512x1024 .f32) (x : Vec Ideal S512x1024 .f32) (wo : Vec Ideal S1024x1024 .bf16) (r : Fin 512) (d : Fin 1024) :
    k0_pay1 (F := Ideal) A B x wo (ix2 r d)
      = x (ix2 r d) + Ideal.ofBits .f32 0x3F000000#32 * (∑ m : Fin 1024, (A (ix2 r m) + B (ix2 r m)) * wo (ix2 m d)) := by
  pointwise [k0_pay1]

end Cert.Kernel5Ideal.Merge

end
-- ==== Proof.Merge.MergeArr.lean ====
/-
  One block of the body's result, as the rows of one function of whole arrays.
-/
module

public import proofs.«01_k».proof.Proof.Merge.MergeBlock
public import proofs.«01_k».proof.Proof.Merge.MergePay

@[expose] public section

set_option maxRecDepth 16384

noncomputable section

namespace Cert.Kernel5Ideal.Merge

open Idealize.ShloMosaic Idealize.ShloMosaic.TcCoe
open Cert.Kernel5Ideal.Gen

/-- The gated feature `n` of token `t`: its chunk of 128 tokens is mixed by its group's token weights. -/
def gatedAt (P : Vec Ideal S16384x6144 .bf16) (ws : Vec Ideal S4x128x128 .bf16) (bs : Vec Ideal S4x128x128 .f32) (g : Vec Ideal S1x512 .f32)
    (t : Fin 16384) (n : Fin 512) : EReal :=
  geluK (P (ix2 t ⟨2048 + n.val, by omega⟩)) * ((∑ s : Fin 128, ws (ix3 ⟨n.val / 128, by omega⟩ ⟨t.val % 128, by omega⟩ s)
      * normGelu (fun k => P (ix2 ⟨t.val / 128 * 128 + s.val, by omega⟩ ⟨2560 + (n.val / 128 * 128 + k.val), by omega⟩))
          (fun k => g (ix2 0 ⟨n.val / 128 * 128 + k.val, by omega⟩)) ⟨n.val % 128, by omega⟩)
    + bs (ix3 ⟨n.val / 128, by omega⟩ ⟨t.val % 128, by omega⟩ ⟨n.val % 128, by omega⟩))

/-- Token `t`'s three gated products, summed, at feature `j`. -/
def mergedAt (Ya : Vec Ideal S16384x512 .bf16) (O0 O1 O2 : Vec Ideal S16384x256 .bf16) (L0 L1 L2 : Vec Ideal S16384x256 .f32)
    (P : Vec Ideal S16384x6144 .bf16) (wa : Vec Ideal S512x1024 .bf16) (wb : Vec Ideal S768x1024 .bf16) (wc : Vec Ideal S512x1024 .bf16)
    (ws : Vec Ideal S4x128x128 .bf16) (bs : Vec Ideal S4x128x128 .f32) (g : Vec Ideal S1x512 .f32) (t : Fin 16384) (j : Fin 1024) : EReal :=
  (gate2 (P (ix2 t ⟨3072 + j.val, by omega⟩)) * (∑ k : Fin 512, Ya (ix2 t k) * wa (ix2 k j))
    + gate2 (P (ix2 t ⟨4096 + j.val, by omega⟩)) * (∑ k : Fin 768, sideBySide (fun q => L0 (ix2 t q)) (fun q => L1 (ix2 t q)) (fun q => L2 (ix2 t q))
        (fun q => O0 (ix2 t q)) (fun q => O1 (ix2 t q)) (fun q => O2 (ix2 t q)) k * wb (ix2 k j)))
  + gate2 (P (ix2 t ⟨5120 + j.val, by omega⟩)) * (∑ k : Fin 512, gatedAt P ws bs g t k * wc (ix2 k j))

/-- The whole result: the tokens plus half the last product. -/
def mergeArr (X : Vec Ideal S16384x1024 .f32) (Ya : Vec Ideal S16384x512 .bf16) (O0 O1 O2 : Vec Ideal S16384x256 .bf16) (L0 L1 L2 : Vec Ideal S16384x256 .f32)
    (P : Vec Ideal S16384x6144 .bf16) (wa : Vec Ideal S512x1024 .bf16) (wb : Vec Ideal S768x1024 .bf16) (wc : Vec Ideal S512x1024 .bf16)
    (wo : Vec Ideal S1024x1024 .bf16) (ws : Vec Ideal S4x128x128 .bf16) (bs : Vec Ideal S4x128x128 .f32) (g : Vec Ideal S1x512 .f32) :
    Vec Ideal S16384x1024 .f32 := fun i =>
  X (ix2 (i 0) (i 1)) + Ideal.ofBits .f32 0x3F000000#32 * (∑ j : Fin 1024, mergedAt Ya O0 O1 O2 L0 L1 L2 P wa wb wc ws bs g (i 0) j * wo (ix2 j (i 1)))

/-- Token `r` of block `b`. -/
def tok (b : Fin 32) (r : Fin 512) : Fin 16384 := ⟨b.val * 512 + r.val, by omega⟩

theorem gated_at (P : Vec Ideal S16384x6144 .bf16) (ws : Vec Ideal S4x128x128 .bf16) (bs : Vec Ideal S4x128x128 .f32) (g : Vec Ideal S1x512 .f32)
    (u v : Vec Ideal S512x512 .bf16) (b : Fin 32) (hu : ∀ (r k : Fin 512), u (ix2 r k) = P (ix2 (tok b r) ⟨2048 + k.val, by omega⟩))
    (hv : ∀ (r k : Fin 512), v (ix2 r k) = P (ix2 (tok b r) ⟨2560 + k.val, by omega⟩)) (r n : Fin 512) :
    gated u v ws bs g (ix2 r n) = gatedAt P ws bs g (tok b r) n := by
  have e1 : ∀ s : Fin 128, tok b ⟨r.val / 128 * 128 + s.val, by omega⟩ = ⟨(tok b r).val / 128 * 128 + s.val, by unfold tok; dsimp only; omega⟩ := fun s =>
    Fin.ext (by unfold tok; dsimp only; omega)
  have e2 : (⟨r.val % 128, by omega⟩ : Fin 128) = ⟨(tok b r).val % 128, by omega⟩ := Fin.ext (by unfold tok; dsimp only; omega)
  show geluK (u (ix2 r n)) * ((∑ s : Fin 128, ws (ix3 ⟨n.val / 128, by omega⟩ ⟨r.val % 128, by omega⟩ s)
      * normGelu (fun k => v (ix2 ⟨r.val / 128 * 128 + s.val, by omega⟩ ⟨n.val / 128 * 128 + k.val, by omega⟩))
          (fun k => g (ix2 0 ⟨n.val / 128 * 128 + k.val, by omega⟩)) ⟨n.val % 128, by omega⟩)
    + bs (ix3 ⟨n.val / 128, by omega⟩ ⟨r.val % 128, by omega⟩ ⟨n.val % 128, by omega⟩)) = _
  unfold gatedAt
  simp only [hu, hv, e1, e2]

theorem ld_gate (X : Vec Ideal S512x3072 .bf16) (a : Nat) (inb : ∀ k, (![0, a] : Fin 2 → Nat) k + S512x1024.size k ≤ S512x3072.size k)
    (r : Fin 512) (j : Fin 1024) (h : a + j.val < 3072) :
    View.ld X (Rect.unit (s := S512x3072) ![0, a] S512x1024.size inb) (ix2 r j) = X (ix2 r ⟨a + j.val, h⟩) :=
  congrArg X (funext fun k => match k with
    | ⟨0, _⟩ => Fin.ext (by show 0 + 1 * r.val = r.val; omega)
    | ⟨1, _⟩ => Fin.ext (by show a + 1 * j.val = a + j.val; omega))

/-- A block of the body's result, from blocks that are rows of the arrays. -/
theorem block_eq (X : Vec Ideal S16384x1024 .f32) (Ya : Vec Ideal S16384x512 .bf16) (O0 O1 O2 : Vec Ideal S16384x256 .bf16) (L0 L1 L2 : Vec Ideal S16384x256 .f32)
    (P : Vec Ideal S16384x6144 .bf16) (wa : Vec Ideal S512x1024 .bf16) (wb : Vec Ideal S768x1024 .bf16) (wc : Vec Ideal S512x1024 .bf16)
    (wo : Vec Ideal S1024x1024 .bf16) (ws : Vec Ideal S4x128x128 .bf16) (bs : Vec Ideal S4x128x128 .f32) (g : Vec Ideal S1x512 .f32)
    (x0 : Vec Ideal S512x512 .bf16) (x1 x2 x3 : Vec Ideal S512x256 .bf16) (x4 x5 x6 : Vec Ideal S512x256 .f32) (x7 x8 : Vec Ideal S512x512 .bf16)
    (x9 : Vec Ideal S512x3072 .bf16) (x10 : Vec Ideal S512x1024 .f32) (b : Fin 32)
    (h0 : ∀ r k, x0 (ix2 r k) = Ya (ix2 (tok b r) k)) (h1 : ∀ r k, x1 (ix2 r k) = O0 (ix2 (tok b r) k))
    (h2 : ∀ r k, x2 (ix2 r k) = O1 (ix2 (tok b r) k)) (h3 : ∀ r k, x3 (ix2 r k) = O2 (ix2 (tok b r) k))
    (h4 : ∀ r k, x4 (ix2 r k) = L0 (ix2 (tok b r) k)) (h5 : ∀ r k, x5 (ix2 r k) = L1 (ix2 (tok b r) k))
    (h6 : ∀ r k, x6 (ix2 r k) = L2 (ix2 (tok b r) k))
    (h7 : ∀ (r k : Fin 512), x7 (ix2 r k) = P (ix2 (tok b r) ⟨2048 + k.val, by omega⟩))
    (h8 : ∀ (r k : Fin 512), x8 (ix2 r k) = P (ix2 (tok b r) ⟨2560 + k.val, by omega⟩))
    (h9 : ∀ (r : Fin 512) (k : Fin 3072), x9 (ix2 r k) = P (ix2 (tok b r) ⟨3072 + k.val, by omega⟩))
    (h10 : ∀ r k, x10 (ix2 r k) = X (ix2 (tok b r) k)) (r : Fin 512) (d : Fin 1024) :
    k0_pay1 (F := Ideal) (k0_pay73 (k0_pay2 x4 x5 x6 x1 x2 x3) (k0_pay72 (View.ld x9 (Rect.unit (s := S512x3072) ![0, 0] S512x1024.size inb_S512x3072_S512x1024_0_0)))
          x0 wa (View.ld x9 (Rect.unit (s := S512x3072) ![0, 1024] S512x1024.size inb_S512x3072_S512x1024_0_1024)) wb)
        (k0_pay74 (View.ld x9 (Rect.unit (s := S512x3072) ![0, 2048] S512x1024.size inb_S512x3072_S512x1024_0_2048)) (gated x7 x8 ws bs g) wc) x10 wo (ix2 r d)
      = mergeArr X Ya O0 O1 O2 L0 L1 L2 P wa wb wc wo ws bs g (ix2 (tok b r) d) := by
  rw [pay1_apply]
  show _ = X (ix2 (tok b r) d) + Ideal.ofBits .f32 0x3F000000#32 * (∑ j : Fin 1024, mergedAt Ya O0 O1 O2 L0 L1 L2 P wa wb wc ws bs g (tok b r) j * wo (ix2 j d))
  rw [h10]
  refine congrArg (fun z => X (ix2 (tok b r) d) + Ideal.ofBits .f32 0x3F000000#32 * z) (Finset.sum_congr rfl fun j _ => congrArg (fun z => z * wo (ix2 j d)) ?_)
  rw [pay73_apply, pay74_apply]
  have p1 : ∀ j : Fin 1024, (⟨3072 + (0 + j.val), by omega⟩ : Fin 6144) = ⟨3072 + j.val, by omega⟩ := fun j => Fin.ext (by dsimp only; omega)
  have p2 : ∀ j : Fin 1024, (⟨3072 + (1024 + j.val), by omega⟩ : Fin 6144) = ⟨4096 + j.val, by omega⟩ := fun j => Fin.ext (by dsimp only; omega)
  have p3 : ∀ j : Fin 1024, (⟨3072 + (2048 + j.val), by omega⟩ : Fin 6144) = ⟨5120 + j.val, by omega⟩ := fun j => Fin.ext (by dsimp only; omega)
  rw [ld_gate x9 0 _ r j (by omega), ld_gate x9 1024 _ r j (by omega), ld_gate x9 2048 _ r j (by omega), h9, h9, h9, p1, p2, p3]
  unfold mergedAt
  simp only [pay2_apply, gated_at P ws bs g x7 x8 b h7 h8, h0, h1, h2, h3, h4, h5, h6]

end Cert.Kernel5Ideal.Merge

end
-- ==== Proof.Merge.MergeValue.lean ====
/-
  The result array after the run: every block is written once, and together the blocks are one function of the arrays the
  windows read.
-/
module

public import proofs.«01_k».proof.Proof.Merge.MergeArr

@[expose] public section

set_option maxRecDepth 16384

noncomputable section

namespace Cert.Kernel5Ideal.Merge

open Idealize.ShloMosaic Idealize.ShloMosaic.TcCoe
open Idealize.ShloMosaic.Pipeline (Dat Cfg Window)
open Cert.Kernel5Ideal.Gen

variable (m : (ℓ : Loc nD τ sig) → Buf (Elt Ideal) ℓ) (c : Dev nD)

/-- The block of tokens of point `t`. -/
def pt (t : Fin cfg0.N) : Fin 32 := ⟨(grid0.coords t 0).val, (grid0.coords t 0).isLt⟩

theorem ix_0 : ∀ t : Fin grid0.N, win0_0.index t = ![(grid0.coords t 0).val, 0] := by decide +kernel
theorem ix_1 : ∀ t : Fin grid0.N, win0_1.index t = ![(grid0.coords t 0).val, 0] := by decide +kernel
theorem ix_2 : ∀ t : Fin grid0.N, win0_2.index t = ![(grid0.coords t 0).val, 0] := by decide +kernel
theorem ix_3 : ∀ t : Fin grid0.N, win0_3.index t = ![(grid0.coords t 0).val, 0] := by decide +kernel
theorem ix_4 : ∀ t : Fin grid0.N, win0_4.index t = ![(grid0.coords t 0).val, 0] := by decide +kernel
theorem ix_5 : ∀ t : Fin grid0.N, win0_5.index t = ![(grid0.coords t 0).val, 0] := by decide +kernel
theorem ix_6 : ∀ t : Fin grid0.N, win0_6.index t = ![(grid0.coords t 0).val, 0] := by decide +kernel
theorem ix_7 : ∀ t : Fin grid0.N, win0_7.index t = ![(grid0.coords t 0).val, 4] := by decide +kernel
theorem ix_8 : ∀ t : Fin grid0.N, win0_8.index t = ![(grid0.coords t 0).val, 5] := by decide +kernel
theorem ix_9 : ∀ t : Fin grid0.N, win0_9.index t = ![(grid0.coords t 0).val, 1] := by decide +kernel
theorem ix_10 : ∀ t : Fin grid0.N, win0_10.index t = ![(grid0.coords t 0).val, 0] := by decide +kernel
theorem ix_18 : ∀ t : Fin grid0.N, win0_18.index t = ![(grid0.coords t 0).val, 0] := by decide +kernel
theorem ix_11 : ∀ t : Fin grid0.N, win0_11.index t = ![0, 0] := by decide +kernel
theorem ix_12 : ∀ t : Fin grid0.N, win0_12.index t = ![0, 0] := by decide +kernel
theorem ix_13 : ∀ t : Fin grid0.N, win0_13.index t = ![0, 0] := by decide +kernel
theorem ix_14 : ∀ t : Fin grid0.N, win0_14.index t = ![0, 0] := by decide +kernel
theorem ix_15 : ∀ t : Fin grid0.N, win0_15.index t = ![0, 0, 0] := by decide +kernel
theorem ix_16 : ∀ t : Fin grid0.N, win0_16.index t = ![0, 0, 0] := by decide +kernel
theorem ix_17 : ∀ t : Fin grid0.N, win0_17.index t = ![0, 0] := by decide +kernel

theorem blk_0 (t : Fin cfg0.N) (r : Fin 512) (k : Fin 512) :
    (show Vec Ideal S512x512 .bf16 from iblk m c 0 t) (ix2 r k) = (V m c main_v21 : Vec Ideal S16384x512 .bf16) (ix2 (tok (pt t) r) k) := by
  unfold iblk tok pt
  blk_simp
  blk_ext [ix_0]
theorem blk_1 (t : Fin cfg0.N) (r : Fin 512) (k : Fin 256) :
    (show Vec Ideal S512x256 .bf16 from iblk m c 1 t) (ix2 r k) = (V m c main_v1 : Vec Ideal S16384x256 .bf16) (ix2 (tok (pt t) r) k) := by
  unfold iblk tok pt
  blk_simp
  blk_ext [ix_1]
theorem blk_2 (t : Fin cfg0.N) (r : Fin 512) (k : Fin 256) :
    (show Vec Ideal S512x256 .bf16 from iblk m c 2 t) (ix2 r k) = (V m c main_v3 : Vec Ideal S16384x256 .bf16) (ix2 (tok (pt t) r) k) := by
  unfold iblk tok pt
  blk_simp
  blk_ext [ix_2]
theorem blk_3 (t : Fin cfg0.N) (r : Fin 512) (k : Fin 256) :
    (show Vec Ideal S512x256 .bf16 from iblk m c 3 t) (ix2 r k) = (V m c main_v5 : Vec Ideal S16384x256 .bf16) (ix2 (tok (pt t) r) k) := by
  unfold iblk tok pt
  blk_simp
  blk_ext [ix_3]
theorem blk_4 (t : Fin cfg0.N) (r : Fin 512) (k : Fin 256) :
    (show Vec Ideal S512x256 .f32 from iblk m c 4 t) (ix2 r k) = (V m c main_v8 : Vec Ideal S16384x256 .f32) (ix2 (tok (pt t) r) k) := by
  unfold iblk tok pt
  blk_simp
  blk_ext [ix_4]
theorem blk_5 (t : Fin cfg0.N) (r : Fin 512) (k : Fin 256) :
    (show Vec Ideal S512x256 .f32 from iblk m c 5 t) (ix2 r k) = (V m c main_v11 : Vec Ideal S16384x256 .f32) (ix2 (tok (pt t) r) k) := by
  unfold iblk tok pt
  blk_simp
  blk_ext [ix_5]
theorem blk_6 (t : Fin cfg0.N) (r : Fin 512) (k : Fin 256) :
    (show Vec Ideal S512x256 .f32 from iblk m c 6 t) (ix2 r k) = (V m c main_v14 : Vec Ideal S16384x256 .f32) (ix2 (tok (pt t) r) k) := by
  unfold iblk tok pt
  blk_simp
  blk_ext [ix_6]
theorem blk_7 (t : Fin cfg0.N) (r : Fin 512) (k : Fin 512) :
    (show Vec Ideal S512x512 .bf16 from iblk m c 7 t) (ix2 r k) = (V m c main_v22 : Vec Ideal S16384x6144 .bf16) (ix2 (tok (pt t) r) ⟨2048 + k.val, by omega⟩) := by
  unfold iblk tok pt
  blk_simp
  blk_ext [ix_7]
theorem blk_8 (t : Fin cfg0.N) (r : Fin 512) (k : Fin 512) :
    (show Vec Ideal S512x512 .bf16 from iblk m c 8 t) (ix2 r k) = (V m c main_v22 : Vec Ideal S16384x6144 .bf16) (ix2 (tok (pt t) r) ⟨2560 + k.val, by omega⟩) := by
  unfold iblk tok pt
  blk_simp
  blk_ext [ix_8]
theorem blk_9 (t : Fin cfg0.N) (r : Fin 512) (k : Fin 3072) :
    (show Vec Ideal S512x3072 .bf16 from iblk m c 9 t) (ix2 r k) = (V m c main_v22 : Vec Ideal S16384x6144 .bf16) (ix2 (tok (pt t) r) ⟨3072 + k.val, by omega⟩) := by
  unfold iblk tok pt
  blk_simp
  blk_ext [ix_9]
theorem blk_10 (t : Fin cfg0.N) (r : Fin 512) (k : Fin 1024) :
    (show Vec Ideal S512x1024 .f32 from iblk m c 10 t) (ix2 r k) = (V m c main_arg0 : Vec Ideal S16384x1024 .f32) (ix2 (tok (pt t) r) k) := by
  unfold iblk tok pt
  blk_simp
  blk_ext [ix_10]
theorem blk_11 (t : Fin cfg0.N) : (show Vec Ideal S512x1024 .bf16 from iblk m c 11 t) = (V m c main_v23 : Vec Ideal S512x1024 .bf16) := by
  funext j
  unfold iblk
  blk_simp
  blk_ext [ix_11]
theorem blk_12 (t : Fin cfg0.N) : (show Vec Ideal S768x1024 .bf16 from iblk m c 12 t) = (V m c main_v24 : Vec Ideal S768x1024 .bf16) := by
  funext j
  unfold iblk
  blk_simp
  blk_ext [ix_12]
theorem blk_13 (t : Fin cfg0.N) : (show Vec Ideal S512x1024 .bf16 from iblk m c 13 t) = (V m c main_v25 : Vec Ideal S512x1024 .bf16) := by
  funext j
  unfold iblk
  blk_simp
  blk_ext [ix_13]
theorem blk_14 (t : Fin cfg0.N) : (show Vec Ideal S1024x1024 .bf16 from iblk m c 14 t) = (V m c main_v26 : Vec Ideal S1024x1024 .bf16) := by
  funext j
  unfold iblk
  blk_simp
  blk_ext [ix_14]
theorem blk_15 (t : Fin cfg0.N) : (show Vec Ideal S4x128x128 .bf16 from iblk m c 15 t) = (V m c main_v18 : Vec Ideal S4x128x128 .bf16) := by
  funext j
  unfold iblk
  blk_simp
  blk_ext [ix_15]
theorem blk_16 (t : Fin cfg0.N) : (show Vec Ideal S4x128x128 .f32 from iblk m c 16 t) = (V m c main_v20 : Vec Ideal S4x128x128 .f32) := by
  funext j
  unfold iblk
  blk_simp
  blk_ext [ix_16]
theorem blk_17 (t : Fin cfg0.N) : (show Vec Ideal S1x512 .f32 from iblk m c 17 t) = (V m c main_v27 : Vec Ideal S1x512 .f32) := by
  funext j
  unfold iblk
  blk_simp
  blk_ext [ix_17]

/-- What point `t` leaves in its block of the result. -/
theorem outsAt_apply (t : Fin cfg0.N) (r : Fin 512) (d : Fin 1024) : (show Vec Ideal S512x1024 .f32 from outsAt0 m c t) (ix2 r d)
    = mergeArr (V m c main_arg0) (V m c main_v21) (V m c main_v1) (V m c main_v3) (V m c main_v5) (V m c main_v8) (V m c main_v11) (V m c main_v14) (V m c main_v22) (V m c main_v23) (V m c main_v24) (V m c main_v25) (V m c main_v26) (V m c main_v18) (V m c main_v20) (V m c main_v27) (ix2 (tok (pt t) r) d) := by
  refine (congrFun (out_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) (ix2 r d)).trans ?_
  refine (block_eq (V m c main_arg0) (V m c main_v21) (V m c main_v1) (V m c main_v3) (V m c main_v5) (V m c main_v8) (V m c main_v11) (V m c main_v14) (V m c main_v22) (iblk m c 11 t) (iblk m c 12 t) (iblk m c 13 t) (iblk m c 14 t) (iblk m c 15 t) (iblk m c 16 t) (iblk m c 17 t)  (iblk m c 0 t) (iblk m c 1 t) (iblk m c 2 t) (iblk m c 3 t) (iblk m c 4 t) (iblk m c 5 t) (iblk m c 6 t) (iblk m c 7 t) (iblk m c 8 t) (iblk m c 9 t) (iblk m c 10 t) (pt t) (blk_0 m c t) (blk_1 m c t) (blk_2 m c t) (blk_3 m c t) (blk_4 m c t) (blk_5 m c t) (blk_6 m c t) (blk_7 m c t) (blk_8 m c t) (blk_9 m c t) (blk_10 m c t) r d).trans ?_
  have key : ∀ (wa wa' : Vec Ideal S512x1024 .bf16) (wb wb' : Vec Ideal S768x1024 .bf16) (wc wc' : Vec Ideal S512x1024 .bf16) (wo wo' : Vec Ideal S1024x1024 .bf16)
      (ws ws' : Vec Ideal S4x128x128 .bf16) (bs bs' : Vec Ideal S4x128x128 .f32) (g g' : Vec Ideal S1x512 .f32),
      wa = wa' → wb = wb' → wc = wc' → wo = wo' → ws = ws' → bs = bs' → g = g' →
      mergeArr (V m c main_arg0) (V m c main_v21) (V m c main_v1) (V m c main_v3) (V m c main_v5) (V m c main_v8) (V m c main_v11) (V m c main_v14) (V m c main_v22) wa wb wc wo ws bs g = mergeArr (V m c main_arg0) (V m c main_v21) (V m c main_v1) (V m c main_v3) (V m c main_v5) (V m c main_v8) (V m c main_v11) (V m c main_v14) (V m c main_v22) wa' wb' wc' wo' ws' bs' g' := by
    intros; subst_vars; rfl
  exact congrFun (key _ _ _ _ _ _ _ _ _ _ _ _ _ _ (blk_11 m c t) (blk_12 m c t) (blk_13 m c t) (blk_14 m c t) (blk_15 m c t) (blk_16 m c t) (blk_17 m c t)) _

theorem merge_arr : (dats m 0 c).arrAt 18 cfg0.N
    = mergeArr (V m c main_arg0) (V m c main_v21) (V m c main_v1) (V m c main_v3) (V m c main_v5) (V m c main_v8) (V m c main_v11) (V m c main_v14) (V m c main_v22) (V m c main_v23) (V m c main_v24) (V m c main_v25) (V m c main_v26) (V m c main_v18) (V m c main_v20) (V m c main_v27) := by
  refine (dats m 0 c).arrAt_eq_of_covers 18 _ (by decide +kernel) fun t hf y => ?_
  obtain ⟨r, d, rfl⟩ : ∃ (r : Fin 512) (d : Fin 1024), y = ix2 r d := ⟨y 0, y 1, funext fun k => match k with | ⟨0, _⟩ => rfl | ⟨1, _⟩ => rfl⟩
  blk_simp
  rw [after0_18]
  refine (outsAt_apply m c t r d).trans (congrArg (mergeArr (V m c main_arg0) (V m c main_v21) (V m c main_v1) (V m c main_v3) (V m c main_v5) (V m c main_v8) (V m c main_v11) (V m c main_v14) (V m c main_v22) (V m c main_v23) (V m c main_v24) (V m c main_v25) (V m c main_v26) (V m c main_v18) (V m c main_v20) (V m c main_v27)) (funext fun k => match k with
    | ⟨0, _⟩ => Fin.ext ?_
    | ⟨1, _⟩ => Fin.ext ?_))
  · unfold tok pt
    blk_simp [ix_18]
    try rfl
  · blk_simp [ix_18]
    try rfl

end Cert.Kernel5Ideal.Merge

end
-- ==== Proof.Merge.MergeHost.lean ====
/-
  The arrays the host prepares for the merge, element by element, from the program's arguments.
-/
module

public import proofs.«01_k».proof.Proof.Merge.MergeValue
public import Idealize.ShloMosaic.Lib.StableHlo.RunRead

@[expose] public section

set_option maxRecDepth 16384

noncomputable section

namespace Cert.Kernel5Ideal.Merge

open Idealize.ShloMosaic Idealize.ShloMosaic.TcCoe Idealize.ShloMosaic.Tactic
open Idealize.ShloMosaic.Pipeline (Dat Cfg Window)
open Cert.Kernel5Ideal.Gen

variable (m : (ℓ : Loc nD τ sig) → Buf (Elt Ideal) ℓ) (c : Dev nD)

/-- The arguments. -/
abbrev arg0 : Vec Ideal S16384x1024 .f32 := m (c, Proc.devRef .tc main_arg0)
abbrev arg1 : Vec Ideal S16384x512 .f32 := m (c, Proc.devRef .tc main_arg1)
abbrev arg2 : Vec Ideal S16384x4x64 .f32 := m (c, Proc.devRef .tc main_arg2)
abbrev arg3 : Vec Ideal S16384x4x64 .f32 := m (c, Proc.devRef .tc main_arg3)
abbrev arg4 : Vec Ideal S16384x4x64 .f32 := m (c, Proc.devRef .tc main_arg4)
abbrev arg5 : Vec Ideal S16384x4 .f32 := m (c, Proc.devRef .tc main_arg5)
abbrev arg6 : Vec Ideal S16384x4 .f32 := m (c, Proc.devRef .tc main_arg6)
abbrev arg7 : Vec Ideal S16384x4 .f32 := m (c, Proc.devRef .tc main_arg7)
abbrev arg8 : Vec Ideal S16384x6144 .f32 := m (c, Proc.devRef .tc main_arg8)
abbrev arg9 : Vec Ideal S512 .f32 := m (c, Proc.devRef .tc main_arg9)
abbrev arg10 : Vec Ideal S4x128x128 .f32 := m (c, Proc.devRef .tc main_arg10)
abbrev arg11 : Vec Ideal S4x128 .f32 := m (c, Proc.devRef .tc main_arg11)
abbrev arg12 : Vec Ideal S512x1024 .f32 := m (c, Proc.devRef .tc main_arg12)
abbrev arg13 : Vec Ideal S768x1024 .f32 := m (c, Proc.devRef .tc main_arg13)
abbrev arg14 : Vec Ideal S512x1024 .f32 := m (c, Proc.devRef .tc main_arg14)
abbrev arg15 : Vec Ideal S1024x1024 .f32 := m (c, Proc.devRef .tc main_arg15)

/-- A token's row of four heads, flat. -/
def flat (O : Vec Ideal S16384x4x64 .f32) : Vec Ideal S16384x256 .bf16 := fun i =>
  have h : (i 1).val < 256 := (i 1).isLt
  O (ix3 (i 0) ⟨(i 1).val / 64, by omega⟩ ⟨(i 1).val % 64, by omega⟩)
/-- One number per head, repeated over the head's 64 features. -/
def spread (L : Vec Ideal S16384x4 .f32) : Vec Ideal S16384x256 .f32 := fun i =>
  have h : (i 1).val < 256 := (i 1).isLt
  L (ix2 (i 0) ⟨(i 1).val / 64, by omega⟩)

/-- The token mixing matrices with everything above the diagonal set to zero. -/
def causal (ws : Vec Ideal S4x128x128 .f32) : Vec Ideal S4x128x128 .f32 :=
  select (broadcastInDim S4x128x128 ![1, 2] bcast_S128x128_S4x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1)))) ws (broadcastInDim S4x128x128 ![] bcast_S_S4x128x128 (id (constant S_ .f32 0x00000000#32 : FVec Ideal S_ .f32)))

theorem V_v1 : V m c main_v1 = flat (arg2 m c) := by
  after_reads_simp
  funext i
  pointwise [flat]
theorem V_v8 : V m c main_v8 = spread (arg5 m c) := by
  after_reads_simp
  funext i
  pointwise [spread]
theorem V_v18 : V m c main_v18 = causal (arg10 m c) := by
  after_reads_simp
  simp -implicitDefEqProofs only [StableHlo.TRef.toBuf, StableHlo.TRef.ofBuf, cast_cast, cast_eq]
  rfl
theorem V_v20 : V m c main_v20 = fun i => arg11 m c (ix2 (i 0) (i 1)) := by
  after_reads_simp
  funext i
  pointwise
theorem V_v21 : V m c main_v21 = arg1 m c := by
  after_reads_simp
  rfl
theorem V_v27 : V m c main_v27 = fun i => arg9 m c (ix1 (i 1)) := by
  after_reads_simp
  funext i
  pointwise

theorem V_v3 : V m c main_v3 = flat (arg3 m c) := by
  after_reads_simp
  funext i
  pointwise [flat]
theorem V_v5 : V m c main_v5 = flat (arg4 m c) := by
  after_reads_simp
  funext i
  pointwise [flat]
theorem V_v11 : V m c main_v11 = spread (arg6 m c) := by
  after_reads_simp
  funext i
  pointwise [spread]
theorem V_v14 : V m c main_v14 = spread (arg7 m c) := by
  after_reads_simp
  funext i
  pointwise [spread]
theorem V_v22 : V m c main_v22 = arg8 m c := by
  after_reads_simp
  rfl
theorem V_v23 : V m c main_v23 = arg12 m c := by
  after_reads_simp
  rfl
theorem V_v24 : V m c main_v24 = arg13 m c := by
  after_reads_simp
  rfl
theorem V_v25 : V m c main_v25 = arg14 m c := by
  after_reads_simp
  rfl
theorem V_v26 : V m c main_v26 = arg15 m c := by
  after_reads_simp
  rfl

/-- What the program computes, of its arguments. -/
theorem merged_args : (dats m 0 c).arrAt 18 cfg0.N
    = mergeArr (arg0 m c) (arg1 m c) (flat (arg2 m c)) (flat (arg3 m c)) (flat (arg4 m c))
      (spread (arg5 m c)) (spread (arg6 m c)) (spread (arg7 m c)) (arg8 m c) (arg12 m c) (arg13 m c) (arg14 m c) (arg15 m c)
      (causal (arg10 m c)) (fun i => arg11 m c (ix2 (i 0) (i 1))) (fun i => arg9 m c (ix1 (i 1))) := by
  rw [merge_arr, V_v1, V_v3, V_v5, V_v8, V_v11, V_v14, V_v18, V_v20, V_v21, V_v22, V_v23, V_v24, V_v25, V_v26, V_v27,
    V_main_arg0]
  rfl

end Cert.Kernel5Ideal.Merge

end
-- ==== Proof.Merge.MergeRef.lean ====
/-
  The reference's merge, read element by element: its gates, the softmax over the three groups, the spatial gating.
-/
module

public import proofs.«01_k».proof.Proof.Gen.Reference5Ideal.Run
public import Idealize.ShloMosaic.Lib.Pointwise

@[expose] public section

set_option maxRecDepth 16384

noncomputable section

namespace Cert.Reference5Ideal.Merge

open Idealize.ShloMosaic Idealize.ShloMosaic.TcCoe Idealize.ShloMosaic.Tactic
open Cert.Reference5Ideal Cert.Reference5Ideal.Gen Cert.Reference5Ideal.Value

/-- The three gates of every token and feature: a logistic of the projection. -/
def gates (P : Vec Ideal S16384x6144 .f32) : FVec Ideal S16384x3x1024 .f32 :=
  Host.divf (broadcastInDim S16384x3x1024 ![] bcast_S_S16384x3x1024 (constant S_ .f32 0x3F800000#32)) (addf (broadcastInDim S16384x3x1024 ![] bcast_S_S16384x3x1024 (constant S_ .f32 0x3F800000#32)) (Host.exp (Host.negf (shapeCast _ (extractStridedSlice S16384x3072 ![0, 3072] P slices_S16384x6144_S16384x3072_0_3072) shapeCasts_S16384x3072_S16384x3x1024))))

theorem gates_apply (P : Vec Ideal S16384x6144 .f32) (t : Fin 16384) (e : Fin 3) (j : Fin 1024) : gates P (ix3 t e j) = Ideal.div 1 (1 + Ideal.exp (-(P (ix2 t ⟨3072 + (e.val * 1024 + j.val), by omega⟩)))) := by
  pointwise [gates]

/-- The three groups of log weights, stacked. -/
def stackL (L0 L1 L2 : Vec Ideal S16384x4 .f32) : FVec Ideal S3x16384x4 .f32 :=
  concatenate S3x16384x4 0 [⟨S1x16384x4, broadcastInDim S1x16384x4 ![1, 2] bcast_S16384x4_S1x16384x4_1_2 L0⟩, ⟨S1x16384x4, broadcastInDim S1x16384x4 ![1, 2] bcast_S16384x4_S1x16384x4_1_2 L1⟩, ⟨S1x16384x4, broadcastInDim S1x16384x4 ![1, 2] bcast_S16384x4_S1x16384x4_1_2 L2⟩] concatenates_S1x16384x4_S1x16384x4_S1x16384x4_S3x16384x4_d0

theorem stackL_apply (L0 L1 L2 : Vec Ideal S16384x4 .f32) (t : Fin 16384) (e : Fin 3) (h : Fin 4) : stackL L0 L1 L2 (ix3 e t h)
    = if e.val < 1 then L0 (ix2 t h) else if e.val - 1 < 1 then L1 (ix2 t h) else L2 (ix2 t h) := by
  pointwise [stackL]
  rfl

/-- Their exponentials, less the largest. -/
def expL (L0 L1 L2 : Vec Ideal S16384x4 .f32) : FVec Ideal S3x16384x4 .f32 :=
  Host.exp (subf (stackL L0 L1 L2) (broadcastInDim S3x16384x4 ![0, 1, 2] bcast_S1x16384x4_S3x16384x4_0_1_2 (broadcastInDim S1x16384x4 ![1, 2] bcast_S16384x4_S1x16384x4_1_2 (maximumf (broadcastInDim S16384x4 ![] bcast_S_S16384x4 (constant S_ .f32 0xFF800000#32)) (Host.reduce FloatOps.maximumf (stackL L0 L1 L2) (constant S_ .f32 0xFF800000#32) reducesTo_S3x16384x4_S16384x4_d0 h_S_)))))

/-- The word of the least value, below everything. -/
theorem least_eq : Ideal.ofBits .f32 0xFF800000#32 = (⊥ : EReal) := by
  simp [Ideal.ofBits, Ideal.ieee]

theorem expL_apply (L0 L1 L2 : Vec Ideal S16384x4 .f32) (t : Fin 16384) (e : Fin 3) (h : Fin 4) : expL L0 L1 L2 (ix3 e t h)
    = Ideal.exp (stackL L0 L1 L2 (ix3 e t h) - max (max (L0 (ix2 t h)) (L1 (ix2 t h))) (L2 (ix2 t h))) := by
  pointwise [expL]
  have hf : ∀ f : Fin 3 → EReal, max (Ideal.ofBits .f32 0xFF800000#32)
      (Finset.fold max (Ideal.ofBits .f32 0xFF800000#32) f Finset.univ) = max (max (f 0) (f 1)) (f 2) := by
    intro f
    have hu : (Finset.univ : Finset (Fin 3)) = {0, 1, 2} := rfl
    rw [least_eq, hu, Finset.fold_insert (by decide), Finset.fold_insert (by decide), Finset.fold_singleton]
    simp [max_assoc]
  rw [hf]
  simp only [stackL_apply]
  rfl

/-- The softmax over the three groups. -/
def softL (L0 L1 L2 : Vec Ideal S16384x4 .f32) : FVec Ideal S3x16384x4 .f32 :=
  Host.divf (expL L0 L1 L2) (broadcastInDim S3x16384x4 ![0, 1, 2] bcast_S1x16384x4_S3x16384x4_0_1_2 (broadcastInDim S1x16384x4 ![1, 2] bcast_S16384x4_S1x16384x4_1_2 (Host.reduceAdd (expL L0 L1 L2) (constant S_ .f32 0x00000000#32) reducesTo_S3x16384x4_S16384x4_d0 h_S_)))

/-- One of three numbers' softmax weight. -/
def softR (a b c x : EReal) : EReal :=
  Ideal.div (Ideal.exp (x - max (max a b) c))
    (Ideal.exp (a - max (max a b) c) + Ideal.exp (b - max (max a b) c) + Ideal.exp (c - max (max a b) c))

theorem softL_apply (L0 L1 L2 : Vec Ideal S16384x4 .f32) (t : Fin 16384) (e : Fin 3) (h : Fin 4) : softL L0 L1 L2 (ix3 e t h)
    = softR (L0 (ix2 t h)) (L1 (ix2 t h)) (L2 (ix2 t h)) (stackL L0 L1 L2 (ix3 e t h)) := by
  pointwise [softL]
  rw [Fin.sum_univ_three]
  simp only [expL_apply, softR, stackL_apply]
  rfl

/-- The three groups of attention results, stacked. -/
def stackO (O0 O1 O2 : Vec Ideal S16384x4x64 .f32) : FVec Ideal S3x16384x4x64 .f32 :=
  concatenate S3x16384x4x64 0 [⟨S1x16384x4x64, broadcastInDim S1x16384x4x64 ![1, 2, 3] bcast_S16384x4x64_S1x16384x4x64_1_2_3 O0⟩, ⟨S1x16384x4x64, broadcastInDim S1x16384x4x64 ![1, 2, 3] bcast_S16384x4x64_S1x16384x4x64_1_2_3 O1⟩, ⟨S1x16384x4x64, broadcastInDim S1x16384x4x64 ![1, 2, 3] bcast_S16384x4x64_S1x16384x4x64_1_2_3 O2⟩] concatenates_S1x16384x4x64_S1x16384x4x64_S1x16384x4x64_S3x16384x4x64_d0

theorem stackO_apply (O0 O1 O2 : Vec Ideal S16384x4x64 .f32) (t : Fin 16384) (e : Fin 3) (h : Fin 4) (d : Fin 64) : stackO O0 O1 O2 (ix4 e t h d)
    = if e.val < 1 then O0 (ix3 t h d) else if e.val - 1 < 1 then O1 (ix3 t h d) else O2 (ix3 t h d) := by
  pointwise [stackO]
  rfl

/-- The three groups of attention results, weighted and laid side by side. -/
def weighted (O0 O1 O2 : Vec Ideal S16384x4x64 .f32) (L0 L1 L2 : Vec Ideal S16384x4 .f32) : FVec Ideal S16384x768 .f32 :=
  shapeCast (α := EReal) S16384x768 (transpose S16384x3x4x64 [1, 0, 2, 3] (mulf (stackO O0 O1 O2) (broadcastInDim S3x16384x4x64 ![0, 1, 2, 3] bcast_S3x16384x4x1_S3x16384x4x64_0_1_2_3 (broadcastInDim S3x16384x4x1 ![0, 1, 2] bcast_S3x16384x4_S3x16384x4x1_0_1_2 (softL L0 L1 L2)))) transposes_S3x16384x4x64_S16384x3x4x64_1_0_2_3) shapeCasts_S16384x3x4x64_S16384x768

/-- Feature `q` of a group's attention result, times the group's weight for that feature's head. -/
def pick (O : Vec Ideal S16384x4x64 .f32) (L0 L1 L2 : Vec Ideal S16384x4 .f32) (L : Vec Ideal S16384x4 .f32) (t : Fin 16384) (q : Fin 256) : EReal :=
  (show EReal from O (ix3 t ⟨q.val / 64, by omega⟩ ⟨q.val % 64, by omega⟩)) * softR (L0 (ix2 t ⟨q.val / 64, by omega⟩))
    (L1 (ix2 t ⟨q.val / 64, by omega⟩)) (L2 (ix2 t ⟨q.val / 64, by omega⟩)) (L (ix2 t ⟨q.val / 64, by omega⟩))

theorem pick_of (O : Vec Ideal S16384x4x64 .f32) (L0 L1 L2 : Vec Ideal S16384x4 .f32) (L : Vec Ideal S16384x4 .f32) (t : Fin 16384) (q : Fin 256)
    (h : Fin 4) (d : Fin 64) (hh : h.val = q.val / 64) (hd : d.val = q.val % 64) :
    (show EReal from O (ix3 t h d)) * softR (L0 (ix2 t h)) (L1 (ix2 t h)) (L2 (ix2 t h)) (L (ix2 t h)) = pick O L0 L1 L2 L t q := by
  have e : h = ⟨q.val / 64, by omega⟩ := Fin.ext hh
  have e' : d = ⟨q.val % 64, by omega⟩ := Fin.ext hd
  rw [e, e']
  rfl

theorem weighted_at (O0 O1 O2 : Vec Ideal S16384x4x64 .f32) (L0 L1 L2 : Vec Ideal S16384x4 .f32) (t : Fin 16384) (k : Fin 768) : weighted O0 O1 O2 L0 L1 L2 (ix2 t k)
    = (show EReal from stackO O0 O1 O2 (ix4 ⟨k.val / 256, by omega⟩ t ⟨k.val / 64 % 4, by omega⟩ ⟨k.val % 64, by omega⟩))
      * softL L0 L1 L2 (ix3 ⟨k.val / 256, by omega⟩ t ⟨k.val / 64 % 4, by omega⟩) := by
  pointwise [weighted]

theorem weighted_apply (O0 O1 O2 : Vec Ideal S16384x4x64 .f32) (L0 L1 L2 : Vec Ideal S16384x4 .f32) (t : Fin 16384) (k : Fin 768) : weighted O0 O1 O2 L0 L1 L2 (ix2 t k)
    = if h : k.val < 256 then pick O0 L0 L1 L2 L0 t ⟨k.val, h⟩
      else if h' : k.val - 256 < 256 then pick O1 L0 L1 L2 L1 t ⟨k.val - 256, h'⟩
      else pick O2 L0 L1 L2 L2 t ⟨k.val - 256 - 256, by omega⟩ := by
  rw [weighted_at, softL_apply, stackL_apply, stackO_apply]
  show (if k.val / 256 < 1 then _ else if k.val / 256 - 1 < 1 then _ else _) * softR _ _ _ (if k.val / 256 < 1 then _ else if k.val / 256 - 1 < 1 then _ else _) = _
  by_cases h : k.val < 256
  · have h1 : k.val / 256 < 1 := by omega
    rw [if_pos h1, if_pos h1, dif_pos h]
    exact pick_of O0 L0 L1 L2 L0 t ⟨k.val, h⟩ ⟨k.val / 64 % 4, by omega⟩ ⟨k.val % 64, by omega⟩ (by show k.val / 64 % 4 = k.val / 64; omega) rfl
  · have h1 : ¬ k.val / 256 < 1 := by omega
    by_cases h' : k.val - 256 < 256
    · have h2 : k.val / 256 - 1 < 1 := by omega
      rw [if_neg h1, if_pos h2, if_neg h1, if_pos h2, dif_neg h, dif_pos h']
      exact pick_of O1 L0 L1 L2 L1 t ⟨k.val - 256, h'⟩ ⟨k.val / 64 % 4, by omega⟩ ⟨k.val % 64, by omega⟩
        (by show k.val / 64 % 4 = (k.val - 256) / 64; omega) (by show k.val % 64 = (k.val - 256) % 64; omega)
    · have h2 : ¬ k.val / 256 - 1 < 1 := by omega
      rw [if_neg h1, if_neg h2, if_neg h1, if_neg h2, dif_neg h, dif_neg h']
      exact pick_of O2 L0 L1 L2 L2 t ⟨k.val - 256 - 256, by omega⟩ ⟨k.val / 64 % 4, by omega⟩ ⟨k.val % 64, by omega⟩
        (by show k.val / 64 % 4 = (k.val - 256 - 256) / 64; omega) (by show k.val % 64 = (k.val - 256 - 256) % 64; omega)

/-- The projection columns that are gated. -/
def left (P : Vec Ideal S16384x6144 .f32) : FVec Ideal S16384x512 .f32 :=
  extractStridedSlice S16384x512 ![0, 2048] P slices_S16384x6144_S16384x512_0_2048

theorem left_apply (P : Vec Ideal S16384x6144 .f32) (t : Fin 16384) (n : Fin 512) :
    left P (ix2 t n) = P (ix2 t ⟨2048 + n.val, by omega⟩) := by
  pointwise [left]

/-- The projection columns that gate. -/
def right (P : Vec Ideal S16384x6144 .f32) : FVec Ideal S16384x512 .f32 :=
  extractStridedSlice S16384x512 ![0, 2560] P slices_S16384x6144_S16384x512_0_2560

/-- The activation. -/
def gelu (Y : Vec Ideal S16384x512 .f32) : FVec Ideal S16384x512 .f32 :=
  mulf Y (mulf (broadcastInDim S16384x512 ![] bcast_S_S16384x512 (constant S_ .f32 0x3F000000#32)) (addf (broadcastInDim S16384x512 ![] bcast_S_S16384x512 (constant S_ .f32 0x3F800000#32)) (Host.tanh (mulf (broadcastInDim S16384x512 ![] bcast_S_S16384x512 (constant S_ .f32 0x3F4C422A#32)) (addf Y (mulf (broadcastInDim S16384x512 ![] bcast_S_S16384x512 (constant S_ .f32 0x3D372713#32)) (mulf (mulf Y Y) Y)))))))

/-- The activation of one number. -/
def geluR (x : EReal) : EReal :=
  x * (Ideal.ofBits .f32 0x3F000000#32 * (1 + Ideal.tanh (Ideal.ofBits .f32 0x3F4C422A#32
    * (x + Ideal.ofBits .f32 0x3D372713#32 * (x * x * x)))))

theorem right_apply (P : Vec Ideal S16384x6144 .f32) (t : Fin 16384) (n : Fin 512) :
    right P (ix2 t n) = P (ix2 t ⟨2560 + n.val, by omega⟩) := by
  pointwise [right]

theorem gelu_apply (Y : Vec Ideal S16384x512 .f32) (t : Fin 16384) (n : Fin 512) : gelu Y (ix2 t n) = geluR (Y (ix2 t n)) := by
  pointwise [gelu, geluR]

/-- The token mixing matrices, lower triangle. -/
def causal (ws : Vec Ideal S4x128x128 .f32) : FVec Ideal S4x128x128 .f32 :=
  select (broadcastInDim S4x128x128 ![1, 2] bcast_S128x128_S4x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1)))) ws (broadcastInDim S4x128x128 ![] bcast_S_S4x128x128 (id (constant S_ .f32 0x00000000#32)))

/-- Each group of 128 features normalised, times the gain. -/
def normed (Y : Vec Ideal S16384x512 .f32) (g : Vec Ideal S512 .f32) : FVec Ideal S128x128x4x128 .f32 :=
  mulf (mulf (shapeCast (α := EReal) S128x128x4x128 Y shapeCasts_S16384x512_S128x128x4x128) (broadcastInDim S128x128x4x128 ![0, 1, 2, 3] bcast_S128x128x4x1_S128x128x4x128_0_1_2_3 (Host.rsqrt (addf (Host.divf (broadcastInDim S128x128x4x1 ![0, 1, 2] bcast_S128x128x4_S128x128x4x1_0_1_2 (Host.reduceAdd (mulf (shapeCast (α := EReal) S128x128x4x128 Y shapeCasts_S16384x512_S128x128x4x128) (shapeCast (α := EReal) S128x128x4x128 Y shapeCasts_S16384x512_S128x128x4x128)) (constant S_ .f32 0x00000000#32) reducesTo_S128x128x4x128_S128x128x4_d3 h_S_)) (broadcastInDim S128x128x4x1 ![] bcast_S_S128x128x4x1 (constant S_ .f32 0x43000000#32))) (broadcastInDim S128x128x4x1 ![] bcast_S_S128x128x4x1 (constant S_ .f32 0x358637BD#32)))))) (broadcastInDim S128x128x4x128 ![0, 1, 2, 3] bcast_S1x1x4x128_S128x128x4x128_0_1_2_3 (broadcastInDim S1x1x4x128 ![2, 3] bcast_S4x128_S1x1x4x128_2_3 (shapeCast (α := EReal) S4x128 g shapeCasts_S512_S4x128)))

/-- A row of 128 numbers over the root of its mean square, times the gain. -/
def normR (x g : Fin 128 → EReal) (q : Fin 128) : EReal :=
  x q * Ideal.rsqrt (Ideal.div (∑ k, x k * x k) (Ideal.ofBits .f32 0x43000000#32) + Ideal.ofBits .f32 0x358637BD#32) * g q

theorem normed_apply (Y : Vec Ideal S16384x512 .f32) (g : Vec Ideal S512 .f32) (b s : Fin 128) (h : Fin 4) (q : Fin 128) :
    normed Y g (ix4 b s h q) = normR (fun k => Y (ix2 ⟨b.val * 128 + s.val, by omega⟩ ⟨h.val * 128 + k.val, by omega⟩))
      (fun k => g (ix1 ⟨h.val * 128 + k.val, by omega⟩)) q := by
  pointwise [normed, normR]

/-- The mixing of the tokens of a chunk. -/
def mixed (P : Vec Ideal S16384x6144 .f32) (ws : Vec Ideal S4x128x128 .f32) (g : Vec Ideal S512 .f32) : FVec Ideal S4x128x128x128 .f32 :=
  Host.dotGeneral (φ₂ := .f32) dot_S128x128x4x128_S4x128x128_S4x128x128x128_1_2_03_1_2_0 none (normed (gelu (right P)) g) (causal ws)

theorem mixed_apply (P : Vec Ideal S16384x6144 .f32) (ws : Vec Ideal S4x128x128 .f32) (g : Vec Ideal S512 .f32)
    (h : Fin 4) (t b q : Fin 128) : mixed P ws g (ix4 h b q t)
      = ∑ x : Fin 128, normed (gelu (right P)) g (ix4 b x h q) * (show EReal from causal ws (ix3 h t x)) := by
  pointwise [mixed]

/-- The gated product. -/
def spatial (P : Vec Ideal S16384x6144 .f32) (ws : Vec Ideal S4x128x128 .f32) (bs : Vec Ideal S4x128 .f32) (g : Vec Ideal S512 .f32) : FVec Ideal S16384x512 .f32 :=
  shapeCast (α := EReal) S16384x512 (mulf (shapeCast (α := EReal) S128x128x4x128 (gelu (left P)) shapeCasts_S16384x512_S128x128x4x128) (addf (transpose S128x128x4x128 [1, 3, 0, 2] (mixed P ws g) transposes_S4x128x128x128_S128x128x4x128_1_3_0_2) (broadcastInDim S128x128x4x128 ![0, 1, 2, 3] bcast_S1x128x4x1_S128x128x4x128_0_1_2_3 (broadcastInDim S1x128x4x1 ![1, 2] bcast_S128x4_S1x128x4x1_1_2 (transpose S128x4 [1, 0] bs transposes_S4x128_S128x4_1_0))))) shapeCasts_S128x128x4x128_S16384x512

theorem spatial_apply (P : Vec Ideal S16384x6144 .f32) (ws : Vec Ideal S4x128x128 .f32) (bs : Vec Ideal S4x128 .f32)
    (g : Vec Ideal S512 .f32) (t : Fin 16384) (n : Fin 512) : spatial P ws bs g (ix2 t n)
      = geluR (P (ix2 t ⟨2048 + n.val, by omega⟩))
        * ((∑ x : Fin 128, normR (fun k => geluR (P (ix2 ⟨t.val / 128 * 128 + x.val, by omega⟩ ⟨2560 + (n.val / 128 * 128 + k.val), by omega⟩)))
              (fun k => g (ix1 ⟨n.val / 128 * 128 + k.val, by omega⟩)) ⟨n.val % 128, by omega⟩
            * (show EReal from causal ws (ix3 ⟨n.val / 128, by omega⟩ ⟨t.val % 128, by omega⟩ x)))
          + bs (ix2 ⟨n.val / 128, by omega⟩ ⟨t.val % 128, by omega⟩)) := by
  pointwise [spatial]
  simp only [gelu_apply, left_apply, mixed_apply, normed_apply, right_apply]

/-- The whole result, of the arguments. -/
def whole (X : Vec Ideal S16384x1024 .f32) (Ya : Vec Ideal S16384x512 .f32) (O0 O1 O2 : Vec Ideal S16384x4x64 .f32)
    (L0 L1 L2 : Vec Ideal S16384x4 .f32) (P : Vec Ideal S16384x6144 .f32) (g : Vec Ideal S512 .f32)
    (ws : Vec Ideal S4x128x128 .f32) (bs : Vec Ideal S4x128 .f32) (wa : Vec Ideal S512x1024 .f32)
    (wb : Vec Ideal S768x1024 .f32) (wc : Vec Ideal S512x1024 .f32) (wo : Vec Ideal S1024x1024 .f32) : FVec Ideal S16384x1024 .f32 :=
  addf X (Host.dotGeneral (φ₁ := .f32) (φ₂ := .f32) dot_S16384x1024_S1024x1024_S16384x1024_1_0_0_1_n_n none (addf (addf (mulf (shapeCast (α := EReal) S16384x1024 (extractStridedSlice S16384x1x1024 ![0, 0, 0] (gates P) slices_S16384x3x1024_S16384x1x1024_0_0_0) shapeCasts_S16384x1x1024_S16384x1024) (Host.dotGeneral (φ₁ := .f32) (φ₂ := .f32) dot_S16384x512_S512x1024_S16384x1024_1_0_0_1_n_n none Ya wa)) (mulf (shapeCast (α := EReal) S16384x1024 (extractStridedSlice S16384x1x1024 ![0, 1, 0] (gates P) slices_S16384x3x1024_S16384x1x1024_0_1_0) shapeCasts_S16384x1x1024_S16384x1024) (Host.dotGeneral (φ₁ := .f32) (φ₂ := .f32) dot_S16384x768_S768x1024_S16384x1024_1_0_0_1_n_n none (weighted O0 O1 O2 L0 L1 L2) wb))) (mulf (shapeCast (α := EReal) S16384x1024 (extractStridedSlice S16384x1x1024 ![0, 2, 0] (gates P) slices_S16384x3x1024_S16384x1x1024_0_2_0) shapeCasts_S16384x1x1024_S16384x1024) (Host.dotGeneral (φ₁ := .f32) (φ₂ := .f32) dot_S16384x512_S512x1024_S16384x1024_1_0_0_1_n_n none (spatial P ws bs g) wc))) wo)

theorem whole_apply (X : Vec Ideal S16384x1024 .f32) (Ya : Vec Ideal S16384x512 .f32) (O0 O1 O2 : Vec Ideal S16384x4x64 .f32)
    (L0 L1 L2 : Vec Ideal S16384x4 .f32) (P : Vec Ideal S16384x6144 .f32) (g : Vec Ideal S512 .f32)
    (ws : Vec Ideal S4x128x128 .f32) (bs : Vec Ideal S4x128 .f32) (wa : Vec Ideal S512x1024 .f32)
    (wb : Vec Ideal S768x1024 .f32) (wc : Vec Ideal S512x1024 .f32) (wo : Vec Ideal S1024x1024 .f32) (t : Fin 16384) (n : Fin 1024) :
    whole X Ya O0 O1 O2 L0 L1 L2 P g ws bs wa wb wc wo (ix2 t n)
      = (show EReal from X (ix2 t n)) + ∑ j : Fin 1024,
        (gates P (ix3 t 0 j) * (∑ k : Fin 512, (show EReal from Ya (ix2 t k)) * (show EReal from wa (ix2 k j)))
          + gates P (ix3 t 1 j) * (∑ k : Fin 768, weighted O0 O1 O2 L0 L1 L2 (ix2 t k) * (show EReal from wb (ix2 k j)))
          + gates P (ix3 t 2 j) * (∑ k : Fin 512, spatial P ws bs g (ix2 t k) * (show EReal from wc (ix2 k j))))
          * (show EReal from wo (ix2 j n)) := by
  pointwise [whole]

variable (m : (ℓ : Loc nD τ sig) → Buf (Elt Ideal) ℓ) (c : Dev nD)

theorem result_eq : res_main_v102 m c = whole (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10))
    (m ((c.tc : Thread nD τ).loc main_arg11)) (m ((c.tc : Thread nD τ).loc main_arg12)) (m ((c.tc : Thread nD τ).loc main_arg13))
    (m ((c.tc : Thread nD τ).loc main_arg14)) (m ((c.tc : Thread nD τ).loc main_arg15)) := rfl

end Cert.Reference5Ideal.Merge

end
-- ==== Proof.Merge.MergeAlgebra.lean ====
/-
  The two forms of the merge's scalar functions, equal on finite numbers: the activation, the gate, the softmax.
-/
module

public import proofs.«01_k».proof.Proof.Merge.MergeArr
public import proofs.«01_k».proof.Proof.Experts.ExpertsAlgebraic

@[expose] public section

noncomputable section

namespace Cert.Proof

open Idealize.ShloMosaic
open Cert.Kernel5Ideal.Merge (geluK gate2 softK)

theorem one_eq : Ideal.ofBits .f32 0x3F800000#32 = ((1 : ℝ) : EReal) := by
  simp [Ideal.ofBits, Ideal.ieee, -EReal.coe_mul]; norm_num
theorem slope_eq : Ideal.ofBits .f32 0x3F4C422A#32 = ((6693141 / 8388608 : ℝ) : EReal) := by
  simp [Ideal.ofBits, Ideal.ieee, -EReal.coe_mul]; norm_num
theorem cubic_eq : Ideal.ofBits .f32 0x3D372713#32 = ((12003091 / 268435456 : ℝ) : EReal) := by
  simp [Ideal.ofBits, Ideal.ieee, -EReal.coe_mul]; norm_num
/-- The product of the two words before it. -/
theorem named_eq : Named.named (F := Ideal) (φ := .f32) Cert.Kernel5Ideal.κ "gelu_cubic" 0x3D122279#32 = ((80338380498831 / 2251799813685248 : ℝ) : EReal) :=
  IdealRules.named_const.ideal_named_scalar _ _ _ _ rfl

/-- The activation as the reference writes it. -/
theorem geluK_eq (x : EReal) (hx : x ≠ ⊤ ∧ x ≠ ⊥) : geluK x
    = x * (Ideal.ofBits .f32 0x3F000000#32 * (1 + Ideal.tanh (Ideal.ofBits .f32 0x3F4C422A#32
      * (x + Ideal.ofBits .f32 0x3D372713#32 * (x * x * x))))) := by
  lift x to ℝ using hx
  unfold geluK
  rw [half_eq, slope_eq, cubic_eq, named_eq, ← EReal.coe_one]
  simp only [← EReal.coe_mul, ← EReal.coe_add, Ideal.tanh_coe]
  congr 1
  have e : x * (6693141 / 8388608 + 80338380498831 / 2251799813685248 * (x * x))
      = 6693141 / 8388608 * (x + 12003091 / 268435456 * (x * x * x)) := by ring
  rw [e]; ring

/-- Half of the kernel's gate is the logistic function. -/
theorem gate_eq (x : EReal) (hx : x ≠ ⊤ ∧ x ≠ ⊥) : Ideal.ofBits .f32 0x3F000000#32 * gate2 x = Ideal.div 1 (1 + Ideal.exp (-x)) := by
  lift x to ℝ using hx
  have hp : 1 + Real.exp (-x) ≠ 0 := (by positivity : (0 : ℝ) < 1 + Real.exp (-x)).ne'
  unfold gate2
  rw [half_eq, one_eq, ← EReal.coe_one, ← EReal.coe_neg, Ideal.exp_coe, ← EReal.coe_add, Ideal.div_coe hp]
  simp only [← EReal.coe_mul, ← EReal.coe_add, Ideal.tanh_coe]
  congr 1
  rw [one_mul, one_div (1 + Real.exp (-x))]
  by_cases h0 : x = 0
  · subst h0; norm_num
  · have h := half_tanh x
    have h2 : x * (1 / 2 * (Real.tanh (1 / 2 * x) + 1)) = x * (1 + Real.exp (-x))⁻¹ := by rw [← h]; ring
    exact mul_left_cancel₀ h0 h2

/-- One of three finite numbers' softmax weight, as the reference writes it. -/
theorem softK_eq (a b c x : EReal) (ha : a ≠ ⊤ ∧ a ≠ ⊥) (hb : b ≠ ⊤ ∧ b ≠ ⊥) (hc : c ≠ ⊤ ∧ c ≠ ⊥) (hx : x ≠ ⊤ ∧ x ≠ ⊥) :
    softK a b c x = Ideal.div (Ideal.exp (x - max (max a b) c))
      (Ideal.exp (a - max (max a b) c) + Ideal.exp (b - max (max a b) c) + Ideal.exp (c - max (max a b) c)) := by
  lift a to ℝ using ha
  lift b to ℝ using hb
  lift c to ℝ using hc
  lift x to ℝ using hx
  have hm : max (max (a : EReal) b) c = ((max (max a b) c : ℝ) : EReal) := by
    rw [EReal.coe_strictMono.monotone.map_max, EReal.coe_strictMono.monotone.map_max]
  unfold softK
  rw [hm, one_eq]
  simp only [← EReal.coe_sub, Ideal.exp_coe, ← EReal.coe_add]
  have hp : Real.exp (a - max (max a b) c) + Real.exp (b - max (max a b) c) + Real.exp (c - max (max a b) c) ≠ 0 :=
    (by positivity : (0 : ℝ) < _).ne'
  rw [Ideal.div_coe hp, Ideal.div_coe hp, EReal.coe_one, one_mul]

/-- Half of a sum of products. -/
theorem half_sum {n : ℕ} (f g : Fin n → EReal) :
    Ideal.ofBits .f32 0x3F000000#32 * (∑ j, f j * g j) = ∑ j, (Ideal.ofBits .f32 0x3F000000#32 * f j) * g j := by
  rw [half_eq]
  have h : ∀ t : Finset (Fin n), ((1 / 2 : ℝ) : EReal) * (∑ j ∈ t, f j * g j) = ∑ j ∈ t, ((1 / 2 : ℝ) : EReal) * f j * g j := fun t => by
    induction t using Finset.induction_on with
    | empty => simp
    | insert a t ha ih =>
      rw [Finset.sum_insert ha, Finset.sum_insert ha,
        EReal.left_distrib_of_nonneg_of_ne_top (by norm_num) (EReal.coe_ne_top _), ih, mul_assoc]
  exact h _

/-- Half of three gated terms. -/
theorem half_three (a b c x y z : EReal) :
    Ideal.ofBits .f32 0x3F000000#32 * (a * x + b * y + c * z)
      = Ideal.ofBits .f32 0x3F000000#32 * a * x + Ideal.ofBits .f32 0x3F000000#32 * b * y + Ideal.ofBits .f32 0x3F000000#32 * c * z := by
  have h0 : (0 : EReal) ≤ ((1 / 2 : ℝ) : EReal) := by exact_mod_cast (by norm_num : (0 : ℝ) ≤ 1 / 2)
  rw [half_eq, EReal.left_distrib_of_nonneg_of_ne_top h0 (EReal.coe_ne_top _),
    EReal.left_distrib_of_nonneg_of_ne_top h0 (EReal.coe_ne_top _), mul_assoc, mul_assoc, mul_assoc]

end Cert.Proof

end
-- ==== Proof.Merge.MergeSame.lean ====
/-
  The kernel's merge and the reference's are one function of the arguments where the projection and the log weights are
  finite.
-/
module

public import proofs.«01_k».proof.Proof.Merge.MergeHost
public import proofs.«01_k».proof.Proof.Merge.MergeRef
public import proofs.«01_k».proof.Proof.Merge.MergeAlgebra

@[expose] public section

set_option maxRecDepth 16384

noncomputable section

namespace Cert.Proof

open Idealize.ShloMosaic
open Cert.Kernel5Ideal (S16384x1024 S16384x512 S16384x4x64 S16384x4 S16384x6144 S512 S4x128x128 S4x128 S512x1024 S768x1024 S1024x1024)
open Cert.Kernel5Ideal.Merge (geluK gate2 softK normGelu sideBySide gatedAt mergedAt mergeArr flat spread causal)
open Cert.Reference5Ideal.Merge (geluR normR softR pick gates weighted spatial whole)

/-- Every element is finite. -/
def AllFinite {s : Shape} (A : Vec Ideal s .f32) : Prop := ∀ j, (A j : EReal) ≠ ⊤ ∧ (A j : EReal) ≠ ⊥

theorem gelu_same (x : EReal) (hx : x ≠ ⊤ ∧ x ≠ ⊥) : geluK x = geluR x := geluK_eq x hx

theorem soft_same (a b c x : EReal) (ha : a ≠ ⊤ ∧ a ≠ ⊥) (hb : b ≠ ⊤ ∧ b ≠ ⊥) (hc : c ≠ ⊤ ∧ c ≠ ⊥) (hx : x ≠ ⊤ ∧ x ≠ ⊥) :
    softK a b c x = softR a b c x := softK_eq a b c x ha hb hc hx

theorem norm_same (x g : Fin 128 → EReal) (q : Fin 128) (hx : ∀ k, x k ≠ ⊤ ∧ x k ≠ ⊥) :
    normGelu x g q = normR (fun k => geluR (x k)) g q := by
  unfold normGelu normR
  rw [gelu_same _ (hx q), Finset.sum_congr rfl fun k _ => by rw [gelu_same _ (hx k)]]

variable (P : Vec Ideal S16384x6144 .f32) (hP : AllFinite P)
include hP

/-- One gate: column `c` of the projection. -/
theorem gate_same (t : Fin 16384) (e : Fin 3) (j : Fin 1024) (c : Fin 6144) (hc : c.val = 3072 + (e.val * 1024 + j.val)) :
    Ideal.ofBits .f32 0x3F000000#32 * gate2 (P (ix2 t c)) = gates P (ix3 t e j) := by
  have e' : c = ⟨3072 + (e.val * 1024 + j.val), by omega⟩ := Fin.ext hc
  rw [e', Cert.Reference5Ideal.Merge.gates_apply, gate_eq _ (hP _)]

/-- One gated feature. -/
theorem spatial_same (ws : Vec Ideal S4x128x128 .f32) (bs : Vec Ideal S4x128 .f32) (g : Vec Ideal S512 .f32) (t : Fin 16384) (n : Fin 512) :
    gatedAt P (causal ws) (fun i => bs (ix2 (i 0) (i 1))) (fun i => g (ix1 (i 1))) t n = spatial P ws bs g (ix2 t n) := by
  rw [Cert.Reference5Ideal.Merge.spatial_apply]
  unfold gatedAt
  rw [gelu_same _ (hP _)]
  refine congrArg (fun z => _ * (z + _)) (Finset.sum_congr rfl fun s _ => ?_)
  rw [norm_same _ _ _ (fun k => hP _)]
  exact mul_comm _ _

omit hP in
/-- One weighted feature. -/
theorem weighted_same (O0 O1 O2 : Vec Ideal S16384x4x64 .f32) (L0 L1 L2 : Vec Ideal S16384x4 .f32) (h0 : AllFinite L0) (h1 : AllFinite L1) (h2 : AllFinite L2)
    (t : Fin 16384) (k : Fin 768) :
    sideBySide (fun q => spread L0 (ix2 t q)) (fun q => spread L1 (ix2 t q)) (fun q => spread L2 (ix2 t q))
      (fun q => flat O0 (ix2 t q)) (fun q => flat O1 (ix2 t q)) (fun q => flat O2 (ix2 t q)) k = weighted O0 O1 O2 L0 L1 L2 (ix2 t k) := by
  rw [Cert.Reference5Ideal.Merge.weighted_apply]
  unfold sideBySide
  split_ifs with h h'
  · exact congrArg (fun z => _ * z) (soft_same _ _ _ _ (h0 _) (h1 _) (h2 _) (h0 _))
  · exact congrArg (fun z => _ * z) (soft_same _ _ _ _ (h0 _) (h1 _) (h2 _) (h1 _))
  · exact congrArg (fun z => _ * z) (soft_same _ _ _ _ (h0 _) (h1 _) (h2 _) (h2 _))

/-- The three gated products of token `t` at feature `j`, halved. -/
theorem merged_same (Ya : Vec Ideal S16384x512 .f32) (O0 O1 O2 : Vec Ideal S16384x4x64 .f32)
    (L0 L1 L2 : Vec Ideal S16384x4 .f32) (g : Vec Ideal S512 .f32)
    (ws : Vec Ideal S4x128x128 .f32) (bs : Vec Ideal S4x128 .f32) (wa : Vec Ideal S512x1024 .f32)
    (wb : Vec Ideal S768x1024 .f32) (wc : Vec Ideal S512x1024 .f32) (h0 : AllFinite L0) (h1 : AllFinite L1) (h2 : AllFinite L2) (t : Fin 16384) (j : Fin 1024) :
    Ideal.ofBits .f32 0x3F000000#32 * mergedAt Ya (flat O0) (flat O1) (flat O2) (spread L0) (spread L1) (spread L2) P wa wb wc
        (causal ws) (fun i => bs (ix2 (i 0) (i 1))) (fun i => g (ix1 (i 1))) t j
      = gates P (ix3 t 0 j) * (∑ k : Fin 512, (show EReal from Ya (ix2 t k)) * (show EReal from wa (ix2 k j)))
          + gates P (ix3 t 1 j) * (∑ k : Fin 768, weighted O0 O1 O2 L0 L1 L2 (ix2 t k) * (show EReal from wb (ix2 k j)))
          + gates P (ix3 t 2 j) * (∑ k : Fin 512, spatial P ws bs g (ix2 t k) * (show EReal from wc (ix2 k j))) := by
  unfold mergedAt
  rw [half_three]
  rw [gate_same P hP t 0 j _ (by simp), gate_same P hP t 1 j _ (by simp; omega), gate_same P hP t 2 j _ (by simp; omega)]
  refine congrArg₂ (fun z w => _ + _ * z + _ * w) (Finset.sum_congr rfl fun k _ => congrArg (fun z => z * _) ?_)
    (Finset.sum_congr rfl fun k _ => congrArg (fun z => z * _) ?_)
  · exact weighted_same O0 O1 O2 L0 L1 L2 h0 h1 h2 t k
  · exact spatial_same P hP ws bs g t k

/-- The whole result. -/
theorem merge_same (X : Vec Ideal S16384x1024 .f32) (Ya : Vec Ideal S16384x512 .f32) (O0 O1 O2 : Vec Ideal S16384x4x64 .f32)
    (L0 L1 L2 : Vec Ideal S16384x4 .f32) (g : Vec Ideal S512 .f32)
    (ws : Vec Ideal S4x128x128 .f32) (bs : Vec Ideal S4x128 .f32) (wa : Vec Ideal S512x1024 .f32)
    (wb : Vec Ideal S768x1024 .f32) (wc : Vec Ideal S512x1024 .f32) (wo : Vec Ideal S1024x1024 .f32)
    (h0 : AllFinite L0) (h1 : AllFinite L1) (h2 : AllFinite L2) :
    mergeArr X Ya (flat O0) (flat O1) (flat O2) (spread L0) (spread L1) (spread L2) P wa wb wc wo
        (causal ws) (fun i => bs (ix2 (i 0) (i 1))) (fun i => g (ix1 (i 1)))
      = whole X Ya O0 O1 O2 L0 L1 L2 P g ws bs wa wb wc wo := by
  funext i
  obtain ⟨t, n, rfl⟩ : ∃ (t : Fin 16384) (n : Fin 1024), i = ix2 t n := ⟨i 0, i 1, funext fun k => match k with | ⟨0, _⟩ => rfl | ⟨1, _⟩ => rfl⟩
  rw [Cert.Reference5Ideal.Merge.whole_apply]
  unfold mergeArr
  refine congrArg (fun z => _ + z) ?_
  refine (half_sum _ _).trans (Finset.sum_congr rfl fun j _ => congrArg (fun z => z * _) ?_)
  exact merged_same P hP Ya O0 O1 O2 L0 L1 L2 g ws bs wa wb wc h0 h1 h2 t j

end Cert.Proof

end
-- ==== Proof.Merge.MergeClaims.lean ====
/-
  The merge's claims: the frames, the named constant, and the value where the precondition holds.
-/
module

public import proofs.«01_k».proof.Defs
public import proofs.«01_k».proof.Proof.Merge.MergeSame
public import proofs.«01_k».proof.Proof.Gen.Kernel5.Frame
public import proofs.«01_k».proof.Proof.Gen.Pre_merge_finite
public import Idealize.ShloMosaic.Lib.Quiescent

@[expose] public section

noncomputable section

namespace Cert.Proof.Merge

open Idealize.ShloMosaic Idealize.ShloMosaic.TcCoe Idealize.SL.Sem
open Cert.Reference5Ideal.Merge (whole)

theorem frame_kernel : Cert.quiescent_Kernel5 := fun m ρ _ => Cert.Kernel5.Gen.frame m ρ

theorem frame_ideal : Cert.quiescent_Kernel5Ideal := fun m ρ _ => Cert.Kernel5Ideal.Gen.frame m ρ

theorem frame_ideal_finite : Cert.quiescent_Kernel5Ideal_pre_merge_finite (hPre_merge_finite := Cert.Pre_merge_finite.Gen.facts) :=
  fun m ρ _ => Cert.Kernel5Ideal.Gen.frame m ρ

theorem frame_reference : Cert.quiescent_Reference5Ideal := fun m ρ _ =>
  (θ_run Cert.Reference5Ideal.defs _ _).mono (fun r h => ⟨fun c => (h c).2,
    Idealize.ShloMosaic.sem_eq_zero_of_no_sems (by decide) r.2⟩) (Cert.Reference5Ideal.Value.run (F := Ideal) m ρ)

theorem frame_reference_finite : Cert.quiescent_Reference5Ideal_pre_merge_finite (hPre_merge_finite := Cert.Pre_merge_finite.Gen.facts) :=
  fun m ρ _ => frame_reference m ρ trivial

theorem preserves : Cert.preserves_Kernel5_Kernel5Ideal :=
  IdealRules.named_const.statement Cert.Kernel5Ideal.κ "gelu_cubic" .f32 0x3D122279#32 ((80338380498831 / 2251799813685248 : ℝ) : EReal) rfl

/-- The log weights and the projection are finite. -/
theorem finite_of_merge (x0 x1 x2 x3 x4) (x5 x6 x7 : FVec Ideal ⟨2, ![16384, 4]⟩ .f32) (x8 : FVec Ideal ⟨2, ![16384, 6144]⟩ .f32)
    (x9 x10 x11 x12 x13 x14 x15)
    (h : Cert.Pre_merge_finite.fn (F := Ideal) x0 x1 x2 x3 x4 x5 x6 x7 x8 x9 x10 x11 x12 x13 x14 x15 = fun _ => 1#1) :
    ((AllFinite x5 ∧ AllFinite x6) ∧ AllFinite x7) ∧ AllFinite x8 := by
  have h := congrFun h (fun k => k.elim0)
  obtain ⟨h, h8⟩ := IntOp.andi_eq_one.mp h
  obtain ⟨h, h7⟩ := IntOp.andi_eq_one.mp h
  obtain ⟨h5, h6⟩ := IntOp.andi_eq_one.mp h
  exact ⟨⟨⟨fun j => finite_of_abs _ (Host.reduce_andi_all _ _ _ _ _ h5 j), fun j => finite_of_abs _ (Host.reduce_andi_all _ _ _ _ _ h6 j)⟩,
    fun j => finite_of_abs _ (Host.reduce_andi_all _ _ _ _ _ h7 j)⟩, fun j => finite_of_abs _ (Host.reduce_andi_all _ _ _ _ _ h8 j)⟩

/-- The result, of the arguments. -/
def result (m : (ℓ : Loc Cert.Kernel5Ideal.nD Cert.Kernel5Ideal.τ Cert.Kernel5Ideal.sig) → Buf (Elt Ideal) ℓ) (c : Dev Cert.Kernel5Ideal.nD) : FVec Ideal Cert.Kernel5Ideal.S16384x1024 .f32 :=
  whole (Cert.Kernel5Ideal.Merge.arg0 m c) (Cert.Kernel5Ideal.Merge.arg1 m c) (Cert.Kernel5Ideal.Merge.arg2 m c) (Cert.Kernel5Ideal.Merge.arg3 m c) (Cert.Kernel5Ideal.Merge.arg4 m c) (Cert.Kernel5Ideal.Merge.arg5 m c) (Cert.Kernel5Ideal.Merge.arg6 m c) (Cert.Kernel5Ideal.Merge.arg7 m c) (Cert.Kernel5Ideal.Merge.arg8 m c) (Cert.Kernel5Ideal.Merge.arg9 m c) (Cert.Kernel5Ideal.Merge.arg10 m c) (Cert.Kernel5Ideal.Merge.arg11 m c) (Cert.Kernel5Ideal.Merge.arg12 m c) (Cert.Kernel5Ideal.Merge.arg13 m c) (Cert.Kernel5Ideal.Merge.arg14 m c) (Cert.Kernel5Ideal.Merge.arg15 m c)

theorem algebraic : Cert.algebraic_Kernel5Ideal_Reference5Ideal_pre_merge_finite (hKernel5Ideal := Cert.Kernel5Ideal.Gen.facts)
    (hReference5Ideal := Cert.Reference5Ideal.Gen.facts) (hPre_merge_finite := Cert.Pre_merge_finite.Gen.facts) := by
  intro m g m' g' hpre hagree
  refine ⟨fun c => result m c, ?_, ?_⟩
  · refine (θ_run Cert.Kernel5Ideal.defs _ _).mono (fun r h c => ⟨(h c).1.trans ?_, (h c).2⟩) (Cert.Kernel5Ideal.Value.run_blocks (F := Ideal) m g)
    obtain ⟨⟨⟨h5, h6⟩, h7⟩, h8⟩ := finite_of_merge _ _ _ _ _ _ _ _ _ _ _ _ _ _ _ _ (hpre c)
    refine (Cert.Kernel5Ideal.Merge.merged_args m c).trans ?_
    exact merge_same _ h8 _ _ _ _ _ _ _ _ _ _ _ _ _ _ _ h5 h6 h7
  · refine (θ_run Cert.Reference5Ideal.defs _ _).mono (fun r h c => ⟨(h c).1.trans ?_, (h c).2⟩) (Cert.Reference5Ideal.Value.run m' g')
    obtain ⟨h0, h1, h2, h3, h4, h5, h6, h7, h8, h9, h10, h11, h12, h13, h14, h15⟩ := hagree c
    rw [Cert.Reference5Ideal.Merge.result_eq, h0, h1, h2, h3, h4, h5, h6, h7, h8, h9, h10, h11, h12, h13, h14, h15]
    rfl

end Cert.Proof.Merge

end
-- ==== Proof.lean ====
/-
  The certificate: the frames and what the programs compute, assembled.
-/
module

public import proofs.«01_k».proof.Defs
public import proofs.«01_k».proof.Proof.Frames
public import proofs.«01_k».proof.Proof.Algebraic
public import proofs.«01_k».proof.Proof.Experts.ExpertsFrames
public import proofs.«01_k».proof.Proof.Experts.ExpertsAlgebraic
public import proofs.«01_k».proof.Proof.SecondExperts.SecondFrames
public import proofs.«01_k».proof.Proof.SecondExperts.SecondAlgebraic
public import proofs.«01_k».proof.Proof.SecondProjection.SecondFrames
public import proofs.«01_k».proof.Proof.SecondProjection.SecondAlgebraic
public import proofs.«01_k».proof.Proof.Merge.MergeClaims

@[expose] public section

noncomputable section

namespace Cert.Proof

theorem claim : Cert.Claim := ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3Ideal.Gen.facts, Cert.Reference3Ideal.Gen.facts,
    Cert.Kernel4Ideal.Gen.facts, Cert.Reference4Ideal.Gen.facts,
    Cert.Kernel5Ideal.Gen.facts, Cert.Reference5Ideal.Gen.facts, Cert.Kernel5.Gen.facts,
    Cert.Pre_tiles_in_range.Gen.facts, Cert.Pre_inputs_in_range.Gen.facts, Cert.Pre_merge_finite.Gen.facts,
    frame_kernel, frame_ideal, frame_reference,
    frame_kernel2, frame_ideal2, frame_ideal2_inputs, frame_reference2, frame_reference2_inputs,
    Second.frame_ideal3, Second.frame_ideal3_inputs, Second.frame_reference3, Second.frame_reference3_inputs,
    SecondProjection.frame_ideal, SecondProjection.frame_reference,
    Merge.frame_ideal, Merge.frame_ideal_finite, Merge.frame_reference, Merge.frame_reference_finite, Merge.frame_kernel,
    trivial, algebraic, trivial, algebraic2, Second.algebraic3,
    SecondProjection.algebraic, Merge.preserves, Merge.algebraic⟩

end Cert.Proof

end
